-- ==== Defs.lean ====
def Pre_Kernel [hPre_in_rows : Cert.Pre_in_rows.Facts] (m : (ℓ : Loc Cert.Kernel.nD Cert.Kernel.τ Cert.Kernel.sig) → Buf (Elt Bits) ℓ) : Prop :=
  ∀ c : Dev Cert.Kernel.nD,
    (Cert.Pre_in_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_in_rows : Cert.Pre_in_rows.Facts] (m : (ℓ : Loc Cert.KernelIdeal.nD Cert.KernelIdeal.τ Cert.KernelIdeal.sig) → Buf (Elt Ideal) ℓ) : Prop :=
  ∀ c : Dev Cert.KernelIdeal.nD,
    (Cert.Pre_in_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_in_rows : Cert.Pre_in_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def Pre_WholeIdeal (m : (ℓ : Loc Cert.WholeIdeal.nD Cert.WholeIdeal.τ Cert.WholeIdeal.sig) → Buf (Elt Ideal) ℓ) : Prop :=
  True

def Pre_WholeIdeal_finite [hPre_finite : Cert.Pre_finite.Facts] (m : (ℓ : Loc Cert.WholeIdeal.nD Cert.WholeIdeal.τ Cert.WholeIdeal.sig) → Buf (Elt Ideal) ℓ) : Prop :=
  ∀ c : Dev Cert.WholeIdeal.nD,
    (Cert.Pre_finite.fn (F := Ideal) (m ((c.tc : Thread Cert.WholeIdeal.nD Cert.WholeIdeal.τ).loc Cert.WholeIdeal.main_arg0)) (m ((c.tc : Thread Cert.WholeIdeal.nD Cert.WholeIdeal.τ).loc Cert.WholeIdeal.main_arg1)) (m ((c.tc : Thread Cert.WholeIdeal.nD Cert.WholeIdeal.τ).loc Cert.WholeIdeal.main_arg2)) (m ((c.tc : Thread Cert.WholeIdeal.nD Cert.WholeIdeal.τ).loc Cert.WholeIdeal.main_arg3)) (m ((c.tc : Thread Cert.WholeIdeal.nD Cert.WholeIdeal.τ).loc Cert.WholeIdeal.main_arg4)) (m ((c.tc : Thread Cert.WholeIdeal.nD Cert.WholeIdeal.τ).loc Cert.WholeIdeal.main_arg5)) (m ((c.tc : Thread Cert.WholeIdeal.nD Cert.WholeIdeal.τ).loc Cert.WholeIdeal.main_arg6)) (m ((c.tc : Thread Cert.WholeIdeal.nD Cert.WholeIdeal.τ).loc Cert.WholeIdeal.main_arg7)) (m ((c.tc : Thread Cert.WholeIdeal.nD Cert.WholeIdeal.τ).loc Cert.WholeIdeal.main_arg8)) (m ((c.tc : Thread Cert.WholeIdeal.nD Cert.WholeIdeal.τ).loc Cert.WholeIdeal.main_arg9)) (m ((c.tc : Thread Cert.WholeIdeal.nD Cert.WholeIdeal.τ).loc Cert.WholeIdeal.main_arg10)) (m ((c.tc : Thread Cert.WholeIdeal.nD Cert.WholeIdeal.τ).loc Cert.WholeIdeal.main_arg11)) (m ((c.tc : Thread Cert.WholeIdeal.nD Cert.WholeIdeal.τ).loc Cert.WholeIdeal.main_arg12)) (m ((c.tc : Thread Cert.WholeIdeal.nD Cert.WholeIdeal.τ).loc Cert.WholeIdeal.main_arg13)) (m ((c.tc : Thread Cert.WholeIdeal.nD Cert.WholeIdeal.τ).loc Cert.WholeIdeal.main_arg14)) (m ((c.tc : Thread Cert.WholeIdeal.nD Cert.WholeIdeal.τ).loc Cert.WholeIdeal.main_arg15)) (m ((c.tc : Thread Cert.WholeIdeal.nD Cert.WholeIdeal.τ).loc Cert.WholeIdeal.main_arg16)) (m ((c.tc : Thread Cert.WholeIdeal.nD Cert.WholeIdeal.τ).loc Cert.WholeIdeal.main_arg17))) = (fun _ => 1#1)

def Pre_ForwardIdeal (m : (ℓ : Loc Cert.ForwardIdeal.nD Cert.ForwardIdeal.τ Cert.ForwardIdeal.sig) → Buf (Elt Ideal) ℓ) : Prop :=
  True

def Pre_ForwardIdeal_finite [hPre_finite : Cert.Pre_finite.Facts] (m : (ℓ : Loc Cert.ForwardIdeal.nD Cert.ForwardIdeal.τ Cert.ForwardIdeal.sig) → Buf (Elt Ideal) ℓ) : Prop :=
  ∀ c : Dev Cert.ForwardIdeal.nD,
    (Cert.Pre_finite.fn (F := Ideal) (m ((c.tc : Thread Cert.ForwardIdeal.nD Cert.ForwardIdeal.τ).loc Cert.ForwardIdeal.main_arg0)) (m ((c.tc : Thread Cert.ForwardIdeal.nD Cert.ForwardIdeal.τ).loc Cert.ForwardIdeal.main_arg1)) (m ((c.tc : Thread Cert.ForwardIdeal.nD Cert.ForwardIdeal.τ).loc Cert.ForwardIdeal.main_arg2)) (m ((c.tc : Thread Cert.ForwardIdeal.nD Cert.ForwardIdeal.τ).loc Cert.ForwardIdeal.main_arg3)) (m ((c.tc : Thread Cert.ForwardIdeal.nD Cert.ForwardIdeal.τ).loc Cert.ForwardIdeal.main_arg4)) (m ((c.tc : Thread Cert.ForwardIdeal.nD Cert.ForwardIdeal.τ).loc Cert.ForwardIdeal.main_arg5)) (m ((c.tc : Thread Cert.ForwardIdeal.nD Cert.ForwardIdeal.τ).loc Cert.ForwardIdeal.main_arg6)) (m ((c.tc : Thread Cert.ForwardIdeal.nD Cert.ForwardIdeal.τ).loc Cert.ForwardIdeal.main_arg7)) (m ((c.tc : Thread Cert.ForwardIdeal.nD Cert.ForwardIdeal.τ).loc Cert.ForwardIdeal.main_arg8)) (m ((c.tc : Thread Cert.ForwardIdeal.nD Cert.ForwardIdeal.τ).loc Cert.ForwardIdeal.main_arg9)) (m ((c.tc : Thread Cert.ForwardIdeal.nD Cert.ForwardIdeal.τ).loc Cert.ForwardIdeal.main_arg10)) (m ((c.tc : Thread Cert.ForwardIdeal.nD Cert.ForwardIdeal.τ).loc Cert.ForwardIdeal.main_arg11)) (m ((c.tc : Thread Cert.ForwardIdeal.nD Cert.ForwardIdeal.τ).loc Cert.ForwardIdeal.main_arg12)) (m ((c.tc : Thread Cert.ForwardIdeal.nD Cert.ForwardIdeal.τ).loc Cert.ForwardIdeal.main_arg13)) (m ((c.tc : Thread Cert.ForwardIdeal.nD Cert.ForwardIdeal.τ).loc Cert.ForwardIdeal.main_arg14)) (m ((c.tc : Thread Cert.ForwardIdeal.nD Cert.ForwardIdeal.τ).loc Cert.ForwardIdeal.main_arg15)) (m ((c.tc : Thread Cert.ForwardIdeal.nD Cert.ForwardIdeal.τ).loc Cert.ForwardIdeal.main_arg16)) (m ((c.tc : Thread Cert.ForwardIdeal.nD Cert.ForwardIdeal.τ).loc Cert.ForwardIdeal.main_arg17))) = (fun _ => 1#1)

def Pre_SearchA (m : (ℓ : Loc Cert.SearchA.nD Cert.SearchA.τ Cert.SearchA.sig) → Buf (Elt Bits) ℓ) : Prop :=
  True

def Pre_SearchAIdeal (m : (ℓ : Loc Cert.SearchAIdeal.nD Cert.SearchAIdeal.τ Cert.SearchAIdeal.sig) → Buf (Elt Ideal) ℓ) : Prop :=
  True

def Pre_SearchAIdeal_finite1 [hPre_finite1 : Cert.Pre_finite1.Facts] (m : (ℓ : Loc Cert.SearchAIdeal.nD Cert.SearchAIdeal.τ Cert.SearchAIdeal.sig) → Buf (Elt Ideal) ℓ) : Prop :=
  ∀ c : Dev Cert.SearchAIdeal.nD,
    (Cert.Pre_finite1.fn (F := Ideal) (m ((c.tc : Thread Cert.SearchAIdeal.nD Cert.SearchAIdeal.τ).loc Cert.SearchAIdeal.main_arg0))) = (fun _ => 1#1)

def Pre_NearestAIdeal (m : (ℓ : Loc Cert.NearestAIdeal.nD Cert.NearestAIdeal.τ Cert.NearestAIdeal.sig) → Buf (Elt Ideal) ℓ) : Prop :=
  True

def Pre_NearestAIdeal_finite1 [hPre_finite1 : Cert.Pre_finite1.Facts] (m : (ℓ : Loc Cert.NearestAIdeal.nD Cert.NearestAIdeal.τ Cert.NearestAIdeal.sig) → Buf (Elt Ideal) ℓ) : Prop :=
  ∀ c : Dev Cert.NearestAIdeal.nD,
    (Cert.Pre_finite1.fn (F := Ideal) (m ((c.tc : Thread Cert.NearestAIdeal.nD Cert.NearestAIdeal.τ).loc Cert.NearestAIdeal.main_arg0))) = (fun _ => 1#1)

def Pre_SearchB (m : (ℓ : Loc Cert.SearchB.nD Cert.SearchB.τ Cert.SearchB.sig) → Buf (Elt Bits) ℓ) : Prop :=
  True

def Pre_SearchBIdeal (m : (ℓ : Loc Cert.SearchBIdeal.nD Cert.SearchBIdeal.τ Cert.SearchBIdeal.sig) → Buf (Elt Ideal) ℓ) : Prop :=
  True

def Pre_SearchBIdeal_finite2 [hPre_finite2 : Cert.Pre_finite2.Facts] (m : (ℓ : Loc Cert.SearchBIdeal.nD Cert.SearchBIdeal.τ Cert.SearchBIdeal.sig) → Buf (Elt Ideal) ℓ) : Prop :=
  ∀ c : Dev Cert.SearchBIdeal.nD,
    (Cert.Pre_finite2.fn (F := Ideal) (m ((c.tc : Thread Cert.SearchBIdeal.nD Cert.SearchBIdeal.τ).loc Cert.SearchBIdeal.main_arg0)) (m ((c.tc : Thread Cert.SearchBIdeal.nD Cert.SearchBIdeal.τ).loc Cert.SearchBIdeal.main_arg1))) = (fun _ => 1#1)

def Pre_NearestBIdeal (m : (ℓ : Loc Cert.NearestBIdeal.nD Cert.NearestBIdeal.τ Cert.NearestBIdeal.sig) → Buf (Elt Ideal) ℓ) : Prop :=
  True

def Pre_NearestBIdeal_finite2 [hPre_finite2 : Cert.Pre_finite2.Facts] (m : (ℓ : Loc Cert.NearestBIdeal.nD Cert.NearestBIdeal.τ Cert.NearestBIdeal.sig) → Buf (Elt Ideal) ℓ) : Prop :=
  ∀ c : Dev Cert.NearestBIdeal.nD,
    (Cert.Pre_finite2.fn (F := Ideal) (m ((c.tc : Thread Cert.NearestBIdeal.nD Cert.NearestBIdeal.τ).loc Cert.NearestBIdeal.main_arg0)) (m ((c.tc : Thread Cert.NearestBIdeal.nD Cert.NearestBIdeal.τ).loc Cert.NearestBIdeal.main_arg1))) = (fun _ => 1#1)

def quiescent_Kernel [hKernel : Cert.Kernel.Facts] [hPre_in_rows : Cert.Pre_in_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))
      ∧ r.2.sem = fun _ => 0)

def quiescent_KernelIdeal [hKernelIdeal : Cert.KernelIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ r.2.sem = fun _ => 0)

def quiescent_ReferenceIdeal [hReferenceIdeal : Cert.ReferenceIdeal.Facts] [hPre_in_rows : Cert.Pre_in_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))
      ∧ r.2.sem = fun _ => 0)

def quiescent_WholeIdeal [hWholeIdeal : Cert.WholeIdeal.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
      ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
      ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8)
      ∧ r.2.mem ((c.tc : Thread Cert.WholeIdeal.nD Cert.WholeIdeal.τ).loc Cert.WholeIdeal.main_arg9) = m ((c.tc : Thread Cert.WholeIdeal.nD Cert.WholeIdeal.τ).loc Cert.WholeIdeal.main_arg9)
      ∧ r.2.mem ((c.tc : Thread Cert.WholeIdeal.nD Cert.WholeIdeal.τ).loc Cert.WholeIdeal.main_arg10) = m ((c.tc : Thread Cert.WholeIdeal.nD Cert.WholeIdeal.τ).loc Cert.WholeIdeal.main_arg10)
      ∧ r.2.mem ((c.tc : Thread Cert.WholeIdeal.nD Cert.WholeIdeal.τ).loc Cert.WholeIdeal.main_arg11) = m ((c.tc : Thread Cert.WholeIdeal.nD Cert.WholeIdeal.τ).loc Cert.WholeIdeal.main_arg11)
      ∧ r.2.mem ((c.tc : Thread Cert.WholeIdeal.nD Cert.WholeIdeal.τ).loc Cert.WholeIdeal.main_arg12) = m ((c.tc : Thread Cert.WholeIdeal.nD Cert.WholeIdeal.τ).loc Cert.WholeIdeal.main_arg12)
      ∧ r.2.mem ((c.tc : Thread Cert.WholeIdeal.nD Cert.WholeIdeal.τ).loc Cert.WholeIdeal.main_arg13) = m ((c.tc : Thread Cert.WholeIdeal.nD Cert.WholeIdeal.τ).loc Cert.WholeIdeal.main_arg13)
      ∧ r.2.mem ((c.tc : Thread Cert.WholeIdeal.nD Cert.WholeIdeal.τ).loc Cert.WholeIdeal.main_arg14) = m ((c.tc : Thread Cert.WholeIdeal.nD Cert.WholeIdeal.τ).loc Cert.WholeIdeal.main_arg14)
      ∧ r.2.mem ((c.tc : Thread Cert.WholeIdeal.nD Cert.WholeIdeal.τ).loc Cert.WholeIdeal.main_arg15) = m ((c.tc : Thread Cert.WholeIdeal.nD Cert.WholeIdeal.τ).loc Cert.WholeIdeal.main_arg15)
      ∧ r.2.mem ((c.tc : Thread Cert.WholeIdeal.nD Cert.WholeIdeal.τ).loc Cert.WholeIdeal.main_arg16) = m ((c.tc : Thread Cert.WholeIdeal.nD Cert.WholeIdeal.τ).loc Cert.WholeIdeal.main_arg16)
      ∧ r.2.mem ((c.tc : Thread Cert.WholeIdeal.nD Cert.WholeIdeal.τ).loc Cert.WholeIdeal.main_arg17) = m ((c.tc : Thread Cert.WholeIdeal.nD Cert.WholeIdeal.τ).loc Cert.WholeIdeal.main_arg17))
      ∧ r.2.sem = fun _ => 0)

def quiescent_WholeIdeal_pre_finite [hWholeIdeal : Cert.WholeIdeal.Facts] [hPre_finite : Cert.Pre_finite.Facts] : Prop :=
  ∀ (m : (ℓ : Loc Cert.WholeIdeal.nD Cert.WholeIdeal.τ Cert.WholeIdeal.sig) → Buf (Elt Ideal) ℓ) (g : Dev Cert.WholeIdeal.nD → PrngReg), Pre_WholeIdeal_finite m →
    θ_run (Cert.WholeIdeal.defs (F := Ideal)) (Cert.WholeIdeal.threads (F := Ideal)) ⟨m, fun _ => 0, g⟩ (fun r => (∀ c : Dev Cert.WholeIdeal.nD,
      r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
      ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
      ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
      ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
      ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
      ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
      ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
      ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
      ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8)
      ∧ r.2.mem ((c.tc : Thread Cert.WholeIdeal.nD Cert.WholeIdeal.τ).loc Cert.WholeIdeal.main_arg9) = m ((c.tc : Thread Cert.WholeIdeal.nD Cert.WholeIdeal.τ).loc Cert.WholeIdeal.main_arg9)
      ∧ r.2.mem ((c.tc : Thread Cert.WholeIdeal.nD Cert.WholeIdeal.τ).loc Cert.WholeIdeal.main_arg10) = m ((c.tc : Thread Cert.WholeIdeal.nD Cert.WholeIdeal.τ).loc Cert.WholeIdeal.main_arg10)
      ∧ r.2.mem ((c.tc : Thread Cert.WholeIdeal.nD Cert.WholeIdeal.τ).loc Cert.WholeIdeal.main_arg11) = m ((c.tc : Thread Cert.WholeIdeal.nD Cert.WholeIdeal.τ).loc Cert.WholeIdeal.main_arg11)
      ∧ r.2.mem ((c.tc : Thread Cert.WholeIdeal.nD Cert.WholeIdeal.τ).loc Cert.WholeIdeal.main_arg12) = m ((c.tc : Thread Cert.WholeIdeal.nD Cert.WholeIdeal.τ).loc Cert.WholeIdeal.main_arg12)
      ∧ r.2.mem ((c.tc : Thread Cert.WholeIdeal.nD Cert.WholeIdeal.τ).loc Cert.WholeIdeal.main_arg13) = m ((c.tc : Thread Cert.WholeIdeal.nD Cert.WholeIdeal.τ).loc Cert.WholeIdeal.main_arg13)
      ∧ r.2.mem ((c.tc : Thread Cert.WholeIdeal.nD Cert.WholeIdeal.τ).loc Cert.WholeIdeal.main_arg14) = m ((c.tc : Thread Cert.WholeIdeal.nD Cert.WholeIdeal.τ).loc Cert.WholeIdeal.main_arg14)
      ∧ r.2.mem ((c.tc : Thread Cert.WholeIdeal.nD Cert.WholeIdeal.τ).loc Cert.WholeIdeal.main_arg15) = m ((c.tc : Thread Cert.WholeIdeal.nD Cert.WholeIdeal.τ).loc Cert.WholeIdeal.main_arg15)
      ∧ r.2.mem ((c.tc : Thread Cert.WholeIdeal.nD Cert.WholeIdeal.τ).loc Cert.WholeIdeal.main_arg16) = m ((c.tc : Thread Cert.WholeIdeal.nD Cert.WholeIdeal.τ).loc Cert.WholeIdeal.main_arg16)
      ∧ r.2.mem ((c.tc : Thread Cert.WholeIdeal.nD Cert.WholeIdeal.τ).loc Cert.WholeIdeal.main_arg17) = m ((c.tc : Thread Cert.WholeIdeal.nD Cert.WholeIdeal.τ).loc Cert.WholeIdeal.main_arg17))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
      ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7)
      ∧ r.2.mem ((c.tc : Thread Cert.ForwardIdeal.nD Cert.ForwardIdeal.τ).loc Cert.ForwardIdeal.main_arg8) = m ((c.tc : Thread Cert.ForwardIdeal.nD Cert.ForwardIdeal.τ).loc Cert.ForwardIdeal.main_arg8)
      ∧ r.2.mem ((c.tc : Thread Cert.ForwardIdeal.nD Cert.ForwardIdeal.τ).loc Cert.ForwardIdeal.main_arg9) = m ((c.tc : Thread Cert.ForwardIdeal.nD Cert.ForwardIdeal.τ).loc Cert.ForwardIdeal.main_arg9)
      ∧ r.2.mem ((c.tc : Thread Cert.ForwardIdeal.nD Cert.ForwardIdeal.τ).loc Cert.ForwardIdeal.main_arg10) = m ((c.tc : Thread Cert.ForwardIdeal.nD Cert.ForwardIdeal.τ).loc Cert.ForwardIdeal.main_arg10)
      ∧ r.2.mem ((c.tc : Thread Cert.ForwardIdeal.nD Cert.ForwardIdeal.τ).loc Cert.ForwardIdeal.main_arg11) = m ((c.tc : Thread Cert.ForwardIdeal.nD Cert.ForwardIdeal.τ).loc Cert.ForwardIdeal.main_arg11)
      ∧ r.2.mem ((c.tc : Thread Cert.ForwardIdeal.nD Cert.ForwardIdeal.τ).loc Cert.ForwardIdeal.main_arg12) = m ((c.tc : Thread Cert.ForwardIdeal.nD Cert.ForwardIdeal.τ).loc Cert.ForwardIdeal.main_arg12)
      ∧ r.2.mem ((c.tc : Thread Cert.ForwardIdeal.nD Cert.ForwardIdeal.τ).loc Cert.ForwardIdeal.main_arg13) = m ((c.tc : Thread Cert.ForwardIdeal.nD Cert.ForwardIdeal.τ).loc Cert.ForwardIdeal.main_arg13)
      ∧ r.2.mem ((c.tc : Thread Cert.ForwardIdeal.nD Cert.ForwardIdeal.τ).loc Cert.ForwardIdeal.main_arg14) = m ((c.tc : Thread Cert.ForwardIdeal.nD Cert.ForwardIdeal.τ).loc Cert.ForwardIdeal.main_arg14)
      ∧ r.2.mem ((c.tc : Thread Cert.ForwardIdeal.nD Cert.ForwardIdeal.τ).loc Cert.ForwardIdeal.main_arg15) = m ((c.tc : Thread Cert.ForwardIdeal.nD Cert.ForwardIdeal.τ).loc Cert.ForwardIdeal.main_arg15)
      ∧ r.2.mem ((c.tc : Thread Cert.ForwardIdeal.nD Cert.ForwardIdeal.τ).loc Cert.ForwardIdeal.main_arg16) = m ((c.tc : Thread Cert.ForwardIdeal.nD Cert.ForwardIdeal.τ).loc Cert.ForwardIdeal.main_arg16)
      ∧ r.2.mem ((c.tc : Thread Cert.ForwardIdeal.nD Cert.ForwardIdeal.τ).loc Cert.ForwardIdeal.main_arg17) = m ((c.tc : Thread Cert.ForwardIdeal.nD Cert.ForwardIdeal.τ).loc Cert.ForwardIdeal.main_arg17))
      ∧ r.2.sem = fun _ => 0)

def quiescent_ForwardIdeal_pre_finite [hForwardIdeal : Cert.ForwardIdeal.Facts] [hPre_finite : Cert.Pre_finite.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal_finite m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0)
      ∧ r.2.mem ((c.tc : Thread Cert.ForwardIdeal.nD Cert.ForwardIdeal.τ).loc Cert.ForwardIdeal.main_arg1) = m ((c.tc : Thread Cert.ForwardIdeal.nD Cert.ForwardIdeal.τ).loc Cert.ForwardIdeal.main_arg1)
      ∧ r.2.mem ((c.tc : Thread Cert.ForwardIdeal.nD Cert.ForwardIdeal.τ).loc Cert.ForwardIdeal.main_arg2) = m ((c.tc : Thread Cert.ForwardIdeal.nD Cert.ForwardIdeal.τ).loc Cert.ForwardIdeal.main_arg2)
      ∧ r.2.mem ((c.tc : Thread Cert.ForwardIdeal.nD Cert.ForwardIdeal.τ).loc Cert.ForwardIdeal.main_arg3) = m ((c.tc : Thread Cert.ForwardIdeal.nD Cert.ForwardIdeal.τ).loc Cert.ForwardIdeal.main_arg3)
      ∧ r.2.mem ((c.tc : Thread Cert.ForwardIdeal.nD Cert.ForwardIdeal.τ).loc Cert.ForwardIdeal.main_arg4) = m ((c.tc : Thread Cert.ForwardIdeal.nD Cert.ForwardIdeal.τ).loc Cert.ForwardIdeal.main_arg4)
      ∧ r.2.mem ((c.tc : Thread Cert.ForwardIdeal.nD Cert.ForwardIdeal.τ).loc Cert.ForwardIdeal.main_arg5) = m ((c.tc : Thread Cert.ForwardIdeal.nD Cert.ForwardIdeal.τ).loc Cert.ForwardIdeal.main_arg5)
      ∧ r.2.mem ((c.tc : Thread Cert.ForwardIdeal.nD Cert.ForwardIdeal.τ).loc Cert.ForwardIdeal.main_arg6) = m ((c.tc : Thread Cert.ForwardIdeal.nD Cert.ForwardIdeal.τ).loc Cert.ForwardIdeal.main_arg6)
      ∧ r.2.mem ((c.tc : Thread Cert.ForwardIdeal.nD Cert.ForwardIdeal.τ).loc Cert.ForwardIdeal.main_arg7) = m ((c.tc : Thread Cert.ForwardIdeal.nD Cert.ForwardIdeal.τ).loc Cert.ForwardIdeal.main_arg7)
      ∧ r.2.mem ((c.tc : Thread Cert.ForwardIdeal.nD Cert.ForwardIdeal.τ).loc Cert.ForwardIdeal.main_arg8) = m ((c.tc : Thread Cert.ForwardIdeal.nD Cert.ForwardIdeal.τ).loc Cert.ForwardIdeal.main_arg8)
      ∧ r.2.mem ((c.tc : Thread Cert.ForwardIdeal.nD Cert.ForwardIdeal.τ).loc Cert.ForwardIdeal.main_arg9) = m ((c.tc : Thread Cert.ForwardIdeal.nD Cert.ForwardIdeal.τ).loc Cert.ForwardIdeal.main_arg9)
      ∧ r.2.mem ((c.tc : Thread Cert.ForwardIdeal.nD Cert.ForwardIdeal.τ).loc Cert.ForwardIdeal.main_arg10) = m ((c.tc : Thread Cert.ForwardIdeal.nD Cert.ForwardIdeal.τ).loc Cert.ForwardIdeal.main_arg10)
      ∧ r.2.mem ((c.tc : Thread Cert.ForwardIdeal.nD Cert.ForwardIdeal.τ).loc Cert.ForwardIdeal.main_arg11) = m ((c.tc : Thread Cert.ForwardIdeal.nD Cert.ForwardIdeal.τ).loc Cert.ForwardIdeal.main_arg11)
      ∧ r.2.mem ((c.tc : Thread Cert.ForwardIdeal.nD Cert.ForwardIdeal.τ).loc Cert.ForwardIdeal.main_arg12) = m ((c.tc : Thread Cert.ForwardIdeal.nD Cert.ForwardIdeal.τ).loc Cert.ForwardIdeal.main_arg12)
      ∧ r.2.mem ((c.tc : Thread Cert.ForwardIdeal.nD Cert.ForwardIdeal.τ).loc Cert.ForwardIdeal.main_arg13) = m ((c.tc : Thread Cert.ForwardIdeal.nD Cert.ForwardIdeal.τ).loc Cert.ForwardIdeal.main_arg13)
      ∧ r.2.mem ((c.tc : Thread Cert.ForwardIdeal.nD Cert.ForwardIdeal.τ).loc Cert.ForwardIdeal.main_arg14) = m ((c.tc : Thread Cert.ForwardIdeal.nD Cert.ForwardIdeal.τ).loc Cert.ForwardIdeal.main_arg14)
      ∧ r.2.mem ((c.tc : Thread Cert.ForwardIdeal.nD Cert.ForwardIdeal.τ).loc Cert.ForwardIdeal.main_arg15) = m ((c.tc : Thread Cert.ForwardIdeal.nD Cert.ForwardIdeal.τ).loc Cert.ForwardIdeal.main_arg15)
      ∧ r.2.mem ((c.tc : Thread Cert.ForwardIdeal.nD Cert.ForwardIdeal.τ).loc Cert.ForwardIdeal.main_arg16) = m ((c.tc : Thread Cert.ForwardIdeal.nD Cert.ForwardIdeal.τ).loc Cert.ForwardIdeal.main_arg16)
      ∧ r.2.mem ((c.tc : Thread Cert.ForwardIdeal.nD Cert.ForwardIdeal.τ).loc Cert.ForwardIdeal.main_arg17) = m ((c.tc : Thread Cert.ForwardIdeal.nD Cert.ForwardIdeal.τ).loc Cert.ForwardIdeal.main_arg17))
      ∧ r.2.sem = fun _ => 0)

def quiescent_SearchA [hSearchA : Cert.SearchA.Facts] : Prop :=
  ∀ (m : (ℓ : Loc Cert.SearchA.nD Cert.SearchA.τ Cert.SearchA.sig) → Buf (Elt Bits) ℓ) (g : Dev Cert.SearchA.nD → PrngReg), Pre_SearchA m →
    θ_run (Cert.SearchA.defs (F := Bits)) (onTc (τ := Cert.SearchA.τ) (Cert.SearchA.main (F := Bits))) ⟨m, fun _ => 0, g⟩ (fun r => (∀ c : Dev Cert.SearchA.nD,
      r.2.mem ((c.tc : Thread Cert.SearchA.nD Cert.SearchA.τ).loc Cert.SearchA.main_arg0) = m ((c.tc : Thread Cert.SearchA.nD Cert.SearchA.τ).loc Cert.SearchA.main_arg0))
      ∧ r.2.sem = fun _ => 0)

def quiescent_SearchAIdeal [hSearchAIdeal : Cert.SearchAIdeal.Facts] : Prop :=
  ∀ (m : (ℓ : Loc Cert.SearchAIdeal.nD Cert.SearchAIdeal.τ Cert.SearchAIdeal.sig) → Buf (Elt Ideal) ℓ) (g : Dev Cert.SearchAIdeal.nD → PrngReg), Pre_SearchAIdeal m →
    θ_run (Cert.SearchAIdeal.defs (F := Ideal)) (onTc (τ := Cert.SearchAIdeal.τ) (Cert.SearchAIdeal.main (F := Ideal))) ⟨m, fun _ => 0, g⟩ (fun r => (∀ c : Dev Cert.SearchAIdeal.nD,
      r.2.mem ((c.tc : Thread Cert.SearchAIdeal.nD Cert.SearchAIdeal.τ).loc Cert.SearchAIdeal.main_arg0) = m ((c.tc : Thread Cert.SearchAIdeal.nD Cert.SearchAIdeal.τ).loc Cert.SearchAIdeal.main_arg0))
      ∧ r.2.sem = fun _ => 0)

def quiescent_SearchAIdeal_pre_finite1 [hSearchAIdeal : Cert.SearchAIdeal.Facts] [hPre_finite1 : Cert.Pre_finite1.Facts] : Prop :=
  ∀ (m : (ℓ : Loc Cert.SearchAIdeal.nD Cert.SearchAIdeal.τ Cert.SearchAIdeal.sig) → Buf (Elt Ideal) ℓ) (g : Dev Cert.SearchAIdeal.nD → PrngReg), Pre_SearchAIdeal_finite1 m →
    θ_run (Cert.SearchAIdeal.defs (F := Ideal)) (onTc (τ := Cert.SearchAIdeal.τ) (Cert.SearchAIdeal.main (F := Ideal))) ⟨m, fun _ => 0, g⟩ (fun r => (∀ c : Dev Cert.SearchAIdeal.nD,
      r.2.mem ((c.tc : Thread Cert.SearchAIdeal.nD Cert.SearchAIdeal.τ).loc Cert.SearchAIdeal.main_arg0) = m ((c.tc : Thread Cert.SearchAIdeal.nD Cert.SearchAIdeal.τ).loc Cert.SearchAIdeal.main_arg0))
      ∧ r.2.sem = fun _ => 0)

def quiescent_NearestAIdeal [hNearestAIdeal : Cert.NearestAIdeal.Facts] : Prop :=
  ∀ (m : (ℓ : Loc Cert.NearestAIdeal.nD Cert.NearestAIdeal.τ Cert.NearestAIdeal.sig) → Buf (Elt Ideal) ℓ) (g : Dev Cert.NearestAIdeal.nD → PrngReg), Pre_NearestAIdeal m →
    θ_run (Cert.NearestAIdeal.defs (F := Ideal)) (onTc (τ := Cert.NearestAIdeal.τ) (Cert.NearestAIdeal.main (F := Ideal))) ⟨m, fun _ => 0, g⟩ (fun r => (∀ c : Dev Cert.NearestAIdeal.nD,
      r.2.mem ((c.tc : Thread Cert.NearestAIdeal.nD Cert.NearestAIdeal.τ).loc Cert.NearestAIdeal.main_arg0) = m ((c.tc : Thread Cert.NearestAIdeal.nD Cert.NearestAIdeal.τ).loc Cert.NearestAIdeal.main_arg0))
      ∧ r.2.sem = fun _ => 0)

def quiescent_NearestAIdeal_pre_finite1 [hNearestAIdeal : Cert.NearestAIdeal.Facts] [hPre_finite1 : Cert.Pre_finite1.Facts] : Prop :=
  ∀ (m : (ℓ : Loc Cert.NearestAIdeal.nD Cert.NearestAIdeal.τ Cert.NearestAIdeal.sig) → Buf (Elt Ideal) ℓ) (g : Dev Cert.NearestAIdeal.nD → PrngReg), Pre_NearestAIdeal_finite1 m →
    θ_run (Cert.NearestAIdeal.defs (F := Ideal)) (onTc (τ := Cert.NearestAIdeal.τ) (Cert.NearestAIdeal.main (F := Ideal))) ⟨m, fun _ => 0, g⟩ (fun r => (∀ c : Dev Cert.NearestAIdeal.nD,
      r.2.mem ((c.tc : Thread Cert.NearestAIdeal.nD Cert.NearestAIdeal.τ).loc Cert.NearestAIdeal.main_arg0) = m ((c.tc : Thread Cert.NearestAIdeal.nD Cert.NearestAIdeal.τ).loc Cert.NearestAIdeal.main_arg0))
      ∧ r.2.sem = fun _ => 0)

def quiescent_SearchB [hSearchB : Cert.SearchB.Facts] : Prop :=
  ∀ (m : (ℓ : Loc Cert.SearchB.nD Cert.SearchB.τ Cert.SearchB.sig) → Buf (Elt Bits) ℓ) (g : Dev Cert.SearchB.nD → PrngReg), Pre_SearchB m →
    θ_run (Cert.SearchB.defs (F := Bits)) (onTc (τ := Cert.SearchB.τ) (Cert.SearchB.main (F := Bits))) ⟨m, fun _ => 0, g⟩ (fun r => (∀ c : Dev Cert.SearchB.nD,
      r.2.mem ((c.tc : Thread Cert.SearchB.nD Cert.SearchB.τ).loc Cert.SearchB.main_arg0) = m ((c.tc : Thread Cert.SearchB.nD Cert.SearchB.τ).loc Cert.SearchB.main_arg0)
      ∧ r.2.mem ((c.tc : Thread Cert.SearchB.nD Cert.SearchB.τ).loc Cert.SearchB.main_arg1) = m ((c.tc : Thread Cert.SearchB.nD Cert.SearchB.τ).loc Cert.SearchB.main_arg1))
      ∧ r.2.sem = fun _ => 0)

def quiescent_SearchBIdeal [hSearchBIdeal : Cert.SearchBIdeal.Facts] : Prop :=
  ∀ (m : (ℓ : Loc Cert.SearchBIdeal.nD Cert.SearchBIdeal.τ Cert.SearchBIdeal.sig) → Buf (Elt Ideal) ℓ) (g : Dev Cert.SearchBIdeal.nD → PrngReg), Pre_SearchBIdeal m →
    θ_run (Cert.SearchBIdeal.defs (F := Ideal)) (onTc (τ := Cert.SearchBIdeal.τ) (Cert.SearchBIdeal.main (F := Ideal))) ⟨m, fun _ => 0, g⟩ (fun r => (∀ c : Dev Cert.SearchBIdeal.nD,
      r.2.mem ((c.tc : Thread Cert.SearchBIdeal.nD Cert.SearchBIdeal.τ).loc Cert.SearchBIdeal.main_arg0) = m ((c.tc : Thread Cert.SearchBIdeal.nD Cert.SearchBIdeal.τ).loc Cert.SearchBIdeal.main_arg0)
      ∧ r.2.mem ((c.tc : Thread Cert.SearchBIdeal.nD Cert.SearchBIdeal.τ).loc Cert.SearchBIdeal.main_arg1) = m ((c.tc : Thread Cert.SearchBIdeal.nD Cert.SearchBIdeal.τ).loc Cert.SearchBIdeal.main_arg1))
      ∧ r.2.sem = fun _ => 0)

def quiescent_SearchBIdeal_pre_finite2 [hSearchBIdeal : Cert.SearchBIdeal.Facts] [hPre_finite2 : Cert.Pre_finite2.Facts] : Prop :=
  ∀ (m : (ℓ : Loc Cert.SearchBIdeal.nD Cert.SearchBIdeal.τ Cert.SearchBIdeal.sig) → Buf (Elt Ideal) ℓ) (g : Dev Cert.SearchBIdeal.nD → PrngReg), Pre_SearchBIdeal_finite2 m →
    θ_run (Cert.SearchBIdeal.defs (F := Ideal)) (onTc (τ := Cert.SearchBIdeal.τ) (Cert.SearchBIdeal.main (F := Ideal))) ⟨m, fun _ => 0, g⟩ (fun r => (∀ c : Dev Cert.SearchBIdeal.nD,
      r.2.mem ((c.tc : Thread Cert.SearchBIdeal.nD Cert.SearchBIdeal.τ).loc Cert.SearchBIdeal.main_arg0) = m ((c.tc : Thread Cert.SearchBIdeal.nD Cert.SearchBIdeal.τ).loc Cert.SearchBIdeal.main_arg0)
      ∧ r.2.mem ((c.tc : Thread Cert.SearchBIdeal.nD Cert.SearchBIdeal.τ).loc Cert.SearchBIdeal.main_arg1) = m ((c.tc : Thread Cert.SearchBIdeal.nD Cert.SearchBIdeal.τ).loc Cert.SearchBIdeal.main_arg1))
      ∧ r.2.sem = fun _ => 0)

def quiescent_NearestBIdeal [hNearestBIdeal : Cert.NearestBIdeal.Facts] : Prop :=
  ∀ (m : (ℓ : Loc Cert.NearestBIdeal.nD Cert.NearestBIdeal.τ Cert.NearestBIdeal.sig) → Buf (Elt Ideal) ℓ) (g : Dev Cert.NearestBIdeal.nD → PrngReg), Pre_NearestBIdeal m →
    θ_run (Cert.NearestBIdeal.defs (F := Ideal)) (onTc (τ := Cert.NearestBIdeal.τ) (Cert.NearestBIdeal.main (F := Ideal))) ⟨m, fun _ => 0, g⟩ (fun r => (∀ c : Dev Cert.NearestBIdeal.nD,
      r.2.mem ((c.tc : Thread Cert.NearestBIdeal.nD Cert.NearestBIdeal.τ).loc Cert.NearestBIdeal.main_arg0) = m ((c.tc : Thread Cert.NearestBIdeal.nD Cert.NearestBIdeal.τ).loc Cert.NearestBIdeal.main_arg0)
      ∧ r.2.mem ((c.tc : Thread Cert.NearestBIdeal.nD Cert.NearestBIdeal.τ).loc Cert.NearestBIdeal.main_arg1) = m ((c.tc : Thread Cert.NearestBIdeal.nD Cert.NearestBIdeal.τ).loc Cert.NearestBIdeal.main_arg1))
      ∧ r.2.sem = fun _ => 0)

def quiescent_NearestBIdeal_pre_finite2 [hNearestBIdeal : Cert.NearestBIdeal.Facts] [hPre_finite2 : Cert.Pre_finite2.Facts] : Prop :=
  ∀ (m : (ℓ : Loc Cert.NearestBIdeal.nD Cert.NearestBIdeal.τ Cert.NearestBIdeal.sig) → Buf (Elt Ideal) ℓ) (g : Dev Cert.NearestBIdeal.nD → PrngReg), Pre_NearestBIdeal_finite2 m →
    θ_run (Cert.NearestBIdeal.defs (F := Ideal)) (onTc (τ := Cert.NearestBIdeal.τ) (Cert.NearestBIdeal.main (F := Ideal))) ⟨m, fun _ => 0, g⟩ (fun r => (∀ c : Dev Cert.NearestBIdeal.nD,
      r.2.mem ((c.tc : Thread Cert.NearestBIdeal.nD Cert.NearestBIdeal.τ).loc Cert.NearestBIdeal.main_arg0) = m ((c.tc : Thread Cert.NearestBIdeal.nD Cert.NearestBIdeal.τ).loc Cert.NearestBIdeal.main_arg0)
      ∧ r.2.mem ((c.tc : Thread Cert.NearestBIdeal.nD Cert.NearestBIdeal.τ).loc Cert.NearestBIdeal.main_arg1) = m ((c.tc : Thread Cert.NearestBIdeal.nD Cert.NearestBIdeal.τ).loc Cert.NearestBIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_rows : Cert.Pre_in_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def algebraic_WholeIdeal_ForwardIdeal_pre_finite [hWholeIdeal : Cert.WholeIdeal.Facts] [hForwardIdeal : Cert.ForwardIdeal.Facts] [hPre_finite : Cert.Pre_finite.Facts] : Prop :=
  ∀ (m : (ℓ : Loc Cert.WholeIdeal.nD Cert.WholeIdeal.τ Cert.WholeIdeal.sig) → Buf (Elt Ideal) ℓ) (g : Dev Cert.WholeIdeal.nD → PrngReg)
    (m' : (ℓ : Loc Cert.ForwardIdeal.nD Cert.ForwardIdeal.τ Cert.ForwardIdeal.sig) → Buf (Elt Ideal) ℓ) (g' : Dev Cert.ForwardIdeal.nD → PrngReg), Pre_WholeIdeal_finite m →
    (∀ c : Dev Cert.WholeIdeal.nD,
      m' ((c.tc : Thread Cert.ForwardIdeal.nD Cert.ForwardIdeal.τ).loc Cert.ForwardIdeal.main_arg0) = m ((c.tc : Thread Cert.WholeIdeal.nD Cert.WholeIdeal.τ).loc Cert.WholeIdeal.main_arg0)
      ∧ m' ((c.tc : Thread Cert.ForwardIdeal.nD Cert.ForwardIdeal.τ).loc Cert.ForwardIdeal.main_arg1) = m ((c.tc : Thread Cert.WholeIdeal.nD Cert.WholeIdeal.τ).loc Cert.WholeIdeal.main_arg1)
      ∧ m' ((c.tc : Thread Cert.ForwardIdeal.nD Cert.ForwardIdeal.τ).loc Cert.ForwardIdeal.main_arg2) = m ((c.tc : Thread Cert.WholeIdeal.nD Cert.WholeIdeal.τ).loc Cert.WholeIdeal.main_arg2)
      ∧ m' ((c.tc : Thread Cert.ForwardIdeal.nD Cert.ForwardIdeal.τ).loc Cert.ForwardIdeal.main_arg3) = m ((c.tc : Thread Cert.WholeIdeal.nD Cert.WholeIdeal.τ).loc Cert.WholeIdeal.main_arg3)
      ∧ m' ((c.tc : Thread Cert.ForwardIdeal.nD Cert.ForwardIdeal.τ).loc Cert.ForwardIdeal.main_arg4) = m ((c.tc : Thread Cert.WholeIdeal.nD Cert.WholeIdeal.τ).loc Cert.WholeIdeal.main_arg4)
      ∧ m' ((c.tc : Thread Cert.ForwardIdeal.nD Cert.ForwardIdeal.τ).loc Cert.ForwardIdeal.main_arg5) = m ((c.tc : Thread Cert.WholeIdeal.nD Cert.WholeIdeal.τ).loc Cert.WholeIdeal.main_arg5)
      ∧ m' ((c.tc : Thread Cert.ForwardIdeal.nD Cert.ForwardIdeal.τ).loc Cert.ForwardIdeal.main_arg6) = m ((c.tc : Thread Cert.WholeIdeal.nD Cert.WholeIdeal.τ).loc Cert.WholeIdeal.main_arg6)
      ∧ m' ((c.tc : Thread Cert.ForwardIdeal.nD Cert.ForwardIdeal.τ).loc Cert.ForwardIdeal.main_arg7) = m ((c.tc : Thread Cert.WholeIdeal.nD Cert.WholeIdeal.τ).loc Cert.WholeIdeal.main_arg7)
      ∧ m' ((c.tc : Thread Cert.ForwardIdeal.nD Cert.ForwardIdeal.τ).loc Cert.ForwardIdeal.main_arg8) = m ((c.tc : Thread Cert.WholeIdeal.nD Cert.WholeIdeal.τ).loc Cert.WholeIdeal.main_arg8)
      ∧ m' ((c.tc : Thread Cert.ForwardIdeal.nD Cert.ForwardIdeal.τ).loc Cert.ForwardIdeal.main_arg9) = m ((c.tc : Thread Cert.WholeIdeal.nD Cert.WholeIdeal.τ).loc Cert.WholeIdeal.main_arg9)
      ∧ m' ((c.tc : Thread Cert.ForwardIdeal.nD Cert.ForwardIdeal.τ).loc Cert.ForwardIdeal.main_arg10) = m ((c.tc : Thread Cert.WholeIdeal.nD Cert.WholeIdeal.τ).loc Cert.WholeIdeal.main_arg10)
      ∧ m' ((c.tc : Thread Cert.ForwardIdeal.nD Cert.ForwardIdeal.τ).loc Cert.ForwardIdeal.main_arg11) = m ((c.tc : Thread Cert.WholeIdeal.nD Cert.WholeIdeal.τ).loc Cert.WholeIdeal.main_arg11)
      ∧ m' ((c.tc : Thread Cert.ForwardIdeal.nD Cert.ForwardIdeal.τ).loc Cert.ForwardIdeal.main_arg12) = m ((c.tc : Thread Cert.WholeIdeal.nD Cert.WholeIdeal.τ).loc Cert.WholeIdeal.main_arg12)
      ∧ m' ((c.tc : Thread Cert.ForwardIdeal.nD Cert.ForwardIdeal.τ).loc Cert.ForwardIdeal.main_arg13) = m ((c.tc : Thread Cert.WholeIdeal.nD Cert.WholeIdeal.τ).loc Cert.WholeIdeal.main_arg13)
      ∧ m' ((c.tc : Thread Cert.ForwardIdeal.nD Cert.ForwardIdeal.τ).loc Cert.ForwardIdeal.main_arg14) = m ((c.tc : Thread Cert.WholeIdeal.nD Cert.WholeIdeal.τ).loc Cert.WholeIdeal.main_arg14)
      ∧ m' ((c.tc : Thread Cert.ForwardIdeal.nD Cert.ForwardIdeal.τ).loc Cert.ForwardIdeal.main_arg15) = m ((c.tc : Thread Cert.WholeIdeal.nD Cert.WholeIdeal.τ).loc Cert.WholeIdeal.main_arg15)
      ∧ m' ((c.tc : Thread Cert.ForwardIdeal.nD Cert.ForwardIdeal.τ).loc Cert.ForwardIdeal.main_arg16) = m ((c.tc : Thread Cert.WholeIdeal.nD Cert.WholeIdeal.τ).loc Cert.WholeIdeal.main_arg16)
      ∧ m' ((c.tc : Thread Cert.ForwardIdeal.nD Cert.ForwardIdeal.τ).loc Cert.ForwardIdeal.main_arg17) = m ((c.tc : Thread Cert.WholeIdeal.nD Cert.WholeIdeal.τ).loc Cert.WholeIdeal.main_arg17)) →
    ∃ (v0 : (c : Dev Cert.WholeIdeal.nD) → Buf (Elt Ideal) ((c.tc : Thread Cert.WholeIdeal.nD Cert.WholeIdeal.τ).loc Cert.WholeIdeal.main_v23)),
      θ_run (Cert.WholeIdeal.defs (F := Ideal)) (Cert.WholeIdeal.threads (F := Ideal)) ⟨m, fun _ => 0, g⟩ (fun r => ∀ c : Dev Cert.WholeIdeal.nD,
          r.2.mem ((c.tc : Thread Cert.WholeIdeal.nD Cert.WholeIdeal.τ).loc Cert.WholeIdeal.main_v23) = v0 c
          ∧ r.2.mem ((c.tc : Thread Cert.WholeIdeal.nD Cert.WholeIdeal.τ).loc Cert.WholeIdeal.main_arg0) = m ((c.tc : Thread Cert.WholeIdeal.nD Cert.WholeIdeal.τ).loc Cert.WholeIdeal.main_arg0)
          ∧ r.2.mem ((c.tc : Thread Cert.WholeIdeal.nD Cert.WholeIdeal.τ).loc Cert.WholeIdeal.main_arg1) = m ((c.tc : Thread Cert.WholeIdeal.nD Cert.WholeIdeal.τ).loc Cert.WholeIdeal.main_arg1)
          ∧ r.2.mem ((c.tc : Thread Cert.WholeIdeal.nD Cert.WholeIdeal.τ).loc Cert.WholeIdeal.main_arg2) = m ((c.tc : Thread Cert.WholeIdeal.nD Cert.WholeIdeal.τ).loc Cert.WholeIdeal.main_arg2)
          ∧ r.2.mem ((c.tc : Thread Cert.WholeIdeal.nD Cert.WholeIdeal.τ).loc Cert.WholeIdeal.main_arg3) = m ((c.tc : Thread Cert.WholeIdeal.nD Cert.WholeIdeal.τ).loc Cert.WholeIdeal.main_arg3)
          ∧ r.2.mem ((c.tc : Thread Cert.WholeIdeal.nD Cert.WholeIdeal.τ).loc Cert.WholeIdeal.main_arg4) = m ((c.tc : Thread Cert.WholeIdeal.nD Cert.WholeIdeal.τ).loc Cert.WholeIdeal.main_arg4)
          ∧ r.2.mem ((c.tc : Thread Cert.WholeIdeal.nD Cert.WholeIdeal.τ).loc Cert.WholeIdeal.main_arg5) = m ((c.tc : Thread Cert.WholeIdeal.nD Cert.WholeIdeal.τ).loc Cert.WholeIdeal.main_arg5)
          ∧ r.2.mem ((c.tc : Thread Cert.WholeIdeal.nD Cert.WholeIdeal.τ).loc Cert.WholeIdeal.main_arg6) = m ((c.tc : Thread Cert.WholeIdeal.nD Cert.WholeIdeal.τ).loc Cert.WholeIdeal.main_arg6)
          ∧ r.2.mem ((c.tc : Thread Cert.WholeIdeal.nD Cert.WholeIdeal.τ).loc Cert.WholeIdeal.main_arg7) = m ((c.tc : Thread Cert.WholeIdeal.nD Cert.WholeIdeal.τ).loc Cert.WholeIdeal.main_arg7)
          ∧ r.2.mem ((c.tc : Thread Cert.WholeIdeal.nD Cert.WholeIdeal.τ).loc Cert.WholeIdeal.main_arg8) = m ((c.tc : Thread Cert.WholeIdeal.nD Cert.WholeIdeal.τ).loc Cert.WholeIdeal.main_arg8)
          ∧ r.2.mem ((c.tc : Thread Cert.WholeIdeal.nD Cert.WholeIdeal.τ).loc Cert.WholeIdeal.main_arg9) = m ((c.tc : Thread Cert.WholeIdeal.nD Cert.WholeIdeal.τ).loc Cert.WholeIdeal.main_arg9)
          ∧ r.2.mem ((c.tc : Thread Cert.WholeIdeal.nD Cert.WholeIdeal.τ).loc Cert.WholeIdeal.main_arg10) = m ((c.tc : Thread Cert.WholeIdeal.nD Cert.WholeIdeal.τ).loc Cert.WholeIdeal.main_arg10)
          ∧ r.2.mem ((c.tc : Thread Cert.WholeIdeal.nD Cert.WholeIdeal.τ).loc Cert.WholeIdeal.main_arg11) = m ((c.tc : Thread Cert.WholeIdeal.nD Cert.WholeIdeal.τ).loc Cert.WholeIdeal.main_arg11)
          ∧ r.2.mem ((c.tc : Thread Cert.WholeIdeal.nD Cert.WholeIdeal.τ).loc Cert.WholeIdeal.main_arg12) = m ((c.tc : Thread Cert.WholeIdeal.nD Cert.WholeIdeal.τ).loc Cert.WholeIdeal.main_arg12)
          ∧ r.2.mem ((c.tc : Thread Cert.WholeIdeal.nD Cert.WholeIdeal.τ).loc Cert.WholeIdeal.main_arg13) = m ((c.tc : Thread Cert.WholeIdeal.nD Cert.WholeIdeal.τ).loc Cert.WholeIdeal.main_arg13)
          ∧ r.2.mem ((c.tc : Thread Cert.WholeIdeal.nD Cert.WholeIdeal.τ).loc Cert.WholeIdeal.main_arg14) = m ((c.tc : Thread Cert.WholeIdeal.nD Cert.WholeIdeal.τ).loc Cert.WholeIdeal.main_arg14)
          ∧ r.2.mem ((c.tc : Thread Cert.WholeIdeal.nD Cert.WholeIdeal.τ).loc Cert.WholeIdeal.main_arg15) = m ((c.tc : Thread Cert.WholeIdeal.nD Cert.WholeIdeal.τ).loc Cert.WholeIdeal.main_arg15)
          ∧ r.2.mem ((c.tc : Thread Cert.WholeIdeal.nD Cert.WholeIdeal.τ).loc Cert.WholeIdeal.main_arg16) = m ((c.tc : Thread Cert.WholeIdeal.nD Cert.WholeIdeal.τ).loc Cert.WholeIdeal.main_arg16)
          ∧ r.2.mem ((c.tc : Thread Cert.WholeIdeal.nD Cert.WholeIdeal.τ).loc Cert.WholeIdeal.main_arg17) = m ((c.tc : Thread Cert.WholeIdeal.nD Cert.WholeIdeal.τ).loc Cert.WholeIdeal.main_arg17))
      ∧ θ_run (Cert.ForwardIdeal.defs (F := Ideal)) (onTc (τ := Cert.ForwardIdeal.τ) (Cert.ForwardIdeal.main (F := Ideal))) ⟨m', fun _ => 0, g'⟩ (fun r => ∀ c : Dev Cert.ForwardIdeal.nD,
          r.2.mem ((c.tc : Thread Cert.ForwardIdeal.nD Cert.ForwardIdeal.τ).loc Cert.ForwardIdeal.main_v156) = v0 c
          ∧ r.2.mem ((c.tc : Thread Cert.ForwardIdeal.nD Cert.ForwardIdeal.τ).loc Cert.ForwardIdeal.main_arg0) = m' ((c.tc : Thread Cert.ForwardIdeal.nD Cert.ForwardIdeal.τ).loc Cert.ForwardIdeal.main_arg0)
          ∧ r.2.mem ((c.tc : Thread Cert.ForwardIdeal.nD Cert.ForwardIdeal.τ).loc Cert.ForwardIdeal.main_arg1) = m' ((c.tc : Thread Cert.ForwardIdeal.nD Cert.ForwardIdeal.τ).loc Cert.ForwardIdeal.main_arg1)
          ∧ r.2.mem ((c.tc : Thread Cert.ForwardIdeal.nD Cert.ForwardIdeal.τ).loc Cert.ForwardIdeal.main_arg2) = m' ((c.tc : Thread Cert.ForwardIdeal.nD Cert.ForwardIdeal.τ).loc Cert.ForwardIdeal.main_arg2)
          ∧ r.2.mem ((c.tc : Thread Cert.ForwardIdeal.nD Cert.ForwardIdeal.τ).loc Cert.ForwardIdeal.main_arg3) = m' ((c.tc : Thread Cert.ForwardIdeal.nD Cert.ForwardIdeal.τ).loc Cert.ForwardIdeal.main_arg3)
          ∧ r.2.mem ((c.tc : Thread Cert.ForwardIdeal.nD Cert.ForwardIdeal.τ).loc Cert.ForwardIdeal.main_arg4) = m' ((c.tc : Thread Cert.ForwardIdeal.nD Cert.ForwardIdeal.τ).loc Cert.ForwardIdeal.main_arg4)
          ∧ r.2.mem ((c.tc : Thread Cert.ForwardIdeal.nD Cert.ForwardIdeal.τ).loc Cert.ForwardIdeal.main_arg5) = m' ((c.tc : Thread Cert.ForwardIdeal.nD Cert.ForwardIdeal.τ).loc Cert.ForwardIdeal.main_arg5)
          ∧ r.2.mem ((c.tc : Thread Cert.ForwardIdeal.nD Cert.ForwardIdeal.τ).loc Cert.ForwardIdeal.main_arg6) = m' ((c.tc : Thread Cert.ForwardIdeal.nD Cert.ForwardIdeal.τ).loc Cert.ForwardIdeal.main_arg6)
          ∧ r.2.mem ((c.tc : Thread Cert.ForwardIdeal.nD Cert.ForwardIdeal.τ).loc Cert.ForwardIdeal.main_arg7) = m' ((c.tc : Thread Cert.ForwardIdeal.nD Cert.ForwardIdeal.τ).loc Cert.ForwardIdeal.main_arg7)
          ∧ r.2.mem ((c.tc : Thread Cert.ForwardIdeal.nD Cert.ForwardIdeal.τ).loc Cert.ForwardIdeal.main_arg8) = m' ((c.tc : Thread Cert.ForwardIdeal.nD Cert.ForwardIdeal.τ).loc Cert.ForwardIdeal.main_arg8)
          ∧ r.2.mem ((c.tc : Thread Cert.ForwardIdeal.nD Cert.ForwardIdeal.τ).loc Cert.ForwardIdeal.main_arg9) = m' ((c.tc : Thread Cert.ForwardIdeal.nD Cert.ForwardIdeal.τ).loc Cert.ForwardIdeal.main_arg9)
          ∧ r.2.mem ((c.tc : Thread Cert.ForwardIdeal.nD Cert.ForwardIdeal.τ).loc Cert.ForwardIdeal.main_arg10) = m' ((c.tc : Thread Cert.ForwardIdeal.nD Cert.ForwardIdeal.τ).loc Cert.ForwardIdeal.main_arg10)
          ∧ r.2.mem ((c.tc : Thread Cert.ForwardIdeal.nD Cert.ForwardIdeal.τ).loc Cert.ForwardIdeal.main_arg11) = m' ((c.tc : Thread Cert.ForwardIdeal.nD Cert.ForwardIdeal.τ).loc Cert.ForwardIdeal.main_arg11)
          ∧ r.2.mem ((c.tc : Thread Cert.ForwardIdeal.nD Cert.ForwardIdeal.τ).loc Cert.ForwardIdeal.main_arg12) = m' ((c.tc : Thread Cert.ForwardIdeal.nD Cert.ForwardIdeal.τ).loc Cert.ForwardIdeal.main_arg12)
          ∧ r.2.mem ((c.tc : Thread Cert.ForwardIdeal.nD Cert.ForwardIdeal.τ).loc Cert.ForwardIdeal.main_arg13) = m' ((c.tc : Thread Cert.ForwardIdeal.nD Cert.ForwardIdeal.τ).loc Cert.ForwardIdeal.main_arg13)
          ∧ r.2.mem ((c.tc : Thread Cert.ForwardIdeal.nD Cert.ForwardIdeal.τ).loc Cert.ForwardIdeal.main_arg14) = m' ((c.tc : Thread Cert.ForwardIdeal.nD Cert.ForwardIdeal.τ).loc Cert.ForwardIdeal.main_arg14)
          ∧ r.2.mem ((c.tc : Thread Cert.ForwardIdeal.nD Cert.ForwardIdeal.τ).loc Cert.ForwardIdeal.main_arg15) = m' ((c.tc : Thread Cert.ForwardIdeal.nD Cert.ForwardIdeal.τ).loc Cert.ForwardIdeal.main_arg15)
          ∧ r.2.mem ((c.tc : Thread Cert.ForwardIdeal.nD Cert.ForwardIdeal.τ).loc Cert.ForwardIdeal.main_arg16) = m' ((c.tc : Thread Cert.ForwardIdeal.nD Cert.ForwardIdeal.τ).loc Cert.ForwardIdeal.main_arg16)
          ∧ r.2.mem ((c.tc : Thread Cert.ForwardIdeal.nD Cert.ForwardIdeal.τ).loc Cert.ForwardIdeal.main_arg17) = m' ((c.tc : Thread Cert.ForwardIdeal.nD Cert.ForwardIdeal.τ).loc Cert.ForwardIdeal.main_arg17))

def preserves_SearchA_SearchAIdeal : Prop :=
  True

def algebraic_SearchAIdeal_NearestAIdeal_pre_finite1 [hSearchAIdeal : Cert.SearchAIdeal.Facts] [hNearestAIdeal : Cert.NearestAIdeal.Facts] [hPre_finite1 : Cert.Pre_finite1.Facts] : Prop :=
  ∀ (m : (ℓ : Loc Cert.SearchAIdeal.nD Cert.SearchAIdeal.τ Cert.SearchAIdeal.sig) → Buf (Elt Ideal) ℓ) (g : Dev Cert.SearchAIdeal.nD → PrngReg)
    (m' : (ℓ : Loc Cert.NearestAIdeal.nD Cert.NearestAIdeal.τ Cert.NearestAIdeal.sig) → Buf (Elt Ideal) ℓ) (g' : Dev Cert.NearestAIdeal.nD → PrngReg), Pre_SearchAIdeal_finite1 m →
    (∀ c : Dev Cert.SearchAIdeal.nD,
      m' ((c.tc : Thread Cert.NearestAIdeal.nD Cert.NearestAIdeal.τ).loc Cert.NearestAIdeal.main_arg0) = m ((c.tc : Thread Cert.SearchAIdeal.nD Cert.SearchAIdeal.τ).loc Cert.SearchAIdeal.main_arg0)) →
    ∃ (v0 : (c : Dev Cert.SearchAIdeal.nD) → Buf (Elt Ideal) ((c.tc : Thread Cert.SearchAIdeal.nD Cert.SearchAIdeal.τ).loc Cert.SearchAIdeal.main_v0)),
      θ_run (Cert.SearchAIdeal.defs (F := Ideal)) (onTc (τ := Cert.SearchAIdeal.τ) (Cert.SearchAIdeal.main (F := Ideal))) ⟨m, fun _ => 0, g⟩ (fun r => ∀ c : Dev Cert.SearchAIdeal.nD,
          r.2.mem ((c.tc : Thread Cert.SearchAIdeal.nD Cert.SearchAIdeal.τ).loc Cert.SearchAIdeal.main_v0) = v0 c
          ∧ r.2.mem ((c.tc : Thread Cert.SearchAIdeal.nD Cert.SearchAIdeal.τ).loc Cert.SearchAIdeal.main_arg0) = m ((c.tc : Thread Cert.SearchAIdeal.nD Cert.SearchAIdeal.τ).loc Cert.SearchAIdeal.main_arg0))
      ∧ θ_run (Cert.NearestAIdeal.defs (F := Ideal)) (onTc (τ := Cert.NearestAIdeal.τ) (Cert.NearestAIdeal.main (F := Ideal))) ⟨m', fun _ => 0, g'⟩ (fun r => ∀ c : Dev Cert.NearestAIdeal.nD,
          r.2.mem ((c.tc : Thread Cert.NearestAIdeal.nD Cert.NearestAIdeal.τ).loc Cert.NearestAIdeal.main_v20) = v0 c
          ∧ r.2.mem ((c.tc : Thread Cert.NearestAIdeal.nD Cert.NearestAIdeal.τ).loc Cert.NearestAIdeal.main_arg0) = m' ((c.tc : Thread Cert.NearestAIdeal.nD Cert.NearestAIdeal.τ).loc Cert.NearestAIdeal.main_arg0))

def preserves_SearchB_SearchBIdeal : Prop :=
  True

def algebraic_SearchBIdeal_NearestBIdeal_pre_finite2 [hSearchBIdeal : Cert.SearchBIdeal.Facts] [hNearestBIdeal : Cert.NearestBIdeal.Facts] [hPre_finite2 : Cert.Pre_finite2.Facts] : Prop :=
  ∀ (m : (ℓ : Loc Cert.SearchBIdeal.nD Cert.SearchBIdeal.τ Cert.SearchBIdeal.sig) → Buf (Elt Ideal) ℓ) (g : Dev Cert.SearchBIdeal.nD → PrngReg)
    (m' : (ℓ : Loc Cert.NearestBIdeal.nD Cert.NearestBIdeal.τ Cert.NearestBIdeal.sig) → Buf (Elt Ideal) ℓ) (g' : Dev Cert.NearestBIdeal.nD → PrngReg), Pre_SearchBIdeal_finite2 m →
    (∀ c : Dev Cert.SearchBIdeal.nD,
      m' ((c.tc : Thread Cert.NearestBIdeal.nD Cert.NearestBIdeal.τ).loc Cert.NearestBIdeal.main_arg0) = m ((c.tc : Thread Cert.SearchBIdeal.nD Cert.SearchBIdeal.τ).loc Cert.SearchBIdeal.main_arg0)
      ∧ m' ((c.tc : Thread Cert.NearestBIdeal.nD Cert.NearestBIdeal.τ).loc Cert.NearestBIdeal.main_arg1) = m ((c.tc : Thread Cert.SearchBIdeal.nD Cert.SearchBIdeal.τ).loc Cert.SearchBIdeal.main_arg1)) →
    ∃ (v0 : (c : Dev Cert.SearchBIdeal.nD) → Buf (Elt Ideal) ((c.tc : Thread Cert.SearchBIdeal.nD Cert.SearchBIdeal.τ).loc Cert.SearchBIdeal.main_v0_0)) (v1 : (c : Dev Cert.SearchBIdeal.nD) → Buf (Elt Ideal) ((c.tc : Thread Cert.SearchBIdeal.nD Cert.SearchBIdeal.τ).loc Cert.SearchBIdeal.main_v0_1)),
      θ_run (Cert.SearchBIdeal.defs (F := Ideal)) (onTc (τ := Cert.SearchBIdeal.τ) (Cert.SearchBIdeal.main (F := Ideal))) ⟨m, fun _ => 0, g⟩ (fun r => ∀ c : Dev Cert.SearchBIdeal.nD,
          r.2.mem ((c.tc : Thread Cert.SearchBIdeal.nD Cert.SearchBIdeal.τ).loc Cert.SearchBIdeal.main_v0_0) = v0 c
          ∧ r.2.mem ((c.tc : Thread Cert.SearchBIdeal.nD Cert.SearchBIdeal.τ).loc Cert.SearchBIdeal.main_v0_1) = v1 c
          ∧ r.2.mem ((c.tc : Thread Cert.SearchBIdeal.nD Cert.SearchBIdeal.τ).loc Cert.SearchBIdeal.main_arg0) = m ((c.tc : Thread Cert.SearchBIdeal.nD Cert.SearchBIdeal.τ).loc Cert.SearchBIdeal.main_arg0)
          ∧ r.2.mem ((c.tc : Thread Cert.SearchBIdeal.nD Cert.SearchBIdeal.τ).loc Cert.SearchBIdeal.main_arg1) = m ((c.tc : Thread Cert.SearchBIdeal.nD Cert.SearchBIdeal.τ).loc Cert.SearchBIdeal.main_arg1))
      ∧ θ_run (Cert.NearestBIdeal.defs (F := Ideal)) (onTc (τ := Cert.NearestBIdeal.τ) (Cert.NearestBIdeal.main (F := Ideal))) ⟨m', fun _ => 0, g'⟩ (fun r => ∀ c : Dev Cert.NearestBIdeal.nD,
          r.2.mem ((c.tc : Thread Cert.NearestBIdeal.nD Cert.NearestBIdeal.τ).loc Cert.NearestBIdeal.main_v20) = v0 c
          ∧ r.2.mem ((c.tc : Thread Cert.NearestBIdeal.nD Cert.NearestBIdeal.τ).loc Cert.NearestBIdeal.main_v22) = v1 c
          ∧ r.2.mem ((c.tc : Thread Cert.NearestBIdeal.nD Cert.NearestBIdeal.τ).loc Cert.NearestBIdeal.main_arg0) = m' ((c.tc : Thread Cert.NearestBIdeal.nD Cert.NearestBIdeal.τ).loc Cert.NearestBIdeal.main_arg0)
          ∧ r.2.mem ((c.tc : Thread Cert.NearestBIdeal.nD Cert.NearestBIdeal.τ).loc Cert.NearestBIdeal.main_arg1) = m' ((c.tc : Thread Cert.NearestBIdeal.nD Cert.NearestBIdeal.τ).loc Cert.NearestBIdeal.main_arg1))

def Claim : Prop :=
  ∃ (hKernel : Cert.Kernel.Facts) (hKernelIdeal : Cert.KernelIdeal.Facts) (hReferenceIdeal : Cert.ReferenceIdeal.Facts) (hWholeIdeal : Cert.WholeIdeal.Facts) (hForwardIdeal : Cert.ForwardIdeal.Facts) (hSearchA : Cert.SearchA.Facts) (hSearchAIdeal : Cert.SearchAIdeal.Facts) (hNearestAIdeal : Cert.NearestAIdeal.Facts) (hSearchB : Cert.SearchB.Facts) (hSearchBIdeal : Cert.SearchBIdeal.Facts) (hNearestBIdeal : Cert.NearestBIdeal.Facts) (hPre_in_rows : Cert.Pre_in_rows.Facts) (hPre_finite : Cert.Pre_finite.Facts) (hPre_finite1 : Cert.Pre_finite1.Facts) (hPre_finite2 : Cert.Pre_finite2.Facts),
    quiescent_Kernel (hKernel := hKernel) (hPre_in_rows := hPre_in_rows)
    ∧ quiescent_KernelIdeal (hKernelIdeal := hKernelIdeal) (hPre_in_rows := hPre_in_rows)
    ∧ quiescent_ReferenceIdeal (hReferenceIdeal := hReferenceIdeal) (hPre_in_rows := hPre_in_rows)
    ∧ quiescent_WholeIdeal (hWholeIdeal := hWholeIdeal)
    ∧ quiescent_WholeIdeal_pre_finite (hWholeIdeal := hWholeIdeal) (hPre_finite := hPre_finite)
    ∧ quiescent_ForwardIdeal (hForwardIdeal := hForwardIdeal)
    ∧ quiescent_ForwardIdeal_pre_finite (hForwardIdeal := hForwardIdeal) (hPre_finite := hPre_finite)
    ∧ quiescent_SearchA (hSearchA := hSearchA)
    ∧ quiescent_SearchAIdeal (hSearchAIdeal := hSearchAIdeal)
    ∧ quiescent_SearchAIdeal_pre_finite1 (hSearchAIdeal := hSearchAIdeal) (hPre_finite1 := hPre_finite1)
    ∧ quiescent_NearestAIdeal (hNearestAIdeal := hNearestAIdeal)
    ∧ quiescent_NearestAIdeal_pre_finite1 (hNearestAIdeal := hNearestAIdeal) (hPre_finite1 := hPre_finite1)
    ∧ quiescent_SearchB (hSearchB := hSearchB)
    ∧ quiescent_SearchBIdeal (hSearchBIdeal := hSearchBIdeal)
    ∧ quiescent_SearchBIdeal_pre_finite2 (hSearchBIdeal := hSearchBIdeal) (hPre_finite2 := hPre_finite2)
    ∧ quiescent_NearestBIdeal (hNearestBIdeal := hNearestBIdeal)
    ∧ quiescent_NearestBIdeal_pre_finite2 (hNearestBIdeal := hNearestBIdeal) (hPre_finite2 := hPre_finite2)
    ∧ preserves_Kernel_KernelIdeal
    ∧ algebraic_KernelIdeal_ReferenceIdeal (hKernelIdeal := hKernelIdeal) (hReferenceIdeal := hReferenceIdeal) (hPre_in_rows := hPre_in_rows)
    ∧ algebraic_WholeIdeal_ForwardIdeal_pre_finite (hWholeIdeal := hWholeIdeal) (hForwardIdeal := hForwardIdeal) (hPre_finite := hPre_finite)
    ∧ preserves_SearchA_SearchAIdeal
    ∧ algebraic_SearchAIdeal_NearestAIdeal_pre_finite1 (hSearchAIdeal := hSearchAIdeal) (hNearestAIdeal := hNearestAIdeal) (hPre_finite1 := hPre_finite1)
    ∧ preserves_SearchB_SearchBIdeal
    ∧ algebraic_SearchBIdeal_NearestBIdeal_pre_finite2 (hSearchBIdeal := hSearchBIdeal) (hNearestBIdeal := hNearestBIdeal) (hPre_finite2 := hPre_finite2)
-- ==== Pre_finite.lean ====
abbrev S8x2048x3 : Shape := ⟨3, ![8, 2048, 3]⟩
abbrev S8x2048x128 : Shape := ⟨3, ![8, 2048, 128]⟩
abbrev S128x128 : Shape := ⟨2, ![128, 128]⟩
abbrev S128 : Shape := ⟨1, ![128]⟩
abbrev S128x3 : Shape := ⟨2, ![128, 3]⟩
abbrev S_ : Shape := ⟨0, ![]⟩

class Facts : Prop where
  bcast_S_S8x2048x3 : S_.BroadcastsInDim S8x2048x3 (![] : Fin 0 → Fin S8x2048x3.rank)
  reducesTo_S8x2048x3_S_d0_1_2 : S8x2048x3.ReducesTo [0, 1, 2] S_
  h_S_ : 0 < S_.numel
  bcast_S_S8x2048x128 : S_.BroadcastsInDim S8x2048x128 (![] : Fin 0 → Fin S8x2048x128.rank)
  reducesTo_S8x2048x128_S_d0_1_2 : S8x2048x128.ReducesTo [0, 1, 2] S_
  bcast_S_S128x128 : S_.BroadcastsInDim S128x128 (![] : Fin 0 → Fin S128x128.rank)
  reducesTo_S128x128_S_d0_1 : S128x128.ReducesTo [0, 1] S_
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg10 : FVec F S128x3 .f32) (main_arg11 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x3 .f32 := Host.absf main_arg10
  let main_cst_8 : FVec F S_ .f32 := constant S_ .f32 0x7F800000#32
  let main_v25 : FVec F S128x3 .f32 := broadcastInDim S128x3 ![] bcast_S_S128x3 main_cst_8
  let main_v26 : IVec S128x3 1 := cmpf .olt main_v24 main_v25
  let main_c_9 : IVec S_ 1 := constantI S_ 1 1#1
  let main_v27 : IVec S_ 1 := (fun x v => Host.reduce IntOp.andi x v reducesTo_S128x3_S_d0_1 h_S_) main_v26 main_c_9
  let main_v28 : IVec S_ 1 := andi main_v23 main_v27
  let main_v29 : FVec F S128 .f32 := Host.absf main_arg11
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S8x2048x3 .f32) (main_arg1 : FVec F S8x2048x128 .f32) (main_arg2 : FVec F S128x128 .f32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128 .f32) (main_arg10 : FVec F S128x3 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) : IVec S_ 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  let main_c : IVec S_ 1 := constantI S_ 1 1#1
  let main_v3 : IVec S_ 1 := (fun x v => Host.reduce IntOp.andi x v reducesTo_S8x2048x3_S_d0_1_2 h_S_) main_v2 main_c
  let main_v4 : FVec F S8x2048x128 .f32 := Host.absf main_arg1
  let main_cst_0 : FVec F S_ .f32 := constant S_ .f32 0x7F800000#32
  let main_v5 : FVec F S8x2048x128 .f32 := broadcastInDim S8x2048x128 ![] bcast_S_S8x2048x128 main_cst_0
  let main_v6 : IVec S8x2048x128 1 := cmpf .olt main_v4 main_v5
  let main_c_1 : IVec S_ 1 := constantI S_ 1 1#1
  let main_v7 : IVec S_ 1 := (fun x v => Host.reduce IntOp.andi x v reducesTo_S8x2048x128_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg10 main_arg11 main_v13 main_v16
-- ==== Pre_finite1.lean ====
abbrev S8x2048x3 : Shape := ⟨3, ![8, 2048, 3]⟩
abbrev S_ : Shape := ⟨0, ![]⟩

class Facts : Prop where
  bcast_S_S8x2048x3 : S_.BroadcastsInDim S8x2048x3 (![] : Fin 0 → Fin S8x2048x3.rank)

variable [Facts]

def fn {F : FTy → Type} [FloatOps F] (main_arg0 : FVec F S8x2048x3 .f32) : IVec S8x2048x3 1 :=
  let main_v0 : FVec F S8x2048x3 .f32 := Host.absf main_arg0
  let main_cst : FVec F S_ .f32 := constant S_ .f32 0x7F800000#32
  let main_v1 : FVec F S8x2048x3 .f32 := broadcastInDim S8x2048x3 ![] bcast_S_S8x2048x3 main_cst
  let main_v2 : IVec S8x2048x3 1 := cmpf .olt main_v0 main_v1
  main_v2
-- ==== Pre_finite2.lean ====
abbrev S8x2048x128 : Shape := ⟨3, ![8, 2048, 128]⟩
abbrev S128x128 : Shape := ⟨2, ![128, 128]⟩
abbrev S_ : Shape := ⟨0, ![]⟩

class Facts : Prop where
  bcast_S_S8x2048x128 : S_.BroadcastsInDim S8x2048x128 (![] : Fin 0 → Fin S8x2048x128.rank)

variable [Facts]

def fn {F : FTy → Type} [FloatOps F] (main_arg0 : FVec F S8x2048x128 .f32) (main_arg1 : FVec F S128x128 .f32) : IVec S8x2048x128 1 :=
  let main_v0 : FVec F S8x2048x128 .f32 := Host.absf main_arg0
  let main_cst : FVec F S_ .f32 := constant S_ .f32 0x7F800000#32
  let main_v1 : FVec F S8x2048x128 .f32 := broadcastInDim S8x2048x128 ![] bcast_S_S8x2048x128 main_cst
  let main_v2 : IVec S8x2048x128 1 := cmpf .olt main_v0 main_v1
  main_v2
-- ==== Pre_in_rows.lean ====
abbrev S8x2048x3 : Shape := ⟨3, ![8, 2048, 3]⟩
abbrev S8x2048x128 : Shape := ⟨3, ![8, 2048, 128]⟩
abbrev S128x128 : Shape := ⟨2, ![128, 128]⟩
abbrev S128 : Shape := ⟨1, ![128]⟩
abbrev S128x3 : Shape := ⟨2, ![128, 3]⟩
abbrev S8x2048x16 : Shape := ⟨3, ![8, 2048, 16]⟩
abbrev S_ : Shape := ⟨0, ![]⟩

class Facts : Prop where
  bcast_S_S8x2048x16 : S_.BroadcastsInDim S8x2048x16 (![] : Fin 0 → Fin S8x2048x16.rank)

variable [Facts]

def fn {F : FTy → Type} [FloatOps F] (main_arg0 : FVec F S8x2048x3 .f32) (main_arg1 : FVec F S8x2048x128 .f32) (main_arg2 : FVec F S128x128 .f32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128 .f32) (main_arg10 : FVec F S128x3 .f32) (main_arg11 : FVec F S128 .f32) (main_arg12 : FVec F S128x128 .f32) (main_arg13 : FVec F S128 .f32) (main_arg14 : FVec F S128 .f32) (main_arg15 : FVec F S128 .f32) (main_arg16 : FVec F S128 .f32) (main_arg17 : FVec F S128 .f32) (main_arg18 : IVec S8x2048x16 32) (main_arg19 : IVec S8x2048x16 32) : IVec S8x2048x16 1 :=
  let main_c : IVec S_ 32 := constantI S_ 32 0#32
  let main_v0 : IVec S8x2048x16 32 := broadcastInDim S8x2048x16 ![] bcast_S_S8x2048x16 main_c
  let main_v1 : IVec S8x2048x16 1 := cmpi .sge main_arg18 main_v0
  let main_c_0 : IVec S_ 32 := constantI S_ 32 16384#32
  let main_v2 : IVec S8x2048x16 32 := broadcastInDim S8x2048x16 ![] bcast_S_S8x2048x16 main_c_0
  let main_v3 : IVec S8x2048x16 1 := cmpi .slt main_arg18 main_v2
  let main_v4 : IVec S8x2048x16 1 := andi main_v1 main_v3
  let main_c_1 : IVec S_ 32 := constantI S_ 32 0#32
  let main_v5 : IVec S8x2048x16 32 := broadcastInDim S8x2048x16 ![] bcast_S_S8x2048x16 main_c_1
  let main_v6 : IVec S8x2048x16 1 := cmpi .sge main_arg19 main_v5
  let main_v7 : IVec S8x2048x16 1 := andi main_v4 main_v6
  let main_c_2 : IVec S_ 32 := constantI S_ 32 16384#32
  let main_v8 : IVec S8x2048x16 32 := broadcastInDim S8x2048x16 ![] bcast_S_S8x2048x16 main_c_2
  let main_v9 : IVec S8x2048x16 1 := cmpi .slt main_arg19 main_v8
  let main_v10 : IVec S8x2048x16 1 := andi main_v7 main_v9
  main_v10
-- ==== Kernel.lean ====
abbrev S8x2048x3 : Shape := ⟨3, ![8, 2048, 3]⟩
abbrev S8x2048x128 : Shape := ⟨3, ![8, 2048, 128]⟩
abbrev S128x128 : Shape := ⟨2, ![128, 128]⟩
abbrev S128 : Shape := ⟨1, ![128]⟩
abbrev S128x3 : Shape := ⟨2, ![128, 3]⟩
abbrev S8x2048x16 : Shape := ⟨3, ![8, 2048, 16]⟩
abbrev S1x128 : Shape := ⟨2, ![1, 128]⟩
abbrev S_ : Shape := ⟨0, ![]⟩
abbrev S8x2048x125 : Shape := ⟨3, ![8, 2048, 125]⟩
abbrev S16384x128 : Shape := ⟨2, ![16384, 128]⟩
abbrev S262144 : Shape := ⟨1, ![262144]⟩
abbrev S262144x128 : Shape := ⟨2, ![262144, 128]⟩
abbrev S512 : Shape := ⟨1, ![512]⟩
abbrev S512x128 : Shape := ⟨2, ![512, 128]⟩
abbrev S16384x16x128 : Shape := ⟨3, ![16384, 16, 128]⟩
abbrev S256x16x128 : Shape := ⟨3, ![256, 16, 128]⟩
abbrev S1x256x3 : Shape := ⟨3, ![1, 256, 3]⟩
abbrev S1x256x128 : Shape := ⟨3, ![1, 256, 128]⟩
abbrev S256x16x3 : Shape := ⟨3, ![256, 16, 3]⟩
abbrev S256x3 : Shape := ⟨2, ![256, 3]⟩
abbrev S256x1x3 : Shape := ⟨3, ![256, 1, 3]⟩
abbrev S4096x3 : Shape := ⟨2, ![4096, 3]⟩
abbrev S4096x128 : Shape := ⟨2, ![4096, 128]⟩
abbrev S256x128 : Shape := ⟨2, ![256, 128]⟩
abbrev S256x1x128 : Shape := ⟨3, ![256, 1, 128]⟩
abbrev S256x16 : Shape := ⟨2, ![256, 16]⟩
abbrev S256 : Shape := ⟨1, ![256]⟩
abbrev S256x1 : Shape := ⟨2, ![256, 1]⟩
abbrev S256x16x1 : Shape := ⟨3, ![256, 16, 1]⟩
abbrev S1x2048x128 : Shape := ⟨3, ![1, 2048, 128]⟩
abbrev S1x256x16 : Shape := ⟨3, ![1, 256, 16]⟩
abbrev S2048x128 : Shape := ⟨2, ![2048, 128]⟩
abbrev S2048 : Shape := ⟨1, ![2048]⟩
abbrev S2048x1 : Shape := ⟨2, ![2048, 1]⟩
abbrev S1x2048 : Shape := ⟨2, ![1, 2048]⟩
abbrev S256x2048 : Shape := ⟨2, ![256, 2048]⟩
abbrev S2048x8x128 : Shape := ⟨3, ![2048, 8, 128]⟩

abbrev nBuf : Table → Nat
  | .hbm => 46
  | .local .tc .vmem => 44
  | .local .scVector .vmem => 4
  | _ => 0

abbrev bufTy : (tb : Table) → Fin (nBuf tb) → BufTy
  | .hbm, ⟨0, _⟩ => ⟨S8x2048x3, .f32⟩
  | .hbm, ⟨1, _⟩ => ⟨S8x2048x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x3, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S8x2048x16, .i32⟩
  | .hbm, ⟨19, _⟩ => ⟨S8x2048x16, .i32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S_, .f32⟩
  | .hbm, ⟨28, _⟩ => ⟨S8x2048x125, .f32⟩
  | .hbm, ⟨29, _⟩ => ⟨S8x2048x128, .f32⟩
  | .hbm, ⟨30, _⟩ => ⟨S16384x128, .f32⟩
  | .hbm, ⟨31, _⟩ => ⟨S16384x128, .f32⟩
  | .hbm, ⟨32, _⟩ => ⟨S262144, .i32⟩
  | .hbm, ⟨33, _⟩ => ⟨S262144x128, .f32⟩
  | .hbm, ⟨34, _⟩ => ⟨S262144x128, .f32⟩
  | .hbm, ⟨35, _⟩ => ⟨S16384x16x128, .f32⟩
  | .hbm, ⟨36, _⟩ => ⟨S16384x16x128, .f32⟩
  | .hbm, ⟨37, _⟩ => ⟨S8x2048x128, .f32⟩
  | .hbm, ⟨38, _⟩ => ⟨S8x2048x16, .i32⟩
  | .hbm, ⟨39, _⟩ => ⟨S8x2048x128, .f32⟩
  | .hbm, ⟨40, _⟩ => ⟨S16384x128, .f32⟩
  | .hbm, ⟨41, _⟩ => ⟨S262144, .i32⟩
  | .hbm, ⟨42, _⟩ => ⟨S262144x128, .f32⟩
  | .hbm, ⟨43, _⟩ => ⟨S16384x16x128, .f32⟩
  | .hbm, ⟨44, _⟩ => ⟨S8x2048x128, .f32⟩
  | .hbm, ⟨45, _⟩ => ⟨S2048x8x128, .f32⟩
  | .local .tc .vmem, ⟨0, _⟩ => ⟨S256x16x128, .f32⟩
  | .local .tc .vmem, ⟨1, _⟩ => ⟨S256x16x128, .f32⟩
  | .local .tc .vmem, ⟨2, _⟩ => ⟨S256x16x128, .f32⟩
  | .local .tc .vmem, ⟨3, _⟩ => ⟨S256x16x128, .f32⟩
  | .local .tc .vmem, ⟨4, _⟩ => ⟨S1x256x3, .f32⟩
  | .local .tc .vmem, ⟨5, _⟩ => ⟨S1x256x3, .f32⟩
  | .local .tc .vmem, ⟨6, _⟩ => ⟨S1x256x128, .f32⟩
  | .local .tc .vmem, ⟨7, _⟩ => ⟨S1x256x128, .f32⟩
  | .local .tc .vmem, ⟨8, _⟩ => ⟨S128x128, .f32⟩
  | .local .tc .vmem, ⟨9, _⟩ => ⟨S128x128, .f32⟩
  | .local .tc .vmem, ⟨10, _⟩ => ⟨S128x128, .f32⟩
  | .local .tc .vmem, ⟨11, _⟩ => ⟨S128x3, .f32⟩
  | .local .tc .vmem, ⟨12, _⟩ => ⟨S1x128, .f32⟩
  | .local .tc .vmem, ⟨13, _⟩ => ⟨S1x256x128, .f32⟩
  | .local .tc .vmem, ⟨14, _⟩ => ⟨S1x256x128, .f32⟩
  | .local .tc .vmem, ⟨15, _⟩ => ⟨S1x256x128, .f32⟩
  | .local .tc .vmem, ⟨16, _⟩ => ⟨S1x256x128, .f32⟩
  | .local .tc .vmem, ⟨17, _⟩ => ⟨S1x2048x128, .f32⟩
  | .local .tc .vmem, ⟨18, _⟩ => ⟨S1x2048x128, .f32⟩
  | .local .tc .vmem, ⟨19, _⟩ => ⟨S128x128, .f32⟩
  | .local .tc .vmem, ⟨20, _⟩ => ⟨S1x256x16, .i32⟩
  | .local .tc .vmem, ⟨21, _⟩ => ⟨S1x256x16, .i32⟩
  | .local .tc .vmem, ⟨22, _⟩ => ⟨S1x256x128, .f32⟩
  | .local .tc .vmem, ⟨23, _⟩ => ⟨S1x256x128, .f32⟩
  | .local .tc .vmem, ⟨24, _⟩ => ⟨S256x16x128, .f32⟩
  | .local .tc .vmem, ⟨25, _⟩ => ⟨S256x16x128, .f32⟩
  | .local .tc .vmem, ⟨26, _⟩ => ⟨S1x256x128, .f32⟩
  | .local .tc .vmem, ⟨27, _⟩ => ⟨S1x256x128, .f32⟩
  | .local .tc .vmem, ⟨28, _⟩ => ⟨S1x256x128, .f32⟩
  | .local .tc .vmem, ⟨29, _⟩ => ⟨S1x256x128, .f32⟩
  | .local .tc .vmem, ⟨30, _⟩ => ⟨S128x128, .f32⟩
  | .local .tc .vmem, ⟨31, _⟩ => ⟨S1x128, .f32⟩
  | .local .tc .vmem, ⟨32, _⟩ => ⟨S128x128, .f32⟩
  | .local .tc .vmem, ⟨33, _⟩ => ⟨S128x128, .f32⟩
  | .local .tc .vmem, ⟨34, _⟩ => ⟨S1x256x128, .f32⟩
  | .local .tc .vmem, ⟨35, _⟩ => ⟨S1x256x128, .f32⟩
  | .local .tc .vmem, ⟨36, _⟩ => ⟨S128x128, .f32⟩
  | .local .tc .vmem, ⟨37, _⟩ => ⟨S1x128, .f32⟩
  | .local .tc .vmem, ⟨38, _⟩ => ⟨S1x128, .f32⟩
  | .local .tc .vmem, ⟨39, _⟩ => ⟨S1x128, .f32⟩
  | .local .tc .vmem, ⟨40, _⟩ => ⟨S1x128, .f32⟩
  | .local .tc .vmem, ⟨41, _⟩ => ⟨S1x128, .f32⟩
  | .local .tc .vmem, ⟨42, _⟩ => ⟨S1x256x128, .f32⟩
  | .local .tc .vmem, ⟨43, _⟩ => ⟨S1x256x128, .f32⟩
  | .local .scVector .vmem, ⟨0, _⟩ => ⟨S512, .i32⟩
  | .local .scVector .vmem, ⟨1, _⟩ => ⟨S512x128, .f32⟩
  | .local .scVector .vmem, ⟨2, _⟩ => ⟨S512, .i32⟩
  | .local .scVector .vmem, ⟨3, _⟩ => ⟨S512x128, .f32⟩
  | _, _ => ⟨S8x2048x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 51 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => false
  | ⟨29, _⟩ => false
  | ⟨30, _⟩ => false
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTables nBuf rfl bufTy 4 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12_0 : Ref sig .tc := ⟨.hbm, 33, rfl⟩
abbrev main_v12_1 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16_0 : Ref sig .tc := ⟨.hbm, 38, rfl⟩
abbrev main_v16_1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v9_scv : Ref sig .scVector := ⟨.hbm, 30, rfl⟩
abbrev main_v10_scv : Ref sig .scVector := ⟨.hbm, 31, rfl⟩
abbrev main_v11_scv : Ref sig .scVector := ⟨.hbm, 32, rfl⟩
abbrev main_v12_0_scv : Ref sig .scVector := ⟨.hbm, 33, rfl⟩
abbrev main_v12_1_scv : Ref sig .scVector := ⟨.hbm, 34, rfl⟩
abbrev main_v17_scv : Ref sig .scVector := ⟨.hbm, 40, rfl⟩
abbrev main_v18_scv : Ref sig .scVector := ⟨.hbm, 41, rfl⟩
abbrev main_v19_scv : Ref sig .scVector := ⟨.hbm, 42, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg9_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg5_0 : Ref sig .tc := ⟨.vmem, 32, rfl⟩
abbrev cc4_stg6_0 : Ref sig .tc := ⟨.vmem, 33, rfl⟩
abbrev cc4_stg7_0 : Ref sig .tc := ⟨.vmem, 34, rfl⟩
abbrev cc4_stg7_1 : Ref sig .tc := ⟨.vmem, 35, rfl⟩
abbrev cc4_stg8_0 : Ref sig .tc := ⟨.vmem, 36, rfl⟩
abbrev cc4_stg9_0 : Ref sig .tc := ⟨.vmem, 37, rfl⟩
abbrev cc4_stg10_0 : Ref sig .tc := ⟨.vmem, 38, rfl⟩
abbrev cc4_stg11_0 : Ref sig .tc := ⟨.vmem, 39, rfl⟩
abbrev cc4_stg12_0 : Ref sig .tc := ⟨.vmem, 40, rfl⟩
abbrev cc4_stg13_0 : Ref sig .tc := ⟨.vmem, 41, rfl⟩
abbrev cc4_stg14_0 : Ref sig .tc := ⟨.vmem, 42, rfl⟩
abbrev cc4_stg14_1 : Ref sig .tc := ⟨.vmem, 43, rfl⟩
abbrev cc0_scratch0 : Ref sig .scVector := ⟨.vmem, 0, rfl⟩
abbrev cc0_scratch1 : Ref sig .scVector := ⟨.vmem, 1, rfl⟩
abbrev cc3_scratch0 : Ref sig .scVector := ⟨.vmem, 2, rfl⟩
abbrev cc3_scratch1 : Ref sig .scVector := ⟨.vmem, 3, rfl⟩
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem4_1 : DmaSem sig := 27
abbrev cc4_sem0_0 : DmaSem sig := 31
abbrev cc4_sem0_1 : DmaSem sig := 32
abbrev cc4_sem1_0 : DmaSem sig := 33
abbrev cc4_sem1_1 : DmaSem sig := 34
abbrev cc4_sem2_0 : DmaSem sig := 35
abbrev cc4_sem2_1 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem7_0 : DmaSem sig := 41
abbrev cc4_sem7_1 : DmaSem sig := 42
abbrev cc4_sem8_0 : DmaSem sig := 43
abbrev cc4_sem9_0 : DmaSem sig := 44
abbrev cc4_sem10_0 : DmaSem sig := 45
abbrev cc4_sem11_0 : DmaSem sig := 46
abbrev cc4_sem12_0 : DmaSem sig := 47
abbrev cc4_sem13_0 : DmaSem sig := 48
abbrev cc4_sem14_0 : DmaSem sig := 49
abbrev cc4_sem14_1 : DmaSem sig := 50
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg10 : BitVec 32 := Scf.iv c0_i32_0 c1_i32 k0_t1
  let c512_i32 : BitVec 32 := 512#32
  let v4 : BitVec 32 := Scalar.muli arg10 c512_i32
  let v5 : BitVec 32 := Scalar.addi v2 v4
  ![v5.toNat]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg10 : BitVec 32 := Scf.iv c0_i32_0 c1_i32 k0_t1
  let c512_i32 : BitVec 32 := 512#32
  let v4 : BitVec 32 := Scalar.muli arg10 c512_i32
  let v5 : BitVec 32 := Scalar.addi v2 v4
  let c0_i32_10_r1 : BitVec 32 := 0#32
  ![v5.toNat, 0]
abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S256x16x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S128x3 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 2 → Memref sig .tc .vmem S1x256x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x256x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x256x16 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x256x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![2, 16], ![false, false]⟩

@[reducible] def k3_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k3_off1 (i : grid3.Coords) (k3_t1 : Fin k3_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k3_t1
  let c512_i32 : BitVec 32 := 512#32
  let v4 : BitVec 32 := Scalar.muli arg8 c512_i32
  let v5 : BitVec 32 := Scalar.addi v2 v4
  ![v5.toNat]
def k3_off2 (i : grid3.Coords) (k3_t1 : Fin k3_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k3_t1
  let c512_i32 : BitVec 32 := 512#32
  let v4 : BitVec 32 := Scalar.muli arg8 c512_i32
  let v5 : BitVec 32 := Scalar.addi v2 v4
  let c0_i32_6_r1 : BitVec 32 := 0#32
  ![v5.toNat, 0]
abbrev grid4 : Pipeline.Grid := ⟨2, ![8, 8], ![false, false]⟩

def cc4_transform_0 (i : grid4.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_14 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S256x16x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1x256x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 2 → Memref sig .tc .vmem S1x256x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false, false]

abbrev stage4_7 : Fin 2 → Memref sig .tc .vmem S1x256x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true, true]

abbrev stage4_8 : Fin 1 → Memref sig .tc .vmem S128x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false, false]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false, false]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false, false]

abbrev stage4_11 : Fin 1 → Memref sig .tc .vmem S1x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false, false]

abbrev stage4_12 : Fin 1 → Memref sig .tc .vmem S1x128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false, false]

abbrev stage4_13 : Fin 1 → Memref sig .tc .vmem S1x128 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false, false]

abbrev stage4_14 : Fin 2 → Memref sig .tc .vmem S1x256x128 .f32 := fun | 0 => Memref.whole cc4_stg14_0 | 1 => Memref.whole cc4_stg14_1 | ⟨_ + 2, h⟩ => absurd h (Nat.not_lt.2 (Nat.le_add_left _ _))
abbrev sem4_14 : Fin 2 → DmaSem sig := fun | 0 => cc4_sem14_0 | 1 => cc4_sem14_1 | ⟨_ + 2, h⟩ => absurd h (Nat.not_lt.2 (Nat.le_add_left _ _))
abbrev reads4_14 : Fin grid4.rank → Bool := ![true, true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S8x2048x3 : Shape := ⟨3, ![8, 2048, 3]⟩
abbrev S8x2048x128 : Shape := ⟨3, ![8, 2048, 128]⟩
abbrev S128x128 : Shape := ⟨2, ![128, 128]⟩
abbrev S128 : Shape := ⟨1, ![128]⟩
abbrev S128x3 : Shape := ⟨2, ![128, 3]⟩
abbrev S8x2048x16 : Shape := ⟨3, ![8, 2048, 16]⟩
abbrev S16384x3 : Shape := ⟨2, ![16384, 3]⟩
abbrev S_ : Shape := ⟨0, ![]⟩
abbrev S8x2048x16x1 : Shape := ⟨4, ![8, 2048, 16, 1]⟩
abbrev S8x2048x16x3 : Shape := ⟨4, ![8, 2048, 16, 3]⟩
abbrev S8x2048x1x3 : Shape := ⟨4, ![8, 2048, 1, 3]⟩
abbrev S3x128 : Shape := ⟨2, ![3, 128]⟩
abbrev S8x2048x16x128 : Shape := ⟨4, ![8, 2048, 16, 128]⟩
abbrev S1x1x1x128 : Shape := ⟨4, ![1, 1, 1, 128]⟩
abbrev S16384x128 : Shape := ⟨2, ![16384, 128]⟩
abbrev S8x2048x128x16 : Shape := ⟨4, ![8, 2048, 128, 16]⟩
abbrev S8x2048 : Shape := ⟨2, ![8, 2048]⟩
abbrev S8x2048x1 : Shape := ⟨3, ![8, 2048, 1]⟩
abbrev S8x2048x1x128 : Shape := ⟨4, ![8, 2048, 1, 128]⟩
abbrev S1x1x128 : Shape := ⟨3, ![1, 1, 128]⟩
abbrev S2048x8x128 : Shape := ⟨3, ![2048, 8, 128]⟩

abbrev nBuf : Space → Nat
  | .hbm => 216
  | .vmem => 0
  | .smem => 0
  | _ => 0

abbrev hbmTy0_0 (i : Nat) : BufTy := match i % 128 with
  | 0 => ⟨S8x2048x3, .f32⟩
  | 1 => ⟨S8x2048x128, .f32⟩
  | 2 => ⟨S128x128, .f32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128, .f32⟩
  | 10 => ⟨S128x3, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S8x2048x16, .i32⟩
  | 19 => ⟨S8x2048x16, .i32⟩
  | 20 => ⟨S16384x3, .f32⟩
  | 21 => ⟨S_, .i32⟩
  | 22 => ⟨S8x2048x16, .i32⟩
  | 23 => ⟨S8x2048x16, .i1⟩
  | 24 => ⟨S_, .i32⟩
  | 25 => ⟨S8x2048x16, .i32⟩
  | 26 => ⟨S8x2048x16, .i32⟩
  | 27 => ⟨S8x2048x16, .i32⟩
  | 28 => ⟨S8x2048x16x1, .i32⟩
  | 29 => ⟨S8x2048x16x3, .f32⟩
  | 30 => ⟨S8x2048x1x3, .f32⟩
  | 31 => ⟨S8x2048x16x3, .f32⟩
  | 32 => ⟨S8x2048x16x3, .f32⟩
  | 33 => ⟨S3x128, .f32⟩
  | 34 => ⟨S8x2048x16x128, .f32⟩
  | 35 => ⟨S1x1x1x128, .f32⟩
  | 36 => ⟨S8x2048x16x128, .f32⟩
  | 37 => ⟨S8x2048x16x128, .f32⟩
  | 38 => ⟨S16384x128, .f32⟩
  | 39 => ⟨S_, .i32⟩
  | 40 => ⟨S8x2048x16, .i32⟩
  | 41 => ⟨S8x2048x16, .i1⟩
  | 42 => ⟨S_, .i32⟩
  | 43 => ⟨S8x2048x16, .i32⟩
  | 44 => ⟨S8x2048x16, .i32⟩
  | 45 => ⟨S8x2048x16, .i32⟩
  | 46 => ⟨S8x2048x16x1, .i32⟩
  | 47 => ⟨S8x2048x16x128, .f32⟩
  | 48 => ⟨S8x2048x16x128, .f32⟩
  | 49 => ⟨S128x128, .f32⟩
  | 50 => ⟨S8x2048x128, .f32⟩
  | 51 => ⟨S128x128, .f32⟩
  | 52 => ⟨S8x2048x16x128, .f32⟩
  | 53 => ⟨S128x128, .f32⟩
  | 54 => ⟨S8x2048x16x128, .f32⟩
  | 55 => ⟨S8x2048x128x16, .f32⟩
  | 56 => ⟨S8x2048x16, .f32⟩
  | 57 => ⟨S_, .f32⟩
  | 58 => ⟨S8x2048x16, .f32⟩
  | 59 => ⟨S8x2048x16, .f32⟩
  | 60 => ⟨S_, .f32⟩
  | 61 => ⟨S8x2048, .f32⟩
  | 62 => ⟨S_, .f32⟩
  | 63 => ⟨S8x2048, .f32⟩
  | 64 => ⟨S8x2048, .f32⟩
  | 65 => ⟨S8x2048x1, .f32⟩
  | 66 => ⟨S8x2048x16, .f32⟩
  | 67 => ⟨S8x2048x16, .f32⟩
  | 68 => ⟨S8x2048x16, .f32⟩
  | 69 => ⟨S_, .f32⟩
  | 70 => ⟨S8x2048, .f32⟩
  | 71 => ⟨S8x2048x1, .f32⟩
  | 72 => ⟨S8x2048x16, .f32⟩
  | 73 => ⟨S8x2048x16, .f32⟩
  | 74 => ⟨S8x2048x128, .f32⟩
  | 75 => ⟨S16384x128, .f32⟩
  | 76 => ⟨S_, .i32⟩
  | 77 => ⟨S8x2048x16, .i32⟩
  | 78 => ⟨S8x2048x16, .i1⟩
  | 79 => ⟨S_, .i32⟩
  | 80 => ⟨S8x2048x16, .i32⟩
  | 81 => ⟨S8x2048x16, .i32⟩
  | 82 => ⟨S8x2048x16, .i32⟩
  | 83 => ⟨S8x2048x16x1, .i32⟩
  | 84 => ⟨S8x2048x16x128, .f32⟩
  | 85 => ⟨S8x2048x1x128, .f32⟩
  | 86 => ⟨S8x2048x16x128, .f32⟩
  | 87 => ⟨S8x2048x16x128, .f32⟩
  | 88 => ⟨S128x128, .f32⟩
  | 89 => ⟨S8x2048x16x128, .f32⟩
  | 90 => ⟨S1x1x1x128, .f32⟩
  | 91 => ⟨S8x2048x16x128, .f32⟩
  | 92 => ⟨S8x2048x16x128, .f32⟩
  | 93 => ⟨S8x2048x16x128, .f32⟩
  | 94 => ⟨S128x128, .f32⟩
  | 95 => ⟨S8x2048x128, .f32⟩
  | 96 => ⟨S128x128, .f32⟩
  | 97 => ⟨S8x2048x16x128, .f32⟩
  | 98 => ⟨S128x128, .f32⟩
  | 99 => ⟨S8x2048x16x128, .f32⟩
  | 100 => ⟨S8x2048x128x16, .f32⟩
  | 101 => ⟨S8x2048x16, .f32⟩
  | 102 => ⟨S_, .f32⟩
  | 103 => ⟨S8x2048x16, .f32⟩
  | 104 => ⟨S8x2048x16, .f32⟩
  | 105 => ⟨S_, .f32⟩
  | 106 => ⟨S8x2048, .f32⟩
  | 107 => ⟨S_, .f32⟩
  | 108 => ⟨S8x2048, .f32⟩
  | 109 => ⟨S8x2048, .f32⟩
  | 110 => ⟨S8x2048x1, .f32⟩
  | 111 => ⟨S8x2048x16, .f32⟩
  | 112 => ⟨S8x2048x16, .f32⟩
  | 113 => ⟨S8x2048x16, .f32⟩
  | 114 => ⟨S_, .f32⟩
  | 115 => ⟨S8x2048, .f32⟩
  | 116 => ⟨S8x2048x1, .f32⟩
  | 117 => ⟨S8x2048x16, .f32⟩
  | 118 => ⟨S8x2048x16, .f32⟩
  | 119 => ⟨S8x2048x128, .f32⟩
  | 120 => ⟨S8x2048x128, .f32⟩
  | 121 => ⟨S_, .f32⟩
  | 122 => ⟨S8x2048, .f32⟩
  | 123 => ⟨S8x2048x1, .f32⟩
  | 124 => ⟨S_, .f32⟩
  | 125 => ⟨S8x2048x1, .f32⟩
  | 126 => ⟨S8x2048x1, .f32⟩
  | 127 => ⟨S_, .i32⟩
  | _ => ⟨S8x2048x3, .f32⟩

abbrev hbmTy0_1 (i : Nat) : BufTy := match i % 128 with
  | 0 => ⟨S_, .f32⟩
  | 1 => ⟨S8x2048, .f32⟩
  | 2 => ⟨S8x2048x1, .f32⟩
  | 3 => ⟨S_, .f32⟩
  | 4 => ⟨S8x2048x1, .f32⟩
  | 5 => ⟨S8x2048x1, .f32⟩
  | 6 => ⟨S8x2048x128, .f32⟩
  | 7 => ⟨S8x2048x128, .f32⟩
  | 8 => ⟨S8x2048x128, .f32⟩
  | 9 => ⟨S_, .f32⟩
  | 10 => ⟨S_, .f32⟩
  | 11 => ⟨S_, .f32⟩
  | 12 => ⟨S_, .f32⟩
  | 13 => ⟨S8x2048, .f32⟩
  | 14 => ⟨S8x2048x1, .f32⟩
  | 15 => ⟨S8x2048x1, .f32⟩
  | 16 => ⟨S8x2048x1, .f32⟩
  | 17 => ⟨S_, .f32⟩
  | 18 => ⟨S_, .i1⟩
  | 19 => ⟨S_, .f32⟩
  | 20 => ⟨S_, .f32⟩
  | 21 => ⟨S8x2048x1, .f32⟩
  | 22 => ⟨S8x2048x1, .f32⟩
  | 23 => ⟨S8x2048x128, .f32⟩
  | 24 => ⟨S8x2048x128, .f32⟩
  | 25 => ⟨S_, .f32⟩
  | 26 => ⟨S8x2048x1, .f32⟩
  | 27 => ⟨S8x2048x1, .f32⟩
  | 28 => ⟨S8x2048x1, .f32⟩
  | 29 => ⟨S8x2048x128, .f32⟩
  | 30 => ⟨S8x2048x128, .f32⟩
  | 31 => ⟨S1x1x128, .f32⟩
  | 32 => ⟨S8x2048x128, .f32⟩
  | 33 => ⟨S8x2048x128, .f32⟩
  | 34 => ⟨S1x1x128, .f32⟩
  | 35 => ⟨S8x2048x128, .f32⟩
  | 36 => ⟨S8x2048x128, .f32⟩
  | 37 => ⟨S128x128, .f32⟩
  | 38 => ⟨S8x2048x128, .f32⟩
  | 39 => ⟨S1x1x128, .f32⟩
  | 40 => ⟨S8x2048x128, .f32⟩
  | 41 => ⟨S8x2048x128, .f32⟩
  | 42 => ⟨S8x2048x128, .f32⟩
  | 43 => ⟨S_, .f32⟩
  | 44 => ⟨S8x2048, .f32⟩
  | 45 => ⟨S8x2048x1, .f32⟩
  | 46 => ⟨S_, .f32⟩
  | 47 => ⟨S8x2048x1, .f32⟩
  | 48 => ⟨S8x2048x1, .f32⟩
  | 49 => ⟨S_, .i32⟩
  | 50 => ⟨S_, .f32⟩
  | 51 => ⟨S8x2048, .f32⟩
  | 52 => ⟨S8x2048x1, .f32⟩
  | 53 => ⟨S_, .f32⟩
  | 54 => ⟨S8x2048x1, .f32⟩
  | 55 => ⟨S8x2048x1, .f32⟩
  | 56 => ⟨S8x2048x128, .f32⟩
  | 57 => ⟨S8x2048x128, .f32⟩
  | 58 => ⟨S8x2048x128, .f32⟩
  | 59 => ⟨S_, .f32⟩
  | 60 => ⟨S_, .f32⟩
  | 61 => ⟨S_, .f32⟩
  | 62 => ⟨S_, .f32⟩
  | 63 => ⟨S8x2048, .f32⟩
  | 64 => ⟨S8x2048x1, .f32⟩
  | 65 => ⟨S8x2048x1, .f32⟩
  | 66 => ⟨S8x2048x1, .f32⟩
  | 67 => ⟨S_, .f32⟩
  | 68 => ⟨S_, .i1⟩
  | 69 => ⟨S_, .f32⟩
  | 70 => ⟨S_, .f32⟩
  | 71 => ⟨S8x2048x1, .f32⟩
  | 72 => ⟨S8x2048x1, .f32⟩
  | 73 => ⟨S8x2048x128, .f32⟩
  | 74 => ⟨S8x2048x128, .f32⟩
  | 75 => ⟨S_, .f32⟩
  | 76 => ⟨S8x2048x1, .f32⟩
  | 77 => ⟨S8x2048x1, .f32⟩
  | 78 => ⟨S8x2048x1, .f32⟩
  | 79 => ⟨S8x2048x128, .f32⟩
  | 80 => ⟨S8x2048x128, .f32⟩
  | 81 => ⟨S1x1x128, .f32⟩
  | 82 => ⟨S8x2048x128, .f32⟩
  | 83 => ⟨S8x2048x128, .f32⟩
  | 84 => ⟨S1x1x128, .f32⟩
  | 85 => ⟨S8x2048x128, .f32⟩
  | 86 => ⟨S8x2048x128, .f32⟩
  | 87 => ⟨S2048x8x128, .f32⟩
  | _ => ⟨S8x2048x3, .f32⟩

abbrev hbmTy (i : Nat) : BufTy := match i / 128 with
  | 0 => hbmTy0_0 i
  | 1 => hbmTy0_1 i
  | _ => ⟨S8x2048x3, .f32⟩

abbrev bufTy : (tb : Table) → Fin (tcTables nBuf tb) → BufTy
  | .hbm, ⟨i, _⟩ => hbmTy i
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_c : Ref sig .tc := ⟨.hbm, 21, rfl⟩
abbrev main_v1 : Ref sig .tc := ⟨.hbm, 22, rfl⟩
abbrev main_v2 : Ref sig .tc := ⟨.hbm, 23, rfl⟩
abbrev main_c_0 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_c_1 : Ref sig .tc := ⟨.hbm, 39, rfl⟩
abbrev main_v17 : Ref sig .tc := ⟨.hbm, 40, rfl⟩
abbrev main_v18 : Ref sig .tc := ⟨.hbm, 41, rfl⟩
abbrev main_c_2 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst : Ref sig .tc := ⟨.hbm, 57, rfl⟩
abbrev main_v33 : Ref sig .tc := ⟨.hbm, 58, rfl⟩
abbrev main_v34 : Ref sig .tc := ⟨.hbm, 59, rfl⟩
abbrev main_cst_3 : Ref sig .tc := ⟨.hbm, 60, rfl⟩
abbrev main_v35 : Ref sig .tc := ⟨.hbm, 61, rfl⟩
abbrev main_cst_4 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_5 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_6 : Ref sig .tc := ⟨.hbm, 76, rfl⟩
abbrev main_v48 : Ref sig .tc := ⟨.hbm, 77, rfl⟩
abbrev main_v49 : Ref sig .tc := ⟨.hbm, 78, rfl⟩
abbrev main_c_7 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_8 : Ref sig .tc := ⟨.hbm, 102, rfl⟩
abbrev main_v72 : Ref sig .tc := ⟨.hbm, 103, rfl⟩
abbrev main_v73 : Ref sig .tc := ⟨.hbm, 104, rfl⟩
abbrev main_cst_9 : Ref sig .tc := ⟨.hbm, 105, rfl⟩
abbrev main_v74 : Ref sig .tc := ⟨.hbm, 106, rfl⟩
abbrev main_cst_10 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_11 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_cst_12 : Ref sig .tc := ⟨.hbm, 121, rfl⟩
abbrev main_v87 : Ref sig .tc := ⟨.hbm, 122, rfl⟩
abbrev main_v88 : Ref sig .tc := ⟨.hbm, 123, rfl⟩
abbrev main_cst_13 : Ref sig .tc := ⟨.hbm, 124, rfl⟩
abbrev main_v89 : Ref sig .tc := ⟨.hbm, 125, rfl⟩
abbrev main_v90 : Ref sig .tc := ⟨.hbm, 126, rfl⟩
abbrev main_c_14 : Ref sig .tc := ⟨.hbm, 127, rfl⟩
abbrev main_call0_cst : Ref sig .tc := ⟨.hbm, 128, rfl⟩
abbrev main_call0_v0 : Ref sig .tc := ⟨.hbm, 129, rfl⟩
abbrev main_call0_v1 : Ref sig .tc := ⟨.hbm, 130, rfl⟩
abbrev main_call0_cst_0 : Ref sig .tc := ⟨.hbm, 131, rfl⟩
abbrev main_call0_v2 : Ref sig .tc := ⟨.hbm, 132, rfl⟩
abbrev main_call0_v3 : Ref sig .tc := ⟨.hbm, 133, rfl⟩
abbrev main_call0_v4 : Ref sig .tc := ⟨.hbm, 134, rfl⟩
abbrev main_call0_v5 : Ref sig .tc := ⟨.hbm, 135, rfl⟩
abbrev main_call0_v6 : Ref sig .tc := ⟨.hbm, 136, rfl⟩
abbrev main_call0_v7 : Ref sig .tc := ⟨.hbm, 137, rfl⟩
abbrev main_call0_cst_1 : Ref sig .tc := ⟨.hbm, 138, rfl⟩
abbrev main_call0_v8 : Ref sig .tc := ⟨.hbm, 139, rfl⟩
abbrev main_call0_cst_2 : Ref sig .tc := ⟨.hbm, 140, rfl⟩
abbrev main_call0_v9 : Ref sig .tc := ⟨.hbm, 141, rfl⟩
abbrev main_call0_v10 : Ref sig .tc := ⟨.hbm, 142, rfl⟩
abbrev main_call0_v11 : Ref sig .tc := ⟨.hbm, 143, rfl⟩
abbrev main_call0_v12 : Ref sig .tc := ⟨.hbm, 144, rfl⟩
abbrev main_call0_cst_3 : Ref sig .tc := ⟨.hbm, 145, rfl⟩
abbrev main_call0_v13 : Ref sig .tc := ⟨.hbm, 146, rfl⟩
abbrev main_call0_cst_4 : Ref sig .tc := ⟨.hbm, 147, rfl⟩
abbrev main_call0_call0_v0 : Ref sig .tc := ⟨.hbm, 148, rfl⟩
abbrev main_call0_call0_v1 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_cst_15 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_cst_16 : Ref sig .tc := ⟨.hbm, 171, rfl⟩
abbrev main_v111 : Ref sig .tc := ⟨.hbm, 172, rfl⟩
abbrev main_v112 : Ref sig .tc := ⟨.hbm, 173, rfl⟩
abbrev main_cst_17 : Ref sig .tc := ⟨.hbm, 174, rfl⟩
abbrev main_v113 : Ref sig .tc := ⟨.hbm, 175, rfl⟩
abbrev main_v114 : Ref sig .tc := ⟨.hbm, 176, rfl⟩
abbrev main_c_18 : Ref sig .tc := ⟨.hbm, 177, rfl⟩
abbrev main_call1_cst : Ref sig .tc := ⟨.hbm, 178, rfl⟩
abbrev main_call1_v0 : Ref sig .tc := ⟨.hbm, 179, rfl⟩
abbrev main_call1_v1 : Ref sig .tc := ⟨.hbm, 180, rfl⟩
abbrev main_call1_cst_0 : Ref sig .tc := ⟨.hbm, 181, rfl⟩
abbrev main_call1_v2 : Ref sig .tc := ⟨.hbm, 182, rfl⟩
abbrev main_call1_v3 : Ref sig .tc := ⟨.hbm, 183, rfl⟩
abbrev main_call1_v4 : Ref sig .tc := ⟨.hbm, 184, rfl⟩
abbrev main_call1_v5 : Ref sig .tc := ⟨.hbm, 185, rfl⟩
abbrev main_call1_v6 : Ref sig .tc := ⟨.hbm, 186, rfl⟩
abbrev main_call1_v7 : Ref sig .tc := ⟨.hbm, 187, rfl⟩
abbrev main_call1_cst_1 : Ref sig .tc := ⟨.hbm, 188, rfl⟩
abbrev main_call1_v8 : Ref sig .tc := ⟨.hbm, 189, rfl⟩
abbrev main_call1_cst_2 : Ref sig .tc := ⟨.hbm, 190, rfl⟩
abbrev main_call1_v9 : Ref sig .tc := ⟨.hbm, 191, rfl⟩
abbrev main_call1_v10 : Ref sig .tc := ⟨.hbm, 192, rfl⟩
abbrev main_call1_v11 : Ref sig .tc := ⟨.hbm, 193, rfl⟩
abbrev main_call1_v12 : Ref sig .tc := ⟨.hbm, 194, rfl⟩
abbrev main_call1_cst_3 : Ref sig .tc := ⟨.hbm, 195, rfl⟩
abbrev main_call1_v13 : Ref sig .tc := ⟨.hbm, 196, rfl⟩
abbrev main_call1_cst_4 : Ref sig .tc := ⟨.hbm, 197, rfl⟩
abbrev main_call1_call0_v0 : Ref sig .tc := ⟨.hbm, 198, rfl⟩
abbrev main_call1_call0_v1 : Ref sig .tc := ⟨.hbm, 199, rfl⟩
abbrev main_v115 : Ref sig .tc := ⟨.hbm, 200, rfl⟩
abbrev main_v116 : Ref sig .tc := ⟨.hbm, 201, rfl⟩
abbrev main_v117 : Ref sig .tc := ⟨.hbm, 202, rfl⟩
abbrev main_cst_19 : Ref sig .tc := ⟨.hbm, 203, rfl⟩
abbrev main_v118 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩

abbrev nD : Nat := 1
abbrev τ : Topo := Topo.v7x

variable {F : FTy → Type} [FloatOps F]
-- ==== WholeIdeal.lean ====
abbrev S8x2048x3 : Shape := ⟨3, ![8, 2048, 3]⟩
abbrev S8x2048x128 : Shape := ⟨3, ![8, 2048, 128]⟩
abbrev S128x128 : Shape := ⟨2, ![128, 128]⟩
abbrev S128 : Shape := ⟨1, ![128]⟩
abbrev S128x3 : Shape := ⟨2, ![128, 3]⟩
abbrev S1x128 : Shape := ⟨2, ![1, 128]⟩
abbrev S_ : Shape := ⟨0, ![]⟩
abbrev S8x2048x125 : Shape := ⟨3, ![8, 2048, 125]⟩
abbrev S8x2048x16 : Shape := ⟨3, ![8, 2048, 16]⟩
abbrev S1x256x3 : Shape := ⟨3, ![1, 256, 3]⟩
abbrev S1x2048x3 : Shape := ⟨3, ![1, 2048, 3]⟩
abbrev S1x256x16 : Shape := ⟨3, ![1, 256, 16]⟩
abbrev S256x3 : Shape := ⟨2, ![256, 3]⟩
abbrev S2048x3 : Shape := ⟨2, ![2048, 3]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S1x2048 : Shape := ⟨2, ![1, 2048]⟩
abbrev S256x2048 : Shape := ⟨2, ![256, 2048]⟩
abbrev S256x16 : Shape := ⟨2, ![256, 16]⟩
abbrev S16384x128 : Shape := ⟨2, ![16384, 128]⟩
abbrev S262144 : Shape := ⟨1, ![262144]⟩
abbrev S262144x128 : Shape := ⟨2, ![262144, 128]⟩
abbrev S512 : Shape := ⟨1, ![512]⟩
abbrev S512x128 : Shape := ⟨2, ![512, 128]⟩
abbrev S16384x16x128 : Shape := ⟨3, ![16384, 16, 128]⟩
abbrev S256x16x128 : Shape := ⟨3, ![256, 16, 128]⟩
abbrev S1x256x128 : Shape := ⟨3, ![1, 256, 128]⟩
abbrev S256x16x3 : Shape := ⟨3, ![256, 16, 3]⟩
abbrev S256x1x3 : Shape := ⟨3, ![256, 1, 3]⟩
abbrev S4096x3 : Shape := ⟨2, ![4096, 3]⟩
abbrev S4096x128 : Shape := ⟨2, ![4096, 128]⟩
abbrev S256x128 : Shape := ⟨2, ![256, 128]⟩
abbrev S256x1x128 : Shape := ⟨3, ![256, 1, 128]⟩
abbrev S256x16x1 : Shape := ⟨3, ![256, 16, 1]⟩
abbrev S1x2048x128 : Shape := ⟨3, ![1, 2048, 128]⟩
abbrev S2048x128 : Shape := ⟨2, ![2048, 128]⟩
abbrev S2048x8x128 : Shape := ⟨3, ![2048, 8, 128]⟩

abbrev nBuf : Table → Nat
  | .hbm => 45
  | .local .tc .vmem => 50
  | .local .scVector .vmem => 4
  | _ => 0

abbrev bufTy : (tb : Table) → Fin (nBuf tb) → BufTy
  | .hbm, ⟨0, _⟩ => ⟨S8x2048x3, .f32⟩
  | .hbm, ⟨1, _⟩ => ⟨S8x2048x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128, .f32⟩
  | .hbm, ⟨10, _⟩ => ⟨S128x3, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S_, .f32⟩
  | .hbm, ⟨26, _⟩ => ⟨S8x2048x125, .f32⟩
  | .hbm, ⟨27, _⟩ => ⟨S8x2048x128, .f32⟩
  | .hbm, ⟨28, _⟩ => ⟨S8x2048x16, .i32⟩
  | .hbm, ⟨29, _⟩ => ⟨S16384x128, .f32⟩
  | .hbm, ⟨30, _⟩ => ⟨S16384x128, .f32⟩
  | .hbm, ⟨31, _⟩ => ⟨S262144, .i32⟩
  | .hbm, ⟨32, _⟩ => ⟨S262144x128, .f32⟩
  | .hbm, ⟨33, _⟩ => ⟨S262144x128, .f32⟩
  | .hbm, ⟨34, _⟩ => ⟨S16384x16x128, .f32⟩
  | .hbm, ⟨35, _⟩ => ⟨S16384x16x128, .f32⟩
  | .hbm, ⟨36, _⟩ => ⟨S8x2048x128, .f32⟩
  | .hbm, ⟨37, _⟩ => ⟨S8x2048x16, .i32⟩
  | .hbm, ⟨38, _⟩ => ⟨S8x2048x128, .f32⟩
  | .hbm, ⟨39, _⟩ => ⟨S16384x128, .f32⟩
  | .hbm, ⟨40, _⟩ => ⟨S262144, .i32⟩
  | .hbm, ⟨41, _⟩ => ⟨S262144x128, .f32⟩
  | .hbm, ⟨42, _⟩ => ⟨S16384x16x128, .f32⟩
  | .hbm, ⟨43, _⟩ => ⟨S8x2048x128, .f32⟩
  | .hbm, ⟨44, _⟩ => ⟨S2048x8x128, .f32⟩
  | .local .tc .vmem, ⟨0, _⟩ => ⟨S1x256x3, .f32⟩
  | .local .tc .vmem, ⟨1, _⟩ => ⟨S1x256x3, .f32⟩
  | .local .tc .vmem, ⟨2, _⟩ => ⟨S1x2048x3, .f32⟩
  | .local .tc .vmem, ⟨3, _⟩ => ⟨S1x2048x3, .f32⟩
  | .local .tc .vmem, ⟨4, _⟩ => ⟨S1x256x16, .i32⟩
  | .local .tc .vmem, ⟨5, _⟩ => ⟨S1x256x16, .i32⟩
  | .local .tc .vmem, ⟨6, _⟩ => ⟨S256x16x128, .f32⟩
  | .local .tc .vmem, ⟨7, _⟩ => ⟨S256x16x128, .f32⟩
  | .local .tc .vmem, ⟨8, _⟩ => ⟨S256x16x128, .f32⟩
  | .local .tc .vmem, ⟨9, _⟩ => ⟨S256x16x128, .f32⟩
  | .local .tc .vmem, ⟨10, _⟩ => ⟨S1x256x3, .f32⟩
  | .local .tc .vmem, ⟨11, _⟩ => ⟨S1x256x3, .f32⟩
  | .local .tc .vmem, ⟨12, _⟩ => ⟨S1x256x128, .f32⟩
  | .local .tc .vmem, ⟨13, _⟩ => ⟨S1x256x128, .f32⟩
  | .local .tc .vmem, ⟨14, _⟩ => ⟨S128x128, .f32⟩
  | .local .tc .vmem, ⟨15, _⟩ => ⟨S128x128, .f32⟩
  | .local .tc .vmem, ⟨16, _⟩ => ⟨S128x128, .f32⟩
  | .local .tc .vmem, ⟨17, _⟩ => ⟨S128x3, .f32⟩
  | .local .tc .vmem, ⟨18, _⟩ => ⟨S1x128, .f32⟩
  | .local .tc .vmem, ⟨19, _⟩ => ⟨S1x256x128, .f32⟩
  | .local .tc .vmem, ⟨20, _⟩ => ⟨S1x256x128, .f32⟩
  | .local .tc .vmem, ⟨21, _⟩ => ⟨S1x256x128, .f32⟩
  | .local .tc .vmem, ⟨22, _⟩ => ⟨S1x256x128, .f32⟩
  | .local .tc .vmem, ⟨23, _⟩ => ⟨S1x2048x128, .f32⟩
  | .local .tc .vmem, ⟨24, _⟩ => ⟨S1x2048x128, .f32⟩
  | .local .tc .vmem, ⟨25, _⟩ => ⟨S128x128, .f32⟩
  | .local .tc .vmem, ⟨26, _⟩ => ⟨S1x256x16, .i32⟩
  | .local .tc .vmem, ⟨27, _⟩ => ⟨S1x256x16, .i32⟩
  | .local .tc .vmem, ⟨28, _⟩ => ⟨S1x256x128, .f32⟩
  | .local .tc .vmem, ⟨29, _⟩ => ⟨S1x256x128, .f32⟩
  | .local .tc .vmem, ⟨30, _⟩ => ⟨S256x16x128, .f32⟩
  | .local .tc .vmem, ⟨31, _⟩ => ⟨S256x16x128, .f32⟩
  | .local .tc .vmem, ⟨32, _⟩ => ⟨S1x256x128, .f32⟩
  | .local .tc .vmem, ⟨33, _⟩ => ⟨S1x256x128, .f32⟩
  | .local .tc .vmem, ⟨34, _⟩ => ⟨S1x256x128, .f32⟩
  | .local .tc .vmem, ⟨35, _⟩ => ⟨S1x256x128, .f32⟩
  | .local .tc .vmem, ⟨36, _⟩ => ⟨S128x128, .f32⟩
  | .local .tc .vmem, ⟨37, _⟩ => ⟨S1x128, .f32⟩
  | .local .tc .vmem, ⟨38, _⟩ => ⟨S128x128, .f32⟩
  | .local .tc .vmem, ⟨39, _⟩ => ⟨S128x128, .f32⟩
  | .local .tc .vmem, ⟨40, _⟩ => ⟨S1x256x128, .f32⟩
  | .local .tc .vmem, ⟨41, _⟩ => ⟨S1x256x128, .f32⟩
  | .local .tc .vmem, ⟨42, _⟩ => ⟨S128x128, .f32⟩
  | .local .tc .vmem, ⟨43, _⟩ => ⟨S1x128, .f32⟩
  | .local .tc .vmem, ⟨44, _⟩ => ⟨S1x128, .f32⟩
  | .local .tc .vmem, ⟨45, _⟩ => ⟨S1x128, .f32⟩
  | .local .tc .vmem, ⟨46, _⟩ => ⟨S1x128, .f32⟩
  | .local .tc .vmem, ⟨47, _⟩ => ⟨S1x128, .f32⟩
  | .local .tc .vmem, ⟨48, _⟩ => ⟨S1x256x128, .f32⟩
  | .local .tc .vmem, ⟨49, _⟩ => ⟨S1x256x128, .f32⟩
  | .local .scVector .vmem, ⟨0, _⟩ => ⟨S512, .i32⟩
  | .local .scVector .vmem, ⟨1, _⟩ => ⟨S512x128, .f32⟩
  | .local .scVector .vmem, ⟨2, _⟩ => ⟨S512, .i32⟩
  | .local .scVector .vmem, ⟨3, _⟩ => ⟨S512x128, .f32⟩
  | _, _ => ⟨S8x2048x3, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 57 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => false
  | ⟨35, _⟩ => false
  | ⟨36, _⟩ => false
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | _ => false

abbrev sig : RefSig :=
  ofTables nBuf rfl bufTy 4 57 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13_0 : Ref sig .tc := ⟨.hbm, 32, rfl⟩
abbrev main_v13_1 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17_0 : Ref sig .tc := ⟨.hbm, 37, rfl⟩
abbrev main_v17_1 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v10_scv : Ref sig .scVector := ⟨.hbm, 29, rfl⟩
abbrev main_v11_scv : Ref sig .scVector := ⟨.hbm, 30, rfl⟩
abbrev main_v12_scv : Ref sig .scVector := ⟨.hbm, 31, rfl⟩
abbrev main_v13_0_scv : Ref sig .scVector := ⟨.hbm, 32, rfl⟩
abbrev main_v13_1_scv : Ref sig .scVector := ⟨.hbm, 33, rfl⟩
abbrev main_v18_scv : Ref sig .scVector := ⟨.hbm, 39, rfl⟩
abbrev main_v19_scv : Ref sig .scVector := ⟨.hbm, 40, rfl⟩
abbrev main_v20_scv : Ref sig .scVector := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg0_1 : Ref sig .tc := ⟨.vmem, 7, rfl⟩
abbrev cc2_stg1_0 : Ref sig .tc := ⟨.vmem, 8, rfl⟩
abbrev cc2_stg1_1 : Ref sig .tc := ⟨.vmem, 9, rfl⟩
abbrev cc2_stg2_0 : Ref sig .tc := ⟨.vmem, 10, rfl⟩
abbrev cc2_stg2_1 : Ref sig .tc := ⟨.vmem, 11, rfl⟩
abbrev cc2_stg3_0 : Ref sig .tc := ⟨.vmem, 12, rfl⟩
abbrev cc2_stg3_1 : Ref sig .tc := ⟨.vmem, 13, rfl⟩
abbrev cc2_stg4_0 : Ref sig .tc := ⟨.vmem, 14, rfl⟩
abbrev cc2_stg5_0 : Ref sig .tc := ⟨.vmem, 15, rfl⟩
abbrev cc2_stg6_0 : Ref sig .tc := ⟨.vmem, 16, rfl⟩
abbrev cc2_stg7_0 : Ref sig .tc := ⟨.vmem, 17, rfl⟩
abbrev cc2_stg8_0 : Ref sig .tc := ⟨.vmem, 18, rfl⟩
abbrev cc2_stg9_0 : Ref sig .tc := ⟨.vmem, 19, rfl⟩
abbrev cc2_stg9_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc3_stg4_0 : Ref sig .tc := ⟨.vmem, 28, rfl⟩
abbrev cc3_stg4_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc5_stg3_0 : Ref sig .tc := ⟨.vmem, 36, rfl⟩
abbrev cc5_stg4_0 : Ref sig .tc := ⟨.vmem, 37, rfl⟩
abbrev cc5_stg5_0 : Ref sig .tc := ⟨.vmem, 38, rfl⟩
abbrev cc5_stg6_0 : Ref sig .tc := ⟨.vmem, 39, rfl⟩
abbrev cc5_stg7_0 : Ref sig .tc := ⟨.vmem, 40, rfl⟩
abbrev cc5_stg7_1 : Ref sig .tc := ⟨.vmem, 41, rfl⟩
abbrev cc5_stg8_0 : Ref sig .tc := ⟨.vmem, 42, rfl⟩
abbrev cc5_stg9_0 : Ref sig .tc := ⟨.vmem, 43, rfl⟩
abbrev cc5_stg10_0 : Ref sig .tc := ⟨.vmem, 44, rfl⟩
abbrev cc5_stg11_0 : Ref sig .tc := ⟨.vmem, 45, rfl⟩
abbrev cc5_stg12_0 : Ref sig .tc := ⟨.vmem, 46, rfl⟩
abbrev cc5_stg13_0 : Ref sig .tc := ⟨.vmem, 47, rfl⟩
abbrev cc5_stg14_0 : Ref sig .tc := ⟨.vmem, 48, rfl⟩
abbrev cc5_stg14_1 : Ref sig .tc := ⟨.vmem, 49, rfl⟩
abbrev cc1_scratch0 : Ref sig .scVector := ⟨.vmem, 0, rfl⟩
abbrev cc1_scratch1 : Ref sig .scVector := ⟨.vmem, 1, rfl⟩
abbrev cc4_scratch0 : Ref sig .scVector := ⟨.vmem, 2, rfl⟩
abbrev cc4_scratch1 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem5_0 : DmaSem sig := 19
abbrev cc2_sem6_0 : DmaSem sig := 20
abbrev cc2_sem7_0 : DmaSem sig := 21
abbrev cc2_sem8_0 : DmaSem sig := 22
abbrev cc2_sem9_0 : DmaSem sig := 23
abbrev cc2_sem9_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem3_1 : DmaSem sig := 31
abbrev cc3_sem4_0 : DmaSem sig := 32
abbrev cc3_sem4_1 : DmaSem sig := 33
abbrev cc5_sem0_0 : DmaSem sig := 37
abbrev cc5_sem0_1 : DmaSem sig := 38
abbrev cc5_sem1_0 : DmaSem sig := 39
abbrev cc5_sem1_1 : DmaSem sig := 40
abbrev cc5_sem2_0 : DmaSem sig := 41
abbrev cc5_sem2_1 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem7_0 : DmaSem sig := 47
abbrev cc5_sem7_1 : DmaSem sig := 48
abbrev cc5_sem8_0 : DmaSem sig := 49
abbrev cc5_sem9_0 : DmaSem sig := 50
abbrev cc5_sem10_0 : DmaSem sig := 51
abbrev cc5_sem11_0 : DmaSem sig := 52
abbrev cc5_sem12_0 : DmaSem sig := 53
abbrev cc5_sem13_0 : DmaSem sig := 54
abbrev cc5_sem14_0 : DmaSem sig := 55
abbrev cc5_sem14_1 : DmaSem sig := 56
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

@[reducible] def k1_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k1_off1 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg10 : BitVec 32 := Scf.iv c0_i32_0 c1_i32 k1_t1
  let c512_i32 : BitVec 32 := 512#32
  let v4 : BitVec 32 := Scalar.muli arg10 c512_i32
  let v5 : BitVec 32 := Scalar.addi v2 v4
  ![v5.toNat]
def k1_off2 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg10 : BitVec 32 := Scf.iv c0_i32_0 c1_i32 k1_t1
  let c512_i32 : BitVec 32 := 512#32
  let v4 : BitVec 32 := Scalar.muli arg10 c512_i32
  let v5 : BitVec 32 := Scalar.addi v2 v4
  let c0_i32_10_r1 : BitVec 32 := 0#32
  ![v5.toNat, 0]
abbrev grid2 : Pipeline.Grid := ⟨2, ![8, 8], ![false, false]⟩

def cc2_transform_0 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S256x16x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S256x16x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x256x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S128x3 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 2 → Memref sig .tc .vmem S1x256x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true, true]

abbrev grid3 : Pipeline.Grid := ⟨2, ![8, 8], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x2048x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 2 → Memref sig .tc .vmem S1x256x16 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1x256x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]

abbrev grid4 : Pipeline.Grid := ⟨2, ![2, 16], ![false, false]⟩

@[reducible] def k4_t1_loop : Scf.Loop 32 :=
  let c0_i32_0 : BitVec 32 := 0#32
  let c16_i32 : BitVec 32 := 16#32
  let v3 : BitVec 32 := Scalar.addi c0_i32_0 c16_i32
  let c1_i32 : BitVec 32 := 1#32
  ⟨c0_i32_0, v3, c1_i32⟩
def k4_off1 (i : grid4.Coords) (k4_t1 : Fin k4_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k4_t1
  let c512_i32 : BitVec 32 := 512#32
  let v4 : BitVec 32 := Scalar.muli arg8 c512_i32
  let v5 : BitVec 32 := Scalar.addi v2 v4
  ![v5.toNat]
def k4_off2 (i : grid4.Coords) (k4_t1 : Fin k4_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg8 : BitVec 32 := Scf.iv c0_i32_0 c1_i32 k4_t1
  let c512_i32 : BitVec 32 := 512#32
  let v4 : BitVec 32 := Scalar.muli arg8 c512_i32
  let v5 : BitVec 32 := Scalar.addi v2 v4
  let c0_i32_6_r1 : BitVec 32 := 0#32
  ![v5.toNat, 0]
abbrev grid5 : Pipeline.Grid := ⟨2, ![8, 8], ![false, false]⟩

def cc5_transform_0 (i : grid5.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_2 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc5_transform_8 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_11 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_13 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_14 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage5_0 : Fin 2 → Memref sig .tc .vmem S256x16x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S1x256x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, true]

abbrev stage5_2 : Fin 2 → Memref sig .tc .vmem S1x256x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false, false]

abbrev stage5_6 : Fin 1 → Memref sig .tc .vmem S128x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false, false]

abbrev stage5_7 : Fin 2 → Memref sig .tc .vmem S1x256x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true, true]

abbrev stage5_8 : Fin 1 → Memref sig .tc .vmem S128x128 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false, false]

abbrev stage5_9 : Fin 1 → Memref sig .tc .vmem S1x128 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false, false]

abbrev stage5_10 : Fin 1 → Memref sig .tc .vmem S1x128 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false, false]

abbrev stage5_11 : Fin 1 → Memref sig .tc .vmem S1x128 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false, false]

abbrev stage5_12 : Fin 1 → Memref sig .tc .vmem S1x128 .f32 := fun | 0 => Memref.whole cc5_stg12_0 | ⟨_ + 1, h⟩ => absurd h (Nat.not_lt.2 (Nat.le_add_left _ _))
abbrev sem5_12 : Fin 1 → DmaSem sig := fun | 0 => cc5_sem12_0 | ⟨_ + 1, h⟩ => absurd h (Nat.not_lt.2 (Nat.le_add_left _ _))
abbrev reads5_12 : Fin grid5.rank → Bool := ![false, false]

abbrev stage5_13 : Fin 1 → Memref sig .tc .vmem S1x128 .f32 := fun | 0 => Memref.whole cc5_stg13_0 | ⟨_ + 1, h⟩ => absurd h (Nat.not_lt.2 (Nat.le_add_left _ _))
abbrev sem5_13 : Fin 1 → DmaSem sig := fun | 0 => cc5_sem13_0 | ⟨_ + 1, h⟩ => absurd h (Nat.not_lt.2 (Nat.le_add_left _ _))
abbrev reads5_13 : Fin grid5.rank → Bool := ![false, false]

abbrev stage5_14 : Fin 2 → Memref sig .tc .vmem S1x256x128 .f32 := fun | 0 => Memref.whole cc5_stg14_0 | 1 => Memref.whole cc5_stg14_1 | ⟨_ + 2, h⟩ => absurd h (Nat.not_lt.2 (Nat.le_add_left _ _))
abbrev sem5_14 : Fin 2 → DmaSem sig := fun | 0 => cc5_sem14_0 | 1 => cc5_sem14_1 | ⟨_ + 2, h⟩ => absurd h (Nat.not_lt.2 (Nat.le_add_left _ _))
abbrev reads5_14 : Fin grid5.rank → Bool := ![true, true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ForwardIdeal.lean ====
abbrev S8x2048x3 : Shape := ⟨3, ![8, 2048, 3]⟩
abbrev S8x2048x128 : Shape := ⟨3, ![8, 2048, 128]⟩
abbrev S128x128 : Shape := ⟨2, ![128, 128]⟩
abbrev S128 : Shape := ⟨1, ![128]⟩
abbrev S128x3 : Shape := ⟨2, ![128, 3]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S8x2048x16 : Shape := ⟨3, ![8, 2048, 16]⟩
abbrev S8x2048x16x1 : Shape := ⟨4, ![8, 2048, 16, 1]⟩
abbrev S8x2048x16x3 : Shape := ⟨4, ![8, 2048, 16, 3]⟩
abbrev S8x2048x1x3 : Shape := ⟨4, ![8, 2048, 1, 3]⟩
abbrev S3x128 : Shape := ⟨2, ![3, 128]⟩
abbrev S8x2048x16x128 : Shape := ⟨4, ![8, 2048, 16, 128]⟩
abbrev S1x1x1x128 : Shape := ⟨4, ![1, 1, 1, 128]⟩
abbrev S8x2048x128x16 : Shape := ⟨4, ![8, 2048, 128, 16]⟩
abbrev S8x2048x1x128 : Shape := ⟨4, ![8, 2048, 1, 128]⟩
abbrev S1x1x128 : Shape := ⟨3, ![1, 1, 128]⟩
abbrev S2048x8x128 : Shape := ⟨3, ![2048, 8, 128]⟩

abbrev nBuf : Space → Nat
  | .hbm => 251
  | .vmem => 0
  | .smem => 0
  | _ => 0

abbrev hbmTy0_0 (i : Nat) : BufTy := match i % 128 with
  | 0 => ⟨S8x2048x3, .f32⟩
  | 1 => ⟨S8x2048x128, .f32⟩
  | 2 => ⟨S128x128, .f32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128, .f32⟩
  | 10 => ⟨S128x3, .f32⟩
  | 11 => ⟨S128, .f32⟩
  | 12 => ⟨S128x128, .f32⟩
  | 13 => ⟨S128, .f32⟩
  | 14 => ⟨S128, .f32⟩
  | 15 => ⟨S128, .f32⟩
  | 16 => ⟨S128, .f32⟩
  | 17 => ⟨S128, .f32⟩
  | 18 => ⟨S8x2048x3, .f32⟩
  | 19 => ⟨S_, .f32⟩
  | 20 => ⟨S8x2048, .f32⟩
  | 21 => ⟨S8x2048x1, .f32⟩
  | 22 => ⟨S8x1x2048, .f32⟩
  | 23 => ⟨S8x2048x2048, .f32⟩
  | 24 => ⟨S8x2048x2048, .f32⟩
  | 25 => ⟨S8x2048x2048, .f32⟩
  | 26 => ⟨S8x2048x2048, .f32⟩
  | 27 => ⟨S_, .f32⟩
  | 28 => ⟨S8x2048x2048, .f32⟩
  | 29 => ⟨S8x2048x2048, .f32⟩
  | 30 => ⟨S8x2048x2048, .f32⟩
  | 31 => ⟨S_, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x16, .f32⟩
  | 37 => ⟨S8x2048x16, .i32⟩
  | 38 => ⟨S_, .i32⟩
  | 39 => ⟨S8x2048x16, .i32⟩
  | 40 => ⟨S8x2048x16, .i1⟩
  | 41 => ⟨S_, .i32⟩
  | 42 => ⟨S8x2048x16, .i32⟩
  | 43 => ⟨S8x2048x16, .i32⟩
  | 44 => ⟨S8x2048x16, .i32⟩
  | 45 => ⟨S8x2048x16x1, .i32⟩
  | 46 => ⟨S8x2048x16x3, .f32⟩
  | 47 => ⟨S8x2048x1x3, .f32⟩
  | 48 => ⟨S8x2048x16x3, .f32⟩
  | 49 => ⟨S8x2048x16x3, .f32⟩
  | 50 => ⟨S3x128, .f32⟩
  | 51 => ⟨S8x2048x16x128, .f32⟩
  | 52 => ⟨S1x1x1x128, .f32⟩
  | 53 => ⟨S8x2048x16x128, .f32⟩
  | 54 => ⟨S8x2048x16x128, .f32⟩
  | 55 => ⟨S_, .i32⟩
  | 56 => ⟨S8x2048x16, .i32⟩
  | 57 => ⟨S8x2048x16, .i1⟩
  | 58 => ⟨S_, .i32⟩
  | 59 => ⟨S8x2048x16, .i32⟩
  | 60 => ⟨S8x2048x16, .i32⟩
  | 61 => ⟨S8x2048x16, .i32⟩
  | 62 => ⟨S8x2048x16x1, .i32⟩
  | 63 => ⟨S8x2048x16x128, .f32⟩
  | 64 => ⟨S8x2048x16x128, .f32⟩
  | 65 => ⟨S128x128, .f32⟩
  | 66 => ⟨S8x2048x128, .f32⟩
  | 67 => ⟨S128x128, .f32⟩
  | 68 => ⟨S8x2048x16x128, .f32⟩
  | 69 => ⟨S128x128, .f32⟩
  | 70 => ⟨S8x2048x16x128, .f32⟩
  | 71 => ⟨S8x2048x128x16, .f32⟩
  | 72 => ⟨S8x2048x16, .f32⟩
  | 73 => ⟨S_, .f32⟩
  | 74 => ⟨S8x2048x16, .f32⟩
  | 75 => ⟨S8x2048x16, .f32⟩
  | 76 => ⟨S_, .f32⟩
  | 77 => ⟨S8x2048, .f32⟩
  | 78 => ⟨S_, .f32⟩
  | 79 => ⟨S8x2048, .f32⟩
  | 80 => ⟨S8x2048, .f32⟩
  | 81 => ⟨S8x2048x1, .f32⟩
  | 82 => ⟨S8x2048x16, .f32⟩
  | 83 => ⟨S8x2048x16, .f32⟩
  | 84 => ⟨S8x2048x16, .f32⟩
  | 85 => ⟨S_, .f32⟩
  | 86 => ⟨S8x2048, .f32⟩
  | 87 => ⟨S8x2048x1, .f32⟩
  | 88 => ⟨S8x2048x16, .f32⟩
  | 89 => ⟨S8x2048x16, .f32⟩
  | 90 => ⟨S8x2048x128, .f32⟩
  | 91 => ⟨S8x2048x128, .f32⟩
  | 92 => ⟨S_, .f32⟩
  | 93 => ⟨S8x2048, .f32⟩
  | 94 => ⟨S8x2048x1, .f32⟩
  | 95 => ⟨S8x1x2048, .f32⟩
  | 96 => ⟨S8x2048x2048, .f32⟩
  | 97 => ⟨S8x2048x2048, .f32⟩
  | 98 => ⟨S8x2048x2048, .f32⟩
  | 99 => ⟨S8x2048x2048, .f32⟩
  | 100 => ⟨S_, .f32⟩
  | 101 => ⟨S8x2048x2048, .f32⟩
  | 102 => ⟨S8x2048x2048, .f32⟩
  | 103 => ⟨S8x2048x2048, .f32⟩
  | 104 => ⟨S_, .f32⟩
  | 105 => ⟨S8x2048x2048, .f32⟩
  | 106 => ⟨S8x2048x2048, .f32⟩
  | 107 => ⟨S8x2048x2048, .f32⟩
  | 108 => ⟨S8x2048x2048, .f32⟩
  | 109 => ⟨S8x2048x16, .f32⟩
  | 110 => ⟨S8x2048x16, .i32⟩
  | 111 => ⟨S_, .i32⟩
  | 112 => ⟨S8x2048x16, .i32⟩
  | 113 => ⟨S8x2048x16, .i1⟩
  | 114 => ⟨S_, .i32⟩
  | 115 => ⟨S8x2048x16, .i32⟩
  | 116 => ⟨S8x2048x16, .i32⟩
  | 117 => ⟨S8x2048x16, .i32⟩
  | 118 => ⟨S8x2048x16x1, .i32⟩
  | 119 => ⟨S8x2048x16x128, .f32⟩
  | 120 => ⟨S8x2048x1x128, .f32⟩
  | 121 => ⟨S8x2048x16x128, .f32⟩
  | 122 => ⟨S8x2048x16x128, .f32⟩
  | 123 => ⟨S128x128, .f32⟩
  | 124 => ⟨S8x2048x16x128, .f32⟩
  | 125 => ⟨S1x1x1x128, .f32⟩
  | 126 => ⟨S8x2048x16x128, .f32⟩
  | 127 => ⟨S8x2048x16x128, .f32⟩
  | _ => ⟨S8x2048x3, .f32⟩

abbrev hbmTy0_1 (i : Nat) : BufTy := match i % 128 with
  | 0 => ⟨S8x2048x16x128, .f32⟩
  | 1 => ⟨S128x128, .f32⟩
  | 2 => ⟨S8x2048x128, .f32⟩
  | 3 => ⟨S128x128, .f32⟩
  | 4 => ⟨S8x2048x16x128, .f32⟩
  | 5 => ⟨S128x128, .f32⟩
  | 6 => ⟨S8x2048x16x128, .f32⟩
  | 7 => ⟨S8x2048x128x16, .f32⟩
  | 8 => ⟨S8x2048x16, .f32⟩
  | 9 => ⟨S_, .f32⟩
  | 10 => ⟨S8x2048x16, .f32⟩
  | 11 => ⟨S8x2048x16, .f32⟩
  | 12 => ⟨S_, .f32⟩
  | 13 => ⟨S8x2048, .f32⟩
  | 14 => ⟨S_, .f32⟩
  | 15 => ⟨S8x2048, .f32⟩
  | 16 => ⟨S8x2048, .f32⟩
  | 17 => ⟨S8x2048x1, .f32⟩
  | 18 => ⟨S8x2048x16, .f32⟩
  | 19 => ⟨S8x2048x16, .f32⟩
  | 20 => ⟨S8x2048x16, .f32⟩
  | 21 => ⟨S_, .f32⟩
  | 22 => ⟨S8x2048, .f32⟩
  | 23 => ⟨S8x2048x1, .f32⟩
  | 24 => ⟨S8x2048x16, .f32⟩
  | 25 => ⟨S8x2048x16, .f32⟩
  | 26 => ⟨S8x2048x128, .f32⟩
  | 27 => ⟨S8x2048x128, .f32⟩
  | 28 => ⟨S_, .f32⟩
  | 29 => ⟨S8x2048, .f32⟩
  | 30 => ⟨S8x2048x1, .f32⟩
  | 31 => ⟨S_, .f32⟩
  | 32 => ⟨S8x2048x1, .f32⟩
  | 33 => ⟨S8x2048x1, .f32⟩
  | 34 => ⟨S_, .i32⟩
  | 35 => ⟨S_, .f32⟩
  | 36 => ⟨S8x2048, .f32⟩
  | 37 => ⟨S8x2048x1, .f32⟩
  | 38 => ⟨S_, .f32⟩
  | 39 => ⟨S8x2048x1, .f32⟩
  | 40 => ⟨S8x2048x1, .f32⟩
  | 41 => ⟨S8x2048x128, .f32⟩
  | 42 => ⟨S8x2048x128, .f32⟩
  | 43 => ⟨S8x2048x128, .f32⟩
  | 44 => ⟨S_, .f32⟩
  | 45 => ⟨S_, .f32⟩
  | 46 => ⟨S_, .f32⟩
  | 47 => ⟨S_, .f32⟩
  | 48 => ⟨S8x2048, .f32⟩
  | 49 => ⟨S8x2048x1, .f32⟩
  | 50 => ⟨S8x2048x1, .f32⟩
  | 51 => ⟨S8x2048x1, .f32⟩
  | 52 => ⟨S_, .f32⟩
  | 53 => ⟨S_, .i1⟩
  | 54 => ⟨S_, .f32⟩
  | 55 => ⟨S_, .f32⟩
  | 56 => ⟨S8x2048x1, .f32⟩
  | 57 => ⟨S8x2048x1, .f32⟩
  | 58 => ⟨S8x2048x128, .f32⟩
  | 59 => ⟨S8x2048x128, .f32⟩
  | 60 => ⟨S_, .f32⟩
  | 61 => ⟨S8x2048x1, .f32⟩
  | 62 => ⟨S8x2048x1, .f32⟩
  | 63 => ⟨S8x2048x1, .f32⟩
  | 64 => ⟨S8x2048x128, .f32⟩
  | 65 => ⟨S8x2048x128, .f32⟩
  | 66 => ⟨S1x1x128, .f32⟩
  | 67 => ⟨S8x2048x128, .f32⟩
  | 68 => ⟨S8x2048x128, .f32⟩
  | 69 => ⟨S1x1x128, .f32⟩
  | 70 => ⟨S8x2048x128, .f32⟩
  | 71 => ⟨S8x2048x128, .f32⟩
  | 72 => ⟨S128x128, .f32⟩
  | 73 => ⟨S8x2048x128, .f32⟩
  | 74 => ⟨S1x1x128, .f32⟩
  | 75 => ⟨S8x2048x128, .f32⟩
  | 76 => ⟨S8x2048x128, .f32⟩
  | 77 => ⟨S8x2048x128, .f32⟩
  | 78 => ⟨S_, .f32⟩
  | 79 => ⟨S8x2048, .f32⟩
  | 80 => ⟨S8x2048x1, .f32⟩
  | 81 => ⟨S_, .f32⟩
  | 82 => ⟨S8x2048x1, .f32⟩
  | 83 => ⟨S8x2048x1, .f32⟩
  | 84 => ⟨S_, .i32⟩
  | 85 => ⟨S_, .f32⟩
  | 86 => ⟨S8x2048, .f32⟩
  | 87 => ⟨S8x2048x1, .f32⟩
  | 88 => ⟨S_, .f32⟩
  | 89 => ⟨S8x2048x1, .f32⟩
  | 90 => ⟨S8x2048x1, .f32⟩
  | 91 => ⟨S8x2048x128, .f32⟩
  | 92 => ⟨S8x2048x128, .f32⟩
  | 93 => ⟨S8x2048x128, .f32⟩
  | 94 => ⟨S_, .f32⟩
  | 95 => ⟨S_, .f32⟩
  | 96 => ⟨S_, .f32⟩
  | 97 => ⟨S_, .f32⟩
  | 98 => ⟨S8x2048, .f32⟩
  | 99 => ⟨S8x2048x1, .f32⟩
  | 100 => ⟨S8x2048x1, .f32⟩
  | 101 => ⟨S8x2048x1, .f32⟩
  | 102 => ⟨S_, .f32⟩
  | 103 => ⟨S_, .i1⟩
  | 104 => ⟨S_, .f32⟩
  | 105 => ⟨S_, .f32⟩
  | 106 => ⟨S8x2048x1, .f32⟩
  | 107 => ⟨S8x2048x1, .f32⟩
  | 108 => ⟨S8x2048x128, .f32⟩
  | 109 => ⟨S8x2048x128, .f32⟩
  | 110 => ⟨S_, .f32⟩
  | 111 => ⟨S8x2048x1, .f32⟩
  | 112 => ⟨S8x2048x1, .f32⟩
  | 113 => ⟨S8x2048x1, .f32⟩
  | 114 => ⟨S8x2048x128, .f32⟩
  | 115 => ⟨S8x2048x128, .f32⟩
  | 116 => ⟨S1x1x128, .f32⟩
  | 117 => ⟨S8x2048x128, .f32⟩
  | 118 => ⟨S8x2048x128, .f32⟩
  | 119 => ⟨S1x1x128, .f32⟩
  | 120 => ⟨S8x2048x128, .f32⟩
  | 121 => ⟨S8x2048x128, .f32⟩
  | 122 => ⟨S2048x8x128, .f32⟩
  | _ => ⟨S8x2048x3, .f32⟩

abbrev hbmTy (i : Nat) : BufTy := match i / 128 with
  | 0 => hbmTy0_0 i
  | 1 => hbmTy0_1 i
  | _ => ⟨S8x2048x3, .f32⟩

abbrev bufTy : (tb : Table) → Fin (tcTables nBuf tb) → BufTy
  | .hbm, ⟨i, _⟩ => hbmTy i
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_cst : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_values : Ref sig .tc := ⟨.hbm, 36, rfl⟩
abbrev main_indices : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_c_2 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_3 : Ref sig .tc := ⟨.hbm, 55, rfl⟩
abbrev main_v30 : Ref sig .tc := ⟨.hbm, 56, rfl⟩
abbrev main_v31 : Ref sig .tc := ⟨.hbm, 57, rfl⟩
abbrev main_c_4 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_5 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_cst_7 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_9 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_10 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_cst_11 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_values_12 : Ref sig .tc := ⟨.hbm, 109, rfl⟩
abbrev main_indices_13 : Ref sig .tc := ⟨.hbm, 110, rfl⟩
abbrev main_c_14 : Ref sig .tc := ⟨.hbm, 111, rfl⟩
abbrev main_v75 : Ref sig .tc := ⟨.hbm, 112, rfl⟩
abbrev main_v76 : Ref sig .tc := ⟨.hbm, 113, rfl⟩
abbrev main_c_15 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_16 : Ref sig .tc := ⟨.hbm, 137, rfl⟩
abbrev main_v99 : Ref sig .tc := ⟨.hbm, 138, rfl⟩
abbrev main_v100 : Ref sig .tc := ⟨.hbm, 139, rfl⟩
abbrev main_cst_17 : Ref sig .tc := ⟨.hbm, 140, rfl⟩
abbrev main_v101 : Ref sig .tc := ⟨.hbm, 141, rfl⟩
abbrev main_cst_18 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_19 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_cst_20 : Ref sig .tc := ⟨.hbm, 156, rfl⟩
abbrev main_v114 : Ref sig .tc := ⟨.hbm, 157, rfl⟩
abbrev main_v115 : Ref sig .tc := ⟨.hbm, 158, rfl⟩
abbrev main_cst_21 : Ref sig .tc := ⟨.hbm, 159, rfl⟩
abbrev main_v116 : Ref sig .tc := ⟨.hbm, 160, rfl⟩
abbrev main_v117 : Ref sig .tc := ⟨.hbm, 161, rfl⟩
abbrev main_c_22 : Ref sig .tc := ⟨.hbm, 162, rfl⟩
abbrev main_call0_cst : Ref sig .tc := ⟨.hbm, 163, rfl⟩
abbrev main_call0_v0 : Ref sig .tc := ⟨.hbm, 164, rfl⟩
abbrev main_call0_v1 : Ref sig .tc := ⟨.hbm, 165, rfl⟩
abbrev main_call0_cst_0 : Ref sig .tc := ⟨.hbm, 166, rfl⟩
abbrev main_call0_v2 : Ref sig .tc := ⟨.hbm, 167, rfl⟩
abbrev main_call0_v3 : Ref sig .tc := ⟨.hbm, 168, rfl⟩
abbrev main_call0_v4 : Ref sig .tc := ⟨.hbm, 169, rfl⟩
abbrev main_call0_v5 : Ref sig .tc := ⟨.hbm, 170, rfl⟩
abbrev main_call0_v6 : Ref sig .tc := ⟨.hbm, 171, rfl⟩
abbrev main_call0_v7 : Ref sig .tc := ⟨.hbm, 172, rfl⟩
abbrev main_call0_cst_1 : Ref sig .tc := ⟨.hbm, 173, rfl⟩
abbrev main_call0_v8 : Ref sig .tc := ⟨.hbm, 174, rfl⟩
abbrev main_call0_cst_2 : Ref sig .tc := ⟨.hbm, 175, rfl⟩
abbrev main_call0_v9 : Ref sig .tc := ⟨.hbm, 176, rfl⟩
abbrev main_call0_v10 : Ref sig .tc := ⟨.hbm, 177, rfl⟩
abbrev main_call0_v11 : Ref sig .tc := ⟨.hbm, 178, rfl⟩
abbrev main_call0_v12 : Ref sig .tc := ⟨.hbm, 179, rfl⟩
abbrev main_call0_cst_3 : Ref sig .tc := ⟨.hbm, 180, rfl⟩
abbrev main_call0_v13 : Ref sig .tc := ⟨.hbm, 181, rfl⟩
abbrev main_call0_cst_4 : Ref sig .tc := ⟨.hbm, 182, rfl⟩
abbrev main_call0_call0_v0 : Ref sig .tc := ⟨.hbm, 183, rfl⟩
abbrev main_call0_call0_v1 : Ref sig .tc := ⟨.hbm, 184, rfl⟩
abbrev main_v118 : Ref sig .tc := ⟨.hbm, 185, rfl⟩
abbrev main_v119 : Ref sig .tc := ⟨.hbm, 186, rfl⟩
abbrev main_v120 : Ref sig .tc := ⟨.hbm, 187, rfl⟩
abbrev main_cst_23 : Ref sig .tc := ⟨.hbm, 188, rfl⟩
abbrev main_v121 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_cst_24 : Ref sig .tc := ⟨.hbm, 206, rfl⟩
abbrev main_v138 : Ref sig .tc := ⟨.hbm, 207, rfl⟩
abbrev main_v139 : Ref sig .tc := ⟨.hbm, 208, rfl⟩
abbrev main_cst_25 : Ref sig .tc := ⟨.hbm, 209, rfl⟩
abbrev main_v140 : Ref sig .tc := ⟨.hbm, 210, rfl⟩
abbrev main_v141 : Ref sig .tc := ⟨.hbm, 211, rfl⟩
abbrev main_c_26 : Ref sig .tc := ⟨.hbm, 212, rfl⟩
abbrev main_call1_cst : Ref sig .tc := ⟨.hbm, 213, rfl⟩
abbrev main_call1_v0 : Ref sig .tc := ⟨.hbm, 214, rfl⟩
abbrev main_call1_v1 : Ref sig .tc := ⟨.hbm, 215, rfl⟩
abbrev main_call1_cst_0 : Ref sig .tc := ⟨.hbm, 216, rfl⟩
abbrev main_call1_v2 : Ref sig .tc := ⟨.hbm, 217, rfl⟩
abbrev main_call1_v3 : Ref sig .tc := ⟨.hbm, 218, rfl⟩
abbrev main_call1_v4 : Ref sig .tc := ⟨.hbm, 219, rfl⟩
abbrev main_call1_v5 : Ref sig .tc := ⟨.hbm, 220, rfl⟩
abbrev main_call1_v6 : Ref sig .tc := ⟨.hbm, 221, rfl⟩
abbrev main_call1_v7 : Ref sig .tc := ⟨.hbm, 222, rfl⟩
abbrev main_call1_cst_1 : Ref sig .tc := ⟨.hbm, 223, rfl⟩
abbrev main_call1_v8 : Ref sig .tc := ⟨.hbm, 224, rfl⟩
abbrev main_call1_cst_2 : Ref sig .tc := ⟨.hbm, 225, rfl⟩
abbrev main_call1_v9 : Ref sig .tc := ⟨.hbm, 226, rfl⟩
abbrev main_call1_v10 : Ref sig .tc := ⟨.hbm, 227, rfl⟩
abbrev main_call1_v11 : Ref sig .tc := ⟨.hbm, 228, rfl⟩
abbrev main_call1_v12 : Ref sig .tc := ⟨.hbm, 229, rfl⟩
abbrev main_call1_cst_3 : Ref sig .tc := ⟨.hbm, 230, rfl⟩
abbrev main_call1_v13 : Ref sig .tc := ⟨.hbm, 231, rfl⟩
abbrev main_call1_cst_4 : Ref sig .tc := ⟨.hbm, 232, rfl⟩
abbrev main_call1_call0_v0 : Ref sig .tc := ⟨.hbm, 233, rfl⟩
abbrev main_call1_call0_v1 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_cst_27 : Ref sig .tc := ⟨.hbm, 238, rfl⟩
abbrev main_v145 : Ref sig .tc := ⟨.hbm, 239, rfl⟩
abbrev main_v146 : Ref sig .tc := ⟨.hbm, 240, rfl⟩
abbrev main_v147 : Ref sig .tc := ⟨.hbm, 241, rfl⟩
abbrev main_v148 : Ref sig .tc := ⟨.hbm, 242, rfl⟩
abbrev main_v149 : Ref sig .tc := ⟨.hbm, 243, rfl⟩
abbrev main_v150 : Ref sig .tc := ⟨.hbm, 244, rfl⟩
abbrev main_v151 : Ref sig .tc := ⟨.hbm, 245, rfl⟩
abbrev main_v152 : Ref sig .tc := ⟨.hbm, 246, rfl⟩
abbrev main_v153 : Ref sig .tc := ⟨.hbm, 247, rfl⟩
abbrev main_v154 : Ref sig .tc := ⟨.hbm, 248, rfl⟩
abbrev main_v155 : Ref sig .tc := ⟨.hbm, 249, rfl⟩
abbrev main_v156 : Ref sig .tc := ⟨.hbm, 250, rfl⟩

abbrev nD : Nat := 1
abbrev τ : Topo := Topo.v7x

variable {F : FTy → Type} [FloatOps F]
-- ==== SearchA.lean ====
abbrev S8x2048x3 : Shape := ⟨3, ![8, 2048, 3]⟩
abbrev S8x2048x16 : Shape := ⟨3, ![8, 2048, 16]⟩
abbrev S1x256x3 : Shape := ⟨3, ![1, 256, 3]⟩
abbrev S1x2048x3 : Shape := ⟨3, ![1, 2048, 3]⟩
abbrev S1x256x16 : Shape := ⟨3, ![1, 256, 16]⟩
abbrev S256x3 : Shape := ⟨2, ![256, 3]⟩
abbrev S2048x3 : Shape := ⟨2, ![2048, 3]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S1x2048 : Shape := ⟨2, ![1, 2048]⟩
abbrev S256x2048 : Shape := ⟨2, ![256, 2048]⟩
abbrev S256x16 : Shape := ⟨2, ![256, 16]⟩

abbrev nBuf : Space → Nat
  | .hbm => 2
  | .vmem => 6
  | .smem => 0
  | _ => 0

abbrev bufTy : (tb : Table) → Fin (tcTables nBuf tb) → BufTy
  | .hbm, ⟨0, _⟩ => ⟨S8x2048x3, .f32⟩
  | .hbm, ⟨1, _⟩ => ⟨S8x2048x16, .i32⟩
  | .local _ .vmem, ⟨0, _⟩ => ⟨S1x256x3, .f32⟩
  | .local _ .vmem, ⟨1, _⟩ => ⟨S1x256x3, .f32⟩
  | .local _ .vmem, ⟨2, _⟩ => ⟨S1x2048x3, .f32⟩
  | .local _ .vmem, ⟨3, _⟩ => ⟨S1x2048x3, .f32⟩
  | .local _ .vmem, ⟨4, _⟩ => ⟨S1x256x16, .i32⟩
  | .local _ .vmem, ⟨5, _⟩ => ⟨S1x256x16, .i32⟩
  | _, _ => ⟨S8x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x16 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NearestAIdeal.lean ====
abbrev S8x2048x3 : Shape := ⟨3, ![8, 2048, 3]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S8x2048x16 : Shape := ⟨3, ![8, 2048, 16]⟩
abbrev S8 : Shape := ⟨1, ![8]⟩
abbrev S8x1x1 : Shape := ⟨3, ![8, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x3, .f32⟩
  | .hbm, ⟨1, _⟩ => ⟨S8x2048x3, .f32⟩
  | .hbm, ⟨2, _⟩ => ⟨S_, .f32⟩
  | .hbm, ⟨3, _⟩ => ⟨S8x2048, .f32⟩
  | .hbm, ⟨4, _⟩ => ⟨S8x2048x1, .f32⟩
  | .hbm, ⟨5, _⟩ => ⟨S8x1x2048, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S_, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S_, .f32⟩
  | .hbm, ⟨15, _⟩ => ⟨S8x2048x2048, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x16, .f32⟩
  | .hbm, ⟨20, _⟩ => ⟨S8x2048x16, .i32⟩
  | .hbm, ⟨21, _⟩ => ⟨S8, .i32⟩
  | .hbm, ⟨22, _⟩ => ⟨S8x1x1, .i32⟩
  | .hbm, ⟨23, _⟩ => ⟨S_, .i32⟩
  | .hbm, ⟨24, _⟩ => ⟨S8x1x1, .i32⟩
  | .hbm, ⟨25, _⟩ => ⟨S8x1x1, .i32⟩
  | .hbm, ⟨26, _⟩ => ⟨S8x2048x16, .i32⟩
  | .hbm, ⟨27, _⟩ => ⟨S8x2048x16, .i32⟩
  | _, _ => ⟨S8x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst_0 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_values : Ref sig .tc := ⟨.hbm, 19, rfl⟩
abbrev main_indices : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== SearchB.lean ====
abbrev S8x2048x128 : Shape := ⟨3, ![8, 2048, 128]⟩
abbrev S128x128 : Shape := ⟨2, ![128, 128]⟩
abbrev S8x2048x16 : Shape := ⟨3, ![8, 2048, 16]⟩
abbrev S1x256x128 : Shape := ⟨3, ![1, 256, 128]⟩
abbrev S1x2048x128 : Shape := ⟨3, ![1, 2048, 128]⟩
abbrev S1x256x16 : Shape := ⟨3, ![1, 256, 16]⟩
abbrev S256x128 : Shape := ⟨2, ![256, 128]⟩
abbrev S2048x128 : Shape := ⟨2, ![2048, 128]⟩
abbrev S256 : Shape := ⟨1, ![256]⟩
abbrev S256x1 : Shape := ⟨2, ![256, 1]⟩
abbrev S2048 : Shape := ⟨1, ![2048]⟩
abbrev S2048x1 : Shape := ⟨2, ![2048, 1]⟩
abbrev S1x2048 : Shape := ⟨2, ![1, 2048]⟩
abbrev S256x2048 : Shape := ⟨2, ![256, 2048]⟩
abbrev S256x16 : Shape := ⟨2, ![256, 16]⟩

abbrev nBuf : Space → Nat
  | .hbm => 4
  | .vmem => 9
  | .smem => 0
  | _ => 0

abbrev bufTy : (tb : Table) → Fin (tcTables nBuf tb) → BufTy
  | .hbm, ⟨0, _⟩ => ⟨S8x2048x128, .f32⟩
  | .hbm, ⟨1, _⟩ => ⟨S128x128, .f32⟩
  | .hbm, ⟨2, _⟩ => ⟨S8x2048x16, .i32⟩
  | .hbm, ⟨3, _⟩ => ⟨S8x2048x128, .f32⟩
  | .local _ .vmem, ⟨0, _⟩ => ⟨S1x256x128, .f32⟩
  | .local _ .vmem, ⟨1, _⟩ => ⟨S1x256x128, .f32⟩
  | .local _ .vmem, ⟨2, _⟩ => ⟨S1x2048x128, .f32⟩
  | .local _ .vmem, ⟨3, _⟩ => ⟨S1x2048x128, .f32⟩
  | .local _ .vmem, ⟨4, _⟩ => ⟨S128x128, .f32⟩
  | .local _ .vmem, ⟨5, _⟩ => ⟨S1x256x16, .i32⟩
  | .local _ .vmem, ⟨6, _⟩ => ⟨S1x256x16, .i32⟩
  | .local _ .vmem, ⟨7, _⟩ => ⟨S1x256x128, .f32⟩
  | .local _ .vmem, ⟨8, _⟩ => ⟨S1x256x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== NearestBIdeal.lean ====
abbrev S8x2048x128 : Shape := ⟨3, ![8, 2048, 128]⟩
abbrev S128x128 : Shape := ⟨2, ![128, 128]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S8x2048x16 : Shape := ⟨3, ![8, 2048, 16]⟩
abbrev S8 : Shape := ⟨1, ![8]⟩
abbrev S8x1x1 : Shape := ⟨3, ![8, 1, 1]⟩

abbrev nBuf : Space → Nat
  | .hbm => 31
  | .vmem => 0
  | .smem => 0
  | _ => 0

abbrev bufTy : (tb : Table) → Fin (tcTables nBuf tb) → BufTy
  | .hbm, ⟨0, _⟩ => ⟨S8x2048x128, .f32⟩
  | .hbm, ⟨1, _⟩ => ⟨S128x128, .f32⟩
  | .hbm, ⟨2, _⟩ => ⟨S8x2048x128, .f32⟩
  | .hbm, ⟨3, _⟩ => ⟨S_, .f32⟩
  | .hbm, ⟨4, _⟩ => ⟨S8x2048, .f32⟩
  | .hbm, ⟨5, _⟩ => ⟨S8x2048x1, .f32⟩
  | .hbm, ⟨6, _⟩ => ⟨S8x1x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048x2048, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x16, .f32⟩
  | .hbm, ⟨21, _⟩ => ⟨S8x2048x16, .i32⟩
  | .hbm, ⟨22, _⟩ => ⟨S8, .i32⟩
  | .hbm, ⟨23, _⟩ => ⟨S8x1x1, .i32⟩
  | .hbm, ⟨24, _⟩ => ⟨S_, .i32⟩
  | .hbm, ⟨25, _⟩ => ⟨S8x1x1, .i32⟩
  | .hbm, ⟨26, _⟩ => ⟨S8x1x1, .i32⟩
  | .hbm, ⟨27, _⟩ => ⟨S8x2048x16, .i32⟩
  | .hbm, ⟨28, _⟩ => ⟨S8x2048x16, .i32⟩
  | .hbm, ⟨29, _⟩ => ⟨S128x128, .f32⟩
  | .hbm, ⟨30, _⟩ => ⟨S8x2048x128, .f32⟩
  | _, _ => ⟨S8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_values : Ref sig .tc := ⟨.hbm, 20, rfl⟩
abbrev main_indices : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩

abbrev nD : Nat := 1
abbrev τ : Topo := Topo.v7x

variable {F : FTy → Type} [FloatOps F]
-- ==== Proof.Setup.lean ====
/-
  What the proof's modules share: the program's labels and body tables as the launch theorem sees them, the ghost state
  (the SparseCore handshakes', the pipelines', the transfers'), the gathered rows as a function of a table and a list of
  row numbers, and the splitting of an array into thirty-two read shares.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.Kernel
public import proofs.«01_k».proof.Proof.Gen.Kernel.Skeleton
public import proofs.«01_k».proof.Proof.Gen.Kernel.Launch

@[expose] public section

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 3) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state, the pipelines', and both beside the transfers' counters. -/
abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
abbrev EP : Emb UP (MT nD τ sig (HIx 2) (Elt F) ℕ UU ℕ) := (Emb.inl : Emb UP (UP × Counters)).trans embR

instance EP_landsIn : (EP : Emb UP (MT nD τ sig (HIx 2) (Elt F) ℕ UU ℕ)).LandsIn (upEmb : UEmb _ (MT nD τ sig (HIx 2) (Elt F) ℕ UU ℕ)) := by
  unfold EP embR; infer_instance

/-! ## The gathered rows -/

/-- The place of row number `r` in the list. -/
def at1 (r : Fin 262144) : S262144.Idx := fun | 0 => r
/-- Word `c` of row `r` of a table. -/
def at2 (r : Fin 16384) (c : Fin 128) : S16384x128.Idx := fun | 0 => r | 1 => c

/-- The gathered rows: word `(r, c)` is word `c` of the row that the list names at `r`. -/
def rowsOf (tab : S16384x128.Idx → Elt F .f32) (idx : S262144.Idx → Elt F .i32) (x : S262144x128.Idx) : Elt F .f32 :=
  tab (at2 (Fin.ofNat 16384 (show BitVec 32 from idx (at1 (x 0))).toNat) (x 1))

/-- Every row number of the list names a row of the tables. -/
def InRows (idx : S262144.Idx → Elt F .i32) : Prop := ∀ j, (show BitVec 32 from idx j).toNat < 16384

/-! ## Shares -/

/-- The read share of tile `s` of SparseCore `c`. -/
abbrev lq (c : Fin 2) (s : Fin 16) : PosShare TreeShare := ShareLeaves.leaf 4 (ShareLeaves.leaf 1 fullShare c) s

/-- An array at the full share is the tiles' shares of it. -/
theorem shares {ℓ : Loc nD τ sig} (f : Buf (Elt F) ℓ) :
    (ℓ ↦{fullShare} f : sProp 𝕄) = bigSep Finset.univ fun c : Fin 2 => bigSep Finset.univ fun s : Fin 16 => ℓ ↦{lq c s} f :=
  (ShareLeaves.pointsTo_leaves Finset.univ f 1 fullShare).trans (bigSep_congr fun c _ => ShareLeaves.pointsTo_leaves Finset.univ f 4 _)

theorem bigSep_sep₂ {A B : Type} (sa : Finset A) (sb : Finset B) (Φ Ψ : A → B → sProp 𝕄) :
    (bigSep sa fun a => bigSep sb fun b => iprop(Φ a b ∗ Ψ a b)) = iprop((bigSep sa fun a => bigSep sb fun b => Φ a b) ∗ bigSep sa fun a => bigSep sb fun b => Ψ a b) := by
  rw [← bigSep_sep']; exact bigSep_congr fun a _ => bigSep_sep' _ _ _

theorem emps {I : Type} (s : Finset I) : (bigSep s fun _ => iprop(emp)) = (iprop(emp) : sProp 𝕄) := bigSep_emp_const s

/-- A tile's task hands back its waits in the wider form the launch theorem takes. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.Kernel

end
-- ==== Proof.Gather1.lean ====
/-
  The SparseCore row gather of the kernel, at any float instance. Thirty-two tiles run one body: tile `s` of SparseCore
  `c` takes the 8192 row numbers from `8192 (2 s + c)` on, in sixteen chunks of 512; of each chunk it fetches the row
  numbers, gathers those rows of the first table into its row buffer and writes them out, and does the same with the
  second table. Proved here: what one chunk does, what a tile does, and what the call leaves in both results — row `r`
  of each is the row of its table that the list names at `r`.
-/
module

public import proofs.«01_k».proof.Proof.Setup

@[expose] public section

noncomputable section

namespace Cert.Proof.Kernel.G1

open Cert.Kernel Cert.Kernel.Gen Cert.Proof.Kernel

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The buffers of the call -/

abbrev aLoc (d : Dev nD) : Loc nD τ sig := (SparseCore.T d).loc main_v9
abbrev bLoc (d : Dev nD) : Loc nD τ sig := (SparseCore.T d).loc main_v10
abbrev iLoc (d : Dev nD) : Loc nD τ sig := (SparseCore.T d).loc main_v11
abbrev oLoc (d : Dev nD) : Loc nD τ sig := (SparseCore.T d).loc main_v12_0
abbrev pLoc (d : Dev nD) : Loc nD τ sig := (SparseCore.T d).loc main_v12_1

local notation "𝕄" => MT nD τ sig (HIx 2) (Elt F) ℕ UU ℕ
local notation "aV" => (Memref.whole main_v9_scv : Memref sig Kind.scVector Space.hbm S16384x128 EltTy.f32)
local notation "bV" => (Memref.whole main_v10_scv : Memref sig Kind.scVector Space.hbm S16384x128 EltTy.f32)
local notation "iV" => (Memref.whole main_v11_scv : Memref sig Kind.scVector Space.hbm S262144 EltTy.i32)
local notation "oV" => (Memref.whole main_v12_0_scv : Memref sig Kind.scVector Space.hbm S262144x128 EltTy.f32)
local notation "pV" => (Memref.whole main_v12_1_scv : Memref sig Kind.scVector Space.hbm S262144x128 EltTy.f32)
local notation "sV" => (Memref.whole cc0_scratch0 : Memref sig Kind.scVector Space.vmem S512 EltTy.i32)
local notation "rV" => (Memref.whole cc0_scratch1 : Memref sig Kind.scVector Space.vmem S512x128 EltTy.f32)

/-! ## The chunks -/

section Chunk

variable (L : grid0.Coords) (t : Fin k0_t1_loop.trips)

abbrev cV (L : grid0.Coords) : Fin τ.nSC := (L 0).castLE hcore0
abbrev jV (L : grid0.Coords) : Fin τ.nSub := (L 1).castLE hsub0

abbrev iCh : Memref sig .scVector .hbm S512 .i32 := (iV).slice (Rect.unit (s := S262144) (k0_off1 L t) S512.size (k0_off1_inb L t)) (fun _ => rfl)
abbrev oCh : Memref sig .scVector .hbm S512x128 .f32 := (oV).slice (Rect.unit (s := S262144x128) (k0_off2 L t) S512x128.size (k0_off2_inb L t)) (fun _ => rfl)
abbrev pCh : Memref sig .scVector .hbm S512x128 .f32 := (pV).slice (Rect.unit (s := S262144x128) (k0_off2 L t) S512x128.size (k0_off2_inb L t)) (fun _ => rfl)
abbrev aAll : Memref sig .scVector .hbm S16384x128 .f32 := (aV).slice (Rect.unit (s := S16384x128) ![0, 0] S16384x128.size inb_S16384x128_S16384x128_0_0) (fun _ => rfl)
abbrev bAll : Memref sig .scVector .hbm S16384x128 .f32 := (bV).slice (Rect.unit (s := S16384x128) ![0, 0] S16384x128.size inb_S16384x128_S16384x128_0_0) (fun _ => rfl)

/-- The elements of a result that chunk `t` of a tile writes: 512 rows, all words of each. -/
def chunk : Finset S262144x128.Idx := (Rect.unit (s := S262144x128) (k0_off2 L t) S512x128.size (k0_off2_inb L t)).set

theorem mem_chunk (x : S262144x128.Idx) :
    x ∈ chunk L t ↔ 16384 * (L 1).val + 8192 * (L 0).val + 512 * t.val ≤ (x 0).val ∧ (x 0).val < 16384 * (L 1).val + 8192 * (L 0).val + 512 * t.val + 512 := by
  unfold chunk
  rw [Rect.mem_set_unit, k0_off2_eq]
  constructor
  · intro h; have := h 0; simpa using this
  · intro h a
    match a with
    | 0 => simpa using h
    | 1 => have h1 : (x 1).val < 128 := (x 1).isLt
           simpa using h1

theorem oCh_set : (oCh L t).view.set = chunk L t := by
  show ((View.whole (main_v12_0_scv : Ref sig .scVector)).slice _).set = _
  rw [View.set_slice]; exact Finset.map_refl
theorem pCh_set : (pCh L t).view.set = chunk L t := by
  show ((View.whole (main_v12_1_scv : Ref sig .scVector)).slice _).set = _
  rw [View.set_slice]; exact Finset.map_refl

/-- The row number of the list that chunk `t` reads at its place `j`. -/
theorem iCh_read (idx : S262144.Idx → Elt F .i32) (j : S512.Idx) (r : Fin 262144) (hr : r.val = 16384 * (L 1).val + 8192 * (L 0).val + 512 * t.val + (j 0).val) :
    (iCh L t).view.read (Elt F) idx j = idx (at1 r) := by
  refine ((View.read_apply _ _).trans (cast_eq _ _)).trans ?_
  congr 1
  funext a
  match a with
  | 0 => refine Fin.ext ?_
         rw [show (iCh L t).view.emb j 0 = (Rect.unit (s := S262144) (k0_off1 L t) S512.size (k0_off1_inb L t)).emb j 0 from rfl, Rect.emb_apply]
         show k0_off1 L t 0 + 1 * (j 0).val = r.val
         rw [k0_off1_eq, hr]; simp

/-- What the stream lands of the first table, for a list fetched from chunk `t`: the gathered rows at the chunk's places. -/
theorem gathered (tab : S16384x128.Idx → Elt F .f32) (tabv : S16384x128.Idx → Elt F .f32) (htab : ∀ x, tabv x = tab x)
    (idx : S262144.Idx → Elt F .i32) (lst : S512.Idx → Elt F .i32) (hl : lst = (iCh L t).view.read (Elt F) idx)
    (hin : ∀ x, (show BitVec 32 from lst x).toNat < S16384x128.size gathers_S16384x128_S512x128.axis)
    (hn : S512.numel = S512x128.size gathers_S16384x128_S512x128.axis') (j : S512x128.Idx) (x : S262144x128.Idx)
    (h0 : (x 0).val = 16384 * (L 1).val + 8192 * (L 0).val + 512 * t.val + (j 0).val) (h1 : (x 1).val = (j 1).val) :
    SparseCore.gatherPayload gathers_S16384x128_S512x128 tabv (SparseCore.rows lst hn hin) j = rowsOf tab idx x := by
  unfold SparseCore.gatherPayload rowsOf
  rw [htab]
  congr 1
  funext a
  match a with
  | 0 =>
    refine Fin.ext ?_
    have e0 := congrArg Fin.val (Shape.Gathers.idx_axis gathers_S16384x128_S512x128 (SparseCore.rows lst hn hin) j)
    refine e0.trans ?_
    have hk : S512.rowMajor.symm ((j 0).cast hn.symm) 0 = j 0 := Fin.ext (by
      have := Shape.rowMajor_val_one (S512.rowMajor.symm ((j 0).cast hn.symm))
      rw [Equiv.apply_symm_apply] at this
      exact this.symm)
    have hx0 : (x 0).val = 16384 * (L 1).val + 8192 * (L 0).val + 512 * t.val + (S512.rowMajor.symm ((j 0).cast hn.symm) 0).val := by rw [hk]; exact h0
    have hv : lst (S512.rowMajor.symm ((j 0).cast hn.symm)) = idx (at1 (x 0)) := by
      rw [hl]; exact iCh_read L t idx _ (x 0) hx0
    have hlt := hin (S512.rowMajor.symm ((j 0).cast hn.symm))
    show (lst (S512.rowMajor.symm ((j 0).cast hn.symm))).toNat = _
    rw [hv] at hlt ⊢
    show _ = (idx (at1 (x 0))).toNat % 16384
    exact (Nat.mod_eq_of_lt hlt).symm
  | 1 =>
    refine Fin.ext ?_
    refine (Shape.Gathers.idx_of_ne gathers_S16384x128_S512x128 (SparseCore.rows lst hn hin) j 1 (by decide)).trans ?_
    exact h1.symm

/-- All of the first table as the tile addresses it reads as the table; -/
theorem aAll_read (tab : S16384x128.Idx → Elt F .f32) (x : S16384x128.Idx) : (aAll).view.read (Elt F) tab x = tab x := by
  refine ((View.read_apply _ _).trans (cast_eq _ _)).trans (congrArg tab ?_)
  funext a
  refine Fin.ext ?_
  rw [show (aAll).view.emb x a = (Rect.unit (s := S16384x128) ![0, 0] S16384x128.size inb_S16384x128_S16384x128_0_0).emb x a from rfl, Rect.emb_apply]
  match a with
  | 0 => simp
  | 1 => simp
/-- so does the second. -/
theorem bAll_read (tab : S16384x128.Idx → Elt F .f32) (x : S16384x128.Idx) : (bAll).view.read (Elt F) tab x = tab x := by
  refine ((View.read_apply _ _).trans (cast_eq _ _)).trans (congrArg tab ?_)
  funext a
  refine Fin.ext ?_
  rw [show (bAll).view.emb x a = (Rect.unit (s := S16384x128) ![0, 0] S16384x128.size inb_S16384x128_S16384x128_0_0).emb x a from rfl, Rect.emb_apply]
  match a with
  | 0 => simp
  | 1 => simp

end Chunk

/-! ## One chunk -/

section Trip

variable [FloatOps F]
variable (d : Dev nD) (L : grid0.Coords) (tabA tabB : S16384x128.Idx → Elt F .f32) (idx : S262144.Idx → Elt F .i32)
variable (q : PosShare TreeShare) (O : CellTallies nD τ sig (HIx 2)) (W : Waits sig (HIx 2))

abbrev thr : Thread nD τ := V d (cV L) (jV L)

/-- What a tile holds between its chunks beside the results: the tables' and the list's shares, its two scratch buffers,
    its four semaphores at zero, what it owes. -/
def core : sProp 𝕄 :=
  iprop(Transfers.MayWaits (thr d L) (none : HIx 2) O
    ∗ ((aV).view.loc (thr d L) ↦{q} tabA) ∗ ((bV).view.loc (thr d L) ↦{q} tabB) ∗ ((iV).view.loc (thr d L) ↦{q} idx)
    ∗ (∃ f, (sV).view.loc (thr d L) ↦{fullShare} f) ∗ (∃ f, (rV).view.loc (thr d L) ↦{fullShare} f)
    ∗ semVal (thr d L, SemLoc.dma cc0_scratch2.sem) 0 ∗ semVal (thr d L, SemLoc.dma cc0_scoped0.sem) 0
    ∗ semVal (thr d L, SemLoc.dma cc0_scoped1.sem) 0 ∗ semVal (thr d L, SemLoc.dma cc0_scoped2.sem) 0
    ∗ ∃ W', ⌜∀ p ∈ W', p ∈ W ∨ p.2 = none⌝ ∗ owes (thr d L) O W')

theorem aAll_set : (aAll).view.set = Finset.univ := by
  show ((View.whole (main_v9_scv : Ref sig .scVector)).slice _).set = _
  rw [View.set_slice, Rect.set_eq_univ_of_whole _ (fun a => ⟨by match a with | 0 => rfl | 1 => rfl, rfl, rfl⟩)]
  exact Finset.map_refl
theorem bAll_set : (bAll).view.set = Finset.univ := by
  show ((View.whole (main_v10_scv : Ref sig .scVector)).slice _).set = _
  rw [View.set_slice, Rect.set_eq_univ_of_whole _ (fun a => ⟨by match a with | 0 => rfl | 1 => rfl, rfl, rfl⟩)]
  exact Finset.map_refl
/-- All of a table, under the two spellings of the slice that is everything. -/
theorem pts_aAll (f : S16384x128.Idx → Elt F .f32) :
    ((aV).view.loc (thr d L) ↦{q} f : sProp 𝕄) = (aAll).view.loc (thr d L) ↦[(aAll).view.set]{q} f := by rw [aAll_set]
theorem pts_bAll (f : S16384x128.Idx → Elt F .f32) :
    ((bV).view.loc (thr d L) ↦{q} f : sProp 𝕄) = (bAll).view.loc (thr d L) ↦[(bAll).view.set]{q} f := by rw [bAll_set]

/-- A chunk of the first result written whole with the gathered rows holds the gathered rows; -/
theorem out_o (t : Fin k0_t1_loop.trips) (f : S262144x128.Idx → Elt F .f32) (w : S512x128.Idx → Elt F .f32) (g : S262144x128.Idx → Elt F .f32)
    (hw : ∀ (j : S512x128.Idx) (x : S262144x128.Idx), (x 0).val = 16384 * (L 1).val + 8192 * (L 0).val + 512 * t.val + (j 0).val → (x 1).val = (j 1).val → w j = g x) :
    ((oCh L t).view.loc (thr d L) ↦[(oCh L t).view.set]{fullShare} (oCh L t).view.writes (Elt F) f [⟨Rect.whole S512x128, w⟩] : sProp 𝕄)
      = (oCh L t).view.loc (thr d L) ↦[(oCh L t).view.set]{fullShare} g := by
  refine pointsTo_congr fun x hx => ?_
  obtain ⟨j, -, rfl⟩ := Finset.mem_map.mp hx
  rw [← View.write_univ_eq_writes_whole]
  refine (View.write_emb_of_mem (v := (oCh L t).view) _ w (Finset.mem_univ j)).trans ?_
  refine (cast_eq _ _).trans (hw j _ ?_ ?_)
  · rw [show (oCh L t).view.emb j 0 = (Rect.unit (s := S262144x128) (k0_off2 L t) S512x128.size (k0_off2_inb L t)).emb j 0 from rfl, Rect.emb_apply]
    show k0_off2 L t 0 + 1 * (j 0).val = _
    rw [k0_off2_eq]; simp
  · rw [show (oCh L t).view.emb j 1 = (Rect.unit (s := S262144x128) (k0_off2 L t) S512x128.size (k0_off2_inb L t)).emb j 1 from rfl, Rect.emb_apply]
    show k0_off2 L t 1 + 1 * (j 1).val = _
    rw [k0_off2_eq]; simp
/-- so does one of the second. -/
theorem out_p (t : Fin k0_t1_loop.trips) (f : S262144x128.Idx → Elt F .f32) (w : S512x128.Idx → Elt F .f32) (g : S262144x128.Idx → Elt F .f32)
    (hw : ∀ (j : S512x128.Idx) (x : S262144x128.Idx), (x 0).val = 16384 * (L 1).val + 8192 * (L 0).val + 512 * t.val + (j 0).val → (x 1).val = (j 1).val → w j = g x) :
    ((pCh L t).view.loc (thr d L) ↦[(pCh L t).view.set]{fullShare} (pCh L t).view.writes (Elt F) f [⟨Rect.whole S512x128, w⟩] : sProp 𝕄)
      = (pCh L t).view.loc (thr d L) ↦[(pCh L t).view.set]{fullShare} g := by
  refine pointsTo_congr fun x hx => ?_
  obtain ⟨j, -, rfl⟩ := Finset.mem_map.mp hx
  rw [← View.write_univ_eq_writes_whole]
  refine (View.write_emb_of_mem (v := (pCh L t).view) _ w (Finset.mem_univ j)).trans ?_
  refine (cast_eq _ _).trans (hw j _ ?_ ?_)
  · rw [show (pCh L t).view.emb j 0 = (Rect.unit (s := S262144x128) (k0_off2 L t) S512x128.size (k0_off2_inb L t)).emb j 0 from rfl, Rect.emb_apply]
    show k0_off2 L t 0 + 1 * (j 0).val = _
    rw [k0_off2_eq]; simp
  · rw [show (pCh L t).view.emb j 1 = (Rect.unit (s := S262144x128) (k0_off2 L t) S512x128.size (k0_off2_inb L t)).emb j 1 from rfl, Rect.emb_apply]
    show k0_off2 L t 1 + 1 * (j 1).val = _
    rw [k0_off2_eq]; simp

/-- A stream's rows are worth the row buffer's whole credit. -/
theorem credit : ∀ h : S16384x128.Gathers 0 S512x128, ∑ j, ((rV).slice (S512x128.rowRect h.axis' j) (S512x128.stride_rowRect h.axis' j)).view.dmaCredit
      = (rV).view.dmaCredit := by decide

set_option maxHeartbeats 4000000 in
/-- One chunk: both results' 512 rows go from anything to the rows that the list names. -/
theorem trip (hidx : InRows idx) (t : Fin k0_t1_loop.trips) :
    iprop(core d L tabA tabB idx q O W ∗ (∃ f, (oCh L t).view.loc (thr d L) ↦[(oCh L t).view.set]{fullShare} f)
        ∗ ∃ f, (pCh L t).view.loc (thr d L) ↦[(pCh L t).view.set]{fullShare} f)
      ⊢ wp frame (wpE (defs₀ (F := F)) 𝒱₀ (thr d L) none) Set.univ
          (k0_t1_body L aV (Memref.isWhole_whole _) bV (Memref.isWhole_whole _) iV (Memref.isWhole_whole _) oV (Memref.isWhole_whole _) pV (Memref.isWhole_whole _)
            sV (Memref.isWhole_whole _) rV (Memref.isWhole_whole _) cc0_scratch2 cc0_scoped0 cc0_scoped1 cc0_scoped2 t ⟨⟩)
          fun _ => iprop(core d L tabA tabB idx q O W ∗ ((oCh L t).view.loc (thr d L) ↦[(oCh L t).view.set]{fullShare} rowsOf tabA idx)
            ∗ ((pCh L t).view.loc (thr d L) ↦[(pCh L t).view.set]{fullShare} rowsOf tabB idx)) := by
  unfold core k0_t1_body
  iintro ⟨⟨#Hmw, Ha, Hb, Hi, ⟨%fs, Hs⟩, ⟨%fr, Hr⟩, HsemG, HsemA, HsemB, HsemC, %W', %hW', HO⟩, ⟨%fo, Ho⟩, %fp, Hp⟩
  sl_exec
  -- the fetched list, and the two scratch buffers over their own elements
  have hrs : (rV).view.set = Finset.univ := View.set_whole _
  have hss : (sV).view.set = Finset.univ := View.set_whole _
  have hl : View.write (Elt F) (sV).view fs (trip.sl.dma0 L idx t) Finset.univ = (iCh L t).view.read (Elt F) idx := View.write_whole_univ _ _ _
  have hin : ∀ x, ((sV).view.read (Elt F) ((iCh L t).view.read (Elt F) idx) x).toNat < S16384x128.size gathers_S16384x128_S512x128.axis := by
    intro x
    rw [show (sV).view.read (Elt F) ((iCh L t).view.read (Elt F) idx) x = idx ((iCh L t).view.emb x) from
      ((View.read_apply _ _).trans (cast_eq _ _)).trans ((View.read_apply _ _).trans (cast_eq _ _))]
    exact hidx _
  ihave Hs0 := (Entails.of_eq (show ((sV).view.loc (thr d L) ↦{fullShare} View.write (Elt F) (sV).view fs (trip.sl.dma0 L idx t) Finset.univ : sProp 𝕄)
      = (sV).view.loc (thr d L) ↦[(sV).view.set]{fullShare} (iCh L t).view.read (Elt F) idx by rw [hss, hl])) $$ Hs
  ihave Hr0 := (Entails.of_eq (show ((rV).view.loc (thr d L) ↦{fullShare} fr : sProp 𝕄)
      = (rV).view.loc (thr d L) ↦[(rV).view.set]{fullShare} fr by rw [hrs])) $$ Hr
  -- the first table's gather and its wait
  ihave Has := (Entails.of_eq (pts_aAll d L q tabA)) $$ Ha
  iapply (SparseCore.wp_indirectGatherLocal countersEmb 𝒱₀ (thr d L) none (hg := gathers_S16384x128_S512x128) (default : HIx 2)
      (rV).view.dmaCredit (credit _) (by decide) hin) $$ [Has Hr0 Hs0 HsemG]
  · isplitl [Has]; · iexact Has
    isplitl [Hr0]; · iexact Hr0
    isplitl [Hs0]; · iexact Hs0
    iexact HsemG
  iintro Hfl
  sl_exec
  iapply (Transfers.wp_waitLocalO countersEmb 𝒱₀ (thr d L) none (default : HIx 2) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr0, Has, Hs0⟩, HsemG, HO⟩
  ihave Ha := (Entails.of_eq (pts_aAll d L q tabA).symm) $$ Has
  ihave Hr1 := (Entails.of_eq (show ((rV).view.loc (thr d L) ↦[(rV).view.set]{fullShare} _ : sProp 𝕄)
      = (rV).view.loc (thr d L) ↦{fullShare} _ by rw [hrs])) $$ Hr0
  sl_exec
  sl_step
  have hw1 : ∀ (j : S512x128.Idx) (x : S262144x128.Idx), (x 0).val = 16384 * (L 1).val + 8192 * (L 0).val + 512 * t.val + (j 0).val → (x 1).val = (j 1).val →
      trip.sl.dma0_1 d L tabA idx t fr hin j = rowsOf tabA idx x := by
    intro j x h0 h1
    refine Eq.trans ?_ (gathered L t tabA _ (aAll_read tabA) idx _ rfl hin rfl j x h0 h1)
    unfold trip.sl.dma0_1
    rw [View.write_whole_univ]; rfl
  have hw2 : ∀ (j : S512x128.Idx) (x : S262144x128.Idx), (x 0).val = 16384 * (L 1).val + 8192 * (L 0).val + 512 * t.val + (j 0).val → (x 1).val = (j 1).val →
      trip.sl.dma0_2 d L tabA tabB idx t fr hin j = rowsOf tabB idx x := by
    intro j x h0 h1
    refine Eq.trans ?_ (gathered L t tabB _ (bAll_read tabB) idx _ rfl hin rfl j x h0 h1)
    unfold trip.sl.dma0_2
    rw [← View.write_univ_eq_writes_whole]
    simp only [View.writes_nil, View.write_whole_univ]
    rfl
  ihave Hs3 := (Entails.of_eq (show ((sV).view.loc (thr d L) ↦[(sV).view.set]{fullShare} (iCh L t).view.read (Elt F) idx : sProp 𝕄)
      = (sV).view.loc (thr d L) ↦{fullShare} (iCh L t).view.read (Elt F) idx by rw [hss])) $$ Hs0
  isplitl [Ha Hb Hi Hs3 Hr1 HsemG HsemA HsemB HsemC HO]
  · isplitr; · iexact Hmw
    isplitl [Ha]; · iexact Ha
    isplitl [Hb]; · iexact Hb
    isplitl [Hi]; · iexact Hi
    isplitl [Hs3]; · iexists _; iexact Hs3
    isplitl [Hr1]; · iexists _; iexact Hr1
    isplitl [HsemG]; · iexact HsemG
    isplitl [HsemA]; · iexact HsemA
    isplitl [HsemB]; · iexact HsemB
    isplitl [HsemC]; · iexact HsemC
    iexists _; isplitr
    swap; · iexact HO
    ipureintro; intro p hp
    iterate 5 (rcases Finset.mem_insert.mp hp with hp | hp; · exact .inr (hp ▸ rfl))
    exact hW' p hp
  isplitl [Ho]
  · iapply (Entails.of_eq (out_o d L t fo _ _ hw1)); iexact Ho
  · iapply (Entails.of_eq (out_p d L t fp _ _ hw2)); iexact Hp

/-! ## A tile -/

theorem trips_eq : k0_t1_loop.trips = 16 := by decide

/-- Chunk `t` of the results before trip `k`: the gathered rows when trip `t` is behind, anything when not. -/
def oSt (k : Nat) (t : Fin k0_t1_loop.trips) : sProp 𝕄 :=
  if t.val < k then iprop(oLoc d ↦[chunk L t]{fullShare} rowsOf tabA idx) else iprop(∃ f, oLoc d ↦[chunk L t]{fullShare} f)
def pSt (k : Nat) (t : Fin k0_t1_loop.trips) : sProp 𝕄 :=
  if t.val < k then iprop(pLoc d ↦[chunk L t]{fullShare} rowsOf tabB idx) else iprop(∃ f, pLoc d ↦[chunk L t]{fullShare} f)

/-- The loop's invariant: `core`, and every chunk of both results as it is before trip `k`. -/
def inv (k : Nat) (_ : PUnit) : sProp 𝕄 :=
  iprop(core d L tabA tabB idx q O W ∗ (bigSep Finset.univ fun t => oSt d L tabA idx k t) ∗ bigSep Finset.univ fun t => pSt d L tabB idx k t)

theorem oSt_rest (k : Fin k0_t1_loop.trips) :
    (bigSep (Finset.univ.erase k) fun t => oSt d L tabA idx k.val t) = (bigSep (Finset.univ.erase k) fun t => oSt d L tabA idx (k.val + 1) t : sProp 𝕄) := by
  refine bigSep_congr fun t ht => ?_
  have hne : t.val ≠ k.val := fun e => (Finset.mem_erase.mp ht).1 (Fin.ext e)
  unfold oSt
  by_cases h : t.val < k.val
  · rw [if_pos h, if_pos (by omega)]
  · rw [if_neg h, if_neg (by omega)]
theorem pSt_rest (k : Fin k0_t1_loop.trips) :
    (bigSep (Finset.univ.erase k) fun t => pSt d L tabB idx k.val t) = (bigSep (Finset.univ.erase k) fun t => pSt d L tabB idx (k.val + 1) t : sProp 𝕄) := by
  refine bigSep_congr fun t ht => ?_
  have hne : t.val ≠ k.val := fun e => (Finset.mem_erase.mp ht).1 (Fin.ext e)
  unfold pSt
  by_cases h : t.val < k.val
  · rw [if_pos h, if_pos (by omega)]
  · rw [if_neg h, if_neg (by omega)]

theorem oSt_zero : (bigSep Finset.univ fun t => iprop(∃ f, oLoc d ↦[chunk L t]{fullShare} f)) = (bigSep Finset.univ fun t => oSt d L tabA idx 0 t : sProp 𝕄) :=
  bigSep_congr fun t _ => by unfold oSt; rw [if_neg (Nat.not_lt_zero _)]
theorem pSt_zero : (bigSep Finset.univ fun t => iprop(∃ f, pLoc d ↦[chunk L t]{fullShare} f)) = (bigSep Finset.univ fun t => pSt d L tabB idx 0 t : sProp 𝕄) :=
  bigSep_congr fun t _ => by unfold pSt; rw [if_neg (Nat.not_lt_zero _)]
theorem oSt_end : (bigSep Finset.univ fun t => oSt d L tabA idx k0_t1_loop.trips t) = (bigSep Finset.univ fun t => oLoc d ↦[chunk L t]{fullShare} rowsOf tabA idx : sProp 𝕄) :=
  bigSep_congr fun t _ => by unfold oSt; rw [if_pos t.isLt]
theorem pSt_end : (bigSep Finset.univ fun t => pSt d L tabB idx k0_t1_loop.trips t) = (bigSep Finset.univ fun t => pLoc d ↦[chunk L t]{fullShare} rowsOf tabB idx : sProp 𝕄) :=
  bigSep_congr fun t _ => by unfold pSt; rw [if_pos t.isLt]

theorem pts_o (t : Fin k0_t1_loop.trips) (f : S262144x128.Idx → Elt F .f32) :
    ((oCh L t).view.loc (thr d L) ↦[(oCh L t).view.set]{fullShare} f : sProp 𝕄) = oLoc d ↦[chunk L t]{fullShare} f := by rw [oCh_set]
theorem pts_p (t : Fin k0_t1_loop.trips) (f : S262144x128.Idx → Elt F .f32) :
    ((pCh L t).view.loc (thr d L) ↦[(pCh L t).view.set]{fullShare} f : sProp 𝕄) = pLoc d ↦[chunk L t]{fullShare} f := by rw [pCh_set]

/-- One trip takes the invariant on. -/
theorem inv_step (hidx : InRows idx) (k : Fin k0_t1_loop.trips) :
    inv d L tabA tabB idx q O W k.val ⟨⟩
      ⊢ wp frame (wpE (defs₀ (F := F)) 𝒱₀ (thr d L) none) Set.univ
          (k0_t1_body L aV (Memref.isWhole_whole _) bV (Memref.isWhole_whole _) iV (Memref.isWhole_whole _) oV (Memref.isWhole_whole _) pV (Memref.isWhole_whole _)
            sV (Memref.isWhole_whole _) rV (Memref.isWhole_whole _) cc0_scratch2 cc0_scoped0 cc0_scoped1 cc0_scoped2 k ⟨⟩)
          fun _ => inv d L tabA tabB idx q O W (k.val + 1) ⟨⟩ := by
  unfold inv
  rw [SparseCore.bigSep_erase' (Finset.mem_univ k) (Φ := fun t => oSt d L tabA idx k.val t), SparseCore.bigSep_erase' (Finset.mem_univ k) (Φ := fun t => pSt d L tabB idx k.val t),
    SparseCore.bigSep_erase' (Finset.mem_univ k) (Φ := fun t => oSt d L tabA idx (k.val + 1) t), SparseCore.bigSep_erase' (Finset.mem_univ k) (Φ := fun t => pSt d L tabB idx (k.val + 1) t),
    ← oSt_rest, ← pSt_rest]
  generalize (bigSep (Finset.univ.erase k) fun t => oSt d L tabA idx k.val t) = Ro
  generalize (bigSep (Finset.univ.erase k) fun t => pSt d L tabB idx k.val t) = Rp
  unfold oSt pSt
  rw [if_neg (lt_irrefl _), if_neg (lt_irrefl _), if_pos (Nat.lt_succ_self _), if_pos (Nat.lt_succ_self _)]
  refine BI.Entails.trans ?pre ((sep_mono_left (Q := iprop(Ro ∗ Rp)) (trip d L tabA tabB idx q O W hidx k)).trans
    ((wp_frame_r frame _ _ (R := iprop(Ro ∗ Rp))).trans (wp_mono frame _ _ fun _ => ?post)))
  case pre =>
    show (_ : sProp 𝕄) ⊢ _
    iintro ⟨Hc, ⟨⟨%fo, Ho⟩, Hro⟩, ⟨%fp, Hp⟩, Hrp⟩
    isplitr [Hro Hrp]
    · isplitl [Hc]; · iexact Hc
      isplitl [Ho]; · iexists fo; iapply (Entails.of_eq (pts_o d L k fo).symm); iexact Ho
      iexists fp; iapply (Entails.of_eq (pts_p d L k fp).symm); iexact Hp
    · isplitl [Hro] <;> iassumption
  case post =>
    show (_ : sProp 𝕄) ⊢ _
    iintro ⟨⟨Hc, Ho, Hp⟩, Hro, Hrp⟩
    isplitl [Hc]; · iexact Hc
    isplitl [Ho Hro]
    · isplitl [Ho]; · iapply (Entails.of_eq (pts_o d L k _)); iexact Ho
      iexact Hro
    · isplitl [Hp]; · iapply (Entails.of_eq (pts_p d L k _)); iexact Hp
      iexact Hrp

end Trip

/-! ## What the call's handshakes carry -/

section Call

variable [FloatOps F]
/- the tables and the list, on each device, when the call starts -/
variable (tA tB : Dev nD → S16384x128.Idx → Elt F .f32) (ix : Dev nD → S262144.Idx → Elt F .i32)

/-- SparseCore `c`'s tile `s`. -/
def tile (c : Fin 2) (s : Fin 16) : grid0.Coords :=
  fun | 0 => c | 1 => s | ⟨_ + 2, h⟩ => absurd h (Nat.not_lt.2 (Nat.le_add_left _ _))

/-- What a tile is handed: its shares of the tables and the list, its chunks of the results at anything. -/
def tileIn (d : Dev nD) (c : Fin 2) (s : Fin 16) : sProp 𝕄 :=
  iprop((aLoc d ↦{lq c s} tA d) ∗ (bLoc d ↦{lq c s} tB d) ∗ (iLoc d ↦{lq c s} ix d)
    ∗ (bigSep Finset.univ fun t => iprop(∃ f, oLoc d ↦[chunk (tile c s) t]{fullShare} f))
    ∗ bigSep Finset.univ fun t => iprop(∃ f, pLoc d ↦[chunk (tile c s) t]{fullShare} f))
/-- What it hands back: the shares, its chunks at the gathered rows. -/
def tileOut (d : Dev nD) (c : Fin 2) (s : Fin 16) : sProp 𝕄 :=
  iprop((aLoc d ↦{lq c s} tA d) ∗ (bLoc d ↦{lq c s} tB d) ∗ (iLoc d ↦{lq c s} ix d)
    ∗ (bigSep Finset.univ fun t => oLoc d ↦[chunk (tile c s) t]{fullShare} rowsOf (tA d) (ix d))
    ∗ bigSep Finset.univ fun t => pLoc d ↦[chunk (tile c s) t]{fullShare} rowsOf (tB d) (ix d))

instance tileIn_storable (d : Dev nD) (c : Fin 2) (s : Fin 16) : BI.Storable (upEmb : UEmb _ 𝕄) (tileIn tA tB ix d c s) := by
  unfold tileIn; infer_instance
instance tileOut_storable (d : Dev nD) (c : Fin 2) (s : Fin 16) : BI.Storable (upEmb : UEmb _ 𝕄) (tileOut tA tB ix d c s) := by
  unfold tileOut; infer_instance

/-! ### The task of a tile -/

theorem ownSems0_V (d : Dev nD) (L : grid0.Coords) :
    (ownSems0 (thr d L) : sProp 𝕄)
      = iprop(semVal (thr d L, SemLoc.dma cc0_scratch2.sem) 0 ∗ semVal (thr d L, SemLoc.dma cc0_scoped0.sem) 0
          ∗ semVal (thr d L, SemLoc.dma cc0_scoped1.sem) 0 ∗ semVal (thr d L, SemLoc.dma cc0_scoped2.sem) 0
          ∗ bigSep (((((ownCells (thr d L)).erase (thr d L, SemLoc.dma cc0_scratch2.sem)).erase (thr d L, SemLoc.dma cc0_scoped0.sem)).erase
              (thr d L, SemLoc.dma cc0_scoped1.sem)).erase (thr d L, SemLoc.dma cc0_scoped2.sem)) fun g => semVal g 0) := by
  have own : ∀ sm : SemLoc sig, sm.isScoped .scVector = true → ((thr d L, sm) : GSem nD τ sig) ∈ ownCells (thr d L) :=
    fun sm h => mem_ownCells.mpr ⟨rfl, h⟩
  have ne : ∀ a b : SemLoc sig, a ≠ b → ((thr d L, a) : GSem nD τ sig) ≠ (thr d L, b) := fun a b h e => h (Prod.ext_iff.mp e).2
  unfold SparseCore.Cfg.ownSems0
  rw [SparseCore.bigSep_erase' (own (SemLoc.dma cc0_scratch2.sem) (by decide)),
    SparseCore.bigSep_erase' (Finset.mem_erase.mpr ⟨ne _ _ (by decide), own (SemLoc.dma cc0_scoped0.sem) (by decide)⟩),
    SparseCore.bigSep_erase' (Finset.mem_erase.mpr ⟨ne _ _ (by decide), Finset.mem_erase.mpr ⟨ne _ _ (by decide), own (SemLoc.dma cc0_scoped1.sem) (by decide)⟩⟩),
    SparseCore.bigSep_erase' (Finset.mem_erase.mpr ⟨ne _ _ (by decide), Finset.mem_erase.mpr ⟨ne _ _ (by decide),
      Finset.mem_erase.mpr ⟨ne _ _ (by decide), own (SemLoc.dma cc0_scoped2.sem) (by decide)⟩⟩⟩)]

theorem ownBufs_V (d : Dev nD) (L : grid0.Coords) :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

set_option maxHeartbeats 1000000 in
/-- A tile's whole task: from what it is handed to what it hands back. -/
theorem tile_body (hix : ∀ d, InRows (ix d)) (d : Dev nD) (c : Fin 2) (s : Fin 16) (O : CellTallies nD τ sig (HIx 2)) (W : Waits sig (HIx 2)) (hO : ∀ g, O g none = 0) :
    iprop(levAts (K (F := F)).L (K (F := F)).lev ∗ emp ∗ tileIn tA tB ix d c s
        ∗ scopedBufs (thr d (tile c s)) ∗ scopedSems0 (thr d (tile c s)) ∗ owes (thr d (tile c s)) O W)
      ⊢ wp frame (wpE (defs₀ (F := F)) 𝒱₀ (thr d (tile c s)) none) Set.univ
          (cc0_gk (tile c s) aV (Memref.isWhole_whole _) bV (Memref.isWhole_whole _) iV (Memref.isWhole_whole _) oV (Memref.isWhole_whole _) pV (Memref.isWhole_whole _)
            sV (Memref.isWhole_whole _) rV (Memref.isWhole_whole _) cc0_scratch2 cc0_scoped0 cc0_scoped1 cc0_scoped2)
          fun _ => iprop(tileOut tA tB ix d c s ∗ scopedBufs (thr d (tile c s)) ∗ scopedSems0 (thr d (tile c s))
            ∗ ∃ W', ⌜∀ p ∈ W', p ∈ W ∨ p.2 = none⌝ ∗ owes (thr d (tile c s)) O W') := by
  simp only [cc0_gk_eq_skeleton]; unfold cc0_gk_skel
  rw [(K (F := F)).scopedBufs_V facts d (cV (tile c s)) (jV (tile c s)), SparseCore.Cfg.scopedSems0_V (Val := Elt F) d (cV (tile c s)) (jV (tile c s)), ownSems0_V, ownBufs_V]
  unfold tileIn tileOut
  iintro ⟨#Hlv, -, ⟨Ha, Hb, Hi, Ho, Hp⟩, ⟨⟨%fs, Hs⟩, ⟨%fr, Hr⟩, Hbufs⟩, ⟨HsemG, HsemA, HsemB, HsemC, Hsems⟩, HO⟩
  ihave Hmw := (show levAts (K (F := F)).L (K (F := F)).lev ⊢ Transfers.MayWaits (thr d (tile c s)) (none : HIx 2) O from
    (K (F := F)).mayWaits_none (thr := thr d (tile c s)) hO) $$ Hlv
  sl_for (inv d (tile c s) (tA d) (tB d) (ix d) (lq c s) O W) $$ [Hmw Ha Hb Hi Ho Hp Hs Hr HsemG HsemA HsemB HsemC HO]
  case region =>
    intro k _
    exact inv_step d (tile c s) (tA d) (tB d) (ix d) (lq c s) O W (hix d) k
  · unfold inv core
    isplitr [Ho Hp]
    · isplitl [Hmw]; · iexact Hmw
      isplitl [Ha]; · iexact Ha
      isplitl [Hb]; · iexact Hb
      isplitl [Hi]; · iexact Hi
      isplitl [Hs]; · iexists fs; iexact Hs
      isplitl [Hr]; · iexists fr; iexact Hr
      isplitl [HsemG]; · iexact HsemG
      isplitl [HsemA]; · iexact HsemA
      isplitl [HsemB]; · iexact HsemB
      isplitl [HsemC]; · iexact HsemC
      iexists W; isplitr
      · ipureintro; exact fun p hp => .inl hp
      · iexact HO
    · isplitl [Ho]
      · iapply (Entails.of_eq (oSt_zero d (tile c s) (tA d) (ix d))); iexact Ho
      · iapply (Entails.of_eq (pSt_zero d (tile c s) (tB d) (ix d))); iexact Hp
  iintro %_ HI
  unfold inv core
  icases HI with ⟨⟨-, Ha, Hb, Hi, ⟨%fs', Hs⟩, ⟨%fr', Hr⟩, HsemG, HsemA, HsemB, HsemC, %W', %hW', HO⟩, Ho, Hp⟩
  sl_step
  isplitl [Ha Hb Hi Ho Hp]
  · isplitl [Ha]; · iexact Ha
    isplitl [Hb]; · iexact Hb
    isplitl [Hi]; · iexact Hi
    isplitl [Ho]
    · iapply (Entails.of_eq (oSt_end d (tile c s) (tA d) (ix d))); iexact Ho
    · iapply (Entails.of_eq (pSt_end d (tile c s) (tB d) (ix d))); iexact Hp
  isplitl [Hs Hr Hbufs]
  · isplitl [Hs]; · iexists _; iexact Hs
    isplitl [Hr]; · iexists _; iexact Hr
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists W'; isplitr
  · ipureintro; exact hW'
  · iexact HO

theorem defs₀_vector (c : Fin τ.nSC) (s : Fin τ.nSub) :
    defs₀ (F := F) (.scVector c s) 0 ()
      = SparseCore.onTile hcore0 hsub0 (fun c s => cc0_gk (tile c s)
          aV (Memref.isWhole_whole _) bV (Memref.isWhole_whole _) iV (Memref.isWhole_whole _) oV (Memref.isWhole_whole _) pV (Memref.isWhole_whole _)
          sV (Memref.isWhole_whole _) rV (Memref.isWhole_whole _) cc0_scratch2 cc0_scoped0 cc0_scoped1 cc0_scoped2) ⟨⟩ c s := rfl

/-! ### The whole arrays and the tiles' parts -/

/-- The chunks of a result, by SparseCore, tile and trip: no two meet, -/
theorem chunks_disjoint : ∀ u ∈ (Finset.univ : Finset (Fin 2 × Fin 16 × Fin k0_t1_loop.trips)), ∀ v ∈ (Finset.univ : Finset (Fin 2 × Fin 16 × Fin k0_t1_loop.trips)),
    u ≠ v → Disjoint (chunk (tile u.1 u.2.1) u.2.2) (chunk (tile v.1 v.2.1) v.2.2) := by
  rintro ⟨c, s, t⟩ - ⟨c', s', t'⟩ - hne
  rw [Finset.disjoint_left]
  intro x hx hx'
  rw [mem_chunk] at hx hx'
  have ht : t.val < 16 := trips_eq ▸ t.isLt
  have ht' : t'.val < 16 := trips_eq ▸ t'.isLt
  have hx1 : 16384 * s.val + 8192 * c.val + 512 * t.val ≤ (x 0).val ∧ (x 0).val < 16384 * s.val + 8192 * c.val + 512 * t.val + 512 := hx
  have hx2 : 16384 * s'.val + 8192 * c'.val + 512 * t'.val ≤ (x 0).val ∧ (x 0).val < 16384 * s'.val + 8192 * c'.val + 512 * t'.val + 512 := hx'
  have hc := c.isLt; have hc' := c'.isLt
  have e1 : c.val = c'.val := by omega
  have e2 : s.val = s'.val := by omega
  have e3 : t.val = t'.val := by omega
  exact hne (Prod.ext (Fin.ext e1) (Prod.ext (Fin.ext e2) (Fin.ext e3)))

/-- and every row is in one. -/
theorem chunks_cover : (Finset.univ : Finset (Fin 2 × Fin 16 × Fin k0_t1_loop.trips)).biUnion (fun u => chunk (tile u.1 u.2.1) u.2.2) = Finset.univ := by
  refine Finset.eq_univ_of_forall fun x => Finset.mem_biUnion.mpr ?_
  have hx : (x 0).val < 262144 := (x 0).isLt
  refine ⟨(⟨(x 0).val / 8192 % 2, by omega⟩, ⟨(x 0).val / 16384, by omega⟩, ⟨(x 0).val / 512 % 16, lt_of_lt_of_eq (by omega : _ < 16) trips_eq.symm⟩), Finset.mem_univ _, ?_⟩
  rw [mem_chunk]
  show 16384 * ((x 0).val / 16384) + 8192 * ((x 0).val / 8192 % 2) + 512 * ((x 0).val / 512 % 16) ≤ (x 0).val
    ∧ (x 0).val < 16384 * ((x 0).val / 16384) + 8192 * ((x 0).val / 8192 % 2) + 512 * ((x 0).val / 512 % 16) + 512
  omega

theorem o_chunks (d : Dev nD) (f : S262144x128.Idx → Elt F .f32) :
    (oLoc d ↦{fullShare} f : sProp 𝕄) = bigSep Finset.univ fun c : Fin 2 => bigSep Finset.univ fun s : Fin 16 => bigSep Finset.univ fun t => oLoc d ↦[chunk (tile c s) t]{fullShare} f := by
  have h := pointsTo_biUnion (ℓ := oLoc d) (q := fullShare) (f := f) (Ix := HIx 2) (Name := ℕ) (U := UU) (Lvl := ℕ) Finset.univ (fun u : Fin 2 × Fin 16 × Fin k0_t1_loop.trips => chunk (tile u.1 u.2.1) u.2.2) chunks_disjoint
  rw [chunks_cover, bigSep_univ_prod] at h
  refine h.trans (bigSep_congr fun c _ => ?_)
  rw [bigSep_univ_prod]
theorem p_chunks (d : Dev nD) (f : S262144x128.Idx → Elt F .f32) :
    (pLoc d ↦{fullShare} f : sProp 𝕄) = bigSep Finset.univ fun c : Fin 2 => bigSep Finset.univ fun s : Fin 16 => bigSep Finset.univ fun t => pLoc d ↦[chunk (tile c s) t]{fullShare} f := by
  have h := pointsTo_biUnion (ℓ := pLoc d) (q := fullShare) (f := f) (Ix := HIx 2) (Name := ℕ) (U := UU) (Lvl := ℕ) Finset.univ (fun u : Fin 2 × Fin 16 × Fin k0_t1_loop.trips => chunk (tile u.1 u.2.1) u.2.2) chunks_disjoint
  rw [chunks_cover, bigSep_univ_prod] at h
  refine h.trans (bigSep_congr fun c _ => ?_)
  rw [bigSep_univ_prod]

/-- The five arrays whole, the results at anything, are what the tiles are handed; -/
theorem deal (d : Dev nD) (fo fp : S262144x128.Idx → Elt F .f32) :
    iprop((aLoc d ↦{fullShare} tA d) ∗ (bLoc d ↦{fullShare} tB d) ∗ (iLoc d ↦{fullShare} ix d) ∗ (oLoc d ↦{fullShare} fo) ∗ pLoc d ↦{fullShare} fp)
      ⊢ (bigSep Finset.univ fun c : Fin 2 => bigSep Finset.univ fun s : Fin 16 => tileIn tA tB ix d c s : sProp 𝕄) := by
  unfold tileIn
  rw [bigSep_sep₂, bigSep_sep₂, bigSep_sep₂, bigSep_sep₂, ← shares, ← shares, ← shares, o_chunks, p_chunks]
  have ho : (bigSep Finset.univ fun c : Fin 2 => bigSep Finset.univ fun s : Fin 16 => bigSep Finset.univ fun t => (oLoc d ↦[chunk (tile c s) t]{fullShare} fo : sProp 𝕄))
      ⊢ bigSep Finset.univ fun c : Fin 2 => bigSep Finset.univ fun s : Fin 16 => bigSep Finset.univ fun t => iprop(∃ f, oLoc d ↦[chunk (tile c s) t]{fullShare} f) := by
    refine bigSep_mono fun c _ => bigSep_mono fun s _ => bigSep_mono fun t _ => ?_
    show (_ : sProp 𝕄) ⊢ _
    iintro H; iexists fo; iexact H
  have hp : (bigSep Finset.univ fun c : Fin 2 => bigSep Finset.univ fun s : Fin 16 => bigSep Finset.univ fun t => (pLoc d ↦[chunk (tile c s) t]{fullShare} fp : sProp 𝕄))
      ⊢ bigSep Finset.univ fun c : Fin 2 => bigSep Finset.univ fun s : Fin 16 => bigSep Finset.univ fun t => iprop(∃ f, pLoc d ↦[chunk (tile c s) t]{fullShare} f) := by
    refine bigSep_mono fun c _ => bigSep_mono fun s _ => bigSep_mono fun t _ => ?_
    show (_ : sProp 𝕄) ⊢ _
    iintro H; iexists fp; iexact H
  iintro ⟨Ha, Hb, Hi, Ho, Hp⟩
  isplitl [Ha]; · iexact Ha
  isplitl [Hb]; · iexact Hb
  isplitl [Hi]; · iexact Hi
  isplitl [Ho]; · iapply ho; iexact Ho
  iapply hp; iexact Hp

/-- and what they hand back is the five arrays whole, the results at the gathered rows. -/
theorem undeal (d : Dev nD) :
    (bigSep Finset.univ fun c : Fin 2 => bigSep Finset.univ fun s : Fin 16 => tileOut tA tB ix d c s : sProp 𝕄)
      = iprop((aLoc d ↦{fullShare} tA d) ∗ (bLoc d ↦{fullShare} tB d) ∗ (iLoc d ↦{fullShare} ix d)
          ∗ (oLoc d ↦{fullShare} rowsOf (tA d) (ix d)) ∗ pLoc d ↦{fullShare} rowsOf (tB d) (ix d)) := by
  unfold tileOut
  rw [bigSep_sep₂, bigSep_sep₂, bigSep_sep₂, bigSep_sep₂, ← shares, ← shares, ← shares, ← o_chunks, ← p_chunks]

end Call

end Cert.Proof.Kernel.G1

end
-- ==== Proof.Gather2.lean ====
/-
  The second gather: a SparseCore call whose thirty-two tiles each fetch the row numbers of sixteen chunks of 512, gather those
  rows of the one table, and write them out. A tile's task, with what the result then holds.
-/
module

public import proofs.«01_k».proof.Proof.Gather1

@[expose] public section

noncomputable section

namespace Cert.Proof.Kernel.G2

open Cert.Kernel Cert.Kernel.Gen Cert.Proof.Kernel

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The buffers of the call -/

abbrev aLoc (d : Dev nD) : Loc nD τ sig := (SparseCore.T d).loc main_v17
abbrev iLoc (d : Dev nD) : Loc nD τ sig := (SparseCore.T d).loc main_v18
abbrev oLoc (d : Dev nD) : Loc nD τ sig := (SparseCore.T d).loc main_v19

local notation "𝕄" => MT nD τ sig (HIx 2) (Elt F) ℕ UU ℕ
local notation "aV" => (Memref.whole main_v17_scv : Memref sig Kind.scVector Space.hbm S16384x128 EltTy.f32)
local notation "iV" => (Memref.whole main_v18_scv : Memref sig Kind.scVector Space.hbm S262144 EltTy.i32)
local notation "oV" => (Memref.whole main_v19_scv : Memref sig Kind.scVector Space.hbm S262144x128 EltTy.f32)
local notation "sV" => (Memref.whole cc3_scratch0 : Memref sig Kind.scVector Space.vmem S512 EltTy.i32)
local notation "rV" => (Memref.whole cc3_scratch1 : Memref sig Kind.scVector Space.vmem S512x128 EltTy.f32)

/-! ## The chunks -/

section Chunk

variable (L : grid3.Coords) (t : Fin k3_t1_loop.trips)

abbrev cV (L : grid3.Coords) : Fin τ.nSC := (L 0).castLE hcore3
abbrev jV (L : grid3.Coords) : Fin τ.nSub := (L 1).castLE hsub3

abbrev iCh : Memref sig .scVector .hbm S512 .i32 := (iV).slice (Rect.unit (s := S262144) (k3_off1 L t) S512.size (k3_off1_inb L t)) (fun _ => rfl)
abbrev oCh : Memref sig .scVector .hbm S512x128 .f32 := (oV).slice (Rect.unit (s := S262144x128) (k3_off2 L t) S512x128.size (k3_off2_inb L t)) (fun _ => rfl)
abbrev aAll : Memref sig .scVector .hbm S16384x128 .f32 := (aV).slice (Rect.unit (s := S16384x128) ![0, 0] S16384x128.size inb_S16384x128_S16384x128_0_0) (fun _ => rfl)

/-- The elements of a result that chunk `t` of a tile writes: 512 rows, all words of each. -/
def chunk : Finset S262144x128.Idx := (Rect.unit (s := S262144x128) (k3_off2 L t) S512x128.size (k3_off2_inb L t)).set

theorem mem_chunk (x : S262144x128.Idx) :
    x ∈ chunk L t ↔ 16384 * (L 1).val + 8192 * (L 0).val + 512 * t.val ≤ (x 0).val ∧ (x 0).val < 16384 * (L 1).val + 8192 * (L 0).val + 512 * t.val + 512 :=
  Cert.Proof.Kernel.G1.mem_chunk L t x

theorem oCh_set : (oCh L t).view.set = chunk L t := by
  show ((View.whole (main_v19_scv : Ref sig .scVector)).slice _).set = _
  rw [View.set_slice]; exact Finset.map_refl

/-- The row number of the list that chunk `t` reads at its place `j`. -/
theorem iCh_read (idx : S262144.Idx → Elt F .i32) (j : S512.Idx) (r : Fin 262144) (hr : r.val = 16384 * (L 1).val + 8192 * (L 0).val + 512 * t.val + (j 0).val) :
    (iCh L t).view.read (Elt F) idx j = idx (at1 r) :=
  Cert.Proof.Kernel.G1.iCh_read L t idx j r hr

/-- What the stream lands of the table, for a list fetched from chunk `t`: the gathered rows at the chunk's places. -/
theorem gathered (tab : S16384x128.Idx → Elt F .f32) (tabv : S16384x128.Idx → Elt F .f32) (htab : ∀ x, tabv x = tab x)
    (idx : S262144.Idx → Elt F .i32) (lst : S512.Idx → Elt F .i32) (hl : lst = (iCh L t).view.read (Elt F) idx)
    (hin : ∀ x, (show BitVec 32 from lst x).toNat < S16384x128.size gathers_S16384x128_S512x128.axis)
    (hn : S512.numel = S512x128.size gathers_S16384x128_S512x128.axis') (j : S512x128.Idx) (x : S262144x128.Idx)
    (h0 : (x 0).val = 16384 * (L 1).val + 8192 * (L 0).val + 512 * t.val + (j 0).val) (h1 : (x 1).val = (j 1).val) :
    SparseCore.gatherPayload gathers_S16384x128_S512x128 tabv (SparseCore.rows lst hn hin) j = rowsOf tab idx x :=
  Cert.Proof.Kernel.G1.gathered L t tab tabv htab idx lst hl hin hn j x h0 h1

/-- All of the table as the tile addresses it reads as the table. -/
theorem aAll_read (tab : S16384x128.Idx → Elt F .f32) (x : S16384x128.Idx) : (aAll).view.read (Elt F) tab x = tab x :=
  Cert.Proof.Kernel.G1.aAll_read tab x

end Chunk

/-! ## One chunk -/

section Trip

variable [FloatOps F]
variable (d : Dev nD) (L : grid3.Coords) (tabA : S16384x128.Idx → Elt F .f32) (idx : S262144.Idx → Elt F .i32)
variable (q : PosShare TreeShare) (O : CellTallies nD τ sig (HIx 2)) (W : Waits sig (HIx 2))

abbrev thr : Thread nD τ := V d (cV L) (jV L)

/-- What a tile holds between its chunks beside the results: the tables' and the list's shares, its two scratch buffers,
    its four semaphores at zero, what it owes. -/
def core : sProp 𝕄 :=
  iprop(Transfers.MayWaits (thr d L) (none : HIx 2) O
    ∗ ((aV).view.loc (thr d L) ↦{q} tabA) ∗ ((iV).view.loc (thr d L) ↦{q} idx)
    ∗ (∃ f, (sV).view.loc (thr d L) ↦{fullShare} f) ∗ (∃ f, (rV).view.loc (thr d L) ↦{fullShare} f)
    ∗ semVal (thr d L, SemLoc.dma cc3_scratch2.sem) 0 ∗ semVal (thr d L, SemLoc.dma cc3_scoped0.sem) 0
    ∗ semVal (thr d L, SemLoc.dma cc3_scoped1.sem) 0
    ∗ ∃ W', ⌜∀ p ∈ W', p ∈ W ∨ p.2 = none⌝ ∗ owes (thr d L) O W')

theorem aAll_set : (aAll).view.set = Finset.univ := by
  show ((View.whole (main_v17_scv : Ref sig .scVector)).slice _).set = _
  rw [View.set_slice, Rect.set_eq_univ_of_whole _ (fun a => ⟨by match a with | 0 => rfl | 1 => rfl, rfl, rfl⟩)]
  exact Finset.map_refl
/-- All of a table, under the two spellings of the slice that is everything. -/
theorem pts_aAll (f : S16384x128.Idx → Elt F .f32) :
    ((aV).view.loc (thr d L) ↦{q} f : sProp 𝕄) = (aAll).view.loc (thr d L) ↦[(aAll).view.set]{q} f := by rw [aAll_set]

/-- A chunk of the result written whole with the gathered rows holds the gathered rows. -/
theorem out_o (t : Fin k3_t1_loop.trips) (f : S262144x128.Idx → Elt F .f32) (w : S512x128.Idx → Elt F .f32) (g : S262144x128.Idx → Elt F .f32)
    (hw : ∀ (j : S512x128.Idx) (x : S262144x128.Idx), (x 0).val = 16384 * (L 1).val + 8192 * (L 0).val + 512 * t.val + (j 0).val → (x 1).val = (j 1).val → w j = g x) :
    ((oCh L t).view.loc (thr d L) ↦[(oCh L t).view.set]{fullShare} (oCh L t).view.writes (Elt F) f [⟨Rect.whole S512x128, w⟩] : sProp 𝕄)
      = (oCh L t).view.loc (thr d L) ↦[(oCh L t).view.set]{fullShare} g := by
  refine pointsTo_congr fun x hx => ?_
  obtain ⟨j, -, rfl⟩ := Finset.mem_map.mp hx
  rw [← View.write_univ_eq_writes_whole]
  refine (View.write_emb_of_mem (v := (oCh L t).view) _ w (Finset.mem_univ j)).trans ?_
  refine (cast_eq _ _).trans (hw j _ ?_ ?_)
  · rw [show (oCh L t).view.emb j 0 = (Rect.unit (s := S262144x128) (k3_off2 L t) S512x128.size (k3_off2_inb L t)).emb j 0 from rfl, Rect.emb_apply]
    show k3_off2 L t 0 + 1 * (j 0).val = _
    rw [k3_off2_eq]; simp
  · rw [show (oCh L t).view.emb j 1 = (Rect.unit (s := S262144x128) (k3_off2 L t) S512x128.size (k3_off2_inb L t)).emb j 1 from rfl, Rect.emb_apply]
    show k3_off2 L t 1 + 1 * (j 1).val = _
    rw [k3_off2_eq]; simp

/-- A stream's rows are worth the row buffer's whole credit. -/
theorem credit : ∀ h : S16384x128.Gathers 0 S512x128, ∑ j, ((rV).slice (S512x128.rowRect h.axis' j) (S512x128.stride_rowRect h.axis' j)).view.dmaCredit
      = (rV).view.dmaCredit := by decide

set_option maxHeartbeats 4000000 in
/-- One chunk: the result's 512 rows go from anything to the rows that the list names. -/
theorem trip (hidx : InRows idx) (t : Fin k3_t1_loop.trips) :
    iprop(core d L tabA idx q O W ∗ ∃ f, (oCh L t).view.loc (thr d L) ↦[(oCh L t).view.set]{fullShare} f)
      ⊢ wp frame (wpE (defs₀ (F := F)) 𝒱₀ (thr d L) none) Set.univ
          (k3_t1_body L aV (Memref.isWhole_whole _) iV (Memref.isWhole_whole _) oV (Memref.isWhole_whole _)
            sV (Memref.isWhole_whole _) rV (Memref.isWhole_whole _) cc3_scratch2 cc3_scoped0 cc3_scoped1 t ⟨⟩)
          fun _ => iprop(core d L tabA idx q O W ∗ ((oCh L t).view.loc (thr d L) ↦[(oCh L t).view.set]{fullShare} rowsOf tabA idx)) := by
  unfold core k3_t1_body
  iintro ⟨⟨#Hmw, Ha, Hi, ⟨%fs, Hs⟩, ⟨%fr, Hr⟩, HsemG, HsemA, HsemB, %W', %hW', HO⟩, %fo, Ho⟩
  sl_exec
  -- the fetched list, and the two scratch buffers over their own elements
  have hrs : (rV).view.set = Finset.univ := View.set_whole _
  have hss : (sV).view.set = Finset.univ := View.set_whole _
  have hl : View.write (Elt F) (sV).view fs (trip.sl.dma0 L idx t) Finset.univ = (iCh L t).view.read (Elt F) idx := View.write_whole_univ _ _ _
  have hin : ∀ x, ((sV).view.read (Elt F) ((iCh L t).view.read (Elt F) idx) x).toNat < S16384x128.size gathers_S16384x128_S512x128.axis := by
    intro x
    rw [show (sV).view.read (Elt F) ((iCh L t).view.read (Elt F) idx) x = idx ((iCh L t).view.emb x) from
      ((View.read_apply _ _).trans (cast_eq _ _)).trans ((View.read_apply _ _).trans (cast_eq _ _))]
    exact hidx _
  ihave Hs0 := (Entails.of_eq (show ((sV).view.loc (thr d L) ↦{fullShare} View.write (Elt F) (sV).view fs (trip.sl.dma0 L idx t) Finset.univ : sProp 𝕄)
      = (sV).view.loc (thr d L) ↦[(sV).view.set]{fullShare} (iCh L t).view.read (Elt F) idx by rw [hss, hl])) $$ Hs
  ihave Hr0 := (Entails.of_eq (show ((rV).view.loc (thr d L) ↦{fullShare} fr : sProp 𝕄)
      = (rV).view.loc (thr d L) ↦[(rV).view.set]{fullShare} fr by rw [hrs])) $$ Hr
  -- the gather and its wait
  ihave Has := (Entails.of_eq (pts_aAll d L q tabA)) $$ Ha
  iapply (SparseCore.wp_indirectGatherLocal countersEmb 𝒱₀ (thr d L) none (hg := gathers_S16384x128_S512x128) (default : HIx 2)
      (rV).view.dmaCredit (credit _) (by decide) hin) $$ [Has Hr0 Hs0 HsemG]
  · isplitl [Has]; · iexact Has
    isplitl [Hr0]; · iexact Hr0
    isplitl [Hs0]; · iexact Hs0
    iexact HsemG
  iintro Hfl
  sl_exec
  iapply (Transfers.wp_waitLocalO countersEmb 𝒱₀ (thr d L) none (default : HIx 2) (rfl : (rV).view.dmaCredit = _)) $$ [Hfl HO]
  · isplitl [Hfl]; · iexact Hfl
    isplitl [HO]; · iexact HO
    iapply (Transfers.MayWaits.elim (SemLoc.dma cc3_scratch2.sem)) $$ Hmw
  iintro ⟨⟨Hr0, Has, Hs0⟩, HsemG, HO⟩
  ihave Ha := (Entails.of_eq (pts_aAll d L q tabA).symm) $$ Has
  ihave Hr1 := (Entails.of_eq (show ((rV).view.loc (thr d L) ↦[(rV).view.set]{fullShare} _ : sProp 𝕄)
      = (rV).view.loc (thr d L) ↦{fullShare} _ by rw [hrs])) $$ Hr0
  sl_exec
  sl_step
  have hw1 : ∀ (j : S512x128.Idx) (x : S262144x128.Idx), (x 0).val = 16384 * (L 1).val + 8192 * (L 0).val + 512 * t.val + (j 0).val → (x 1).val = (j 1).val →
      trip.sl.dma0_1 d L tabA idx t fr hin j = rowsOf tabA idx x := by
    intro j x h0 h1
    refine Eq.trans ?_ (gathered L t tabA _ (aAll_read tabA) idx _ rfl hin rfl j x h0 h1)
    unfold trip.sl.dma0_1
    rw [View.write_whole_univ]; rfl
  ihave Hs3 := (Entails.of_eq (show ((sV).view.loc (thr d L) ↦[(sV).view.set]{fullShare} (iCh L t).view.read (Elt F) idx : sProp 𝕄)
      = (sV).view.loc (thr d L) ↦{fullShare} (iCh L t).view.read (Elt F) idx by rw [hss])) $$ Hs0
  isplitl [Ha Hi Hs3 Hr1 HsemG HsemA HsemB HO]
  · isplitr; · iexact Hmw
    isplitl [Ha]; · iexact Ha
    isplitl [Hi]; · iexact Hi
    isplitl [Hs3]; · iexists _; iexact Hs3
    isplitl [Hr1]; · iexists _; iexact Hr1
    isplitl [HsemG]; · iexact HsemG
    isplitl [HsemA]; · iexact HsemA
    isplitl [HsemB]; · iexact HsemB
    iexists _; isplitr
    swap; · iexact HO
    ipureintro; intro p hp
    iterate 3 (rcases Finset.mem_insert.mp hp with hp | hp; · exact .inr (hp ▸ rfl))
    exact hW' p hp
  iapply (Entails.of_eq (out_o d L t fo _ _ hw1)); iexact Ho

/-! ## A tile -/

theorem trips_eq : k3_t1_loop.trips = 16 := by decide

/-- Chunk `t` of the results before trip `k`: the gathered rows when trip `t` is behind, anything when not. -/
def oSt (k : Nat) (t : Fin k3_t1_loop.trips) : sProp 𝕄 :=
  if t.val < k then iprop(oLoc d ↦[chunk L t]{fullShare} rowsOf tabA idx) else iprop(∃ f, oLoc d ↦[chunk L t]{fullShare} f)

/-- The loop's invariant: `core`, and every chunk of the result as it is before trip `k`. -/
def inv (k : Nat) (_ : PUnit) : sProp 𝕄 :=
  iprop(core d L tabA idx q O W ∗ bigSep Finset.univ fun t => oSt d L tabA idx k t)

theorem oSt_rest (k : Fin k3_t1_loop.trips) :
    (bigSep (Finset.univ.erase k) fun t => oSt d L tabA idx k.val t) = (bigSep (Finset.univ.erase k) fun t => oSt d L tabA idx (k.val + 1) t : sProp 𝕄) := by
  refine bigSep_congr fun t ht => ?_
  have hne : t.val ≠ k.val := fun e => (Finset.mem_erase.mp ht).1 (Fin.ext e)
  unfold oSt
  by_cases h : t.val < k.val
  · rw [if_pos h, if_pos (by omega)]
  · rw [if_neg h, if_neg (by omega)]

theorem oSt_zero : (bigSep Finset.univ fun t => iprop(∃ f, oLoc d ↦[chunk L t]{fullShare} f)) = (bigSep Finset.univ fun t => oSt d L tabA idx 0 t : sProp 𝕄) :=
  bigSep_congr fun t _ => by unfold oSt; rw [if_neg (Nat.not_lt_zero _)]
theorem oSt_end : (bigSep Finset.univ fun t => oSt d L tabA idx k3_t1_loop.trips t) = (bigSep Finset.univ fun t => oLoc d ↦[chunk L t]{fullShare} rowsOf tabA idx : sProp 𝕄) :=
  bigSep_congr fun t _ => by unfold oSt; rw [if_pos t.isLt]

theorem pts_o (t : Fin k3_t1_loop.trips) (f : S262144x128.Idx → Elt F .f32) :
    ((oCh L t).view.loc (thr d L) ↦[(oCh L t).view.set]{fullShare} f : sProp 𝕄) = oLoc d ↦[chunk L t]{fullShare} f := by rw [oCh_set]

/-- One trip takes the invariant on. -/
theorem inv_step (hidx : InRows idx) (k : Fin k3_t1_loop.trips) :
    inv d L tabA idx q O W k.val ⟨⟩
      ⊢ wp frame (wpE (defs₀ (F := F)) 𝒱₀ (thr d L) none) Set.univ
          (k3_t1_body L aV (Memref.isWhole_whole _) iV (Memref.isWhole_whole _) oV (Memref.isWhole_whole _)
            sV (Memref.isWhole_whole _) rV (Memref.isWhole_whole _) cc3_scratch2 cc3_scoped0 cc3_scoped1 k ⟨⟩)
          fun _ => inv d L tabA idx q O W (k.val + 1) ⟨⟩ := by
  unfold inv
  rw [SparseCore.bigSep_erase' (Finset.mem_univ k) (Φ := fun t => oSt d L tabA idx k.val t),
    SparseCore.bigSep_erase' (Finset.mem_univ k) (Φ := fun t => oSt d L tabA idx (k.val + 1) t), ← oSt_rest]
  generalize (bigSep (Finset.univ.erase k) fun t => oSt d L tabA idx k.val t) = Ro
  unfold oSt
  rw [if_neg (lt_irrefl _), if_pos (Nat.lt_succ_self _)]
  refine BI.Entails.trans ?pre ((sep_mono_left (Q := Ro) (trip d L tabA idx q O W hidx k)).trans
    ((wp_frame_r frame _ _ (R := Ro)).trans (wp_mono frame _ _ fun _ => ?post)))
  case pre =>
    show (_ : sProp 𝕄) ⊢ _
    iintro ⟨Hc, ⟨%fo, Ho⟩, Hro⟩
    isplitr [Hro]
    · isplitl [Hc]; · iexact Hc
      iexists fo; iapply (Entails.of_eq (pts_o d L k fo).symm); iexact Ho
    · iexact Hro
  case post =>
    show (_ : sProp 𝕄) ⊢ _
    iintro ⟨⟨Hc, Ho⟩, Hro⟩
    isplitl [Hc]; · iexact Hc
    isplitl [Ho]; · iapply (Entails.of_eq (pts_o d L k _)); iexact Ho
    iexact Hro

end Trip

/-! ## What the call's handshakes carry -/

section Call

variable [FloatOps F]
/- the tables and the list, on each device, when the call starts -/
variable (tA : Dev nD → S16384x128.Idx → Elt F .f32) (ix : Dev nD → S262144.Idx → Elt F .i32)

/-- SparseCore `c`'s tile `s`. -/
def tile (c : Fin 2) (s : Fin 16) : grid3.Coords :=
  fun | 0 => c | 1 => s | ⟨_ + 2, h⟩ => absurd h (Nat.not_lt.2 (Nat.le_add_left _ _))

/-- What a tile is handed: its share of the table and of the list, its chunks of the result at anything. -/
def tileIn (d : Dev nD) (c : Fin 2) (s : Fin 16) : sProp 𝕄 :=
  iprop((aLoc d ↦{lq c s} tA d) ∗ (iLoc d ↦{lq c s} ix d)
    ∗ bigSep Finset.univ fun t => iprop(∃ f, oLoc d ↦[chunk (tile c s) t]{fullShare} f))
/-- What it hands back: the shares, its chunks at the gathered rows. -/
def tileOut (d : Dev nD) (c : Fin 2) (s : Fin 16) : sProp 𝕄 :=
  iprop((aLoc d ↦{lq c s} tA d) ∗ (iLoc d ↦{lq c s} ix d)
    ∗ bigSep Finset.univ fun t => oLoc d ↦[chunk (tile c s) t]{fullShare} rowsOf (tA d) (ix d))

instance tileIn_storable (d : Dev nD) (c : Fin 2) (s : Fin 16) : BI.Storable (upEmb : UEmb _ 𝕄) (tileIn tA ix d c s) := by
  unfold tileIn; infer_instance
instance tileOut_storable (d : Dev nD) (c : Fin 2) (s : Fin 16) : BI.Storable (upEmb : UEmb _ 𝕄) (tileOut tA ix d c s) := by
  unfold tileOut; infer_instance

/-! ### The task of a tile -/

theorem ownSems0_V (d : Dev nD) (L : grid3.Coords) :
    (ownSems0 (thr d L) : sProp 𝕄)
      = iprop(semVal (thr d L, SemLoc.dma cc3_scratch2.sem) 0 ∗ semVal (thr d L, SemLoc.dma cc3_scoped0.sem) 0
          ∗ semVal (thr d L, SemLoc.dma cc3_scoped1.sem) 0
          ∗ bigSep ((((ownCells (thr d L)).erase (thr d L, SemLoc.dma cc3_scratch2.sem)).erase (thr d L, SemLoc.dma cc3_scoped0.sem)).erase
              (thr d L, SemLoc.dma cc3_scoped1.sem)) fun g => semVal g 0) := by
  have own : ∀ sm : SemLoc sig, sm.isScoped .scVector = true → ((thr d L, sm) : GSem nD τ sig) ∈ ownCells (thr d L) :=
    fun sm h => mem_ownCells.mpr ⟨rfl, h⟩
  have ne : ∀ a b : SemLoc sig, a ≠ b → ((thr d L, a) : GSem nD τ sig) ≠ (thr d L, b) := fun a b h e => h (Prod.ext_iff.mp e).2
  unfold SparseCore.Cfg.ownSems0
  rw [SparseCore.bigSep_erase' (own (SemLoc.dma cc3_scratch2.sem) (by decide)),
    SparseCore.bigSep_erase' (Finset.mem_erase.mpr ⟨ne _ _ (by decide), own (SemLoc.dma cc3_scoped0.sem) (by decide)⟩),
    SparseCore.bigSep_erase' (Finset.mem_erase.mpr ⟨ne _ _ (by decide), Finset.mem_erase.mpr ⟨ne _ _ (by decide), own (SemLoc.dma cc3_scoped1.sem) (by decide)⟩⟩)]

theorem ownBufs_V (d : Dev nD) (L : grid3.Coords) :
    (ownBufs (thr d L) : sProp 𝕄)
      = iprop((∃ f, (thr d L).loc cc3_scratch0 ↦{fullShare} f) ∗ (∃ f, (thr d L).loc cc3_scratch1 ↦{fullShare} f)
          ∗ bigSep (((ownRefs (τ := τ) (.scVector (cV L) (jV L))).erase ((Proc.scVector (cV L) (jV L)).devRef cc3_scratch0)).erase
              ((Proc.scVector (cV L) (jV L)).devRef cc3_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩)]

set_option maxHeartbeats 1000000 in
/-- A tile's whole task: from what it is handed to what it hands back. -/
theorem tile_body (hix : ∀ d, InRows (ix d)) (d : Dev nD) (c : Fin 2) (s : Fin 16) (O : CellTallies nD τ sig (HIx 2)) (W : Waits sig (HIx 2)) (hO : ∀ g, O g none = 0) :
    iprop(levAts (K (F := F)).L (K (F := F)).lev ∗ emp ∗ tileIn tA ix d c s
        ∗ scopedBufs (thr d (tile c s)) ∗ scopedSems0 (thr d (tile c s)) ∗ owes (thr d (tile c s)) O W)
      ⊢ wp frame (wpE (defs₀ (F := F)) 𝒱₀ (thr d (tile c s)) none) Set.univ
          (cc3_gk (tile c s) aV (Memref.isWhole_whole _) iV (Memref.isWhole_whole _) oV (Memref.isWhole_whole _)
            sV (Memref.isWhole_whole _) rV (Memref.isWhole_whole _) cc3_scratch2 cc3_scoped0 cc3_scoped1)
          fun _ => iprop(tileOut tA ix d c s ∗ scopedBufs (thr d (tile c s)) ∗ scopedSems0 (thr d (tile c s))
            ∗ ∃ W', ⌜∀ p ∈ W', p ∈ W ∨ p.2 = none⌝ ∗ owes (thr d (tile c s)) O W') := by
  simp only [cc3_gk_eq_skeleton]; unfold cc3_gk_skel
  rw [(K (F := F)).scopedBufs_V facts d (cV (tile c s)) (jV (tile c s)), SparseCore.Cfg.scopedSems0_V (Val := Elt F) d (cV (tile c s)) (jV (tile c s)), ownSems0_V, ownBufs_V]
  unfold tileIn tileOut
  iintro ⟨#Hlv, -, ⟨Ha, Hi, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (thr d (tile c s)) (none : HIx 2) O from
    (K (F := F)).mayWaits_none (thr := thr d (tile c s)) hO) $$ Hlv
  sl_for (inv d (tile c s) (tA d) (ix d) (lq c s) O W) $$ [Hmw Ha Hi Ho Hs Hr HsemG HsemA HsemB HO]
  case region =>
    intro k _
    exact inv_step d (tile c s) (tA d) (ix d) (lq c s) O W (hix d) k
  · unfold inv core
    isplitr [Ho]
    · isplitl [Hmw]; · iexact Hmw
      isplitl [Ha]; · iexact Ha
      isplitl [Hi]; · iexact Hi
      isplitl [Hs]; · iexists fs; iexact Hs
      isplitl [Hr]; · iexists fr; iexact Hr
      isplitl [HsemG]; · iexact HsemG
      isplitl [HsemA]; · iexact HsemA
      isplitl [HsemB]; · iexact HsemB
      iexists W; isplitr
      · ipureintro; exact fun p hp => .inl hp
      · iexact HO
    · iapply (Entails.of_eq (oSt_zero d (tile c s) (tA d) (ix d))); iexact Ho
  iintro %_ HI
  unfold inv core
  icases HI with ⟨⟨-, Ha, Hi, ⟨%fs', Hs⟩, ⟨%fr', Hr⟩, HsemG, HsemA, HsemB, %W', %hW', HO⟩, Ho⟩
  sl_step
  isplitl [Ha Hi Ho]
  · isplitl [Ha]; · iexact Ha
    isplitl [Hi]; · iexact Hi
    iapply (Entails.of_eq (oSt_end d (tile c s) (tA d) (ix d))); iexact Ho
  isplitl [Hs Hr Hbufs]
  · isplitl [Hs]; · iexists _; iexact Hs
    isplitl [Hr]; · iexists _; iexact Hr
    iexact Hbufs
  isplitl [HsemG HsemA HsemB Hsems]
  · isplitl [HsemG]; · iexact HsemG
    isplitl [HsemA]; · iexact HsemA
    isplitl [HsemB]; · iexact HsemB
    iexact Hsems
  iexists W'; isplitr
  · ipureintro; exact hW'
  · iexact HO

theorem defs₀_vector (c : Fin τ.nSC) (s : Fin τ.nSub) :
    defs₀ (F := F) (.scVector c s) 3 ()
      = SparseCore.onTile hcore3 hsub3 (fun c s => cc3_gk (tile c s)
          aV (Memref.isWhole_whole _) iV (Memref.isWhole_whole _) oV (Memref.isWhole_whole _)
          sV (Memref.isWhole_whole _) rV (Memref.isWhole_whole _) cc3_scratch2 cc3_scoped0 cc3_scoped1) ⟨⟩ c s := rfl

/-! ### The whole arrays and the tiles' parts -/

/-- The chunks of a result, by SparseCore, tile and trip: no two meet, -/
theorem chunks_disjoint : ∀ u ∈ (Finset.univ : Finset (Fin 2 × Fin 16 × Fin k3_t1_loop.trips)), ∀ v ∈ (Finset.univ : Finset (Fin 2 × Fin 16 × Fin k3_t1_loop.trips)),
    u ≠ v → Disjoint (chunk (tile u.1 u.2.1) u.2.2) (chunk (tile v.1 v.2.1) v.2.2) :=
  Cert.Proof.Kernel.G1.chunks_disjoint

/-- and every row is in one. -/
theorem chunks_cover : (Finset.univ : Finset (Fin 2 × Fin 16 × Fin k3_t1_loop.trips)).biUnion (fun u => chunk (tile u.1 u.2.1) u.2.2) = Finset.univ :=
  Cert.Proof.Kernel.G1.chunks_cover

theorem o_chunks (d : Dev nD) (f : S262144x128.Idx → Elt F .f32) :
    (oLoc d ↦{fullShare} f : sProp 𝕄) = bigSep Finset.univ fun c : Fin 2 => bigSep Finset.univ fun s : Fin 16 => bigSep Finset.univ fun t => oLoc d ↦[chunk (tile c s) t]{fullShare} f := by
  have h := pointsTo_biUnion (ℓ := oLoc d) (q := fullShare) (f := f) (Ix := HIx 2) (Name := ℕ) (U := UU) (Lvl := ℕ) Finset.univ (fun u : Fin 2 × Fin 16 × Fin k3_t1_loop.trips => chunk (tile u.1 u.2.1) u.2.2) chunks_disjoint
  rw [chunks_cover, bigSep_univ_prod] at h
  refine h.trans (bigSep_congr fun c _ => ?_)
  rw [bigSep_univ_prod]

/-- The three arrays whole, the result at anything, are what the tiles are handed; -/
theorem deal (d : Dev nD) (fo : S262144x128.Idx → Elt F .f32) :
    iprop((aLoc d ↦{fullShare} tA d) ∗ (iLoc d ↦{fullShare} ix d) ∗ (oLoc d ↦{fullShare} fo))
      ⊢ (bigSep Finset.univ fun c : Fin 2 => bigSep Finset.univ fun s : Fin 16 => tileIn tA ix d c s : sProp 𝕄) := by
  unfold tileIn
  rw [bigSep_sep₂, bigSep_sep₂, ← shares, ← shares, o_chunks]
  have ho : (bigSep Finset.univ fun c : Fin 2 => bigSep Finset.univ fun s : Fin 16 => bigSep Finset.univ fun t => (oLoc d ↦[chunk (tile c s) t]{fullShare} fo : sProp 𝕄))
      ⊢ bigSep Finset.univ fun c : Fin 2 => bigSep Finset.univ fun s : Fin 16 => bigSep Finset.univ fun t => iprop(∃ f, oLoc d ↦[chunk (tile c s) t]{fullShare} f) := by
    refine bigSep_mono fun c _ => bigSep_mono fun s _ => bigSep_mono fun t _ => ?_
    show (_ : sProp 𝕄) ⊢ _
    iintro H; iexists fo; iexact H
  iintro ⟨Ha, Hi, Ho⟩
  isplitl [Ha]; · iexact Ha
  isplitl [Hi]; · iexact Hi
  iapply ho; iexact Ho

/-- and what they hand back is the three arrays whole, the result at the gathered rows. -/
theorem undeal (d : Dev nD) :
    (bigSep Finset.univ fun c : Fin 2 => bigSep Finset.univ fun s : Fin 16 => tileOut tA ix d c s : sProp 𝕄)
      = iprop((aLoc d ↦{fullShare} tA d) ∗ (iLoc d ↦{fullShare} ix d) ∗ (oLoc d ↦{fullShare} rowsOf (tA d) (ix d))) := by
  unfold tileOut
  rw [bigSep_sep₂, bigSep_sep₂, ← shares, ← shares, ← o_chunks]

end Call

end Cert.Proof.Kernel.G2

end
-- ==== Proof.Calls.lean ====
/-
  The two SparseCore calls as the launch theorem takes them: what each tile of either is handed and hands back, that a tile's
  task is its body's run, and that a SparseCore's operands are its tiles'.
-/
module

public import proofs.«01_k».proof.Proof.Gather1
public import proofs.«01_k».proof.Proof.Gather2

@[expose] public section

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

theorem nCore_eq : ∀ q : Fin 2, (K (F := F)).nCore q = 2
  | 0 => rfl
  | 1 => rfl
theorem nSub_eq : ∀ q : Fin 2, (K (F := F)).nSub q = 16
  | 0 => rfl
  | 1 => rfl

variable [FloatOps F]
/- the first call's tables and list, the second call's table and list, on each device -/
variable (tA tB : Dev nD → S16384x128.Idx → Elt F .f32) (ix : Dev nD → S262144.Idx → Elt F .i32)
variable (tC : Dev nD → S16384x128.Idx → Elt F .f32) (iy : Dev nD → S262144.Idx → Elt F .i32)

/-- What call `q` hands a tile, -/
def given : (q : Fin 2) → Dev nD → Fin 2 → Fin 16 → sProp 𝕄
  | 0 => G1.tileIn tA tB ix
  | 1 => G2.tileIn tC iy
/-- and what it gets back. -/
def made : (q : Fin 2) → Dev nD → Fin 2 → Fin 16 → sProp 𝕄
  | 0 => G1.tileOut tA tB ix
  | 1 => G2.tileOut tC iy

instance given_storable : (q : Fin 2) → (d : Dev nD) → (c : Fin 2) → (s : Fin 16) → BI.Storable (upEmb : UEmb _ 𝕄) (given tA tB ix tC iy q d c s)
  | 0 => G1.tileIn_storable tA tB ix
  | 1 => G2.tileIn_storable tC iy
instance made_storable : (q : Fin 2) → (d : Dev nD) → (c : Fin 2) → (s : Fin 16) → BI.Storable (upEmb : UEmb _ 𝕄) (made tA tB ix tC iy q d c s)
  | 0 => G1.tileOut_storable tA tB ix
  | 1 => G2.tileOut_storable tC iy

/-- The calls' payloads: each SparseCore is handed its sixteen tiles' and hands them back. -/
def P : (K (F := F)).Pay (nD := nD) (Val := Elt F) (Name := ℕ) (U := UU) where
  st := fun q d c => bigSep Finset.univ fun s => given tA tB ix tC iy q d (Fin.cast (nCore_eq q) c) s
  dn := fun q d c => bigSep Finset.univ fun s => made tA tB ix tC iy q d (Fin.cast (nCore_eq q) c) s
  go := fun q d c i => given tA tB ix tC iy q d (Fin.cast (nCore_eq q) c) (Fin.cast (nSub_eq q) i)
  td := fun q d c i => made tA tB ix tC iy q d (Fin.cast (nCore_eq q) c) (Fin.cast (nSub_eq q) i)
  x := fun _ _ => iprop(emp)

instance P_storable : (P (F := F) tA tB ix tC iy).IsStorable where
  st q d c := (inferInstance : BI.Storable (upEmb : UEmb _ 𝕄) (bigSep Finset.univ fun s => given tA tB ix tC iy q d (Fin.cast (nCore_eq q) c) s))
  dn q d c := (inferInstance : BI.Storable (upEmb : UEmb _ 𝕄) (bigSep Finset.univ fun s => made tA tB ix tC iy q d (Fin.cast (nCore_eq q) c) s))
  go q d c i := given_storable tA tB ix tC iy q d (Fin.cast (nCore_eq q) c) (Fin.cast (nSub_eq q) i)
  td q d c i := made_storable tA tB ix tC iy q d (Fin.cast (nCore_eq q) c) (Fin.cast (nSub_eq q) i)

/-- A tile's task of the first call is its body's run, -/
theorem tileObl_first (hix : ∀ d, InRows (ix d)) : (K (F := F)).TileObl (D (F := F)) 𝒱 (P tA tB ix tC iy) v₀ 0 := by
  intro d c i O W hO _ _
  simp only [show (P tA tB ix tC iy).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [G1.defs₀_vector]; simp only [SparseCore.onTile, hci, and_self, ↓reduceDIte]
  exact (G1.tile_body tA tB ix hix d (Fin.cast (nCore_eq 0) c) (Fin.cast (nSub_eq 0) i) O W hO).trans (wp_mono frame _ _ fun _ => obl_post)

/-- and of the second. -/
theorem tileObl_second (hiy : ∀ d, InRows (iy d)) : (K (F := F)).TileObl (D (F := F)) 𝒱 (P tA tB ix tC iy) v₀ 1 := by
  intro d c i O W hO _ _
  simp only [show (P tA tB ix tC iy).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [G2.defs₀_vector]; simp only [SparseCore.onTile, hci, and_self, ↓reduceDIte]
  exact (G2.tile_body tC iy hiy d (Fin.cast (nCore_eq 1) c) (Fin.cast (nSub_eq 1) i) O W hO).trans (wp_mono frame _ _ fun _ => obl_post)

theorem bigSep_tiles (q : Fin 2) (Φ : Fin 16 → sProp 𝕄) :
    (bigSep Finset.univ fun i : Fin ((K (F := F)).nSub q) => Φ (Fin.cast (nSub_eq q) i)) = bigSep Finset.univ Φ := by
  match q with
  | 0 => exact bigSep_congr fun _ _ => congrArg Φ (Fin.ext rfl)
  | 1 => exact bigSep_congr fun _ _ => congrArg Φ (Fin.ext rfl)
theorem bigSep_cores (q : Fin 2) (Φ : Fin 2 → sProp 𝕄) :
    (bigSep Finset.univ fun i : Fin ((K (F := F)).nCore q) => Φ (Fin.cast (nCore_eq q) i)) = bigSep Finset.univ Φ := by
  match q with
  | 0 => exact bigSep_congr fun _ _ => congrArg Φ (Fin.ext rfl)
  | 1 => exact bigSep_congr fun _ _ => congrArg Φ (Fin.ext rfl)

/-- A SparseCore's operands are its tiles', its results theirs. -/
theorem vecSplit (q : Fin 2) : (K (F := F)).VecSplit' (P tA tB ix tC iy) q := by
  intro d c
  show (bigSep Finset.univ fun s => given tA tB ix tC iy q d (Fin.cast (nCore_eq q) c) s) ⊢ |={Set.univ}=> iprop(
      (bigSep Finset.univ fun i : Fin ((K (F := F)).nSub q) => given tA tB ix tC iy q d (Fin.cast (nCore_eq q) c) (Fin.cast (nSub_eq q) i))
      ∗ ((bigSep Finset.univ fun i : Fin ((K (F := F)).nSub q) => made tA tB ix tC iy q d (Fin.cast (nCore_eq q) c) (Fin.cast (nSub_eq q) i))
          -∗ bigSep Finset.univ fun s => made tA tB ix tC iy q d (Fin.cast (nCore_eq q) c) s))
  rw [bigSep_tiles (F := F) q (fun i => given tA tB ix tC iy q d (Fin.cast (nCore_eq q) c) i),
    bigSep_tiles (F := F) q (fun i => made tA tB ix tC iy q d (Fin.cast (nCore_eq q) c) i)]
  iintro H; imodintro
  isplitl [H]; · iexact H
  iintro H; iexact H

/-- What the first call takes of @main's arrays, -/
theorem first_in (d : Dev nD) (fo fp : S262144x128.Idx → Elt F .f32) :
    iprop((G1.aLoc d ↦{fullShare} tA d) ∗ (G1.bLoc d ↦{fullShare} tB d) ∗ (G1.iLoc d ↦{fullShare} ix d) ∗ (G1.oLoc d ↦{fullShare} fo) ∗ G1.pLoc d ↦{fullShare} fp)
      ⊢ (bigSep Finset.univ fun c : Fin ((K (F := F)).nCore 0) => (P tA tB ix tC iy).st 0 d c : sProp 𝕄) :=
  (G1.deal tA tB ix d fo fp).trans (Entails.of_eq (bigSep_cores (F := F) 0 fun c => bigSep Finset.univ fun s => G1.tileIn tA tB ix d c s).symm)
/-- and what it gives back. -/
theorem first_out (d : Dev nD) : (bigSep Finset.univ fun c : Fin ((K (F := F)).nCore 0) => (P tA tB ix tC iy).dn 0 d c : sProp 𝕄)
    = iprop((G1.aLoc d ↦{fullShare} tA d) ∗ (G1.bLoc d ↦{fullShare} tB d) ∗ (G1.iLoc d ↦{fullShare} ix d)
        ∗ (G1.oLoc d ↦{fullShare} rowsOf (tA d) (ix d)) ∗ G1.pLoc d ↦{fullShare} rowsOf (tB d) (ix d)) :=
  (bigSep_cores (F := F) 0 fun c => bigSep Finset.univ fun s => G1.tileOut tA tB ix d c s).trans (G1.undeal tA tB ix d)
/-- What the second call takes, -/
theorem second_in (d : Dev nD) (fo : S262144x128.Idx → Elt F .f32) :
    iprop((G2.aLoc d ↦{fullShare} tC d) ∗ (G2.iLoc d ↦{fullShare} iy d) ∗ (G2.oLoc d ↦{fullShare} fo))
      ⊢ (bigSep Finset.univ fun c : Fin ((K (F := F)).nCore 1) => (P tA tB ix tC iy).st 1 d c : sProp 𝕄) :=
  (G2.deal tC iy d fo).trans (Entails.of_eq (bigSep_cores (F := F) 1 fun c => bigSep Finset.univ fun s => G2.tileIn tC iy d c s).symm)
/-- and what it gives back. -/
theorem second_out (d : Dev nD) : (bigSep Finset.univ fun c : Fin ((K (F := F)).nCore 1) => (P tA tB ix tC iy).dn 1 d c : sProp 𝕄)
    = iprop((G2.aLoc d ↦{fullShare} tC d) ∗ (G2.iLoc d ↦{fullShare} iy d) ∗ (G2.oLoc d ↦{fullShare} rowsOf (tC d) (iy d))) :=
  (bigSep_cores (F := F) 1 fun c => bigSep Finset.univ fun s => G2.tileOut tC iy d c s).trans (G2.undeal tC iy d)

end Cert.Proof.Kernel

end
-- ==== Proof.Attn1.lean ====
/-
  The first attention call, a TensorCore region: what its body leaves of each block, and the obligation the region rests on.
-/
module

public import proofs.«01_k».proof.Proof.Region
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.WordCmp

@[expose] public section

set_option maxRecDepth 16384

noncomputable section

namespace Cert.Proof.Kernel.R1

open Cert.Kernel Cert.Kernel.Gen Cert.Proof.Kernel

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open TcCoe

local notation "𝕄" => MT nD τ sig (HIx 2) (Elt F) ℕ UU ℕ

variable (V : (c : Dev nD) → (b : Ref sig .tc) → Buf (Elt F) ((c : Thread nD τ).loc b))

/-- The block of window `w` at grid point `t`, read off the array it stands on. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S256x16x128 := Rect.unit (s := S256x16x128) ![0, 0, 0] S256x16x128.size inb_S256x16x128_S256x16x128_0_0_0
abbrev r1_1 : Rect S1x256x3 := Rect.unit (s := S1x256x3) ![0, 0, 0] S1x256x3.size inb_S1x256x3_S1x256x3_0_0_0
abbrev r1_2 : Rect S128x3 := Rect.unit (s := S128x3) ![0, 0] S128x3.size inb_S128x3_S128x3_0_0
abbrev r1_3 : Rect S1x128 := Rect.unit (s := S1x128) ![0, 0] S1x128.size inb_S1x128_S1x128_0_0
abbrev r1_4 : Rect S1x256x128 := Rect.unit (s := S1x256x128) ![0, 0, 0] S1x256x128.size inb_S1x256x128_S1x256x128_0_0_0
abbrev r1_5 : Rect S128x128 := Rect.unit (s := S128x128) ![0, 0] S128x128.size inb_S128x128_S128x128_0_0

/-- What the body leaves in window 9, of the input blocks. -/
def out_9 (x0 x1 : Vec F S256x16x128 .f32) (x2 : Vec F S1x256x3 .f32) (x3 : Vec F S1x256x128 .f32) (x4 x5 x6 : Vec F S128x128 .f32) (x7 : Vec F S128x3 .f32) (x8 : Vec F S1x128 .f32) : Vec F S1x256x128 .f32 :=
  View.canon [⟨r1_4, k1_pay1 (k1_pay3 (View.ld x1 r1_0) (View.ld x2 r1_1) (View.ld x7 r1_2) (View.ld x8 r1_3) (View.ld x0 r1_0) (View.ld x6 r1_5)) (k1_pay4 (View.ld x1 r1_0) (View.ld x2 r1_1) (View.ld x7 r1_2) (View.ld x8 r1_3) (View.ld x0 r1_0) (View.ld x5 r1_5)) (k1_pay5 (View.ld x3 r1_4) (View.ld x4 r1_5))⟩]

theorem cover_9 (p0 : Vec F S1x256x128 .f32) (y : S1x256x128.Idx) :
    ∃ pc ∈ ([⟨r1_4, p0⟩] : List (View.Piece (Elt F) S1x256x128 .f32)), y ∈ pc.1.set :=
  View.cover_of_tiled [⟨r1_4, p0⟩] S1x256x128.size (by rfl) y

set_option maxHeartbeats 1000000 in
/-- The body run on whole staging buffers: the inputs come back as they were, each output holds what the body computes of them. -/
theorem sound_kernel (c : Dev nD) (E : Set ℕ) (i : grid1.Coords) (arg2 : Memref sig .tc .vmem S256x16x128 .f32) (harg2 : arg2.IsWhole) (arg3 : Memref sig .tc .vmem S256x16x128 .f32) (harg3 : arg3.IsWhole) (arg4 : Memref sig .tc .vmem S1x256x3 .f32) (harg4 : arg4.IsWhole) (arg5 : Memref sig .tc .vmem S1x256x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x3 .f32) (harg9 : arg9.IsWhole) (arg10 : Memref sig .tc .vmem S1x128 .f32) (harg10 : arg10.IsWhole) (arg11 : Memref sig .tc .vmem S1x256x128 .f32) (harg11 : arg11.IsWhole)
    (x0 x1 : Vec F S256x16x128 .f32) (x2 : Vec F S1x256x3 .f32) (x3 : Vec F S1x256x128 .f32) (x4 x5 x6 : Vec F S128x128 .f32) (x7 : Vec F S128x3 .f32) (x8 : Vec F S1x128 .f32) (K : PUnit → sProp 𝕄) :
    iprop(ownsTc c arg2 fullShare x0 ∗ ownsTc c arg3 fullShare x1 ∗ ownsTc c arg4 fullShare x2 ∗ ownsTc c arg5 fullShare x3 ∗ ownsTc c arg6 fullShare x4 ∗ ownsTc c arg7 fullShare x5 ∗ ownsTc c arg8 fullShare x6 ∗ ownsTc c arg9 fullShare x7 ∗ ownsTc c arg10 fullShare x8 ∗ (∃ d, ownsTc c arg11 fullShare d)
        ∗ (iprop(ownsTc c arg2 fullShare x0 ∗ ownsTc c arg3 fullShare x1 ∗ ownsTc c arg4 fullShare x2 ∗ ownsTc c arg5 fullShare x3 ∗ ownsTc c arg6 fullShare x4 ∗ ownsTc c arg7 fullShare x5 ∗ ownsTc c arg8 fullShare x6 ∗ ownsTc c arg9 fullShare x7 ∗ ownsTc c arg10 fullShare x8 ∗ ownsTc c arg11 fullShare (out_9 x0 x1 x2 x3 x4 x5 x6 x7 x8)) -∗ K ⟨⟩))
      ⊢ wp frame (wpE (defs₀ (F := F)) 𝒱₀ c none) E (cc1__attn1_kernel i arg2 harg2 arg3 harg3 arg4 harg4 arg5 harg5 arg6 harg6 arg7 harg7 arg8 harg8 arg9 harg9 arg10 harg10 arg11 harg11) K := by
  simp only [cc1__attn1_kernel_eq_skeleton]; unfold cc1__attn1_kernel_skel
  simp only [k1_part1_eq_skeleton]
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_9 _)

/-- The pipeline's proof data: inputs keep their blocks, outputs hold what the body leaves; the TensorCore's debts to later calls pass through. -/
def dat (c : Dev nD) : Pipeline.Dat τ (Elt F) (HIx 2) ℕ UU ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out_9 (iblk V c 0 t) (iblk V c 1 t) (iblk V c 2 t) (iblk V c 3 t) (iblk V c 4 t) (iblk V c 5 t) (iblk V c 6 t) (iblk V c 7 t) (iblk V c 8 t)
  Φ _ := phi spec1 c
  q w := Pipeline.shareOf spec1 w
  owed _ := (K (F := F)).Otc c 1
  recorded _ := recs (F := F) c 1

/-- The arrays' contents at entry. -/
theorem A_eq (c : Dev nD) (w : Fin cfg1.W) : (dat V c).A w = V c (Pipeline.arrRef spec1 w) := by
  dsimp only [dat]

theorem after_9 (c : Dev nD) (t : Fin cfg1.N) : (dat V c).after 9 t = out_9 (iblk V c 0 t) (iblk V c 1 t) (iblk V c 2 t) (iblk V c 3 t) (iblk V c 4 t) (iblk V c 5 t) (iblk V c 6 t) (iblk V c 7 t) (iblk V c 8 t) := by dsimp only [dat]

theorem before_0 (c : Dev nD) (t : Fin cfg1.N) (d) : (dat V c).before 0 t d = iblk V c 0 t :=
  (dat V c).before_in_eq_fetched 0 rfl (fun _ => rfl) (fun _ _ _ => rfl) (fun _ => rfl) t d
theorem before_1 (c : Dev nD) (t : Fin cfg1.N) (d) : (dat V c).before 1 t d = iblk V c 1 t :=
  (dat V c).before_in_eq_fetched 1 rfl (fun _ => rfl) (fun _ _ _ => rfl) (fun _ => rfl) t d
theorem before_2 (c : Dev nD) (t : Fin cfg1.N) (d) : (dat V c).before 2 t d = iblk V c 2 t :=
  (dat V c).before_in_eq_fetched 2 rfl (fun _ => rfl) (fun _ _ _ => rfl) (fun _ => rfl) t d
theorem before_3 (c : Dev nD) (t : Fin cfg1.N) (d) : (dat V c).before 3 t d = iblk V c 3 t :=
  (dat V c).before_in_eq_fetched 3 rfl (fun _ => rfl) (fun _ _ _ => rfl) (fun _ => rfl) t d
theorem before_4 (c : Dev nD) (t : Fin cfg1.N) (d) : (dat V c).before 4 t d = iblk V c 4 t :=
  (dat V c).before_in_eq_fetched 4 rfl (fun _ => rfl) (fun _ _ _ => rfl) (fun _ => rfl) t d
theorem before_5 (c : Dev nD) (t : Fin cfg1.N) (d) : (dat V c).before 5 t d = iblk V c 5 t :=
  (dat V c).before_in_eq_fetched 5 rfl (fun _ => rfl) (fun _ _ _ => rfl) (fun _ => rfl) t d
theorem before_6 (c : Dev nD) (t : Fin cfg1.N) (d) : (dat V c).before 6 t d = iblk V c 6 t :=
  (dat V c).before_in_eq_fetched 6 rfl (fun _ => rfl) (fun _ _ _ => rfl) (fun _ => rfl) t d
theorem before_7 (c : Dev nD) (t : Fin cfg1.N) (d) : (dat V c).before 7 t d = iblk V c 7 t :=
  (dat V c).before_in_eq_fetched 7 rfl (fun _ => rfl) (fun _ _ _ => rfl) (fun _ => rfl) t d
theorem before_8 (c : Dev nD) (t : Fin cfg1.N) (d) : (dat V c).before 8 t d = iblk V c 8 t :=
  (dat V c).before_in_eq_fetched 8 rfl (fun _ => rfl) (fun _ _ _ => rfl) (fun _ => rfl) t d

/-- The body table's row is the body. -/
theorem defs₀_row (t : Fin cfg1.N) :
    defs₀ (F := F) .tc cfg1.body (cfg1.bodyArgs t (cfg1.slots t)) = bodyAt1 t := rfl

/-- The body obligation, at every point. -/
theorem body_obligation (c : Dev nD) : Pipeline.BodyObligation (dat V c) (defs₀ (F := F)) 𝒱₀ none Set.univ := fun t => by
  rw [bigSep_W1, bigSep_W1, defs₀_row]
  unfold bodyAt1
  simp only [before_0, before_1, before_2, before_3, before_4, before_5, before_6, before_7, before_8]
  rw [show (dat V c).Φ t.succ = (dat V c).Φ t.castSucc from rfl,
    show (dat V c).owesAt none t.succ = (dat V c).owesAt none t.castSucc from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid1.coords t) _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  iframe

end Cert.Proof.Kernel.R1

end
-- ==== Proof.Attn2.lean ====
/-
  The second attention call, a TensorCore region: its body and obligation.
-/
module

public import proofs.«01_k».proof.Proof.Region
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.WordCmp

@[expose] public section

set_option maxRecDepth 16384

noncomputable section

namespace Cert.Proof.Kernel.R4

open Cert.Kernel Cert.Kernel.Gen Cert.Proof.Kernel

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open TcCoe

local notation "𝕄" => MT nD τ sig (HIx 2) (Elt F) ℕ UU ℕ

variable (V : (c : Dev nD) → (b : Ref sig .tc) → Buf (Elt F) ((c : Thread nD τ).loc b))

/-- The block of window `w` at grid point `t`, read off the array it stands on. -/
def iblk (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S256x16x128 := Rect.unit (s := S256x16x128) ![0, 0, 0] S256x16x128.size inb_S256x16x128_S256x16x128_0_0_0
abbrev r4_1 : Rect S1x256x128 := Rect.unit (s := S1x256x128) ![0, 0, 0] S1x256x128.size inb_S1x256x128_S1x256x128_0_0_0
abbrev r4_2 : Rect S128x128 := Rect.unit (s := S128x128) ![0, 0] S128x128.size inb_S128x128_S128x128_0_0
abbrev r4_3 : Rect S1x128 := Rect.unit (s := S1x128) ![0, 0] S1x128.size inb_S1x128_S1x128_0_0

/-- What the body leaves in window 14, of the input blocks. -/
def out_14 (x0 : Vec F S256x16x128 .f32) (x1 x2 : Vec F S1x256x128 .f32) (x3 : Vec F S128x128 .f32) (x4 : Vec F S1x128 .f32) (x5 x6 : Vec F S128x128 .f32) (x7 : Vec F S1x256x128 .f32) (x8 : Vec F S128x128 .f32) (x9 x10 x11 x12 x13 : Vec F S1x128 .f32) : Vec F S1x256x128 .f32 :=
  View.canon [⟨r4_1, k4_pay1 (k4_pay6 (View.ld x7 r4_1)) (k4_pay7 (k4_pay3 (View.ld x0 r4_0) (View.ld x1 r4_1) (View.ld x3 r4_2) (View.ld x4 r4_3) (View.ld x6 r4_2)) (k4_pay4 (View.ld x0 r4_0) (View.ld x1 r4_1) (View.ld x3 r4_2) (View.ld x4 r4_3) (View.ld x2 r4_1) (View.ld x5 r4_2)) (k4_pay5 (View.ld x0 r4_0) (View.ld x1 r4_1) (View.ld x3 r4_2) (View.ld x4 r4_3) (View.ld x2 r4_1) (View.ld x5 r4_2)) (View.ld x7 r4_1) (View.ld x10 r4_3) (View.ld x11 r4_3)) (View.ld x8 r4_2) (View.ld x9 r4_3) (View.ld x12 r4_3) (View.ld x13 r4_3)⟩]

theorem cover_14 (p0 : Vec F S1x256x128 .f32) (y : S1x256x128.Idx) :
    ∃ pc ∈ ([⟨r4_1, p0⟩] : List (View.Piece (Elt F) S1x256x128 .f32)), y ∈ pc.1.set :=
  View.cover_of_tiled [⟨r4_1, p0⟩] S1x256x128.size (by rfl) y

set_option maxHeartbeats 1000000 in
/-- The body run on whole staging buffers: the inputs come back as they were, each output holds what the body computes of them. -/
theorem sound_kernel (c : Dev nD) (E : Set ℕ) (i : grid4.Coords) (arg2 : Memref sig .tc .vmem S256x16x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x256x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x256x128 .f32) (harg16 : arg16.IsWhole)
    (x0 : Vec F S256x16x128 .f32) (x1 x2 : Vec F S1x256x128 .f32) (x3 : Vec F S128x128 .f32) (x4 : Vec F S1x128 .f32) (x5 x6 : Vec F S128x128 .f32) (x7 : Vec F S1x256x128 .f32) (x8 : Vec F S128x128 .f32) (x9 x10 x11 x12 x13 : Vec F S1x128 .f32) (K : PUnit → sProp 𝕄) :
    iprop(ownsTc c arg2 fullShare x0 ∗ ownsTc c arg3 fullShare x1 ∗ ownsTc c arg4 fullShare x2 ∗ ownsTc c arg5 fullShare x3 ∗ ownsTc c arg6 fullShare x4 ∗ ownsTc c arg7 fullShare x5 ∗ ownsTc c arg8 fullShare x6 ∗ ownsTc c arg9 fullShare x7 ∗ ownsTc c arg10 fullShare x8 ∗ ownsTc c arg11 fullShare x9 ∗ ownsTc c arg12 fullShare x10 ∗ ownsTc c arg13 fullShare x11 ∗ ownsTc c arg14 fullShare x12 ∗ ownsTc c arg15 fullShare x13 ∗ (∃ d, ownsTc c arg16 fullShare d)
        ∗ (iprop(ownsTc c arg2 fullShare x0 ∗ ownsTc c arg3 fullShare x1 ∗ ownsTc c arg4 fullShare x2 ∗ ownsTc c arg5 fullShare x3 ∗ ownsTc c arg6 fullShare x4 ∗ ownsTc c arg7 fullShare x5 ∗ ownsTc c arg8 fullShare x6 ∗ ownsTc c arg9 fullShare x7 ∗ ownsTc c arg10 fullShare x8 ∗ ownsTc c arg11 fullShare x9 ∗ ownsTc c arg12 fullShare x10 ∗ ownsTc c arg13 fullShare x11 ∗ ownsTc c arg14 fullShare x12 ∗ ownsTc c arg15 fullShare x13 ∗ ownsTc c arg16 fullShare (out_14 x0 x1 x2 x3 x4 x5 x6 x7 x8 x9 x10 x11 x12 x13)) -∗ K ⟨⟩))
      ⊢ wp frame (wpE (defs₀ (F := F)) 𝒱₀ c none) E (cc4__attn2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc4__attn2_kernel_eq_skeleton]; unfold cc4__attn2_kernel_skel
  simp only [k4_part1_eq_skeleton, k4_part2_eq_skeleton]
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover_14 _)

/-- The pipeline's proof data: inputs keep their blocks, outputs hold what the body leaves; the TensorCore's debts to later calls pass through. -/
def dat (c : Dev nD) : Pipeline.Dat τ (Elt F) (HIx 2) ℕ UU ℕ cfg4 c where
  A w := V c (Pipeline.arrRef spec4 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => out_14 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)
  Φ _ := phi spec4 c
  q w := Pipeline.shareOf spec4 w
  owed _ := (K (F := F)).Otc c 2
  recorded _ := recs (F := F) c 2

/-- The arrays' contents at entry. -/
theorem A_eq (c : Dev nD) (w : Fin cfg4.W) : (dat V c).A w = V c (Pipeline.arrRef spec4 w) := by
  dsimp only [dat]

theorem after_14 (c : Dev nD) (t : Fin cfg4.N) : (dat V c).after 14 t = out_14 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) := by dsimp only [dat]

theorem before_0 (c : Dev nD) (t : Fin cfg4.N) (d) : (dat V c).before 0 t d = iblk V c 0 t :=
  (dat V c).before_in_eq_fetched 0 rfl (fun _ => rfl) (fun _ _ _ => rfl) (fun _ => rfl) t d
theorem before_1 (c : Dev nD) (t : Fin cfg4.N) (d) : (dat V c).before 1 t d = iblk V c 1 t :=
  (dat V c).before_in_eq_fetched 1 rfl (fun _ => rfl) (fun _ _ _ => rfl) (fun _ => rfl) t d
theorem before_2 (c : Dev nD) (t : Fin cfg4.N) (d) : (dat V c).before 2 t d = iblk V c 2 t :=
  (dat V c).before_in_eq_fetched 2 rfl (fun _ => rfl) (fun _ _ _ => rfl) (fun _ => rfl) t d
theorem before_3 (c : Dev nD) (t : Fin cfg4.N) (d) : (dat V c).before 3 t d = iblk V c 3 t :=
  (dat V c).before_in_eq_fetched 3 rfl (fun _ => rfl) (fun _ _ _ => rfl) (fun _ => rfl) t d
theorem before_4 (c : Dev nD) (t : Fin cfg4.N) (d) : (dat V c).before 4 t d = iblk V c 4 t :=
  (dat V c).before_in_eq_fetched 4 rfl (fun _ => rfl) (fun _ _ _ => rfl) (fun _ => rfl) t d
theorem before_5 (c : Dev nD) (t : Fin cfg4.N) (d) : (dat V c).before 5 t d = iblk V c 5 t :=
  (dat V c).before_in_eq_fetched 5 rfl (fun _ => rfl) (fun _ _ _ => rfl) (fun _ => rfl) t d
theorem before_6 (c : Dev nD) (t : Fin cfg4.N) (d) : (dat V c).before 6 t d = iblk V c 6 t :=
  (dat V c).before_in_eq_fetched 6 rfl (fun _ => rfl) (fun _ _ _ => rfl) (fun _ => rfl) t d
theorem before_7 (c : Dev nD) (t : Fin cfg4.N) (d) : (dat V c).before 7 t d = iblk V c 7 t :=
  (dat V c).before_in_eq_fetched 7 rfl (fun _ => rfl) (fun _ _ _ => rfl) (fun _ => rfl) t d
theorem before_8 (c : Dev nD) (t : Fin cfg4.N) (d) : (dat V c).before 8 t d = iblk V c 8 t :=
  (dat V c).before_in_eq_fetched 8 rfl (fun _ => rfl) (fun _ _ _ => rfl) (fun _ => rfl) t d
theorem before_9 (c : Dev nD) (t : Fin cfg4.N) (d) : (dat V c).before 9 t d = iblk V c 9 t :=
  (dat V c).before_in_eq_fetched 9 rfl (fun _ => rfl) (fun _ _ _ => rfl) (fun _ => rfl) t d
theorem before_10 (c : Dev nD) (t : Fin cfg4.N) (d) : (dat V c).before 10 t d = iblk V c 10 t :=
  (dat V c).before_in_eq_fetched 10 rfl (fun _ => rfl) (fun _ _ _ => rfl) (fun _ => rfl) t d
theorem before_11 (c : Dev nD) (t : Fin cfg4.N) (d) : (dat V c).before 11 t d = iblk V c 11 t :=
  (dat V c).before_in_eq_fetched 11 rfl (fun _ => rfl) (fun _ _ _ => rfl) (fun _ => rfl) t d
theorem before_12 (c : Dev nD) (t : Fin cfg4.N) (d) : (dat V c).before 12 t d = iblk V c 12 t :=
  (dat V c).before_in_eq_fetched 12 rfl (fun _ => rfl) (fun _ _ _ => rfl) (fun _ => rfl) t d
theorem before_13 (c : Dev nD) (t : Fin cfg4.N) (d) : (dat V c).before 13 t d = iblk V c 13 t :=
  (dat V c).before_in_eq_fetched 13 rfl (fun _ => rfl) (fun _ _ _ => rfl) (fun _ => rfl) t d

/-- The body table's row is the body. -/
theorem defs₀_row (t : Fin cfg4.N) :
    defs₀ (F := F) .tc cfg4.body (cfg4.bodyArgs t (cfg4.slots t)) = bodyAt4 t := rfl

/-- The body obligation, at every point. -/
theorem body_obligation (c : Dev nD) : Pipeline.BodyObligation (dat V c) (defs₀ (F := F)) 𝒱₀ none Set.univ := fun t => by
  rw [bigSep_W4, bigSep_W4, defs₀_row]
  unfold bodyAt4
  simp only [before_0, before_1, before_2, before_3, before_4, before_5, before_6, before_7, before_8, before_9, before_10, before_11, before_12, before_13]
  rw [show (dat V c).Φ t.succ = (dat V c).Φ t.castSucc from rfl,
    show (dat V c).owesAt none t.succ = (dat V c).owesAt none t.castSucc from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid4.coords t) _ _ _ _ _ _ _ _ _ _ _ _ _ _ _ _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  iframe

end Cert.Proof.Kernel.R4

end
-- ==== Proof.Queries.lean ====
/-
  The call that projects the second layer's queries (and finds neighbours that @main does not read): its body and obligation.
-/
module

public import proofs.«01_k».proof.Proof.Region
public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Tactic
public import Idealize.ShloMosaic.Lib.WordCmp

@[expose] public section

set_option maxRecDepth 16384

noncomputable section

namespace Cert.Proof.Kernel.R2

open Cert.Kernel Cert.Kernel.Gen Cert.Proof.Kernel

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open TcCoe

local notation "𝕄" => MT nD τ sig (HIx 2) (Elt F) ℕ UU ℕ

variable (V : (c : Dev nD) → (b : Ref sig .tc) → Buf (Elt F) ((c : Thread nD τ).loc b))

/-- The block of window `w` at grid point `t`, read off the array it stands on. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1x256x128 := Rect.unit (s := S1x256x128) ![0, 0, 0] S1x256x128.size inb_S1x256x128_S1x256x128_0_0_0
abbrev r2_1 : Rect S1x2048x128 := Rect.unit (s := S1x2048x128) ![0, 0, 0] S1x2048x128.size inb_S1x2048x128_S1x2048x128_0_0_0
abbrev r2_2 : Rect S1x256x16 := Rect.unit (s := S1x256x16) ![0, 0, 0] S1x256x16.size inb_S1x256x16_S1x256x16_0_0_0
abbrev r2_3 : Rect S128x128 := Rect.unit (s := S128x128) ![0, 0] S128x128.size inb_S128x128_S128x128_0_0

def k2_pay59 (i : grid2.Coords) (x0 : Vec F S1x256x128 .f32) (x1 : Vec F S1x2048x128 .f32) (x2 : Vec F S128x128 .f32) : IVec S256x2048 32 :=
  iota .tc S256x2048 32 [1] iota_S256x2048_d1_w32 -- `v20`
def k2_pay60 (i : grid2.Coords) (x0 : Vec F S1x256x128 .f32) (x1 : Vec F S1x2048x128 .f32) (x2 : Vec F S128x128 .f32) : FVec F S256x2048 .f32 :=
  k2_pay6 (View.ld x0 r2_0) (View.ld x1 r2_1) -- `v19`
def k2_pay61 (i : grid2.Coords) (x0 : Vec F S1x256x128 .f32) (x1 : Vec F S1x2048x128 .f32) (x2 : Vec F S128x128 .f32) : FVec F S256x2048 .f32 :=
  k2_pay9 (View.ld x0 r2_0) (View.ld x1 r2_1) -- `v38`
def k2_pay62 (i : grid2.Coords) (x0 : Vec F S1x256x128 .f32) (x1 : Vec F S1x2048x128 .f32) (x2 : Vec F S128x128 .f32) : FVec F S256x1 .f32 :=
  k2_pay10 (View.ld x0 r2_0) (View.ld x1 r2_1) -- `v40`
def k2_pay63 (i : grid2.Coords) (x0 : Vec F S1x256x128 .f32) (x1 : Vec F S1x2048x128 .f32) (x2 : Vec F S128x128 .f32) : FVec F S256x2048 .f32 :=
  k2_pay11 (View.ld x0 r2_0) (View.ld x1 r2_1) -- `v41`
def k2_pay64 (i : grid2.Coords) (x0 : Vec F S1x256x128 .f32) (x1 : Vec F S1x2048x128 .f32) (x2 : Vec F S128x128 .f32) : IVec S256x2048 1 :=
  k2_pay19 (k2_pay60 i x0 x1 x2) (k2_pay59 i x0 x1 x2) (k2_pay61 i x0 x1 x2) (k2_pay62 i x0 x1 x2) (k2_pay63 i x0 x1 x2) -- `v90`
def k2_pay65 (i : grid2.Coords) (x0 : Vec F S1x256x128 .f32) (x1 : Vec F S1x2048x128 .f32) (x2 : Vec F S128x128 .f32) : IVec S256x1 32 :=
  k2_pay28 (k2_pay60 i x0 x1 x2) (k2_pay59 i x0 x1 x2) (k2_pay64 i x0 x1 x2) (Scalar.ofBits .f32 0x7F800000#32) -- `v136`
def k2_pay66 (i : grid2.Coords) (x0 : Vec F S1x256x128 .f32) (x1 : Vec F S1x2048x128 .f32) (x2 : Vec F S128x128 .f32) : IVec S256x2048 1 :=
  k2_pay29 (k2_pay60 i x0 x1 x2) (k2_pay59 i x0 x1 x2) (k2_pay64 i x0 x1 x2) (Scalar.ofBits .f32 0x7F800000#32) -- `v138`
def k2_pay67 (i : grid2.Coords) (x0 : Vec F S1x256x128 .f32) (x1 : Vec F S1x2048x128 .f32) (x2 : Vec F S128x128 .f32) : FVec F S256x2048 .f32 :=
  k2_pay30 (k2_pay60 i x0 x1 x2) (k2_pay59 i x0 x1 x2) (k2_pay64 i x0 x1 x2) (Scalar.ofBits .f32 0x7F800000#32) -- `v139`
def k2_pay68 (i : grid2.Coords) (x0 : Vec F S1x256x128 .f32) (x1 : Vec F S1x2048x128 .f32) (x2 : Vec F S128x128 .f32) : FVec F S256x1 .f32 :=
  k2_pay38 (k2_pay60 i x0 x1 x2) (k2_pay59 i x0 x1 x2) (k2_pay65 i x0 x1 x2) (k2_pay66 i x0 x1 x2) (k2_pay67 i x0 x1 x2) -- `v184`
def k2_pay69 (i : grid2.Coords) (x0 : Vec F S1x256x128 .f32) (x1 : Vec F S1x2048x128 .f32) (x2 : Vec F S128x128 .f32) : IVec S256x2048 32 :=
  k2_pay39 (k2_pay60 i x0 x1 x2) (k2_pay59 i x0 x1 x2) (k2_pay65 i x0 x1 x2) (k2_pay66 i x0 x1 x2) (k2_pay67 i x0 x1 x2) -- `v188`
def k2_pay70 (i : grid2.Coords) (x0 : Vec F S1x256x128 .f32) (x1 : Vec F S1x2048x128 .f32) (x2 : Vec F S128x128 .f32) : FVec F S256x2048 .f32 :=
  k2_pay47 (k2_pay60 i x0 x1 x2) (k2_pay59 i x0 x1 x2) (k2_pay68 i x0 x1 x2) (k2_pay69 i x0 x1 x2) -- `v236`
def k2_pay71 (i : grid2.Coords) (x0 : Vec F S1x256x128 .f32) (x1 : Vec F S1x2048x128 .f32) (x2 : Vec F S128x128 .f32) : FVec F S256 .f32 :=
  k2_pay48 (k2_pay60 i x0 x1 x2) (k2_pay59 i x0 x1 x2) (k2_pay68 i x0 x1 x2) (k2_pay69 i x0 x1 x2) -- `v237`

/-- What the body leaves in window 3, of the input blocks. -/
def out_3 (i : grid2.Coords) (x0 : Vec F S1x256x128 .f32) (x1 : Vec F S1x2048x128 .f32) (x2 : Vec F S128x128 .f32) : Vec F S1x256x16 .i32 :=
  View.canon [⟨r2_2, k2_pay3 (BitVec.ofNat 32 (i 0).val) (k2_pay2 (k2_pay8 (View.ld x0 r2_0) (View.ld x1 r2_1)) (k2_pay12 (k2_pay59 i x0 x1 x2) (k2_pay61 i x0 x1 x2) (k2_pay63 i x0 x1 x2)) (k2_pay15 (k2_pay60 i x0 x1 x2) (k2_pay59 i x0 x1 x2) (k2_pay61 i x0 x1 x2) (k2_pay62 i x0 x1 x2) (k2_pay63 i x0 x1 x2)) (k2_pay18 (k2_pay60 i x0 x1 x2) (k2_pay59 i x0 x1 x2) (k2_pay61 i x0 x1 x2) (k2_pay62 i x0 x1 x2) (k2_pay63 i x0 x1 x2)) (k2_pay22 (k2_pay60 i x0 x1 x2) (k2_pay59 i x0 x1 x2) (k2_pay64 i x0 x1 x2) (Scalar.ofBits .f32 0x7F800000#32)) (k2_pay25 (k2_pay60 i x0 x1 x2) (k2_pay59 i x0 x1 x2) (k2_pay64 i x0 x1 x2) (Scalar.ofBits .f32 0x7F800000#32)) (k2_pay65 i x0 x1 x2) (k2_pay33 (k2_pay60 i x0 x1 x2) (k2_pay59 i x0 x1 x2) (k2_pay65 i x0 x1 x2) (k2_pay66 i x0 x1 x2) (k2_pay67 i x0 x1 x2)) (k2_pay36 (k2_pay60 i x0 x1 x2) (k2_pay59 i x0 x1 x2) (k2_pay65 i x0 x1 x2) (k2_pay66 i x0 x1 x2) (k2_pay67 i x0 x1 x2)) (k2_pay40 (k2_pay69 i x0 x1 x2)) (k2_pay43 (k2_pay60 i x0 x1 x2) (k2_pay59 i x0 x1 x2) (k2_pay68 i x0 x1 x2) (k2_pay69 i x0 x1 x2)) (k2_pay46 (k2_pay60 i x0 x1 x2) (k2_pay59 i x0 x1 x2) (k2_pay68 i x0 x1 x2) (k2_pay69 i x0 x1 x2)) (k2_pay50 (k2_pay59 i x0 x1 x2) (k2_pay70 i x0 x1 x2) (k2_pay71 i x0 x1 x2)) (k2_pay53 (k2_pay60 i x0 x1 x2) (k2_pay59 i x0 x1 x2) (k2_pay70 i x0 x1 x2) (k2_pay71 i x0 x1 x2)) (k2_pay56 (k2_pay60 i x0 x1 x2) (k2_pay59 i x0 x1 x2) (k2_pay70 i x0 x1 x2) (k2_pay71 i x0 x1 x2)) (k2_pay1 (k2_pay60 i x0 x1 x2) (k2_pay59 i x0 x1 x2) (k2_pay57 (k2_pay60 i x0 x1 x2) (k2_pay59 i x0 x1 x2) (k2_pay70 i x0 x1 x2) (k2_pay71 i x0 x1 x2)) (k2_pay58 (k2_pay60 i x0 x1 x2) (k2_pay59 i x0 x1 x2) (k2_pay70 i x0 x1 x2) (k2_pay71 i x0 x1 x2))))⟩]

theorem cover_3 (p0 : Vec F S1x256x16 .i32) (y : S1x256x16.Idx) :
    ∃ pc ∈ ([⟨r2_2, p0⟩] : List (View.Piece (Elt F) S1x256x16 .i32)), y ∈ pc.1.set :=
  View.cover_of_tiled [⟨r2_2, p0⟩] S1x256x16.size (by rfl) y

/-- What the body leaves in window 4, of the input blocks. -/
def out_4 (i : grid2.Coords) (x0 : Vec F S1x256x128 .f32) (x1 : Vec F S1x2048x128 .f32) (x2 : Vec F S128x128 .f32) : Vec F S1x256x128 .f32 :=
  View.canon [⟨r2_0, k2_pay4 (k2_pay5 (View.ld x0 r2_0)) (View.ld x2 r2_3)⟩]

theorem cover_4 (p0 : Vec F S1x256x128 .f32) (y : S1x256x128.Idx) :
    ∃ pc ∈ ([⟨r2_0, p0⟩] : List (View.Piece (Elt F) S1x256x128 .f32)), y ∈ pc.1.set :=
  View.cover_of_tiled [⟨r2_0, p0⟩] S1x256x128.size (by rfl) y

set_option maxHeartbeats 1912550 in
/-- The body run on whole staging buffers: the inputs come back as they were, each output holds what the body computes of them. -/
theorem sound_kernel (c : Dev nD) (E : Set ℕ) (i : grid2.Coords) (arg2 : Memref sig .tc .vmem S1x256x128 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x256x16 .i32) (harg5 : arg5.IsWhole) (arg6 : Memref sig .tc .vmem S1x256x128 .f32) (harg6 : arg6.IsWhole)
    (x0 : Vec F S1x256x128 .f32) (x1 : Vec F S1x2048x128 .f32) (x2 : Vec F S128x128 .f32) (K : PUnit → sProp 𝕄) :
    iprop(ownsTc c arg2 fullShare x0 ∗ ownsTc c arg3 fullShare x1 ∗ ownsTc c arg4 fullShare x2 ∗ (∃ d, ownsTc c arg5 fullShare d) ∗ (∃ d, ownsTc c arg6 fullShare d)
        ∗ (iprop(ownsTc c arg2 fullShare x0 ∗ ownsTc c arg3 fullShare x1 ∗ ownsTc c arg4 fullShare x2 ∗ ownsTc c arg5 fullShare (out_3 i x0 x1 x2) ∗ ownsTc c arg6 fullShare (out_4 i x0 x1 x2)) -∗ K ⟨⟩))
      ⊢ wp frame (wpE (defs₀ (F := F)) 𝒱₀ c none) E (cc2__knn2_kernel i arg2 harg2 arg3 harg3 arg4 harg4 arg5 harg5 arg6 harg6) K := by
  simp only [cc2__knn2_kernel_eq_skeleton]; unfold cc2__knn2_kernel_skel
  simp only [k2_part1_eq_skeleton, k2_part2_eq_skeleton, k2_part3_eq_skeleton, k2_part4_eq_skeleton, k2_part5_eq_skeleton, k2_part6_eq_skeleton]
  unfold ownsTc owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover_3 _)).trans ?_
    rfl
  iexists _; isplitr
  swap; · iexact H4
  ipureintro
  refine (View.read_writes_eq_canon _ _ _ (cover_4 _)).trans ?_
  rfl

/-- The pipeline's proof data: inputs keep their blocks, outputs hold what the body leaves; the TensorCore's debts to later calls pass through. -/
def dat (c : Dev nD) : Pipeline.Dat τ (Elt F) (HIx 2) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => out_3 (grid2.coords t) (iblk V c 0 t) (iblk V c 1 t) (iblk V c 2 t)
    | ⟨4, _⟩ => out_4 (grid2.coords t) (iblk V c 0 t) (iblk V c 1 t) (iblk V c 2 t)
  Φ _ := phi spec2 c
  q w := Pipeline.shareOf spec2 w
  owed _ := (K (F := F)).Otc c 1
  recorded _ := recs (F := F) c 1

/-- The arrays' contents at entry. -/
theorem A_eq (c : Dev nD) (w : Fin cfg2.W) : (dat V c).A w = V c (Pipeline.arrRef spec2 w) := by
  dsimp only [dat]

theorem after_4 (c : Dev nD) (t : Fin cfg2.N) : (dat V c).after 4 t = out_4 (grid2.coords t) (iblk V c 0 t) (iblk V c 1 t) (iblk V c 2 t) := by dsimp only [dat]

theorem before_0 (c : Dev nD) (t : Fin cfg2.N) (d) : (dat V c).before 0 t d = iblk V c 0 t :=
  (dat V c).before_in_eq_fetched 0 rfl (fun _ => rfl) (fun _ _ _ => rfl) (fun _ => rfl) t d
theorem before_1 (c : Dev nD) (t : Fin cfg2.N) (d) : (dat V c).before 1 t d = iblk V c 1 t :=
  (dat V c).before_in_eq_fetched 1 rfl (fun _ => rfl) (fun _ _ _ => rfl) (fun _ => rfl) t d
theorem before_2 (c : Dev nD) (t : Fin cfg2.N) (d) : (dat V c).before 2 t d = iblk V c 2 t :=
  (dat V c).before_in_eq_fetched 2 rfl (fun _ => rfl) (fun _ _ _ => rfl) (fun _ => rfl) t d

/-- The body table's row is the body. -/
theorem defs₀_row (t : Fin cfg2.N) :
    defs₀ (F := F) .tc cfg2.body (cfg2.bodyArgs t (cfg2.slots t)) = bodyAt2 t := rfl

/-- The body obligation, at every point. -/
theorem body_obligation (c : Dev nD) : Pipeline.BodyObligation (dat V c) (defs₀ (F := F)) 𝒱₀ none Set.univ := fun t => by
  rw [bigSep_W2, bigSep_W2, defs₀_row]
  unfold bodyAt2
  simp only [before_0, before_1, before_2]
  rw [show (dat V c).Φ t.succ = (dat V c).Φ t.castSucc from rfl,
    show (dat V c).owesAt none t.succ = (dat V c).owesAt none t.castSucc from rfl]
  dsimp only [dat]
  iintro ⟨HΦ, Ho, ⟨%d0, H0⟩, ⟨%d1, H1⟩, ⟨%d2, H2⟩, ⟨%d3, H3⟩, ⟨%d4, H4⟩⟩
  iapply (sound_kernel c Set.univ (grid2.coords t) _ _ _ _ _ _ _ _ _ _ _ _ _ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  iframe

end Cert.Proof.Kernel.R2

end
-- ==== Proof.Chain.lean ====
/-
  What @main's buffers hold from step to step: the host operations between the calls, and the contents after each call as a
  function of the contents before it.
-/
module

public import proofs.«01_k».proof.Proof.Calls
public import proofs.«01_k».proof.Proof.Region
public import proofs.«01_k».proof.Proof.Attn1
public import proofs.«01_k».proof.Proof.Attn2
public import proofs.«01_k».proof.Proof.Queries

@[expose] public section

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The host operations -/

/-- Before the first gather: the small operands' shapes, the points widened by zeros to a row of 128 words, the tables and the list laid out by rows. -/
def opsA : List (HloOp τ sig (Elt F)) := [
  StableHlo.reshape main_arg11 main_v0 (rfl : (.f32 : EltTy) = .f32) shapeCasts_S128_S1x128,
  StableHlo.reshape main_arg13 main_v1 (rfl : (.f32 : EltTy) = .f32) shapeCasts_S128_S1x128,
  StableHlo.reshape main_arg9 main_v2 (rfl : (.f32 : EltTy) = .f32) shapeCasts_S128_S1x128,
  StableHlo.reshape main_arg14 main_v3 (rfl : (.f32 : EltTy) = .f32) shapeCasts_S128_S1x128,
  StableHlo.reshape main_arg15 main_v4 (rfl : (.f32 : EltTy) = .f32) shapeCasts_S128_S1x128,
  StableHlo.reshape main_arg16 main_v5 (rfl : (.f32 : EltTy) = .f32) shapeCasts_S128_S1x128,
  StableHlo.reshape main_arg17 main_v6 (rfl : (.f32 : EltTy) = .f32) shapeCasts_S128_S1x128,
  StableHlo.nullary main_cst (constant S_ .f32 0x00000000#32),
  StableHlo.unary main_cst main_v7 (broadcastInDim S8x2048x125 ![] bcast_S_S8x2048x125 : (⟨S_, .f32⟩ : BufTy).Contents (Elt F) → (⟨S8x2048x125, .f32⟩ : BufTy).Contents (Elt F)),
  StableHlo.binary main_arg0 main_v7 main_v8 ((fun a b => concatenate S8x2048x128 2 [⟨S8x2048x3, a⟩, ⟨S8x2048x125, b⟩] concatenates_S8x2048x3_S8x2048x125_S8x2048x128_d2) : (⟨S8x2048x3, .f32⟩ : BufTy).Contents (Elt F) → (⟨S8x2048x125, .f32⟩ : BufTy).Contents (Elt F) → (⟨S8x2048x128, .f32⟩ : BufTy).Contents (Elt F)),
  StableHlo.reshape main_arg1 main_v9 (rfl : (.f32 : EltTy) = .f32) shapeCasts_S8x2048x128_S16384x128,
  StableHlo.reshape main_v8 main_v10 (rfl : (.f32 : EltTy) = .f32) shapeCasts_S8x2048x128_S16384x128,
  StableHlo.reshape main_arg18 main_v11 (rfl : (.i32 : EltTy) = .i32) shapeCasts_S8x2048x16_S262144]

/-- Between the first gather and the first attention: the gathered rows, sixteen to a point. -/
def opsB : List (HloOp τ sig (Elt F)) := [
  StableHlo.reshape main_v12_0 main_v13 (rfl : (.f32 : EltTy) = .f32) shapeCasts_S262144x128_S16384x16x128,
  StableHlo.reshape main_v12_1 main_v14 (rfl : (.f32 : EltTy) = .f32) shapeCasts_S262144x128_S16384x16x128]

/-- Before the second gather: the first layer's result by rows, and the second list. -/
def opsC : List (HloOp τ sig (Elt F)) := [
  StableHlo.reshape main_v15 main_v17 (rfl : (.f32 : EltTy) = .f32) shapeCasts_S8x2048x128_S16384x128,
  StableHlo.reshape main_arg19 main_v18 (rfl : (.i32 : EltTy) = .i32) shapeCasts_S8x2048x16_S262144]

/-- Between the second gather and the second attention. -/
def opsD : List (HloOp τ sig (Elt F)) := [
  StableHlo.reshape main_v19 main_v20 (rfl : (.f32 : EltTy) = .f32) shapeCasts_S262144x128_S16384x16x128]

/-- At the end: the result with its first two axes exchanged. -/
def opsE : List (HloOp τ sig (Elt F)) := [
  StableHlo.unary main_v21 main_v22 ((transpose S2048x8x128 [1, 0, 2] · transposes_S8x2048x128_S2048x8x128_1_0_2) : (⟨S8x2048x128, .f32⟩ : BufTy).Contents (Elt F) → (⟨S2048x8x128, .f32⟩ : BufTy).Contents (Elt F))]

theorem main_eq (d : Dev nD) : main (F := F) d = (StableHlo.seq opsA >>= fun _ => sc.run d 0 >>= fun _ => StableHlo.seq opsB >>= fun _ =>
    Prog.lift (.customCall (SparseCore.inner (Pipeline.entry 0)) ()) >>= fun _ =>
    Prog.lift (.customCall (SparseCore.inner (Pipeline.entry 1)) ()) >>= fun _ =>
    StableHlo.seq opsC >>= fun _ => sc.run d 1 >>= fun _ => StableHlo.seq opsD >>= fun _ =>
    Prog.lift (.customCall (SparseCore.inner (Pipeline.entry 2)) ()) >>= fun _ =>
    StableHlo.seq opsE >>= fun _ => pure ⟨⟩) := by
  simp only [main, opsA, opsB, opsC, opsD, opsE, StableHlo.seq, bind_assoc, pure_bind]

theorem opsA_sub : ∀ op ∈ opsA (F := F), op.bufs ⊆ Pipeline.ucRefs τ sig := by
  intro op h; fin_cases h <;> exact Pipeline.sub_ucRefs _ (by simp)
theorem opsA_fresh : ∀ op ∈ opsA (F := F), op.fresh = ∅ := by
  intro op h; fin_cases h <;> rfl
theorem opsB_sub : ∀ op ∈ opsB (F := F), op.bufs ⊆ Pipeline.ucRefs τ sig := by
  intro op h; fin_cases h <;> exact Pipeline.sub_ucRefs _ (by simp)
theorem opsB_fresh : ∀ op ∈ opsB (F := F), op.fresh = ∅ := by
  intro op h; fin_cases h <;> rfl
theorem opsC_sub : ∀ op ∈ opsC (F := F), op.bufs ⊆ Pipeline.ucRefs τ sig := by
  intro op h; fin_cases h <;> exact Pipeline.sub_ucRefs _ (by simp)
theorem opsC_fresh : ∀ op ∈ opsC (F := F), op.fresh = ∅ := by
  intro op h; fin_cases h <;> rfl
theorem opsD_sub : ∀ op ∈ opsD (F := F), op.bufs ⊆ Pipeline.ucRefs τ sig := by
  intro op h; fin_cases h <;> exact Pipeline.sub_ucRefs _ (by simp)
theorem opsD_fresh : ∀ op ∈ opsD (F := F), op.fresh = ∅ := by
  intro op h; fin_cases h <;> rfl
theorem opsE_sub : ∀ op ∈ opsE (F := F), op.bufs ⊆ Pipeline.ucRefs τ sig := by
  intro op h; fin_cases h <;> exact Pipeline.sub_ucRefs _ (by simp)
theorem opsE_fresh : ∀ op ∈ opsE (F := F), op.fresh = ∅ := by
  intro op h; fin_cases h <;> rfl

/-! ## The contents -/

variable (m : (ℓ : Loc nD τ sig) → Buf (Elt F) ℓ)

/-- At the launch, -/
def W₀ (d : Dev nD) : Valuation τ sig (Elt F) := fun b => m (d, b)
/-- before the first gather, -/
def W₁ (d : Dev nD) : Valuation τ sig (Elt F) := StableHlo.after opsA (W₀ m d)
/-- its tables and its list, -/
def tA (d : Dev nD) : S16384x128.Idx → Elt F .f32 := W₁ m d (Proc.devRef .tc main_v9)
def tB (d : Dev nD) : S16384x128.Idx → Elt F .f32 := W₁ m d (Proc.devRef .tc main_v10)
def ix (d : Dev nD) : S262144.Idx → Elt F .i32 := W₁ m d (Proc.devRef .tc main_v11)
/-- after it, -/
def W₂ (d : Dev nD) : Valuation τ sig (Elt F) :=
  Function.update (Function.update (W₁ m d) (Proc.devRef .tc main_v12_0) (rowsOf (tA m d) (ix m d))) (Proc.devRef .tc main_v12_1) (rowsOf (tB m d) (ix m d))
/-- before the first attention, -/
def W₃ (d : Dev nD) : Valuation τ sig (Elt F) := StableHlo.after opsB (W₂ m d)
/-- after it, -/
def W₄ (d : Dev nD) : Valuation τ sig (Elt F) :=
  Pipeline.withArrays spec1 d (W₃ m d) fun w => (R1.dat (fun c b => W₃ m c (Proc.devRef .tc b)) d).arrAt w cfg1.N
/-- after the second layer's queries, -/
def W₅ (d : Dev nD) : Valuation τ sig (Elt F) :=
  Pipeline.withArrays spec2 d (W₄ m d) fun w => (R2.dat (fun c b => W₄ m c (Proc.devRef .tc b)) d).arrAt w cfg2.N
/-- before the second gather, -/
def W₆ (d : Dev nD) : Valuation τ sig (Elt F) := StableHlo.after opsC (W₅ m d)
/-- its table and its list, -/
def tC (d : Dev nD) : S16384x128.Idx → Elt F .f32 := W₆ m d (Proc.devRef .tc main_v17)
def iy (d : Dev nD) : S262144.Idx → Elt F .i32 := W₆ m d (Proc.devRef .tc main_v18)
/-- after it, -/
def W₇ (d : Dev nD) : Valuation τ sig (Elt F) := Function.update (W₆ m d) (Proc.devRef .tc main_v19) (rowsOf (tC m d) (iy m d))
/-- before the second attention, -/
def W₈ (d : Dev nD) : Valuation τ sig (Elt F) := StableHlo.after opsD (W₇ m d)
/-- after it, -/
def W₉ (d : Dev nD) : Valuation τ sig (Elt F) :=
  Pipeline.withArrays spec4 d (W₈ m d) fun w => (R4.dat (fun c b => W₈ m c (Proc.devRef .tc b)) d).arrAt w cfg4.N
/-- and at the end. -/
def W₁₀ (d : Dev nD) : Valuation τ sig (Elt F) := StableHlo.after opsE (W₉ m d)

/-- The three pipelines' data. -/
def pdats : (p : Fin 3) → (c : Dev nD) → Pipeline.Dat τ (Elt F) (HIx 2) ℕ UU ℕ (Pipeline.pin (pcfgs (F := F)) adm p) c
  | 0 => R1.dat fun c b => W₃ m c (Proc.devRef .tc b)
  | 1 => R2.dat fun c b => W₄ m c (Proc.devRef .tc b)
  | 2 => R4.dat fun c b => W₈ m c (Proc.devRef .tc b)

theorem next_zero (d : Dev nD) : next (pdats m) 0 (W₃ m) d = W₄ m d := rfl
theorem next_one (d : Dev nD) : next (pdats m) 1 (W₄ m) d = W₅ m d := rfl
theorem next_two (d : Dev nD) : next (pdats m) 2 (W₈ m) d = W₉ m d := rfl

/-! ## What stays -/

/-- A region changes its results' arrays only. -/
theorem region_keeps {cfg : Pipeline.Cfg sig Λ₀} {c : Dev nD} (dat : Pipeline.Dat τ (Elt F) (HIx 2) ℕ UU ℕ cfg c) (hsh : Pipeline.SharedIn cfg.spec)
    (V : Valuation τ sig (Elt F)) (hA : ∀ w, dat.A w = V (Proc.devRef .tc (Pipeline.arrRef cfg.spec w))) (b : Ref sig .tc)
    (hb : ∀ w, (cfg.spec w).isOut = true → Pipeline.arrRef cfg.spec w ≠ b) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    rw [dat.withArrays_arrAt hsh V hA w]
    cases ho : (cfg.spec w).isOut with
    | true => exact absurd rfl (hb w ho)
    | false => rw [dat.arrAt_in w ho]; exact hA w
  · exact Pipeline.withArrays_of_ne cfg.spec c V _ b fun w e => h ⟨w, e⟩

theorem sharedIn1 : Pipeline.SharedIn spec1 := Pipeline.SharedIn.of_injective winFacts1.arr_inj
theorem sharedIn4 : Pipeline.SharedIn spec4 := Pipeline.SharedIn.of_injective winFacts4.arr_inj

theorem W₄_keeps (d : Dev nD) (b : Ref sig .tc) (hb : main_v15 ≠ b) : W₄ m d (Proc.devRef .tc b) = W₃ m d (Proc.devRef .tc b) :=
  region_keeps (R1.dat (fun c b => W₃ m c (Proc.devRef .tc b)) d) sharedIn1 (W₃ m d) (fun w => R1.A_eq _ d w) b (by
    intro w hw; revert hw; fin_cases w <;> first | (intro hw; exact absurd hw (by decide)) | (intro _; exact hb))
theorem W₅_keeps (d : Dev nD) (b : Ref sig .tc) (hb : main_v16_0 ≠ b) (hb' : main_v16_1 ≠ b) : W₅ m d (Proc.devRef .tc b) = W₄ m d (Proc.devRef .tc b) :=
  region_keeps (R2.dat (fun c b => W₄ m c (Proc.devRef .tc b)) d) sharedIn2 (W₄ m d) (fun w => R2.A_eq _ d w) b (by
    intro w hw; revert hw; fin_cases w <;> first | (intro hw; exact absurd hw (by decide)) | (intro _; exact hb) | (intro _; exact hb'))
theorem W₉_keeps (d : Dev nD) (b : Ref sig .tc) (hb : main_v21 ≠ b) : W₉ m d (Proc.devRef .tc b) = W₈ m d (Proc.devRef .tc b) :=
  region_keeps (R4.dat (fun c b => W₈ m c (Proc.devRef .tc b)) d) sharedIn4 (W₈ m d) (fun w => R4.A_eq _ d w) b (by
    intro w hw; revert hw; fin_cases w <;> first | (intro hw; exact absurd hw (by decide)) | (intro _; exact hb))

theorem W₂_keeps (d : Dev nD) (b : Ref sig .tc) (hb : b ≠ main_v12_0) (hb' : b ≠ main_v12_1) : W₂ m d (Proc.devRef .tc b) = W₁ m d (Proc.devRef .tc b) := by
  unfold W₂
  rw [Function.update_of_ne (StableHlo.devRef_ne_of_ne hb'), Function.update_of_ne (StableHlo.devRef_ne_of_ne hb)]
theorem W₇_keeps (d : Dev nD) (b : Ref sig .tc) (hb : b ≠ main_v19) : W₇ m d (Proc.devRef .tc b) = W₆ m d (Proc.devRef .tc b) := by
  unfold W₇
  rw [Function.update_of_ne (StableHlo.devRef_ne_of_ne hb)]

/-- The references that the host operations write. -/
theorem W₁_keeps (d : Dev nD) (b : Ref sig .tc) (hb : b ∉ [main_v0, main_v1, main_v2, main_v3, main_v4, main_v5, main_v6, main_cst, main_v7, main_v8, main_v9, main_v10, main_v11]) :
    W₁ m d (Proc.devRef .tc b) = m (d, Proc.devRef .tc b) :=
  StableHlo.after_of_writes_sub opsA (W₀ m d) (StableHlo.forall_writes_sub_of_map rfl) hb
theorem W₃_keeps (d : Dev nD) (b : Ref sig .tc) (hb : b ∉ [main_v13, main_v14]) : W₃ m d (Proc.devRef .tc b) = W₂ m d (Proc.devRef .tc b) :=
  StableHlo.after_of_writes_sub opsB (W₂ m d) (StableHlo.forall_writes_sub_of_map rfl) hb
theorem W₆_keeps (d : Dev nD) (b : Ref sig .tc) (hb : b ∉ [main_v17, main_v18]) : W₆ m d (Proc.devRef .tc b) = W₅ m d (Proc.devRef .tc b) :=
  StableHlo.after_of_writes_sub opsC (W₅ m d) (StableHlo.forall_writes_sub_of_map rfl) hb
theorem W₈_keeps (d : Dev nD) (b : Ref sig .tc) (hb : b ∉ [main_v20]) : W₈ m d (Proc.devRef .tc b) = W₇ m d (Proc.devRef .tc b) :=
  StableHlo.after_of_writes_sub opsD (W₇ m d) (StableHlo.forall_writes_sub_of_map rfl) hb
theorem W₁₀_keeps (d : Dev nD) (b : Ref sig .tc) (hb : b ∉ [main_v22]) : W₁₀ m d (Proc.devRef .tc b) = W₉ m d (Proc.devRef .tc b) :=
  StableHlo.after_of_writes_sub opsE (W₉ m d) (StableHlo.forall_writes_sub_of_map rfl) hb

/-- @main's arguments. -/
abbrev argRefs : List (Ref sig .tc) := [main_arg0, main_arg1, main_arg2, main_arg3, main_arg4, main_arg5, main_arg6, main_arg7, main_arg8, main_arg9,
  main_arg10, main_arg11, main_arg12, main_arg13, main_arg14, main_arg15, main_arg16, main_arg17, main_arg18, main_arg19]

section Args
variable (d : Dev nD) (b : Ref sig .tc) (hb : b ∈ argRefs)
include hb

/-- An argument is none of the references that are not arguments. -/
theorem arg_ne (c : Ref sig .tc) (hc : c ∉ argRefs := by decide) : b ≠ c := fun e => hc (e ▸ hb)
theorem arg_nin (l : List (Ref sig .tc)) (hl : ∀ c ∈ l, c ∉ argRefs := by decide) : b ∉ l := fun h => hl b h hb

/-- The arguments keep their launch contents throughout. -/
theorem W₁_arg : W₁ m d (Proc.devRef .tc b) = m (d, Proc.devRef .tc b) :=
  W₁_keeps m d b (arg_nin b hb _)
theorem W₂_arg : W₂ m d (Proc.devRef .tc b) = m (d, Proc.devRef .tc b) :=
  (W₂_keeps m d b (arg_ne b hb _) (arg_ne b hb _)).trans (W₁_arg m d b hb)
theorem W₃_arg : W₃ m d (Proc.devRef .tc b) = m (d, Proc.devRef .tc b) :=
  (W₃_keeps m d b (arg_nin b hb _)).trans (W₂_arg m d b hb)
theorem W₄_arg : W₄ m d (Proc.devRef .tc b) = m (d, Proc.devRef .tc b) :=
  (W₄_keeps m d b (Ne.symm (arg_ne b hb _))).trans (W₃_arg m d b hb)
theorem W₅_arg : W₅ m d (Proc.devRef .tc b) = m (d, Proc.devRef .tc b) :=
  (W₅_keeps m d b (Ne.symm (arg_ne b hb _)) (Ne.symm (arg_ne b hb _))).trans (W₄_arg m d b hb)
theorem W₆_arg : W₆ m d (Proc.devRef .tc b) = m (d, Proc.devRef .tc b) :=
  (W₆_keeps m d b (arg_nin b hb _)).trans (W₅_arg m d b hb)
theorem W₇_arg : W₇ m d (Proc.devRef .tc b) = m (d, Proc.devRef .tc b) :=
  (W₇_keeps m d b (arg_ne b hb _)).trans (W₆_arg m d b hb)
theorem W₈_arg : W₈ m d (Proc.devRef .tc b) = m (d, Proc.devRef .tc b) :=
  (W₈_keeps m d b (arg_nin b hb _)).trans (W₇_arg m d b hb)
theorem W₁₀_arg : W₁₀ m d (Proc.devRef .tc b) = m (d, Proc.devRef .tc b) :=
  (W₁₀_keeps m d b (arg_nin b hb _)).trans
    ((W₉_keeps m d b (Ne.symm (arg_ne b hb _))).trans (W₈_arg m d b hb))
end Args

end Cert.Proof.Kernel

end
-- ==== Proof.Launch.lean ====
/-
  The run of the whole program: from any memory whose two lists name rows of the tables, every schedule ends with the arguments as
  they were, the result at what the chain of contents says, and every counter at zero.
-/
module

public import proofs.«01_k».proof.Proof.Chain
public import proofs.«01_k».proof.Proof.Gen.Pre_in_rows

@[expose] public section

noncomputable section

namespace Cert.Proof.Kernel

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

local notation "𝕄" => MT nD τ sig (HIx 2) (Elt F) ℕ UU ℕ

variable (m : (ℓ : Loc nD τ sig) → Buf (Elt F) ℓ) (ρ : Dev nD → PrngReg)

abbrev PP : (K (F := F)).Pay (nD := nD) (Val := Elt F) (Name := ℕ) (U := UU) := P (tA m) (tB m) (ix m) (tC m) (iy m)

/-! ## The calls, over all of @main's buffers -/

/-- Five buffers, one by one. -/
theorem held_five {d : Dev nD} {a b c e f : DevRef τ sig} (V : Valuation τ sig (Elt F)) (h1 : a ∉ ({b, c, e, f} : Finset (DevRef τ sig)))
    (h2 : b ∉ ({c, e, f} : Finset (DevRef τ sig))) (h3 : c ∉ ({e, f} : Finset (DevRef τ sig))) (h4 : e ∉ ({f} : Finset (DevRef τ sig))) :
    (StableHlo.held (T d) {a, b, c, e, f} V : sProp 𝕄)
      = iprop(((d, a) ↦{fullShare} V a) ∗ ((d, b) ↦{fullShare} V b) ∗ ((d, c) ↦{fullShare} V c) ∗ ((d, e) ↦{fullShare} V e) ∗ ((d, f) ↦{fullShare} V f)) := by
  unfold StableHlo.held
  rw [SparseCore.bigSep_insert' h1, SparseCore.bigSep_insert' h2, SparseCore.bigSep_insert' h3, SparseCore.bigSep_insert' h4, bigSep_singleton]
/-- Three buffers, one by one. -/
theorem held_three {d : Dev nD} {a b c : DevRef τ sig} (V : Valuation τ sig (Elt F)) (h1 : a ∉ ({b, c} : Finset (DevRef τ sig)))
    (h2 : b ∉ ({c} : Finset (DevRef τ sig))) :
    (StableHlo.held (T d) {a, b, c} V : sProp 𝕄) = iprop(((d, a) ↦{fullShare} V a) ∗ ((d, b) ↦{fullShare} V b) ∗ ((d, c) ↦{fullShare} V c)) := by
  unfold StableHlo.held
  rw [SparseCore.bigSep_insert' h1, SparseCore.bigSep_insert' h2, bigSep_singleton]

/-- The buffers of the first gather, -/
abbrev bufs1 : Finset (DevRef τ sig) := {Proc.devRef .tc main_v9, Proc.devRef .tc main_v10, Proc.devRef .tc main_v11, Proc.devRef .tc main_v12_0, Proc.devRef .tc main_v12_1}
/-- and of the second. -/
abbrev bufs2 : Finset (DevRef τ sig) := {Proc.devRef .tc main_v17, Proc.devRef .tc main_v18, Proc.devRef .tc main_v19}

theorem bufs1_sub : bufs1 ⊆ Pipeline.ucRefs τ sig := by
  intro b hb
  simp only [bufs1, Finset.mem_insert, Finset.mem_singleton] at hb
  rcases hb with rfl | rfl | rfl | rfl | rfl <;> exact Pipeline.devRef_mem_ucRefs rfl
theorem bufs2_sub : bufs2 ⊆ Pipeline.ucRefs τ sig := by
  intro b hb
  simp only [bufs2, Finset.mem_insert, Finset.mem_singleton] at hb
  rcases hb with rfl | rfl | rfl <;> exact Pipeline.devRef_mem_ucRefs rfl

theorem held_bufs1 (d : Dev nD) (V : Valuation τ sig (Elt F)) : (StableHlo.held (T d) bufs1 V : sProp 𝕄)
    = iprop((G1.aLoc d ↦{fullShare} V (Proc.devRef .tc main_v9)) ∗ (G1.bLoc d ↦{fullShare} V (Proc.devRef .tc main_v10)) ∗ (G1.iLoc d ↦{fullShare} V (Proc.devRef .tc main_v11))
        ∗ (G1.oLoc d ↦{fullShare} V (Proc.devRef .tc main_v12_0)) ∗ (G1.pLoc d ↦{fullShare} V (Proc.devRef .tc main_v12_1))) :=
  held_five V (by decide) (by decide) (by decide) (by decide)
theorem held_bufs2 (d : Dev nD) (V : Valuation τ sig (Elt F)) : (StableHlo.held (T d) bufs2 V : sProp 𝕄)
    = iprop((G2.aLoc d ↦{fullShare} V (Proc.devRef .tc main_v17)) ∗ (G2.iLoc d ↦{fullShare} V (Proc.devRef .tc main_v18))
        ∗ (G2.oLoc d ↦{fullShare} V (Proc.devRef .tc main_v19))) :=
  held_three V (by decide) (by decide)

theorem W₂_v12_0 (d : Dev nD) : W₂ m d (Proc.devRef .tc main_v12_0) = rowsOf (tA m d) (ix m d) := by
  unfold W₂
  rw [Function.update_of_ne (StableHlo.devRef_ne_of_ne (by decide)), Function.update_self]
theorem W₂_v12_1 (d : Dev nD) : W₂ m d (Proc.devRef .tc main_v12_1) = rowsOf (tB m d) (ix m d) := by
  unfold W₂
  rw [Function.update_self]
theorem W₇_v19 (d : Dev nD) : W₇ m d (Proc.devRef .tc main_v19) = rowsOf (tC m d) (iy m d) := by
  unfold W₇
  rw [Function.update_self]

theorem rest1 (d : Dev nD) : (StableHlo.held (T d) (Pipeline.ucRefs τ sig \ bufs1) (W₁ m d) : sProp 𝕄) = StableHlo.held (T d) (Pipeline.ucRefs τ sig \ bufs1) (W₂ m d) := by
  refine StableHlo.held_congr _ fun b hb => ?_
  have hn := (Finset.mem_sdiff.mp hb).2
  simp only [bufs1, Finset.mem_insert, Finset.mem_singleton, not_or] at hn
  unfold W₂
  rw [Function.update_of_ne hn.2.2.2.2, Function.update_of_ne hn.2.2.2.1]
theorem rest2 (d : Dev nD) : (StableHlo.held (T d) (Pipeline.ucRefs τ sig \ bufs2) (W₆ m d) : sProp 𝕄) = StableHlo.held (T d) (Pipeline.ucRefs τ sig \ bufs2) (W₇ m d) := by
  refine StableHlo.held_congr _ fun b hb => ?_
  have hn := (Finset.mem_sdiff.mp hb).2
  simp only [bufs2, Finset.mem_insert, Finset.mem_singleton, not_or] at hn
  unfold W₇
  rw [Function.update_of_ne hn.2.2]

/-- The first gather, where @main starts it: the buffers go from before it to after it. -/
theorem first_call (κ : GSem nD τ sig → ℕ) (d : Dev nD) (Φ : PUnit → sProp 𝕄) :
    iprop((K (F := F)).ctx EH (PP m) κ ∗ (K (F := F)).tcSt EH d 0 ∗ StableHlo.held (T d) (Pipeline.ucRefs τ sig) (W₁ m d)
        ∗ (iprop((K (F := F)).tcSt EH d 1 ∗ StableHlo.held (T d) (Pipeline.ucRefs τ sig) (W₂ m d)) -∗ Φ ⟨⟩))
      ⊢ wp frame (wpE ((K (F := F)).defs (D (F := F))) 𝒱 (SparseCore.T d) none) Set.univ ((K (F := F)).run d 0) Φ := by
  rw [StableHlo.held_sub_split (T d) bufs1_sub (W₁ m d), StableHlo.held_sub_split (T d) bufs1_sub (W₂ m d), held_bufs1, held_bufs1, rest1,
    W₂_v12_0, W₂_v12_1, W₂_keeps m d main_v9 (by decide) (by decide), W₂_keeps m d main_v10 (by decide) (by decide), W₂_keeps m d main_v11 (by decide) (by decide)]
  iintro ⟨Hctx, Hst, ⟨Hin, Hrest⟩, Hk⟩
  iapply ((K (F := F)).wp_run (D (F := F)) 𝒱 (EH := EH) (P := PP m) κ d 0)
  isplitl [Hctx]; · iexact Hctx
  isplitl [Hst]; · iexact Hst
  isplitl [Hin]
  · iapply (first_in (tA m) (tB m) (ix m) (tC m) (iy m) d _ _)
    iexact Hin
  iintro ⟨Hst, Hdn⟩
  ihave Hdn := (Entails.of_eq (first_out (tA m) (tB m) (ix m) (tC m) (iy m) d)) $$ Hdn
  iapply Hk
  isplitl [Hst]; · iexact Hst
  isplitl [Hdn]; · iexact Hdn
  iexact Hrest

/-- The second gather. -/
theorem second_call (κ : GSem nD τ sig → ℕ) (d : Dev nD) (Φ : PUnit → sProp 𝕄) :
    iprop((K (F := F)).ctx EH (PP m) κ ∗ (K (F := F)).tcSt EH d 1 ∗ StableHlo.held (T d) (Pipeline.ucRefs τ sig) (W₆ m d)
        ∗ (iprop((K (F := F)).tcSt EH d 2 ∗ StableHlo.held (T d) (Pipeline.ucRefs τ sig) (W₇ m d)) -∗ Φ ⟨⟩))
      ⊢ wp frame (wpE ((K (F := F)).defs (D (F := F))) 𝒱 (SparseCore.T d) none) Set.univ ((K (F := F)).run d 1) Φ := by
  rw [StableHlo.held_sub_split (T d) bufs2_sub (W₆ m d), StableHlo.held_sub_split (T d) bufs2_sub (W₇ m d), held_bufs2, held_bufs2, rest2,
    W₇_v19, W₇_keeps m d main_v17 (by decide), W₇_keeps m d main_v18 (by decide)]
  iintro ⟨Hctx, Hst, ⟨Hin, Hrest⟩, Hk⟩
  iapply ((K (F := F)).wp_run (D (F := F)) 𝒱 (EH := EH) (P := PP m) κ d 1)
  isplitl [Hctx]; · iexact Hctx
  isplitl [Hst]; · iexact Hst
  isplitl [Hin]
  · iapply (second_in (tA m) (tB m) (ix m) (tC m) (iy m) d _)
    iexact Hin
  iintro ⟨Hst, Hdn⟩
  ihave Hdn := (Entails.of_eq (second_out (tA m) (tB m) (ix m) (tC m) (iy m) d)) $$ Hdn
  iapply Hk
  isplitl [Hst]; · iexact Hst
  isplitl [Hdn]; · iexact Hdn
  iexact Hrest

/-- What the TensorCore owes, out of its state between calls and back. -/
theorem tcSt_owing (d : Dev nD) (n : ℕ) : (K (F := F)).tcSt EH d n ⊢ (iprop(owing d n ∗ (owing d n -∗ (K (F := F)).tcSt EH d n)) : sProp 𝕄) := by
  unfold SparseCore.Cfg.tcSt owing
  iintro ⟨HO, Hr⟩
  isplitl [HO]; · iexact HO
  iintro HO
  isplitl [HO]; · iexact HO
  iexact Hr

/-- A pipeline's ghost state, as the launch deals it. -/
abbrev ghost (p : Fin 3) (d : Dev nD) : sProp 𝕄 :=
  iprop(Pipeline.cellsGhost (Pipeline.pin (pcfgs (F := F)) adm) EP p d ∗ Pipeline.toksInit (Pipeline.pin (pcfgs (F := F)) adm) EP p d)

/-- What is said of a TensorCore call where @main runs it: the buffers go from `W` to `W'`, all else stays. -/
abbrev TcCall (κ : GSem nD τ sig → ℕ) (p : Fin 3) (n : ℕ) (W W' : Dev nD → Valuation τ sig (Elt F)) (d : Dev nD) (Φ : PUnit → sProp 𝕄) : Prop :=
    iprop((K (F := F)).ctx EH (PP m) κ ∗ (K (F := F)).tcSt EH d n ∗ boundary (T d) ∗ StableHlo.held (T d) (Pipeline.ucRefs τ sig) (W d) ∗ (∃ r, prngReg d r) ∗ ghost p d
        ∗ (iprop((K (F := F)).tcSt EH d n ∗ boundary (T d) ∗ StableHlo.held (T d) (Pipeline.ucRefs τ sig) (W' d) ∗ (∃ r, prngReg d r)) -∗ Φ ⟨⟩))
      ⊢ wp frame (wpE ((K (F := F)).defs D) 𝒱 (T d) none) Set.univ
          (Prog.lift (.customCall (SparseCore.inner (Pipeline.entry p)) ()) : Prog (TpuEff nD τ sig (Elt F) _ .tc) PUnit) Φ

/-- It holds where the region's own run goes from `W` to `W'`. -/
theorem tc_call (κ : GSem nD τ sig → ℕ) (p : Fin 3) (n : ℕ) (W W' : Dev nD → Valuation τ sig (Elt F)) (d : Dev nD) (Φ : PUnit → sProp 𝕄)
    (h : ∀ Ψ : PUnit → sProp 𝕄, iprop((iprop(boundary (T d) ∗ StableHlo.held (T d) (Pipeline.ucRefs τ sig) (W' d) ∗ (∃ r, prngReg d r) ∗ owing d n) -∗ Ψ ⟨⟩)
        ∗ boundary (T d) ∗ StableHlo.held (T d) (Pipeline.ucRefs τ sig) (W d) ∗ (∃ r, prngReg d r) ∗ owing d n
        ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs D) 𝒱 (T d) none) Set.univ
          (Prog.lift (.customCall (SparseCore.inner (Pipeline.entry p)) ()) : Prog (TpuEff nD τ sig (Elt F) _ .tc) PUnit) Ψ) :
    TcCall m κ p n W W' d Φ := by
  refine BIBase.Entails.trans ?_ (h Φ)
  iintro ⟨Hctx, Hst, Hb, Hh, Hp, ⟨Hc, Ht⟩, Hk⟩
  ihave Hl := (SparseCore.Cfg.ctx_levAts κ) $$ Hctx
  ihave Hst := (tcSt_owing d n) $$ Hst
  icases Hst with ⟨HO, Hst⟩
  isplitl [Hst Hk]
  · iintro ⟨Hb, Hh, Hp, HO⟩
    iapply Hk
    isplitl [Hst HO]; · iapply Hst; iexact HO
    isplitl [Hb]; · iexact Hb
    isplitl [Hh]; · iexact Hh
    iexact Hp
  isplitl [Hb]; · iexact Hb
  isplitl [Hh]; · iexact Hh
  isplitl [Hp]; · iexact Hp
  isplitl [HO]; · iexact HO
  isplitl [Hl]; · iexact Hl
  isplitl [Hc]; · iexact Hc
  iexact Ht

/-- The first attention, -/
theorem attn_call (κ : GSem nD τ sig → ℕ) (d : Dev nD) (Φ : PUnit → sProp 𝕄) : TcCall m κ 0 1 (W₃ m) (W₄ m) d Φ :=
  tc_call m κ 0 1 (W₃ m) (W₄ m) d Φ fun Ψ =>
    region_wp (pdats m) 0 1 (W₃ m) winFacts1.to₀ sharedIn1 block_pos1 arr_whole1 stage_whole1
      (fun c => (R1.body_obligation (fun c b => W₃ m c (Proc.devRef .tc b)) c).loose) (fun _ _ => rfl) (fun _ _ => rfl) (fun _ _ => rfl) (fun _ _ _ => rfl) (fun c w => R1.A_eq (fun c b => W₃ m c (Proc.devRef .tc b)) c w) d Ψ
/-- the second layer's queries, -/
theorem query_call (κ : GSem nD τ sig → ℕ) (d : Dev nD) (Φ : PUnit → sProp 𝕄) : TcCall m κ 1 1 (W₄ m) (W₅ m) d Φ :=
  tc_call m κ 1 1 (W₄ m) (W₅ m) d Φ fun Ψ =>
    region_wp (pdats m) 1 1 (W₄ m) winFacts₀2 sharedIn2 block_pos2 arr_whole2 stage_whole2
      (fun c => (R2.body_obligation (fun c b => W₄ m c (Proc.devRef .tc b)) c).loose) (fun _ _ => rfl) (fun _ _ => rfl) (fun _ _ => rfl) (fun _ _ _ => rfl) (fun c w => R2.A_eq (fun c b => W₄ m c (Proc.devRef .tc b)) c w) d Ψ
/-- the second attention. -/
theorem last_call (κ : GSem nD τ sig → ℕ) (d : Dev nD) (Φ : PUnit → sProp 𝕄) : TcCall m κ 2 2 (W₈ m) (W₉ m) d Φ :=
  tc_call m κ 2 2 (W₈ m) (W₉ m) d Φ fun Ψ =>
    region_wp (pdats m) 2 2 (W₈ m) winFacts4.to₀ sharedIn4 block_pos4 arr_whole4 stage_whole4
      (fun c => (R4.body_obligation (fun c b => W₈ m c (Proc.devRef .tc b)) c).loose) (fun _ _ => rfl) (fun _ _ => rfl) (fun _ _ => rfl) (fun _ _ _ => rfl) (fun c w => R4.A_eq (fun c b => W₈ m c (Proc.devRef .tc b)) c w) d Ψ

/-! ## @main -/

/-- The ghost state at the launch: the handshakes' and the pipelines'. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What each device's @main is dealt of it: its pipelines'. -/
abbrev G (d : Dev nD) : sProp 𝕄 := iprop((bigSep Finset.univ fun p => Pipeline.cellsGhost (Pipeline.pin (pcfgs (F := F)) adm) EP p d)
  ∗ bigSep Finset.univ fun p => Pipeline.toksInit (Pipeline.pin (pcfgs (F := F)) adm) EP p d)

theorem G_eq (d : Dev nD) : (G d : sProp 𝕄) = iprop(ghost 0 d ∗ ghost 1 d ∗ ghost 2 d) := by
  unfold G ghost
  rw [← bigSep_sep', show (Finset.univ : Finset (Fin 3)) = {0, 1, 2} by decide, SparseCore.bigSep_insert' (by decide), SparseCore.bigSep_insert' (by decide), bigSep_singleton]

theorem hu₀ : (ownU (u₀ (F := F)) : sProp 𝕄)
    ⊢ |={Set.univ}=> iprop(BI.own (EH (initOf (K (F := F)).hsCells (K (F := F)).hsToks)) ∗ bigSep Finset.univ G
        ∗ bigSep Finset.univ fun thr : Thread nD τ => bigSep Finset.univ fun q : Fin 2 => (PP m).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), 1) : UP × Counters)) $$ Hu
  icases H with ⟨HH, HR⟩
  ihave HR := (own_pair_emb embR (initOf (Pipeline.cells (Pipeline.pin (pcfgs (F := F)) adm) cellOf_inj) (Pipeline.launchToks (Pipeline.pin (pcfgs (F := F)) adm) cellOf_inj)) (1 : Counters)) $$ HR
  icases HR with ⟨HP, -⟩
  imod (Pipeline.fund_ghost (Pipeline.pin (pcfgs (F := F)) adm) EP cellOf_inj) $$ HP with ⟨Hc, Ht⟩
  imodintro
  isplitl [HH]; · iexact HH
  isplitl [Hc Ht]
  · rw [show (bigSep Finset.univ G : sProp 𝕄) = _ from bigSep_sep' _ _ _]
    isplitl [Hc]; · iexact Hc
    iexact Ht
  rw [show (bigSep Finset.univ fun thr : Thread nD τ => bigSep Finset.univ fun q : Fin 2 => (PP m).x q thr) = bigSep Finset.univ fun _ => iprop(emp) from
    bigSep_congr fun _ _ => emps _, emps]
  iempintro

/-- What @main ends with: its buffers at the chain's end. -/
abbrev FIN (d : Dev nD) : sProp 𝕄 := StableHlo.held (T d) (Pipeline.ucRefs τ sig) (W₁₀ m d)

/-- The launch's buffers, as one valuation. -/
theorem launch_held (d : Dev nD) : (unscopedBufs d (fun b => m ((SparseCore.T d).loc b)) : sProp 𝕄) = StableHlo.held (T d) (Pipeline.ucRefs τ sig) (W₀ m d) :=
  Pipeline.unscopedBufs_held (Ix := HIx 2) (Name := ℕ) (U := UU) (Lvl := ℕ) d (W₀ m d)

theorem hmain (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [launch_held, main_eq, G_eq]
  iintro ⟨#Hctx, Hst, ⟨Hb, Hh, Hts, Hp⟩, ⟨HG0, HG1, HG2⟩⟩
  ihave Hp := (show prngReg d (ρ d) ⊢ (iprop(∃ r, prngReg d r) : sProp 𝕄) by iintro H; iexists _; iexact H) $$ Hp
  iapply (StableHlo.wp_seq (defs := (K (F := F)).defs (D (F := F))) 𝒱 none Set.univ d (Pipeline.ucRefs τ sig) _ opsA opsA_sub opsA_fresh (W₀ m d)) $$ [Hb Hh]
  · isplitl [Hb]; · iexact Hb
    iexact Hh
  iintro ⟨Hb, Hh⟩
  rw [wp_bind]
  iapply (first_call m κ d _)
  isplitr; · iexact Hctx
  isplitl [Hst]; · iexact Hst
  isplitl [Hh]; · iexact Hh
  iintro ⟨Hst, Hh⟩
  iapply (StableHlo.wp_seq (defs := (K (F := F)).defs (D (F := F))) 𝒱 none Set.univ d (Pipeline.ucRefs τ sig) _ opsB opsB_sub opsB_fresh (W₂ m d)) $$ [Hb Hh]
  · isplitl [Hb]; · iexact Hb
    iexact Hh
  iintro ⟨Hb, Hh⟩
  rw [wp_bind]
  iapply (attn_call m κ d _)
  isplitr; · iexact Hctx
  isplitl [Hst]; · iexact Hst
  isplitl [Hb]; · iexact Hb
  isplitl [Hh]; · iexact Hh
  isplitl [Hp]; · iexact Hp
  isplitl [HG0]; · iexact HG0
  iintro ⟨Hst, Hb, Hh, Hp⟩
  rw [wp_bind]
  iapply (query_call m κ d _)
  isplitr; · iexact Hctx
  isplitl [Hst]; · iexact Hst
  isplitl [Hb]; · iexact Hb
  isplitl [Hh]; · iexact Hh
  isplitl [Hp]; · iexact Hp
  isplitl [HG1]; · iexact HG1
  iintro ⟨Hst, Hb, Hh, Hp⟩
  iapply (StableHlo.wp_seq (defs := (K (F := F)).defs (D (F := F))) 𝒱 none Set.univ d (Pipeline.ucRefs τ sig) _ opsC opsC_sub opsC_fresh (W₅ m d)) $$ [Hb Hh]
  · isplitl [Hb]; · iexact Hb
    iexact Hh
  iintro ⟨Hb, Hh⟩
  rw [wp_bind]
  iapply (second_call m κ d _)
  isplitr; · iexact Hctx
  isplitl [Hst]; · iexact Hst
  isplitl [Hh]; · iexact Hh
  iintro ⟨Hst, Hh⟩
  iapply (StableHlo.wp_seq (defs := (K (F := F)).defs (D (F := F))) 𝒱 none Set.univ d (Pipeline.ucRefs τ sig) _ opsD opsD_sub opsD_fresh (W₇ m d)) $$ [Hb Hh]
  · isplitl [Hb]; · iexact Hb
    iexact Hh
  iintro ⟨Hb, Hh⟩
  rw [wp_bind]
  iapply (last_call m κ d _)
  isplitr; · iexact Hctx
  isplitl [Hst]; · iexact Hst
  isplitl [Hb]; · iexact Hb
  isplitl [Hh]; · iexact Hh
  isplitl [Hp]; · iexact Hp
  isplitl [HG2]; · iexact HG2
  iintro ⟨Hst, Hb, Hh, Hp⟩
  iapply (StableHlo.wp_seq (defs := (K (F := F)).defs (D (F := F))) 𝒱 none Set.univ d (Pipeline.ucRefs τ sig) _ opsE opsE_sub opsE_fresh (W₉ m d)) $$ [Hb Hh]
  · isplitl [Hb]; · iexact Hb
    iexact Hh
  iintro ⟨Hb, Hh⟩
  rw [wp_pure]
  imodintro
  isplitl [Hst]; · iexact Hst
  isplitl [Hh]; · iexact Hh
  isplitl [Hb] <;> iassumption

/-- Device `d`'s buffers in a final state. -/
def fq (d : Dev nD) (s' : Phys nD τ sig (Elt F)) : Prop := ∀ b ∈ Pipeline.ucRefs τ sig, s'.mem.mem (d, b) = W₁₀ m d b

theorem hfin (d : Dev nD) (s' : Phys nD τ sig (Elt F)) : iprop(FIN m d ∗ SI s') ⊢ (⌜fq m d s'⌝ : sProp 𝕄) := by
  have read : ∀ b ∈ Pipeline.ucRefs τ sig, iprop(FIN m d ∗ SI s') ⊢ (⌜s'.mem.mem (d, b) = W₁₀ m d b⌝ : sProp 𝕄) := by
    intro b hb
    iintro ⟨Hall, HSI⟩
    ihave H := (show (FIN m d : sProp 𝕄) ⊢ ((d, b) ↦{fullShare} W₁₀ m d b) from bigSep_elim hb) $$ Hall
    ihave H := (SI_pointsTo_agree (st := s') (ℓ := (d, b)) (I := Finset.univ) (q := fullShare) (f := W₁₀ m d b)) $$ [HSI H]
    · isplitl [HSI] <;> iassumption
    icases H with %h
    ipureintro; exact funext fun i => h i (Finset.mem_univ i)
  exact (forall_intro fun b => (forall_intro fun hb => read b hb).trans pure_forall.2).trans pure_forall.2

/-- Every run ends with the arguments unchanged, the result at the chain's end, and the counters at zero. -/
theorem run_main [∀ e, Nonempty (Elt F e)] (hix : ∀ d, InRows (ix m d)) (hiy : ∀ d, InRows (iy m d)) :
    θ_run (defs (F := F)) (threads (F := F)) ⟨m, fun _ => 0, ρ⟩
      (fun r => (∀ d : Dev nD, (∀ b ∈ argRefs, r.2.mem (d, Proc.devRef .tc b) = m (d, Proc.devRef .tc b))
        ∧ r.2.mem (d, Proc.devRef .tc main_v22) = W₁₀ m d (Proc.devRef .tc main_v22)) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq | 1 => nomatch hq)
    (fun q _ => match q with
      | 0 => tileObl_first (tA m) (tB m) (ix m) (tC m) (iy m) hix
      | 1 => tileObl_second (tA m) (tB m) (ix m) (tC m) (iy m) hiy)
    (fun q _ => SparseCore.Cfg.VecSplit.of_plain (vecSplit (tA m) (tB m) (ix m) (tC m) (iy m) q))
    m ρ main G (FIN m) (u₀ (F := F)) (sep_elim_left.trans (hu₀ m)) (hmain m ρ) (fq m) (hfin m) _
    (fun s' h hz => ⟨fun d => ⟨fun b hb => (h d _ (Pipeline.devRef_mem_ucRefs ((by decide : ∀ b ∈ argRefs, b.isScoped = false) b hb))).trans (W₁₀_arg m d b hb),
      h d _ (Pipeline.devRef_mem_ucRefs rfl)⟩, hz⟩)

end Cert.Proof.Kernel

end
-- ==== Proof.Lists.lean ====
/-
  The two lists of row numbers that the gathers read are the list arguments laid out by rows, and the precondition says
  that every number of them names a row.
-/
module

public import proofs.«01_k».proof.Proof.Launch
public import proofs.«01_k».proof.Proof.Gen.KernelIdeal
public import proofs.«01_k».proof.Proof.Gen.Pre_in_rows

@[expose] public section

noncomputable section

namespace Cert.Proof.Kernel

open Cert.Kernel Cert.Kernel.Gen
open Idealize.ShloMosaic

section Lists
variable {F : FTy → Type} [FloatOps F] (m : (ℓ : Loc nD τ sig) → Buf (Elt F) ℓ) (d : Dev nD)

theorem ix_eq : ix m d = shapeCast S262144 (m (d, Proc.devRef .tc main_arg18) : S8x2048x16.Idx → Elt F .i32) shapeCasts_S8x2048x16_S262144 := by
  unfold ix W₁ opsA
  after_results
  rfl

theorem iy_eq : iy m d = shapeCast S262144 (m (d, Proc.devRef .tc main_arg19) : S8x2048x16.Idx → Elt F .i32) shapeCasts_S8x2048x16_S262144 := by
  have e : W₅ m d (Proc.devRef .tc main_arg19) = m (d, Proc.devRef .tc main_arg19) := W₅_arg m d main_arg19 (by decide)
  rw [← e]
  unfold iy W₆ opsC
  after_results
  rfl

end Lists

/-- The precondition's test of one word of each list. -/
theorem words_ok (v w : BitVec 32) (h : IntOp.andi (IntOp.andi (IntOp.andi (IntOp.cmpi .sge v 0#32) (IntOp.cmpi .slt v 16384#32)) (IntOp.cmpi .sge w 0#32))
    (IntOp.cmpi .slt w 16384#32) = 1#1) : v.toNat < 16384 ∧ w.toNat < 16384 := by
  have hand (p q : Bool) : IntOp.andi (BitVec.ofBool p) (BitVec.ofBool q) = BitVec.ofBool (p && q) := by
    cases p <;> cases q <;> decide
  have hone (p : Bool) : (BitVec.ofBool p = 1#1) ↔ p = true := by cases p <;> decide
  simp only [IntOp.cmpi, hand, hone, Bool.and_eq_true, BitVec.sle_eq_decide, BitVec.slt_eq_decide,
    decide_eq_true_eq, BitVec.toInt_eq_toNat_cond, BitVec.toNat_ofNat, Nat.reducePow, Nat.reduceMod] at h
  omega

/-- Both list arguments hold row numbers. -/
def ListsOk {F : FTy → Type} (m : (ℓ : Loc nD τ sig) → Buf (Elt F) ℓ) : Prop :=
  ∀ (d : Dev nD) (j : S8x2048x16.Idx), ((m (d, Proc.devRef .tc main_arg18) : S8x2048x16.Idx → BitVec 32) j).toNat < 16384
    ∧ ((m (d, Proc.devRef .tc main_arg19) : S8x2048x16.Idx → BitVec 32) j).toNat < 16384

/-- They do, by the precondition; -/
theorem args_ok (m : (ℓ : Loc nD τ sig) → Buf (Elt Bits) ℓ) (h : Cert.Pre_Kernel m) : ListsOk m := by
  intro d j
  have e := congrFun (h d) j
  simp only [Pre_in_rows.fn, andi, cmpi, broadcastInDim, constantI] at e
  exact words_ok _ _ e

/-- and over the extended reals. -/
theorem args_ok_ideal (m : (ℓ : Loc nD τ sig) → Buf (Elt Ideal) ℓ) (h : Cert.Pre_KernelIdeal m) : ListsOk m := by
  intro d j
  have e := congrFun (h d) j
  simp only [Pre_in_rows.fn, andi, cmpi, broadcastInDim, constantI] at e
  exact words_ok _ _ e

section Lists
variable {F : FTy → Type} [FloatOps F] (m : (ℓ : Loc nD τ sig) → Buf (Elt F) ℓ) (h : ListsOk m) (d : Dev nD)
include h

theorem ix_ok : InRows (ix m d) := by
  intro j
  rw [ix_eq]
  exact (h d _).1

theorem iy_ok : InRows (iy m d) := by
  intro j
  rw [iy_eq]
  exact (h d _).2

end Lists

end Cert.Proof.Kernel

end
-- ==== Proof.Same.lean ====
/-
  The kernel read over the extended reals is the kernel itself, at that type of floats: the two programs have the same
  arrays, the same labels, the same bodies and the same threads.
-/
module

public import proofs.«01_k».proof.Defs
public import proofs.«01_k».proof.Proof.Gen.Kernel
public import proofs.«01_k».proof.Proof.Gen.KernelIdeal

@[expose] public section

set_option maxHeartbeats 8000000

noncomputable section

namespace Cert.Proof.Same

open Idealize.ShloMosaic Idealize.SL.Sem

variable {F : FTy → Type} [FloatOps F]

/-- The bodies are the same, one label of one processor at a time. -/
theorem bodies_eq : Cert.KernelIdeal.defs₀ (F := F) = Cert.Kernel.defs₀ (F := F) := by
  funext p ℓ a
  match p, ℓ, a with
  | .scVector c s, (0 : Fin 5), a => rfl
  | .scVector c s, (1 : Fin 5), a => rfl
  | .scVector c s, (2 : Fin 5), a => rfl
  | .scVector c s, (3 : Fin 5), a => rfl
  | .scVector c s, (4 : Fin 5), a => rfl
  | .tc, (0 : Fin 5), a => rfl
  | .tc, (1 : Fin 5), a => rfl
  | .tc, (2 : Fin 5), a => rfl
  | .tc, (3 : Fin 5), a => rfl
  | .tc, (4 : Fin 5), a => rfl
  | .scScalar c, (0 : Fin 5), a => rfl
  | .scScalar c, (1 : Fin 5), a => rfl
  | .scScalar c, (2 : Fin 5), a => rfl
  | .scScalar c, (3 : Fin 5), a => rfl
  | .scScalar c, (4 : Fin 5), a => rfl

/-- So are the labels' meanings, the pipelines' and the SparseCore launches' with them; -/
theorem defs_eq : Cert.KernelIdeal.defs (F := F) = Cert.Kernel.defs (F := F) :=
  congrArg (fun b => (Cert.Kernel.sc (F := F)).defs (Pipeline.defs Cert.Kernel.pcfgs b)) bodies_eq

/-- and the threads. -/
theorem threads_eq : Cert.KernelIdeal.threads (F := F) = Cert.Kernel.threads (F := F) := rfl

/-- What holds of every run of the kernel at a type of floats holds of the kernel read over the extended reals. -/
theorem run_of {s : MemSt Cert.Kernel.nD Cert.Kernel.τ Cert.Kernel.sig (Elt F)}
    {Q : PUnit × MemSt Cert.Kernel.nD Cert.Kernel.τ Cert.Kernel.sig (Elt F) → Prop}
    (h : θ_run (Cert.Kernel.defs (F := F)) (Cert.Kernel.threads (F := F)) s Q) :
    θ_run (Cert.KernelIdeal.defs (F := F)) (Cert.KernelIdeal.threads (F := F)) s Q := by
  have key : ∀ D, D = Cert.Kernel.defs (F := F) → θ_run D (Cert.Kernel.threads (F := F)) s Q := by
    rintro D rfl
    exact h
  exact key _ defs_eq

end Cert.Proof.Same

end
-- ==== Proof.Spec.lean ====
/-
  The mathematics of the problem at one point of one cloud, over the extended reals: linear maps, the attention of a point
  over its sixteen neighbours, layer normalisation, and the two attention layers and the closing block made of them. The
  kernel's side and the reference's are both brought to these functions.
-/
module

public import Idealize.ShloMosaic.Lib.ValueIdx
public import Idealize.ShloMosaic.PureOps.Ideal.Laws

@[expose] public section

noncomputable section

namespace Cert.Proof.Spec

open Idealize.ShloMosaic Idealize.ShloMosaic.ValueIdx

/-- Feature `o` of `x Wᵀ`. -/
def lin {m n : ℕ} (W : Fin m → Fin n → EReal) (x : Fin n → EReal) (o : Fin m) : EReal := ∑ k, x k * W o k

/-- The scaled product of the query with the key of neighbour `j`. -/
def logit (q : Fin 128 → EReal) (t : Fin 16 → Fin 128 → EReal) (Wk : Fin 128 → Fin 128 → EReal) (j : Fin 16) : EReal :=
  Ideal.div (∑ d, lin Wk (t j) d * q d) (Ideal.ofBits .f32 0x413504F3#32)

/-- The largest of sixteen numbers, from −∞ up. -/
def top (l : Fin 16 → EReal) : EReal := Finset.univ.fold max (Ideal.ofBits .f32 0xFF800000#32) l

/-- Taking the maximum with −∞ once more changes nothing. -/
theorem max_top (l : Fin 16 → EReal) : max (Ideal.ofBits .f32 0xFF800000#32) (top l) = top l :=
  max_eq_right ((Finset.le_fold_max _).2 (Or.inl le_rfl))

/-- The softmax weight of neighbour `j`. -/
def weight (l : Fin 16 → EReal) (j : Fin 16) : EReal := Ideal.div (Ideal.exp (l j - top l)) (∑ i, Ideal.exp (l i - top l))

/-- Feature `c` of the attention of query `q` over the sixteen tokens `t`. -/
def attend (q : Fin 128 → EReal) (t : Fin 16 → Fin 128 → EReal) (Wk Wv : Fin 128 → Fin 128 → EReal) (c : Fin 128) : EReal :=
  ∑ j, lin Wv (t j) c * weight (logit q t Wk) j

/-- A neighbour's token: the embedded difference of the point and the neighbour, and the neighbour's features. -/
def token {n : ℕ} (W : Fin 128 → Fin n → EReal) (b : Fin 128 → EReal) (own nb : Fin n → EReal) (f : Fin 128 → EReal) (c : Fin 128) : EReal :=
  lin W (fun k => own k - nb k) c + b c + f c

/-- The mean of the 128 features. -/
def mean (x : Fin 128 → EReal) : EReal := Ideal.div (∑ k, x k) (Ideal.ofBits .f32 0x43000000#32)

/-- Layer normalisation. -/
def norm (g b x : Fin 128 → EReal) (c : Fin 128) : EReal :=
  Ideal.div (x c - mean x) (Ideal.sqrt (mean (fun k => (x k - mean x) * (x k - mean x)) + Ideal.ofBits .f32 0x3727C5AC#32)) * g c + b c

/-- The closing block at a point: the residual of the attention, normalised, the linear layer, its residual, normalised. -/
def close (x o g0 b0 : Fin 128 → EReal) (Wl : Fin 128 → Fin 128 → EReal) (bl g1 b1 : Fin 128 → EReal) (c : Fin 128) : EReal :=
  norm g1 b1 (fun k => x k + (lin Wl (norm g0 b0 fun k' => x k' + o k') k + bl k)) c

/-! ## The whole arrays -/

/-- An array of eight clouds of 2048 points of `n` numbers each. -/
abbrev Arr (n : ℕ) : Type := (⟨3, ![8, 2048, n]⟩ : Shape).Idx → EReal

/-- A matrix by its two coordinates. -/
abbrev mat {m n : ℕ} (W : (⟨2, ![m, n]⟩ : Shape).Idx → EReal) (o : Fin m) (k : Fin n) : EReal := W (ix2 o k)
/-- A vector by its coordinate. -/
abbrev vec {n : ℕ} (v : (⟨1, ![n]⟩ : Shape).Idx → EReal) (k : Fin n) : EReal := v (ix1 k)

/-- The features of point `(b, p)`. -/
abbrev pt {n : ℕ} (x : Arr n) (b : Fin 8) (p : Fin 2048) (k : Fin n) : EReal := x (ix3 b p k)

/-- The features of the point of flat number `r`. -/
def flat {n : ℕ} (x : Arr n) (r : Fin 16384) (k : Fin n) : EReal :=
  x (ix3 (⟨r.val / 2048, by omega⟩ : Fin 8) (⟨r.val % 2048, by omega⟩ : Fin 2048) k)

/-- The flat number that the list of neighbours holds for point `(b, p)` at place `j`. -/
def nbr (idx : (⟨3, ![8, 2048, 16]⟩ : Shape).Idx → BitVec 32) (b : Fin 8) (p : Fin 2048) (j : Fin 16) : Fin 16384 :=
  Fin.ofNat 16384 (idx (ix3 b p j)).toNat

/-- One attention layer: `x` holds the features, `own` what the differences are taken of. -/
def layer {n : ℕ} (own : Arr n) (x : Arr 128) (Wq Wk Wv : (⟨2, ![128, 128]⟩ : Shape).Idx → EReal) (Wp : (⟨2, ![128, n]⟩ : Shape).Idx → EReal)
    (bp : (⟨1, ![128]⟩ : Shape).Idx → EReal) (idx : (⟨3, ![8, 2048, 16]⟩ : Shape).Idx → BitVec 32) (b : Fin 8) (p : Fin 2048) (c : Fin 128) : EReal :=
  attend (lin (mat Wq) (pt x b p)) (fun j => token (mat Wp) (vec bp) (pt own b p) (flat own (nbr idx b p j)) (flat x (nbr idx b p j)))
    (mat Wk) (mat Wv) c

/-- A layer's result as an array. -/
def arr (f : Fin 8 → Fin 2048 → Fin 128 → EReal) : Arr 128 := fun y => f (y 0) (y 1) (y 2)

/-- The whole function: both attention layers and the closing block, the clouds' axis second. -/
def whole (src : Arr 3) (tgt : Arr 128) (Wq0 Wk0 Wv0 Wq1 Wk1 Wv1 Wl : (⟨2, ![128, 128]⟩ : Shape).Idx → EReal) (bl : (⟨1, ![128]⟩ : Shape).Idx → EReal)
    (Wp0 : (⟨2, ![128, 3]⟩ : Shape).Idx → EReal) (bp0 : (⟨1, ![128]⟩ : Shape).Idx → EReal) (Wp1 : (⟨2, ![128, 128]⟩ : Shape).Idx → EReal)
    (bp1 g0 b0 g1 b1 : (⟨1, ![128]⟩ : Shape).Idx → EReal) (idx1 idx2 : (⟨3, ![8, 2048, 16]⟩ : Shape).Idx → BitVec 32)
    (p : Fin 2048) (b : Fin 8) (c : Fin 128) : EReal :=
  close (pt tgt b p)
    (layer (arr (layer src tgt Wq0 Wk0 Wv0 Wp0 bp0 idx1)) (arr (layer src tgt Wq0 Wk0 Wv0 Wp0 bp0 idx1)) Wq1 Wk1 Wv1 Wp1 bp1 idx2 b p)
    (vec g0) (vec b0) (mat Wl) (vec bl) (vec g1) (vec b1) c

end Cert.Proof.Spec

end
-- ==== Proof.Layout.lean ====
/-
  Layout operations and reductions of the blocks, each read at an index given by coordinates.
-/
module

public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.PureOps.Ideal.Laws

@[expose] public section

noncomputable section

namespace Cert.Proof.Layout

open Idealize.ShloMosaic Idealize.ShloMosaic.ValueIdx

variable {α : Type}

/-- Row `(i, j)` of a matrix whose rows are the pairs of a point and a place, numbered. -/
def row (i : Fin 256) (j : Fin 16) : Fin 4096 := ⟨i.val * 16 + j.val, by omega⟩

/-- A block of points by places, its rows laid one under the other. -/
theorem merge_apply {n : ℕ} (x : (⟨3, ![256, 16, n]⟩ : Shape).Idx → α) (h : (⟨3, ![256, 16, n]⟩ : Shape).ShapeCasts ⟨2, ![4096, n]⟩)
    (i : Fin 256) (j : Fin 16) (k : Fin n) : shapeCast ⟨2, ![4096, n]⟩ x h (ix2 (row i j) k) = x (ix3 i j k) :=
  shapeCast_apply x h _ _ (by rw [Shape.rowMajor_val_three, Shape.rowMajor_val_two]; rfl)

/-- And back. -/
theorem split_apply {n : ℕ} (x : (⟨2, ![4096, n]⟩ : Shape).Idx → α) (h : (⟨2, ![4096, n]⟩ : Shape).ShapeCasts ⟨3, ![256, 16, n]⟩)
    (i : Fin 256) (j : Fin 16) (k : Fin n) : shapeCast ⟨3, ![256, 16, n]⟩ x h (ix3 i j k) = x (ix2 (row i j) k) :=
  shapeCast_apply x h _ _ (by rw [Shape.rowMajor_val_three, Shape.rowMajor_val_two]; rfl)

/-- A cast to the same shape. -/
theorem same_apply {s : Shape} (x : s.Idx → α) (h : s.ShapeCasts s) (j : s.Idx) : shapeCast s x h j = x j :=
  shapeCast_apply x h _ _ rfl

/-- A unit axis put in the middle. -/
theorem mid_apply {a b : ℕ} (x : (⟨2, ![a, b]⟩ : Shape).Idx → α) (h : (⟨2, ![a, b]⟩ : Shape).ShapeCasts ⟨3, ![a, 1, b]⟩)
    (i : Fin a) (u : Fin 1) (k : Fin b) : shapeCast ⟨3, ![a, 1, b]⟩ x h (ix3 i u k) = x (ix2 i k) :=
  shapeCast_apply x h _ _ (by
    have hu : u.val = 0 := by omega
    rw [Shape.rowMajor_val_three, Shape.rowMajor_val_two]
    show i.val * b + k.val = (i.val * 1 + u.val) * b + k.val
    rw [hu, Nat.mul_one, Nat.add_zero])

/-- A unit axis put last. -/
theorem last_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- One row per point repeated for every place. -/
theorem spreadMid_apply {a b n : ℕ} (x : (⟨3, ![a, 1, b]⟩ : Shape).Idx → α) (h : (⟨3, ![a, 1, b]⟩ : Shape).Broadcasts ⟨3, ![a, n, b]⟩)
    (i : Fin a) (j : Fin n) (k : Fin b) : broadcastTo ⟨3, ![a, n, b]⟩ x h (ix3 i j k) = x (ix3 i (0 : Fin 1) k) :=
  broadcastTo_apply x h _ _ fun d => by
    match d with
    | ⟨0, _⟩ => show i.val = if a = 1 then 0 else i.val; split <;> omega
    | ⟨1, _⟩ => rfl
    | ⟨2, _⟩ => show k.val = if b = 1 then 0 else k.val; split <;> omega

/-- One number per point and place repeated for every feature. -/
theorem spreadLast_apply {a b n : ℕ} (x : (⟨3, ![a, b, 1]⟩ : Shape).Idx → α) (h : (⟨3, ![a, b, 1]⟩ : Shape).Broadcasts ⟨3, ![a, b, n]⟩)
    (i : Fin a) (j : Fin b) (k : Fin n) : broadcastTo ⟨3, ![a, b, n]⟩ x h (ix3 i j k) = x (ix3 i j (0 : Fin 1)) :=
  broadcastTo_apply x h _ _ fun d => by
    match d with
    | ⟨0, _⟩ => show i.val = if a = 1 then 0 else i.val; split <;> omega
    | ⟨1, _⟩ => show j.val = if b = 1 then 0 else j.val; split <;> omega
    | ⟨2, _⟩ => rfl

/-- A column repeated. -/
theorem spreadCol_apply {a n : ℕ} (x : (⟨2, ![a, 1]⟩ : Shape).Idx → α) (h : (⟨2, ![a, 1]⟩ : Shape).Broadcasts ⟨2, ![a, n]⟩)
    (i : Fin a) (k : Fin n) : broadcastTo ⟨2, ![a, n]⟩ x h (ix2 i k) = x (ix2 i (0 : Fin 1)) :=
  broadcastTo_apply x h _ _ fun d => by
    match d with
    | ⟨0, _⟩ => show i.val = if a = 1 then 0 else i.val; split <;> omega
    | ⟨1, _⟩ => rfl

/-- The sum over the last axis of a matrix. -/
theorem sum2_apply {a b : ℕ} (x : FVec Ideal ⟨2, ![a, b]⟩ .f32) (acc : BitVec 32) (h : Shape.Reduces ⟨2, ![a, b]⟩ [1] ⟨1, ![a]⟩)
    (hφ : FKind.Formats .f32) (hacc : acc = FKind.add.neutral .f32 hφ) (i : Fin a) :
    multiReduction .add [1] ⟨1, ![a]⟩ x acc h hφ hacc (ix1 i) = ∑ k : Fin b, x (ix2 i k) :=
  (Ideal.multiReduction_add_single x acc h hφ hacc _).trans (Finset.sum_congr rfl fun k _ => congrArg x (funext fun d => Fin.ext (by
    match d with | ⟨0, _⟩ => rfl | ⟨1, _⟩ => rfl)))

/-- The largest along the last axis of a matrix. -/
theorem max2_apply {a b : ℕ} (x : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (i : Fin a) :
    multiReduction .maximumf [1] ⟨1, ![a]⟩ x acc h hφ hacc (ix1 i) = Finset.univ.fold max (Ideal.ofBits .f32 acc) (fun k : Fin b => x (ix2 i k)) :=
  (Ideal.multiReduction_maximumf_single x acc h hφ hacc _).trans (congrArg (Finset.fold max _ · _) (funext fun k => congrArg x (funext fun d => Fin.ext (by
    match d with | ⟨0, _⟩ => rfl | ⟨1, _⟩ => rfl))))

/-- The sum over the last axis of a block. -/
theorem sum3_last_apply {a b n : ℕ} (x : FVec Ideal ⟨3, ![a, b, n]⟩ .f32) (acc : BitVec 32) (h : Shape.Reduces ⟨3, ![a, b, n]⟩ [2] ⟨2, ![a, b]⟩)
    (hφ : FKind.Formats .f32) (hacc : acc = FKind.add.neutral .f32 hφ) (i : Fin a) (j : Fin b) :
    multiReduction .add [2] ⟨2, ![a, b]⟩ x acc h hφ hacc (ix2 i j) = ∑ k : Fin n, x (ix3 i j k) :=
  (Ideal.multiReduction_add_single x acc h hφ hacc _).trans (Finset.sum_congr rfl fun k _ => congrArg x (funext fun d => Fin.ext (by
    match d with | ⟨0, _⟩ => rfl | ⟨1, _⟩ => rfl | ⟨2, _⟩ => rfl)))

/-- The sum over the middle axis of a block. -/
theorem sum3_mid_apply {a b n : ℕ} (x : FVec Ideal ⟨3, ![a, b, n]⟩ .f32) (acc : BitVec 32) (h : Shape.Reduces ⟨3, ![a, b, n]⟩ [1] ⟨2, ![a, n]⟩)
    (hφ : FKind.Formats .f32) (hacc : acc = FKind.add.neutral .f32 hφ) (i : Fin a) (k : Fin n) :
    multiReduction .add [1] ⟨2, ![a, n]⟩ x acc h hφ hacc (ix2 i k) = ∑ j : Fin b, x (ix3 i j k) :=
  (Ideal.multiReduction_add_single x acc h hφ hacc _).trans (Finset.sum_congr rfl fun k _ => congrArg x (funext fun d => Fin.ext (by
    match d with | ⟨0, _⟩ => rfl | ⟨1, _⟩ => rfl | ⟨2, _⟩ => rfl)))

end Cert.Proof.Layout

end
-- ==== Proof.BlockAttn1.lean ====
/-
  What one block of the first attention layer computes, read at a point and a feature: the attention of the point's query
  over its sixteen tokens, of the block's inputs.
-/
module

public import proofs.«01_k».proof.Proof.Spec
public import proofs.«01_k».proof.Proof.Layout
public import proofs.«01_k».proof.Proof.Attn1
public import Idealize.ShloMosaic.Lib.MatmulPlain

@[expose] public section

noncomputable section

namespace Cert.Proof.Kernel

open Cert.Kernel Cert.Kernel.Gen
open Idealize.ShloMosaic Idealize.ShloMosaic.ValueIdx Cert.Proof.Layout Cert.Proof.Spec

/-- Offsets that are zero, however they are spelt. -/
theorem zeros2 : (![0, 0] : Fin 2 → ℕ) = fun _ => 0 := funext fun a => by fin_cases a <;> rfl
theorem zeros3 : (![0, 0, 0] : Fin 3 → ℕ) = fun _ => 0 := funext fun a => by fin_cases a <;> rfl

/-- A block's product with a transposed matrix, from zero. -/
theorem dotT_apply {M K N : ℕ} (x : FVec Ideal ⟨2, ![M, K]⟩ .f32) (w : FVec Ideal ⟨2, ![N, K]⟩ .f32) (r : Fin M) (c : Fin N) :
    FloatOps.matmul (DotDims.transposedRhs M K N) none x w (constant (F := Ideal) ⟨2, ![M, N]⟩ .f32 0x00000000#32) (ix2 r c)
      = lin (mat w) (fun k => x (ix2 r k)) c := by
  rw [Ideal.matmul_transposedRhs_apply, constant_apply, Ideal.ofBits_zero_f32, zero_add]; rfl

theorem dot3_eq : dot_S4096x3_S128x3_S4096x128_1_1_0_0_n_n = DotDims.transposedRhs 4096 3 128 := rfl
theorem dotBig_eq : dot_S4096x128_S128x128_S4096x128_1_1_0_0_n_n = DotDims.transposedRhs 4096 128 128 := rfl
theorem dotRow_eq : dot_S256x128_S128x128_S256x128_1_1_0_0_n_n = DotDims.transposedRhs 256 128 128 := rfl

/-- The tokens of a block. -/
theorem pay2_apply (gs : Vec Ideal S256x16x128 .f32) (sr : Vec Ideal S1x256x3 .f32) (wp : Vec Ideal S128x3 .f32) (bp : Vec Ideal S1x128 .f32)
    (gt : Vec Ideal S256x16x128 .f32) (i : Fin 256) (j : Fin 16) (c : Fin 128) :
    k1_pay2 gs sr wp bp gt (ix2 (row i j) c)
      = token (mat wp) (fun k => bp (ix2 0 k)) (fun k : Fin 3 => sr (ix3 0 i k)) (fun k : Fin 3 => gs (ix3 i j (k.castLE (by decide)))) (fun k => gt (ix3 i j k)) c := by
  unfold k1_pay2 token
  simp only [addf_apply]
  congr 1
  · congr 1
    · refine (dotT_apply _ wp _ c).trans ?_
      congr 1; funext k
      rw [merge_apply, subf_apply, spreadMid_apply, mid_apply, shapeCast_1ab_ab_apply]
      congr 1
      refine (congrArg (shapeCast S256x16x128 gs _) (funext fun d => Fin.ext ?_)).trans (same_apply gs _ (ix3 i j (k.castLE (by decide))))
      match d with
      | ⟨0, _⟩ => exact Nat.zero_add _
      | ⟨1, _⟩ => exact Nat.zero_add _
      | ⟨2, _⟩ => exact Nat.zero_add _
    · rw [broadcastTo_1b_ab_apply, same_apply]
  · rw [merge_apply, same_apply]

theorem pay3_apply (gs : Vec Ideal S256x16x128 .f32) (sr : Vec Ideal S1x256x3 .f32) (wp : Vec Ideal S128x3 .f32) (bp : Vec Ideal S1x128 .f32)
    (gt : Vec Ideal S256x16x128 .f32) (wv : Vec Ideal S128x128 .f32) (i : Fin 256) (j : Fin 16) (c : Fin 128) :
    k1_pay3 gs sr wp bp gt wv (ix3 i j c) = lin (mat wv) (fun k => k1_pay2 gs sr wp bp gt (ix2 (row i j) k)) c := by
  unfold k1_pay3
  exact (split_apply _ _ i j c).trans (dotT_apply _ wv _ c)

theorem pay4_apply (gs : Vec Ideal S256x16x128 .f32) (sr : Vec Ideal S1x256x3 .f32) (wp : Vec Ideal S128x3 .f32) (bp : Vec Ideal S1x128 .f32)
    (gt : Vec Ideal S256x16x128 .f32) (wk : Vec Ideal S128x128 .f32) (i : Fin 256) (j : Fin 16) (c : Fin 128) :
    k1_pay4 gs sr wp bp gt wk (ix3 i j c) = lin (mat wk) (fun k => k1_pay2 gs sr wp bp gt (ix2 (row i j) k)) c := by
  unfold k1_pay4
  exact (split_apply _ _ i j c).trans (dotT_apply _ wk _ c)

theorem pay5_apply (tg : Vec Ideal S1x256x128 .f32) (wq : Vec Ideal S128x128 .f32) (i : Fin 256) (c : Fin 128) :
    k1_pay5 tg wq (ix2 i c) = lin (mat wq) (fun k => tg (ix3 0 i k)) c := by
  unfold k1_pay5
  refine (dotT_apply _ wq _ c).trans ?_
  congr 1; funext k
  exact shapeCast_1ab_ab_apply tg _ i k

/-! ## The attention of a block -/

section Core
variable (km v : FVec Ideal S256x16x128 .f32) (q : FVec Ideal S256x128 .f32)

/-- The scaled products of the queries with the keys. -/
abbrev logitsOf : FVec Ideal S256x16 .f32 :=
  divf (multiReduction .add [2] S256x16 (mulf km (broadcastTo S256x16x128 (shapeCast S256x1x128 q shapeCasts_S256x128_S256x1x128) broadcasts_S256x1x128_S256x16x128))
    0x00000000#32 reduces_S256x16x128_S256x16 (.inl rfl) rfl) (broadcast S256x16 (Scalar.ofBits .f32 0x413504F3#32))

theorem logitsOf_apply (i : Fin 256) (j : Fin 16) :
    logitsOf km q (ix2 i j) = Ideal.div (∑ d : Fin 128, km (ix3 i j d) * q (ix2 i d)) (Ideal.ofBits .f32 0x413504F3#32) := by
  refine (divf_apply _ _ _).trans (congrArg (Ideal.div · _) ((sum3_last_apply _ _ _ _ _ i j).trans (Finset.sum_congr rfl fun d _ => ?_)))
  rw [mulf_apply, spreadMid_apply, mid_apply]

/-- The largest of each point's sixteen numbers. -/
abbrev topsOf (l : FVec Ideal S256x16 .f32) : FVec Ideal S256 .f32 :=
  multiReduction .maximumf [1] S256 l 0xFF800000#32 reduces_S256x16_S256 (.inl rfl) rfl

/-- The softmax weights, of the numbers and their tops. -/
abbrev weightsOf (l : FVec Ideal S256x16 .f32) (m : FVec Ideal S256 .f32) : FVec Ideal S256x16 .f32 :=
  divf (exp (subf l (broadcastTo S256x16 (shapeCast S256x1 m shapeCasts_S256_S256x1) broadcasts_S256x1_S256x16)))
    (broadcastTo S256x16 (shapeCast S256x1 (multiReduction .add [1] S256 (exp (subf l (broadcastTo S256x16 (shapeCast S256x1 m shapeCasts_S256_S256x1) broadcasts_S256x1_S256x16)))
      0x00000000#32 reduces_S256x16_S256 (.inl rfl) rfl) shapeCasts_S256_S256x1) broadcasts_S256x1_S256x16)

theorem expOf_apply (l : FVec Ideal S256x16 .f32) (i : Fin 256) (j : Fin 16) :
    exp (subf l (broadcastTo S256x16 (shapeCast S256x1 (topsOf l) shapeCasts_S256_S256x1) broadcasts_S256x1_S256x16)) (ix2 i j)
      = Ideal.exp (l (ix2 i j) - top fun k => l (ix2 i k)) := by
  refine congrArg Ideal.exp ?_
  rw [subf_apply, spreadCol_apply, shapeCast_a_a1_apply]
  exact congrArg (l (ix2 i j) - ·) (max2_apply l _ _ _ _ i)

theorem weightsOf_apply (l : FVec Ideal S256x16 .f32) (i : Fin 256) (j : Fin 16) :
    weightsOf l (topsOf l) (ix2 i j) = weight (fun k => l (ix2 i k)) j := by
  refine (divf_apply _ _ _).trans ?_
  rw [expOf_apply, spreadCol_apply, shapeCast_a_a1_apply]
  refine congrArg (Ideal.div _) ((sum2_apply _ _ _ _ _ i).trans (Finset.sum_congr rfl fun k _ => ?_))
  exact expOf_apply l i k

/-- The attention's result. -/
abbrev mixOf (a : FVec Ideal S256x16 .f32) : FVec Ideal S256x128 .f32 :=
  multiReduction .add [1] S256x128 (mulf v (broadcastTo S256x16x128 (shapeCast S256x16x1 a shapeCasts_S256x16_S256x16x1) broadcasts_S256x16x1_S256x16x128))
    0x00000000#32 reduces_S256x16x128_S256x128 (.inl rfl) rfl

theorem mixOf_apply (a : FVec Ideal S256x16 .f32) (i : Fin 256) (c : Fin 128) :
    mixOf v a (ix2 i c) = ∑ j : Fin 16, v (ix3 i j c) * a (ix2 i j) := by
  refine (sum3_mid_apply _ _ _ _ _ i c).trans (Finset.sum_congr rfl fun j _ => ?_)
  rw [mulf_apply, spreadLast_apply, last_apply]

end Core

/-- The whole body at a point and a feature. -/
theorem body1_apply (gs : Vec Ideal S256x16x128 .f32) (sr : Vec Ideal S1x256x3 .f32) (wp : Vec Ideal S128x3 .f32) (bp : Vec Ideal S1x128 .f32)
    (gt : Vec Ideal S256x16x128 .f32) (wk wv : Vec Ideal S128x128 .f32) (tg : Vec Ideal S1x256x128 .f32) (wq : Vec Ideal S128x128 .f32)
    (u : Fin 1) (i : Fin 256) (c : Fin 128) :
    k1_pay1 (k1_pay3 gs sr wp bp gt wv) (k1_pay4 gs sr wp bp gt wk) (k1_pay5 tg wq) (ix3 u i c)
      = attend (lin (mat wq) fun k => tg (ix3 0 i k))
          (fun j => token (mat wp) (fun k => bp (ix2 0 k)) (fun k : Fin 3 => sr (ix3 0 i k)) (fun k : Fin 3 => gs (ix3 i j (k.castLE (by decide)))) (fun k => gt (ix3 i j k)))
          (mat wk) (mat wv) c := by
  refine (shapeCast_ab_1ab_apply (mixOf (k1_pay3 gs sr wp bp gt wv) (weightsOf (logitsOf (k1_pay4 gs sr wp bp gt wk) (k1_pay5 tg wq))
    (topsOf (logitsOf (k1_pay4 gs sr wp bp gt wk) (k1_pay5 tg wq))))) shapeCasts_S256x128_S1x256x128 u i c).trans ?_
  rw [mixOf_apply]
  refine Finset.sum_congr rfl fun j _ => ?_
  rw [weightsOf_apply, pay3_apply]
  simp only [pay2_apply]
  congr 2
  funext k
  rw [logitsOf_apply]
  simp only [pay4_apply, pay5_apply, pay2_apply]
  rfl

/-- What the block's body leaves, at a point and a feature. -/
theorem out_9_apply (gt gs : Vec Ideal S256x16x128 .f32) (sr : Vec Ideal S1x256x3 .f32) (tg : Vec Ideal S1x256x128 .f32)
    (wq wk wv : Vec Ideal S128x128 .f32) (wp : Vec Ideal S128x3 .f32) (bp : Vec Ideal S1x128 .f32) (u : Fin 1) (i : Fin 256) (c : Fin 128) :
    R1.out_9 gt gs sr tg wq wk wv wp bp (ix3 u i c)
      = attend (lin (mat wq) fun k => tg (ix3 0 i k))
          (fun j => token (mat wp) (fun k => bp (ix2 0 k)) (fun k : Fin 3 => sr (ix3 0 i k)) (fun k : Fin 3 => gs (ix3 i j (k.castLE (by decide)))) (fun k => gt (ix3 i j k)))
          (mat wk) (mat wv) c := by
  have e : R1.out_9 gt gs sr tg wq wk wv wp bp = k1_pay1 (k1_pay3 gs sr wp bp gt wv) (k1_pay4 gs sr wp bp gt wk) (k1_pay5 tg wq) := by
    unfold R1.out_9
    rw [View.canon_unit_zero zeros3]
    simp only [View.ld_unit_zero (S := S256x16x128) zeros3, View.ld_unit_zero (S := S1x256x128) zeros3, View.ld_unit_zero (S := S1x256x3) zeros3, View.ld_unit_zero (S := S128x128) zeros2, View.ld_unit_zero (S := S128x3) zeros2, View.ld_unit_zero (S := S1x128) zeros2]
  rw [e]
  exact body1_apply gs sr wp bp gt wk wv tg wq u i c

end Cert.Proof.Kernel

end
-- ==== Proof.ArrayAttn1.lean ====
/-
  The first attention call's result array, as a function of the arrays it reads.
-/
module

public import proofs.«01_k».proof.Proof.BlockAttn1
public import Idealize.ShloMosaic.Lib.Pipeline.ValueKit

@[expose] public section

noncomputable section

namespace Cert.Proof.Kernel

open Cert.Kernel Cert.Kernel.Gen
open Idealize.ShloMosaic hiding ix2 ix3 eq_ix3
open Idealize.ShloMosaic.ValueIdx Cert.Proof.Layout Cert.Proof.Spec
open TcCoe

/-- The flat number of point `(b, p)`. -/
def num (b : Fin 8) (p : Fin 2048) : Fin 16384 := ⟨b.val * 2048 + p.val, by omega⟩

/-- The point at row `r` of block `i`. -/
def pos (i : Fin 8) (r : Fin 256) : Fin 2048 := ⟨i.val * 256 + r.val, by omega⟩

variable (V : (c : Dev nD) → (b : Ref sig .tc) → Buf (Elt Ideal) ((c : Thread nD τ).loc b))

/-- Where the windows stand at a point of the grid. -/
theorem index1 : ∀ t : Fin cfg1.N, win1_0.index t = ![(grid1.coords t 0).val * 8 + (grid1.coords t 1).val, 0, 0]
    ∧ win1_1.index t = ![(grid1.coords t 0).val * 8 + (grid1.coords t 1).val, 0, 0]
    ∧ win1_2.index t = ![(grid1.coords t 0).val, (grid1.coords t 1).val, 0]
    ∧ win1_3.index t = ![(grid1.coords t 0).val, (grid1.coords t 1).val, 0]
    ∧ win1_4.index t = ![0, 0]
    ∧ win1_5.index t = ![0, 0]
    ∧ win1_6.index t = ![0, 0]
    ∧ win1_7.index t = ![0, 0]
    ∧ win1_8.index t = ![0, 0]
    ∧ win1_9.index t = ![(grid1.coords t 0).val, (grid1.coords t 1).val, 0] :=
  (by decide +kernel : ∀ t : Fin grid1.N, win1_0.index t = ![(grid1.coords t 0).val * 8 + (grid1.coords t 1).val, 0, 0]
    ∧ win1_1.index t = ![(grid1.coords t 0).val * 8 + (grid1.coords t 1).val, 0, 0]
    ∧ win1_2.index t = ![(grid1.coords t 0).val, (grid1.coords t 1).val, 0]
    ∧ win1_3.index t = ![(grid1.coords t 0).val, (grid1.coords t 1).val, 0]
    ∧ win1_4.index t = ![0, 0]
    ∧ win1_5.index t = ![0, 0]
    ∧ win1_6.index t = ![0, 0]
    ∧ win1_7.index t = ![0, 0]
    ∧ win1_8.index t = ![0, 0]
    ∧ win1_9.index t = ![(grid1.coords t 0).val, (grid1.coords t 1).val, 0])

section Reads
variable (c : Dev nD) (t : Fin cfg1.N)

theorem place1_0 (i : Fin 256) (j : Fin 16) (k : Fin 128) :
    ((win1_0.blk t).view.emb (ix3 i j k) : S16384x16x128.Idx) = ix3 (num (grid1.coords t 0) (pos (grid1.coords t 1) i)) j k := by
  have h := (index1 t).1
  blk_ext [num, pos, h]
  show ((grid1.coords t 0).val * 8 + (grid1.coords t 1).val) * 256 + i.val = (grid1.coords t 0).val * 2048 + ((grid1.coords t 1).val * 256 + i.val)
  omega
theorem read1_0 (i : Fin 256) (j : Fin 16) (k : Fin 128) : R1.iblk V c 0 t (ix3 i j k) = V c main_v13 (ix3 (num (grid1.coords t 0) (pos (grid1.coords t 1) i)) j k) :=
  congrArg (V c main_v13) (place1_0 t i j k)

theorem place1_1 (i : Fin 256) (j : Fin 16) (k : Fin 128) :
    ((win1_1.blk t).view.emb (ix3 i j k) : S16384x16x128.Idx) = ix3 (num (grid1.coords t 0) (pos (grid1.coords t 1) i)) j k := by
  have h := (index1 t).2.1
  blk_ext [num, pos, h]
  show ((grid1.coords t 0).val * 8 + (grid1.coords t 1).val) * 256 + i.val = (grid1.coords t 0).val * 2048 + ((grid1.coords t 1).val * 256 + i.val)
  omega
theorem read1_1 (i : Fin 256) (j : Fin 16) (k : Fin 128) : R1.iblk V c 1 t (ix3 i j k) = V c main_v14 (ix3 (num (grid1.coords t 0) (pos (grid1.coords t 1) i)) j k) :=
  congrArg (V c main_v14) (place1_1 t i j k)

theorem place1_2 (u : Fin 1) (i : Fin 256) (k : Fin 3) :
    ((win1_2.blk t).view.emb (ix3 u i k) : S8x2048x3.Idx) = ix3 (grid1.coords t 0) (pos (grid1.coords t 1) i) k := by
  have h := (index1 t).2.2.1
  blk_ext [num, pos, h]
theorem read1_2 (u : Fin 1) (i : Fin 256) (k : Fin 3) : R1.iblk V c 2 t (ix3 u i k) = V c main_arg0 (ix3 (grid1.coords t 0) (pos (grid1.coords t 1) i) k) :=
  congrArg (V c main_arg0) (place1_2 t u i k)

theorem place1_3 (u : Fin 1) (i : Fin 256) (k : Fin 128) :
    ((win1_3.blk t).view.emb (ix3 u i k) : S8x2048x128.Idx) = ix3 (grid1.coords t 0) (pos (grid1.coords t 1) i) k := by
  have h := (index1 t).2.2.2.1
  blk_ext [num, pos, h]
theorem read1_3 (u : Fin 1) (i : Fin 256) (k : Fin 128) : R1.iblk V c 3 t (ix3 u i k) = V c main_arg1 (ix3 (grid1.coords t 0) (pos (grid1.coords t 1) i) k) :=
  congrArg (V c main_arg1) (place1_3 t u i k)

theorem place1_4 (i : Fin 128) (k : Fin 128) :
    ((win1_4.blk t).view.emb (ix2 i k) : S128x128.Idx) = ix2 i k := by
  have h := (index1 t).2.2.2.2.1
  blk_ext [num, pos, h]
theorem read1_4 (i : Fin 128) (k : Fin 128) : R1.iblk V c 4 t (ix2 i k) = V c main_arg2 (ix2 i k) :=
  congrArg (V c main_arg2) (place1_4 t i k)

theorem place1_5 (i : Fin 128) (k : Fin 128) :
    ((win1_5.blk t).view.emb (ix2 i k) : S128x128.Idx) = ix2 i k := by
  have h := (index1 t).2.2.2.2.2.1
  blk_ext [num, pos, h]
theorem read1_5 (i : Fin 128) (k : Fin 128) : R1.iblk V c 5 t (ix2 i k) = V c main_arg3 (ix2 i k) :=
  congrArg (V c main_arg3) (place1_5 t i k)

theorem place1_6 (i : Fin 128) (k : Fin 128) :
    ((win1_6.blk t).view.emb (ix2 i k) : S128x128.Idx) = ix2 i k := by
  have h := (index1 t).2.2.2.2.2.2.1
  blk_ext [num, pos, h]
theorem read1_6 (i : Fin 128) (k : Fin 128) : R1.iblk V c 6 t (ix2 i k) = V c main_arg4 (ix2 i k) :=
  congrArg (V c main_arg4) (place1_6 t i k)

theorem place1_7 (i : Fin 128) (k : Fin 3) :
    ((win1_7.blk t).view.emb (ix2 i k) : S128x3.Idx) = ix2 i k := by
  have h := (index1 t).2.2.2.2.2.2.2.1
  blk_ext [num, pos, h]
theorem read1_7 (i : Fin 128) (k : Fin 3) : R1.iblk V c 7 t (ix2 i k) = V c main_arg10 (ix2 i k) :=
  congrArg (V c main_arg10) (place1_7 t i k)

theorem place1_8 (i : Fin 1) (k : Fin 128) :
    ((win1_8.blk t).view.emb (ix2 i k) : S1x128.Idx) = ix2 i k := by
  have h := (index1 t).2.2.2.2.2.2.2.2.1
  blk_ext [num, pos, h]
theorem read1_8 (i : Fin 1) (k : Fin 128) : R1.iblk V c 8 t (ix2 i k) = V c main_v0 (ix2 i k) :=
  congrArg (V c main_v0) (place1_8 t i k)

theorem place1_9 (u : Fin 1) (i : Fin 256) (k : Fin 128) :
    ((win1_9.blk t).view.emb (ix3 u i k) : S8x2048x128.Idx) = ix3 (grid1.coords t 0) (pos (grid1.coords t 1) i) k := by
  have h := (index1 t).2.2.2.2.2.2.2.2.2
  blk_ext [num, pos, h]

end Reads

/-- What the call's result array holds: at each point the attention of its query over the sixteen rows gathered for it. -/
def attn1 (c : Dev nD) (b : Fin 8) (p : Fin 2048) (o : Fin 128) : EReal :=
  attend (lin (mat (m := 128) (n := 128) (V c main_arg2)) fun k => V c main_arg1 (ix3 b p k))
    (fun j => token (mat (m := 128) (n := 3) (V c main_arg10)) (fun k => V c main_v0 (ix2 0 k)) (fun k : Fin 3 => V c main_arg0 (ix3 b p k))
      (fun k : Fin 3 => V c main_v14 (ix3 (num b p) j (k.castLE (by decide)))) (fun k => V c main_v13 (ix3 (num b p) j k)))
    (mat (m := 128) (n := 128) (V c main_arg3)) (mat (m := 128) (n := 128) (V c main_arg4)) o

theorem final1 (c : Dev nD) : (R1.dat V c).arrAt 9 cfg1.N = arr (attn1 V c) := by
  refine (R1.dat V c).arrAt_eq_of_covers 9 _ (by decide +kernel) fun t hf y => ?_
  obtain ⟨u, i, k, rfl⟩ : ∃ (u : Fin 1) (i : Fin 256) (k : Fin 128), y = ix3 u i k := ⟨y 0, y 1, y 2, eq_ix3 y⟩
  refine Eq.trans (b := R1.out_9 (R1.iblk V c 0 t) (R1.iblk V c 1 t) (R1.iblk V c 2 t) (R1.iblk V c 3 t) (R1.iblk V c 4 t) (R1.iblk V c 5 t) (R1.iblk V c 6 t)
    (R1.iblk V c 7 t) (R1.iblk V c 8 t) (ix3 u i k)) ?_ (Eq.trans (b := arr (attn1 V c) (ix3 (grid1.coords t 0) (pos (grid1.coords t 1) i) k)) ?_ ?_)
  · rw [← R1.after_9]; rfl
  · rw [out_9_apply]
    simp only [read1_0, read1_1, read1_2, read1_3, read1_8]
    have e4 : mat (m := 128) (n := 128) (R1.iblk V c 4 t) = mat (m := 128) (n := 128) (V c main_arg2) := funext fun o => funext fun k => read1_4 V c t o k
    have e5 : mat (m := 128) (n := 128) (R1.iblk V c 5 t) = mat (m := 128) (n := 128) (V c main_arg3) := funext fun o => funext fun k => read1_5 V c t o k
    have e6 : mat (m := 128) (n := 128) (R1.iblk V c 6 t) = mat (m := 128) (n := 128) (V c main_arg4) := funext fun o => funext fun k => read1_6 V c t o k
    have e7 : mat (m := 128) (n := 3) (R1.iblk V c 7 t) = mat (m := 128) (n := 3) (V c main_arg10) := funext fun o => funext fun k => read1_7 V c t o k
    rw [e4, e5, e6, e7]
    rfl
  · exact congrArg (arr (attn1 V c)) (place1_9 t u i k).symm

end Cert.Proof.Kernel

end
-- ==== Proof.Rows.lean ====
/-
  The gathered rows, sixteen to a point, in terms of the arrays that the tables are laid out from.
-/
module

public import proofs.«01_k».proof.Proof.Setup
public import proofs.«01_k».proof.Proof.ArrayAttn1

@[expose] public section

noncomputable section

namespace Cert.Proof.Kernel

open Cert.Kernel Cert.Kernel.Gen
open Idealize.ShloMosaic hiding ix2 ix3 eq_ix3
open Idealize.ShloMosaic.ValueIdx Cert.Proof.Layout Cert.Proof.Spec

/-- A table laid out by rows, read at a row. -/
theorem table_apply (x : Arr 128) (h : S8x2048x128.ShapeCasts S16384x128) (r : Fin 16384) (k : Fin 128) :
    shapeCast S16384x128 x h (at2 r k) = flat x r k :=
  shapeCast_apply x h _ _ (by
    rw [Shape.rowMajor_val_three, Shape.rowMajor_val_two]
    show (r.val / 2048 * 2048 + r.val % 2048) * 128 + k.val = r.val * 128 + k.val
    omega)

/-- The place in the list of neighbour `j` of point `(b, p)`. -/
def place (b : Fin 8) (p : Fin 2048) (j : Fin 16) : Fin 262144 := ⟨(b.val * 2048 + p.val) * 16 + j.val, by omega⟩

theorem list_apply (l : S8x2048x16.Idx → BitVec 32) (h : S8x2048x16.ShapeCasts S262144) (b : Fin 8) (p : Fin 2048) (j : Fin 16) :
    shapeCast S262144 l h (at1 (place b p j)) = l (ix3 b p j) :=
  shapeCast_apply l h _ _ (by rw [Shape.rowMajor_val_three, Shape.rowMajor_val_one]; rfl)

/-- The rows gathered for a point are the features of the points its list names. -/
theorem rows_apply (x : Arr 128) (l : S8x2048x16.Idx → BitVec 32) (h : S8x2048x128.ShapeCasts S16384x128) (h' : S8x2048x16.ShapeCasts S262144)
    (h'' : S262144x128.ShapeCasts S16384x16x128) (b : Fin 8) (p : Fin 2048) (j : Fin 16) (k : Fin 128) :
    shapeCast S16384x16x128 (rowsOf (F := Ideal) (shapeCast S16384x128 x h) (shapeCast S262144 l h')) h'' (ix3 (num b p) j k)
      = flat x (nbr l b p j) k := by
  refine (shapeCast_apply _ h'' _ (ix2 (place b p j) k : S262144x128.Idx) (by
    rw [Shape.rowMajor_val_three, Shape.rowMajor_val_two]; rfl)).trans ?_
  have e : (shapeCast S262144 l h') (at1 (place b p j)) = l (ix3 b p j) := list_apply l h' b p j
  show shapeCast S16384x128 x h (at2 (Fin.ofNat 16384 ((shapeCast S262144 l h') (at1 (place b p j))).toNat) k) = _
  rw [e]
  exact table_apply x h _ k

/-- The points widened by zeros hold the points in their first three columns. -/
theorem wide_apply (x : Arr 3) (z : Arr 125) (h : Shape.Concatenates [S8x2048x3, S8x2048x125] S8x2048x128 2) (r : Fin 16384) (k : Fin 3) :
    flat (n := 128) (concatenate S8x2048x128 2 [⟨S8x2048x3, x⟩, ⟨S8x2048x125, z⟩] h) r (k.castLE (by decide)) = flat x r k := by
  unfold flat
  exact concatenate_pair_apply_left (t := S8x2048x128) 2 x z h _ rfl
    (ix3 (⟨r.val / 2048, by omega⟩ : Fin 8) (⟨r.val % 2048, by omega⟩ : Fin 2048) k) (fun b => by
      match b with
      | ⟨0, _⟩ => rfl
      | ⟨1, _⟩ => rfl
      | ⟨2, _⟩ => rfl)

end Cert.Proof.Kernel

end
-- ==== Proof.BlockQueries.lean ====
/-
  What one block of the second layer's queries holds, read at a point and a feature.
-/
module

public import proofs.«01_k».proof.Proof.BlockAttn1
public import proofs.«01_k».proof.Proof.Queries

@[expose] public section

noncomputable section

namespace Cert.Proof.Kernel

open Cert.Kernel Cert.Kernel.Gen
open Idealize.ShloMosaic Idealize.ShloMosaic.ValueIdx Cert.Proof.Layout Cert.Proof.Spec

/-- The queries of a block are the linear map of its points' features. -/
theorem out_4_apply (g : grid2.Coords) (x : Vec Ideal S1x256x128 .f32) (y : Vec Ideal S1x2048x128 .f32) (w : Vec Ideal S128x128 .f32)
    (u : Fin 1) (i : Fin 256) (c : Fin 128) :
    R2.out_4 g x y w (ix3 u i c) = lin (mat w) (fun k => x (ix3 0 i k)) c := by
  have e : R2.out_4 g x y w = k2_pay4 (k2_pay5 x) w := by
    unfold R2.out_4
    rw [View.canon_unit_zero zeros3]
    simp only [View.ld_unit_zero (S := S256x16x128) zeros3, View.ld_unit_zero (S := S1x256x128) zeros3, View.ld_unit_zero (S := S128x128) zeros2]
  rw [e]
  unfold k2_pay4
  refine (shapeCast_ab_1ab_apply _ _ u i c).trans ((dotT_apply _ w i c).trans ?_)
  congr 1; funext k
  exact shapeCast_1ab_ab_apply x _ i k

end Cert.Proof.Kernel

end
-- ==== Proof.ArrayQueries.lean ====
/-
  The array of the second layer's queries, as a function of the arrays it is computed from.
-/
module

public import proofs.«01_k».proof.Proof.BlockQueries
public import proofs.«01_k».proof.Proof.ArrayAttn1

@[expose] public section

noncomputable section

namespace Cert.Proof.Kernel

open Cert.Kernel Cert.Kernel.Gen
open Idealize.ShloMosaic hiding ix2 ix3 eq_ix3
open Idealize.ShloMosaic.ValueIdx Cert.Proof.Layout Cert.Proof.Spec
open TcCoe

variable (V : (c : Dev nD) → (b : Ref sig .tc) → Buf (Elt Ideal) ((c : Thread nD τ).loc b))

/-- Where the windows stand at a point of the grid. -/
theorem index2 : ∀ t : Fin cfg2.N, win2_0.index t = ![(grid2.coords t 0).val, (grid2.coords t 1).val, 0]
    ∧ win2_2.index t = ![0, 0]
    ∧ win2_4.index t = ![(grid2.coords t 0).val, (grid2.coords t 1).val, 0] :=
  (by decide +kernel : ∀ t : Fin grid2.N, win2_0.index t = ![(grid2.coords t 0).val, (grid2.coords t 1).val, 0]
    ∧ win2_2.index t = ![0, 0]
    ∧ win2_4.index t = ![(grid2.coords t 0).val, (grid2.coords t 1).val, 0])

section Reads
variable (c : Dev nD) (t : Fin cfg2.N)

theorem place2_0 (u : Fin 1) (i : Fin 256) (k : Fin 128) :
    ((win2_0.blk t).view.emb (ix3 u i k) : S8x2048x128.Idx) = ix3 (grid2.coords t 0) (pos (grid2.coords t 1) i) k := by
  have h := (index2 t).1
  blk_ext [num, pos, h]
theorem read2_0 (u : Fin 1) (i : Fin 256) (k : Fin 128) : R2.iblk V c 0 t (ix3 u i k) = V c main_v15 (ix3 (grid2.coords t 0) (pos (grid2.coords t 1) i) k) :=
  congrArg (V c main_v15) (place2_0 t u i k)

theorem place2_2 (i : Fin 128) (k : Fin 128) :
    ((win2_2.blk t).view.emb (ix2 i k) : S128x128.Idx) = ix2 i k := by
  have h := (index2 t).2.1
  blk_ext [num, pos, h]
theorem read2_2 (i : Fin 128) (k : Fin 128) : R2.iblk V c 2 t (ix2 i k) = V c main_arg5 (ix2 i k) :=
  congrArg (V c main_arg5) (place2_2 t i k)

theorem place2_4 (u : Fin 1) (i : Fin 256) (k : Fin 128) :
    ((win2_4.blk t).view.emb (ix3 u i k) : S8x2048x128.Idx) = ix3 (grid2.coords t 0) (pos (grid2.coords t 1) i) k := by
  have h := (index2 t).2.2
  blk_ext [num, pos, h]

end Reads

/-- What the call's second result array holds: the queries of the second layer. -/
def queries (c : Dev nD) (b : Fin 8) (p : Fin 2048) (o : Fin 128) : EReal :=
  lin (mat (m := 128) (n := 128) (V c main_arg5)) (fun k => V c main_v15 (ix3 b p k)) o

theorem final2 (c : Dev nD) : (R2.dat V c).arrAt 4 cfg2.N = arr (queries V c) := by
  refine (R2.dat V c).arrAt_eq_of_covers 4 _ (by decide +kernel) fun t hf y => ?_
  obtain ⟨u, i, k, rfl⟩ : ∃ (u : Fin 1) (i : Fin 256) (k : Fin 128), y = ix3 u i k := ⟨y 0, y 1, y 2, eq_ix3 y⟩
  refine Eq.trans (b := R2.out_4 (grid2.coords t) (R2.iblk V c 0 t) (R2.iblk V c 1 t) (R2.iblk V c 2 t) (ix3 u i k)) ?_
    (Eq.trans (b := arr (queries V c) (ix3 (grid2.coords t 0) (pos (grid2.coords t 1) i) k)) ?_ ?_)
  · rw [← R2.after_4]; rfl
  · rw [out_4_apply]
    simp only [read2_0]
    have e2 : mat (m := 128) (n := 128) (R2.iblk V c 2 t) = mat (m := 128) (n := 128) (V c main_arg5) := funext fun o => funext fun k => read2_2 V c t o k
    rw [e2]
    rfl
  · exact congrArg (arr (queries V c)) (place2_4 t u i k).symm

end Cert.Proof.Kernel

end
-- ==== Proof.BlockAttn2.lean ====
/-
  What one block of the second attention layer and the closing block computes, read at a point and a feature.
-/
module

public import proofs.«01_k».proof.Proof.BlockAttn1
public import proofs.«01_k».proof.Proof.Attn2

@[expose] public section

noncomputable section

namespace Cert.Proof.Kernel

open Cert.Kernel Cert.Kernel.Gen
open Idealize.ShloMosaic Idealize.ShloMosaic.ValueIdx Cert.Proof.Layout Cert.Proof.Spec

/-! ## The tokens, keys and values -/

theorem toks2_apply (gt : Vec Ideal S256x16x128 .f32) (ob : Vec Ideal S1x256x128 .f32) (wp : Vec Ideal S128x128 .f32) (bp : Vec Ideal S1x128 .f32)
    (i : Fin 256) (j : Fin 16) (c : Fin 128) :
    k4_pay2 gt ob wp bp (ix2 (row i j) c)
      = token (mat wp) (fun k => bp (ix2 0 k)) (fun k => ob (ix3 0 i k)) (fun k => gt (ix3 i j k)) (fun k => gt (ix3 i j k)) c := by
  unfold k4_pay2 token
  simp only [addf_apply]
  congr 1
  · congr 1
    · refine (dotT_apply _ wp _ c).trans ?_
      congr 1; funext k
      rw [merge_apply, subf_apply, spreadMid_apply, mid_apply, shapeCast_1ab_ab_apply, same_apply]
    · rw [broadcastTo_1b_ab_apply, same_apply]
  · rw [merge_apply, same_apply]

theorem vals2_apply (gt : Vec Ideal S256x16x128 .f32) (ob : Vec Ideal S1x256x128 .f32) (wp : Vec Ideal S128x128 .f32) (bp : Vec Ideal S1x128 .f32)
    (wv : Vec Ideal S128x128 .f32) (i : Fin 256) (j : Fin 16) (c : Fin 128) :
    k4_pay3 gt ob wp bp wv (ix3 i j c) = lin (mat wv) (fun k => k4_pay2 gt ob wp bp (ix2 (row i j) k)) c := by
  unfold k4_pay3
  exact (split_apply _ _ i j c).trans (dotT_apply _ wv _ c)

theorem logits2_apply (gt : Vec Ideal S256x16x128 .f32) (ob : Vec Ideal S1x256x128 .f32) (wp : Vec Ideal S128x128 .f32) (bp : Vec Ideal S1x128 .f32)
    (q : Vec Ideal S1x256x128 .f32) (wk : Vec Ideal S128x128 .f32) (i : Fin 256) (j : Fin 16) :
    k4_pay4 gt ob wp bp q wk (ix2 i j)
      = logit (fun k => q (ix3 0 i k)) (fun j k => k4_pay2 gt ob wp bp (ix2 (row i j) k)) (mat wk) j := by
  refine (logitsOf_apply (shapeCast S256x16x128 (FloatOps.matmul (F := Ideal) (φ₂ := .f32) dot_S4096x128_S128x128_S4096x128_1_1_0_0_n_n none (k4_pay2 gt ob wp bp) (wk : FVec Ideal S128x128 .f32)
    (constant S4096x128 .f32 0x00000000#32)) shapeCasts_S4096x128_S256x16x128) (shapeCast S256x128 q shapeCasts_S1x256x128_S256x128) i j).trans ?_
  refine congrArg (Ideal.div · _) (Finset.sum_congr rfl fun d _ => ?_)
  rw [shapeCast_1ab_ab_apply, split_apply, dotBig_eq, dotT_apply]

/-! ## Layer normalisation of a block -/

section Norm
variable (x : FVec Ideal S256x128 .f32)

/-- The means of the rows, as a column. -/
abbrev meansOf : FVec Ideal S256x1 .f32 :=
  divf (shapeCast S256x1 (multiReduction .add [1] S256 x 0x00000000#32 reduces_S256x128_S256 (.inl rfl) rfl) shapeCasts_S256_S256x1)
    (broadcast S256x1 (Scalar.ofBits .f32 0x43000000#32))

theorem meansOf_apply (i : Fin 256) (u : Fin 1) : meansOf x (ix2 i u) = mean fun k => x (ix2 i k) := by
  refine (divf_apply _ _ _).trans (congrArg (Ideal.div · _) ?_)
  rw [shapeCast_a_a1_apply]
  exact sum2_apply _ _ _ _ _ i

/-- The rows, less their means. -/
abbrev centred : FVec Ideal S256x128 .f32 := subf x (broadcastTo S256x128 (meansOf x) broadcasts_S256x1_S256x128)

theorem centred_apply (i : Fin 256) (k : Fin 128) : centred x (ix2 i k) = x (ix2 i k) - mean fun k => x (ix2 i k) := by
  unfold centred
  rw [subf_apply, spreadCol_apply, meansOf_apply]

/-- The rows normalised. -/
abbrev normOf (g b : Vec Ideal S1x128 .f32) : FVec Ideal S256x128 .f32 :=
  addf (mulf (divf (centred x) (broadcastTo S256x128 (sqrt (addf (meansOf (mulf (centred x) (centred x)))
    (broadcast S256x1 (Scalar.ofBits .f32 0x3727C5AC#32)))) broadcasts_S256x1_S256x128))
    (broadcastTo S256x128 (shapeCast S1x128 g shapeCasts_S1x128_S1x128) broadcasts_S1x128_S256x128))
    (broadcastTo S256x128 (shapeCast S1x128 b shapeCasts_S1x128_S1x128) broadcasts_S1x128_S256x128)

theorem normOf_apply (g b : Vec Ideal S1x128 .f32) (i : Fin 256) (c : Fin 128) :
    normOf x g b (ix2 i c) = norm (fun k => g (ix2 0 k)) (fun k => b (ix2 0 k)) (fun k => x (ix2 i k)) c := by
  unfold normOf
  rw [addf_apply, mulf_apply, divf_apply, spreadCol_apply, broadcastTo_1b_ab_apply, broadcastTo_1b_ab_apply, same_apply, same_apply, centred_apply]
  unfold Spec.norm
  congr 3
  refine congrArg Ideal.sqrt ?_
  rw [addf_apply, meansOf_apply]
  simp only [mulf_apply, centred_apply]
  rfl

end Norm

/-- The first residual, normalised. -/
theorem pay7_apply (v : FVec Ideal S256x16x128 .f32) (l : FVec Ideal S256x16 .f32) (tg : Vec Ideal S1x256x128 .f32) (g b : Vec Ideal S1x128 .f32)
    (i : Fin 256) (c : Fin 128) :
    k4_pay7 v l (topsOf l) tg g b (ix2 i c) = norm (fun k => g (ix2 0 k)) (fun k => b (ix2 0 k))
      (fun k => tg (ix3 0 i k) + ∑ j : Fin 16, v (ix3 i j k) * weight (fun j => l (ix2 i j)) j) c := by
  refine (normOf_apply (addf (shapeCast S256x128 tg shapeCasts_S1x256x128_S256x128) (mixOf v (weightsOf l (topsOf l)))) g b i c).trans ?_
  congr 1; funext k
  rw [addf_apply, shapeCast_1ab_ab_apply, mixOf_apply]
  simp only [weightsOf_apply]

/-- The second residual, normalised. -/
theorem last_block_apply (tg y : FVec Ideal S256x128 .f32) (wl : Vec Ideal S128x128 .f32) (bl g b : Vec Ideal S1x128 .f32)
    (u : Fin 1) (i : Fin 256) (c : Fin 128) :
    k4_pay1 tg y wl bl g b (ix3 u i c) = norm (fun k => g (ix2 0 k)) (fun k => b (ix2 0 k))
      (fun k => tg (ix2 i k) + (lin (mat wl) (fun k' => y (ix2 i k')) k + bl (ix2 0 k))) c := by
  refine (shapeCast_ab_1ab_apply (normOf (addf tg (addf (FloatOps.matmul (F := Ideal) (φ₂ := .f32) dot_S256x128_S128x128_S256x128_1_1_0_0_n_n none y (wl : FVec Ideal S128x128 .f32)
    (constant S256x128 .f32 0x00000000#32)) (broadcastTo S256x128 (shapeCast S1x128 bl shapeCasts_S1x128_S1x128) broadcasts_S1x128_S256x128))) g b)
    shapeCasts_S256x128_S1x256x128 u i c).trans ((normOf_apply _ g b i c).trans ?_)
  congr 1; funext k
  rw [addf_apply, addf_apply, dotRow_eq, dotT_apply, broadcastTo_1b_ab_apply, same_apply]

/-- What the block's body leaves, at a point and a feature. -/
theorem out_14_apply (gt : Vec Ideal S256x16x128 .f32) (ob q : Vec Ideal S1x256x128 .f32) (wp : Vec Ideal S128x128 .f32) (bp : Vec Ideal S1x128 .f32)
    (wk wv : Vec Ideal S128x128 .f32) (tg : Vec Ideal S1x256x128 .f32) (wl : Vec Ideal S128x128 .f32) (bl g0 b0 g1 b1 : Vec Ideal S1x128 .f32)
    (u : Fin 1) (i : Fin 256) (c : Fin 128) :
    R4.out_14 gt ob q wp bp wk wv tg wl bl g0 b0 g1 b1 (ix3 u i c)
      = close (fun k => tg (ix3 0 i k))
          (attend (fun k => q (ix3 0 i k))
            (fun j => token (mat wp) (fun k => bp (ix2 0 k)) (fun k => ob (ix3 0 i k)) (fun k => gt (ix3 i j k)) (fun k => gt (ix3 i j k)))
            (mat wk) (mat wv))
          (fun k => g0 (ix2 0 k)) (fun k => b0 (ix2 0 k)) (mat wl) (fun k => bl (ix2 0 k)) (fun k => g1 (ix2 0 k)) (fun k => b1 (ix2 0 k)) c := by
  have e : R4.out_14 gt ob q wp bp wk wv tg wl bl g0 b0 g1 b1
      = k4_pay1 (k4_pay6 tg) (k4_pay7 (k4_pay3 gt ob wp bp wv) (k4_pay4 gt ob wp bp q wk) (topsOf (k4_pay4 gt ob wp bp q wk)) tg g0 b0) wl bl g1 b1 := by
    unfold R4.out_14
    rw [View.canon_unit_zero zeros3]
    simp only [View.ld_unit_zero (S := S256x16x128) zeros3, View.ld_unit_zero (S := S1x256x128) zeros3, View.ld_unit_zero (S := S128x128) zeros2,
      View.ld_unit_zero (S := S1x128) zeros2]
    rfl
  rw [e, last_block_apply]
  unfold close
  congr 1; funext k
  congr 1
  · exact shapeCast_1ab_ab_apply tg _ i k
  · congr 2; funext k'
    rw [pay7_apply]
    congr 1; funext k''
    congr 1
    refine Finset.sum_congr rfl fun j _ => ?_
    rw [vals2_apply]
    simp only [logits2_apply, toks2_apply]

end Cert.Proof.Kernel

end
-- ==== Proof.ArrayAttn2.lean ====
/-
  The second attention call's result array, as a function of the arrays it reads.
-/
module

public import proofs.«01_k».proof.Proof.BlockAttn2
public import proofs.«01_k».proof.Proof.ArrayAttn1

@[expose] public section

noncomputable section

namespace Cert.Proof.Kernel

open Cert.Kernel Cert.Kernel.Gen
open Idealize.ShloMosaic hiding ix2 ix3 eq_ix3
open Idealize.ShloMosaic.ValueIdx Cert.Proof.Layout Cert.Proof.Spec
open TcCoe

variable (V : (c : Dev nD) → (b : Ref sig .tc) → Buf (Elt Ideal) ((c : Thread nD τ).loc b))

/-- Where the windows stand at a point of the grid. -/
theorem index4 : ∀ t : Fin cfg4.N, win4_0.index t = ![(grid4.coords t 0).val * 8 + (grid4.coords t 1).val, 0, 0]
    ∧ win4_1.index t = ![(grid4.coords t 0).val, (grid4.coords t 1).val, 0]
    ∧ win4_2.index t = ![(grid4.coords t 0).val, (grid4.coords t 1).val, 0]
    ∧ win4_3.index t = ![0, 0]
    ∧ win4_4.index t = ![0, 0]
    ∧ win4_5.index t = ![0, 0]
    ∧ win4_6.index t = ![0, 0]
    ∧ win4_7.index t = ![(grid4.coords t 0).val, (grid4.coords t 1).val, 0]
    ∧ win4_8.index t = ![0, 0]
    ∧ win4_9.index t = ![0, 0]
    ∧ win4_10.index t = ![0, 0]
    ∧ win4_11.index t = ![0, 0]
    ∧ win4_12.index t = ![0, 0]
    ∧ win4_13.index t = ![0, 0]
    ∧ win4_14.index t = ![(grid4.coords t 0).val, (grid4.coords t 1).val, 0] :=
  (by decide +kernel : ∀ t : Fin grid4.N, win4_0.index t = ![(grid4.coords t 0).val * 8 + (grid4.coords t 1).val, 0, 0]
    ∧ win4_1.index t = ![(grid4.coords t 0).val, (grid4.coords t 1).val, 0]
    ∧ win4_2.index t = ![(grid4.coords t 0).val, (grid4.coords t 1).val, 0]
    ∧ win4_3.index t = ![0, 0]
    ∧ win4_4.index t = ![0, 0]
    ∧ win4_5.index t = ![0, 0]
    ∧ win4_6.index t = ![0, 0]
    ∧ win4_7.index t = ![(grid4.coords t 0).val, (grid4.coords t 1).val, 0]
    ∧ win4_8.index t = ![0, 0]
    ∧ win4_9.index t = ![0, 0]
    ∧ win4_10.index t = ![0, 0]
    ∧ win4_11.index t = ![0, 0]
    ∧ win4_12.index t = ![0, 0]
    ∧ win4_13.index t = ![0, 0]
    ∧ win4_14.index t = ![(grid4.coords t 0).val, (grid4.coords t 1).val, 0])

section Reads
variable (c : Dev nD) (t : Fin cfg4.N)

theorem place4_0 (i : Fin 256) (j : Fin 16) (k : Fin 128) :
    ((win4_0.blk t).view.emb (ix3 i j k) : S16384x16x128.Idx) = ix3 (num (grid4.coords t 0) (pos (grid4.coords t 1) i)) j k := by
  have h := (index4 t).1
  blk_ext [num, pos, h]
  show ((grid4.coords t 0).val * 8 + (grid4.coords t 1).val) * 256 + i.val = (grid4.coords t 0).val * 2048 + ((grid4.coords t 1).val * 256 + i.val)
  omega
theorem read4_0 (i : Fin 256) (j : Fin 16) (k : Fin 128) : R4.iblk V c 0 t (ix3 i j k) = V c main_v20 (ix3 (num (grid4.coords t 0) (pos (grid4.coords t 1) i)) j k) :=
  congrArg (V c main_v20) (place4_0 t i j k)

theorem place4_1 (u : Fin 1) (i : Fin 256) (k : Fin 128) :
    ((win4_1.blk t).view.emb (ix3 u i k) : S8x2048x128.Idx) = ix3 (grid4.coords t 0) (pos (grid4.coords t 1) i) k := by
  have h := (index4 t).2.1
  blk_ext [num, pos, h]
theorem read4_1 (u : Fin 1) (i : Fin 256) (k : Fin 128) : R4.iblk V c 1 t (ix3 u i k) = V c main_v15 (ix3 (grid4.coords t 0) (pos (grid4.coords t 1) i) k) :=
  congrArg (V c main_v15) (place4_1 t u i k)

theorem place4_2 (u : Fin 1) (i : Fin 256) (k : Fin 128) :
    ((win4_2.blk t).view.emb (ix3 u i k) : S8x2048x128.Idx) = ix3 (grid4.coords t 0) (pos (grid4.coords t 1) i) k := by
  have h := (index4 t).2.2.1
  blk_ext [num, pos, h]
theorem read4_2 (u : Fin 1) (i : Fin 256) (k : Fin 128) : R4.iblk V c 2 t (ix3 u i k) = V c main_v16_1 (ix3 (grid4.coords t 0) (pos (grid4.coords t 1) i) k) :=
  congrArg (V c main_v16_1) (place4_2 t u i k)

theorem place4_3 (i : Fin 128) (k : Fin 128) :
    ((win4_3.blk t).view.emb (ix2 i k) : S128x128.Idx) = ix2 i k := by
  have h := (index4 t).2.2.2.1
  blk_ext [num, pos, h]
theorem read4_3 (i : Fin 128) (k : Fin 128) : R4.iblk V c 3 t (ix2 i k) = V c main_arg12 (ix2 i k) :=
  congrArg (V c main_arg12) (place4_3 t i k)

theorem place4_4 (i : Fin 1) (k : Fin 128) :
    ((win4_4.blk t).view.emb (ix2 i k) : S1x128.Idx) = ix2 i k := by
  have h := (index4 t).2.2.2.2.1
  blk_ext [num, pos, h]
theorem read4_4 (i : Fin 1) (k : Fin 128) : R4.iblk V c 4 t (ix2 i k) = V c main_v1 (ix2 i k) :=
  congrArg (V c main_v1) (place4_4 t i k)

theorem place4_5 (i : Fin 128) (k : Fin 128) :
    ((win4_5.blk t).view.emb (ix2 i k) : S128x128.Idx) = ix2 i k := by
  have h := (index4 t).2.2.2.2.2.1
  blk_ext [num, pos, h]
theorem read4_5 (i : Fin 128) (k : Fin 128) : R4.iblk V c 5 t (ix2 i k) = V c main_arg6 (ix2 i k) :=
  congrArg (V c main_arg6) (place4_5 t i k)

theorem place4_6 (i : Fin 128) (k : Fin 128) :
    ((win4_6.blk t).view.emb (ix2 i k) : S128x128.Idx) = ix2 i k := by
  have h := (index4 t).2.2.2.2.2.2.1
  blk_ext [num, pos, h]
theorem read4_6 (i : Fin 128) (k : Fin 128) : R4.iblk V c 6 t (ix2 i k) = V c main_arg7 (ix2 i k) :=
  congrArg (V c main_arg7) (place4_6 t i k)

theorem place4_7 (u : Fin 1) (i : Fin 256) (k : Fin 128) :
    ((win4_7.blk t).view.emb (ix3 u i k) : S8x2048x128.Idx) = ix3 (grid4.coords t 0) (pos (grid4.coords t 1) i) k := by
  have h := (index4 t).2.2.2.2.2.2.2.1
  blk_ext [num, pos, h]
theorem read4_7 (u : Fin 1) (i : Fin 256) (k : Fin 128) : R4.iblk V c 7 t (ix3 u i k) = V c main_arg1 (ix3 (grid4.coords t 0) (pos (grid4.coords t 1) i) k) :=
  congrArg (V c main_arg1) (place4_7 t u i k)

theorem place4_8 (i : Fin 128) (k : Fin 128) :
    ((win4_8.blk t).view.emb (ix2 i k) : S128x128.Idx) = ix2 i k := by
  have h := (index4 t).2.2.2.2.2.2.2.2.1
  blk_ext [num, pos, h]
theorem read4_8 (i : Fin 128) (k : Fin 128) : R4.iblk V c 8 t (ix2 i k) = V c main_arg8 (ix2 i k) :=
  congrArg (V c main_arg8) (place4_8 t i k)

theorem place4_9 (i : Fin 1) (k : Fin 128) :
    ((win4_9.blk t).view.emb (ix2 i k) : S1x128.Idx) = ix2 i k := by
  have h := (index4 t).2.2.2.2.2.2.2.2.2.1
  blk_ext [num, pos, h]
theorem read4_9 (i : Fin 1) (k : Fin 128) : R4.iblk V c 9 t (ix2 i k) = V c main_v2 (ix2 i k) :=
  congrArg (V c main_v2) (place4_9 t i k)

theorem place4_10 (i : Fin 1) (k : Fin 128) :
    ((win4_10.blk t).view.emb (ix2 i k) : S1x128.Idx) = ix2 i k := by
  have h := (index4 t).2.2.2.2.2.2.2.2.2.2.1
  blk_ext [num, pos, h]
theorem read4_10 (i : Fin 1) (k : Fin 128) : R4.iblk V c 10 t (ix2 i k) = V c main_v3 (ix2 i k) :=
  congrArg (V c main_v3) (place4_10 t i k)

theorem place4_11 (i : Fin 1) (k : Fin 128) :
    ((win4_11.blk t).view.emb (ix2 i k) : S1x128.Idx) = ix2 i k := by
  have h := (index4 t).2.2.2.2.2.2.2.2.2.2.2.1
  blk_ext [num, pos, h]
theorem read4_11 (i : Fin 1) (k : Fin 128) : R4.iblk V c 11 t (ix2 i k) = V c main_v4 (ix2 i k) :=
  congrArg (V c main_v4) (place4_11 t i k)

theorem place4_12 (i : Fin 1) (k : Fin 128) :
    ((win4_12.blk t).view.emb (ix2 i k) : S1x128.Idx) = ix2 i k := by
  have h := (index4 t).2.2.2.2.2.2.2.2.2.2.2.2.1
  blk_ext [num, pos, h]
theorem read4_12 (i : Fin 1) (k : Fin 128) : R4.iblk V c 12 t (ix2 i k) = V c main_v5 (ix2 i k) :=
  congrArg (V c main_v5) (place4_12 t i k)

theorem place4_13 (i : Fin 1) (k : Fin 128) :
    ((win4_13.blk t).view.emb (ix2 i k) : S1x128.Idx) = ix2 i k := by
  have h := (index4 t).2.2.2.2.2.2.2.2.2.2.2.2.2.1
  blk_ext [num, pos, h]
theorem read4_13 (i : Fin 1) (k : Fin 128) : R4.iblk V c 13 t (ix2 i k) = V c main_v6 (ix2 i k) :=
  congrArg (V c main_v6) (place4_13 t i k)

theorem place4_14 (u : Fin 1) (i : Fin 256) (k : Fin 128) :
    ((win4_14.blk t).view.emb (ix3 u i k) : S8x2048x128.Idx) = ix3 (grid4.coords t 0) (pos (grid4.coords t 1) i) k := by
  have h := (index4 t).2.2.2.2.2.2.2.2.2.2.2.2.2.2
  blk_ext [num, pos, h]

end Reads

/-- What the call's result array holds: the closing block of each point's features and of the attention of its query over
    the sixteen rows gathered for it. -/
def attn2 (c : Dev nD) (b : Fin 8) (p : Fin 2048) (o : Fin 128) : EReal :=
  close (fun k => V c main_arg1 (ix3 b p k))
    (attend (fun k => V c main_v16_1 (ix3 b p k))
      (fun j => token (mat (m := 128) (n := 128) (V c main_arg12)) (fun k => V c main_v1 (ix2 0 k)) (fun k => V c main_v15 (ix3 b p k))
        (fun k => V c main_v20 (ix3 (num b p) j k)) (fun k => V c main_v20 (ix3 (num b p) j k)))
      (mat (m := 128) (n := 128) (V c main_arg6)) (mat (m := 128) (n := 128) (V c main_arg7)))
    (fun k => V c main_v3 (ix2 0 k)) (fun k => V c main_v4 (ix2 0 k)) (mat (m := 128) (n := 128) (V c main_arg8)) (fun k => V c main_v2 (ix2 0 k))
    (fun k => V c main_v5 (ix2 0 k)) (fun k => V c main_v6 (ix2 0 k)) o

theorem final4 (c : Dev nD) : (R4.dat V c).arrAt 14 cfg4.N = arr (attn2 V c) := by
  refine (R4.dat V c).arrAt_eq_of_covers 14 _ (by decide +kernel) fun t hf y => ?_
  obtain ⟨u, i, k, rfl⟩ : ∃ (u : Fin 1) (i : Fin 256) (k : Fin 128), y = ix3 u i k := ⟨y 0, y 1, y 2, eq_ix3 y⟩
  refine Eq.trans (b := R4.out_14 (R4.iblk V c 0 t) (R4.iblk V c 1 t) (R4.iblk V c 2 t) (R4.iblk V c 3 t) (R4.iblk V c 4 t) (R4.iblk V c 5 t) (R4.iblk V c 6 t)
    (R4.iblk V c 7 t) (R4.iblk V c 8 t) (R4.iblk V c 9 t) (R4.iblk V c 10 t) (R4.iblk V c 11 t) (R4.iblk V c 12 t) (R4.iblk V c 13 t) (ix3 u i k)) ?_
    (Eq.trans (b := arr (attn2 V c) (ix3 (grid4.coords t 0) (pos (grid4.coords t 1) i) k)) ?_ ?_)
  · rw [← R4.after_14]; rfl
  · rw [out_14_apply]
    simp only [read4_0, read4_1, read4_2, read4_4, read4_7, read4_9, read4_10, read4_11, read4_12, read4_13]
    have e3 : mat (m := 128) (n := 128) (R4.iblk V c 3 t) = mat (m := 128) (n := 128) (V c main_arg12) := funext fun o => funext fun k => read4_3 V c t o k
    have e5 : mat (m := 128) (n := 128) (R4.iblk V c 5 t) = mat (m := 128) (n := 128) (V c main_arg6) := funext fun o => funext fun k => read4_5 V c t o k
    have e6 : mat (m := 128) (n := 128) (R4.iblk V c 6 t) = mat (m := 128) (n := 128) (V c main_arg7) := funext fun o => funext fun k => read4_6 V c t o k
    have e8 : mat (m := 128) (n := 128) (R4.iblk V c 8 t) = mat (m := 128) (n := 128) (V c main_arg8) := funext fun o => funext fun k => read4_8 V c t o k
    rw [e3, e5, e6, e8]
    rfl
  · exact congrArg (arr (attn2 V c)) (place4_14 t u i k).symm

end Cert.Proof.Kernel

end
-- ==== Proof.Contents.lean ====
/-
  What the buffers hold, from the arguments: the gathered rows, the two attention layers, and the result.
-/
module

public import proofs.«01_k».proof.Proof.Lists
public import proofs.«01_k».proof.Proof.Rows
public import proofs.«01_k».proof.Proof.ArrayQueries
public import proofs.«01_k».proof.Proof.ArrayAttn2

@[expose] public section

noncomputable section

namespace Cert.Proof.Kernel

open Cert.Kernel Cert.Kernel.Gen
open Idealize.ShloMosaic hiding ix1 ix2 ix3 eq_ix3
open Idealize.ShloMosaic.ValueIdx Cert.Proof.Layout Cert.Proof.Spec
open TcCoe

variable (m : (ℓ : Loc nD τ sig) → Buf (Elt Ideal) ℓ) (d : Dev nD)

/-- The arguments, by their names in the statement. -/
abbrev src : Arr 3 := m (d, Proc.devRef .tc main_arg0)
abbrev tgt : Arr 128 := m (d, Proc.devRef .tc main_arg1)
abbrev wq0 : S128x128.Idx → EReal := m (d, Proc.devRef .tc main_arg2)
abbrev wk0 : S128x128.Idx → EReal := m (d, Proc.devRef .tc main_arg3)
abbrev wv0 : S128x128.Idx → EReal := m (d, Proc.devRef .tc main_arg4)
abbrev wq1 : S128x128.Idx → EReal := m (d, Proc.devRef .tc main_arg5)
abbrev wk1 : S128x128.Idx → EReal := m (d, Proc.devRef .tc main_arg6)
abbrev wv1 : S128x128.Idx → EReal := m (d, Proc.devRef .tc main_arg7)
abbrev wl : S128x128.Idx → EReal := m (d, Proc.devRef .tc main_arg8)
abbrev bl : S128.Idx → EReal := m (d, Proc.devRef .tc main_arg9)
abbrev wp0 : S128x3.Idx → EReal := m (d, Proc.devRef .tc main_arg10)
abbrev bp0 : S128.Idx → EReal := m (d, Proc.devRef .tc main_arg11)
abbrev wp1 : S128x128.Idx → EReal := m (d, Proc.devRef .tc main_arg12)
abbrev bp1 : S128.Idx → EReal := m (d, Proc.devRef .tc main_arg13)
abbrev g0 : S128.Idx → EReal := m (d, Proc.devRef .tc main_arg14)
abbrev b0 : S128.Idx → EReal := m (d, Proc.devRef .tc main_arg15)
abbrev g1 : S128.Idx → EReal := m (d, Proc.devRef .tc main_arg16)
abbrev b1 : S128.Idx → EReal := m (d, Proc.devRef .tc main_arg17)
abbrev idx1 : S8x2048x16.Idx → BitVec 32 := m (d, Proc.devRef .tc main_arg18)
abbrev idx2 : S8x2048x16.Idx → BitVec 32 := m (d, Proc.devRef .tc main_arg19)

/-! ## The small operands -/

theorem v0_apply (k : Fin 128) : (W₁ m d (Proc.devRef .tc main_v0) : S1x128.Idx → EReal) (ix2 0 k) = bp0 m d (ix1 k) := by
  have e : W₁ m d (Proc.devRef .tc main_v0) = shapeCast S1x128 (bp0 m d) shapeCasts_S128_S1x128 := by unfold W₁ opsA; after_results; rfl
  rw [e]; exact shapeCast_a_1a_apply _ _ 0 k
theorem v1_apply (k : Fin 128) : (W₁ m d (Proc.devRef .tc main_v1) : S1x128.Idx → EReal) (ix2 0 k) = bp1 m d (ix1 k) := by
  have e : W₁ m d (Proc.devRef .tc main_v1) = shapeCast S1x128 (bp1 m d) shapeCasts_S128_S1x128 := by unfold W₁ opsA; after_results; rfl
  rw [e]; exact shapeCast_a_1a_apply _ _ 0 k
theorem v2_apply (k : Fin 128) : (W₁ m d (Proc.devRef .tc main_v2) : S1x128.Idx → EReal) (ix2 0 k) = bl m d (ix1 k) := by
  have e : W₁ m d (Proc.devRef .tc main_v2) = shapeCast S1x128 (bl m d) shapeCasts_S128_S1x128 := by unfold W₁ opsA; after_results; rfl
  rw [e]; exact shapeCast_a_1a_apply _ _ 0 k
theorem v3_apply (k : Fin 128) : (W₁ m d (Proc.devRef .tc main_v3) : S1x128.Idx → EReal) (ix2 0 k) = g0 m d (ix1 k) := by
  have e : W₁ m d (Proc.devRef .tc main_v3) = shapeCast S1x128 (g0 m d) shapeCasts_S128_S1x128 := by unfold W₁ opsA; after_results; rfl
  rw [e]; exact shapeCast_a_1a_apply _ _ 0 k
theorem v4_apply (k : Fin 128) : (W₁ m d (Proc.devRef .tc main_v4) : S1x128.Idx → EReal) (ix2 0 k) = b0 m d (ix1 k) := by
  have e : W₁ m d (Proc.devRef .tc main_v4) = shapeCast S1x128 (b0 m d) shapeCasts_S128_S1x128 := by unfold W₁ opsA; after_results; rfl
  rw [e]; exact shapeCast_a_1a_apply _ _ 0 k
theorem v5_apply (k : Fin 128) : (W₁ m d (Proc.devRef .tc main_v5) : S1x128.Idx → EReal) (ix2 0 k) = g1 m d (ix1 k) := by
  have e : W₁ m d (Proc.devRef .tc main_v5) = shapeCast S1x128 (g1 m d) shapeCasts_S128_S1x128 := by unfold W₁ opsA; after_results; rfl
  rw [e]; exact shapeCast_a_1a_apply _ _ 0 k
theorem v6_apply (k : Fin 128) : (W₁ m d (Proc.devRef .tc main_v6) : S1x128.Idx → EReal) (ix2 0 k) = b1 m d (ix1 k) := by
  have e : W₁ m d (Proc.devRef .tc main_v6) = shapeCast S1x128 (b1 m d) shapeCasts_S128_S1x128 := by unfold W₁ opsA; after_results; rfl
  rw [e]; exact shapeCast_a_1a_apply _ _ 0 k

/-! ## The first layer -/

theorem tA_eq : tA m d = shapeCast S16384x128 (tgt m d) shapeCasts_S8x2048x128_S16384x128 := by
  unfold tA W₁ opsA; after_results; rfl

/-- The points widened by zeros. -/
abbrev wide : Arr 128 :=
  concatenate S8x2048x128 2 [⟨S8x2048x3, src m d⟩, ⟨S8x2048x125, broadcastInDim S8x2048x125 ![] bcast_S_S8x2048x125 (constant (F := Ideal) S_ .f32 0x00000000#32)⟩]
    concatenates_S8x2048x3_S8x2048x125_S8x2048x128_d2

theorem tB_eq : tB m d = shapeCast S16384x128 (wide m d) shapeCasts_S8x2048x128_S16384x128 := by
  unfold tB W₁ opsA; after_results; rfl

theorem v13_apply (b : Fin 8) (p : Fin 2048) (j : Fin 16) (k : Fin 128) :
    (W₃ m d (Proc.devRef .tc main_v13) : S16384x16x128.Idx → EReal) (ix3 (num b p) j k) = flat (tgt m d) (nbr (idx1 m d) b p j) k := by
  have e : W₃ m d (Proc.devRef .tc main_v13) = shapeCast S16384x16x128 (W₂ m d (Proc.devRef .tc main_v12_0) : S262144x128.Idx → EReal) shapeCasts_S262144x128_S16384x16x128 := by
    unfold W₃ opsB; after_results; rfl
  rw [e, W₂_v12_0, tA_eq, ix_eq]
  exact rows_apply (tgt m d) (idx1 m d) _ _ _ b p j k

theorem v14_apply (b : Fin 8) (p : Fin 2048) (j : Fin 16) (k : Fin 3) :
    (W₃ m d (Proc.devRef .tc main_v14) : S16384x16x128.Idx → EReal) (ix3 (num b p) j (k.castLE (by decide))) = flat (src m d) (nbr (idx1 m d) b p j) k := by
  have e : W₃ m d (Proc.devRef .tc main_v14) = shapeCast S16384x16x128 (W₂ m d (Proc.devRef .tc main_v12_1) : S262144x128.Idx → EReal) shapeCasts_S262144x128_S16384x16x128 := by
    unfold W₃ opsB; after_results; rfl
  rw [e, W₂_v12_1, tB_eq, ix_eq]
  exact (rows_apply (wide m d) (idx1 m d) _ _ _ b p j _).trans (wide_apply (src m d) _ _ _ k)

/-- The first layer's result, from the arguments. -/
abbrev out1 : Fin 8 → Fin 2048 → Fin 128 → EReal := layer (src m d) (tgt m d) (wq0 m d) (wk0 m d) (wv0 m d) (wp0 m d) (bp0 m d) (idx1 m d)

theorem v15_eq : (W₄ m d (Proc.devRef .tc main_v15) : Arr 128) = arr (out1 m d) := by
  refine ((R1.dat (fun c b => W₃ m c (Proc.devRef .tc b)) d).withArrays_arrAt sharedIn1 (W₃ m d) (fun w => R1.A_eq _ d w) 9).trans ?_
  refine (final1 (fun c b => W₃ m c (Proc.devRef .tc b)) d).trans (congrArg arr ?_)
  funext b p o
  have h0 : ∀ k : Fin 128, (W₃ m d (Proc.devRef .tc main_v0) : S1x128.Idx → EReal) (ix2 0 k) = bp0 m d (ix1 k) := fun k => by
    rw [W₃_keeps m d main_v0 (by decide), W₂_keeps m d main_v0 (by decide) (by decide)]; exact v0_apply m d k
  unfold attn1 out1 layer
  have h13 : ∀ (j : Fin 16) (k : Fin 128), (W₃ m d (Proc.devRef .tc main_v13) : S16384x16x128.Idx → EReal) (ix3 (num b p) j k)
      = flat (tgt m d) (nbr (idx1 m d) b p j) k := fun j k => v13_apply m d b p j k
  have h14 : ∀ (j : Fin 16) (k : Fin 3), (W₃ m d (Proc.devRef .tc main_v14) : S16384x16x128.Idx → EReal) (ix3 (num b p) j (k.castLE (by decide)))
      = flat (src m d) (nbr (idx1 m d) b p j) k := fun j k => v14_apply m d b p j k
  simp only [h0, h13, h14]
  rw [W₃_arg m d main_arg0 (by decide), W₃_arg m d main_arg1 (by decide), W₃_arg m d main_arg2 (by decide), W₃_arg m d main_arg3 (by decide),
    W₃_arg m d main_arg4 (by decide), W₃_arg m d main_arg10 (by decide)]

/-! ## The second layer -/

theorem v16_eq : (W₅ m d (Proc.devRef .tc main_v16_1) : Arr 128) = arr fun b p => lin (mat (wq1 m d)) (pt (arr (out1 m d)) b p) := by
  refine ((R2.dat (fun c b => W₄ m c (Proc.devRef .tc b)) d).withArrays_arrAt sharedIn2 (W₄ m d) (fun w => R2.A_eq _ d w) 4).trans ?_
  refine (final2 (fun c b => W₄ m c (Proc.devRef .tc b)) d).trans (congrArg arr ?_)
  funext b p o
  unfold queries
  dsimp only
  rw [v15_eq, W₄_arg m d main_arg5 (by decide)]

theorem v15_later : (W₅ m d (Proc.devRef .tc main_v15) : Arr 128) = arr (out1 m d) :=
  (W₅_keeps m d main_v15 (by decide) (by decide)).trans (v15_eq m d)

theorem tC_eq : tC m d = shapeCast S16384x128 (arr (out1 m d)) shapeCasts_S8x2048x128_S16384x128 := by
  rw [← v15_later]
  unfold tC W₆ opsC; after_results; rfl

theorem v20_apply (b : Fin 8) (p : Fin 2048) (j : Fin 16) (k : Fin 128) :
    (W₈ m d (Proc.devRef .tc main_v20) : S16384x16x128.Idx → EReal) (ix3 (num b p) j k) = flat (arr (out1 m d)) (nbr (idx2 m d) b p j) k := by
  have e : W₈ m d (Proc.devRef .tc main_v20) = shapeCast S16384x16x128 (W₇ m d (Proc.devRef .tc main_v19) : S262144x128.Idx → EReal) shapeCasts_S262144x128_S16384x16x128 := by
    unfold W₈ opsD; after_results; rfl
  rw [e, W₇_v19, tC_eq, iy_eq]
  exact rows_apply (arr (out1 m d)) (idx2 m d) _ _ _ b p j k

/-- From after the queries on, nothing but the second gather and its rows is written. -/
theorem W₈_later (b : Ref sig .tc) (h : b ∉ [main_v20]) (h' : b ≠ main_v19) (h'' : b ∉ [main_v17, main_v18]) :
    W₈ m d (Proc.devRef .tc b) = W₅ m d (Proc.devRef .tc b) :=
  (W₈_keeps m d b h).trans ((W₇_keeps m d b h').trans (W₆_keeps m d b h''))

/-- The small operands stay as they are laid out at the start. -/
theorem W₈_early (b : Ref sig .tc) (h : b ∉ [main_v20]) (h' : b ≠ main_v19) (h'' : b ∉ [main_v17, main_v18]) (h₁ : main_v16_0 ≠ b) (h₂ : main_v16_1 ≠ b)
    (h₃ : main_v15 ≠ b) (h₄ : b ∉ [main_v13, main_v14]) (h₅ : b ≠ main_v12_0) (h₆ : b ≠ main_v12_1) :
    W₈ m d (Proc.devRef .tc b) = W₁ m d (Proc.devRef .tc b) :=
  (W₈_later m d b h h' h'').trans ((W₅_keeps m d b h₁ h₂).trans ((W₄_keeps m d b h₃).trans ((W₃_keeps m d b h₄).trans (W₂_keeps m d b h₅ h₆))))

/-- The result, before its axes are exchanged. -/
abbrev result : Fin 2048 → Fin 8 → Fin 128 → EReal :=
  whole (src m d) (tgt m d) (wq0 m d) (wk0 m d) (wv0 m d) (wq1 m d) (wk1 m d) (wv1 m d) (wl m d) (bl m d) (wp0 m d) (bp0 m d) (wp1 m d) (bp1 m d)
    (g0 m d) (b0 m d) (g1 m d) (b1 m d) (idx1 m d) (idx2 m d)

theorem v21_eq : (W₉ m d (Proc.devRef .tc main_v21) : Arr 128) = arr fun b p => result m d p b := by
  refine ((R4.dat (fun c b => W₈ m c (Proc.devRef .tc b)) d).withArrays_arrAt sharedIn4 (W₈ m d) (fun w => R4.A_eq _ d w) 14).trans ?_
  refine (final4 (fun c b => W₈ m c (Proc.devRef .tc b)) d).trans (congrArg arr ?_)
  funext b p o
  have h1 : W₈ m d (Proc.devRef .tc main_v1) = W₁ m d (Proc.devRef .tc main_v1) := by apply W₈_early <;> decide
  have h2 : W₈ m d (Proc.devRef .tc main_v2) = W₁ m d (Proc.devRef .tc main_v2) := by apply W₈_early <;> decide
  have h3 : W₈ m d (Proc.devRef .tc main_v3) = W₁ m d (Proc.devRef .tc main_v3) := by apply W₈_early <;> decide
  have h4 : W₈ m d (Proc.devRef .tc main_v4) = W₁ m d (Proc.devRef .tc main_v4) := by apply W₈_early <;> decide
  have h5 : W₈ m d (Proc.devRef .tc main_v5) = W₁ m d (Proc.devRef .tc main_v5) := by apply W₈_early <;> decide
  have h6 : W₈ m d (Proc.devRef .tc main_v6) = W₁ m d (Proc.devRef .tc main_v6) := by apply W₈_early <;> decide
  have h15 : (W₈ m d (Proc.devRef .tc main_v15) : Arr 128) = arr (out1 m d) := (W₈_later m d main_v15 (by decide) (by decide) (by decide)).trans (v15_later m d)
  have h16 : (W₈ m d (Proc.devRef .tc main_v16_1) : Arr 128) = arr fun b p => lin (mat (wq1 m d)) (pt (arr (out1 m d)) b p) :=
    (W₈_later m d main_v16_1 (by decide) (by decide) (by decide)).trans (v16_eq m d)
  unfold attn2 result whole layer
  dsimp only
  rw [h1, h2, h3, h4, h5, h6, h15, h16]
  have e1 : ∀ k : Fin 128, (W₁ m d (Proc.devRef .tc main_v1) : S1x128.Idx → EReal) (ix2 0 k) = bp1 m d (ix1 k) := fun k => v1_apply m d k
  have e2 : ∀ k : Fin 128, (W₁ m d (Proc.devRef .tc main_v2) : S1x128.Idx → EReal) (ix2 0 k) = bl m d (ix1 k) := fun k => v2_apply m d k
  have e3 : ∀ k : Fin 128, (W₁ m d (Proc.devRef .tc main_v3) : S1x128.Idx → EReal) (ix2 0 k) = g0 m d (ix1 k) := fun k => v3_apply m d k
  have e4 : ∀ k : Fin 128, (W₁ m d (Proc.devRef .tc main_v4) : S1x128.Idx → EReal) (ix2 0 k) = b0 m d (ix1 k) := fun k => v4_apply m d k
  have e5 : ∀ k : Fin 128, (W₁ m d (Proc.devRef .tc main_v5) : S1x128.Idx → EReal) (ix2 0 k) = g1 m d (ix1 k) := fun k => v5_apply m d k
  have e6 : ∀ k : Fin 128, (W₁ m d (Proc.devRef .tc main_v6) : S1x128.Idx → EReal) (ix2 0 k) = b1 m d (ix1 k) := fun k => v6_apply m d k
  have e20 : ∀ (j : Fin 16) (k : Fin 128), (W₈ m d (Proc.devRef .tc main_v20) : S16384x16x128.Idx → EReal) (ix3 (num b p) j k)
      = flat (arr (out1 m d)) (nbr (idx2 m d) b p j) k := fun j k => v20_apply m d b p j k
  simp only [e1, e2, e3, e4, e5, e6, e20]
  rw [W₈_arg m d main_arg1 (by decide), W₈_arg m d main_arg12 (by decide), W₈_arg m d main_arg6 (by decide), W₈_arg m d main_arg7 (by decide),
    W₈_arg m d main_arg8 (by decide)]
  rfl

/-- The kernel's result, from the arguments. -/
theorem v22_eq : (W₁₀ m d (Proc.devRef .tc main_v22) : S2048x8x128.Idx → EReal) = fun y => result m d (y 0) (y 1) (y 2) := by
  have e : W₁₀ m d (Proc.devRef .tc main_v22) = transpose S2048x8x128 [1, 0, 2] (W₉ m d (Proc.devRef .tc main_v21) : Arr 128) transposes_S8x2048x128_S2048x8x128_1_0_2 := by
    unfold W₁₀ opsE; after_results
  rw [e, v21_eq]
  funext y
  obtain ⟨p, b, c, rfl⟩ : ∃ (p : Fin 2048) (b : Fin 8) (c : Fin 128), y = ix3 p b c := ⟨y 0, y 1, y 2, ValueIdx.eq_ix3 y⟩
  exact transpose_apply [1, 0, 2] _ _ (ix3 p b c) (ix3 b p c) fun a => by
    match a with
    | ⟨0, _⟩ => rfl
    | ⟨1, _⟩ => rfl
    | ⟨2, _⟩ => rfl

end Cert.Proof.Kernel

end
-- ==== Proof.RefGather.lean ====
/-
  jnp's row gather `x[idx]`, of `x : [N, C]` at an array of row numbers, one for each cloud, point and place, read at one
  element: a negative number is turned round, then the gather clamps; a number that names a row is left alone by both.
-/
module

public import proofs.«01_k».proof.Proof.Spec
public import Idealize.ShloMosaic.Lib.Pipeline.Value
public import Idealize.ShloMosaic.Lib.ValueIdx
public import Idealize.ShloMosaic.Lib.Tactic
public import proofs.«01_k».proof.Proof.Gen.ReferenceIdeal.Run

@[expose] public section

noncomputable section

namespace Cert.Proof.Reference

open Idealize.ShloMosaic Idealize.ShloMosaic.ValueIdx Cert.ReferenceIdeal Cert.ReferenceIdeal.Gen

section Gather
variable {α : Type} {N A B J C w : ℕ}

/-- The gather's dimension numbers. -/
abbrev rowDims (N A B J C : ℕ) (wf : GatherDims.WF ⟨2, ![N, C]⟩ ⟨4, ![A, B, J, 1]⟩ ⟨4, ![A, B, J, C]⟩ [3] [0] [] [0] [] 3 ![1, C]) :
    GatherDims ⟨2, ![N, C]⟩ ⟨4, ![A, B, J, 1]⟩ ⟨4, ![A, B, J, C]⟩ where
  offsetDims := [3]
  collapsedSliceDims := [0]
  operandBatchingDims := []
  startIndicesBatchingDims := []
  startIndexMap := [0]
  indexVectorDim := 3
  sliceSizes := ![1, C]
  wf := wf

/-- Element `(a, b, j, c)`: the row that the number at `(a, b, j)` names once it is clamped, at column `c`. -/
theorem rowGather_apply (hN : 0 < N) (wf : GatherDims.WF ⟨2, ![N, C]⟩ ⟨4, ![A, B, J, 1]⟩ ⟨4, ![A, B, J, C]⟩ [3] [0] [] [0] [] 3 ![1, C])
    (x : (⟨2, ![N, C]⟩ : Shape).Idx → α) (idx : IVec ⟨4, ![A, B, J, 1]⟩ w) (a : Fin A) (b : Fin B) (j : Fin J) (c : Fin C) :
    Host.gather (rowDims N A B J C wf) x idx (ix4 a b j c) = x (ix2 ⟨min (idx (ix4 a b j 0)).toInt.toNat (N - 1), by omega⟩ c) := by
  unfold Host.gather
  congr 1
  funext e
  refine Fin.ext ?_
  show (rowDims N A B J C wf).start (ix4 a b j c) idx e + (rowDims N A B J C wf).batchCoord (ix4 a b j c) e + (rowDims N A B J C wf).offCoord (ix4 a b j c) e = _
  have hb : (rowDims N A B J C wf).batchCoord (ix4 a b j c) e = 0 := GatherDims.batchCoord_eq_zero _ _ _ List.not_mem_nil
  rw [hb, Nat.add_zero]
  match e with
  | ⟨0, _⟩ =>
    have ho : (rowDims N A B J C wf).offCoord (ix4 a b j c) 0 = 0 :=
      GatherDims.offCoord_eq_zero _ _ _ fun h => ((GatherDims.mem_sKept _ _).mp h).1 (List.mem_singleton.mpr rfl)
    show (rowDims N A B J C wf).start (ix4 a b j c) idx 0 + (rowDims N A B J C wf).offCoord (ix4 a b j c) 0 = _
    rw [ho, Nat.add_zero]
    unfold GatherDims.start
    rw [dif_pos (show (0 : Fin 2) ∈ (rowDims N A B J C wf).startIndexMap from List.mem_singleton.mpr rfl)]
    have hsi : (rowDims N A B J C wf).siIdx (ix4 a b j c) ⟨List.idxOf (0 : Fin 2) (rowDims N A B J C wf).startIndexMap,
        List.idxOf_lt_length_iff.2 (List.mem_singleton.mpr rfl)⟩ = ix4 a b j 0 := by
      funext d; refine Fin.ext ?_
      match d with
      | ⟨0, _⟩ => rfl
      | ⟨1, _⟩ => rfl
      | ⟨2, _⟩ => rfl
      | ⟨3, _⟩ => rfl
    rw [hsi]
    rfl
  | ⟨1, _⟩ =>
    have hs : (rowDims N A B J C wf).start (ix4 a b j c) idx 1 = 0 := by
      unfold GatherDims.start
      rw [dif_neg (show (1 : Fin 2) ∉ (rowDims N A B J C wf).startIndexMap from fun h => absurd (congrArg Fin.val (List.mem_singleton.mp h)) Nat.one_ne_zero)]
    show (rowDims N A B J C wf).start (ix4 a b j c) idx 1 + (rowDims N A B J C wf).offCoord (ix4 a b j c) 1 = _
    rw [hs, Nat.zero_add]
    rfl

end Gather

/-- A word that names a row is non-negative, so that it is not turned round, and is its own value after the clamp. -/
theorem toInt_small (v : BitVec 32) (h : v.toNat < 16384) : ¬ v.toInt < 0 ∧ min v.toInt.toNat (16384 - 1) = v.toNat := by
  have e : v.toInt = v.toNat := by rw [BitVec.toInt_eq_toNat_cond, if_pos (by omega)]
  omega

/-- The numbers that the gather is given: a negative one turned round, a unit axis last. -/
abbrev turned (idx : S8x2048x16.Idx → BitVec 32) : S8x2048x16x1.Idx → BitVec 32 :=
  broadcastInDim S8x2048x16x1 ![0, 1, 2] Facts₀.bcast_S8x2048x16_S8x2048x16x1_0_1_2
    (select (cmpi .slt idx (broadcastInDim S8x2048x16 ![] Facts₀.bcast_S_S8x2048x16 (constantI S_ 32 0#32)))
      (addi idx (broadcastInDim S8x2048x16 ![] Facts₀.bcast_S_S8x2048x16 (constantI S_ 32 16384#32))) idx)

/-- A number that is not negative stays as it is. -/
theorem turned_apply (idx : S8x2048x16.Idx → BitVec 32) (b : Fin 8) (p : Fin 2048) (j : Fin 16) (h : ¬ (idx (ix3 b p j)).toInt < 0) :
    turned idx (ix4 b p j 0) = idx (ix3 b p j) := by
  have e : IntOp.cmpi .slt (idx (ix3 b p j)) 0#32 = 0#1 := by
    simp only [IntOp.cmpi, BitVec.slt_eq_decide]
    rw [show decide ((idx (ix3 b p j)).toInt < (0#32 : BitVec 32).toInt) = false from decide_eq_false h]; rfl
  have pick : ∀ v : BitVec 32, IntOp.cmpi .slt v 0#32 = 0#1 → (if IntOp.cmpi .slt v 0#32 = 1#1 then v + 16384#32 else v) = v := fun v hv =>
    if_neg fun he => absurd (hv.symm.trans he) (by decide)
  refine (broadcastInDim_apply _ _ _ (ix4 b p j 0) (ix3 b p j) fun k => ?_).trans (pick _ e)
  match k with
  | ⟨0, _⟩ => rfl
  | ⟨1, _⟩ => rfl
  | ⟨2, _⟩ => rfl

/-- The flat array's row `r`. -/
theorem flat_apply {C : ℕ} (x : Spec.Arr C) (h : (⟨3, ![8, 2048, C]⟩ : Shape).ShapeCasts ⟨2, ![16384, C]⟩) (r : Fin 16384) (c : Fin C) :
    shapeCast ⟨2, ![16384, C]⟩ x h (ix2 r c) = Spec.flat x r c :=
  shapeCast_apply x h _ _ (by
    rw [Shape.rowMajor_val_three, Shape.rowMajor_val_two]
    show (r.val / 2048 * 2048 + r.val % 2048) * C + c.val = r.val * C + c.val
    rw [Nat.div_add_mod'])

/-- The gathered rows, of numbers that name rows. -/
theorem gathered_apply {C : ℕ} (wf) (x : Spec.Arr C) (h : (⟨3, ![8, 2048, C]⟩ : Shape).ShapeCasts ⟨2, ![16384, C]⟩)
    (idx : S8x2048x16.Idx → BitVec 32) (hi : ∀ y, (idx y).toNat < 16384) (b : Fin 8) (p : Fin 2048) (j : Fin 16) (c : Fin C) :
    Host.gather (rowDims 16384 8 2048 16 C wf) (shapeCast ⟨2, ![16384, C]⟩ x h) (turned idx) (ix4 b p j c) = Spec.flat x (Spec.nbr idx b p j) c := by
  refine (rowGather_apply (by decide) wf _ _ b p j c).trans ((flat_apply x h _ c).trans ?_)
  congr 1
  refine Fin.ext ?_
  have hs := toInt_small _ (hi (ix3 b p j))
  show min (turned idx (ix4 b p j 0)).toInt.toNat (16384 - 1) = (idx (ix3 b p j)).toNat % 16384
  rw [turned_apply idx b p j hs.1, hs.2, Nat.mod_eq_of_lt (hi _)]

end Cert.Proof.Reference

end
-- ==== Proof.RefOps.lean ====
/-
  The host operations of the reference, each read at an index given by coordinates: products with a transposed matrix, the
  two batched products of the attention, repeated axes, and reductions over the last axis.
-/
module

public import proofs.«01_k».proof.Proof.Spec
public import Idealize.ShloMosaic.Lib.Pipeline.Value
public import Idealize.ShloMosaic.Lib.IdealHost
public import Idealize.ShloMosaic.Lib.ValueIdx
public import Idealize.ShloMosaic.Lib.ValueLayout

@[expose] public section

noncomputable section

namespace Cert.Proof.Reference

open Idealize.ShloMosaic Idealize.ShloMosaic.ValueIdx Cert.Proof.Spec

/-! ## Products -/

/-- The dimension numbers of a product of `[A, B, J, K]` by `[K, N]`. -/
abbrev dims4 {A B J K N : ℕ} (w : DotDims.WF ⟨4, ![A, B, J, K]⟩ ⟨2, ![K, N]⟩ ⟨4, ![A, B, J, N]⟩ [3] [0] [0, 1, 2] [1] [] []) :
    DotDims ⟨4, ![A, B, J, K]⟩ ⟨2, ![K, N]⟩ ⟨4, ![A, B, J, N]⟩ := ⟨[3], [0], [0, 1, 2], [1], [], [], w⟩

/-- The product of `[A, B, J, K]` by a transposed matrix. -/
theorem lin4_apply {A B J K N : ℕ} (w) (x : FVec Ideal ⟨4, ![A, B, J, K]⟩ .f32) (W : FVec Ideal ⟨2, ![N, K]⟩ .f32) (h)
    (a : Fin A) (b : Fin B) (j : Fin J) (c : Fin N) :
    Host.dotGeneral (dims4 w) none x (transpose ⟨2, ![K, N]⟩ [1, 0] W h) (ix4 a b j c) = lin (mat W) (fun k => x (ix4 a b j k)) c := by
  show FloatOps.dotGeneral _ none _ x _ (ix4 a b j c) = _
  rw [Ideal.dotGeneral_apply, ← Equiv.sum_comp (contrEquiv1 (dims4 w) K rfl rfl).symm]
  refine Finset.sum_congr rfl fun k _ => ?_
  have ck := contrEquiv1_symm_val (dims4 w) K rfl rfl k
  have l : (dims4 w).lhsIdx (ix4 a b j c) ((contrEquiv1 _ K rfl rfl).symm k) = ix4 a b j k := by
    funext ax; apply Fin.ext
    match ax with
    | ⟨0, _⟩ => simp [DotDims.lhsIdx]; rfl
    | ⟨1, _⟩ => simp [DotDims.lhsIdx]; rfl
    | ⟨2, _⟩ => simp [DotDims.lhsIdx]; rfl
    | ⟨3, _⟩ => simp [DotDims.lhsIdx]; exact ck
  have r : (dims4 w).rhsIdx (ix4 a b j c) ((contrEquiv1 _ K rfl rfl).symm k) = ix2 k c := by
    funext ax; apply Fin.ext
    match ax with
    | ⟨0, _⟩ => simp [DotDims.rhsIdx]; exact ck
    | ⟨1, _⟩ => simp [DotDims.rhsIdx]; rfl
  rw [l, r, transpose_ix2_apply]

/-- The dimension numbers of a product of `[A, B, K]` by `[K, N]`. -/
abbrev dims3 {A B K N : ℕ} (w : DotDims.WF ⟨3, ![A, B, K]⟩ ⟨2, ![K, N]⟩ ⟨3, ![A, B, N]⟩ [2] [0] [0, 1] [1] [] []) :
    DotDims ⟨3, ![A, B, K]⟩ ⟨2, ![K, N]⟩ ⟨3, ![A, B, N]⟩ := ⟨[2], [0], [0, 1], [1], [], [], w⟩

/-- The product of `[A, B, K]` by a transposed matrix. -/
theorem lin3_apply {A B K N : ℕ} (w) (x : FVec Ideal ⟨3, ![A, B, K]⟩ .f32) (W : FVec Ideal ⟨2, ![N, K]⟩ .f32) (h)
    (a : Fin A) (b : Fin B) (c : Fin N) :
    Host.dotGeneral (dims3 w) none x (transpose ⟨2, ![K, N]⟩ [1, 0] W h) (ix3 a b c) = lin (mat W) (fun k => x (ix3 a b k)) c := by
  show FloatOps.dotGeneral _ none _ x _ (ix3 a b c) = _
  rw [Ideal.dotGeneral_apply, ← Equiv.sum_comp (contrEquiv1 (dims3 w) K rfl rfl).symm]
  refine Finset.sum_congr rfl fun k _ => ?_
  have ck := contrEquiv1_symm_val (dims3 w) K rfl rfl k
  have l : (dims3 w).lhsIdx (ix3 a b c) ((contrEquiv1 _ K rfl rfl).symm k) = ix3 a b k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact ck
  have r : (dims3 w).rhsIdx (ix3 a b c) ((contrEquiv1 _ K rfl rfl).symm k) = ix2 k c := by
    funext ax; apply Fin.ext
    match ax with
    | ⟨0, _⟩ => simp [DotDims.rhsIdx]; exact ck
    | ⟨1, _⟩ => simp [DotDims.rhsIdx]; rfl
  rw [l, r, transpose_ix2_apply]

/-- The dimension numbers of the keys' product with the queries. -/
abbrev dimsLogit {A B D J : ℕ} (w : DotDims.WF ⟨4, ![A, B, D, J]⟩ ⟨3, ![A, B, D]⟩ ⟨3, ![A, B, J]⟩ [2] [2] [3] [] [0, 1] [0, 1]) :
    DotDims ⟨4, ![A, B, D, J]⟩ ⟨3, ![A, B, D]⟩ ⟨3, ![A, B, J]⟩ := ⟨[2], [2], [3], [], [0, 1], [0, 1], w⟩

/-- The transposed keys times the query, point by point. -/
theorem keyQuery_apply {A B D J : ℕ} (w) (km : FVec Ideal ⟨4, ![A, B, J, D]⟩ .f32) (q : FVec Ideal ⟨3, ![A, B, D]⟩ .f32) (h)
    (a : Fin A) (b : Fin B) (j : Fin J) :
    Host.dotGeneral (dimsLogit w) none (transpose ⟨4, ![A, B, D, J]⟩ [0, 1, 3, 2] km h) q (ix3 a b j) = ∑ d, km (ix4 a b j d) * q (ix3 a b d) := by
  show FloatOps.dotGeneral _ none _ _ q (ix3 a b j) = _
  rw [Ideal.dotGeneral_apply, ← Equiv.sum_comp (contrEquiv1 (dimsLogit w) D rfl rfl).symm]
  refine Finset.sum_congr rfl fun k _ => ?_
  have ck := contrEquiv1_symm_val (dimsLogit w) D rfl rfl k
  have l : (dimsLogit w).lhsIdx (ix3 a b j) ((contrEquiv1 _ D rfl rfl).symm k) = ix4 a b k j := by
    funext ax; apply Fin.ext
    match ax with
    | ⟨0, _⟩ => simp [DotDims.lhsIdx]; rfl
    | ⟨1, _⟩ => simp [DotDims.lhsIdx]; rfl
    | ⟨2, _⟩ => simp [DotDims.lhsIdx]; exact ck
    | ⟨3, _⟩ => simp [DotDims.lhsIdx]; rfl
  have r : (dimsLogit w).rhsIdx (ix3 a b j) ((contrEquiv1 _ D rfl rfl).symm k) = ix3 a b k := by
    funext ax; apply Fin.ext
    match ax with
    | ⟨0, _⟩ => simp [DotDims.rhsIdx]; rfl
    | ⟨1, _⟩ => simp [DotDims.rhsIdx]; rfl
    | ⟨2, _⟩ => simp [DotDims.rhsIdx]; exact ck
  rw [l, r]
  congr 1
  refine transpose_apply _ _ _ _ _ fun d => ?_
  match d with
  | ⟨0, _⟩ => rfl
  | ⟨1, _⟩ => rfl
  | ⟨2, _⟩ => rfl
  | ⟨3, _⟩ => rfl

/-- The dimension numbers of the weights' product with the values. -/
abbrev dimsMix {A B J D : ℕ} (w : DotDims.WF ⟨3, ![A, B, J]⟩ ⟨4, ![A, B, J, D]⟩ ⟨3, ![A, B, D]⟩ [2] [2] [] [3] [0, 1] [0, 1]) :
    DotDims ⟨3, ![A, B, J]⟩ ⟨4, ![A, B, J, D]⟩ ⟨3, ![A, B, D]⟩ := ⟨[2], [2], [], [3], [0, 1], [0, 1], w⟩

/-- The weighted sum of the values, point by point. -/
theorem mix_apply {A B D J : ℕ} (w) (at' : FVec Ideal ⟨3, ![A, B, J]⟩ .f32) (v : FVec Ideal ⟨4, ![A, B, J, D]⟩ .f32)
    (a : Fin A) (b : Fin B) (c : Fin D) :
    Host.dotGeneral (dimsMix w) none at' v (ix3 a b c) = ∑ j, v (ix4 a b j c) * at' (ix3 a b j) := by
  show FloatOps.dotGeneral _ none _ at' v (ix3 a b c) = _
  rw [Ideal.dotGeneral_apply, ← Equiv.sum_comp (contrEquiv1 (dimsMix w) J rfl rfl).symm]
  refine Finset.sum_congr rfl fun k _ => ?_
  have ck := contrEquiv1_symm_val (dimsMix w) J rfl rfl k
  have l : (dimsMix w).lhsIdx (ix3 a b c) ((contrEquiv1 _ J rfl rfl).symm k) = ix3 a b k := by
    funext ax; apply Fin.ext
    match ax with
    | ⟨0, _⟩ => simp [DotDims.lhsIdx]; rfl
    | ⟨1, _⟩ => simp [DotDims.lhsIdx]; rfl
    | ⟨2, _⟩ => simp [DotDims.lhsIdx]; exact ck
  have r : (dimsMix w).rhsIdx (ix3 a b c) ((contrEquiv1 _ J rfl rfl).symm k) = ix4 a b k c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact ck
    | ⟨3, _⟩ => simp [DotDims.rhsIdx]; rfl
  rw [l, r, mul_comm]

/-! ## Repeated axes -/

section Spread
variable {α : Type} {A B J C : ℕ}

theorem coord_of_one {n : ℕ} (i : Fin n) : i.val = if n = 1 then 0 else i.val := by split <;> omega

/-- One row per point repeated for every place. -/
theorem own_apply (x : (⟨3, ![A, B, C]⟩ : Shape).Idx → α) (h₁ : (⟨3, ![A, B, C]⟩ : Shape).BroadcastsInDim ⟨4, ![A, B, 1, C]⟩ ![0, 1, 3])
    (h₂ : (⟨4, ![A, B, 1, C]⟩ : Shape).BroadcastsInDim ⟨4, ![A, B, J, C]⟩ ![0, 1, 2, 3]) (a : Fin A) (b : Fin B) (j : Fin J) (c : Fin C) :
    broadcastInDim ⟨4, ![A, B, J, C]⟩ ![0, 1, 2, 3] h₂ (broadcastInDim ⟨4, ![A, B, 1, C]⟩ ![0, 1, 3] h₁ x) (ix4 a b j c) = x (ix3 a b c) := by
  refine (broadcastInDim_apply _ _ _ _ (ix4 a b 0 c) fun k => ?_).trans (broadcastInDim_apply _ _ _ _ _ fun k => ?_)
  · match k with
    | ⟨0, _⟩ => exact coord_of_one a
    | ⟨1, _⟩ => exact coord_of_one b
    | ⟨2, _⟩ => rfl
    | ⟨3, _⟩ => exact coord_of_one c
  · match k with
    | ⟨0, _⟩ => exact coord_of_one a
    | ⟨1, _⟩ => exact coord_of_one b
    | ⟨2, _⟩ => exact coord_of_one c

/-- A vector repeated for every cloud, point and place. -/
theorem bias4_apply (v : (⟨1, ![C]⟩ : Shape).Idx → α) (h₁ : (⟨1, ![C]⟩ : Shape).BroadcastsInDim ⟨4, ![1, 1, 1, C]⟩ ![3])
    (h₂ : (⟨4, ![1, 1, 1, C]⟩ : Shape).BroadcastsInDim ⟨4, ![A, B, J, C]⟩ ![0, 1, 2, 3]) (a : Fin A) (b : Fin B) (j : Fin J) (c : Fin C) :
    broadcastInDim ⟨4, ![A, B, J, C]⟩ ![0, 1, 2, 3] h₂ (broadcastInDim ⟨4, ![1, 1, 1, C]⟩ ![3] h₁ v) (ix4 a b j c) = v (ix1 c) := by
  refine (broadcastInDim_apply _ _ _ _ (ix4 0 0 0 c) fun k => ?_).trans (broadcastInDim_apply _ _ _ _ _ fun k => ?_)
  · match k with
    | ⟨0, _⟩ => rfl
    | ⟨1, _⟩ => rfl
    | ⟨2, _⟩ => rfl
    | ⟨3, _⟩ => exact coord_of_one c
  · match k with
    | ⟨0, _⟩ => exact coord_of_one c

/-- A vector repeated for every cloud and point. -/
theorem bias3_apply (v : (⟨1, ![C]⟩ : Shape).Idx → α) (h₁ : (⟨1, ![C]⟩ : Shape).BroadcastsInDim ⟨3, ![1, 1, C]⟩ ![2])
    (h₂ : (⟨3, ![1, 1, C]⟩ : Shape).BroadcastsInDim ⟨3, ![A, B, C]⟩ ![0, 1, 2]) (a : Fin A) (b : Fin B) (c : Fin C) :
    broadcastInDim ⟨3, ![A, B, C]⟩ ![0, 1, 2] h₂ (broadcastInDim ⟨3, ![1, 1, C]⟩ ![2] h₁ v) (ix3 a b c) = v (ix1 c) := by
  refine (broadcastInDim_apply _ _ _ _ (ix3 0 0 c) fun k => ?_).trans (broadcastInDim_apply _ _ _ _ _ fun k => ?_)
  · match k with
    | ⟨0, _⟩ => rfl
    | ⟨1, _⟩ => rfl
    | ⟨2, _⟩ => exact coord_of_one c
  · match k with
    | ⟨0, _⟩ => exact coord_of_one c

/-- One number per point, its axis put back. -/
theorem keep_apply (x : (⟨2, ![A, B]⟩ : Shape).Idx → α) (h₁ : (⟨2, ![A, B]⟩ : Shape).BroadcastsInDim ⟨3, ![A, B, 1]⟩ ![0, 1])
    (a : Fin A) (b : Fin B) : broadcastInDim ⟨3, ![A, B, 1]⟩ ![0, 1] h₁ x (ix3 a b 0) = x (ix2 a b) :=
  broadcastInDim_apply _ _ _ _ _ fun k => match k with
    | ⟨0, _⟩ => coord_of_one a
    | ⟨1, _⟩ => coord_of_one b

/-- One number per point repeated along the last axis. -/
theorem along_apply (x : (⟨3, ![A, B, 1]⟩ : Shape).Idx → α) (h₂ : (⟨3, ![A, B, 1]⟩ : Shape).BroadcastsInDim ⟨3, ![A, B, C]⟩ ![0, 1, 2])
    (a : Fin A) (b : Fin B) (c : Fin C) : broadcastInDim ⟨3, ![A, B, C]⟩ ![0, 1, 2] h₂ x (ix3 a b c) = x (ix3 a b 0) :=
  broadcastInDim_apply _ _ _ _ _ fun k => match k with
    | ⟨0, _⟩ => coord_of_one a
    | ⟨1, _⟩ => coord_of_one b
    | ⟨2, _⟩ => rfl

end Spread

/-! ## Reductions -/

section Reduce
variable {A B C : ℕ}

/-- The sum over the last axis, from zero. -/
theorem sumLast_apply (x : FVec Ideal ⟨3, ![A, B, C]⟩ .f32) (h' : (⟨3, ![A, B, C]⟩ : Shape).ReducesTo [2] ⟨2, ![A, B]⟩)
    (h : (⟨3, ![A, B, C]⟩ : Shape).Reduces [2] ⟨2, ![A, B]⟩) (hu : 0 < (⟨0, ![]⟩ : Shape).numel) (a : Fin A) (b : Fin B) :
    Host.reduceAdd x (constant ⟨0, ![]⟩ .f32 0x00000000#32) h' hu (ix2 a b) = ∑ c, x (ix3 a b c) := by
  refine (hostReduceAdd_apply _ _ _ _ _).trans ((Ideal.hostReduceAdd_single h' h _ _ _).trans ?_)
  rw [constant_apply, Ideal.ofBits_zero_f32, zero_add]
  refine Finset.sum_congr rfl fun c _ => congrArg x (funext fun d => Fin.ext ?_)
  match d with
  | ⟨0, _⟩ => rfl
  | ⟨1, _⟩ => rfl
  | ⟨2, _⟩ => rfl

/-- The largest over the last axis, from −∞. -/
theorem maxLast_apply (x : FVec Ideal ⟨3, ![A, B, 16]⟩ .f32) (h' : (⟨3, ![A, B, 16]⟩ : Shape).ReducesTo [2] ⟨2, ![A, B]⟩)
    (h : (⟨3, ![A, B, 16]⟩ : Shape).Reduces [2] ⟨2, ![A, B]⟩) (hu : 0 < (⟨0, ![]⟩ : Shape).numel) (a : Fin A) (b : Fin B) :
    Host.reduce (FloatOps.maximumf (F := Ideal) (φ := .f32)) x (constant ⟨0, ![]⟩ .f32 0xFF800000#32) h' hu (ix2 a b) = top fun c => x (ix3 a b c) := by
  refine (Host.reduce_eq_fold_single (FloatOps.maximumf (F := Ideal) (φ := .f32)) x _ h' h hu _).trans ?_
  unfold top
  refine congrArg (fun g => Finset.univ.fold max (Ideal.ofBits .f32 0xFF800000#32) g) (funext fun c => congrArg x (funext fun d => Fin.ext ?_))
  match d with
  | ⟨0, _⟩ => rfl
  | ⟨1, _⟩ => rfl
  | ⟨2, _⟩ => rfl

end Reduce

end Cert.Proof.Reference

end
-- ==== Proof.RefBlocks.lean ====
/-
  The two blocks that the reference is made of, as its operations on arrays, read at a point and a feature: the attention
  over the sixteen tokens, and layer normalisation.
-/
module

public import proofs.«01_k».proof.Proof.RefOps
public import proofs.«01_k».proof.Proof.Gen.ReferenceIdeal.Run

@[expose] public section

noncomputable section

namespace Cert.Proof.Reference

open Idealize.ShloMosaic Idealize.ShloMosaic.ValueIdx Cert.Proof.Spec Cert.ReferenceIdeal Cert.ReferenceIdeal.Gen

/-- The last axis of 16, and of 128, is what the reductions run over. -/
theorem reduces16 : S8x2048x16.Reduces [2] S8x2048 := by decide
theorem reduces128 : S8x2048x128.Reduces [2] S8x2048 := by decide

/-! ## The attention -/

/-- The scaled products of the keys with the queries, of the tokens `t` and the features `x`. -/
abbrev logitR (t : FVec Ideal S8x2048x16x128 .f32) (x : FVec Ideal S8x2048x128 .f32) (wk wq : FVec Ideal S128x128 .f32) : FVec Ideal S8x2048x16 .f32 :=
  Host.divf (Host.dotGeneral dot_S8x2048x128x16_S8x2048x128_S8x2048x16_2_2_3_n_01_01 none
      (transpose S8x2048x128x16 [0, 1, 3, 2] (Host.dotGeneral dot_S8x2048x16x128_S128x128_S8x2048x16x128_3_0_012_1_n_n none t
        (transpose S128x128 [1, 0] wk transposes_S128x128_S128x128_1_0)) transposes_S8x2048x16x128_S8x2048x128x16_0_1_3_2)
      (Host.dotGeneral dot_S8x2048x128_S128x128_S8x2048x128_2_0_01_1_n_n none x (transpose S128x128 [1, 0] wq transposes_S128x128_S128x128_1_0)))
    (broadcastInDim S8x2048x16 ![] bcast_S_S8x2048x16 (constant S_ .f32 0x413504F3#32))

theorem logitR_apply (t : FVec Ideal S8x2048x16x128 .f32) (x : FVec Ideal S8x2048x128 .f32) (wk wq : FVec Ideal S128x128 .f32)
    (b : Fin 8) (p : Fin 2048) (j : Fin 16) :
    logitR t x wk wq (ix3 b p j) = logit (lin (mat wq) (pt x b p)) (fun j k => t (ix4 b p j k)) (mat wk) j := by
  unfold logit
  refine (hostDivf_apply _ _ _).trans ?_
  refine congrArg₂ Ideal.div ?_ (broadcastInDim_scalar_apply _ _ _)
  refine (keyQuery_apply _ _ _ _ b p j).trans (Finset.sum_congr rfl fun d _ => ?_)
  exact congrArg₂ (· * ·) (lin4_apply _ t wk _ b p j d) (lin3_apply _ x wq _ b p d)

/-- The exponentials of the numbers less their largest. -/
abbrev expR (l : FVec Ideal S8x2048x16 .f32) : FVec Ideal S8x2048x16 .f32 :=
  Host.exp (subf l (broadcastInDim S8x2048x16 ![0, 1, 2] bcast_S8x2048x1_S8x2048x16_0_1_2 (broadcastInDim S8x2048x1 ![0, 1] bcast_S8x2048_S8x2048x1_0_1
    (maximumf (broadcastInDim S8x2048 ![] bcast_S_S8x2048 (constant S_ .f32 0xFF800000#32))
      (Host.reduce FloatOps.maximumf l (constant S_ .f32 0xFF800000#32) reducesTo_S8x2048x16_S8x2048_d2 h_S_)))))

theorem expR_apply (l : FVec Ideal S8x2048x16 .f32) (b : Fin 8) (p : Fin 2048) (j : Fin 16) :
    expR l (ix3 b p j) = Ideal.exp (l (ix3 b p j) - top fun i => l (ix3 b p i)) := by
  refine congrArg Ideal.exp ((subf_apply _ _ _).trans (congrArg (l (ix3 b p j) - ·) ?_))
  rw [along_apply, keep_apply, maximumf_apply, broadcastInDim_scalar_apply, maxLast_apply l _ reduces16]
  exact max_top _

/-- The weights, of the exponentials. -/
abbrev weightR (e : FVec Ideal S8x2048x16 .f32) : FVec Ideal S8x2048x16 .f32 :=
  Host.divf e (broadcastInDim S8x2048x16 ![0, 1, 2] bcast_S8x2048x1_S8x2048x16_0_1_2 (broadcastInDim S8x2048x1 ![0, 1] bcast_S8x2048_S8x2048x1_0_1
    (Host.reduceAdd e (constant S_ .f32 0x00000000#32) reducesTo_S8x2048x16_S8x2048_d2 h_S_)))

theorem weightR_apply (l : FVec Ideal S8x2048x16 .f32) (b : Fin 8) (p : Fin 2048) (j : Fin 16) :
    weightR (expR l) (ix3 b p j) = weight (fun i => l (ix3 b p i)) j := by
  refine (hostDivf_apply _ _ _).trans ?_
  rw [expR_apply, along_apply, keep_apply, sumLast_apply _ _ reduces16]
  exact congrArg (Ideal.div _) (Finset.sum_congr rfl fun i _ => expR_apply l b p i)

/-- The attention's result. -/
abbrev mixR (t : FVec Ideal S8x2048x16x128 .f32) (w : FVec Ideal S8x2048x16 .f32) (wv : FVec Ideal S128x128 .f32) : FVec Ideal S8x2048x128 .f32 :=
  Host.dotGeneral dot_S8x2048x16_S8x2048x16x128_S8x2048x128_2_2_n_3_01_01 none w
    (Host.dotGeneral dot_S8x2048x16x128_S128x128_S8x2048x16x128_3_0_012_1_n_n none t (transpose S128x128 [1, 0] wv transposes_S128x128_S128x128_1_0))

/-- The attention of every point over its tokens. -/
theorem attendR_apply (t : FVec Ideal S8x2048x16x128 .f32) (x : FVec Ideal S8x2048x128 .f32) (wk wq wv : FVec Ideal S128x128 .f32)
    (b : Fin 8) (p : Fin 2048) (c : Fin 128) :
    mixR t (weightR (expR (logitR t x wk wq))) wv (ix3 b p c)
      = attend (lin (mat wq) (pt x b p)) (fun j k => t (ix4 b p j k)) (mat wk) (mat wv) c := by
  refine (mix_apply _ _ _ b p c).trans (Finset.sum_congr rfl fun j _ => ?_)
  refine congrArg₂ (· * ·) (lin4_apply _ t wv _ b p j c) ((weightR_apply _ b p j).trans ?_)
  congr 1; funext i
  exact logitR_apply t x wk wq b p i

/-! ## Layer normalisation -/

/-- 128 and the number of terms that the variance is divided by are the same number, which is positive. -/
theorem count_eq : FloatOps.subf (F := Ideal) (φ := .f32) (Ideal.ofBits .f32 0x43000000#32) (FloatOps.sitofp (F := Ideal) .f32 (0#32 : BitVec 32)) = Ideal.ofBits .f32 0x43000000#32 := by
  show Ideal.ofBits .f32 0x43000000#32 - ((((0#32 : BitVec 32).toInt : ℝ)) : EReal) = _
  simp

theorem count_pos : (0 : EReal) < Ideal.ofBits .f32 0x43000000#32 := by
  rw [show Ideal.ofBits .f32 0x43000000#32 = ((128 : ℝ) : EReal) by simp [Ideal.ofBits, Ideal.ieee, -EReal.coe_mul]; norm_num]
  exact_mod_cast (by norm_num : (0 : ℝ) < 128)

/-- The features less their mean. -/
abbrev cenR (x : FVec Ideal S8x2048x128 .f32) : FVec Ideal S8x2048x128 .f32 :=
  subf x (broadcastInDim S8x2048x128 ![0, 1, 2] bcast_S8x2048x1_S8x2048x128_0_1_2 (Host.divf (broadcastInDim S8x2048x1 ![0, 1] bcast_S8x2048_S8x2048x1_0_1
    (Host.reduceAdd x (constant S_ .f32 0x00000000#32) reducesTo_S8x2048x128_S8x2048_d2 h_S_)) (broadcastInDim S8x2048x1 ![] bcast_S_S8x2048x1 (constant S_ .f32 0x43000000#32))))

theorem cenR_apply (x : FVec Ideal S8x2048x128 .f32) (b : Fin 8) (p : Fin 2048) (c : Fin 128) :
    cenR x (ix3 b p c) = x (ix3 b p c) - mean (pt x b p) := by
  refine (subf_apply _ _ _).trans (congrArg (x (ix3 b p c) - ·) ?_)
  rw [along_apply]
  refine (hostDivf_apply _ _ _).trans ?_
  rw [keep_apply, broadcastInDim_scalar_apply, sumLast_apply _ _ reduces128]
  rfl

/-- The number of terms that the variance is divided by. -/
abbrev countR : FVec Ideal S_ .f32 := subf (constant S_ .f32 0x43000000#32) (sitofp .f32 (constantI S_ 32 0#32))

/-- The square root of the variance and a little. -/
abbrev devR (x : FVec Ideal S8x2048x128 .f32) : FVec Ideal S8x2048x1 .f32 :=
  Host.sqrt (addf (select (broadcastInDim S8x2048x1 ![] bcast_S_S8x2048x1 (cmpf .ogt countR (constant S_ .f32 0x00000000#32)))
      (Host.divf (broadcastInDim S8x2048x1 ![0, 1] bcast_S8x2048_S8x2048x1_0_1
        (Host.reduceAdd (mulf (cenR x) (cenR x)) (constant S_ .f32 0x00000000#32) reducesTo_S8x2048x128_S8x2048_d2 h_S_))
        (broadcastInDim S8x2048x1 ![] bcast_S_S8x2048x1 countR))
      (broadcastInDim S8x2048x1 ![] bcast_S_S8x2048x1 (id (constant S_ .f32 0x7FC00000#32))))
    (broadcastInDim S8x2048x1 ![] bcast_S_S8x2048x1 (constant S_ .f32 0x3727C5AC#32)))

theorem positive_apply : cmpf .ogt countR (constant S_ .f32 0x00000000#32) ix0 = 1#1 := by
  show Ideal.cmp .ogt (FloatOps.subf (F := Ideal) (φ := .f32) (Ideal.ofBits .f32 0x43000000#32) (FloatOps.sitofp (F := Ideal) .f32 (0#32 : BitVec 32))) (Ideal.ofBits .f32 0x00000000#32) = 1#1
  rw [count_eq, Ideal.ofBits_zero_f32]
  simp [Ideal.cmp, count_pos]

theorem devR_apply (x : FVec Ideal S8x2048x128 .f32) (b : Fin 8) (p : Fin 2048) :
    devR x (ix3 b p 0) = Ideal.sqrt (mean (fun k => (x (ix3 b p k) - mean (pt x b p)) * (x (ix3 b p k) - mean (pt x b p))) + Ideal.ofBits .f32 0x3727C5AC#32) := by
  refine congrArg Ideal.sqrt ((addf_apply _ _ _).trans (congrArg₂ (· + ·) ?_ (broadcastInDim_scalar_apply _ _ _)))
  show (if broadcastInDim S8x2048x1 ![] bcast_S_S8x2048x1 (cmpf .ogt countR (constant S_ .f32 0x00000000#32)) (ix3 b p 0) = 1#1 then _ else _) = _
  rw [if_pos ((broadcastInDim_scalar_apply _ _ _).trans positive_apply)]
  refine (hostDivf_apply _ _ _).trans ?_
  rw [keep_apply, broadcastInDim_scalar_apply, sumLast_apply _ _ reduces128]
  refine congrArg₂ Ideal.div (Finset.sum_congr rfl fun k _ => ?_) count_eq
  rw [mulf_apply, cenR_apply]

/-- Layer normalisation of every point. -/
abbrev normR (x : FVec Ideal S8x2048x128 .f32) (g b : FVec Ideal S128 .f32) : FVec Ideal S8x2048x128 .f32 :=
  addf (mulf (Host.divf (cenR x) (broadcastInDim S8x2048x128 ![0, 1, 2] bcast_S8x2048x1_S8x2048x128_0_1_2 (devR x)))
      (broadcastInDim S8x2048x128 ![0, 1, 2] bcast_S1x1x128_S8x2048x128_0_1_2 (broadcastInDim S1x1x128 ![2] bcast_S128_S1x1x128_2 g)))
    (broadcastInDim S8x2048x128 ![0, 1, 2] bcast_S1x1x128_S8x2048x128_0_1_2 (broadcastInDim S1x1x128 ![2] bcast_S128_S1x1x128_2 b))

theorem normR_apply (x : FVec Ideal S8x2048x128 .f32) (g s : FVec Ideal S128 .f32) (b : Fin 8) (p : Fin 2048) (c : Fin 128) :
    normR x g s (ix3 b p c) = Spec.norm (vec g) (vec s) (pt x b p) c := by
  unfold Spec.norm
  refine (addf_apply _ _ _).trans (congrArg₂ (· + ·) ((mulf_apply _ _ _).trans (congrArg₂ (· * ·) ((hostDivf_apply _ _ _).trans ?_) (bias3_apply _ _ _ b p c))) (bias3_apply _ _ _ b p c))
  exact congrArg₂ Ideal.div (cenR_apply x b p c) ((along_apply _ _ b p c).trans (devR_apply x b p))

/-- The linear layer of every point, and the residual. -/
abbrev linearR (y x : FVec Ideal S8x2048x128 .f32) (w : FVec Ideal S128x128 .f32) (s : FVec Ideal S128 .f32) : FVec Ideal S8x2048x128 .f32 :=
  addf y (addf (Host.dotGeneral dot_S8x2048x128_S128x128_S8x2048x128_2_0_01_1_n_n none x (transpose S128x128 [1, 0] w transposes_S128x128_S128x128_1_0))
    (broadcastInDim S8x2048x128 ![0, 1, 2] bcast_S1x1x128_S8x2048x128_0_1_2 (broadcastInDim S1x1x128 ![2] bcast_S128_S1x1x128_2 s)))

theorem linearR_apply (y x : FVec Ideal S8x2048x128 .f32) (w : FVec Ideal S128x128 .f32) (s : FVec Ideal S128 .f32) (b : Fin 8) (p : Fin 2048) (c : Fin 128) :
    linearR y x w s (ix3 b p c) = pt y b p c + (lin (mat w) (pt x b p) c + vec s c) :=
  (addf_apply _ _ _).trans (congrArg (y (ix3 b p c) + ·) ((addf_apply _ _ _).trans
    (congrArg₂ (· + ·) (lin3_apply _ x w _ b p c) (bias3_apply _ _ _ b p c))))

end Cert.Proof.Reference

end
-- ==== Proof.RefValue.lean ====
/-
  What the reference computes: its two attention layers and its closing block are the specification's, of its own
  arguments, when the numbers of both neighbour lists name rows.
-/
module

public import proofs.«01_k».proof.Proof.RefGather
public import proofs.«01_k».proof.Proof.RefBlocks

@[expose] public section

noncomputable section

namespace Cert.Proof.Reference

open Idealize.ShloMosaic Idealize.ShloMosaic.TcCoe Idealize.ShloMosaic.ValueIdx Cert.Proof.Spec Cert.ReferenceIdeal Cert.ReferenceIdeal.Gen Cert.ReferenceIdeal.Value

variable (V : Valuation τ sig (Elt Ideal))

/-! ## The arguments -/

abbrev src : Arr 3 := V (Proc.devRef .tc main_arg0)
abbrev tgt : Arr 128 := V (Proc.devRef .tc main_arg1)
abbrev wq0 : S128x128.Idx → EReal := V (Proc.devRef .tc main_arg2)
abbrev wk0 : S128x128.Idx → EReal := V (Proc.devRef .tc main_arg3)
abbrev wv0 : S128x128.Idx → EReal := V (Proc.devRef .tc main_arg4)
abbrev wq1 : S128x128.Idx → EReal := V (Proc.devRef .tc main_arg5)
abbrev wk1 : S128x128.Idx → EReal := V (Proc.devRef .tc main_arg6)
abbrev wv1 : S128x128.Idx → EReal := V (Proc.devRef .tc main_arg7)
abbrev wl : S128x128.Idx → EReal := V (Proc.devRef .tc main_arg8)
abbrev bl : S128.Idx → EReal := V (Proc.devRef .tc main_arg9)
abbrev wp0 : S128x3.Idx → EReal := V (Proc.devRef .tc main_arg10)
abbrev bp0 : S128.Idx → EReal := V (Proc.devRef .tc main_arg11)
abbrev wp1 : S128x128.Idx → EReal := V (Proc.devRef .tc main_arg12)
abbrev bp1 : S128.Idx → EReal := V (Proc.devRef .tc main_arg13)
abbrev g0 : S128.Idx → EReal := V (Proc.devRef .tc main_arg14)
abbrev b0 : S128.Idx → EReal := V (Proc.devRef .tc main_arg15)
abbrev g1 : S128.Idx → EReal := V (Proc.devRef .tc main_arg16)
abbrev b1 : S128.Idx → EReal := V (Proc.devRef .tc main_arg17)
abbrev idx1 : S8x2048x16.Idx → BitVec 32 := V (Proc.devRef .tc main_arg18)
abbrev idx2 : S8x2048x16.Idx → BitVec 32 := V (Proc.devRef .tc main_arg19)

variable {V}
variable (h1 : ∀ y, (idx1 V y).toNat < 16384) (h2 : ∀ y, (idx2 V y).toNat < 16384)

/-- The numbers, in the gather's dimension numbers, of the two widths. -/
theorem gather3_apply (x : Arr 3) (idx : S8x2048x16.Idx → BitVec 32) (hi : ∀ y, (idx y).toNat < 16384) (b : Fin 8) (p : Fin 2048) (j : Fin 16) (c : Fin 3) :
    Host.gather gather_S16384x3_S8x2048x16x1_S8x2048x16x3_3_0_n_n_0_3_13 (shapeCast S16384x3 x shapeCasts_S8x2048x3_S16384x3) (turned idx) (ix4 b p j c)
      = flat x (nbr idx b p j) c := gathered_apply _ x _ idx hi b p j c

theorem gather128_apply (x : Arr 128) (idx : S8x2048x16.Idx → BitVec 32) (hi : ∀ y, (idx y).toNat < 16384) (b : Fin 8) (p : Fin 2048) (j : Fin 16) (c : Fin 128) :
    Host.gather gather_S16384x128_S8x2048x16x1_S8x2048x16x128_3_0_n_n_0_3_1128 (shapeCast S16384x128 x shapeCasts_S8x2048x128_S16384x128) (turned idx) (ix4 b p j c)
      = flat x (nbr idx b p j) c := gathered_apply _ x _ idx hi b p j c

/-! ## The first layer -/

include h1 in
/-- The first layer's tokens. -/
theorem v24_apply (b : Fin 8) (p : Fin 2048) (j : Fin 16) (c : Fin 128) :
    (res_main_v24 V : S8x2048x16x128.Idx → EReal) (ix4 b p j c)
      = token (mat (wp0 V)) (vec (bp0 V)) (pt (src V) b p) (flat (src V) (nbr (idx1 V) b p j)) (flat (tgt V) (nbr (idx1 V) b p j)) c := by
  unfold token
  refine (addf_apply _ _ _).trans (congrArg₂ (· + ·) ((addf_apply _ _ _).trans (congrArg₂ (· + ·) ((lin4_apply _ _ _ _ b p j c).trans ?_) (bias4_apply _ _ _ b p j c)))
    (gather128_apply (tgt V) (idx1 V) h1 b p j c))
  congr 1; funext k
  exact (subf_apply _ _ _).trans (congrArg₂ (· - ·) (own_apply (src V) _ _ b p j k) (gather3_apply (src V) (idx1 V) h1 b p j k))

include h1 in
/-- The first layer's result. -/
theorem v46_eq : (res_main_v46 V : S8x2048x128.Idx → EReal) = arr (layer (src V) (tgt V) (wq0 V) (wk0 V) (wv0 V) (wp0 V) (bp0 V) (idx1 V)) := by
  funext y
  rw [eq_ix3 y]
  refine (attendR_apply (res_main_v24 V) (tgt V) (wk0 V) (wq0 V) (wv0 V) (y 0) (y 1) (y 2)).trans ?_
  show _ = layer (src V) (tgt V) (wq0 V) (wk0 V) (wv0 V) (wp0 V) (bp0 V) (idx1 V) (y 0) (y 1) (y 2)
  unfold layer
  congr 1
  funext j k
  exact v24_apply h1 (y 0) (y 1) j k

/-! ## The second layer -/

/-- The first layer's result, which the second layer reads. -/
abbrev first (V : Valuation τ sig (Elt Ideal)) : Arr 128 := arr (layer (src V) (tgt V) (wq0 V) (wk0 V) (wv0 V) (wp0 V) (bp0 V) (idx1 V))

include h1 h2 in
theorem v54_apply (b : Fin 8) (p : Fin 2048) (j : Fin 16) (c : Fin 128) :
    (res_main_v54 V : S8x2048x16x128.Idx → EReal) (ix4 b p j c) = flat (first V) (nbr (idx2 V) b p j) c := by
  exact (gather128_apply (res_main_v46 V) (idx2 V) h2 b p j c).trans (congrArg (flat · _ c) (v46_eq h1))

include h1 h2 in
/-- The second layer's tokens. -/
theorem v63_apply (b : Fin 8) (p : Fin 2048) (j : Fin 16) (c : Fin 128) :
    (res_main_v63 V : S8x2048x16x128.Idx → EReal) (ix4 b p j c)
      = token (mat (wp1 V)) (vec (bp1 V)) (pt (first V) b p) (flat (first V) (nbr (idx2 V) b p j)) (flat (first V) (nbr (idx2 V) b p j)) c := by
  unfold token
  refine (addf_apply _ _ _).trans (congrArg₂ (· + ·) ((addf_apply _ _ _).trans (congrArg₂ (· + ·) ((lin4_apply _ _ _ _ b p j c).trans ?_) (bias4_apply _ _ _ b p j c)))
    (v54_apply h1 h2 b p j c))
  congr 1; funext k
  exact (subf_apply _ _ _).trans (congrArg₂ (· - ·) ((own_apply (res_main_v46 V) _ _ b p j k).trans (congrFun (v46_eq h1) _)) (v54_apply h1 h2 b p j k))

include h1 h2 in
/-- The features and the second layer's result, added. -/
theorem v86_apply (b : Fin 8) (p : Fin 2048) (c : Fin 128) :
    (res_main_v86 V : S8x2048x128.Idx → EReal) (ix3 b p c)
      = pt (tgt V) b p c + layer (first V) (first V) (wq1 V) (wk1 V) (wv1 V) (wp1 V) (bp1 V) (idx2 V) b p c := by
  refine (addf_apply _ _ _).trans (congrArg (pt (tgt V) b p c + ·) ?_)
  refine (attendR_apply (res_main_v63 V) (res_main_v46 V) (wk1 V) (wq1 V) (wv1 V) b p c).trans ?_
  unfold layer
  congr 1
  · rw [v46_eq h1]
  · funext j k
    exact v63_apply h1 h2 b p j k

/-! ## The closing block -/

include h1 h2 in
/-- The linear layer and its residual. -/
theorem v110_apply (b : Fin 8) (p : Fin 2048) (c : Fin 128) :
    (res_main_v110 V : S8x2048x128.Idx → EReal) (ix3 b p c)
      = pt (tgt V) b p c + (lin (mat (wl V)) (Spec.norm (vec (g0 V)) (vec (b0 V)) fun k => pt (tgt V) b p k
          + layer (first V) (first V) (wq1 V) (wk1 V) (wv1 V) (wp1 V) (bp1 V) (idx2 V) b p k) c + vec (bl V) c) := by
  refine (linearR_apply (tgt V) (normR (res_main_v86 V) (g0 V) (b0 V)) (wl V) (bl V) b p c).trans ?_
  congr 3
  funext k
  refine (normR_apply (res_main_v86 V) (g0 V) (b0 V) b p k).trans ?_
  congr 1
  funext i
  exact v86_apply h1 h2 b p i

include h1 h2 in
/-- The reference's result. -/
theorem result_eq : transpose S2048x8x128 [1, 0, 2] (normR (res_main_v110 V) (g1 V) (b1 V)) transposes_S8x2048x128_S2048x8x128_1_0_2
    = fun y => whole (src V) (tgt V) (wq0 V) (wk0 V) (wv0 V) (wq1 V) (wk1 V) (wv1 V) (wl V) (bl V) (wp0 V) (bp0 V) (wp1 V) (bp1 V)
        (g0 V) (b0 V) (g1 V) (b1 V) (idx1 V) (idx2 V) (y 0) (y 1) (y 2) := by
  funext y
  refine (transpose_apply _ _ _ y (ix3 (y 1) (y 0) (y 2)) fun d => ?_).trans ((normR_apply (res_main_v110 V) (g1 V) (b1 V) (y 1) (y 0) (y 2)).trans ?_)
  · match d with
    | ⟨0, _⟩ => rfl
    | ⟨1, _⟩ => rfl
    | ⟨2, _⟩ => rfl
  · unfold whole close
    congr 1
    funext k
    exact v110_apply h1 h2 (y 1) (y 0) k

end Cert.Proof.Reference

end
-- ==== Proof.Rank.lean ====
/-
  The places of the smallest numbers of a row, found one after another: each time the first place of the least number,
  after which the numbers up to it, in the order of number and then place, are put out of the way. In that order they are
  the first places of the row's stable sort.
-/
module

public import Idealize.ShloMosaic.Lib.SortPrefix
public import Mathlib.Data.EReal.Basic
public import Mathlib.Data.Prod.Lex
public import Mathlib.Data.Fintype.Lattice

@[expose] public section

noncomputable section

namespace Cert.Proof.Rank

open Idealize.ShloMosaic

variable {n : ℕ}

/-- One place comes before another: its number is smaller, or the numbers are equal and the place is. -/
def before (key : Fin n → EReal) (a b : Fin n) : Bool :=
  decide (key a < key b) || (decide (key a = key b) && decide (a < b))

theorem before_iff {key : Fin n → EReal} {a b : Fin n} : before key a b = true ↔ key a < key b ∨ (key a = key b ∧ a < b) := by
  simp [before]

/-- Of two places one comes before the other, and so on: the order is strict and total. -/
theorem before_total (key : Fin n → EReal) : StrictTotalBefore (before key) := by
  classical
  have h := StrictTotalBefore.of_key_then_position (fun a b : EReal => decide (a < b)) key (fun a => by simp)
    (fun a b c hab hbc => by simp only [decide_eq_true_eq] at *; exact hab.trans hbc)
    (fun a b => by simp only [decide_eq_true_eq]; exact lt_trichotomy a b)
  have e : before key = fun k k' : Fin n => decide (key k < key k') || (decide (key k = key k') && decide (k < k')) := by
    funext a b; rfl
  rw [e]
  convert h using 3

/-- A stable sort by the numbers alone is the sort by number and place. -/
theorem stableSort_key (key : Fin n → EReal) (l : List (Fin n)) (hl : l.Pairwise (· < ·)) :
    stableSort (fun a b => decide (key a < key b)) l = stableSort (before key) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have : decide (b < a) = false := by simp [hab.le]
    simp [before, this]

theorem sortedFrom_key (key : Fin n → EReal) : sortedFrom (fun a b => decide (key a < key b)) = sortedFrom (before key) := by
  funext k
  have e : sortPositions n (fun a b => decide (key a < key b)) = sortPositions n (before key) :=
    stableSort_key key _ (List.pairwise_lt_finRange n)
  unfold sortedFrom
  simp only [List.get_eq_getElem, Fin.val_cast, e]

section Places

variable [NeZero n]

theorem exists_first (w : Fin n → EReal) : ∃ q : Fin n, (∀ k, w q ≤ w k) ∧ ∀ k, w k = w q → q ≤ k := by
  obtain ⟨q, hq⟩ := Finite.exists_min (fun k : Fin n => toLex (w k, k))
  have h : ∀ k, w q < w k ∨ (w q = w k ∧ q ≤ k) := fun k => by
    have := Prod.Lex.toLex_le_toLex.mp (hq k)
    simpa using this
  exact ⟨q, fun k => (h k).elim le_of_lt fun e => e.1.le, fun k e => (h k).elim (fun l => absurd e l.ne') fun l => l.2⟩

/-- The first place of the least number. -/
def first (w : Fin n → EReal) : Fin n := (exists_first w).choose

theorem first_le (w : Fin n → EReal) (k : Fin n) : w (first w) ≤ w k := (exists_first w).choose_spec.1 k
theorem first_first (w : Fin n → EReal) {k : Fin n} (h : w k = w (first w)) : first w ≤ k := (exists_first w).choose_spec.2 k h

/-- A place with these two properties is it. -/
theorem eq_first {w : Fin n → EReal} {q : Fin n} (h : ∀ k, w q ≤ w k) (h' : ∀ k, w k = w q → q ≤ k) : q = first w := by
  have e : w (first w) = w q := le_antisymm (first_le w q) (h _)
  exact le_antisymm (h' _ e) (first_first w e.symm)

/-- The numbers after the place `q` whose number is `m`, and `⊤` elsewhere. -/
def later (key : Fin n → EReal) (m : EReal) (q k : Fin n) : EReal :=
  if m < key k ∨ (key k = m ∧ q < k) then key k else ⊤

/-- What is left of the row after so many picks. -/
def left (key : Fin n → EReal) : ℕ → Fin n → EReal
  | 0 => key
  | t + 1 => later key (left key t (first (left key t))) (first (left key t))

/-- The place that is picked then. -/
def place (key : Fin n → EReal) (t : ℕ) : Fin n := first (left key t)

variable {key : Fin n → EReal}

theorem left_succ {t : ℕ} (h : left key t (place key t) = key (place key t)) (k : Fin n) :
    left key (t + 1) k = if before key (place key t) k = true then key k else ⊤ := by
  show later key (left key t (place key t)) (place key t) k = _
  rw [h]
  unfold later
  refine if_congr ?_ rfl rfl
  rw [before_iff, eq_comm (a := key k)]

/-- The picks go on in order, and reach every place before any that is left. -/
theorem places (hkey : ∀ k, key k < ⊤) (t : ℕ) (ht : t < n) :
    left key t (place key t) = key (place key t)
      ∧ (∀ k, (∃ u, u ≤ t ∧ place key u = k) ∨ before key (place key t) k = true)
      ∧ ∀ u, u < t → before key (place key u) (place key t) = true := by
  induction t with
  | zero =>
    refine ⟨rfl, fun k => ?_, fun u hu => absurd hu (Nat.not_lt_zero u)⟩
    have h1 : key (place key 0) ≤ key k := first_le key k
    rcases h1.lt_or_eq with h | h
    · exact Or.inr (before_iff.mpr (Or.inl h))
    · have h2 : place key 0 ≤ k := first_first key h.symm
      rcases h2.lt_or_eq with h3 | h3
      · exact Or.inr (before_iff.mpr (Or.inr ⟨h, h3⟩))
      · exact Or.inl ⟨0, le_rfl, h3⟩
  | succ t ih =>
    obtain ⟨ha, hb, hc⟩ := ih (by omega)
    have hl := left_succ ha
    -- some place is left
    obtain ⟨k₀, hk₀⟩ : ∃ k, before key (place key t) k = true := by
      by_contra hno
      have hsub : (Finset.univ : Finset (Fin n)) ⊆ (Finset.range (t + 1)).image (place key) := fun k _ => by
        rcases hb k with ⟨u, hu, e⟩ | h
        · exact Finset.mem_image.mpr ⟨u, Finset.mem_range.mpr (by omega), e⟩
        · exact absurd ⟨k, h⟩ hno
      have h1 := Finset.card_le_card hsub
      have h2 := Finset.card_image_le (s := Finset.range (t + 1)) (f := place key)
      rw [Finset.card_univ, Fintype.card_fin] at h1
      rw [Finset.card_range] at h2
      omega
    have hlt : left key (t + 1) (place key (t + 1)) < ⊤ := by
      refine lt_of_le_of_lt (first_le _ k₀) ?_
      rw [hl, if_pos hk₀]; exact hkey k₀
    have hB : before key (place key t) (place key (t + 1)) = true := by
      by_contra hno
      rw [hl, if_neg hno] at hlt
      exact absurd hlt (lt_irrefl _)
    have ha' : left key (t + 1) (place key (t + 1)) = key (place key (t + 1)) := by rw [hl, if_pos hB]
    refine ⟨ha', fun k => ?_, fun u hu => ?_⟩
    · rcases hb k with ⟨u, hu, e⟩ | h
      · exact Or.inl ⟨u, by omega, e⟩
      · have hk : left key (t + 1) k = key k := by rw [hl, if_pos h]
        have h1 : left key (t + 1) (place key (t + 1)) ≤ left key (t + 1) k := first_le _ k
        rw [ha', hk] at h1
        rcases h1.lt_or_eq with h2 | h2
        · exact Or.inr (before_iff.mpr (Or.inl h2))
        · have h3 : place key (t + 1) ≤ k := first_first (left key (t + 1)) (by
            show left key (t + 1) k = left key (t + 1) (place key (t + 1))
            rw [hk, ha', h2])
          rcases h3.lt_or_eq with h4 | h4
          · exact Or.inr (before_iff.mpr (Or.inr ⟨h2, h4⟩))
          · exact Or.inl ⟨t + 1, le_rfl, h4⟩
    · rcases Nat.lt_succ_iff_lt_or_eq.mp hu with h | rfl
      · exact (before_total key).trans _ _ _ (hc u h) hB
      · exact hB

/-- The picks are the first places of the stable sort by the numbers. -/
theorem sortedFrom_eq_place (hkey : ∀ k, key k < ⊤) {m : ℕ} (hm : m ≤ n) (i : Fin m) :
    sortedFrom (fun a b => decide (key a < key b)) (i.castLE hm) = place key i := by
  rw [sortedFrom_key]
  have ho : ∀ i j : Fin m, i < j → before key (place key i) (place key j) = true := fun i j hij =>
    (places hkey j (j.isLt.trans_le hm)).2.2 i hij
  refine (before_total key).sortedFrom_eq_of_prefix hm (fun i : Fin m => place key i) (fun i j e => ?_)
    (fun i j hij => (before_total key).asymm _ _ (ho i j hij)) (fun i p hp => ?_) i
  · rcases lt_trichotomy i j with h | h | h
    · have := ho i j h; rw [show place key i = place key j from e, (before_total key).irrefl] at this; exact absurd this (by decide)
    · exact h
    · have := ho j i h; rw [show place key i = place key j from e, (before_total key).irrefl] at this; exact absurd this (by decide)
  · rcases (places hkey i (i.isLt.trans_le hm)).2.1 p with ⟨u, hu, e⟩ | h
    · exact absurd e (hp ⟨u, lt_of_le_of_lt hu i.isLt⟩)
    · exact (before_total key).asymm _ _ h

end Places

end Cert.Proof.Rank

end
-- ==== Proof.Pick.lean ====
/-
  The rounds of a search, over a block's 256 rows of 2048 numbers: in each the rows' least numbers, the first places that
  hold them, and what is left of the numbers after them. Read at a row, they are the row's picks.
-/
module

public import proofs.«01_k».proof.Proof.Rank
public import proofs.«01_k».proof.Proof.Spec
public import proofs.«01_k».proof.Proof.Layout
public import Idealize.ShloMosaic.Lib.MatmulPlain

@[expose] public section

noncomputable section

namespace Cert.Proof.Pick

open Idealize.ShloMosaic Idealize.ShloMosaic.ValueIdx Cert.Proof.Layout Cert.Proof.Spec Cert.Proof.Rank

abbrev SB : Shape := ⟨2, ![256, 2048]⟩
abbrev SR : Shape := ⟨1, ![256]⟩
abbrev SK : Shape := ⟨2, ![256, 1]⟩

theorem red : Shape.Reduces SB [1] SR := by decide
theorem cas : Shape.ShapeCasts SR SK := by decide
theorem bro : Shape.Broadcasts SK SB := by decide
theorem iot : SB.Iotas .tc 32 [1] := by decide

/-- The columns' numbers. -/
abbrev cols : IVec SB 32 := iota .tc SB 32 [1] iot

theorem cols_apply (i : Fin 256) (k : Fin 2048) : cols (ix2 i k) = BitVec.ofNat 32 k.val := by
  simp [cols, iota]

/-- The rows' least numbers. -/
abbrev colMin (w : FVec Ideal SB .f32) : FVec Ideal SK .f32 :=
  shapeCast SK (multiReduction .minimumf [1] SR w 0x7F800000#32 red (.inl rfl) rfl) cas

/-- The first columns that hold them. -/
abbrev colFirst (v : IVec SB 32) (w m : FVec Ideal SB .f32) : IVec SK 32 :=
  shapeCast SK (multiReductionI .minsi [1] SR (select (cmpf .ole w m) v (broadcast SB 2048#32)) 2147483647#32 red rfl) cas

/-- Where the numbers come after the picked ones. -/
abbrev alive (d : FVec Ideal SB .f32) (v : IVec SB 32) (m : FVec Ideal SK .f32) (j : IVec SK 32) : IVec SB 1 :=
  ori (cmpf .ogt d (broadcastTo SB m bro)) (andi (cmpf .oeq d (broadcastTo SB m bro)) (cmpi .sgt v (broadcastTo SB j bro)))

/-- The numbers that come after, and `+∞` elsewhere. -/
abbrev keep (d : FVec Ideal SB .f32) (a : IVec SB 1) : FVec Ideal SB .f32 :=
  select a d (broadcast SB (Scalar.ofBits (F := Ideal) .f32 0x7F800000#32))

/-- What is left after so many rounds. -/
def rest (d : FVec Ideal SB .f32) : ℕ → FVec Ideal SB .f32
  | 0 => d
  | t + 1 => keep d (alive d cols (colMin (rest d t)) (colFirst cols (rest d t) (broadcastTo SB (colMin (rest d t)) bro)))

/-- The columns picked then. -/
abbrev picked (d : FVec Ideal SB .f32) (t : ℕ) : IVec SK 32 :=
  colFirst cols (rest d t) (broadcastTo SB (colMin (rest d t)) bro)

/-- A row of a block. -/
abbrev rowOf (w : FVec Ideal SB .f32) (i : Fin 256) : Fin 2048 → EReal := fun k => w (ix2 i k)

theorem top_eq : Ideal.ofBits .f32 0x7F800000#32 = ⊤ := by simp [Ideal.ofBits, Ideal.ieee]

theorem min2_apply {a b : ℕ} (x : FVec Ideal ⟨2, ![a, b]⟩ .f32) (acc : BitVec 32) (h : Shape.Reduces ⟨2, ![a, b]⟩ [1] ⟨1, ![a]⟩)
    (hφ : FKind.Formats .f32) (hacc : acc = FKind.minimumf.neutral .f32 hφ) (i : Fin a) :
    multiReduction .minimumf [1] ⟨1, ![a]⟩ x acc h hφ hacc (ix1 i) = Finset.univ.fold min (Ideal.ofBits .f32 acc) (fun k : Fin b => x (ix2 i k)) := by
  rw [multiReduction_minimumf_eq_fold]
  refine (h.fold_filter_drop_single _ _ x (ix1 i)).trans ?_
  refine congrArg (Finset.fold min _ · _) (funext fun k => congrArg x (funext fun d => Fin.ext ?_))
  match d with | ⟨0, _⟩ => rfl | ⟨1, _⟩ => rfl

theorem minI2_apply {a b : ℕ} (x : IVec ⟨2, ![a, b]⟩ 32) (acc : BitVec 32) (h : Shape.Reduces ⟨2, ![a, b]⟩ [1] ⟨1, ![a]⟩)
    (hacc : acc = IKind.minsi.neutral) (i : Fin a) :
    multiReductionI .minsi [1] ⟨1, ![a]⟩ x acc h hacc (ix1 i) = Finset.univ.fold IntOp.minsi acc (fun k : Fin b => x (ix2 i k)) := by
  rw [multiReductionI_eq_fold]
  refine (h.fold_filter_drop_single _ _ x (ix1 i)).trans ?_
  refine congrArg (Finset.fold IntOp.minsi _ · _) (funext fun k => congrArg x (funext fun d => Fin.ext ?_))
  match d with | ⟨0, _⟩ => rfl | ⟨1, _⟩ => rfl

theorem colMin_apply (w : FVec Ideal SB .f32) (i : Fin 256) (u : Fin 1) :
    colMin w (ix2 i u) = rowOf w i (first (rowOf w i)) := by
  refine (shapeCast_a_a1_apply _ _ i u).trans ?_
  refine (min2_apply w _ _ _ _ i).trans ?_
  rw [top_eq]
  refine le_antisymm ?_ ?_
  · exact Finset.fold_min_le _ |>.mpr (Or.inr ⟨_, Finset.mem_univ _, le_rfl⟩)
  · exact (Finset.le_fold_min _).mpr ⟨le_top, fun k _ => first_le _ k⟩

theorem minsi_toInt (x y : BitVec 32) : (IntOp.minsi x y).toInt = min x.toInt y.toInt := by
  unfold IntOp.minsi
  by_cases h : x.slt y = true
  · rw [if_pos h]; rw [BitVec.slt_iff_toInt_lt] at h; omega
  · rw [if_neg h]; rw [BitVec.slt_iff_toInt_lt] at h; omega

theorem word_toInt {k : ℕ} (h : k ≤ 2048) : (BitVec.ofNat 32 k).toInt = k := by
  rw [BitVec.toInt_eq_toNat_of_lt] <;> rw [BitVec.toNat_ofNat] <;> omega

theorem le_iff (a b : EReal) : (FloatOps.cmpf (F := Ideal) (φ := .f32) .ole a b = 1) ↔ a ≤ b := by
  rw [Ideal.cmpf_def]; unfold Ideal.cmp
  by_cases h : a ≤ b <;> simp [h]

theorem colFirst_apply (w : FVec Ideal SB .f32) (i : Fin 256) (u : Fin 1) :
    colFirst cols w (broadcastTo SB (colMin w) bro) (ix2 i u) = BitVec.ofNat 32 (first (rowOf w i)).val := by
  refine (shapeCast_a_a1_apply _ _ i u).trans ?_
  refine (minI2_apply _ _ _ _ i).trans ?_
  have e : (fun k : Fin 2048 => select (cmpf .ole w (broadcastTo SB (colMin w) bro)) cols (broadcast SB 2048#32) (ix2 i k))
      = fun k : Fin 2048 => if rowOf w i k ≤ rowOf w i (first (rowOf w i)) then BitVec.ofNat 32 k.val else 2048#32 := by
    funext k
    show Scalar.select (FloatOps.cmpf .ole (w (ix2 i k)) (broadcastTo SB (colMin w) bro (ix2 i k))) (cols (ix2 i k)) 2048#32 = _
    rw [spreadCol_apply, colMin_apply, cols_apply]
    unfold Scalar.select
    exact if_congr (le_iff _ _) rfl rfl
  rw [e]
  apply BitVec.eq_of_toInt_eq
  rw [← Finset.fold_hom (op' := min) (m := BitVec.toInt) minsi_toInt]
  have hq := (first (rowOf w i)).isLt
  rw [word_toInt hq.le]
  refine le_antisymm ?_ ?_
  · refine (Finset.fold_min_le _).mpr (Or.inr ⟨first (rowOf w i), Finset.mem_univ _, ?_⟩)
    rw [if_pos le_rfl, word_toInt hq.le]
  · refine (Finset.le_fold_min _).mpr ⟨by rw [show (2147483647#32 : BitVec 32).toInt = 2147483647 from rfl]; omega, fun k _ => ?_⟩
    split
    · rename_i h
      have h2 : first (rowOf w i) ≤ k := first_first _ (le_antisymm h (first_le _ k))
      rw [word_toInt k.isLt.le]
      exact_mod_cast h2
    · rw [word_toInt le_rfl]; omega

theorem keep_alive_apply (d : FVec Ideal SB .f32) (m : FVec Ideal SK .f32) (j : IVec SK 32) (i : Fin 256) (k q : Fin 2048)
    (hj : j (ix2 i 0) = BitVec.ofNat 32 q.val) :
    keep d (alive d cols m j) (ix2 i k) = later (rowOf d i) (m (ix2 i 0)) q k := by
  show Scalar.select (IntOp.ori (FloatOps.cmpf .ogt (d (ix2 i k)) (broadcastTo SB m bro (ix2 i k)))
      (IntOp.andi (FloatOps.cmpf .oeq (d (ix2 i k)) (broadcastTo SB m bro (ix2 i k)))
        (IntOp.cmpi .sgt (cols (ix2 i k)) (broadcastTo SB j bro (ix2 i k))))) (d (ix2 i k)) (Ideal.ofBits .f32 0x7F800000#32) = _
  rw [spreadCol_apply, spreadCol_apply, hj, cols_apply, top_eq]
  unfold later Scalar.select
  refine if_congr ?_ rfl rfl
  have hs : (BitVec.ofNat 32 q.val).slt (BitVec.ofNat 32 k.val) = decide (q < k) := by
    rw [Bool.eq_iff_iff, BitVec.slt_iff_toInt_lt, word_toInt q.isLt.le, word_toInt k.isLt.le, decide_eq_true_eq]
    exact_mod_cast Iff.rfl
  rw [Ideal.cmpf_def, Ideal.cmpf_def]
  unfold Ideal.cmp IntOp.cmpi IntOp.ori IntOp.andi
  simp only [hs]
  by_cases h1 : m (ix2 i 0) < d (ix2 i k) <;> by_cases h2 : d (ix2 i k) = m (ix2 i 0) <;> by_cases h3 : q < k <;>
    simp [h1, h2, h3, rowOf]

/-- What is left of a row. -/
theorem rest_apply (d : FVec Ideal SB .f32) (i : Fin 256) (t : ℕ) : rowOf (rest d t) i = left (rowOf d i) t := by
  induction t with
  | zero => rfl
  | succ t ih =>
    funext k
    refine (keep_alive_apply d _ _ i k (first (rowOf (rest d t) i)) (colFirst_apply _ i 0)).trans ?_
    rw [colMin_apply, ih]
    rfl

/-- The picks of a row. -/
theorem picked_apply (d : FVec Ideal SB .f32) (t : ℕ) (i : Fin 256) (u : Fin 1) :
    picked d t (ix2 i u) = BitVec.ofNat 32 (place (rowOf d i) t).val := by
  refine (colFirst_apply _ i u).trans ?_
  rw [rest_apply]
  rfl

/-! ## The sixteen columns side by side -/

abbrev ST : Shape := ⟨2, ![256, 16]⟩

theorem ofFn_apply (f : Fin 16 → IVec SK 32) (xs : List ((s : Shape) × (s.Idx → BitVec 32)))
    (hx : xs = List.ofFn fun n : Fin 16 => (⟨SK, f n⟩ : (s : Shape) × (s.Idx → BitVec 32)))
    (h : Shape.Concatenates (xs.map (·.1)) ST 1) (i : Fin 256) (t : Fin 16) :
    concatenate ST 1 xs h (ix2 i t) = f t (ix2 i 0) := by
  subst hx
  exact concatenate_ofFn_unit_apply (t := ST) (s₁ := SK) 1 f h rfl rfl (ix2 i t) t rfl (ix2 i 0) fun b hb => by
    match b with
    | ⟨0, _⟩ => rfl
    | ⟨1, _⟩ => exact absurd rfl hb

/-- The picks of a block's rows, round by round. -/
abbrev pieces (d : FVec Ideal SB .f32) : List ((s : Shape) × (s.Idx → BitVec 32)) :=
  [⟨SK, picked d 0⟩, ⟨SK, picked d 1⟩, ⟨SK, picked d 2⟩, ⟨SK, picked d 3⟩, ⟨SK, picked d 4⟩, ⟨SK, picked d 5⟩,
    ⟨SK, picked d 6⟩, ⟨SK, picked d 7⟩, ⟨SK, picked d 8⟩, ⟨SK, picked d 9⟩, ⟨SK, picked d 10⟩, ⟨SK, picked d 11⟩, ⟨SK, picked d 12⟩,
    ⟨SK, picked d 13⟩, ⟨SK, picked d 14⟩, ⟨SK, picked d 15⟩]

theorem pieces_eq (d : FVec Ideal SB .f32) :
    pieces d = List.ofFn fun n : Fin 16 => (⟨SK, picked d n.val⟩ : (s : Shape) × (s.Idx → BitVec 32)) := rfl

theorem cat : Shape.Concatenates [SK, SK, SK, SK, SK, SK, SK, SK, SK, SK, SK, SK, SK, SK, SK, SK] ST 1 := by decide

/-- The lists of a block's rows. -/
abbrev lists (d : FVec Ideal SB .f32) : IVec ST 32 := concatenate ST 1 (pieces d) cat

theorem lists_apply (d : FVec Ideal SB .f32) (i : Fin 256) (t : Fin 16) :
    lists d (ix2 i t) = BitVec.ofNat 32 (place (rowOf d i) t.val).val :=
  (ofFn_apply (fun t => picked d t.val) (pieces d) (pieces_eq d) cat i t).trans (picked_apply d t.val i 0)

/-! ## The distances -/

/-- The squared distance of two points, as the search writes it. -/
def gap {K : ℕ} (a b : Fin K → EReal) : EReal :=
  max ((∑ c, a c * a c) + (∑ c, b c * b c) - Ideal.ofBits .f32 0x40000000#32 * ∑ c, a c * b c) 0

theorem two_eq : Ideal.ofBits .f32 0x40000000#32 = ((2 : ℝ) : EReal) := by
  simp [Ideal.ofBits, Ideal.ieee]
  rw [← EReal.coe_mul]; norm_num

/-- Between finite points it is finite. -/
theorem gap_lt_top {K : ℕ} {a b : Fin K → EReal} (ha : ∀ c, ∃ r : ℝ, a c = r) (hb : ∀ c, ∃ r : ℝ, b c = r) : gap a b < ⊤ := by
  choose f hf using ha
  choose g hg using hb
  have hs : ∀ u : Fin K → ℝ, (∑ c, ((u c : ℝ) : EReal)) = ((∑ c, u c : ℝ) : EReal) := fun u => by
    induction (Finset.univ : Finset (Fin K)) using Finset.induction_on with
    | empty => simp
    | insert c s hc ih => rw [Finset.sum_insert hc, Finset.sum_insert hc, ih, EReal.coe_add]
  unfold gap
  simp only [hf, hg, two_eq, ← EReal.coe_mul, hs, ← EReal.coe_add, ← EReal.coe_sub, max_lt_iff]
  exact ⟨EReal.coe_lt_top _, EReal.zero_lt_top⟩

theorem gap_nonneg {K : ℕ} (a b : Fin K → EReal) : 0 ≤ gap a b := le_max_right _ _

theorem flip_apply {α : Type} {n : ℕ} (x : (⟨2, ![n, 1]⟩ : Shape).Idx → α) (h : Shape.ShapeCasts ⟨2, ![n, 1]⟩ ⟨2, ![1, n]⟩) (u : Fin 1) (k : Fin n) :
    shapeCast ⟨2, ![1, n]⟩ x h (ix2 u k) = x (ix2 k 0) :=
  shapeCast_apply x h _ _ (by
    have hu : u.val = 0 := by omega
    rw [Shape.rowMajor_val_two, Shape.rowMajor_val_two]
    show k.val * 1 + 0 = u.val * n + k.val
    rw [hu]; omega)

section Apart

variable {K : ℕ}

/-- The distances of a block's points from the points of the cloud. -/
abbrev apart (x : FVec Ideal ⟨2, ![256, K]⟩ .f32) (y : FVec Ideal ⟨2, ![2048, K]⟩ .f32)
    (hx : Shape.Reduces ⟨2, ![256, K]⟩ [1] SR) (hy : Shape.Reduces ⟨2, ![2048, K]⟩ [1] ⟨1, ![2048]⟩)
    (c₁ : Shape.ShapeCasts ⟨1, ![2048]⟩ ⟨2, ![2048, 1]⟩) (c₂ : Shape.ShapeCasts ⟨2, ![2048, 1]⟩ ⟨2, ![1, 2048]⟩)
    (b : Shape.Broadcasts ⟨2, ![1, 2048]⟩ SB) : FVec Ideal SB .f32 :=
  maximumf (subf (addf
      (broadcastTo SB (shapeCast SK (multiReduction .add [1] SR (mulf x x) 0x00000000#32 hx (.inl rfl) rfl) cas) bro)
      (broadcastTo SB (shapeCast ⟨2, ![1, 2048]⟩ (shapeCast ⟨2, ![2048, 1]⟩
        (multiReduction .add [1] ⟨1, ![2048]⟩ (mulf y y) 0x00000000#32 hy (.inl rfl) rfl) c₁) c₂) b))
    (mulf (broadcast SB (Scalar.ofBits (F := Ideal) .f32 0x40000000#32))
      (FloatOps.matmul (DotDims.transposedRhs 256 K 2048) none x y (constant (F := Ideal) SB .f32 0x00000000#32))))
    (broadcast SB (Scalar.ofBits (F := Ideal) .f32 0x00000000#32))

theorem apart_apply (x : FVec Ideal ⟨2, ![256, K]⟩ .f32) (y : FVec Ideal ⟨2, ![2048, K]⟩ .f32) (hx hy c₁ c₂ b) (i : Fin 256) (k : Fin 2048) :
    apart x y hx hy c₁ c₂ b (ix2 i k) = gap (fun c => x (ix2 i c)) (fun c => y (ix2 k c)) := by
  refine (maximumf_apply _ _ _).trans ?_
  unfold gap
  refine congrArg₂ max ?_ Ideal.ofBits_zero_f32
  refine (subf_apply _ _ _).trans ?_
  refine congrArg₂ (· - ·) ?_ ?_
  · refine (addf_apply _ _ _).trans (congrArg₂ (· + ·) ?_ ?_)
    · rw [spreadCol_apply]
      refine (shapeCast_a_a1_apply _ _ i 0).trans ((sum2_apply _ _ _ _ _ i).trans ?_)
      rfl
    · refine (broadcastTo_1b_ab_apply _ _ i k).trans ((flip_apply _ _ 0 k).trans ?_)
      refine (shapeCast_a_a1_apply _ _ k 0).trans ((sum2_apply _ _ _ _ _ k).trans ?_)
      rfl
  · refine (mulf_apply _ _ _).trans (congrArg₂ (· * ·) rfl ?_)
    rw [Ideal.matmul_transposedRhs_apply, constant_apply, Ideal.ofBits_zero_f32, zero_add]

end Apart

end Cert.Proof.Pick

end
-- ==== Proof.Near.lean ====
/-
  What the references of the two searches compute, read at a point and a place of its list: all the distances of a cloud, their
  negated roots, and the first sixteen of the stable sort of each row, counted from the cloud's first row.
-/
module

public import proofs.«01_k».proof.Proof.RefOps
public import proofs.«01_k».proof.Proof.Pick

@[expose] public section

noncomputable section

namespace Cert.Proof.Near

open Idealize.ShloMosaic Idealize.ShloMosaic.ValueIdx Cert.Proof.Spec Cert.Proof.Reference Cert.Proof.Rank Cert.Proof.Pick

/-! ## The distances -/

/-- The dimension numbers of the products of a cloud's points with one another. -/
abbrev dimsPair {A B K : ℕ} (w : DotDims.WF ⟨3, ![A, B, K]⟩ ⟨3, ![A, B, K]⟩ ⟨3, ![A, B, B]⟩ [2] [2] [1] [1] [0] [0]) :
    DotDims ⟨3, ![A, B, K]⟩ ⟨3, ![A, B, K]⟩ ⟨3, ![A, B, B]⟩ := ⟨[2], [2], [1], [1], [0], [0], w⟩

theorem pair_apply {A B K : ℕ} (w) (x y : FVec Ideal ⟨3, ![A, B, K]⟩ .f32) (a : Fin A) (i k : Fin B) :
    Host.dotGeneral (dimsPair w) none x y (ix3 a i k) = ∑ c, x (ix3 a i c) * y (ix3 a k c) := by
  show FloatOps.dotGeneral _ none _ x y (ix3 a i k) = _
  rw [Ideal.dotGeneral_apply, ← Equiv.sum_comp (contrEquiv1 (dimsPair w) K rfl rfl).symm]
  refine Finset.sum_congr rfl fun c _ => ?_
  have ck := contrEquiv1_symm_val (dimsPair w) K rfl rfl c
  have l : (dimsPair w).lhsIdx (ix3 a i k) ((contrEquiv1 _ K rfl rfl).symm c) = ix3 a i c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact ck
  have r : (dimsPair w).rhsIdx (ix3 a i k) ((contrEquiv1 _ K rfl rfl).symm c) = ix3 a k c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact ck
  rw [l, r]

/-- One number per point, repeated down the columns. -/
theorem across_apply {α : Type} {A B C : ℕ} (x : (⟨2, ![A, C]⟩ : Shape).Idx → α) (h₁ : (⟨2, ![A, C]⟩ : Shape).BroadcastsInDim ⟨3, ![A, 1, C]⟩ ![0, 2])
    (h₂ : (⟨3, ![A, 1, C]⟩ : Shape).BroadcastsInDim ⟨3, ![A, B, C]⟩ ![0, 1, 2]) (a : Fin A) (b : Fin B) (c : Fin C) :
    broadcastInDim ⟨3, ![A, B, C]⟩ ![0, 1, 2] h₂ (broadcastInDim ⟨3, ![A, 1, C]⟩ ![0, 2] h₁ x) (ix3 a b c) = x (ix2 a c) := by
  refine (broadcastInDim_apply _ _ _ _ (ix3 a 0 c) fun k => ?_).trans (broadcastInDim_apply _ _ _ _ _ fun k => ?_)
  · match k with
    | ⟨0, _⟩ => exact coord_of_one a
    | ⟨1, _⟩ => rfl
    | ⟨2, _⟩ => exact coord_of_one c
  · match k with
    | ⟨0, _⟩ => exact coord_of_one a
    | ⟨1, _⟩ => exact coord_of_one c

abbrev SD : Shape := ⟨3, ![8, 2048, 2048]⟩
abbrev SL : Shape := ⟨3, ![8, 2048, 16]⟩
abbrev S0 : Shape := ⟨0, ![]⟩

section Dist

variable {K : ℕ} (x : FVec Ideal ⟨3, ![8, 2048, K]⟩ .f32)
  (w : DotDims.WF ⟨3, ![8, 2048, K]⟩ ⟨3, ![8, 2048, K]⟩ SD [2] [2] [1] [1] [0] [0])
  (hr : (⟨3, ![8, 2048, K]⟩ : Shape).ReducesTo [2] ⟨2, ![8, 2048]⟩) (hr' : (⟨3, ![8, 2048, K]⟩ : Shape).Reduces [2] ⟨2, ![8, 2048]⟩)
  (hu : 0 < S0.numel)
  (h₁ : (⟨2, ![8, 2048]⟩ : Shape).BroadcastsInDim ⟨3, ![8, 2048, 1]⟩ ![0, 1]) (h₂ : (⟨3, ![8, 2048, 1]⟩ : Shape).BroadcastsInDim SD ![0, 1, 2])
  (h₃ : (⟨2, ![8, 2048]⟩ : Shape).BroadcastsInDim ⟨3, ![8, 1, 2048]⟩ ![0, 2]) (h₄ : (⟨3, ![8, 1, 2048]⟩ : Shape).BroadcastsInDim SD ![0, 1, 2])
  (h₅ : S0.BroadcastsInDim SD ![])

/-- All squared distances. -/
abbrev gaps : FVec Ideal SD .f32 :=
  maximumf (subf (addf
      (broadcastInDim SD ![0, 1, 2] h₂ (broadcastInDim ⟨3, ![8, 2048, 1]⟩ ![0, 1] h₁ (Host.reduceAdd (mulf x x) (constant S0 .f32 0x00000000#32) hr hu)))
      (broadcastInDim SD ![0, 1, 2] h₄ (broadcastInDim ⟨3, ![8, 1, 2048]⟩ ![0, 2] h₃ (Host.reduceAdd (mulf x x) (constant S0 .f32 0x00000000#32) hr hu))))
      (mulf (broadcastInDim SD ![] h₅ (constant S0 .f32 0x40000000#32)) (Host.dotGeneral (dimsPair w) none x x)))
    (broadcastInDim SD ![] h₅ (constant S0 .f32 0x00000000#32))

include hr' in
theorem gaps_apply (b : Fin 8) (i k : Fin 2048) :
    gaps x w hr hu h₁ h₂ h₃ h₄ h₅ (ix3 b i k) = gap (fun c => x (ix3 b i c)) (fun c => x (ix3 b k c)) := by
  refine (maximumf_apply _ _ _).trans ?_
  unfold gap
  refine congrArg₂ max ?_ Ideal.ofBits_zero_f32
  refine (subf_apply _ _ _).trans ?_
  refine congrArg₂ (· - ·) ?_ ?_
  · refine (addf_apply _ _ _).trans (congrArg₂ (· + ·) ?_ ?_)
    · exact ((along_apply _ _ b i k).trans (keep_apply _ _ b i)).trans (sumLast_apply _ hr hr' hu b i)
    · exact (across_apply _ _ _ b i k).trans (sumLast_apply _ hr hr' hu b k)
  · exact (mulf_apply _ _ _).trans (congrArg₂ (· * ·) rfl (pair_apply w x x b i k))

end Dist

/-! ## Roots keep the order -/

theorem sqrt_coe {r : ℝ} (h : 0 ≤ r) : Ideal.sqrt (r : EReal) = (Real.sqrt r : EReal) := by
  show (if r < 0 then ⊥ else (Real.sqrt r : EReal)) = _
  rw [if_neg (not_lt.mpr h)]

/-- The greater of two negated roots is that of the lesser number. -/
theorem neg_sqrt_lt {a b : EReal} (ha : 0 ≤ a) (ha' : a < ⊤) (hb : 0 ≤ b) (hb' : b < ⊤) : -Ideal.sqrt b < -Ideal.sqrt a ↔ a < b := by
  lift a to ℝ using ⟨ha'.ne, (lt_of_lt_of_le EReal.bot_lt_zero ha).ne'⟩
  lift b to ℝ using ⟨hb'.ne, (lt_of_lt_of_le EReal.bot_lt_zero hb).ne'⟩
  have ha0 : (0 : ℝ) ≤ a := by exact_mod_cast ha
  have hb0 : (0 : ℝ) ≤ b := by exact_mod_cast hb
  rw [sqrt_coe ha0, sqrt_coe hb0, EReal.neg_lt_neg_iff, EReal.coe_lt_coe_iff, EReal.coe_lt_coe_iff, Real.sqrt_lt_sqrt_iff ha0]

/-! ## The lists -/

/-- The positions of a stable sort's first few, as 32-bit words. -/
theorem topK_apply {A B C T : ℕ} (hT : T ≤ C) (v : FVec Ideal ⟨3, ![A, B, C]⟩ .f32)
    (h : (⟨3, ![A, B, C]⟩ : Shape).Slices (fun _ => 0) ⟨3, ![A, B, T]⟩) (b : Fin A) (i : Fin B) (t : Fin T) :
    (Host.topK ⟨3, ![A, B, T]⟩ 2 (FloatOps.cmpfTotal (F := Ideal) (φ := .f32) .gt) v h).2 (ix3 b i t)
      = BitVec.ofNat 32 (sortedFrom (fun k k' : Fin C => decide (v (ix3 b i k') < v (ix3 b i k))) (t.castLE hT)).val := by
  have hj : (fun a => ⟨0 + ((ix3 b i t : (⟨3, ![A, B, T]⟩ : Shape).Idx) (a.cast h.1.symm)).val,
      Nat.lt_of_lt_of_le (Nat.add_lt_add_left ((ix3 b i t : (⟨3, ![A, B, T]⟩ : Shape).Idx) _).isLt _) (h.2 a)⟩ : (⟨3, ![A, B, C]⟩ : Shape).Idx)
      = ix3 b i (t.castLE hT) := funext fun a => Fin.ext (by
    match a with
    | ⟨0, _⟩ => exact Nat.zero_add _
    | ⟨1, _⟩ => exact Nat.zero_add _
    | ⟨2, _⟩ => exact Nat.zero_add _)
  have ha : ∀ (k' k : Fin C), (ix3 b i k' : (⟨3, ![A, B, C]⟩ : Shape).Idx).along (2 : Fin 3) k = ix3 b i k := fun k' k => funext fun a => by
    unfold Shape.Idx.along
    match a with
    | ⟨0, _⟩ => rfl
    | ⟨1, _⟩ => rfl
    | ⟨2, _⟩ => rfl
  unfold Host.topK extractStridedSlice
  dsimp only
  rw [hj]
  unfold Host.sort2
  rw [dif_pos (show 2 < (⟨3, ![A, B, C]⟩ : Shape).rank from Nat.lt_succ_self 2)]
  refine (congrArg (fun j : (⟨3, ![A, B, C]⟩ : Shape).Idx => BitVec.ofNat 32 (j 2).val) (ha (t.castLE hT) _)).trans ?_
  refine congrArg (fun f => BitVec.ofNat 32 (sortedFrom f (t.castLE hT)).val) (funext fun k => funext fun k' => ?_)
  refine (congrArg₂ (fun y y' => FloatOps.cmpfTotal (F := Ideal) (φ := .f32) .gt (v y) (v y') == 1#1) (ha (t.castLE hT) k) (ha (t.castLE hT) k')).trans ?_
  show (BitVec.ofBool (decide (v (ix3 b i k') < v (ix3 b i k))) == 1#1) = _
  cases decide (v (ix3 b i k') < v (ix3 b i k)) <;> rfl

/-- The first sixteen by the negated roots are the places of the least numbers in order. -/
theorem lists_apply (d : FVec Ideal SD .f32) (h : SD.Slices (fun _ => 0) SL) (b : Fin 8) (i : Fin 2048)
    (h0 : ∀ k, 0 ≤ d (ix3 b i k)) (h1 : ∀ k, d (ix3 b i k) < ⊤) (t : Fin 16) :
    (Host.topK SL 2 (FloatOps.cmpfTotal (F := Ideal) (φ := .f32) .gt) (Host.negf (Host.sqrt d)) h).2 (ix3 b i t)
      = BitVec.ofNat 32 (place (fun k => d (ix3 b i k)) t.val).val := by
  rw [topK_apply (by omega : 16 ≤ 2048), ← sortedFrom_eq_place (key := fun k => d (ix3 b i k)) h1 (by omega : 16 ≤ 2048) t]
  refine congrArg (fun f => BitVec.ofNat 32 (sortedFrom f (t.castLE (by omega : 16 ≤ 2048))).val) (funext fun k => funext fun k' => ?_)
  exact decide_eq_decide.mpr (neg_sqrt_lt (h0 k) (h1 k) (h0 k') (h1 k'))

/-- A cloud's first row, as a 32-bit word, for every entry of its points' lists. -/
theorem base_apply (h₁ : (⟨1, ![8]⟩ : Shape).BroadcastsInDim ⟨3, ![8, 1, 1]⟩ ![0]) (h₂ : S0.BroadcastsInDim ⟨3, ![8, 1, 1]⟩ ![])
    (h₃ : (⟨3, ![8, 1, 1]⟩ : Shape).BroadcastsInDim SL ![0, 1, 2]) (b : Fin 8) (i : Fin 2048) (t : Fin 16) :
    broadcastInDim SL ![0, 1, 2] h₃ (muli (broadcastInDim ⟨3, ![8, 1, 1]⟩ ![0] h₁ (iotaInDim ⟨1, ![8]⟩ 32 0))
      (broadcastInDim ⟨3, ![8, 1, 1]⟩ ![] h₂ (constantI S0 32 2048#32))) (ix3 b i t) = BitVec.ofNat 32 b.val * 2048#32 := by
  refine (broadcastInDim_apply _ _ _ _ (ix3 b 0 0) fun k => ?_).trans ?_
  · match k with
    | ⟨0, _⟩ => exact coord_of_one b
    | ⟨1, _⟩ => rfl
    | ⟨2, _⟩ => rfl
  · refine congrArg (· * 2048#32) ((broadcastInDim_apply _ _ _ _ (ix1 b) fun k => ?_).trans rfl)
    match k with
    | ⟨0, _⟩ => exact coord_of_one b

/-- An entry of the reference's lists, of a cloud of finite points. -/
theorem reference_apply {K : ℕ} (x : FVec Ideal ⟨3, ![8, 2048, K]⟩ .f32) (hx : ∀ y, ∃ r : ℝ, x y = r) (w) (hr)
    (hr' : (⟨3, ![8, 2048, K]⟩ : Shape).Reduces [2] ⟨2, ![8, 2048]⟩) (hu h₁ h₂ h₃ h₄ h₅ hs h₆ h₇ h₈) (b : Fin 8) (i : Fin 2048) (t : Fin 16) :
    addi (Host.topK SL 2 (FloatOps.cmpfTotal (F := Ideal) (φ := .f32) .gt) (Host.negf (Host.sqrt (gaps x w hr hu h₁ h₂ h₃ h₄ h₅))) hs).2
      (broadcastInDim SL ![0, 1, 2] h₆ (muli (broadcastInDim ⟨3, ![8, 1, 1]⟩ ![0] h₇ (iotaInDim ⟨1, ![8]⟩ 32 0))
      (broadcastInDim ⟨3, ![8, 1, 1]⟩ ![] h₈ (constantI S0 32 2048#32)))) (ix3 b i t)
      = BitVec.ofNat 32 (place (fun k : Fin 2048 => gap (fun c => x (ix3 b i c)) (fun c => x (ix3 b k c))) t.val).val + BitVec.ofNat 32 b.val * 2048#32 := by
  have hg : ∀ k, gaps x w hr hu h₁ h₂ h₃ h₄ h₅ (ix3 b i k) = _ := fun k => gaps_apply x w hr hr' hu h₁ h₂ h₃ h₄ h₅ b i k
  generalize gaps x w hr hu h₁ h₂ h₃ h₄ h₅ = d at hg
  have h0 : ∀ k, 0 ≤ d (ix3 b i k) := fun k => by rw [hg k]; exact gap_nonneg _ _
  have h1 : ∀ k, d (ix3 b i k) < ⊤ := fun k => by rw [hg k]; exact gap_lt_top (fun c => hx _) (fun c => hx _)
  refine congrArg₂ (· + ·) ((lists_apply d hs b i h0 h1 t).trans ?_) (base_apply h₇ h₈ h₆ b i t)
  rw [show (fun k => d (ix3 b i k)) = _ from funext hg]

end Cert.Proof.Near

end
-- ==== Proof.BlockSearchA.lean ====
/-
  What one block of search A holds, read at a point and a place of its list: the place of the point's next nearest, counted
  from the cloud's first row.
-/
module

public import proofs.«01_k».proof.Proof.Pick
public import proofs.«01_k».proof.Proof.Gen.SearchAIdeal.Frame

@[expose] public section

noncomputable section

namespace Cert.Proof.SearchA

open Cert.SearchAIdeal Cert.SearchAIdeal.Gen
open Idealize.ShloMosaic Idealize.ShloMosaic.ValueIdx Cert.Proof.Layout Cert.Proof.Spec Cert.Proof.Rank Cert.Proof.Pick

/-- Offsets that are zero. -/
theorem zeros3 : (![0, 0, 0] : Fin 3 → ℕ) = fun _ => 0 := funext fun a => by fin_cases a <;> rfl
theorem zeros2 : (![0, 0] : Fin 2 → ℕ) = fun _ => 0 := funext fun a => by fin_cases a <;> rfl

/-- The distances of the block, squared. -/
theorem dist_apply (x : Vec Ideal S1x256x3 .f32) (y : Vec Ideal S1x2048x3 .f32) (i : Fin 256) (k : Fin 2048) :
    k0_pay4 (F := Ideal) x y (ix2 i k) = gap (fun c : Fin 3 => x (ix3 0 i c)) (fun c : Fin 3 => y (ix3 0 k c)) := by
  refine (apart_apply (shapeCast S256x3 x shapeCasts_S1x256x3_S256x3) (shapeCast S2048x3 y shapeCasts_S1x2048x3_S2048x3)
    reduces_S256x3_S256 reduces_S2048x3_S2048 shapeCasts_S2048_S2048x1 shapeCasts_S2048x1_S1x2048 broadcasts_S1x2048_S256x2048 i k).trans ?_
  refine congrArg₂ gap (funext fun c => ?_) (funext fun c => ?_)
  · exact shapeCast_1ab_ab_apply x _ i c
  · exact shapeCast_1ab_ab_apply y _ k c

section Rounds

variable (x : Vec Ideal S1x256x3 .f32) (y : Vec Ideal S1x2048x3 .f32)

/-- The rows' least numbers after so many rounds, on every column. -/
abbrev low (d : FVec Ideal SB .f32) (t : ℕ) : FVec Ideal SB .f32 := broadcastTo SB (colMin (rest d t)) bro
abbrev inf32 : Ideal .f32 := FloatOps.ofBits (F := Ideal) .f32 0x7F800000#32
abbrev over (d : FVec Ideal SB .f32) (t : ℕ) : IVec SB 1 := cmpf .ogt d (low d t)
abbrev liveAt (d : FVec Ideal SB .f32) (t : ℕ) : IVec SB 1 := alive d cols (colMin (rest d t)) (picked d t)

theorem p0 : k0_pay6 (F := Ideal) x y = picked (k0_pay4 x y) 0 := rfl
theorem r1 : k0_pay7 (F := Ideal) x y = rest (k0_pay4 x y) 1 := rfl
theorem m1 : k0_pay8 (F := Ideal) x y = colMin (rest (k0_pay4 x y) 1) := rfl
theorem l1 : k0_pay9 (F := Ideal) x y = low (k0_pay4 x y) 1 := rfl

variable (d : FVec Ideal SB .f32)

theorem p1 : k0_pay10 (F := Ideal) cols (rest d 1) (low d 1) = picked d 1 := rfl
theorem r2 : k0_pay11 (F := Ideal) d cols (rest d 1) (colMin (rest d 1)) (low d 1) = rest d 2 := rfl
theorem m2 : k0_pay12 (F := Ideal) d cols (rest d 1) (colMin (rest d 1)) (low d 1) = colMin (rest d 2) := rfl
theorem p2 : k0_pay13 (F := Ideal) d cols (rest d 1) (colMin (rest d 1)) (low d 1) = picked d 2 := rfl
theorem r3 : k0_pay14 (F := Ideal) d cols (rest d 1) (colMin (rest d 1)) (low d 1) = rest d 3 := rfl
theorem p3 : k0_pay16 (F := Ideal) d cols (rest d 1) (colMin (rest d 1)) (low d 1) = picked d 3 := rfl
theorem a3 : k0_pay17 (F := Ideal) d cols (rest d 1) (colMin (rest d 1)) (low d 1) = liveAt d 3 := rfl

theorem p4 : k0_pay20 (F := Ideal) d cols (liveAt d 3) inf32 = picked d 4 := rfl
theorem r5 : k0_pay21 (F := Ideal) d cols (liveAt d 3) inf32 = rest d 5 := rfl
theorem p5 : k0_pay23 (F := Ideal) d cols (liveAt d 3) inf32 = picked d 5 := rfl
theorem r6 : k0_pay24 (F := Ideal) d cols (liveAt d 3) inf32 = rest d 6 := rfl
theorem p6 : k0_pay26 (F := Ideal) d cols (liveAt d 3) inf32 = picked d 6 := rfl
theorem o6 : k0_pay27 (F := Ideal) d cols (liveAt d 3) inf32 = over d 6 := rfl
theorem l6 : k0_pay28 (F := Ideal) d cols (liveAt d 3) inf32 = low d 6 := rfl

theorem p7 : k0_pay31 (F := Ideal) d cols (picked d 6) (over d 6) (low d 6) = picked d 7 := rfl
theorem p8 : k0_pay34 (F := Ideal) d cols (picked d 6) (over d 6) (low d 6) = picked d 8 := rfl
theorem m9 : k0_pay36 (F := Ideal) d cols (picked d 6) (over d 6) (low d 6) = colMin (rest d 9) := rfl

/-- The columns of the least numbers, and 2048 elsewhere. -/
abbrev marks (t : ℕ) : IVec SB 32 := select (cmpf .ole (rest d t) (low d t)) cols (broadcast SB 2048#32)
abbrev least (t : ℕ) : FVec Ideal SR .f32 := multiReduction .minimumf [1] SR (rest d t) 0x7F800000#32 red (.inl rfl) rfl

theorem k9 : k0_pay37 (F := Ideal) d cols (picked d 6) (over d 6) (low d 6) = marks d 9 := rfl
theorem p9 : k0_pay38 (marks d 9) = picked d 9 := rfl

theorem p10 : k0_pay41 (F := Ideal) d cols (colMin (rest d 9)) (marks d 9) = picked d 10 := rfl
theorem p11 : k0_pay44 (F := Ideal) d cols (colMin (rest d 9)) (marks d 9) = picked d 11 := rfl
theorem r12 : k0_pay45 (F := Ideal) d cols (colMin (rest d 9)) (marks d 9) = rest d 12 := rfl
theorem m12 : k0_pay46 (F := Ideal) d cols (colMin (rest d 9)) (marks d 9) = least d 12 := rfl

theorem p12 : k0_pay48 (F := Ideal) cols (rest d 12) (least d 12) = picked d 12 := rfl
theorem p13 : k0_pay51 (F := Ideal) d cols (rest d 12) (least d 12) = picked d 13 := rfl
theorem p14 : k0_pay54 (F := Ideal) d cols (rest d 12) (least d 12) = picked d 14 := rfl
theorem o14 : k0_pay55 (F := Ideal) d cols (rest d 12) (least d 12) = over d 14 := rfl
theorem k15 : k0_pay1 (F := Ideal) d cols (k0_pay55 (F := Ideal) d cols (rest d 12) (least d 12)) (k0_pay56 (F := Ideal) d cols (rest d 12) (least d 12))
    = marks d 15 := rfl

theorem joined (a0 a1 a2 a3 a4 a5 a6 a7 a8 a9 a10 a11 a12 a13 a14 : IVec SK 32) (a15 : IVec SB 32)
    (h0 : a0 = picked d 0) (h1 : a1 = picked d 1) (h2 : a2 = picked d 2) (h3 : a3 = picked d 3)
    (h4 : a4 = picked d 4) (h5 : a5 = picked d 5) (h6 : a6 = picked d 6) (h7 : a7 = picked d 7)
    (h8 : a8 = picked d 8) (h9 : a9 = picked d 9) (h10 : a10 = picked d 10) (h11 : a11 = picked d 11)
    (h12 : a12 = picked d 12) (h13 : a13 = picked d 13) (h14 : a14 = picked d 14) (h15 : a15 = marks d 15) :
    k0_pay2 a0 a1 a2 a3 a4 a5 a6 a7 a8 a9 a10 a11 a12 a13 a14 a15 = lists d := by
  subst h0 h1 h2 h3 h4 h5 h6 h7 h8 h9 h10 h11 h12 h13 h14 h15
  rfl

end Rounds

section Values

variable (g : grid0.Coords) (x : Vec Ideal S1x256x3 .f32) (y : Vec Ideal S1x2048x3 .f32)

theorem e57 : k0_pay57 (F := Ideal) g x y = cols := by
  unfold k0_pay57
  rfl
theorem e58 : k0_pay58 (F := Ideal) g x y = (k0_pay4 (F := Ideal) x y) := by
  unfold k0_pay58
  simp only [View.ld_unit_zero (S := S1x256x3) zeros3, View.ld_unit_zero (S := S1x2048x3) zeros3]
theorem e59 : k0_pay59 (F := Ideal) g x y = rest (k0_pay4 (F := Ideal) x y) 1 := by
  unfold k0_pay59
  simp only [View.ld_unit_zero (S := S1x256x3) zeros3, View.ld_unit_zero (S := S1x2048x3) zeros3]
  rfl
theorem e60 : k0_pay60 (F := Ideal) g x y = colMin (rest (k0_pay4 (F := Ideal) x y) 1) := by
  unfold k0_pay60
  simp only [View.ld_unit_zero (S := S1x256x3) zeros3, View.ld_unit_zero (S := S1x2048x3) zeros3]
  rfl
theorem e61 : k0_pay61 (F := Ideal) g x y = low (k0_pay4 (F := Ideal) x y) 1 := by
  unfold k0_pay61
  simp only [View.ld_unit_zero (S := S1x256x3) zeros3, View.ld_unit_zero (S := S1x2048x3) zeros3]
  rfl
theorem e62 : k0_pay62 (F := Ideal) g x y = liveAt (k0_pay4 (F := Ideal) x y) 3 := by
  unfold k0_pay62
  rw [e58, e57, e59, e60, e61]
  exact a3 (k0_pay4 (F := Ideal) x y)
theorem e63 : k0_pay63 (F := Ideal) g x y = picked (k0_pay4 (F := Ideal) x y) 6 := by
  unfold k0_pay63
  rw [e58, e57, e62]
  exact p6 (k0_pay4 (F := Ideal) x y)
theorem e64 : k0_pay64 (F := Ideal) g x y = over (k0_pay4 (F := Ideal) x y) 6 := by
  unfold k0_pay64
  rw [e58, e57, e62]
  exact o6 (k0_pay4 (F := Ideal) x y)
theorem e65 : k0_pay65 (F := Ideal) g x y = low (k0_pay4 (F := Ideal) x y) 6 := by
  unfold k0_pay65
  rw [e58, e57, e62]
  exact l6 (k0_pay4 (F := Ideal) x y)
theorem e66 : k0_pay66 (F := Ideal) g x y = colMin (rest (k0_pay4 (F := Ideal) x y) 9) := by
  unfold k0_pay66
  rw [e58, e57, e63, e64, e65]
  exact m9 (k0_pay4 (F := Ideal) x y)
theorem e67 : k0_pay67 (F := Ideal) g x y = marks (k0_pay4 (F := Ideal) x y) 9 := by
  unfold k0_pay67
  rw [e58, e57, e63, e64, e65]
  exact k9 (k0_pay4 (F := Ideal) x y)
theorem e68 : k0_pay68 (F := Ideal) g x y = rest (k0_pay4 (F := Ideal) x y) 12 := by
  unfold k0_pay68
  rw [e58, e57, e66, e67]
  exact r12 (k0_pay4 (F := Ideal) x y)
theorem e69 : k0_pay69 (F := Ideal) g x y = least (k0_pay4 (F := Ideal) x y) 12 := by
  unfold k0_pay69
  rw [e58, e57, e66, e67]
  exact m12 (k0_pay4 (F := Ideal) x y)

end Values

/-- The block's lists. -/
theorem lists_eq (g : grid0.Coords) (x : Vec Ideal S1x256x3 .f32) (y : Vec Ideal S1x2048x3 .f32) :
    out0_2 g x y = k0_pay3 (BitVec.ofNat 32 (g 0).val) (lists (k0_pay4 (F := Ideal) x y)) := by
  unfold out0_2
  rw [View.canon_unit_zero zeros3, e57, e58, e59, e60, e61, e62, e63, e64, e65, e66, e67, e68, e69]
  simp only [View.ld_unit_zero (S := S1x256x3) zeros3, View.ld_unit_zero (S := S1x2048x3) zeros3]
  exact congrArg (k0_pay3 _) (joined (k0_pay4 (F := Ideal) x y) _ _ _ _ _ _ _ _ _ _ _ _ _ _ _ _ (p0 x y) (p1 _) (p2 _) (p3 _) (p4 _) (p5 _) rfl (p7 _) (p8 _) (p9 _)
    (p10 _) (p11 _) (p12 _) (p13 _) (p14 _) (k15 _))

/-- A list's entry. -/
theorem out0_2_apply (g : grid0.Coords) (x : Vec Ideal S1x256x3 .f32) (y : Vec Ideal S1x2048x3 .f32) (u : Fin 1) (i : Fin 256) (t : Fin 16) :
    out0_2 g x y (ix3 u i t)
      = BitVec.ofNat 32 (place (fun k => gap (fun c : Fin 3 => x (ix3 0 i c)) (fun c : Fin 3 => y (ix3 0 k c))) t.val).val
        + BitVec.ofNat 32 (g 0).val * 2048#32 := by
  rw [lists_eq]
  unfold k0_pay3
  refine (shapeCast_ab_1ab_apply _ _ u i t).trans ?_
  show lists _ (ix2 i t) + _ = _
  rw [lists_apply, show rowOf (k0_pay4 (F := Ideal) x y) i = _ from funext fun k => dist_apply x y i k]
  rfl

end Cert.Proof.SearchA

end
-- ==== Proof.ArraySearchA.lean ====
/-
  What search A leaves in its result arrays, as a function of its arguments.
-/
module

public import proofs.«01_k».proof.Proof.BlockSearchA
public import proofs.«01_k».proof.Proof.ArrayAttn1

@[expose] public section

noncomputable section

namespace Cert.Proof.SearchA

open Cert.SearchAIdeal Cert.SearchAIdeal.Gen
open Idealize.ShloMosaic hiding ix2 ix3 eq_ix3
open Idealize.ShloMosaic.ValueIdx Cert.Proof.Layout Cert.Proof.Spec Cert.Proof.Rank Cert.Proof.Pick
open Cert.Proof.Kernel (pos)
open TcCoe

variable (m : (ℓ : Loc nD τ sig) → Buf (Elt Ideal) ℓ)

/-- Where the windows stand at a point of the grid. -/
theorem index : ∀ t : Fin cfg0.N, win0_0.index t = ![(grid0.coords t 0).val, (grid0.coords t 1).val, 0]
    ∧ win0_1.index t = ![(grid0.coords t 0).val, 0, 0]
    ∧ win0_2.index t = ![(grid0.coords t 0).val, (grid0.coords t 1).val, 0] :=
  (by decide +kernel : ∀ t : Fin grid0.N, win0_0.index t = ![(grid0.coords t 0).val, (grid0.coords t 1).val, 0]
    ∧ win0_1.index t = ![(grid0.coords t 0).val, 0, 0]
    ∧ win0_2.index t = ![(grid0.coords t 0).val, (grid0.coords t 1).val, 0])

section Reads
variable (c : Dev nD) (t : Fin cfg0.N)

theorem place0 (u : Fin 1) (i : Fin 256) (k : Fin 3) :
    ((win0_0.blk t).view.emb (ix3 u i k) : S8x2048x3.Idx) = ix3 (grid0.coords t 0) (pos (grid0.coords t 1) i) k := by
  have h := (index t).1
  blk_ext [pos, h]
theorem read0 (u : Fin 1) (i : Fin 256) (k : Fin 3) : iblk m c 0 t (ix3 u i k) = V m c main_arg0 (ix3 (grid0.coords t 0) (pos (grid0.coords t 1) i) k) :=
  congrArg (V m c main_arg0) (place0 t u i k)

theorem place1 (u : Fin 1) (i : Fin 2048) (k : Fin 3) :
    ((win0_1.blk t).view.emb (ix3 u i k) : S8x2048x3.Idx) = ix3 (grid0.coords t 0) i k := by
  have h := (index t).2.1
  blk_ext [pos, h]
theorem read1 (u : Fin 1) (i : Fin 2048) (k : Fin 3) : iblk m c 1 t (ix3 u i k) = V m c main_arg0 (ix3 (grid0.coords t 0) i k) :=
  congrArg (V m c main_arg0) (place1 t u i k)

theorem placeOut (u : Fin 1) (i : Fin 256) (k : Fin 16) :
    ((win0_2.blk t).view.emb (ix3 u i k) : S8x2048x16.Idx) = ix3 (grid0.coords t 0) (pos (grid0.coords t 1) i) k := by
  have h := (index t).2.2
  blk_ext [pos, h]

end Reads

/-- The lists of nearest points: the place of the next nearest in its cloud, counted from the cloud's first row. -/
def nearest (x : FVec Ideal S8x2048x3 .f32) : IVec S8x2048x16 32 := fun y =>
  BitVec.ofNat 32 (place (fun k : Fin 2048 => gap (fun c : Fin 3 => x (ix3 (y 0 : Fin 8) (y 1 : Fin 2048) c)) (fun c : Fin 3 => x (ix3 (y 0 : Fin 8) k c))) (y 2 : Fin 16).val).val
    + BitVec.ofNat 32 (y 0 : Fin 8).val * 2048#32

theorem final (c : Dev nD) : (dats m 0 c).arrAt 2 cfg0.N = nearest (V m c main_arg0) := by
  refine (dats m 0 c).arrAt_eq_of_covers 2 _ (by decide +kernel) fun t hf y => ?_
  obtain ⟨u, i, k, rfl⟩ : ∃ (u : Fin 1) (i : Fin 256) (k : Fin 16), y = ix3 u i k := ⟨y 0, y 1, y 2, eq_ix3 y⟩
  refine Eq.trans (b := out0_2 (grid0.coords t) (iblk m c 0 t) (iblk m c 1 t) (ix3 u i k)) ?_
    (Eq.trans (b := nearest (V m c main_arg0) (ix3 (grid0.coords t 0) (pos (grid0.coords t 1) i) k)) ?_ ?_)
  · rw [← after0_2]; rfl
  · rw [out0_2_apply]
    simp only [read0, read1]
    rfl
  · exact congrArg (nearest (V m c main_arg0)) (placeOut t u i k).symm

end Cert.Proof.SearchA

end
-- ==== Proof.BlockSearchB.lean ====
/-
  What one block of search B holds, read at a point and a place of its list: the place of the point's next nearest, counted
  from the cloud's first row.
-/
module

public import proofs.«01_k».proof.Proof.Pick
public import proofs.«01_k».proof.Proof.Gen.SearchBIdeal.Frame

@[expose] public section

noncomputable section

namespace Cert.Proof.SearchB

open Cert.SearchBIdeal Cert.SearchBIdeal.Gen
open Idealize.ShloMosaic Idealize.ShloMosaic.ValueIdx Cert.Proof.Layout Cert.Proof.Spec Cert.Proof.Rank Cert.Proof.Pick

/-- Offsets that are zero. -/
theorem zeros3 : (![0, 0, 0] : Fin 3 → ℕ) = fun _ => 0 := funext fun a => by fin_cases a <;> rfl
theorem zeros2 : (![0, 0] : Fin 2 → ℕ) = fun _ => 0 := funext fun a => by fin_cases a <;> rfl

/-- The distances of the block, squared. -/
theorem dist_apply (x : Vec Ideal S1x256x128 .f32) (y : Vec Ideal S1x2048x128 .f32) (i : Fin 256) (k : Fin 2048) :
    k0_pay6 (F := Ideal) x y (ix2 i k) = gap (fun c : Fin 128 => x (ix3 0 i c)) (fun c : Fin 128 => y (ix3 0 k c)) := by
  refine (apart_apply (shapeCast S256x128 x shapeCasts_S1x256x128_S256x128) (shapeCast S2048x128 y shapeCasts_S1x2048x128_S2048x128)
    reduces_S256x128_S256 reduces_S2048x128_S2048 shapeCasts_S2048_S2048x1 shapeCasts_S2048x1_S1x2048 broadcasts_S1x2048_S256x2048 i k).trans ?_
  refine congrArg₂ gap (funext fun c => ?_) (funext fun c => ?_)
  · exact shapeCast_1ab_ab_apply x _ i c
  · exact shapeCast_1ab_ab_apply y _ k c

section Rounds

variable (x : Vec Ideal S1x256x128 .f32) (y : Vec Ideal S1x2048x128 .f32)

/-- The rows' least numbers after so many rounds, on every column. -/
abbrev low (d : FVec Ideal SB .f32) (t : ℕ) : FVec Ideal SB .f32 := broadcastTo SB (colMin (rest d t)) bro
abbrev inf32 : Ideal .f32 := FloatOps.ofBits (F := Ideal) .f32 0x7F800000#32
abbrev over (d : FVec Ideal SB .f32) (t : ℕ) : IVec SB 1 := cmpf .ogt d (low d t)
abbrev liveAt (d : FVec Ideal SB .f32) (t : ℕ) : IVec SB 1 := alive d cols (colMin (rest d t)) (picked d t)

theorem p0 : k0_pay8 (F := Ideal) x y = picked (k0_pay6 x y) 0 := rfl
theorem r1 : k0_pay9 (F := Ideal) x y = rest (k0_pay6 x y) 1 := rfl
theorem m1 : k0_pay10 (F := Ideal) x y = colMin (rest (k0_pay6 x y) 1) := rfl
theorem l1 : k0_pay11 (F := Ideal) x y = low (k0_pay6 x y) 1 := rfl

variable (d : FVec Ideal SB .f32)

theorem p1 : k0_pay12 (F := Ideal) cols (rest d 1) (low d 1) = picked d 1 := rfl
theorem r2 : k0_pay13 (F := Ideal) d cols (rest d 1) (colMin (rest d 1)) (low d 1) = rest d 2 := rfl
theorem m2 : k0_pay14 (F := Ideal) d cols (rest d 1) (colMin (rest d 1)) (low d 1) = colMin (rest d 2) := rfl
theorem p2 : k0_pay15 (F := Ideal) d cols (rest d 1) (colMin (rest d 1)) (low d 1) = picked d 2 := rfl
theorem r3 : k0_pay16 (F := Ideal) d cols (rest d 1) (colMin (rest d 1)) (low d 1) = rest d 3 := rfl
theorem p3 : k0_pay18 (F := Ideal) d cols (rest d 1) (colMin (rest d 1)) (low d 1) = picked d 3 := rfl
theorem a3 : k0_pay19 (F := Ideal) d cols (rest d 1) (colMin (rest d 1)) (low d 1) = liveAt d 3 := rfl

theorem p4 : k0_pay22 (F := Ideal) d cols (liveAt d 3) inf32 = picked d 4 := rfl
theorem r5 : k0_pay23 (F := Ideal) d cols (liveAt d 3) inf32 = rest d 5 := rfl
theorem p5 : k0_pay25 (F := Ideal) d cols (liveAt d 3) inf32 = picked d 5 := rfl
theorem r6 : k0_pay26 (F := Ideal) d cols (liveAt d 3) inf32 = rest d 6 := rfl
theorem p6 : k0_pay28 (F := Ideal) d cols (liveAt d 3) inf32 = picked d 6 := rfl
theorem o6 : k0_pay29 (F := Ideal) d cols (liveAt d 3) inf32 = over d 6 := rfl
theorem l6 : k0_pay30 (F := Ideal) d cols (liveAt d 3) inf32 = low d 6 := rfl

theorem p7 : k0_pay33 (F := Ideal) d cols (picked d 6) (over d 6) (low d 6) = picked d 7 := rfl
theorem p8 : k0_pay36 (F := Ideal) d cols (picked d 6) (over d 6) (low d 6) = picked d 8 := rfl
theorem m9 : k0_pay38 (F := Ideal) d cols (picked d 6) (over d 6) (low d 6) = colMin (rest d 9) := rfl

/-- The columns of the least numbers, and 2048 elsewhere. -/
abbrev marks (t : ℕ) : IVec SB 32 := select (cmpf .ole (rest d t) (low d t)) cols (broadcast SB 2048#32)
abbrev least (t : ℕ) : FVec Ideal SR .f32 := multiReduction .minimumf [1] SR (rest d t) 0x7F800000#32 red (.inl rfl) rfl

theorem k9 : k0_pay39 (F := Ideal) d cols (picked d 6) (over d 6) (low d 6) = marks d 9 := rfl
theorem p9 : k0_pay40 (marks d 9) = picked d 9 := rfl

theorem p10 : k0_pay43 (F := Ideal) d cols (colMin (rest d 9)) (marks d 9) = picked d 10 := rfl
theorem p11 : k0_pay46 (F := Ideal) d cols (colMin (rest d 9)) (marks d 9) = picked d 11 := rfl
theorem r12 : k0_pay47 (F := Ideal) d cols (colMin (rest d 9)) (marks d 9) = rest d 12 := rfl
theorem m12 : k0_pay48 (F := Ideal) d cols (colMin (rest d 9)) (marks d 9) = least d 12 := rfl

theorem p12 : k0_pay50 (F := Ideal) cols (rest d 12) (least d 12) = picked d 12 := rfl
theorem p13 : k0_pay53 (F := Ideal) d cols (rest d 12) (least d 12) = picked d 13 := rfl
theorem p14 : k0_pay56 (F := Ideal) d cols (rest d 12) (least d 12) = picked d 14 := rfl
theorem o14 : k0_pay57 (F := Ideal) d cols (rest d 12) (least d 12) = over d 14 := rfl
theorem k15 : k0_pay1 (F := Ideal) d cols (k0_pay57 (F := Ideal) d cols (rest d 12) (least d 12)) (k0_pay58 (F := Ideal) d cols (rest d 12) (least d 12))
    = marks d 15 := rfl

theorem joined (a0 a1 a2 a3 a4 a5 a6 a7 a8 a9 a10 a11 a12 a13 a14 : IVec SK 32) (a15 : IVec SB 32)
    (h0 : a0 = picked d 0) (h1 : a1 = picked d 1) (h2 : a2 = picked d 2) (h3 : a3 = picked d 3)
    (h4 : a4 = picked d 4) (h5 : a5 = picked d 5) (h6 : a6 = picked d 6) (h7 : a7 = picked d 7)
    (h8 : a8 = picked d 8) (h9 : a9 = picked d 9) (h10 : a10 = picked d 10) (h11 : a11 = picked d 11)
    (h12 : a12 = picked d 12) (h13 : a13 = picked d 13) (h14 : a14 = picked d 14) (h15 : a15 = marks d 15) :
    k0_pay2 a0 a1 a2 a3 a4 a5 a6 a7 a8 a9 a10 a11 a12 a13 a14 a15 = lists d := by
  subst h0 h1 h2 h3 h4 h5 h6 h7 h8 h9 h10 h11 h12 h13 h14 h15
  rfl

end Rounds

section Values

variable (g : grid0.Coords) (x : Vec Ideal S1x256x128 .f32) (y : Vec Ideal S1x2048x128 .f32) (w : Vec Ideal S128x128 .f32)

theorem e57 : k0_pay59 (F := Ideal) g x y w = cols := by
  unfold k0_pay59
  rfl
theorem e58 : k0_pay60 (F := Ideal) g x y w = (k0_pay6 (F := Ideal) x y) := by
  unfold k0_pay60
  simp only [View.ld_unit_zero (S := S1x256x128) zeros3, View.ld_unit_zero (S := S1x2048x128) zeros3]
theorem e59 : k0_pay61 (F := Ideal) g x y w = rest (k0_pay6 (F := Ideal) x y) 1 := by
  unfold k0_pay61
  simp only [View.ld_unit_zero (S := S1x256x128) zeros3, View.ld_unit_zero (S := S1x2048x128) zeros3]
  rfl
theorem e60 : k0_pay62 (F := Ideal) g x y w = colMin (rest (k0_pay6 (F := Ideal) x y) 1) := by
  unfold k0_pay62
  simp only [View.ld_unit_zero (S := S1x256x128) zeros3, View.ld_unit_zero (S := S1x2048x128) zeros3]
  rfl
theorem e61 : k0_pay63 (F := Ideal) g x y w = low (k0_pay6 (F := Ideal) x y) 1 := by
  unfold k0_pay63
  simp only [View.ld_unit_zero (S := S1x256x128) zeros3, View.ld_unit_zero (S := S1x2048x128) zeros3]
  rfl
theorem e62 : k0_pay64 (F := Ideal) g x y w = liveAt (k0_pay6 (F := Ideal) x y) 3 := by
  unfold k0_pay64
  rw [e58, e57, e59, e60, e61]
  exact a3 (k0_pay6 (F := Ideal) x y)
theorem e63 : k0_pay65 (F := Ideal) g x y w = picked (k0_pay6 (F := Ideal) x y) 6 := by
  unfold k0_pay65
  rw [e58, e57, e62]
  exact p6 (k0_pay6 (F := Ideal) x y)
theorem e64 : k0_pay66 (F := Ideal) g x y w = over (k0_pay6 (F := Ideal) x y) 6 := by
  unfold k0_pay66
  rw [e58, e57, e62]
  exact o6 (k0_pay6 (F := Ideal) x y)
theorem e65 : k0_pay67 (F := Ideal) g x y w = low (k0_pay6 (F := Ideal) x y) 6 := by
  unfold k0_pay67
  rw [e58, e57, e62]
  exact l6 (k0_pay6 (F := Ideal) x y)
theorem e66 : k0_pay68 (F := Ideal) g x y w = colMin (rest (k0_pay6 (F := Ideal) x y) 9) := by
  unfold k0_pay68
  rw [e58, e57, e63, e64, e65]
  exact m9 (k0_pay6 (F := Ideal) x y)
theorem e67 : k0_pay69 (F := Ideal) g x y w = marks (k0_pay6 (F := Ideal) x y) 9 := by
  unfold k0_pay69
  rw [e58, e57, e63, e64, e65]
  exact k9 (k0_pay6 (F := Ideal) x y)
theorem e68 : k0_pay70 (F := Ideal) g x y w = rest (k0_pay6 (F := Ideal) x y) 12 := by
  unfold k0_pay70
  rw [e58, e57, e66, e67]
  exact r12 (k0_pay6 (F := Ideal) x y)
theorem e69 : k0_pay71 (F := Ideal) g x y w = least (k0_pay6 (F := Ideal) x y) 12 := by
  unfold k0_pay71
  rw [e58, e57, e66, e67]
  exact m12 (k0_pay6 (F := Ideal) x y)

end Values

/-- The block's lists. -/
theorem lists_eq (g : grid0.Coords) (x : Vec Ideal S1x256x128 .f32) (y : Vec Ideal S1x2048x128 .f32) (w : Vec Ideal S128x128 .f32) :
    out0_3 g x y w = k0_pay3 (BitVec.ofNat 32 (g 0).val) (lists (k0_pay6 (F := Ideal) x y)) := by
  unfold out0_3
  rw [View.canon_unit_zero zeros3, e57, e58, e59, e60, e61, e62, e63, e64, e65, e66, e67, e68, e69]
  simp only [View.ld_unit_zero (S := S1x256x128) zeros3, View.ld_unit_zero (S := S1x2048x128) zeros3]
  exact congrArg (k0_pay3 _) (joined (k0_pay6 (F := Ideal) x y) _ _ _ _ _ _ _ _ _ _ _ _ _ _ _ _ (p0 x y) (p1 _) (p2 _) (p3 _) (p4 _) (p5 _) rfl (p7 _) (p8 _) (p9 _)
    (p10 _) (p11 _) (p12 _) (p13 _) (p14 _) (k15 _))

/-- A list's entry. -/
theorem out0_3_apply (g : grid0.Coords) (x : Vec Ideal S1x256x128 .f32) (y : Vec Ideal S1x2048x128 .f32) (w : Vec Ideal S128x128 .f32) (u : Fin 1) (i : Fin 256) (t : Fin 16) :
    out0_3 g x y w (ix3 u i t)
      = BitVec.ofNat 32 (place (fun k => gap (fun c : Fin 128 => x (ix3 0 i c)) (fun c : Fin 128 => y (ix3 0 k c))) t.val).val
        + BitVec.ofNat 32 (g 0).val * 2048#32 := by
  rw [lists_eq]
  unfold k0_pay3
  refine (shapeCast_ab_1ab_apply _ _ u i t).trans ?_
  show lists _ (ix2 i t) + _ = _
  rw [lists_apply, show rowOf (k0_pay6 (F := Ideal) x y) i = _ from funext fun k => dist_apply x y i k]
  rfl

end Cert.Proof.SearchB

end
-- ==== Proof.ArraySearchB.lean ====
/-
  What search B leaves in its result arrays, as a function of its arguments.
-/
module

public import proofs.«01_k».proof.Proof.BlockSearchB
public import proofs.«01_k».proof.Proof.ArrayAttn1

@[expose] public section

noncomputable section

namespace Cert.Proof.SearchB

open Cert.SearchBIdeal Cert.SearchBIdeal.Gen
open Idealize.ShloMosaic hiding ix2 ix3 eq_ix3
open Idealize.ShloMosaic.ValueIdx Cert.Proof.Layout Cert.Proof.Spec Cert.Proof.Rank Cert.Proof.Pick
open Cert.Proof.Kernel (pos)
open TcCoe

variable (m : (ℓ : Loc nD τ sig) → Buf (Elt Ideal) ℓ)

/-- Where the windows stand at a point of the grid. -/
theorem index : ∀ t : Fin cfg0.N, win0_0.index t = ![(grid0.coords t 0).val, (grid0.coords t 1).val, 0]
    ∧ win0_1.index t = ![(grid0.coords t 0).val, 0, 0]
    ∧ win0_2.index t = ![0, 0]
    ∧ win0_3.index t = ![(grid0.coords t 0).val, (grid0.coords t 1).val, 0]
    ∧ win0_4.index t = ![(grid0.coords t 0).val, (grid0.coords t 1).val, 0] :=
  (by decide +kernel : ∀ t : Fin grid0.N, win0_0.index t = ![(grid0.coords t 0).val, (grid0.coords t 1).val, 0]
    ∧ win0_1.index t = ![(grid0.coords t 0).val, 0, 0]
    ∧ win0_2.index t = ![0, 0]
    ∧ win0_3.index t = ![(grid0.coords t 0).val, (grid0.coords t 1).val, 0]
    ∧ win0_4.index t = ![(grid0.coords t 0).val, (grid0.coords t 1).val, 0])

section Reads
variable (c : Dev nD) (t : Fin cfg0.N)

theorem place0 (u : Fin 1) (i : Fin 256) (k : Fin 128) :
    ((win0_0.blk t).view.emb (ix3 u i k) : S8x2048x128.Idx) = ix3 (grid0.coords t 0) (pos (grid0.coords t 1) i) k := by
  have h := (index t).1
  blk_ext [pos, h]
theorem read0 (u : Fin 1) (i : Fin 256) (k : Fin 128) : iblk m c 0 t (ix3 u i k) = V m c main_arg0 (ix3 (grid0.coords t 0) (pos (grid0.coords t 1) i) k) :=
  congrArg (V m c main_arg0) (place0 t u i k)

theorem place1 (u : Fin 1) (i : Fin 2048) (k : Fin 128) :
    ((win0_1.blk t).view.emb (ix3 u i k) : S8x2048x128.Idx) = ix3 (grid0.coords t 0) i k := by
  have h := (index t).2.1
  blk_ext [pos, h]
theorem read1 (u : Fin 1) (i : Fin 2048) (k : Fin 128) : iblk m c 1 t (ix3 u i k) = V m c main_arg0 (ix3 (grid0.coords t 0) i k) :=
  congrArg (V m c main_arg0) (place1 t u i k)

theorem place2 (i : Fin 128) (k : Fin 128) : ((win0_2.blk t).view.emb (ix2 i k) : S128x128.Idx) = ix2 i k := by
  have h := (index t).2.2.1
  blk_ext [pos, h]
theorem read2 (i : Fin 128) (k : Fin 128) : iblk m c 2 t (ix2 i k) = V m c main_arg1 (ix2 i k) :=
  congrArg (V m c main_arg1) (place2 t i k)

theorem place4 (u : Fin 1) (i : Fin 256) (k : Fin 128) :
    ((win0_4.blk t).view.emb (ix3 u i k) : S8x2048x128.Idx) = ix3 (grid0.coords t 0) (pos (grid0.coords t 1) i) k := by
  have h := (index t).2.2.2.2
  blk_ext [pos, h]

theorem placeOut (u : Fin 1) (i : Fin 256) (k : Fin 16) :
    ((win0_3.blk t).view.emb (ix3 u i k) : S8x2048x16.Idx) = ix3 (grid0.coords t 0) (pos (grid0.coords t 1) i) k := by
  have h := (index t).2.2.2.1
  blk_ext [pos, h]

end Reads

/-- The lists of nearest points: the place of the next nearest in its cloud, counted from the cloud's first row. -/
def nearest (x : FVec Ideal S8x2048x128 .f32) : IVec S8x2048x16 32 := fun y =>
  BitVec.ofNat 32 (place (fun k : Fin 2048 => gap (fun c : Fin 128 => x (ix3 (y 0 : Fin 8) (y 1 : Fin 2048) c)) (fun c : Fin 128 => x (ix3 (y 0 : Fin 8) k c))) (y 2 : Fin 16).val).val
    + BitVec.ofNat 32 (y 0 : Fin 8).val * 2048#32

theorem final (c : Dev nD) : (dats m 0 c).arrAt 3 cfg0.N = nearest (V m c main_arg0) := by
  refine (dats m 0 c).arrAt_eq_of_covers 3 _ (by decide +kernel) fun t hf y => ?_
  obtain ⟨u, i, k, rfl⟩ : ∃ (u : Fin 1) (i : Fin 256) (k : Fin 16), y = ix3 u i k := ⟨y 0, y 1, y 2, eq_ix3 y⟩
  refine Eq.trans (b := out0_3 (grid0.coords t) (iblk m c 0 t) (iblk m c 1 t) (iblk m c 2 t) (ix3 u i k)) ?_
    (Eq.trans (b := nearest (V m c main_arg0) (ix3 (grid0.coords t 0) (pos (grid0.coords t 1) i) k)) ?_ ?_)
  · rw [← after0_3]; rfl
  · rw [out0_3_apply]
    simp only [read0, read1]
    rfl
  · exact congrArg (nearest (V m c main_arg0)) (placeOut t u i k).symm

/-- The second layer's queries of a block. -/
theorem out0_4_apply (g : grid0.Coords) (x : Vec Ideal S1x256x128 .f32) (y : Vec Ideal S1x2048x128 .f32) (w : Vec Ideal S128x128 .f32)
    (u : Fin 1) (i : Fin 256) (o : Fin 128) : out0_4 g x y w (ix3 u i o) = lin (mat w) (fun k => x (ix3 0 i k)) o := by
  unfold out0_4
  rw [View.canon_unit_zero zeros3]
  simp only [View.ld_unit_zero (S := S1x256x128) zeros3, View.ld_unit_zero (S := S128x128) zeros2]
  unfold k0_pay4 k0_pay5
  refine (shapeCast_ab_1ab_apply _ _ u i o).trans ((Kernel.dotT_apply _ _ i o).trans ?_)
  exact congrArg (fun r => lin (mat w) r o) (funext fun k => shapeCast_1ab_ab_apply _ _ i k)

/-- The second layer's queries. -/
def queries (x : FVec Ideal S8x2048x128 .f32) (w : FVec Ideal S128x128 .f32) : FVec Ideal S8x2048x128 .f32 := fun y =>
  lin (mat w) (fun k => x (ix3 (y 0 : Fin 8) (y 1 : Fin 2048) k)) (y 2 : Fin 128)

theorem finalQ (c : Dev nD) : (dats m 0 c).arrAt 4 cfg0.N = queries (V m c main_arg0) (V m c main_arg1) := by
  refine (dats m 0 c).arrAt_eq_of_covers 4 _ (by decide +kernel) fun t hf y => ?_
  obtain ⟨u, i, k, rfl⟩ : ∃ (u : Fin 1) (i : Fin 256) (k : Fin 128), y = ix3 u i k := ⟨y 0, y 1, y 2, eq_ix3 y⟩
  refine Eq.trans (b := out0_4 (grid0.coords t) (iblk m c 0 t) (iblk m c 1 t) (iblk m c 2 t) (ix3 u i k)) ?_
    (Eq.trans (b := queries (V m c main_arg0) (V m c main_arg1) (ix3 (grid0.coords t 0) (pos (grid0.coords t 1) i) k)) ?_ ?_)
  · rw [← after0_4]; rfl
  · rw [out0_4_apply]
    simp only [read0]
    have e2 : mat (m := 128) (n := 128) (iblk m c 2 t) = mat (m := 128) (n := 128) (V m c main_arg1) := funext fun o => funext fun k => read2 m c t o k
    rw [e2]
    rfl
  · exact congrArg (queries (V m c main_arg0) (V m c main_arg1)) (place4 t u i k).symm

end Cert.Proof.SearchB

end
-- ==== Proof.Searches.lean ====
/-
  The two searches and their references: over finite arguments both end with the same lists, and the second with the same queries.
-/
module

public import proofs.«01_k».proof.Defs
public import proofs.«01_k».proof.Proof.Gen.Pre_finite1
public import proofs.«01_k».proof.Proof.Gen.Pre_finite2
public import proofs.«01_k».proof.Proof.Gen.NearestAIdeal
public import proofs.«01_k».proof.Proof.Gen.NearestAIdeal.Run
public import proofs.«01_k».proof.Proof.Gen.NearestBIdeal
public import proofs.«01_k».proof.Proof.Gen.NearestBIdeal.Run
public import proofs.«01_k».proof.Proof.Gen.SearchA
public import proofs.«01_k».proof.Proof.Gen.SearchA.Frame
public import proofs.«01_k».proof.Proof.Gen.SearchB
public import proofs.«01_k».proof.Proof.Gen.SearchB.Frame
public import proofs.«01_k».proof.Proof.Near
public import proofs.«01_k».proof.Proof.ArraySearchA
public import proofs.«01_k».proof.Proof.ArraySearchB
public import Idealize.ShloMosaic.Adequacy
public import Idealize.ShloMosaic.Init

@[expose] public section

noncomputable section

namespace Cert.Proof

open Idealize.ShloMosaic hiding ix1 ix2 ix3 eq_ix3
open Idealize.SL.Sem Idealize.ShloMosaic.ValueIdx

/-- A number whose magnitude is below +∞ is a real. -/
theorem real_of_abs {x : EReal} (h : max x (-x) < ⊤) : ∃ r : ℝ, x = r := by
  induction x with
  | bot => simp at h
  | coe r => exact ⟨r, rfl⟩
  | top => simp at h

theorem real_of_bit {x : EReal} (h : BitVec.ofBool (decide (max x (-x) < Ideal.ofBits .f32 0x7F800000#32)) = 1#1) : ∃ r : ℝ, x = r := by
  rw [Pick.top_eq] at h
  refine real_of_abs ?_
  by_contra hn
  rw [decide_eq_false hn] at h
  exact absurd h (by decide)

namespace SearchA

open Cert.Proof.Near

/-- The precondition says that every number is a real. -/
theorem finite (x : FVec Ideal Cert.Pre_finite1.S8x2048x3 .f32) (h : Cert.Pre_finite1.fn (F := Ideal) x = fun _ => 1#1) (y : Cert.Pre_finite1.S8x2048x3.Idx) :
    ∃ r : ℝ, x y = r :=
  real_of_bit (congrFun h y)

/-- The reference's lists are those of the search. -/
theorem reference (x : FVec Ideal Cert.NearestAIdeal.S8x2048x3 .f32) (hx : ∀ y, ∃ r : ℝ, x y = r)
    (w hr hu h₁ h₂ h₃ h₄ h₅ hs h₆ h₇ h₈) :
    addi (Host.topK SL 2 (FloatOps.cmpfTotal (F := Ideal) (φ := .f32) .gt) (Host.negf (Host.sqrt (gaps (K := 3) x w hr hu h₁ h₂ h₃ h₄ h₅))) hs).2
      (broadcastInDim SL ![0, 1, 2] h₆ (muli (broadcastInDim ⟨3, ![8, 1, 1]⟩ ![0] h₇ (iotaInDim ⟨1, ![8]⟩ 32 0))
      (broadcastInDim ⟨3, ![8, 1, 1]⟩ ![] h₈ (constantI S0 32 2048#32)))) = nearest x := by
  funext y
  obtain ⟨b, i, t, rfl⟩ : ∃ (b : Fin 8) (i : Fin 2048) (t : Fin 16), y = ix3 b i t := ⟨y 0, y 1, y 2, eq_ix3 y⟩
  exact reference_apply x hx w hr (by decide) hu h₁ h₂ h₃ h₄ h₅ hs h₆ h₇ h₈ b i t

end SearchA

/-- Search A ends, nothing faulting, with its arguments unchanged and every counter at zero. -/
theorem frameSearchA : Cert.quiescent_SearchA := fun m ρ _ => Cert.SearchA.Gen.frame (F := Bits) m ρ

/-- The same over the extended reals. -/
theorem frameSearchAIdeal : Cert.quiescent_SearchAIdeal := fun m ρ _ => Cert.SearchAIdeal.Gen.frame (F := Ideal) m ρ
theorem frameSearchAIdealFinite : Cert.quiescent_SearchAIdeal_pre_finite1 := fun m ρ _ => Cert.SearchAIdeal.Gen.frame (F := Ideal) m ρ

/-- The same of its reference. -/
theorem frameNearestAIdeal : Cert.quiescent_NearestAIdeal := fun m ρ _ =>
  (θ_run Cert.NearestAIdeal.defs _ _).mono (fun r h => ⟨fun c => (h c).2, sem_eq_zero_of_no_sems (by decide) r.2⟩)
    (Cert.NearestAIdeal.Value.run (F := Ideal) m ρ)
theorem frameNearestAIdealFinite : Cert.quiescent_NearestAIdeal_pre_finite1 := fun m ρ _ =>
  (θ_run Cert.NearestAIdeal.defs _ _).mono (fun r h => ⟨fun c => (h c).2, sem_eq_zero_of_no_sems (by decide) r.2⟩)
    (Cert.NearestAIdeal.Value.run (F := Ideal) m ρ)

namespace SearchB

open Cert.Proof.Near

/-- The precondition says that every number is a real. -/
theorem finite (x : FVec Ideal Cert.Pre_finite2.S8x2048x128 .f32) (w : FVec Ideal Cert.Pre_finite2.S128x128 .f32) (h : Cert.Pre_finite2.fn (F := Ideal) x w = fun _ => 1#1) (y : Cert.Pre_finite2.S8x2048x128.Idx) :
    ∃ r : ℝ, x y = r :=
  real_of_bit (congrFun h y)

/-- The reference's lists are those of the search. -/
theorem reference (x : FVec Ideal Cert.NearestBIdeal.S8x2048x128 .f32) (hx : ∀ y, ∃ r : ℝ, x y = r)
    (w hr hu h₁ h₂ h₃ h₄ h₅ hs h₆ h₇ h₈) :
    addi (Host.topK SL 2 (FloatOps.cmpfTotal (F := Ideal) (φ := .f32) .gt) (Host.negf (Host.sqrt (gaps (K := 128) x w hr hu h₁ h₂ h₃ h₄ h₅))) hs).2
      (broadcastInDim SL ![0, 1, 2] h₆ (muli (broadcastInDim ⟨3, ![8, 1, 1]⟩ ![0] h₇ (iotaInDim ⟨1, ![8]⟩ 32 0))
      (broadcastInDim ⟨3, ![8, 1, 1]⟩ ![] h₈ (constantI S0 32 2048#32)))) = nearest x := by
  funext y
  obtain ⟨b, i, t, rfl⟩ : ∃ (b : Fin 8) (i : Fin 2048) (t : Fin 16), y = ix3 b i t := ⟨y 0, y 1, y 2, eq_ix3 y⟩
  exact reference_apply x hx w hr (by decide) hu h₁ h₂ h₃ h₄ h₅ hs h₆ h₇ h₈ b i t

end SearchB

/-- Search B ends, nothing faulting, with its arguments unchanged and every counter at zero. -/
theorem frameSearchB : Cert.quiescent_SearchB := fun m ρ _ => Cert.SearchB.Gen.frame (F := Bits) m ρ

/-- The same over the extended reals. -/
theorem frameSearchBIdeal : Cert.quiescent_SearchBIdeal := fun m ρ _ => Cert.SearchBIdeal.Gen.frame (F := Ideal) m ρ
theorem frameSearchBIdealFinite : Cert.quiescent_SearchBIdeal_pre_finite2 := fun m ρ _ => Cert.SearchBIdeal.Gen.frame (F := Ideal) m ρ

/-- The same of its reference. -/
theorem frameNearestBIdeal : Cert.quiescent_NearestBIdeal := fun m ρ _ =>
  (θ_run Cert.NearestBIdeal.defs _ _).mono (fun r h => ⟨fun c => (h c).2.2, sem_eq_zero_of_no_sems (by decide) r.2⟩)
    (Cert.NearestBIdeal.Value.run (F := Ideal) m ρ)
theorem frameNearestBIdealFinite : Cert.quiescent_NearestBIdeal_pre_finite2 := fun m ρ _ =>
  (θ_run Cert.NearestBIdeal.defs _ _).mono (fun r h => ⟨fun c => (h c).2.2, sem_eq_zero_of_no_sems (by decide) r.2⟩)
    (Cert.NearestBIdeal.Value.run (F := Ideal) m ρ)

/-- Search A and its reference end with the same lists. -/
theorem algebraicSearchA : Cert.algebraic_SearchAIdeal_NearestAIdeal_pre_finite1 := by
  intro m ρ m' ρ' hpre hargs
  refine ⟨fun c => SearchA.nearest (m ((c.tc : Thread Cert.SearchAIdeal.nD Cert.SearchAIdeal.τ).loc Cert.SearchAIdeal.main_arg0)),
    (θ_run Cert.SearchAIdeal.defs _ _).mono (fun _ h c => ⟨?_, ?_⟩) (Cert.SearchAIdeal.Gen.run_main (F := Ideal) m ρ),
    (θ_run Cert.NearestAIdeal.defs _ _).mono (fun _ h c => ⟨(h c).1.trans ?_, (h c).2⟩) (Cert.NearestAIdeal.Value.run (F := Ideal) m' ρ')⟩
  · refine ((h c).1 2).trans ((SearchA.final m c).trans ?_)
    exact congrArg SearchA.nearest (Cert.SearchAIdeal.Gen.V_main_arg0 m c)
  · exact ((h c).1 0).trans (((Cert.SearchAIdeal.Gen.dats m 0 c).arrAt_in 0 rfl _).trans ((Cert.SearchAIdeal.Gen.A_eq m c 0).trans (Cert.SearchAIdeal.Gen.V_main_arg0 m c)))
  · rw [hargs c]
    exact SearchA.reference _ (SearchA.finite _ (hpre c)) _ _ _ _ _ _ _ _ _ _ _ _

/-- Search B and its reference end with the same lists and the same queries. -/
theorem algebraicSearchB : Cert.algebraic_SearchBIdeal_NearestBIdeal_pre_finite2 := by
  intro m ρ m' ρ' hpre hargs
  refine ⟨fun c => SearchB.nearest (m ((c.tc : Thread Cert.SearchBIdeal.nD Cert.SearchBIdeal.τ).loc Cert.SearchBIdeal.main_arg0)),
    fun c => SearchB.queries (m ((c.tc : Thread Cert.SearchBIdeal.nD Cert.SearchBIdeal.τ).loc Cert.SearchBIdeal.main_arg0))
      (m ((c.tc : Thread Cert.SearchBIdeal.nD Cert.SearchBIdeal.τ).loc Cert.SearchBIdeal.main_arg1)),
    (θ_run Cert.SearchBIdeal.defs _ _).mono (fun _ h c => ⟨?_, ?_, ?_, ?_⟩) (Cert.SearchBIdeal.Gen.run_main (F := Ideal) m ρ),
    (θ_run Cert.NearestBIdeal.defs _ _).mono (fun _ h c => ⟨(h c).1.trans ?_, (h c).2.1.trans ?_, (h c).2.2⟩) (Cert.NearestBIdeal.Value.run (F := Ideal) m' ρ')⟩
  · refine ((h c).1 3).trans ((SearchB.final m c).trans ?_)
    exact congrArg SearchB.nearest (Cert.SearchBIdeal.Gen.V_main_arg0 m c)
  · refine ((h c).1 4).trans ((SearchB.finalQ m c).trans ?_)
    exact congrArg₂ SearchB.queries (Cert.SearchBIdeal.Gen.V_main_arg0 m c) (Cert.SearchBIdeal.Gen.V_main_arg1 m c)
  · exact ((h c).1 0).trans (((Cert.SearchBIdeal.Gen.dats m 0 c).arrAt_in 0 rfl _).trans ((Cert.SearchBIdeal.Gen.A_eq m c 0).trans (Cert.SearchBIdeal.Gen.V_main_arg0 m c)))
  · exact ((h c).1 2).trans (((Cert.SearchBIdeal.Gen.dats m 0 c).arrAt_in 2 rfl _).trans ((Cert.SearchBIdeal.Gen.A_eq m c 2).trans (Cert.SearchBIdeal.Gen.V_main_arg1 m c)))
  · rw [(hargs c).1]
    exact SearchB.reference _ (SearchB.finite _ _ (hpre c)) _ _ _ _ _ _ _ _ _ _ _ _
  · rw [(hargs c).1, (hargs c).2]
    funext y
    obtain ⟨b, i, t, rfl⟩ : ∃ (b : Fin 8) (i : Fin 2048) (t : Fin 128), y = ix3 b i t := ⟨y 0, y 1, y 2, eq_ix3 y⟩
    exact Reference.lin3_apply _ _ _ _ b i t

end Cert.Proof

end
-- ==== Proof.WholeSetup.lean ====
/-
  What the proof's modules share: the program's labels and body tables as the launch theorem sees them, the ghost state
  (the SparseCore handshakes', the pipelines', the transfers'), the gathered rows as a function of a table and a list of
  row numbers, and the splitting of an array into thirty-two read shares.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ShareLeaves
public import Idealize.ShloMosaic.Lib.Tactic
public import proofs.«01_k».proof.Proof.Gen.WholeIdeal
public import proofs.«01_k».proof.Proof.Gen.WholeIdeal.Skeleton
public import proofs.«01_k».proof.Proof.Gen.WholeIdeal.Launch

@[expose] public section

noncomputable section

namespace Cert.Proof.WholeIdeal

open Cert.WholeIdeal Cert.WholeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 4) fun p => (pcfgs (F := F) p).Adm
abbrev K : SparseCore.Cfg τ sig (ΛP (F := F)) 2 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' ghost state, the pipelines', and both beside the transfers' counters. -/
abbrev UH : Type := URounds (GSem nD τ sig) ℕ
abbrev UP : Type := URounds (GSem nD τ sig) Unit
abbrev UU : Type := UH × (UP × Counters)

local notation "𝕄" => MT nD τ sig (HIx 2) (Elt F) ℕ UU ℕ

abbrev EH : Emb UH (MT nD τ sig (HIx 2) (Elt F) ℕ UU ℕ) := embL
abbrev EP : Emb UP (MT nD τ sig (HIx 2) (Elt F) ℕ UU ℕ) := (Emb.inl : Emb UP (UP × Counters)).trans embR

instance EP_landsIn : (EP : Emb UP (MT nD τ sig (HIx 2) (Elt F) ℕ UU ℕ)).LandsIn (upEmb : UEmb _ (MT nD τ sig (HIx 2) (Elt F) ℕ UU ℕ)) := by
  unfold EP embR; infer_instance

/-! ## The gathered rows -/

/-- The place of row number `r` in the list. -/
def at1 (r : Fin 262144) : S262144.Idx := fun | 0 => r
/-- Word `c` of row `r` of a table. -/
def at2 (r : Fin 16384) (c : Fin 128) : S16384x128.Idx := fun | 0 => r | 1 => c

/-- The gathered rows: word `(r, c)` is word `c` of the row that the list names at `r`. -/
def rowsOf (tab : S16384x128.Idx → Elt F .f32) (idx : S262144.Idx → Elt F .i32) (x : S262144x128.Idx) : Elt F .f32 :=
  tab (at2 (Fin.ofNat 16384 (show BitVec 32 from idx (at1 (x 0))).toNat) (x 1))

/-- Every row number of the list names a row of the tables. -/
def InRows (idx : S262144.Idx → Elt F .i32) : Prop := ∀ j, (show BitVec 32 from idx j).toNat < 16384

/-! ## Shares -/

/-- The read share of tile `s` of SparseCore `c`. -/
abbrev lq (c : Fin 2) (s : Fin 16) : PosShare TreeShare := ShareLeaves.leaf 4 (ShareLeaves.leaf 1 fullShare c) s

/-- An array at the full share is the tiles' shares of it. -/
theorem shares {ℓ : Loc nD τ sig} (f : Buf (Elt F) ℓ) :
    (ℓ ↦{fullShare} f : sProp 𝕄) = bigSep Finset.univ fun c : Fin 2 => bigSep Finset.univ fun s : Fin 16 => ℓ ↦{lq c s} f :=
  (ShareLeaves.pointsTo_leaves Finset.univ f 1 fullShare).trans (bigSep_congr fun c _ => ShareLeaves.pointsTo_leaves Finset.univ f 4 _)

theorem bigSep_sep₂ {A B : Type} (sa : Finset A) (sb : Finset B) (Φ Ψ : A → B → sProp 𝕄) :
    (bigSep sa fun a => bigSep sb fun b => iprop(Φ a b ∗ Ψ a b)) = iprop((bigSep sa fun a => bigSep sb fun b => Φ a b) ∗ bigSep sa fun a => bigSep sb fun b => Ψ a b) := by
  rw [← bigSep_sep']; exact bigSep_congr fun a _ => bigSep_sep' _ _ _

theorem emps {I : Type} (s : Finset I) : (bigSep s fun _ => iprop(emp)) = (iprop(emp) : sProp 𝕄) := bigSep_emp_const s

/-- A tile's task hands back its waits in the wider form the launch theorem takes. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.WholeIdeal

end
-- ==== Proof.WholeGather1.lean ====
/-
  The SparseCore row gather of the kernel, at any float instance. Thirty-two tiles run one body: tile `s` of SparseCore
  `c` takes the 8192 row numbers from `8192 (2 s + c)` on, in sixteen chunks of 512; of each chunk it fetches the row
  numbers, gathers those rows of the first table into its row buffer and writes them out, and does the same with the
  second table. Proved here: what one chunk does, what a tile does, and what the call leaves in both results — row `r`
  of each is the row of its table that the list names at `r`.
-/
module

public import proofs.«01_k».proof.Proof.WholeSetup
public import proofs.«01_k».proof.Proof.Gather1

@[expose] public section

noncomputable section

namespace Cert.Proof.WholeIdeal.G1

open Cert.WholeIdeal Cert.WholeIdeal.Gen Cert.Proof.WholeIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The buffers of the call -/

abbrev aLoc (d : Dev nD) : Loc nD τ sig := (SparseCore.T d).loc main_v10
abbrev bLoc (d : Dev nD) : Loc nD τ sig := (SparseCore.T d).loc main_v11
abbrev iLoc (d : Dev nD) : Loc nD τ sig := (SparseCore.T d).loc main_v12
abbrev oLoc (d : Dev nD) : Loc nD τ sig := (SparseCore.T d).loc main_v13_0
abbrev pLoc (d : Dev nD) : Loc nD τ sig := (SparseCore.T d).loc main_v13_1

local notation "𝕄" => MT nD τ sig (HIx 2) (Elt F) ℕ UU ℕ
local notation "aV" => (Memref.whole main_v10_scv : Memref sig Kind.scVector Space.hbm S16384x128 EltTy.f32)
local notation "bV" => (Memref.whole main_v11_scv : Memref sig Kind.scVector Space.hbm S16384x128 EltTy.f32)
local notation "iV" => (Memref.whole main_v12_scv : Memref sig Kind.scVector Space.hbm S262144 EltTy.i32)
local notation "oV" => (Memref.whole main_v13_0_scv : Memref sig Kind.scVector Space.hbm S262144x128 EltTy.f32)
local notation "pV" => (Memref.whole main_v13_1_scv : Memref sig Kind.scVector Space.hbm S262144x128 EltTy.f32)
local notation "sV" => (Memref.whole cc1_scratch0 : Memref sig Kind.scVector Space.vmem S512 EltTy.i32)
local notation "rV" => (Memref.whole cc1_scratch1 : Memref sig Kind.scVector Space.vmem S512x128 EltTy.f32)

/-! ## The chunks -/

section Chunk

variable (L : grid1.Coords) (t : Fin k1_t1_loop.trips)

abbrev cV (L : grid1.Coords) : Fin τ.nSC := (L 0).castLE hcore1
abbrev jV (L : grid1.Coords) : Fin τ.nSub := (L 1).castLE hsub1

abbrev iCh : Memref sig .scVector .hbm S512 .i32 := (iV).slice (Rect.unit (s := S262144) (k1_off1 L t) S512.size (k1_off1_inb L t)) (fun _ => rfl)
abbrev oCh : Memref sig .scVector .hbm S512x128 .f32 := (oV).slice (Rect.unit (s := S262144x128) (k1_off2 L t) S512x128.size (k1_off2_inb L t)) (fun _ => rfl)
abbrev pCh : Memref sig .scVector .hbm S512x128 .f32 := (pV).slice (Rect.unit (s := S262144x128) (k1_off2 L t) S512x128.size (k1_off2_inb L t)) (fun _ => rfl)
abbrev aAll : Memref sig .scVector .hbm S16384x128 .f32 := (aV).slice (Rect.unit (s := S16384x128) ![0, 0] S16384x128.size inb_S16384x128_S16384x128_0_0) (fun _ => rfl)
abbrev bAll : Memref sig .scVector .hbm S16384x128 .f32 := (bV).slice (Rect.unit (s := S16384x128) ![0, 0] S16384x128.size inb_S16384x128_S16384x128_0_0) (fun _ => rfl)

/-- The elements of a result that chunk `t` of a tile writes: 512 rows, all words of each. -/
def chunk : Finset S262144x128.Idx := (Rect.unit (s := S262144x128) (k1_off2 L t) S512x128.size (k1_off2_inb L t)).set

theorem mem_chunk (x : S262144x128.Idx) :
    x ∈ chunk L t ↔ 16384 * (L 1).val + 8192 * (L 0).val + 512 * t.val ≤ (x 0).val ∧ (x 0).val < 16384 * (L 1).val + 8192 * (L 0).val + 512 * t.val + 512 :=
  Cert.Proof.Kernel.G1.mem_chunk L t x

theorem oCh_set : (oCh L t).view.set = chunk L t := by
  show ((View.whole (main_v13_0_scv : Ref sig .scVector)).slice _).set = _
  rw [View.set_slice]; exact Finset.map_refl
theorem pCh_set : (pCh L t).view.set = chunk L t := by
  show ((View.whole (main_v13_1_scv : Ref sig .scVector)).slice _).set = _
  rw [View.set_slice]; exact Finset.map_refl

/-- The row number of the list that chunk `t` reads at its place `j`. -/
theorem iCh_read (idx : S262144.Idx → Elt F .i32) (j : S512.Idx) (r : Fin 262144) (hr : r.val = 16384 * (L 1).val + 8192 * (L 0).val + 512 * t.val + (j 0).val) :
    (iCh L t).view.read (Elt F) idx j = idx (at1 r) :=
  Cert.Proof.Kernel.G1.iCh_read L t idx j r hr

/-- What the stream lands of the first table, for a list fetched from chunk `t`: the gathered rows at the chunk's places. -/
theorem gathered (tab : S16384x128.Idx → Elt F .f32) (tabv : S16384x128.Idx → Elt F .f32) (htab : ∀ x, tabv x = tab x)
    (idx : S262144.Idx → Elt F .i32) (lst : S512.Idx → Elt F .i32) (hl : lst = (iCh L t).view.read (Elt F) idx)
    (hin : ∀ x, (show BitVec 32 from lst x).toNat < S16384x128.size gathers_S16384x128_S512x128.axis)
    (hn : S512.numel = S512x128.size gathers_S16384x128_S512x128.axis') (j : S512x128.Idx) (x : S262144x128.Idx)
    (h0 : (x 0).val = 16384 * (L 1).val + 8192 * (L 0).val + 512 * t.val + (j 0).val) (h1 : (x 1).val = (j 1).val) :
    SparseCore.gatherPayload gathers_S16384x128_S512x128 tabv (SparseCore.rows lst hn hin) j = rowsOf tab idx x :=
  Cert.Proof.Kernel.G1.gathered L t tab tabv htab idx lst hl hin hn j x h0 h1

/-- All of the first table as the tile addresses it reads as the table; -/
theorem aAll_read (tab : S16384x128.Idx → Elt F .f32) (x : S16384x128.Idx) : (aAll).view.read (Elt F) tab x = tab x :=
  Cert.Proof.Kernel.G1.aAll_read tab x
/-- so does the second. -/
theorem bAll_read (tab : S16384x128.Idx → Elt F .f32) (x : S16384x128.Idx) : (bAll).view.read (Elt F) tab x = tab x :=
  Cert.Proof.Kernel.G1.bAll_read tab x

end Chunk

/-! ## One chunk -/

section Trip

variable [FloatOps F]
variable (d : Dev nD) (L : grid1.Coords) (tabA tabB : S16384x128.Idx → Elt F .f32) (idx : S262144.Idx → Elt F .i32)
variable (q : PosShare TreeShare) (O : CellTallies nD τ sig (HIx 2)) (W : Waits sig (HIx 2))

abbrev thr : Thread nD τ := V d (cV L) (jV L)

/-- What a tile holds between its chunks beside the results: the tables' and the list's shares, its two scratch buffers,
    its four semaphores at zero, what it owes. -/
def core : sProp 𝕄 :=
  iprop(Transfers.MayWaits (thr d L) (none : HIx 2) O
    ∗ ((aV).view.loc (thr d L) ↦{q} tabA) ∗ ((bV).view.loc (thr d L) ↦{q} tabB) ∗ ((iV).view.loc (thr d L) ↦{q} idx)
    ∗ (∃ f, (sV).view.loc (thr d L) ↦{fullShare} f) ∗ (∃ f, (rV).view.loc (thr d L) ↦{fullShare} f)
    ∗ semVal (thr d L, SemLoc.dma cc1_scratch2.sem) 0 ∗ semVal (thr d L, SemLoc.dma cc1_scoped0.sem) 0
    ∗ semVal (thr d L, SemLoc.dma cc1_scoped1.sem) 0 ∗ semVal (thr d L, SemLoc.dma cc1_scoped2.sem) 0
    ∗ ∃ W', ⌜∀ p ∈ W', p ∈ W ∨ p.2 = none⌝ ∗ owes (thr d L) O W')

theorem aAll_set : (aAll).view.set = Finset.univ := by
  show ((View.whole (main_v10_scv : Ref sig .scVector)).slice _).set = _
  rw [View.set_slice, Rect.set_eq_univ_of_whole _ (fun a => ⟨by match a with | 0 => rfl | 1 => rfl, rfl, rfl⟩)]
  exact Finset.map_refl
theorem bAll_set : (bAll).view.set = Finset.univ := by
  show ((View.whole (main_v11_scv : Ref sig .scVector)).slice _).set = _
  rw [View.set_slice, Rect.set_eq_univ_of_whole _ (fun a => ⟨by match a with | 0 => rfl | 1 => rfl, rfl, rfl⟩)]
  exact Finset.map_refl
/-- All of a table, under the two spellings of the slice that is everything. -/
theorem pts_aAll (f : S16384x128.Idx → Elt F .f32) :
    ((aV).view.loc (thr d L) ↦{q} f : sProp 𝕄) = (aAll).view.loc (thr d L) ↦[(aAll).view.set]{q} f := by rw [aAll_set]
theorem pts_bAll (f : S16384x128.Idx → Elt F .f32) :
    ((bV).view.loc (thr d L) ↦{q} f : sProp 𝕄) = (bAll).view.loc (thr d L) ↦[(bAll).view.set]{q} f := by rw [bAll_set]

/-- A chunk of the first result written whole with the gathered rows holds the gathered rows; -/
theorem out_o (t : Fin k1_t1_loop.trips) (f : S262144x128.Idx → Elt F .f32) (w : S512x128.Idx → Elt F .f32) (g : S262144x128.Idx → Elt F .f32)
    (hw : ∀ (j : S512x128.Idx) (x : S262144x128.Idx), (x 0).val = 16384 * (L 1).val + 8192 * (L 0).val + 512 * t.val + (j 0).val → (x 1).val = (j 1).val → w j = g x) :
    ((oCh L t).view.loc (thr d L) ↦[(oCh L t).view.set]{fullShare} (oCh L t).view.writes (Elt F) f [⟨Rect.whole S512x128, w⟩] : sProp 𝕄)
      = (oCh L t).view.loc (thr d L) ↦[(oCh L t).view.set]{fullShare} g := by
  refine pointsTo_congr fun x hx => ?_
  obtain ⟨j, -, rfl⟩ := Finset.mem_map.mp hx
  rw [← View.write_univ_eq_writes_whole]
  refine (View.write_emb_of_mem (v := (oCh L t).view) _ w (Finset.mem_univ j)).trans ?_
  refine (cast_eq _ _).trans (hw j _ ?_ ?_)
  · rw [show (oCh L t).view.emb j 0 = (Rect.unit (s := S262144x128) (k1_off2 L t) S512x128.size (k1_off2_inb L t)).emb j 0 from rfl, Rect.emb_apply]
    show k1_off2 L t 0 + 1 * (j 0).val = _
    rw [k1_off2_eq]; simp
  · rw [show (oCh L t).view.emb j 1 = (Rect.unit (s := S262144x128) (k1_off2 L t) S512x128.size (k1_off2_inb L t)).emb j 1 from rfl, Rect.emb_apply]
    show k1_off2 L t 1 + 1 * (j 1).val = _
    rw [k1_off2_eq]; simp
/-- so does one of the second. -/
theorem out_p (t : Fin k1_t1_loop.trips) (f : S262144x128.Idx → Elt F .f32) (w : S512x128.Idx → Elt F .f32) (g : S262144x128.Idx → Elt F .f32)
    (hw : ∀ (j : S512x128.Idx) (x : S262144x128.Idx), (x 0).val = 16384 * (L 1).val + 8192 * (L 0).val + 512 * t.val + (j 0).val → (x 1).val = (j 1).val → w j = g x) :
    ((pCh L t).view.loc (thr d L) ↦[(pCh L t).view.set]{fullShare} (pCh L t).view.writes (Elt F) f [⟨Rect.whole S512x128, w⟩] : sProp 𝕄)
      = (pCh L t).view.loc (thr d L) ↦[(pCh L t).view.set]{fullShare} g := by
  refine pointsTo_congr fun x hx => ?_
  obtain ⟨j, -, rfl⟩ := Finset.mem_map.mp hx
  rw [← View.write_univ_eq_writes_whole]
  refine (View.write_emb_of_mem (v := (pCh L t).view) _ w (Finset.mem_univ j)).trans ?_
  refine (cast_eq _ _).trans (hw j _ ?_ ?_)
  · rw [show (pCh L t).view.emb j 0 = (Rect.unit (s := S262144x128) (k1_off2 L t) S512x128.size (k1_off2_inb L t)).emb j 0 from rfl, Rect.emb_apply]
    show k1_off2 L t 0 + 1 * (j 0).val = _
    rw [k1_off2_eq]; simp
  · rw [show (pCh L t).view.emb j 1 = (Rect.unit (s := S262144x128) (k1_off2 L t) S512x128.size (k1_off2_inb L t)).emb j 1 from rfl, Rect.emb_apply]
    show k1_off2 L t 1 + 1 * (j 1).val = _
    rw [k1_off2_eq]; simp

/-- A stream's rows are worth the row buffer's whole credit. -/
theorem credit : ∀ h : S16384x128.Gathers 0 S512x128, ∑ j, ((rV).slice (S512x128.rowRect h.axis' j) (S512x128.stride_rowRect h.axis' j)).view.dmaCredit
      = (rV).view.dmaCredit := by decide

set_option maxHeartbeats 4000000 in
/-- One chunk: both results' 512 rows go from anything to the rows that the list names. -/
theorem trip (hidx : InRows idx) (t : Fin k1_t1_loop.trips) :
    iprop(core d L tabA tabB idx q O W ∗ (∃ f, (oCh L t).view.loc (thr d L) ↦[(oCh L t).view.set]{fullShare} f)
        ∗ ∃ f, (pCh L t).view.loc (thr d L) ↦[(pCh L t).view.set]{fullShare} f)
      ⊢ wp frame (wpE (defs₀ (F := F)) 𝒱₀ (thr d L) none) Set.univ
          (k1_t1_body L aV (Memref.isWhole_whole _) bV (Memref.isWhole_whole _) iV (Memref.isWhole_whole _) oV (Memref.isWhole_whole _) pV (Memref.isWhole_whole _)
            sV (Memref.isWhole_whole _) rV (Memref.isWhole_whole _) cc1_scratch2 cc1_scoped0 cc1_scoped1 cc1_scoped2 t ⟨⟩)
          fun _ => iprop(core d L tabA tabB idx q O W ∗ ((oCh L t).view.loc (thr d L) ↦[(oCh L t).view.set]{fullShare} rowsOf tabA idx)
            ∗ ((pCh L t).view.loc (thr d L) ↦[(pCh L t).view.set]{fullShare} rowsOf tabB idx)) := by
  unfold core k1_t1_body
  iintro ⟨⟨#Hmw, Ha, Hb, Hi, ⟨%fs, Hs⟩, ⟨%fr, Hr⟩, HsemG, HsemA, HsemB, HsemC, %W', %hW', HO⟩, ⟨%fo, Ho⟩, %fp, Hp⟩
  sl_exec
  -- the fetched list, and the two scratch buffers over their own elements
  have hrs : (rV).view.set = Finset.univ := View.set_whole _
  have hss : (sV).view.set = Finset.univ := View.set_whole _
  have hl : View.write (Elt F) (sV).view fs (trip.sl.dma0 L idx t) Finset.univ = (iCh L t).view.read (Elt F) idx := View.write_whole_univ _ _ _
  have hin : ∀ x, ((sV).view.read (Elt F) ((iCh L t).view.read (Elt F) idx) x).toNat < S16384x128.size gathers_S16384x128_S512x128.axis := by
    intro x
    rw [show (sV).view.read (Elt F) ((iCh L t).view.read (Elt F) idx) x = idx ((iCh L t).view.emb x) from
      ((View.read_apply _ _).trans (cast_eq _ _)).trans ((View.read_apply _ _).trans (cast_eq _ _))]
    exact hidx _
  ihave Hs0 := (Entails.of_eq (show ((sV).view.loc (thr d L) ↦{fullShare} View.write (Elt F) (sV).view fs (trip.sl.dma0 L idx t) Finset.univ : sProp 𝕄)
      = (sV).view.loc (thr d L) ↦[(sV).view.set]{fullShare} (iCh L t).view.read (Elt F) idx by rw [hss, hl])) $$ Hs
  ihave Hr0 := (Entails.of_eq (show ((rV).view.loc (thr d L) ↦{fullShare} fr : sProp 𝕄)
      = (rV).view.loc (thr d L) ↦[(rV).view.set]{fullShare} fr by rw [hrs])) $$ Hr
  -- the first table's gather and its wait
  ihave Has := (Entails.of_eq (pts_aAll d L q tabA)) $$ Ha
  iapply (SparseCore.wp_indirectGatherLocal countersEmb 𝒱₀ (thr d L) none (hg := gathers_S16384x128_S512x128) (default : HIx 2)
      (rV).view.dmaCredit (credit _) (by decide) hin) $$ [Has Hr0 Hs0 HsemG]
  · isplitl [Has]; · iexact Has
    isplitl [Hr0]; · iexact Hr0
    isplitl [Hs0]; · iexact Hs0
    iexact HsemG
  iintro Hfl
  sl_exec
  iapply (Transfers.wp_waitLocalO countersEmb 𝒱₀ (thr d L) none (default : HIx 2) (rfl : (rV).view.dmaCredit = _)) $$ [Hfl HO]
  · isplitl [Hfl]; · iexact Hfl
    isplitl [HO]; · iexact HO
    iapply (Transfers.MayWaits.elim (SemLoc.dma cc1_scratch2.sem)) $$ Hmw
  iintro ⟨⟨Hr0, Has, Hs0⟩, HsemG, HO⟩
  ihave Ha := (Entails.of_eq (pts_aAll d L q tabA).symm) $$ Has
  ihave Hr1 := (Entails.of_eq (show ((rV).view.loc (thr d L) ↦[(rV).view.set]{fullShare} _ : sProp 𝕄)
      = (rV).view.loc (thr d L) ↦{fullShare} _ by rw [hrs])) $$ Hr0
  sl_exec
  sl_step
  have hw1 : ∀ (j : S512x128.Idx) (x : S262144x128.Idx), (x 0).val = 16384 * (L 1).val + 8192 * (L 0).val + 512 * t.val + (j 0).val → (x 1).val = (j 1).val →
      trip.sl.dma0_1 d L tabA idx t fr hin j = rowsOf tabA idx x := by
    intro j x h0 h1
    refine Eq.trans ?_ (gathered L t tabA _ (aAll_read tabA) idx _ rfl hin rfl j x h0 h1)
    unfold trip.sl.dma0_1
    rw [View.write_whole_univ]; rfl
  have hw2 : ∀ (j : S512x128.Idx) (x : S262144x128.Idx), (x 0).val = 16384 * (L 1).val + 8192 * (L 0).val + 512 * t.val + (j 0).val → (x 1).val = (j 1).val →
      trip.sl.dma0_2 d L tabA tabB idx t fr hin j = rowsOf tabB idx x := by
    intro j x h0 h1
    refine Eq.trans ?_ (gathered L t tabB _ (bAll_read tabB) idx _ rfl hin rfl j x h0 h1)
    unfold trip.sl.dma0_2
    rw [← View.write_univ_eq_writes_whole]
    simp only [View.writes_nil, View.write_whole_univ]
    rfl
  ihave Hs3 := (Entails.of_eq (show ((sV).view.loc (thr d L) ↦[(sV).view.set]{fullShare} (iCh L t).view.read (Elt F) idx : sProp 𝕄)
      = (sV).view.loc (thr d L) ↦{fullShare} (iCh L t).view.read (Elt F) idx by rw [hss])) $$ Hs0
  isplitl [Ha Hb Hi Hs3 Hr1 HsemG HsemA HsemB HsemC HO]
  · isplitr; · iexact Hmw
    isplitl [Ha]; · iexact Ha
    isplitl [Hb]; · iexact Hb
    isplitl [Hi]; · iexact Hi
    isplitl [Hs3]; · iexists _; iexact Hs3
    isplitl [Hr1]; · iexists _; iexact Hr1
    isplitl [HsemG]; · iexact HsemG
    isplitl [HsemA]; · iexact HsemA
    isplitl [HsemB]; · iexact HsemB
    isplitl [HsemC]; · iexact HsemC
    iexists _; isplitr
    swap; · iexact HO
    ipureintro; intro p hp
    iterate 5 (rcases Finset.mem_insert.mp hp with hp | hp; · exact .inr (hp ▸ rfl))
    exact hW' p hp
  isplitl [Ho]
  · iapply (Entails.of_eq (out_o d L t fo _ _ hw1)); iexact Ho
  · iapply (Entails.of_eq (out_p d L t fp _ _ hw2)); iexact Hp

/-! ## A tile -/

theorem trips_eq : k1_t1_loop.trips = 16 := by decide

/-- Chunk `t` of the results before trip `k`: the gathered rows when trip `t` is behind, anything when not. -/
def oSt (k : Nat) (t : Fin k1_t1_loop.trips) : sProp 𝕄 :=
  if t.val < k then iprop(oLoc d ↦[chunk L t]{fullShare} rowsOf tabA idx) else iprop(∃ f, oLoc d ↦[chunk L t]{fullShare} f)
def pSt (k : Nat) (t : Fin k1_t1_loop.trips) : sProp 𝕄 :=
  if t.val < k then iprop(pLoc d ↦[chunk L t]{fullShare} rowsOf tabB idx) else iprop(∃ f, pLoc d ↦[chunk L t]{fullShare} f)

/-- The loop's invariant: `core`, and every chunk of both results as it is before trip `k`. -/
def inv (k : Nat) (_ : PUnit) : sProp 𝕄 :=
  iprop(core d L tabA tabB idx q O W ∗ (bigSep Finset.univ fun t => oSt d L tabA idx k t) ∗ bigSep Finset.univ fun t => pSt d L tabB idx k t)

theorem oSt_rest (k : Fin k1_t1_loop.trips) :
    (bigSep (Finset.univ.erase k) fun t => oSt d L tabA idx k.val t) = (bigSep (Finset.univ.erase k) fun t => oSt d L tabA idx (k.val + 1) t : sProp 𝕄) := by
  refine bigSep_congr fun t ht => ?_
  have hne : t.val ≠ k.val := fun e => (Finset.mem_erase.mp ht).1 (Fin.ext e)
  unfold oSt
  by_cases h : t.val < k.val
  · rw [if_pos h, if_pos (by omega)]
  · rw [if_neg h, if_neg (by omega)]
theorem pSt_rest (k : Fin k1_t1_loop.trips) :
    (bigSep (Finset.univ.erase k) fun t => pSt d L tabB idx k.val t) = (bigSep (Finset.univ.erase k) fun t => pSt d L tabB idx (k.val + 1) t : sProp 𝕄) := by
  refine bigSep_congr fun t ht => ?_
  have hne : t.val ≠ k.val := fun e => (Finset.mem_erase.mp ht).1 (Fin.ext e)
  unfold pSt
  by_cases h : t.val < k.val
  · rw [if_pos h, if_pos (by omega)]
  · rw [if_neg h, if_neg (by omega)]

theorem oSt_zero : (bigSep Finset.univ fun t => iprop(∃ f, oLoc d ↦[chunk L t]{fullShare} f)) = (bigSep Finset.univ fun t => oSt d L tabA idx 0 t : sProp 𝕄) :=
  bigSep_congr fun t _ => by unfold oSt; rw [if_neg (Nat.not_lt_zero _)]
theorem pSt_zero : (bigSep Finset.univ fun t => iprop(∃ f, pLoc d ↦[chunk L t]{fullShare} f)) = (bigSep Finset.univ fun t => pSt d L tabB idx 0 t : sProp 𝕄) :=
  bigSep_congr fun t _ => by unfold pSt; rw [if_neg (Nat.not_lt_zero _)]
theorem oSt_end : (bigSep Finset.univ fun t => oSt d L tabA idx k1_t1_loop.trips t) = (bigSep Finset.univ fun t => oLoc d ↦[chunk L t]{fullShare} rowsOf tabA idx : sProp 𝕄) :=
  bigSep_congr fun t _ => by unfold oSt; rw [if_pos t.isLt]
theorem pSt_end : (bigSep Finset.univ fun t => pSt d L tabB idx k1_t1_loop.trips t) = (bigSep Finset.univ fun t => pLoc d ↦[chunk L t]{fullShare} rowsOf tabB idx : sProp 𝕄) :=
  bigSep_congr fun t _ => by unfold pSt; rw [if_pos t.isLt]

theorem pts_o (t : Fin k1_t1_loop.trips) (f : S262144x128.Idx → Elt F .f32) :
    ((oCh L t).view.loc (thr d L) ↦[(oCh L t).view.set]{fullShare} f : sProp 𝕄) = oLoc d ↦[chunk L t]{fullShare} f := by rw [oCh_set]
theorem pts_p (t : Fin k1_t1_loop.trips) (f : S262144x128.Idx → Elt F .f32) :
    ((pCh L t).view.loc (thr d L) ↦[(pCh L t).view.set]{fullShare} f : sProp 𝕄) = pLoc d ↦[chunk L t]{fullShare} f := by rw [pCh_set]

/-- One trip takes the invariant on. -/
theorem inv_step (hidx : InRows idx) (k : Fin k1_t1_loop.trips) :
    inv d L tabA tabB idx q O W k.val ⟨⟩
      ⊢ wp frame (wpE (defs₀ (F := F)) 𝒱₀ (thr d L) none) Set.univ
          (k1_t1_body L aV (Memref.isWhole_whole _) bV (Memref.isWhole_whole _) iV (Memref.isWhole_whole _) oV (Memref.isWhole_whole _) pV (Memref.isWhole_whole _)
            sV (Memref.isWhole_whole _) rV (Memref.isWhole_whole _) cc1_scratch2 cc1_scoped0 cc1_scoped1 cc1_scoped2 k ⟨⟩)
          fun _ => inv d L tabA tabB idx q O W (k.val + 1) ⟨⟩ := by
  unfold inv
  rw [SparseCore.bigSep_erase' (Finset.mem_univ k) (Φ := fun t => oSt d L tabA idx k.val t), SparseCore.bigSep_erase' (Finset.mem_univ k) (Φ := fun t => pSt d L tabB idx k.val t),
    SparseCore.bigSep_erase' (Finset.mem_univ k) (Φ := fun t => oSt d L tabA idx (k.val + 1) t), SparseCore.bigSep_erase' (Finset.mem_univ k) (Φ := fun t => pSt d L tabB idx (k.val + 1) t),
    ← oSt_rest, ← pSt_rest]
  generalize (bigSep (Finset.univ.erase k) fun t => oSt d L tabA idx k.val t) = Ro
  generalize (bigSep (Finset.univ.erase k) fun t => pSt d L tabB idx k.val t) = Rp
  unfold oSt pSt
  rw [if_neg (lt_irrefl _), if_neg (lt_irrefl _), if_pos (Nat.lt_succ_self _), if_pos (Nat.lt_succ_self _)]
  refine BI.Entails.trans ?pre ((sep_mono_left (Q := iprop(Ro ∗ Rp)) (trip d L tabA tabB idx q O W hidx k)).trans
    ((wp_frame_r frame _ _ (R := iprop(Ro ∗ Rp))).trans (wp_mono frame _ _ fun _ => ?post)))
  case pre =>
    show (_ : sProp 𝕄) ⊢ _
    iintro ⟨Hc, ⟨⟨%fo, Ho⟩, Hro⟩, ⟨%fp, Hp⟩, Hrp⟩
    isplitr [Hro Hrp]
    · isplitl [Hc]; · iexact Hc
      isplitl [Ho]; · iexists fo; iapply (Entails.of_eq (pts_o d L k fo).symm); iexact Ho
      iexists fp; iapply (Entails.of_eq (pts_p d L k fp).symm); iexact Hp
    · isplitl [Hro] <;> iassumption
  case post =>
    show (_ : sProp 𝕄) ⊢ _
    iintro ⟨⟨Hc, Ho, Hp⟩, Hro, Hrp⟩
    isplitl [Hc]; · iexact Hc
    isplitl [Ho Hro]
    · isplitl [Ho]; · iapply (Entails.of_eq (pts_o d L k _)); iexact Ho
      iexact Hro
    · isplitl [Hp]; · iapply (Entails.of_eq (pts_p d L k _)); iexact Hp
      iexact Hrp

end Trip

/-! ## What the call's handshakes carry -/

section Call

variable [FloatOps F]
/- the tables and the list, on each device, when the call starts -/
variable (tA tB : Dev nD → S16384x128.Idx → Elt F .f32) (ix : Dev nD → S262144.Idx → Elt F .i32)

/-- SparseCore `c`'s tile `s`. -/
def tile (c : Fin 2) (s : Fin 16) : grid1.Coords :=
  fun | 0 => c | 1 => s | ⟨_ + 2, h⟩ => absurd h (Nat.not_lt.2 (Nat.le_add_left _ _))

/-- What a tile is handed: its shares of the tables and the list, its chunks of the results at anything. -/
def tileIn (d : Dev nD) (c : Fin 2) (s : Fin 16) : sProp 𝕄 :=
  iprop((aLoc d ↦{lq c s} tA d) ∗ (bLoc d ↦{lq c s} tB d) ∗ (iLoc d ↦{lq c s} ix d)
    ∗ (bigSep Finset.univ fun t => iprop(∃ f, oLoc d ↦[chunk (tile c s) t]{fullShare} f))
    ∗ bigSep Finset.univ fun t => iprop(∃ f, pLoc d ↦[chunk (tile c s) t]{fullShare} f))
/-- What it hands back: the shares, its chunks at the gathered rows. -/
def tileOut (d : Dev nD) (c : Fin 2) (s : Fin 16) : sProp 𝕄 :=
  iprop((aLoc d ↦{lq c s} tA d) ∗ (bLoc d ↦{lq c s} tB d) ∗ (iLoc d ↦{lq c s} ix d)
    ∗ (bigSep Finset.univ fun t => oLoc d ↦[chunk (tile c s) t]{fullShare} rowsOf (tA d) (ix d))
    ∗ bigSep Finset.univ fun t => pLoc d ↦[chunk (tile c s) t]{fullShare} rowsOf (tB d) (ix d))

instance tileIn_storable (d : Dev nD) (c : Fin 2) (s : Fin 16) : BI.Storable (upEmb : UEmb _ 𝕄) (tileIn tA tB ix d c s) := by
  unfold tileIn; infer_instance
instance tileOut_storable (d : Dev nD) (c : Fin 2) (s : Fin 16) : BI.Storable (upEmb : UEmb _ 𝕄) (tileOut tA tB ix d c s) := by
  unfold tileOut; infer_instance

/-! ### The task of a tile -/

theorem ownSems0_V (d : Dev nD) (L : grid1.Coords) :
    (ownSems0 (thr d L) : sProp 𝕄)
      = iprop(semVal (thr d L, SemLoc.dma cc1_scratch2.sem) 0 ∗ semVal (thr d L, SemLoc.dma cc1_scoped0.sem) 0
          ∗ semVal (thr d L, SemLoc.dma cc1_scoped1.sem) 0 ∗ semVal (thr d L, SemLoc.dma cc1_scoped2.sem) 0
          ∗ bigSep (((((ownCells (thr d L)).erase (thr d L, SemLoc.dma cc1_scratch2.sem)).erase (thr d L, SemLoc.dma cc1_scoped0.sem)).erase
              (thr d L, SemLoc.dma cc1_scoped1.sem)).erase (thr d L, SemLoc.dma cc1_scoped2.sem)) fun g => semVal g 0) := by
  have own : ∀ sm : SemLoc sig, sm.isScoped .scVector = true → ((thr d L, sm) : GSem nD τ sig) ∈ ownCells (thr d L) :=
    fun sm h => mem_ownCells.mpr ⟨rfl, h⟩
  have ne : ∀ a b : SemLoc sig, a ≠ b → ((thr d L, a) : GSem nD τ sig) ≠ (thr d L, b) := fun a b h e => h (Prod.ext_iff.mp e).2
  unfold SparseCore.Cfg.ownSems0
  rw [SparseCore.bigSep_erase' (own (SemLoc.dma cc1_scratch2.sem) (by decide)),
    SparseCore.bigSep_erase' (Finset.mem_erase.mpr ⟨ne _ _ (by decide), own (SemLoc.dma cc1_scoped0.sem) (by decide)⟩),
    SparseCore.bigSep_erase' (Finset.mem_erase.mpr ⟨ne _ _ (by decide), Finset.mem_erase.mpr ⟨ne _ _ (by decide), own (SemLoc.dma cc1_scoped1.sem) (by decide)⟩⟩),
    SparseCore.bigSep_erase' (Finset.mem_erase.mpr ⟨ne _ _ (by decide), Finset.mem_erase.mpr ⟨ne _ _ (by decide),
      Finset.mem_erase.mpr ⟨ne _ _ (by decide), own (SemLoc.dma cc1_scoped2.sem) (by decide)⟩⟩⟩)]

theorem ownBufs_V (d : Dev nD) (L : grid1.Coords) :
    (ownBufs (thr d L) : sProp 𝕄)
      = iprop((∃ f, (thr d L).loc cc1_scratch0 ↦{fullShare} f) ∗ (∃ f, (thr d L).loc cc1_scratch1 ↦{fullShare} f)
          ∗ bigSep (((ownRefs (τ := τ) (.scVector (cV L) (jV L))).erase ((Proc.scVector (cV L) (jV L)).devRef cc1_scratch0)).erase
              ((Proc.scVector (cV L) (jV L)).devRef cc1_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩)]

set_option maxHeartbeats 1000000 in
/-- A tile's whole task: from what it is handed to what it hands back. -/
theorem tile_body (hix : ∀ d, InRows (ix d)) (d : Dev nD) (c : Fin 2) (s : Fin 16) (O : CellTallies nD τ sig (HIx 2)) (W : Waits sig (HIx 2)) (hO : ∀ g, O g none = 0) :
    iprop(levAts (K (F := F)).L (K (F := F)).lev ∗ emp ∗ tileIn tA tB ix d c s
        ∗ scopedBufs (thr d (tile c s)) ∗ scopedSems0 (thr d (tile c s)) ∗ owes (thr d (tile c s)) O W)
      ⊢ wp frame (wpE (defs₀ (F := F)) 𝒱₀ (thr d (tile c s)) none) Set.univ
          (cc1_gk (tile c s) aV (Memref.isWhole_whole _) bV (Memref.isWhole_whole _) iV (Memref.isWhole_whole _) oV (Memref.isWhole_whole _) pV (Memref.isWhole_whole _)
            sV (Memref.isWhole_whole _) rV (Memref.isWhole_whole _) cc1_scratch2 cc1_scoped0 cc1_scoped1 cc1_scoped2)
          fun _ => iprop(tileOut tA tB ix d c s ∗ scopedBufs (thr d (tile c s)) ∗ scopedSems0 (thr d (tile c s))
            ∗ ∃ W', ⌜∀ p ∈ W', p ∈ W ∨ p.2 = none⌝ ∗ owes (thr d (tile c s)) O W') := by
  simp only [cc1_gk_eq_skeleton]; unfold cc1_gk_skel
  rw [(K (F := F)).scopedBufs_V facts d (cV (tile c s)) (jV (tile c s)), SparseCore.Cfg.scopedSems0_V (Val := Elt F) d (cV (tile c s)) (jV (tile c s)), ownSems0_V, ownBufs_V]
  unfold tileIn tileOut
  iintro ⟨#Hlv, -, ⟨Ha, Hb, Hi, Ho, Hp⟩, ⟨⟨%fs, Hs⟩, ⟨%fr, Hr⟩, Hbufs⟩, ⟨HsemG, HsemA, HsemB, HsemC, Hsems⟩, HO⟩
  ihave Hmw := (show levAts (K (F := F)).L (K (F := F)).lev ⊢ Transfers.MayWaits (thr d (tile c s)) (none : HIx 2) O from
    (K (F := F)).mayWaits_none (thr := thr d (tile c s)) hO) $$ Hlv
  sl_for (inv d (tile c s) (tA d) (tB d) (ix d) (lq c s) O W) $$ [Hmw Ha Hb Hi Ho Hp Hs Hr HsemG HsemA HsemB HsemC HO]
  case region =>
    intro k _
    exact inv_step d (tile c s) (tA d) (tB d) (ix d) (lq c s) O W (hix d) k
  · unfold inv core
    isplitr [Ho Hp]
    · isplitl [Hmw]; · iexact Hmw
      isplitl [Ha]; · iexact Ha
      isplitl [Hb]; · iexact Hb
      isplitl [Hi]; · iexact Hi
      isplitl [Hs]; · iexists fs; iexact Hs
      isplitl [Hr]; · iexists fr; iexact Hr
      isplitl [HsemG]; · iexact HsemG
      isplitl [HsemA]; · iexact HsemA
      isplitl [HsemB]; · iexact HsemB
      isplitl [HsemC]; · iexact HsemC
      iexists W; isplitr
      · ipureintro; exact fun p hp => .inl hp
      · iexact HO
    · isplitl [Ho]
      · iapply (Entails.of_eq (oSt_zero d (tile c s) (tA d) (ix d))); iexact Ho
      · iapply (Entails.of_eq (pSt_zero d (tile c s) (tB d) (ix d))); iexact Hp
  iintro %_ HI
  unfold inv core
  icases HI with ⟨⟨-, Ha, Hb, Hi, ⟨%fs', Hs⟩, ⟨%fr', Hr⟩, HsemG, HsemA, HsemB, HsemC, %W', %hW', HO⟩, Ho, Hp⟩
  sl_step
  isplitl [Ha Hb Hi Ho Hp]
  · isplitl [Ha]; · iexact Ha
    isplitl [Hb]; · iexact Hb
    isplitl [Hi]; · iexact Hi
    isplitl [Ho]
    · iapply (Entails.of_eq (oSt_end d (tile c s) (tA d) (ix d))); iexact Ho
    · iapply (Entails.of_eq (pSt_end d (tile c s) (tB d) (ix d))); iexact Hp
  isplitl [Hs Hr Hbufs]
  · isplitl [Hs]; · iexists _; iexact Hs
    isplitl [Hr]; · iexists _; iexact Hr
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists W'; isplitr
  · ipureintro; exact hW'
  · iexact HO

theorem defs₀_vector (c : Fin τ.nSC) (s : Fin τ.nSub) :
    defs₀ (F := F) (.scVector c s) 1 ()
      = SparseCore.onTile hcore1 hsub1 (fun c s => cc1_gk (tile c s)
          aV (Memref.isWhole_whole _) bV (Memref.isWhole_whole _) iV (Memref.isWhole_whole _) oV (Memref.isWhole_whole _) pV (Memref.isWhole_whole _)
          sV (Memref.isWhole_whole _) rV (Memref.isWhole_whole _) cc1_scratch2 cc1_scoped0 cc1_scoped1 cc1_scoped2) ⟨⟩ c s := rfl

/-! ### The whole arrays and the tiles' parts -/

/-- The chunks of a result, by SparseCore, tile and trip: no two meet, -/
theorem chunks_disjoint : ∀ u ∈ (Finset.univ : Finset (Fin 2 × Fin 16 × Fin k1_t1_loop.trips)), ∀ v ∈ (Finset.univ : Finset (Fin 2 × Fin 16 × Fin k1_t1_loop.trips)),
    u ≠ v → Disjoint (chunk (tile u.1 u.2.1) u.2.2) (chunk (tile v.1 v.2.1) v.2.2) :=
  Cert.Proof.Kernel.G1.chunks_disjoint

/-- and every row is in one. -/
theorem chunks_cover : (Finset.univ : Finset (Fin 2 × Fin 16 × Fin k1_t1_loop.trips)).biUnion (fun u => chunk (tile u.1 u.2.1) u.2.2) = Finset.univ :=
  Cert.Proof.Kernel.G1.chunks_cover

theorem o_chunks (d : Dev nD) (f : S262144x128.Idx → Elt F .f32) :
    (oLoc d ↦{fullShare} f : sProp 𝕄) = bigSep Finset.univ fun c : Fin 2 => bigSep Finset.univ fun s : Fin 16 => bigSep Finset.univ fun t => oLoc d ↦[chunk (tile c s) t]{fullShare} f := by
  have h := pointsTo_biUnion (ℓ := oLoc d) (q := fullShare) (f := f) (Ix := HIx 2) (Name := ℕ) (U := UU) (Lvl := ℕ) Finset.univ (fun u : Fin 2 × Fin 16 × Fin k1_t1_loop.trips => chunk (tile u.1 u.2.1) u.2.2) chunks_disjoint
  rw [chunks_cover, bigSep_univ_prod] at h
  refine h.trans (bigSep_congr fun c _ => ?_)
  rw [bigSep_univ_prod]
theorem p_chunks (d : Dev nD) (f : S262144x128.Idx → Elt F .f32) :
    (pLoc d ↦{fullShare} f : sProp 𝕄) = bigSep Finset.univ fun c : Fin 2 => bigSep Finset.univ fun s : Fin 16 => bigSep Finset.univ fun t => pLoc d ↦[chunk (tile c s) t]{fullShare} f := by
  have h := pointsTo_biUnion (ℓ := pLoc d) (q := fullShare) (f := f) (Ix := HIx 2) (Name := ℕ) (U := UU) (Lvl := ℕ) Finset.univ (fun u : Fin 2 × Fin 16 × Fin k1_t1_loop.trips => chunk (tile u.1 u.2.1) u.2.2) chunks_disjoint
  rw [chunks_cover, bigSep_univ_prod] at h
  refine h.trans (bigSep_congr fun c _ => ?_)
  rw [bigSep_univ_prod]

/-- The five arrays whole, the results at anything, are what the tiles are handed; -/
theorem deal (d : Dev nD) (fo fp : S262144x128.Idx → Elt F .f32) :
    iprop((aLoc d ↦{fullShare} tA d) ∗ (bLoc d ↦{fullShare} tB d) ∗ (iLoc d ↦{fullShare} ix d) ∗ (oLoc d ↦{fullShare} fo) ∗ pLoc d ↦{fullShare} fp)
      ⊢ (bigSep Finset.univ fun c : Fin 2 => bigSep Finset.univ fun s : Fin 16 => tileIn tA tB ix d c s : sProp 𝕄) := by
  unfold tileIn
  rw [bigSep_sep₂, bigSep_sep₂, bigSep_sep₂, bigSep_sep₂, ← shares, ← shares, ← shares, o_chunks, p_chunks]
  have ho : (bigSep Finset.univ fun c : Fin 2 => bigSep Finset.univ fun s : Fin 16 => bigSep Finset.univ fun t => (oLoc d ↦[chunk (tile c s) t]{fullShare} fo : sProp 𝕄))
      ⊢ bigSep Finset.univ fun c : Fin 2 => bigSep Finset.univ fun s : Fin 16 => bigSep Finset.univ fun t => iprop(∃ f, oLoc d ↦[chunk (tile c s) t]{fullShare} f) := by
    refine bigSep_mono fun c _ => bigSep_mono fun s _ => bigSep_mono fun t _ => ?_
    show (_ : sProp 𝕄) ⊢ _
    iintro H; iexists fo; iexact H
  have hp : (bigSep Finset.univ fun c : Fin 2 => bigSep Finset.univ fun s : Fin 16 => bigSep Finset.univ fun t => (pLoc d ↦[chunk (tile c s) t]{fullShare} fp : sProp 𝕄))
      ⊢ bigSep Finset.univ fun c : Fin 2 => bigSep Finset.univ fun s : Fin 16 => bigSep Finset.univ fun t => iprop(∃ f, pLoc d ↦[chunk (tile c s) t]{fullShare} f) := by
    refine bigSep_mono fun c _ => bigSep_mono fun s _ => bigSep_mono fun t _ => ?_
    show (_ : sProp 𝕄) ⊢ _
    iintro H; iexists fp; iexact H
  iintro ⟨Ha, Hb, Hi, Ho, Hp⟩
  isplitl [Ha]; · iexact Ha
  isplitl [Hb]; · iexact Hb
  isplitl [Hi]; · iexact Hi
  isplitl [Ho]; · iapply ho; iexact Ho
  iapply hp; iexact Hp

/-- and what they hand back is the five arrays whole, the results at the gathered rows. -/
theorem undeal (d : Dev nD) :
    (bigSep Finset.univ fun c : Fin 2 => bigSep Finset.univ fun s : Fin 16 => tileOut tA tB ix d c s : sProp 𝕄)
      = iprop((aLoc d ↦{fullShare} tA d) ∗ (bLoc d ↦{fullShare} tB d) ∗ (iLoc d ↦{fullShare} ix d)
          ∗ (oLoc d ↦{fullShare} rowsOf (tA d) (ix d)) ∗ pLoc d ↦{fullShare} rowsOf (tB d) (ix d)) := by
  unfold tileOut
  rw [bigSep_sep₂, bigSep_sep₂, bigSep_sep₂, bigSep_sep₂, ← shares, ← shares, ← shares, ← o_chunks, ← p_chunks]

end Call

end Cert.Proof.WholeIdeal.G1

end
-- ==== Proof.WholeGather2.lean ====
/-
  The second gather: a SparseCore call whose thirty-two tiles each fetch the row numbers of sixteen chunks of 512, gather those
  rows of the one table, and write them out. A tile's task, with what the result then holds.
-/
module

public import proofs.«01_k».proof.Proof.WholeSetup
public import proofs.«01_k».proof.Proof.Gather1

@[expose] public section

noncomputable section

namespace Cert.Proof.WholeIdeal.G2

open Cert.WholeIdeal Cert.WholeIdeal.Gen Cert.Proof.WholeIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The buffers of the call -/

abbrev aLoc (d : Dev nD) : Loc nD τ sig := (SparseCore.T d).loc main_v18
abbrev iLoc (d : Dev nD) : Loc nD τ sig := (SparseCore.T d).loc main_v19
abbrev oLoc (d : Dev nD) : Loc nD τ sig := (SparseCore.T d).loc main_v20

local notation "𝕄" => MT nD τ sig (HIx 2) (Elt F) ℕ UU ℕ
local notation "aV" => (Memref.whole main_v18_scv : Memref sig Kind.scVector Space.hbm S16384x128 EltTy.f32)
local notation "iV" => (Memref.whole main_v19_scv : Memref sig Kind.scVector Space.hbm S262144 EltTy.i32)
local notation "oV" => (Memref.whole main_v20_scv : Memref sig Kind.scVector Space.hbm S262144x128 EltTy.f32)
local notation "sV" => (Memref.whole cc4_scratch0 : Memref sig Kind.scVector Space.vmem S512 EltTy.i32)
local notation "rV" => (Memref.whole cc4_scratch1 : Memref sig Kind.scVector Space.vmem S512x128 EltTy.f32)

/-! ## The chunks -/

section Chunk

variable (L : grid4.Coords) (t : Fin k4_t1_loop.trips)

abbrev cV (L : grid4.Coords) : Fin τ.nSC := (L 0).castLE hcore4
abbrev jV (L : grid4.Coords) : Fin τ.nSub := (L 1).castLE hsub4

abbrev iCh : Memref sig .scVector .hbm S512 .i32 := (iV).slice (Rect.unit (s := S262144) (k4_off1 L t) S512.size (k4_off1_inb L t)) (fun _ => rfl)
abbrev oCh : Memref sig .scVector .hbm S512x128 .f32 := (oV).slice (Rect.unit (s := S262144x128) (k4_off2 L t) S512x128.size (k4_off2_inb L t)) (fun _ => rfl)
abbrev aAll : Memref sig .scVector .hbm S16384x128 .f32 := (aV).slice (Rect.unit (s := S16384x128) ![0, 0] S16384x128.size inb_S16384x128_S16384x128_0_0) (fun _ => rfl)

/-- The elements of a result that chunk `t` of a tile writes: 512 rows, all words of each. -/
def chunk : Finset S262144x128.Idx := (Rect.unit (s := S262144x128) (k4_off2 L t) S512x128.size (k4_off2_inb L t)).set

theorem mem_chunk (x : S262144x128.Idx) :
    x ∈ chunk L t ↔ 16384 * (L 1).val + 8192 * (L 0).val + 512 * t.val ≤ (x 0).val ∧ (x 0).val < 16384 * (L 1).val + 8192 * (L 0).val + 512 * t.val + 512 :=
  Cert.Proof.Kernel.G1.mem_chunk L t x

theorem oCh_set : (oCh L t).view.set = chunk L t := by
  show ((View.whole (main_v20_scv : Ref sig .scVector)).slice _).set = _
  rw [View.set_slice]; exact Finset.map_refl

/-- The row number of the list that chunk `t` reads at its place `j`. -/
theorem iCh_read (idx : S262144.Idx → Elt F .i32) (j : S512.Idx) (r : Fin 262144) (hr : r.val = 16384 * (L 1).val + 8192 * (L 0).val + 512 * t.val + (j 0).val) :
    (iCh L t).view.read (Elt F) idx j = idx (at1 r) :=
  Cert.Proof.Kernel.G1.iCh_read L t idx j r hr

/-- What the stream lands of the table, for a list fetched from chunk `t`: the gathered rows at the chunk's places. -/
theorem gathered (tab : S16384x128.Idx → Elt F .f32) (tabv : S16384x128.Idx → Elt F .f32) (htab : ∀ x, tabv x = tab x)
    (idx : S262144.Idx → Elt F .i32) (lst : S512.Idx → Elt F .i32) (hl : lst = (iCh L t).view.read (Elt F) idx)
    (hin : ∀ x, (show BitVec 32 from lst x).toNat < S16384x128.size gathers_S16384x128_S512x128.axis)
    (hn : S512.numel = S512x128.size gathers_S16384x128_S512x128.axis') (j : S512x128.Idx) (x : S262144x128.Idx)
    (h0 : (x 0).val = 16384 * (L 1).val + 8192 * (L 0).val + 512 * t.val + (j 0).val) (h1 : (x 1).val = (j 1).val) :
    SparseCore.gatherPayload gathers_S16384x128_S512x128 tabv (SparseCore.rows lst hn hin) j = rowsOf tab idx x :=
  Cert.Proof.Kernel.G1.gathered L t tab tabv htab idx lst hl hin hn j x h0 h1

/-- All of the table as the tile addresses it reads as the table. -/
theorem aAll_read (tab : S16384x128.Idx → Elt F .f32) (x : S16384x128.Idx) : (aAll).view.read (Elt F) tab x = tab x :=
  Cert.Proof.Kernel.G1.aAll_read tab x

end Chunk

/-! ## One chunk -/

section Trip

variable [FloatOps F]
variable (d : Dev nD) (L : grid4.Coords) (tabA : S16384x128.Idx → Elt F .f32) (idx : S262144.Idx → Elt F .i32)
variable (q : PosShare TreeShare) (O : CellTallies nD τ sig (HIx 2)) (W : Waits sig (HIx 2))

abbrev thr : Thread nD τ := V d (cV L) (jV L)

/-- What a tile holds between its chunks beside the results: the tables' and the list's shares, its two scratch buffers,
    its four semaphores at zero, what it owes. -/
def core : sProp 𝕄 :=
  iprop(Transfers.MayWaits (thr d L) (none : HIx 2) O
    ∗ ((aV).view.loc (thr d L) ↦{q} tabA) ∗ ((iV).view.loc (thr d L) ↦{q} idx)
    ∗ (∃ f, (sV).view.loc (thr d L) ↦{fullShare} f) ∗ (∃ f, (rV).view.loc (thr d L) ↦{fullShare} f)
    ∗ semVal (thr d L, SemLoc.dma cc4_scratch2.sem) 0 ∗ semVal (thr d L, SemLoc.dma cc4_scoped0.sem) 0
    ∗ semVal (thr d L, SemLoc.dma cc4_scoped1.sem) 0
    ∗ ∃ W', ⌜∀ p ∈ W', p ∈ W ∨ p.2 = none⌝ ∗ owes (thr d L) O W')

theorem aAll_set : (aAll).view.set = Finset.univ := by
  show ((View.whole (main_v18_scv : Ref sig .scVector)).slice _).set = _
  rw [View.set_slice, Rect.set_eq_univ_of_whole _ (fun a => ⟨by match a with | 0 => rfl | 1 => rfl, rfl, rfl⟩)]
  exact Finset.map_refl
/-- All of a table, under the two spellings of the slice that is everything. -/
theorem pts_aAll (f : S16384x128.Idx → Elt F .f32) :
    ((aV).view.loc (thr d L) ↦{q} f : sProp 𝕄) = (aAll).view.loc (thr d L) ↦[(aAll).view.set]{q} f := by rw [aAll_set]

/-- A chunk of the result written whole with the gathered rows holds the gathered rows. -/
theorem out_o (t : Fin k4_t1_loop.trips) (f : S262144x128.Idx → Elt F .f32) (w : S512x128.Idx → Elt F .f32) (g : S262144x128.Idx → Elt F .f32)
    (hw : ∀ (j : S512x128.Idx) (x : S262144x128.Idx), (x 0).val = 16384 * (L 1).val + 8192 * (L 0).val + 512 * t.val + (j 0).val → (x 1).val = (j 1).val → w j = g x) :
    ((oCh L t).view.loc (thr d L) ↦[(oCh L t).view.set]{fullShare} (oCh L t).view.writes (Elt F) f [⟨Rect.whole S512x128, w⟩] : sProp 𝕄)
      = (oCh L t).view.loc (thr d L) ↦[(oCh L t).view.set]{fullShare} g := by
  refine pointsTo_congr fun x hx => ?_
  obtain ⟨j, -, rfl⟩ := Finset.mem_map.mp hx
  rw [← View.write_univ_eq_writes_whole]
  refine (View.write_emb_of_mem (v := (oCh L t).view) _ w (Finset.mem_univ j)).trans ?_
  refine (cast_eq _ _).trans (hw j _ ?_ ?_)
  · rw [show (oCh L t).view.emb j 0 = (Rect.unit (s := S262144x128) (k4_off2 L t) S512x128.size (k4_off2_inb L t)).emb j 0 from rfl, Rect.emb_apply]
    show k4_off2 L t 0 + 1 * (j 0).val = _
    rw [k4_off2_eq]; simp
  · rw [show (oCh L t).view.emb j 1 = (Rect.unit (s := S262144x128) (k4_off2 L t) S512x128.size (k4_off2_inb L t)).emb j 1 from rfl, Rect.emb_apply]
    show k4_off2 L t 1 + 1 * (j 1).val = _
    rw [k4_off2_eq]; simp

/-- A stream's rows are worth the row buffer's whole credit. -/
theorem credit : ∀ h : S16384x128.Gathers 0 S512x128, ∑ j, ((rV).slice (S512x128.rowRect h.axis' j) (S512x128.stride_rowRect h.axis' j)).view.dmaCredit
      = (rV).view.dmaCredit := by decide

set_option maxHeartbeats 4000000 in
/-- One chunk: the result's 512 rows go from anything to the rows that the list names. -/
theorem trip (hidx : InRows idx) (t : Fin k4_t1_loop.trips) :
    iprop(core d L tabA idx q O W ∗ ∃ f, (oCh L t).view.loc (thr d L) ↦[(oCh L t).view.set]{fullShare} f)
      ⊢ wp frame (wpE (defs₀ (F := F)) 𝒱₀ (thr d L) none) Set.univ
          (k4_t1_body L aV (Memref.isWhole_whole _) iV (Memref.isWhole_whole _) oV (Memref.isWhole_whole _)
            sV (Memref.isWhole_whole _) rV (Memref.isWhole_whole _) cc4_scratch2 cc4_scoped0 cc4_scoped1 t ⟨⟩)
          fun _ => iprop(core d L tabA idx q O W ∗ ((oCh L t).view.loc (thr d L) ↦[(oCh L t).view.set]{fullShare} rowsOf tabA idx)) := by
  unfold core k4_t1_body
  iintro ⟨⟨#Hmw, Ha, Hi, ⟨%fs, Hs⟩, ⟨%fr, Hr⟩, HsemG, HsemA, HsemB, %W', %hW', HO⟩, %fo, Ho⟩
  sl_exec
  -- the fetched list, and the two scratch buffers over their own elements
  have hrs : (rV).view.set = Finset.univ := View.set_whole _
  have hss : (sV).view.set = Finset.univ := View.set_whole _
  have hl : View.write (Elt F) (sV).view fs (trip.sl.dma0 L idx t) Finset.univ = (iCh L t).view.read (Elt F) idx := View.write_whole_univ _ _ _
  have hin : ∀ x, ((sV).view.read (Elt F) ((iCh L t).view.read (Elt F) idx) x).toNat < S16384x128.size gathers_S16384x128_S512x128.axis := by
    intro x
    rw [show (sV).view.read (Elt F) ((iCh L t).view.read (Elt F) idx) x = idx ((iCh L t).view.emb x) from
      ((View.read_apply _ _).trans (cast_eq _ _)).trans ((View.read_apply _ _).trans (cast_eq _ _))]
    exact hidx _
  ihave Hs0 := (Entails.of_eq (show ((sV).view.loc (thr d L) ↦{fullShare} View.write (Elt F) (sV).view fs (trip.sl.dma0 L idx t) Finset.univ : sProp 𝕄)
      = (sV).view.loc (thr d L) ↦[(sV).view.set]{fullShare} (iCh L t).view.read (Elt F) idx by rw [hss, hl])) $$ Hs
  ihave Hr0 := (Entails.of_eq (show ((rV).view.loc (thr d L) ↦{fullShare} fr : sProp 𝕄)
      = (rV).view.loc (thr d L) ↦[(rV).view.set]{fullShare} fr by rw [hrs])) $$ Hr
  -- the gather and its wait
  ihave Has := (Entails.of_eq (pts_aAll d L q tabA)) $$ Ha
  iapply (SparseCore.wp_indirectGatherLocal countersEmb 𝒱₀ (thr d L) none (hg := gathers_S16384x128_S512x128) (default : HIx 2)
      (rV).view.dmaCredit (credit _) (by decide) hin) $$ [Has Hr0 Hs0 HsemG]
  · isplitl [Has]; · iexact Has
    isplitl [Hr0]; · iexact Hr0
    isplitl [Hs0]; · iexact Hs0
    iexact HsemG
  iintro Hfl
  sl_exec
  iapply (Transfers.wp_waitLocalO countersEmb 𝒱₀ (thr d L) none (default : HIx 2) (rfl : (rV).view.dmaCredit = _)) $$ [Hfl HO]
  · isplitl [Hfl]; · iexact Hfl
    isplitl [HO]; · iexact HO
    iapply (Transfers.MayWaits.elim (SemLoc.dma cc4_scratch2.sem)) $$ Hmw
  iintro ⟨⟨Hr0, Has, Hs0⟩, HsemG, HO⟩
  ihave Ha := (Entails.of_eq (pts_aAll d L q tabA).symm) $$ Has
  ihave Hr1 := (Entails.of_eq (show ((rV).view.loc (thr d L) ↦[(rV).view.set]{fullShare} _ : sProp 𝕄)
      = (rV).view.loc (thr d L) ↦{fullShare} _ by rw [hrs])) $$ Hr0
  sl_exec
  sl_step
  have hw1 : ∀ (j : S512x128.Idx) (x : S262144x128.Idx), (x 0).val = 16384 * (L 1).val + 8192 * (L 0).val + 512 * t.val + (j 0).val → (x 1).val = (j 1).val →
      trip.sl.dma0_1 d L tabA idx t fr hin j = rowsOf tabA idx x := by
    intro j x h0 h1
    refine Eq.trans ?_ (gathered L t tabA _ (aAll_read tabA) idx _ rfl hin rfl j x h0 h1)
    unfold trip.sl.dma0_1
    rw [View.write_whole_univ]; rfl
  ihave Hs3 := (Entails.of_eq (show ((sV).view.loc (thr d L) ↦[(sV).view.set]{fullShare} (iCh L t).view.read (Elt F) idx : sProp 𝕄)
      = (sV).view.loc (thr d L) ↦{fullShare} (iCh L t).view.read (Elt F) idx by rw [hss])) $$ Hs0
  isplitl [Ha Hi Hs3 Hr1 HsemG HsemA HsemB HO]
  · isplitr; · iexact Hmw
    isplitl [Ha]; · iexact Ha
    isplitl [Hi]; · iexact Hi
    isplitl [Hs3]; · iexists _; iexact Hs3
    isplitl [Hr1]; · iexists _; iexact Hr1
    isplitl [HsemG]; · iexact HsemG
    isplitl [HsemA]; · iexact HsemA
    isplitl [HsemB]; · iexact HsemB
    iexists _; isplitr
    swap; · iexact HO
    ipureintro; intro p hp
    iterate 3 (rcases Finset.mem_insert.mp hp with hp | hp; · exact .inr (hp ▸ rfl))
    exact hW' p hp
  iapply (Entails.of_eq (out_o d L t fo _ _ hw1)); iexact Ho

/-! ## A tile -/

theorem trips_eq : k4_t1_loop.trips = 16 := by decide

/-- Chunk `t` of the results before trip `k`: the gathered rows when trip `t` is behind, anything when not. -/
def oSt (k : Nat) (t : Fin k4_t1_loop.trips) : sProp 𝕄 :=
  if t.val < k then iprop(oLoc d ↦[chunk L t]{fullShare} rowsOf tabA idx) else iprop(∃ f, oLoc d ↦[chunk L t]{fullShare} f)

/-- The loop's invariant: `core`, and every chunk of the result as it is before trip `k`. -/
def inv (k : Nat) (_ : PUnit) : sProp 𝕄 :=
  iprop(core d L tabA idx q O W ∗ bigSep Finset.univ fun t => oSt d L tabA idx k t)

theorem oSt_rest (k : Fin k4_t1_loop.trips) :
    (bigSep (Finset.univ.erase k) fun t => oSt d L tabA idx k.val t) = (bigSep (Finset.univ.erase k) fun t => oSt d L tabA idx (k.val + 1) t : sProp 𝕄) := by
  refine bigSep_congr fun t ht => ?_
  have hne : t.val ≠ k.val := fun e => (Finset.mem_erase.mp ht).1 (Fin.ext e)
  unfold oSt
  by_cases h : t.val < k.val
  · rw [if_pos h, if_pos (by omega)]
  · rw [if_neg h, if_neg (by omega)]

theorem oSt_zero : (bigSep Finset.univ fun t => iprop(∃ f, oLoc d ↦[chunk L t]{fullShare} f)) = (bigSep Finset.univ fun t => oSt d L tabA idx 0 t : sProp 𝕄) :=
  bigSep_congr fun t _ => by unfold oSt; rw [if_neg (Nat.not_lt_zero _)]
theorem oSt_end : (bigSep Finset.univ fun t => oSt d L tabA idx k4_t1_loop.trips t) = (bigSep Finset.univ fun t => oLoc d ↦[chunk L t]{fullShare} rowsOf tabA idx : sProp 𝕄) :=
  bigSep_congr fun t _ => by unfold oSt; rw [if_pos t.isLt]

theorem pts_o (t : Fin k4_t1_loop.trips) (f : S262144x128.Idx → Elt F .f32) :
    ((oCh L t).view.loc (thr d L) ↦[(oCh L t).view.set]{fullShare} f : sProp 𝕄) = oLoc d ↦[chunk L t]{fullShare} f := by rw [oCh_set]

/-- One trip takes the invariant on. -/
theorem inv_step (hidx : InRows idx) (k : Fin k4_t1_loop.trips) :
    inv d L tabA idx q O W k.val ⟨⟩
      ⊢ wp frame (wpE (defs₀ (F := F)) 𝒱₀ (thr d L) none) Set.univ
          (k4_t1_body L aV (Memref.isWhole_whole _) iV (Memref.isWhole_whole _) oV (Memref.isWhole_whole _)
            sV (Memref.isWhole_whole _) rV (Memref.isWhole_whole _) cc4_scratch2 cc4_scoped0 cc4_scoped1 k ⟨⟩)
          fun _ => inv d L tabA idx q O W (k.val + 1) ⟨⟩ := by
  unfold inv
  rw [SparseCore.bigSep_erase' (Finset.mem_univ k) (Φ := fun t => oSt d L tabA idx k.val t),
    SparseCore.bigSep_erase' (Finset.mem_univ k) (Φ := fun t => oSt d L tabA idx (k.val + 1) t), ← oSt_rest]
  generalize (bigSep (Finset.univ.erase k) fun t => oSt d L tabA idx k.val t) = Ro
  unfold oSt
  rw [if_neg (lt_irrefl _), if_pos (Nat.lt_succ_self _)]
  refine BI.Entails.trans ?pre ((sep_mono_left (Q := Ro) (trip d L tabA idx q O W hidx k)).trans
    ((wp_frame_r frame _ _ (R := Ro)).trans (wp_mono frame _ _ fun _ => ?post)))
  case pre =>
    show (_ : sProp 𝕄) ⊢ _
    iintro ⟨Hc, ⟨%fo, Ho⟩, Hro⟩
    isplitr [Hro]
    · isplitl [Hc]; · iexact Hc
      iexists fo; iapply (Entails.of_eq (pts_o d L k fo).symm); iexact Ho
    · iexact Hro
  case post =>
    show (_ : sProp 𝕄) ⊢ _
    iintro ⟨⟨Hc, Ho⟩, Hro⟩
    isplitl [Hc]; · iexact Hc
    isplitl [Ho]; · iapply (Entails.of_eq (pts_o d L k _)); iexact Ho
    iexact Hro

end Trip

/-! ## What the call's handshakes carry -/

section Call

variable [FloatOps F]
/- the tables and the list, on each device, when the call starts -/
variable (tA : Dev nD → S16384x128.Idx → Elt F .f32) (ix : Dev nD → S262144.Idx → Elt F .i32)

/-- SparseCore `c`'s tile `s`. -/
def tile (c : Fin 2) (s : Fin 16) : grid4.Coords :=
  fun | 0 => c | 1 => s | ⟨_ + 2, h⟩ => absurd h (Nat.not_lt.2 (Nat.le_add_left _ _))

/-- What a tile is handed: its share of the table and of the list, its chunks of the result at anything. -/
def tileIn (d : Dev nD) (c : Fin 2) (s : Fin 16) : sProp 𝕄 :=
  iprop((aLoc d ↦{lq c s} tA d) ∗ (iLoc d ↦{lq c s} ix d)
    ∗ bigSep Finset.univ fun t => iprop(∃ f, oLoc d ↦[chunk (tile c s) t]{fullShare} f))
/-- What it hands back: the shares, its chunks at the gathered rows. -/
def tileOut (d : Dev nD) (c : Fin 2) (s : Fin 16) : sProp 𝕄 :=
  iprop((aLoc d ↦{lq c s} tA d) ∗ (iLoc d ↦{lq c s} ix d)
    ∗ bigSep Finset.univ fun t => oLoc d ↦[chunk (tile c s) t]{fullShare} rowsOf (tA d) (ix d))

instance tileIn_storable (d : Dev nD) (c : Fin 2) (s : Fin 16) : BI.Storable (upEmb : UEmb _ 𝕄) (tileIn tA ix d c s) := by
  unfold tileIn; infer_instance
instance tileOut_storable (d : Dev nD) (c : Fin 2) (s : Fin 16) : BI.Storable (upEmb : UEmb _ 𝕄) (tileOut tA ix d c s) := by
  unfold tileOut; infer_instance

/-! ### The task of a tile -/

theorem ownSems0_V (d : Dev nD) (L : grid4.Coords) :
    (ownSems0 (thr d L) : sProp 𝕄)
      = iprop(semVal (thr d L, SemLoc.dma cc4_scratch2.sem) 0 ∗ semVal (thr d L, SemLoc.dma cc4_scoped0.sem) 0
          ∗ semVal (thr d L, SemLoc.dma cc4_scoped1.sem) 0
          ∗ bigSep ((((ownCells (thr d L)).erase (thr d L, SemLoc.dma cc4_scratch2.sem)).erase (thr d L, SemLoc.dma cc4_scoped0.sem)).erase
              (thr d L, SemLoc.dma cc4_scoped1.sem)) fun g => semVal g 0) := by
  have own : ∀ sm : SemLoc sig, sm.isScoped .scVector = true → ((thr d L, sm) : GSem nD τ sig) ∈ ownCells (thr d L) :=
    fun sm h => mem_ownCells.mpr ⟨rfl, h⟩
  have ne : ∀ a b : SemLoc sig, a ≠ b → ((thr d L, a) : GSem nD τ sig) ≠ (thr d L, b) := fun a b h e => h (Prod.ext_iff.mp e).2
  unfold SparseCore.Cfg.ownSems0
  rw [SparseCore.bigSep_erase' (own (SemLoc.dma cc4_scratch2.sem) (by decide)),
    SparseCore.bigSep_erase' (Finset.mem_erase.mpr ⟨ne _ _ (by decide), own (SemLoc.dma cc4_scoped0.sem) (by decide)⟩),
    SparseCore.bigSep_erase' (Finset.mem_erase.mpr ⟨ne _ _ (by decide), Finset.mem_erase.mpr ⟨ne _ _ (by decide), own (SemLoc.dma cc4_scoped1.sem) (by decide)⟩⟩)]

theorem ownBufs_V (d : Dev nD) (L : grid4.Coords) :
    (ownBufs (thr d L) : sProp 𝕄)
      = iprop((∃ f, (thr d L).loc cc4_scratch0 ↦{fullShare} f) ∗ (∃ f, (thr d L).loc cc4_scratch1 ↦{fullShare} f)
          ∗ bigSep (((ownRefs (τ := τ) (.scVector (cV L) (jV L))).erase ((Proc.scVector (cV L) (jV L)).devRef cc4_scratch0)).erase
              ((Proc.scVector (cV L) (jV L)).devRef cc4_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc4_scratch0) rfl)).trans ?_
  rw [SparseCore.bigSep_erase' (Finset.mem_erase.mpr ⟨fun e => absurd (Proc.devRef_injective _ e) (show (cc4_scratch1 : Ref sig .scVector) ≠ cc4_scratch0 by decide),
    SparseCore.Cfg.mem_ownRefs_of_owner (p := Proc.scVector (cV L) (jV L)) (b := (Proc.scVector (cV L) (jV L)).devRef cc4_scratch1) rfl⟩)]

set_option maxHeartbeats 1000000 in
/-- A tile's whole task: from what it is handed to what it hands back. -/
theorem tile_body (hix : ∀ d, InRows (ix d)) (d : Dev nD) (c : Fin 2) (s : Fin 16) (O : CellTallies nD τ sig (HIx 2)) (W : Waits sig (HIx 2)) (hO : ∀ g, O g none = 0) :
    iprop(levAts (K (F := F)).L (K (F := F)).lev ∗ emp ∗ tileIn tA ix d c s
        ∗ scopedBufs (thr d (tile c s)) ∗ scopedSems0 (thr d (tile c s)) ∗ owes (thr d (tile c s)) O W)
      ⊢ wp frame (wpE (defs₀ (F := F)) 𝒱₀ (thr d (tile c s)) none) Set.univ
          (cc4_gk (tile c s) aV (Memref.isWhole_whole _) iV (Memref.isWhole_whole _) oV (Memref.isWhole_whole _)
            sV (Memref.isWhole_whole _) rV (Memref.isWhole_whole _) cc4_scratch2 cc4_scoped0 cc4_scoped1)
          fun _ => iprop(tileOut tA ix d c s ∗ scopedBufs (thr d (tile c s)) ∗ scopedSems0 (thr d (tile c s))
            ∗ ∃ W', ⌜∀ p ∈ W', p ∈ W ∨ p.2 = none⌝ ∗ owes (thr d (tile c s)) O W') := by
  simp only [cc4_gk_eq_skeleton]; unfold cc4_gk_skel
  rw [(K (F := F)).scopedBufs_V facts d (cV (tile c s)) (jV (tile c s)), SparseCore.Cfg.scopedSems0_V (Val := Elt F) d (cV (tile c s)) (jV (tile c s)), ownSems0_V, ownBufs_V]
  unfold tileIn tileOut
  iintro ⟨#Hlv, -, ⟨Ha, Hi, Ho⟩, ⟨⟨%fs, Hs⟩, ⟨%fr, Hr⟩, Hbufs⟩, ⟨HsemG, HsemA, HsemB, Hsems⟩, HO⟩
  ihave Hmw := (show levAts (K (F := F)).L (K (F := F)).lev ⊢ Transfers.MayWaits (thr d (tile c s)) (none : HIx 2) O from
    (K (F := F)).mayWaits_none (thr := thr d (tile c s)) hO) $$ Hlv
  sl_for (inv d (tile c s) (tA d) (ix d) (lq c s) O W) $$ [Hmw Ha Hi Ho Hs Hr HsemG HsemA HsemB HO]
  case region =>
    intro k _
    exact inv_step d (tile c s) (tA d) (ix d) (lq c s) O W (hix d) k
  · unfold inv core
    isplitr [Ho]
    · isplitl [Hmw]; · iexact Hmw
      isplitl [Ha]; · iexact Ha
      isplitl [Hi]; · iexact Hi
      isplitl [Hs]; · iexists fs; iexact Hs
      isplitl [Hr]; · iexists fr; iexact Hr
      isplitl [HsemG]; · iexact HsemG
      isplitl [HsemA]; · iexact HsemA
      isplitl [HsemB]; · iexact HsemB
      iexists W; isplitr
      · ipureintro; exact fun p hp => .inl hp
      · iexact HO
    · iapply (Entails.of_eq (oSt_zero d (tile c s) (tA d) (ix d))); iexact Ho
  iintro %_ HI
  unfold inv core
  icases HI with ⟨⟨-, Ha, Hi, ⟨%fs', Hs⟩, ⟨%fr', Hr⟩, HsemG, HsemA, HsemB, %W', %hW', HO⟩, Ho⟩
  sl_step
  isplitl [Ha Hi Ho]
  · isplitl [Ha]; · iexact Ha
    isplitl [Hi]; · iexact Hi
    iapply (Entails.of_eq (oSt_end d (tile c s) (tA d) (ix d))); iexact Ho
  isplitl [Hs Hr Hbufs]
  · isplitl [Hs]; · iexists _; iexact Hs
    isplitl [Hr]; · iexists _; iexact Hr
    iexact Hbufs
  isplitl [HsemG HsemA HsemB Hsems]
  · isplitl [HsemG]; · iexact HsemG
    isplitl [HsemA]; · iexact HsemA
    isplitl [HsemB]; · iexact HsemB
    iexact Hsems
  iexists W'; isplitr
  · ipureintro; exact hW'
  · iexact HO

theorem defs₀_vector (c : Fin τ.nSC) (s : Fin τ.nSub) :
    defs₀ (F := F) (.scVector c s) 4 ()
      = SparseCore.onTile hcore4 hsub4 (fun c s => cc4_gk (tile c s)
          aV (Memref.isWhole_whole _) iV (Memref.isWhole_whole _) oV (Memref.isWhole_whole _)
          sV (Memref.isWhole_whole _) rV (Memref.isWhole_whole _) cc4_scratch2 cc4_scoped0 cc4_scoped1) ⟨⟩ c s := rfl

/-! ### The whole arrays and the tiles' parts -/

/-- The chunks of a result, by SparseCore, tile and trip: no two meet, -/
theorem chunks_disjoint : ∀ u ∈ (Finset.univ : Finset (Fin 2 × Fin 16 × Fin k4_t1_loop.trips)), ∀ v ∈ (Finset.univ : Finset (Fin 2 × Fin 16 × Fin k4_t1_loop.trips)),
    u ≠ v → Disjoint (chunk (tile u.1 u.2.1) u.2.2) (chunk (tile v.1 v.2.1) v.2.2) :=
  Cert.Proof.Kernel.G1.chunks_disjoint

/-- and every row is in one. -/
theorem chunks_cover : (Finset.univ : Finset (Fin 2 × Fin 16 × Fin k4_t1_loop.trips)).biUnion (fun u => chunk (tile u.1 u.2.1) u.2.2) = Finset.univ :=
  Cert.Proof.Kernel.G1.chunks_cover

theorem o_chunks (d : Dev nD) (f : S262144x128.Idx → Elt F .f32) :
    (oLoc d ↦{fullShare} f : sProp 𝕄) = bigSep Finset.univ fun c : Fin 2 => bigSep Finset.univ fun s : Fin 16 => bigSep Finset.univ fun t => oLoc d ↦[chunk (tile c s) t]{fullShare} f := by
  have h := pointsTo_biUnion (ℓ := oLoc d) (q := fullShare) (f := f) (Ix := HIx 2) (Name := ℕ) (U := UU) (Lvl := ℕ) Finset.univ (fun u : Fin 2 × Fin 16 × Fin k4_t1_loop.trips => chunk (tile u.1 u.2.1) u.2.2) chunks_disjoint
  rw [chunks_cover, bigSep_univ_prod] at h
  refine h.trans (bigSep_congr fun c _ => ?_)
  rw [bigSep_univ_prod]

/-- The three arrays whole, the result at anything, are what the tiles are handed; -/
theorem deal (d : Dev nD) (fo : S262144x128.Idx → Elt F .f32) :
    iprop((aLoc d ↦{fullShare} tA d) ∗ (iLoc d ↦{fullShare} ix d) ∗ (oLoc d ↦{fullShare} fo))
      ⊢ (bigSep Finset.univ fun c : Fin 2 => bigSep Finset.univ fun s : Fin 16 => tileIn tA ix d c s : sProp 𝕄) := by
  unfold tileIn
  rw [bigSep_sep₂, bigSep_sep₂, ← shares, ← shares, o_chunks]
  have ho : (bigSep Finset.univ fun c : Fin 2 => bigSep Finset.univ fun s : Fin 16 => bigSep Finset.univ fun t => (oLoc d ↦[chunk (tile c s) t]{fullShare} fo : sProp 𝕄))
      ⊢ bigSep Finset.univ fun c : Fin 2 => bigSep Finset.univ fun s : Fin 16 => bigSep Finset.univ fun t => iprop(∃ f, oLoc d ↦[chunk (tile c s) t]{fullShare} f) := by
    refine bigSep_mono fun c _ => bigSep_mono fun s _ => bigSep_mono fun t _ => ?_
    show (_ : sProp 𝕄) ⊢ _
    iintro H; iexists fo; iexact H
  iintro ⟨Ha, Hi, Ho⟩
  isplitl [Ha]; · iexact Ha
  isplitl [Hi]; · iexact Hi
  iapply ho; iexact Ho

/-- and what they hand back is the three arrays whole, the result at the gathered rows. -/
theorem undeal (d : Dev nD) :
    (bigSep Finset.univ fun c : Fin 2 => bigSep Finset.univ fun s : Fin 16 => tileOut tA ix d c s : sProp 𝕄)
      = iprop((aLoc d ↦{fullShare} tA d) ∗ (iLoc d ↦{fullShare} ix d) ∗ (oLoc d ↦{fullShare} rowsOf (tA d) (ix d))) := by
  unfold tileOut
  rw [bigSep_sep₂, bigSep_sep₂, ← shares, ← shares, ← o_chunks]

end Call

end Cert.Proof.WholeIdeal.G2

end
-- ==== Proof.WholeCalls.lean ====
/-
  The two SparseCore calls as the launch theorem takes them: what each tile of either is handed and hands back, that a tile's
  task is its body's run, and that a SparseCore's operands are its tiles'.
-/
module

public import proofs.«01_k».proof.Proof.WholeGather1
public import proofs.«01_k».proof.Proof.WholeGather2

@[expose] public section

noncomputable section

namespace Cert.Proof.WholeIdeal

open Cert.WholeIdeal Cert.WholeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 2) (Elt F) ℕ UU ℕ

theorem nCore_eq : ∀ q : Fin 2, (K (F := F)).nCore q = 2
  | 0 => rfl
  | 1 => rfl
theorem nSub_eq : ∀ q : Fin 2, (K (F := F)).nSub q = 16
  | 0 => rfl
  | 1 => rfl

variable [FloatOps F]
/- the first call's tables and list, the second call's table and list, on each device -/
variable (tA tB : Dev nD → S16384x128.Idx → Elt F .f32) (ix : Dev nD → S262144.Idx → Elt F .i32)
variable (tC : Dev nD → S16384x128.Idx → Elt F .f32) (iy : Dev nD → S262144.Idx → Elt F .i32)

/-- What call `q` hands a tile, -/
def given : (q : Fin 2) → Dev nD → Fin 2 → Fin 16 → sProp 𝕄
  | 0 => G1.tileIn tA tB ix
  | 1 => G2.tileIn tC iy
/-- and what it gets back. -/
def made : (q : Fin 2) → Dev nD → Fin 2 → Fin 16 → sProp 𝕄
  | 0 => G1.tileOut tA tB ix
  | 1 => G2.tileOut tC iy

instance given_storable : (q : Fin 2) → (d : Dev nD) → (c : Fin 2) → (s : Fin 16) → BI.Storable (upEmb : UEmb _ 𝕄) (given tA tB ix tC iy q d c s)
  | 0 => G1.tileIn_storable tA tB ix
  | 1 => G2.tileIn_storable tC iy
instance made_storable : (q : Fin 2) → (d : Dev nD) → (c : Fin 2) → (s : Fin 16) → BI.Storable (upEmb : UEmb _ 𝕄) (made tA tB ix tC iy q d c s)
  | 0 => G1.tileOut_storable tA tB ix
  | 1 => G2.tileOut_storable tC iy

/-- The calls' payloads: each SparseCore is handed its sixteen tiles' and hands them back. -/
def P : (K (F := F)).Pay (nD := nD) (Val := Elt F) (Name := ℕ) (U := UU) where
  st := fun q d c => bigSep Finset.univ fun s => given tA tB ix tC iy q d (Fin.cast (nCore_eq q) c) s
  dn := fun q d c => bigSep Finset.univ fun s => made tA tB ix tC iy q d (Fin.cast (nCore_eq q) c) s
  go := fun q d c i => given tA tB ix tC iy q d (Fin.cast (nCore_eq q) c) (Fin.cast (nSub_eq q) i)
  td := fun q d c i => made tA tB ix tC iy q d (Fin.cast (nCore_eq q) c) (Fin.cast (nSub_eq q) i)
  x := fun _ _ => iprop(emp)

instance P_storable : (P (F := F) tA tB ix tC iy).IsStorable where
  st q d c := (inferInstance : BI.Storable (upEmb : UEmb _ 𝕄) (bigSep Finset.univ fun s => given tA tB ix tC iy q d (Fin.cast (nCore_eq q) c) s))
  dn q d c := (inferInstance : BI.Storable (upEmb : UEmb _ 𝕄) (bigSep Finset.univ fun s => made tA tB ix tC iy q d (Fin.cast (nCore_eq q) c) s))
  go q d c i := given_storable tA tB ix tC iy q d (Fin.cast (nCore_eq q) c) (Fin.cast (nSub_eq q) i)
  td q d c i := made_storable tA tB ix tC iy q d (Fin.cast (nCore_eq q) c) (Fin.cast (nSub_eq q) i)

/-- A tile's task of the first call is its body's run, -/
theorem tileObl_first (hix : ∀ d, InRows (ix d)) : (K (F := F)).TileObl (D (F := F)) 𝒱 (P tA tB ix tC iy) v₀ 0 := by
  intro d c i O W hO _ _
  simp only [show (P tA tB ix tC iy).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [G1.defs₀_vector]; simp only [SparseCore.onTile, hci, and_self, ↓reduceDIte]
  exact (G1.tile_body tA tB ix hix d (Fin.cast (nCore_eq 0) c) (Fin.cast (nSub_eq 0) i) O W hO).trans (wp_mono frame _ _ fun _ => obl_post)

/-- and of the second. -/
theorem tileObl_second (hiy : ∀ d, InRows (iy d)) : (K (F := F)).TileObl (D (F := F)) 𝒱 (P tA tB ix tC iy) v₀ 1 := by
  intro d c i O W hO _ _
  simp only [show (P tA tB ix tC iy).ox = fun _ _ => 0 from rfl, add_zero]
  have hci : ((K (F := F)).core 1 c).val < grid4.bound 0 ∧ ((K (F := F)).sub 1 i).val < grid4.bound 1 := ⟨c.isLt, i.isLt⟩
  change _ ⊢ wp _ _ _ (Pipeline.liftProg (defs₀ (F := F) (.scVector ((K (F := F)).core 1 c) ((K (F := F)).sub 1 i)) 4 ())) _
  refine BI.Entails.trans ?_ (Pipeline.wp_liftProg (D (F := F)) (Pipeline.defs_kernel pcfgs defs₀) 𝒱₀ _ Set.univ none _ _)
  rw [G2.defs₀_vector]; simp only [SparseCore.onTile, hci, and_self, ↓reduceDIte]
  exact (G2.tile_body tC iy hiy d (Fin.cast (nCore_eq 1) c) (Fin.cast (nSub_eq 1) i) O W hO).trans (wp_mono frame _ _ fun _ => obl_post)

theorem bigSep_tiles (q : Fin 2) (Φ : Fin 16 → sProp 𝕄) :
    (bigSep Finset.univ fun i : Fin ((K (F := F)).nSub q) => Φ (Fin.cast (nSub_eq q) i)) = bigSep Finset.univ Φ := by
  match q with
  | 0 => exact bigSep_congr fun _ _ => congrArg Φ (Fin.ext rfl)
  | 1 => exact bigSep_congr fun _ _ => congrArg Φ (Fin.ext rfl)
theorem bigSep_cores (q : Fin 2) (Φ : Fin 2 → sProp 𝕄) :
    (bigSep Finset.univ fun i : Fin ((K (F := F)).nCore q) => Φ (Fin.cast (nCore_eq q) i)) = bigSep Finset.univ Φ := by
  match q with
  | 0 => exact bigSep_congr fun _ _ => congrArg Φ (Fin.ext rfl)
  | 1 => exact bigSep_congr fun _ _ => congrArg Φ (Fin.ext rfl)

/-- A SparseCore's operands are its tiles', its results theirs. -/
theorem vecSplit (q : Fin 2) : (K (F := F)).VecSplit' (P tA tB ix tC iy) q := by
  intro d c
  show (bigSep Finset.univ fun s => given tA tB ix tC iy q d (Fin.cast (nCore_eq q) c) s) ⊢ |={Set.univ}=> iprop(
      (bigSep Finset.univ fun i : Fin ((K (F := F)).nSub q) => given tA tB ix tC iy q d (Fin.cast (nCore_eq q) c) (Fin.cast (nSub_eq q) i))
      ∗ ((bigSep Finset.univ fun i : Fin ((K (F := F)).nSub q) => made tA tB ix tC iy q d (Fin.cast (nCore_eq q) c) (Fin.cast (nSub_eq q) i))
          -∗ bigSep Finset.univ fun s => made tA tB ix tC iy q d (Fin.cast (nCore_eq q) c) s))
  rw [bigSep_tiles (F := F) q (fun i => given tA tB ix tC iy q d (Fin.cast (nCore_eq q) c) i),
    bigSep_tiles (F := F) q (fun i => made tA tB ix tC iy q d (Fin.cast (nCore_eq q) c) i)]
  iintro H; imodintro
  isplitl [H]; · iexact H
  iintro H; iexact H

/-- What the first call takes of @main's arrays, -/
theorem first_in (d : Dev nD) (fo fp : S262144x128.Idx → Elt F .f32) :
    iprop((G1.aLoc d ↦{fullShare} tA d) ∗ (G1.bLoc d ↦{fullShare} tB d) ∗ (G1.iLoc d ↦{fullShare} ix d) ∗ (G1.oLoc d ↦{fullShare} fo) ∗ G1.pLoc d ↦{fullShare} fp)
      ⊢ (bigSep Finset.univ fun c : Fin ((K (F := F)).nCore 0) => (P tA tB ix tC iy).st 0 d c : sProp 𝕄) :=
  (G1.deal tA tB ix d fo fp).trans (Entails.of_eq (bigSep_cores (F := F) 0 fun c => bigSep Finset.univ fun s => G1.tileIn tA tB ix d c s).symm)
/-- and what it gives back. -/
theorem first_out (d : Dev nD) : (bigSep Finset.univ fun c : Fin ((K (F := F)).nCore 0) => (P tA tB ix tC iy).dn 0 d c : sProp 𝕄)
    = iprop((G1.aLoc d ↦{fullShare} tA d) ∗ (G1.bLoc d ↦{fullShare} tB d) ∗ (G1.iLoc d ↦{fullShare} ix d)
        ∗ (G1.oLoc d ↦{fullShare} rowsOf (tA d) (ix d)) ∗ G1.pLoc d ↦{fullShare} rowsOf (tB d) (ix d)) :=
  (bigSep_cores (F := F) 0 fun c => bigSep Finset.univ fun s => G1.tileOut tA tB ix d c s).trans (G1.undeal tA tB ix d)
/-- What the second call takes, -/
theorem second_in (d : Dev nD) (fo : S262144x128.Idx → Elt F .f32) :
    iprop((G2.aLoc d ↦{fullShare} tC d) ∗ (G2.iLoc d ↦{fullShare} iy d) ∗ (G2.oLoc d ↦{fullShare} fo))
      ⊢ (bigSep Finset.univ fun c : Fin ((K (F := F)).nCore 1) => (P tA tB ix tC iy).st 1 d c : sProp 𝕄) :=
  (G2.deal tC iy d fo).trans (Entails.of_eq (bigSep_cores (F := F) 1 fun c => bigSep Finset.univ fun s => G2.tileIn tC iy d c s).symm)
/-- and what it gives back. -/
theorem second_out (d : Dev nD) : (bigSep Finset.univ fun c : Fin ((K (F := F)).nCore 1) => (P tA tB ix tC iy).dn 1 d c : sProp 𝕄)
    = iprop((G2.aLoc d ↦{fullShare} tC d) ∗ (G2.iLoc d ↦{fullShare} iy d) ∗ (G2.oLoc d ↦{fullShare} rowsOf (tC d) (iy d))) :=
  (bigSep_cores (F := F) 1 fun c => bigSep Finset.univ fun s => G2.tileOut tC iy d c s).trans (G2.undeal tC iy d)

end Cert.Proof.WholeIdeal

end
-- ==== Proof.WholeRegion.lean ====
/-
  A TensorCore region of @main between SparseCore calls. The TensorCore then owes its later calls' starts, and its waits so
  far are bounded in level; the region's own waits sit at the lowest level, so they keep the bound. Proved here: a region
  whose body keeps its data takes all the device's unscoped buffers from one valuation to the next.
-/
module

public import proofs.«01_k».proof.Proof.WholeSetup
public import Idealize.ShloMosaic.Lib.Pipeline.Regions
public import Idealize.ShloMosaic.Lib.Pipeline.RegionArrays
public import Idealize.ShloMosaic.Lib.Pipeline.FrameTail
public import Idealize.ShloMosaic.Lib.Pipeline.FrameSuffix
public import Idealize.ShloMosaic.Lib.Pipeline.FrameBody

@[expose] public section

noncomputable section

namespace Cert.Proof.WholeIdeal

open Cert.WholeIdeal Cert.WholeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable [FloatOps F]

local notation "𝕄" => MT nD τ sig (HIx 2) (Elt F) ℕ UU ℕ

/-- No pipeline has a prefetched table. -/
abbrev adm : (p : Fin 4) → (pcfgs (F := F) p).Adm := fun p => (cfgs p).toPCfg_adm
/-- The pipeline of TensorCore call `p`. -/
abbrev pcfg (p : Fin 4) : Pipeline.Cfg sig Λ₀ := Pipeline.pin (pcfgs (F := F)) adm p

/-- A region's invariant: the scoped buffers no window stages, and the generator register, at anything. -/
def phi {gr W : Nat} (win : Fin W → Pipeline.WinSpec sig gr) (c : Dev nD) : sProp 𝕄 :=
  iprop(Pipeline.scopedRest win c ∗ ∃ r, prngReg c r)

/-- The waits recorded before call `n` of the SparseCores. -/
def recs (c : Dev nD) (n : ℕ) : Set (SemLoc sig × HIx 2) := {p | (K (F := F)).lev (T c, p.1) p.2 ≤ 8 * n}

/-- What the TensorCore owes before call `n`, its recorded waits bounded. -/
def owing (c : Dev nD) (n : ℕ) : sProp 𝕄 :=
  iprop(∃ W, ⌜(K (F := F)).WBelow (T c) W (8 * n)⌝ ∗ owes (T c) ((K (F := F)).Otc c n) W)

theorem otc_none (c : Dev nD) (n : ℕ) (g : GSem nD τ sig) : (K (F := F)).Otc c n g none = 0 := by
  by_contra h
  have h1 := SparseCore.Cfg.lev_of_Otc_pos (K := K (F := F)) (Nat.pos_of_ne_zero h)
  have e : (K (F := F)).lev g none = 0 := rfl
  omega

section Held

variable {cfg : Pipeline.Cfg sig Λ₀} {c : Dev nD} (dat : Pipeline.Dat τ (Elt F) (HIx 2) ℕ UU ℕ cfg c)

/-- A device's buffers at a valuation are the windows' arrays, as the pipeline holds them, and the rest. -/
theorem held_arrays (hun : ∀ w, (Pipeline.arrRef cfg.spec w).isScoped = false) (hsh : Pipeline.SharedIn cfg.spec)
    (arr_whole : ∀ w, (cfg.spec w).arr.IsWhole)
    (hq : ∀ w, (cfg.spec w).isOut = false → dat.q w = Pipeline.shareOf cfg.spec w)
    (V : Valuation τ sig (Elt F)) (G : (w : Fin cfg.W) → Buf (Elt F) ((cfg.spec w).arr.view.loc (c.tc : Thread nD τ)))
    (hG : ∀ w, G w = V (Proc.devRef .tc (Pipeline.arrRef cfg.spec w))) :
    (StableHlo.held (T c) (Pipeline.ucRefs τ sig) V : sProp 𝕄)
      = iprop(dat.arrays G ∗ Pipeline.unscopedRest cfg.spec c fun b => V (Proc.devRef .tc b)) := by
  have h1 := Pipeline.unscopedBufs_held (Ix := HIx 2) (Name := ℕ) (U := UU) (Lvl := ℕ) c V
  have h2 := Pipeline.unscopedBufs_split₀ (Ix := HIx 2) (Name := ℕ) (U := UU) (Lvl := ℕ) (fun _ : Unit => cfg) () hun c fun b => V (Proc.devRef .tc b)
  have h3 := dat.arrBufs_eq_arrays hsh arr_whole hq (fun b => V (Proc.devRef .tc b)) G hG
  rw [← h3, ← h2]
  exact h1.symm

/-- The rest is untouched where only the windows' arrays change. -/
theorem rest_next (V : Valuation τ sig (Elt F)) (G : (w : Fin cfg.W) → Buf (Elt F) ((cfg.spec w).arr.view.loc (c.tc : Thread nD τ))) :
    (Pipeline.unscopedRest cfg.spec c fun b => V (Proc.devRef .tc b) : sProp 𝕄)
      = Pipeline.unscopedRest cfg.spec c fun b => Pipeline.withArrays cfg.spec c V G (Proc.devRef .tc b) := by
  unfold Pipeline.unscopedRest
  refine bigSep_congr fun b hb => ?_
  have : ∀ w, Pipeline.arrRef cfg.spec w ≠ b := fun w e => (Finset.mem_sdiff.mp hb).2 (Finset.mem_image.mpr ⟨w, Finset.mem_univ _, e⟩)
  have e := Pipeline.withArrays_of_ne (τ := τ) cfg.spec c V G b this
  dsimp only
  rw [e]

/-- What the TensorCore owes, in the pipeline's form and back: the region's own waits sit at the lowest level. -/
theorem owing_in {n : ℕ} {t} (ho : dat.owed t = (K (F := F)).Otc c n) (hr : dat.recorded t = recs (F := F) c n) : owing c n ⊢ dat.owesAt none t := by
  unfold Pipeline.Dat.owesAt Pipeline.owesWithin Pipeline.Dat.bound owing
  rw [ho, hr]
  iintro ⟨%W', %hW', HO⟩
  iexists W'
  isplitr; · ipureintro; exact fun q hq => Or.inl (hW' q hq)
  iexact HO

theorem owing_out {n : ℕ} {t} (ho : dat.owed t = (K (F := F)).Otc c n) (hr : dat.recorded t = recs (F := F) c n) : dat.owesAt none t ⊢ owing c n := by
  unfold Pipeline.Dat.owesAt Pipeline.owesWithin Pipeline.Dat.bound owing
  rw [ho, hr]
  iintro ⟨%W', %hW', HO⟩
  iexists W'
  isplitr
  · ipureintro
    intro q hq
    rcases hW' hq with h | ⟨w, s, rfl⟩
    · exact h
    · exact Nat.zero_le _
  iexact HO

end Held

section Wp

variable (pdats : (p : Fin 4) → (c : Dev nD) → Pipeline.Dat τ (Elt F) (HIx 2) ℕ UU ℕ (Pipeline.pin (pcfgs (F := F)) adm p) c)
  (p : Fin 4) (n : ℕ) (W : Dev nD → Valuation τ sig (Elt F))

/-- The valuation after the region: the windows' arrays at their final contents. -/
abbrev next (c : Dev nD) : Valuation τ sig (Elt F) :=
  Pipeline.withArrays (Pipeline.pin (pcfgs (F := F)) adm p).spec c (W c) fun w => (pdats p c).arrAt w (Pipeline.pin (pcfgs (F := F)) adm p).N

/-- The region as a segment of @main. -/
def seg (win : Pipeline.WinFacts₀ (pcfgs (F := F) p).spec) (hsh : Pipeline.SharedIn (pcfgs (F := F) p).spec)
    (block_pos : ∀ w, 0 < ((Pipeline.pin (pcfgs (F := F)) adm p).spec w).block.numel)
    (arr_whole : ∀ w, ((Pipeline.pin (pcfgs (F := F)) adm p).spec w).arr.IsWhole)
    (stage_whole : ∀ w (s : Fin ((Pipeline.pin (pcfgs (F := F)) adm p).spec w).nbuf), (((Pipeline.pin (pcfgs (F := F)) adm p).spec w).stage s).IsWhole)
    (hbody : ∀ c, Pipeline.BodyObligationLoose (pdats p c) defs₀ 𝒱₀ none Set.univ)
    (howed : ∀ c t, (pdats p c).owed t = (K (F := F)).Otc c n) (hrec : ∀ c t, (pdats p c).recorded t = recs (F := F) c n)
    (hphi : ∀ c t, (pdats p c).Φ t = phi (Pipeline.pin (pcfgs (F := F)) adm p).spec c)
    (hq : ∀ c w, ((Pipeline.pin (pcfgs (F := F)) adm p).spec w).isOut = false → (pdats p c).q w = Pipeline.shareOf (Pipeline.pin (pcfgs (F := F)) adm p).spec w)
    (hA : ∀ c w, (pdats p c).A w = W c (Proc.devRef .tc (Pipeline.arrRef (Pipeline.pin (pcfgs (F := F)) adm p).spec w))) :
    Pipeline.RegionSeg pcfgs adm pdats none defs₀ 𝒱₀ (K (F := F)).L (K (F := F)).lev p where
  win := win
  block_pos := block_pos
  stage_whole := stage_whole
  K := PEmpty
  osem k := k.elim
  ho := Pipeline.OwnSemFacts.none _
  hbody := hbody
  hwaits c := Pipeline.cellsWaits_intro (Pipeline.pin (pcfgs (F := F)) adm) pdats none p c fun w s t => by
    rw [howed]; exact (K (F := F)).mayWait_none (.dma _) (otc_none c n)
  pre c := iprop(StableHlo.held (T c) (Pipeline.ucRefs τ sig) (W c) ∗ (∃ r, prngReg c r) ∗ owing c n)
  post c := iprop(StableHlo.held (T c) (Pipeline.ucRefs τ sig) (next pdats p W c) ∗ (∃ r, prngReg c r) ∗ owing c n)
  X c := iprop(∃ r, prngReg c r)
  Y c := iprop(∃ r, prngReg c r)
  Z c := Pipeline.unscopedRest (Pipeline.pin (pcfgs (F := F)) adm p).spec c fun b => W c (Proc.devRef .tc b)
  hentry c := by
    rw [Pipeline.ownSems0_none, Pipeline.prefHeld_of_none _ rfl,
      held_arrays (pdats p c) win.arr_unscoped hsh arr_whole (hq c) (W c) ((pdats p c).arrAt · 0) (fun w => hA c w)]
    iintro ⟨⟨⟨Ha, Hu⟩, HX, HO⟩, -, -⟩
    imodintro
    isplitl [Ha]; · iexact Ha
    isplitr; · iempintro
    isplitl [HO]; · iapply (owing_in (pdats p c) (howed c 0) (hrec c 0)); iexact HO
    isplitl [HX]; · iexact HX
    iexact Hu
  hin c := by
    rw [hphi c 0]
    iintro ⟨HX, -, Hr⟩
    unfold phi
    isplitl [Hr]; · iexact Hr
    iexact HX
  hout c := by
    rw [hphi c, Pipeline.ownSems0_none]
    unfold phi
    iintro ⟨Hr, HY⟩
    isplitl [HY]; · iexact HY
    isplitr; · iempintro
    iexact Hr
  hexit c := by
    rw [held_arrays (pdats p c) win.arr_unscoped hsh arr_whole (hq c) (next pdats p W c) ((pdats p c).arrAt · (Pipeline.pin (pcfgs (F := F)) adm p).N)
        (fun w => ((pdats p c).withArrays_arrAt hsh (W c) (hA c) w).symm),
      ← rest_next (W c) fun w => (pdats p c).arrAt w (Pipeline.pin (pcfgs (F := F)) adm p).N]
    iintro ⟨Ha, HO, HY, HR⟩
    imodintro
    isplitl [Ha HR]
    · isplitl [Ha]; · iexact Ha
      iexact HR
    isplitl [HY]; · iexact HY
    iapply (owing_out (pdats p c) (howed c (Fin.last _)) (hrec c (Fin.last _)))
    iexact HO

/-- The region run where @main calls it: the buffers go from `W` to the valuation after the region, what the TensorCore owes
    stays, and the pipeline's ghost state is used up. -/
theorem region_wp (win : Pipeline.WinFacts₀ (pcfgs (F := F) p).spec) (hsh : Pipeline.SharedIn (pcfgs (F := F) p).spec)
    (block_pos : ∀ w, 0 < ((Pipeline.pin (pcfgs (F := F)) adm p).spec w).block.numel)
    (arr_whole : ∀ w, ((Pipeline.pin (pcfgs (F := F)) adm p).spec w).arr.IsWhole)
    (stage_whole : ∀ w (s : Fin ((Pipeline.pin (pcfgs (F := F)) adm p).spec w).nbuf), (((Pipeline.pin (pcfgs (F := F)) adm p).spec w).stage s).IsWhole)
    (hbody : ∀ c, Pipeline.BodyObligationLoose (pdats p c) defs₀ 𝒱₀ none Set.univ)
    (howed : ∀ c t, (pdats p c).owed t = (K (F := F)).Otc c n) (hrec : ∀ c t, (pdats p c).recorded t = recs (F := F) c n)
    (hphi : ∀ c t, (pdats p c).Φ t = phi (Pipeline.pin (pcfgs (F := F)) adm p).spec c)
    (hq : ∀ c w, ((Pipeline.pin (pcfgs (F := F)) adm p).spec w).isOut = false → (pdats p c).q w = Pipeline.shareOf (Pipeline.pin (pcfgs (F := F)) adm p).spec w)
    (hA : ∀ c w, (pdats p c).A w = W c (Proc.devRef .tc (Pipeline.arrRef (Pipeline.pin (pcfgs (F := F)) adm p).spec w)))
    (d : Dev nD) (Φ : PUnit → sProp 𝕄) :
    iprop((iprop(boundary (T d) ∗ StableHlo.held (T d) (Pipeline.ucRefs τ sig) (next pdats p W d) ∗ (∃ r, prngReg d r) ∗ owing d n) -∗ Φ ⟨⟩)
        ∗ boundary (T d) ∗ StableHlo.held (T d) (Pipeline.ucRefs τ sig) (W d) ∗ (∃ r, prngReg d r) ∗ owing d n
        ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs D) 𝒱 (T d) none) Set.univ
          (Prog.lift (.customCall (SparseCore.inner (Pipeline.entry p)) ()) : Prog (TpuEff nD τ sig (Elt F) _ .tc) PUnit) Φ := by
  refine BIBase.Entails.trans ?_ ((K (F := F)).wp_liftProg D 𝒱 (T d) Set.univ none (Prog.lift (.customCall (Pipeline.entry p) ())) Φ)
  obtain ⟨R, hpre, hpost⟩ : ∃ R : Pipeline.RegionSeg pcfgs adm pdats none defs₀ 𝒱₀ (K (F := F)).L (K (F := F)).lev p,
      R.pre d = iprop(StableHlo.held (T d) (Pipeline.ucRefs τ sig) (W d) ∗ (∃ r, prngReg d r) ∗ owing d n)
      ∧ R.post d = iprop(StableHlo.held (T d) (Pipeline.ucRefs τ sig) (next pdats p W d) ∗ (∃ r, prngReg d r) ∗ owing d n) :=
    ⟨seg pdats p n W win hsh block_pos arr_whole stage_whole hbody howed hrec hphi hq hA, rfl, rfl⟩
  have h := R.wp pcfgs adm pdats none cellOf_inj EP defs₀ 𝒱₀ (K (F := F)).L (K (F := F)).lev d none (fun _ h => by cases h) (fun u => .ret u) Φ
  rw [hpre, hpost, wp_ret] at h
  refine BIBase.Entails.trans ?_ h
  iintro ⟨Hk, Hb, Hh, Hp, HO, Hl, Hc, Ht⟩
  isplitl [Hk]
  · iintro ⟨Hb, Hh, Hp, HO⟩
    imodintro
    iapply Hk
    isplitl [Hb]; · iexact Hb
    isplitl [Hh]; · iexact Hh
    isplitl [Hp]; · iexact Hp
    iexact HO
  isplitl [Hb]; · iexact Hb
  isplitl [Hh Hp HO]
  · isplitl [Hh]; · iexact Hh
    isplitl [Hp]; · iexact Hp
    iexact HO
  isplitl [Hl]; · iexact Hl
  isplitl [Hc]; · iexact Hc
  iexact Ht

end Wp

end Cert.Proof.WholeIdeal

end
-- ==== Proof.WholeSearch.lean ====
/-
  The first search, a TensorCore region: what its body leaves of each block, and the obligation the region rests on.
-/
module

public import proofs.«01_k».proof.Proof.WholeRegion
public import proofs.«01_k».proof.Proof.Gen.WholeIdeal.Launch
public import proofs.«01_k».proof.Proof.Gen.WholeIdeal.Skeleton
public import proofs.«01_k».proof.Proof.Gen.WholeIdeal.Points
public import Idealize.ShloMosaic.Lib.Pipeline.FrameBody
public import Idealize.ShloMosaic.Lib.Tactic
public import Idealize.ShloMosaic.Lib.WordCmp

@[expose] public section

set_option maxRecDepth 16384

noncomputable section

namespace Cert.Proof.WholeIdeal.R0

open Cert.WholeIdeal Cert.WholeIdeal.Gen Cert.Proof.WholeIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open TcCoe

local notation "𝕄" => MT nD τ sig (HIx 2) (Elt F) ℕ UU ℕ

variable (V : (c : Dev nD) → (b : Ref sig .tc) → Buf (Elt F) ((c : Thread nD τ).loc b))

/-- The block of window `w` at grid point `t`, read off the array it stands on. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1x256x3 := Rect.unit (s := S1x256x3) ![0, 0, 0] S1x256x3.size inb_S1x256x3_S1x256x3_0_0_0
abbrev r0_1 : Rect S1x2048x3 := Rect.unit (s := S1x2048x3) ![0, 0, 0] S1x2048x3.size inb_S1x2048x3_S1x2048x3_0_0_0
abbrev r0_2 : Rect S1x256x16 := Rect.unit (s := S1x256x16) ![0, 0, 0] S1x256x16.size inb_S1x256x16_S1x256x16_0_0_0

def k0_pay57 (i : grid0.Coords) (x0 : Vec F S1x256x3 .f32) (x1 : Vec F S1x2048x3 .f32) : IVec S256x2048 32 :=
  iota .tc S256x2048 32 [1] iota_S256x2048_d1_w32 -- `v20`
def k0_pay58 (i : grid0.Coords) (x0 : Vec F S1x256x3 .f32) (x1 : Vec F S1x2048x3 .f32) : FVec F S256x2048 .f32 :=
  k0_pay4 (View.ld x0 r0_0) (View.ld x1 r0_1) -- `v19`
def k0_pay59 (i : grid0.Coords) (x0 : Vec F S1x256x3 .f32) (x1 : Vec F S1x2048x3 .f32) : FVec F S256x2048 .f32 :=
  k0_pay7 (View.ld x0 r0_0) (View.ld x1 r0_1) -- `v38`
def k0_pay60 (i : grid0.Coords) (x0 : Vec F S1x256x3 .f32) (x1 : Vec F S1x2048x3 .f32) : FVec F S256x1 .f32 :=
  k0_pay8 (View.ld x0 r0_0) (View.ld x1 r0_1) -- `v40`
def k0_pay61 (i : grid0.Coords) (x0 : Vec F S1x256x3 .f32) (x1 : Vec F S1x2048x3 .f32) : FVec F S256x2048 .f32 :=
  k0_pay9 (View.ld x0 r0_0) (View.ld x1 r0_1) -- `v41`
def k0_pay62 (i : grid0.Coords) (x0 : Vec F S1x256x3 .f32) (x1 : Vec F S1x2048x3 .f32) : IVec S256x2048 1 :=
  k0_pay17 (k0_pay58 i x0 x1) (k0_pay57 i x0 x1) (k0_pay59 i x0 x1) (k0_pay60 i x0 x1) (k0_pay61 i x0 x1) -- `v90`
def k0_pay63 (i : grid0.Coords) (x0 : Vec F S1x256x3 .f32) (x1 : Vec F S1x2048x3 .f32) : IVec S256x1 32 :=
  k0_pay26 (k0_pay58 i x0 x1) (k0_pay57 i x0 x1) (k0_pay62 i x0 x1) (Scalar.ofBits .f32 0x7F800000#32) -- `v136`
def k0_pay64 (i : grid0.Coords) (x0 : Vec F S1x256x3 .f32) (x1 : Vec F S1x2048x3 .f32) : IVec S256x2048 1 :=
  k0_pay27 (k0_pay58 i x0 x1) (k0_pay57 i x0 x1) (k0_pay62 i x0 x1) (Scalar.ofBits .f32 0x7F800000#32) -- `v138`
def k0_pay65 (i : grid0.Coords) (x0 : Vec F S1x256x3 .f32) (x1 : Vec F S1x2048x3 .f32) : FVec F S256x2048 .f32 :=
  k0_pay28 (k0_pay58 i x0 x1) (k0_pay57 i x0 x1) (k0_pay62 i x0 x1) (Scalar.ofBits .f32 0x7F800000#32) -- `v139`
def k0_pay66 (i : grid0.Coords) (x0 : Vec F S1x256x3 .f32) (x1 : Vec F S1x2048x3 .f32) : FVec F S256x1 .f32 :=
  k0_pay36 (k0_pay58 i x0 x1) (k0_pay57 i x0 x1) (k0_pay63 i x0 x1) (k0_pay64 i x0 x1) (k0_pay65 i x0 x1) -- `v184`
def k0_pay67 (i : grid0.Coords) (x0 : Vec F S1x256x3 .f32) (x1 : Vec F S1x2048x3 .f32) : IVec S256x2048 32 :=
  k0_pay37 (k0_pay58 i x0 x1) (k0_pay57 i x0 x1) (k0_pay63 i x0 x1) (k0_pay64 i x0 x1) (k0_pay65 i x0 x1) -- `v188`
def k0_pay68 (i : grid0.Coords) (x0 : Vec F S1x256x3 .f32) (x1 : Vec F S1x2048x3 .f32) : FVec F S256x2048 .f32 :=
  k0_pay45 (k0_pay58 i x0 x1) (k0_pay57 i x0 x1) (k0_pay66 i x0 x1) (k0_pay67 i x0 x1) -- `v236`
def k0_pay69 (i : grid0.Coords) (x0 : Vec F S1x256x3 .f32) (x1 : Vec F S1x2048x3 .f32) : FVec F S256 .f32 :=
  k0_pay46 (k0_pay58 i x0 x1) (k0_pay57 i x0 x1) (k0_pay66 i x0 x1) (k0_pay67 i x0 x1) -- `v237`

/-- What the body leaves in window 2, of the input blocks. -/
def out_2 (i : grid0.Coords) (x0 : Vec F S1x256x3 .f32) (x1 : Vec F S1x2048x3 .f32) : Vec F S1x256x16 .i32 :=
  View.canon [⟨r0_2, k0_pay3 (BitVec.ofNat 32 (i 0).val) (k0_pay2 (k0_pay6 (View.ld x0 r0_0) (View.ld x1 r0_1)) (k0_pay10 (k0_pay57 i x0 x1) (k0_pay59 i x0 x1) (k0_pay61 i x0 x1)) (k0_pay13 (k0_pay58 i x0 x1) (k0_pay57 i x0 x1) (k0_pay59 i x0 x1) (k0_pay60 i x0 x1) (k0_pay61 i x0 x1)) (k0_pay16 (k0_pay58 i x0 x1) (k0_pay57 i x0 x1) (k0_pay59 i x0 x1) (k0_pay60 i x0 x1) (k0_pay61 i x0 x1)) (k0_pay20 (k0_pay58 i x0 x1) (k0_pay57 i x0 x1) (k0_pay62 i x0 x1) (Scalar.ofBits .f32 0x7F800000#32)) (k0_pay23 (k0_pay58 i x0 x1) (k0_pay57 i x0 x1) (k0_pay62 i x0 x1) (Scalar.ofBits .f32 0x7F800000#32)) (k0_pay63 i x0 x1) (k0_pay31 (k0_pay58 i x0 x1) (k0_pay57 i x0 x1) (k0_pay63 i x0 x1) (k0_pay64 i x0 x1) (k0_pay65 i x0 x1)) (k0_pay34 (k0_pay58 i x0 x1) (k0_pay57 i x0 x1) (k0_pay63 i x0 x1) (k0_pay64 i x0 x1) (k0_pay65 i x0 x1)) (k0_pay38 (k0_pay67 i x0 x1)) (k0_pay41 (k0_pay58 i x0 x1) (k0_pay57 i x0 x1) (k0_pay66 i x0 x1) (k0_pay67 i x0 x1)) (k0_pay44 (k0_pay58 i x0 x1) (k0_pay57 i x0 x1) (k0_pay66 i x0 x1) (k0_pay67 i x0 x1)) (k0_pay48 (k0_pay57 i x0 x1) (k0_pay68 i x0 x1) (k0_pay69 i x0 x1)) (k0_pay51 (k0_pay58 i x0 x1) (k0_pay57 i x0 x1) (k0_pay68 i x0 x1) (k0_pay69 i x0 x1)) (k0_pay54 (k0_pay58 i x0 x1) (k0_pay57 i x0 x1) (k0_pay68 i x0 x1) (k0_pay69 i x0 x1)) (k0_pay1 (k0_pay58 i x0 x1) (k0_pay57 i x0 x1) (k0_pay55 (k0_pay58 i x0 x1) (k0_pay57 i x0 x1) (k0_pay68 i x0 x1) (k0_pay69 i x0 x1)) (k0_pay56 (k0_pay58 i x0 x1) (k0_pay57 i x0 x1) (k0_pay68 i x0 x1) (k0_pay69 i x0 x1))))⟩]

theorem cover_2 (p0 : Vec F S1x256x16 .i32) (y : S1x256x16.Idx) :
    ∃ pc ∈ ([⟨r0_2, p0⟩] : List (View.Piece (Elt F) S1x256x16 .i32)), y ∈ pc.1.set :=
  View.cover_of_tiled [⟨r0_2, p0⟩] S1x256x16.size (by rfl) y

set_option maxHeartbeats 1901150 in
/-- The body run on whole staging buffers: the inputs come back as they were, each output holds what the body computes of them. -/
theorem sound_kernel (c : Dev nD) (E : Set ℕ) (i : grid0.Coords) (arg2 : Memref sig .tc .vmem S1x256x3 .f32) (harg2 : arg2.IsWhole) (arg3 : Memref sig .tc .vmem S1x2048x3 .f32) (harg3 : arg3.IsWhole) (arg4 : Memref sig .tc .vmem S1x256x16 .i32) (harg4 : arg4.IsWhole)
    (x0 : Vec F S1x256x3 .f32) (x1 : Vec F S1x2048x3 .f32) (K : PUnit → sProp 𝕄) :
    iprop(ownsTc c arg2 fullShare x0 ∗ ownsTc c arg3 fullShare x1 ∗ (∃ d, ownsTc c arg4 fullShare d)
        ∗ (iprop(ownsTc c arg2 fullShare x0 ∗ ownsTc c arg3 fullShare x1 ∗ ownsTc c arg4 fullShare (out_2 i x0 x1)) -∗ K ⟨⟩))
      ⊢ wp frame (wpE (defs₀ (F := F)) 𝒱₀ c none) E (cc0__knn1_kernel i arg2 harg2 arg3 harg3 arg4 harg4) K := by
  simp only [cc0__knn1_kernel_eq_skeleton]; unfold cc0__knn1_kernel_skel
  simp only [k0_part1_eq_skeleton, k0_part2_eq_skeleton, k0_part3_eq_skeleton, k0_part4_eq_skeleton, k0_part5_eq_skeleton, k0_part6_eq_skeleton]
  unfold ownsTc owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (cover_2 _)).trans ?_
  rfl

/-- The pipeline's proof data: inputs keep their blocks, outputs hold what the body leaves; the TensorCore's debts to later calls pass through. -/
def dat (c : Dev nD) : Pipeline.Dat τ (Elt F) (HIx 2) ℕ UU ℕ cfg0 c where
  A w := V c (Pipeline.arrRef spec0 w)
  after w t := match w with
    | ⟨0, _⟩ => iblk V c 0 t
    | ⟨1, _⟩ => iblk V c 1 t
    | ⟨2, _⟩ => out_2 (grid0.coords t) (iblk V c 0 t) (iblk V c 1 t)
  Φ _ := phi spec0 c
  q w := Pipeline.shareOf spec0 w
  owed _ := (K (F := F)).Otc c 0
  recorded _ := recs (F := F) c 0

/-- The arrays' contents at entry. -/
theorem A_eq (c : Dev nD) (w : Fin cfg0.W) : (dat V c).A w = V c (Pipeline.arrRef spec0 w) := by
  dsimp only [dat]

theorem after_2 (c : Dev nD) (t : Fin cfg0.N) : (dat V c).after 2 t = out_2 (grid0.coords t) (iblk V c 0 t) (iblk V c 1 t) := by dsimp only [dat]

theorem before_0 (c : Dev nD) (t : Fin cfg0.N) (d) : (dat V c).before 0 t d = iblk V c 0 t :=
  (dat V c).before_in_eq_fetched 0 rfl (fun _ => rfl) (fun _ _ _ => rfl) (fun _ => rfl) t d
theorem before_1 (c : Dev nD) (t : Fin cfg0.N) (d) : (dat V c).before 1 t d = iblk V c 1 t :=
  (dat V c).before_in_eq_fetched 1 rfl (fun _ => rfl) (fun _ _ _ => rfl) (fun _ => rfl) t d

/-- The body table's row is the body. -/
theorem defs₀_row (t : Fin cfg0.N) :
    defs₀ (F := F) .tc cfg0.body (cfg0.bodyArgs t (cfg0.slots t)) = bodyAt0 t := rfl

/-- The body obligation, at every point. -/
theorem body_obligation (c : Dev nD) : Pipeline.BodyObligation (dat V c) (defs₀ (F := F)) 𝒱₀ none Set.univ := fun t => by
  rw [bigSep_W0, bigSep_W0, defs₀_row]
  unfold bodyAt0
  simp only [before_0, before_1]
  rw [show (dat V c).Φ t.succ = (dat V c).Φ t.castSucc from rfl,
    show (dat V c).owesAt none t.succ = (dat V c).owesAt none t.castSucc from rfl]
  dsimp only [dat]
  iintro ⟨HΦ, Ho, ⟨%d0, H0⟩, ⟨%d1, H1⟩, ⟨%d2, H2⟩⟩
  iapply (sound_kernel c Set.univ (grid0.coords t) _ _ _ _ _ _ _ _ _)
  isplitl [H0]; · iexact H0
  isplitl [H1]; · iexact H1
  isplitl [H2]; · iexists _; iexact H2
  iintro ⟨H0, H1, H2⟩
  iframe

end Cert.Proof.WholeIdeal.R0

end
-- ==== Proof.WholeAttn1.lean ====
/-
  The first attention call, a TensorCore region: what its body leaves of each block, and the obligation the region rests on.
-/
module

public import proofs.«01_k».proof.Proof.WholeRegion
public import proofs.«01_k».proof.Proof.Gen.WholeIdeal.Launch
public import proofs.«01_k».proof.Proof.Gen.WholeIdeal.Skeleton
public import proofs.«01_k».proof.Proof.Gen.WholeIdeal.Points
public import Idealize.ShloMosaic.Lib.Pipeline.FrameBody
public import Idealize.ShloMosaic.Lib.Tactic
public import Idealize.ShloMosaic.Lib.WordCmp

@[expose] public section

set_option maxRecDepth 16384

noncomputable section

namespace Cert.Proof.WholeIdeal.R1

open Cert.WholeIdeal Cert.WholeIdeal.Gen Cert.Proof.WholeIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open TcCoe

local notation "𝕄" => MT nD τ sig (HIx 2) (Elt F) ℕ UU ℕ

variable (V : (c : Dev nD) → (b : Ref sig .tc) → Buf (Elt F) ((c : Thread nD τ).loc b))

/-- The block of window `w` at grid point `t`, read off the array it stands on. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r1_0 : Rect S256x16x128 := Rect.unit (s := S256x16x128) ![0, 0, 0] S256x16x128.size inb_S256x16x128_S256x16x128_0_0_0
abbrev r1_1 : Rect S1x256x3 := Rect.unit (s := S1x256x3) ![0, 0, 0] S1x256x3.size inb_S1x256x3_S1x256x3_0_0_0
abbrev r1_2 : Rect S128x3 := Rect.unit (s := S128x3) ![0, 0] S128x3.size inb_S128x3_S128x3_0_0
abbrev r1_3 : Rect S1x128 := Rect.unit (s := S1x128) ![0, 0] S1x128.size inb_S1x128_S1x128_0_0
abbrev r1_4 : Rect S1x256x128 := Rect.unit (s := S1x256x128) ![0, 0, 0] S1x256x128.size inb_S1x256x128_S1x256x128_0_0_0
abbrev r1_5 : Rect S128x128 := Rect.unit (s := S128x128) ![0, 0] S128x128.size inb_S128x128_S128x128_0_0

/-- What the body leaves in window 9, of the input blocks. -/
def out_9 (x0 x1 : Vec F S256x16x128 .f32) (x2 : Vec F S1x256x3 .f32) (x3 : Vec F S1x256x128 .f32) (x4 x5 x6 : Vec F S128x128 .f32) (x7 : Vec F S128x3 .f32) (x8 : Vec F S1x128 .f32) : Vec F S1x256x128 .f32 :=
  View.canon [⟨r1_4, k2_pay1 (k2_pay3 (View.ld x1 r1_0) (View.ld x2 r1_1) (View.ld x7 r1_2) (View.ld x8 r1_3) (View.ld x0 r1_0) (View.ld x6 r1_5)) (k2_pay4 (View.ld x1 r1_0) (View.ld x2 r1_1) (View.ld x7 r1_2) (View.ld x8 r1_3) (View.ld x0 r1_0) (View.ld x5 r1_5)) (k2_pay5 (View.ld x3 r1_4) (View.ld x4 r1_5))⟩]

theorem cover_9 (p0 : Vec F S1x256x128 .f32) (y : S1x256x128.Idx) :
    ∃ pc ∈ ([⟨r1_4, p0⟩] : List (View.Piece (Elt F) S1x256x128 .f32)), y ∈ pc.1.set :=
  View.cover_of_tiled [⟨r1_4, p0⟩] S1x256x128.size (by rfl) y

set_option maxHeartbeats 1000000 in
/-- The body run on whole staging buffers: the inputs come back as they were, each output holds what the body computes of them. -/
theorem sound_kernel (c : Dev nD) (E : Set ℕ) (i : grid2.Coords) (arg2 : Memref sig .tc .vmem S256x16x128 .f32) (harg2 : arg2.IsWhole) (arg3 : Memref sig .tc .vmem S256x16x128 .f32) (harg3 : arg3.IsWhole) (arg4 : Memref sig .tc .vmem S1x256x3 .f32) (harg4 : arg4.IsWhole) (arg5 : Memref sig .tc .vmem S1x256x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x3 .f32) (harg9 : arg9.IsWhole) (arg10 : Memref sig .tc .vmem S1x128 .f32) (harg10 : arg10.IsWhole) (arg11 : Memref sig .tc .vmem S1x256x128 .f32) (harg11 : arg11.IsWhole)
    (x0 x1 : Vec F S256x16x128 .f32) (x2 : Vec F S1x256x3 .f32) (x3 : Vec F S1x256x128 .f32) (x4 x5 x6 : Vec F S128x128 .f32) (x7 : Vec F S128x3 .f32) (x8 : Vec F S1x128 .f32) (K : PUnit → sProp 𝕄) :
    iprop(ownsTc c arg2 fullShare x0 ∗ ownsTc c arg3 fullShare x1 ∗ ownsTc c arg4 fullShare x2 ∗ ownsTc c arg5 fullShare x3 ∗ ownsTc c arg6 fullShare x4 ∗ ownsTc c arg7 fullShare x5 ∗ ownsTc c arg8 fullShare x6 ∗ ownsTc c arg9 fullShare x7 ∗ ownsTc c arg10 fullShare x8 ∗ (∃ d, ownsTc c arg11 fullShare d)
        ∗ (iprop(ownsTc c arg2 fullShare x0 ∗ ownsTc c arg3 fullShare x1 ∗ ownsTc c arg4 fullShare x2 ∗ ownsTc c arg5 fullShare x3 ∗ ownsTc c arg6 fullShare x4 ∗ ownsTc c arg7 fullShare x5 ∗ ownsTc c arg8 fullShare x6 ∗ ownsTc c arg9 fullShare x7 ∗ ownsTc c arg10 fullShare x8 ∗ ownsTc c arg11 fullShare (out_9 x0 x1 x2 x3 x4 x5 x6 x7 x8)) -∗ K ⟨⟩))
      ⊢ wp frame (wpE (defs₀ (F := F)) 𝒱₀ c none) E (cc2__attn1_kernel i arg2 harg2 arg3 harg3 arg4 harg4 arg5 harg5 arg6 harg6 arg7 harg7 arg8 harg8 arg9 harg9 arg10 harg10 arg11 harg11) K := by
  simp only [cc2__attn1_kernel_eq_skeleton]; unfold cc2__attn1_kernel_skel
  simp only [k2_part1_eq_skeleton]
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_9 _)

/-- The pipeline's proof data: inputs keep their blocks, outputs hold what the body leaves; the TensorCore's debts to later calls pass through. -/
def dat (c : Dev nD) : Pipeline.Dat τ (Elt F) (HIx 2) ℕ UU ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => out_9 (iblk V c 0 t) (iblk V c 1 t) (iblk V c 2 t) (iblk V c 3 t) (iblk V c 4 t) (iblk V c 5 t) (iblk V c 6 t) (iblk V c 7 t) (iblk V c 8 t)
  Φ _ := phi spec2 c
  q w := Pipeline.shareOf spec2 w
  owed _ := (K (F := F)).Otc c 1
  recorded _ := recs (F := F) c 1

/-- The arrays' contents at entry. -/
theorem A_eq (c : Dev nD) (w : Fin cfg2.W) : (dat V c).A w = V c (Pipeline.arrRef spec2 w) := by
  dsimp only [dat]

theorem after_9 (c : Dev nD) (t : Fin cfg2.N) : (dat V c).after 9 t = out_9 (iblk V c 0 t) (iblk V c 1 t) (iblk V c 2 t) (iblk V c 3 t) (iblk V c 4 t) (iblk V c 5 t) (iblk V c 6 t) (iblk V c 7 t) (iblk V c 8 t) := by dsimp only [dat]

theorem before_0 (c : Dev nD) (t : Fin cfg2.N) (d) : (dat V c).before 0 t d = iblk V c 0 t :=
  (dat V c).before_in_eq_fetched 0 rfl (fun _ => rfl) (fun _ _ _ => rfl) (fun _ => rfl) t d
theorem before_1 (c : Dev nD) (t : Fin cfg2.N) (d) : (dat V c).before 1 t d = iblk V c 1 t :=
  (dat V c).before_in_eq_fetched 1 rfl (fun _ => rfl) (fun _ _ _ => rfl) (fun _ => rfl) t d
theorem before_2 (c : Dev nD) (t : Fin cfg2.N) (d) : (dat V c).before 2 t d = iblk V c 2 t :=
  (dat V c).before_in_eq_fetched 2 rfl (fun _ => rfl) (fun _ _ _ => rfl) (fun _ => rfl) t d
theorem before_3 (c : Dev nD) (t : Fin cfg2.N) (d) : (dat V c).before 3 t d = iblk V c 3 t :=
  (dat V c).before_in_eq_fetched 3 rfl (fun _ => rfl) (fun _ _ _ => rfl) (fun _ => rfl) t d
theorem before_4 (c : Dev nD) (t : Fin cfg2.N) (d) : (dat V c).before 4 t d = iblk V c 4 t :=
  (dat V c).before_in_eq_fetched 4 rfl (fun _ => rfl) (fun _ _ _ => rfl) (fun _ => rfl) t d
theorem before_5 (c : Dev nD) (t : Fin cfg2.N) (d) : (dat V c).before 5 t d = iblk V c 5 t :=
  (dat V c).before_in_eq_fetched 5 rfl (fun _ => rfl) (fun _ _ _ => rfl) (fun _ => rfl) t d
theorem before_6 (c : Dev nD) (t : Fin cfg2.N) (d) : (dat V c).before 6 t d = iblk V c 6 t :=
  (dat V c).before_in_eq_fetched 6 rfl (fun _ => rfl) (fun _ _ _ => rfl) (fun _ => rfl) t d
theorem before_7 (c : Dev nD) (t : Fin cfg2.N) (d) : (dat V c).before 7 t d = iblk V c 7 t :=
  (dat V c).before_in_eq_fetched 7 rfl (fun _ => rfl) (fun _ _ _ => rfl) (fun _ => rfl) t d
theorem before_8 (c : Dev nD) (t : Fin cfg2.N) (d) : (dat V c).before 8 t d = iblk V c 8 t :=
  (dat V c).before_in_eq_fetched 8 rfl (fun _ => rfl) (fun _ _ _ => rfl) (fun _ => rfl) t d

/-- The body table's row is the body. -/
theorem defs₀_row (t : Fin cfg2.N) :
    defs₀ (F := F) .tc cfg2.body (cfg2.bodyArgs t (cfg2.slots t)) = bodyAt2 t := rfl

/-- The body obligation, at every point. -/
theorem body_obligation (c : Dev nD) : Pipeline.BodyObligation (dat V c) (defs₀ (F := F)) 𝒱₀ none Set.univ := fun t => by
  rw [bigSep_W2, bigSep_W2, defs₀_row]
  unfold bodyAt2
  simp only [before_0, before_1, before_2, before_3, before_4, before_5, before_6, before_7, before_8]
  rw [show (dat V c).Φ t.succ = (dat V c).Φ t.castSucc from rfl,
    show (dat V c).owesAt none t.succ = (dat V c).owesAt none t.castSucc from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c Set.univ (grid2.coords t) _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  iframe

end Cert.Proof.WholeIdeal.R1

end
-- ==== Proof.WholeAttn2.lean ====
/-
  The second attention call, a TensorCore region: its body and obligation.
-/
module

public import proofs.«01_k».proof.Proof.WholeRegion
public import proofs.«01_k».proof.Proof.Gen.WholeIdeal.Launch
public import proofs.«01_k».proof.Proof.Gen.WholeIdeal.Skeleton
public import proofs.«01_k».proof.Proof.Gen.WholeIdeal.Points
public import Idealize.ShloMosaic.Lib.Pipeline.FrameBody
public import Idealize.ShloMosaic.Lib.Tactic
public import Idealize.ShloMosaic.Lib.WordCmp

@[expose] public section

set_option maxRecDepth 16384

noncomputable section

namespace Cert.Proof.WholeIdeal.R4

open Cert.WholeIdeal Cert.WholeIdeal.Gen Cert.Proof.WholeIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open TcCoe

local notation "𝕄" => MT nD τ sig (HIx 2) (Elt F) ℕ UU ℕ

variable (V : (c : Dev nD) → (b : Ref sig .tc) → Buf (Elt F) ((c : Thread nD τ).loc b))

/-- The block of window `w` at grid point `t`, read off the array it stands on. -/
def iblk (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r4_0 : Rect S256x16x128 := Rect.unit (s := S256x16x128) ![0, 0, 0] S256x16x128.size inb_S256x16x128_S256x16x128_0_0_0
abbrev r4_1 : Rect S1x256x128 := Rect.unit (s := S1x256x128) ![0, 0, 0] S1x256x128.size inb_S1x256x128_S1x256x128_0_0_0
abbrev r4_2 : Rect S128x128 := Rect.unit (s := S128x128) ![0, 0] S128x128.size inb_S128x128_S128x128_0_0
abbrev r4_3 : Rect S1x128 := Rect.unit (s := S1x128) ![0, 0] S1x128.size inb_S1x128_S1x128_0_0

/-- What the body leaves in window 14, of the input blocks. -/
def out_14 (x0 : Vec F S256x16x128 .f32) (x1 x2 : Vec F S1x256x128 .f32) (x3 : Vec F S128x128 .f32) (x4 : Vec F S1x128 .f32) (x5 x6 : Vec F S128x128 .f32) (x7 : Vec F S1x256x128 .f32) (x8 : Vec F S128x128 .f32) (x9 x10 x11 x12 x13 : Vec F S1x128 .f32) : Vec F S1x256x128 .f32 :=
  View.canon [⟨r4_1, k5_pay1 (k5_pay6 (View.ld x7 r4_1)) (k5_pay7 (k5_pay3 (View.ld x0 r4_0) (View.ld x1 r4_1) (View.ld x3 r4_2) (View.ld x4 r4_3) (View.ld x6 r4_2)) (k5_pay4 (View.ld x0 r4_0) (View.ld x1 r4_1) (View.ld x3 r4_2) (View.ld x4 r4_3) (View.ld x2 r4_1) (View.ld x5 r4_2)) (k5_pay5 (View.ld x0 r4_0) (View.ld x1 r4_1) (View.ld x3 r4_2) (View.ld x4 r4_3) (View.ld x2 r4_1) (View.ld x5 r4_2)) (View.ld x7 r4_1) (View.ld x10 r4_3) (View.ld x11 r4_3)) (View.ld x8 r4_2) (View.ld x9 r4_3) (View.ld x12 r4_3) (View.ld x13 r4_3)⟩]

theorem cover_14 (p0 : Vec F S1x256x128 .f32) (y : S1x256x128.Idx) :
    ∃ pc ∈ ([⟨r4_1, p0⟩] : List (View.Piece (Elt F) S1x256x128 .f32)), y ∈ pc.1.set :=
  View.cover_of_tiled [⟨r4_1, p0⟩] S1x256x128.size (by rfl) y

set_option maxHeartbeats 1000000 in
/-- The body run on whole staging buffers: the inputs come back as they were, each output holds what the body computes of them. -/
theorem sound_kernel (c : Dev nD) (E : Set ℕ) (i : grid5.Coords) (arg2 : Memref sig .tc .vmem S256x16x128 .f32) (harg2 : arg2.IsWhole) (arg3 : Memref sig .tc .vmem S1x256x128 .f32) (harg3 : arg3.IsWhole) (arg4 : Memref sig .tc .vmem S1x256x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S1x256x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x256x128 .f32) (harg16 : arg16.IsWhole)
    (x0 : Vec F S256x16x128 .f32) (x1 x2 : Vec F S1x256x128 .f32) (x3 : Vec F S128x128 .f32) (x4 : Vec F S1x128 .f32) (x5 x6 : Vec F S128x128 .f32) (x7 : Vec F S1x256x128 .f32) (x8 : Vec F S128x128 .f32) (x9 x10 x11 x12 x13 : Vec F S1x128 .f32) (K : PUnit → sProp 𝕄) :
    iprop(ownsTc c arg2 fullShare x0 ∗ ownsTc c arg3 fullShare x1 ∗ ownsTc c arg4 fullShare x2 ∗ ownsTc c arg5 fullShare x3 ∗ ownsTc c arg6 fullShare x4 ∗ ownsTc c arg7 fullShare x5 ∗ ownsTc c arg8 fullShare x6 ∗ ownsTc c arg9 fullShare x7 ∗ ownsTc c arg10 fullShare x8 ∗ ownsTc c arg11 fullShare x9 ∗ ownsTc c arg12 fullShare x10 ∗ ownsTc c arg13 fullShare x11 ∗ ownsTc c arg14 fullShare x12 ∗ ownsTc c arg15 fullShare x13 ∗ (∃ d, ownsTc c arg16 fullShare d)
        ∗ (iprop(ownsTc c arg2 fullShare x0 ∗ ownsTc c arg3 fullShare x1 ∗ ownsTc c arg4 fullShare x2 ∗ ownsTc c arg5 fullShare x3 ∗ ownsTc c arg6 fullShare x4 ∗ ownsTc c arg7 fullShare x5 ∗ ownsTc c arg8 fullShare x6 ∗ ownsTc c arg9 fullShare x7 ∗ ownsTc c arg10 fullShare x8 ∗ ownsTc c arg11 fullShare x9 ∗ ownsTc c arg12 fullShare x10 ∗ ownsTc c arg13 fullShare x11 ∗ ownsTc c arg14 fullShare x12 ∗ ownsTc c arg15 fullShare x13 ∗ ownsTc c arg16 fullShare (out_14 x0 x1 x2 x3 x4 x5 x6 x7 x8 x9 x10 x11 x12 x13)) -∗ K ⟨⟩))
      ⊢ wp frame (wpE (defs₀ (F := F)) 𝒱₀ c none) E (cc5__attn2_kernel i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  simp only [cc5__attn2_kernel_eq_skeleton]; unfold cc5__attn2_kernel_skel
  simp only [k5_part1_eq_skeleton, k5_part2_eq_skeleton]
  unfold ownsTc owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, Hk⟩
  subst hf0 hf1 hf2 hf3 hf4 hf5 hf6 hf7 hf8 hf9 hf10 hf11 hf12 hf13
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  iexists _; isplitr
  swap; · iexact H14
  ipureintro
  exact View.read_writes_eq_canon _ _ _ (cover_14 _)

/-- The pipeline's proof data: inputs keep their blocks, outputs hold what the body leaves; the TensorCore's debts to later calls pass through. -/
def dat (c : Dev nD) : Pipeline.Dat τ (Elt F) (HIx 2) ℕ UU ℕ cfg5 c where
  A w := V c (Pipeline.arrRef spec5 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => iblk V c 8 t
    | ⟨9, _⟩ => iblk V c 9 t
    | ⟨10, _⟩ => iblk V c 10 t
    | ⟨11, _⟩ => iblk V c 11 t
    | ⟨12, _⟩ => iblk V c 12 t
    | ⟨13, _⟩ => iblk V c 13 t
    | ⟨14, _⟩ => out_14 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t)
  Φ _ := phi spec5 c
  q w := Pipeline.shareOf spec5 w
  owed _ := (K (F := F)).Otc c 2
  recorded _ := recs (F := F) c 2

/-- The arrays' contents at entry. -/
theorem A_eq (c : Dev nD) (w : Fin cfg5.W) : (dat V c).A w = V c (Pipeline.arrRef spec5 w) := by
  dsimp only [dat]

theorem after_14 (c : Dev nD) (t : Fin cfg5.N) : (dat V c).after 14 t = out_14 (iblk V c 0 t) (iblk V c 1 t) (iblk V c 2 t) (iblk V c 3 t) (iblk V c 4 t) (iblk V c 5 t) (iblk V c 6 t) (iblk V c 7 t) (iblk V c 8 t) (iblk V c 9 t) (iblk V c 10 t) (iblk V c 11 t) (iblk V c 12 t) (iblk V c 13 t) := by dsimp only [dat]

theorem before_0 (c : Dev nD) (t : Fin cfg5.N) (d) : (dat V c).before 0 t d = iblk V c 0 t :=
  (dat V c).before_in_eq_fetched 0 rfl (fun _ => rfl) (fun _ _ _ => rfl) (fun _ => rfl) t d
theorem before_1 (c : Dev nD) (t : Fin cfg5.N) (d) : (dat V c).before 1 t d = iblk V c 1 t :=
  (dat V c).before_in_eq_fetched 1 rfl (fun _ => rfl) (fun _ _ _ => rfl) (fun _ => rfl) t d
theorem before_2 (c : Dev nD) (t : Fin cfg5.N) (d) : (dat V c).before 2 t d = iblk V c 2 t :=
  (dat V c).before_in_eq_fetched 2 rfl (fun _ => rfl) (fun _ _ _ => rfl) (fun _ => rfl) t d
theorem before_3 (c : Dev nD) (t : Fin cfg5.N) (d) : (dat V c).before 3 t d = iblk V c 3 t :=
  (dat V c).before_in_eq_fetched 3 rfl (fun _ => rfl) (fun _ _ _ => rfl) (fun _ => rfl) t d
theorem before_4 (c : Dev nD) (t : Fin cfg5.N) (d) : (dat V c).before 4 t d = iblk V c 4 t :=
  (dat V c).before_in_eq_fetched 4 rfl (fun _ => rfl) (fun _ _ _ => rfl) (fun _ => rfl) t d
theorem before_5 (c : Dev nD) (t : Fin cfg5.N) (d) : (dat V c).before 5 t d = iblk V c 5 t :=
  (dat V c).before_in_eq_fetched 5 rfl (fun _ => rfl) (fun _ _ _ => rfl) (fun _ => rfl) t d
theorem before_6 (c : Dev nD) (t : Fin cfg5.N) (d) : (dat V c).before 6 t d = iblk V c 6 t :=
  (dat V c).before_in_eq_fetched 6 rfl (fun _ => rfl) (fun _ _ _ => rfl) (fun _ => rfl) t d
theorem before_7 (c : Dev nD) (t : Fin cfg5.N) (d) : (dat V c).before 7 t d = iblk V c 7 t :=
  (dat V c).before_in_eq_fetched 7 rfl (fun _ => rfl) (fun _ _ _ => rfl) (fun _ => rfl) t d
theorem before_8 (c : Dev nD) (t : Fin cfg5.N) (d) : (dat V c).before 8 t d = iblk V c 8 t :=
  (dat V c).before_in_eq_fetched 8 rfl (fun _ => rfl) (fun _ _ _ => rfl) (fun _ => rfl) t d
theorem before_9 (c : Dev nD) (t : Fin cfg5.N) (d) : (dat V c).before 9 t d = iblk V c 9 t :=
  (dat V c).before_in_eq_fetched 9 rfl (fun _ => rfl) (fun _ _ _ => rfl) (fun _ => rfl) t d
theorem before_10 (c : Dev nD) (t : Fin cfg5.N) (d) : (dat V c).before 10 t d = iblk V c 10 t :=
  (dat V c).before_in_eq_fetched 10 rfl (fun _ => rfl) (fun _ _ _ => rfl) (fun _ => rfl) t d
theorem before_11 (c : Dev nD) (t : Fin cfg5.N) (d) : (dat V c).before 11 t d = iblk V c 11 t :=
  (dat V c).before_in_eq_fetched 11 rfl (fun _ => rfl) (fun _ _ _ => rfl) (fun _ => rfl) t d
theorem before_12 (c : Dev nD) (t : Fin cfg5.N) (d) : (dat V c).before 12 t d = iblk V c 12 t :=
  (dat V c).before_in_eq_fetched 12 rfl (fun _ => rfl) (fun _ _ _ => rfl) (fun _ => rfl) t d
theorem before_13 (c : Dev nD) (t : Fin cfg5.N) (d) : (dat V c).before 13 t d = iblk V c 13 t :=
  (dat V c).before_in_eq_fetched 13 rfl (fun _ => rfl) (fun _ _ _ => rfl) (fun _ => rfl) t d

/-- The body table's row is the body. -/
theorem defs₀_row (t : Fin cfg5.N) :
    defs₀ (F := F) .tc cfg5.body (cfg5.bodyArgs t (cfg5.slots t)) = bodyAt5 t := rfl

/-- The body obligation, at every point. -/
theorem body_obligation (c : Dev nD) : Pipeline.BodyObligation (dat V c) (defs₀ (F := F)) 𝒱₀ none Set.univ := fun t => by
  rw [bigSep_W5, bigSep_W5, defs₀_row]
  unfold bodyAt5
  simp only [before_0, before_1, before_2, before_3, before_4, before_5, before_6, before_7, before_8, before_9, before_10, before_11, before_12, before_13]
  rw [show (dat V c).Φ t.succ = (dat V c).Φ t.castSucc from rfl,
    show (dat V c).owesAt none t.succ = (dat V c).owesAt none t.castSucc from rfl]
  dsimp only [dat]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
  iapply (sound_kernel c Set.univ (grid5.coords t) _ _ _ _ _ _ _ _ _ _ _ _ _ _ _ _ _ _ _ _ _ _ _ _ _ _ _ _ _ _ _ _ _ _ _ _ _ _ _ _ _ _ _ _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  iintro ⟨H0, H1, H2, H3, H4, H5, H6, H7, H8, H9, H10, H11, H12, H13, H14⟩
  iframe

end Cert.Proof.WholeIdeal.R4

end
-- ==== Proof.WholeQueries.lean ====
/-
  The call that projects the second layer's queries (and finds neighbours that @main does not read): its body and obligation.
-/
module

public import proofs.«01_k».proof.Proof.WholeRegion
public import proofs.«01_k».proof.Proof.Gen.WholeIdeal.Launch
public import proofs.«01_k».proof.Proof.Gen.WholeIdeal.Skeleton
public import proofs.«01_k».proof.Proof.Gen.WholeIdeal.Points
public import Idealize.ShloMosaic.Lib.Pipeline.FrameBody
public import Idealize.ShloMosaic.Lib.Tactic
public import Idealize.ShloMosaic.Lib.WordCmp

@[expose] public section

set_option maxRecDepth 16384

noncomputable section

namespace Cert.Proof.WholeIdeal.R2

open Cert.WholeIdeal Cert.WholeIdeal.Gen Cert.Proof.WholeIdeal

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

open TcCoe

local notation "𝕄" => MT nD τ sig (HIx 2) (Elt F) ℕ UU ℕ

variable (V : (c : Dev nD) → (b : Ref sig .tc) → Buf (Elt F) ((c : Thread nD τ).loc b))

/-- The block of window `w` at grid point `t`, read off the array it stands on. -/
def iblk (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r2_0 : Rect S1x256x128 := Rect.unit (s := S1x256x128) ![0, 0, 0] S1x256x128.size inb_S1x256x128_S1x256x128_0_0_0
abbrev r2_1 : Rect S1x2048x128 := Rect.unit (s := S1x2048x128) ![0, 0, 0] S1x2048x128.size inb_S1x2048x128_S1x2048x128_0_0_0
abbrev r2_2 : Rect S1x256x16 := Rect.unit (s := S1x256x16) ![0, 0, 0] S1x256x16.size inb_S1x256x16_S1x256x16_0_0_0
abbrev r2_3 : Rect S128x128 := Rect.unit (s := S128x128) ![0, 0] S128x128.size inb_S128x128_S128x128_0_0

def k3_pay59 (i : grid3.Coords) (x0 : Vec F S1x256x128 .f32) (x1 : Vec F S1x2048x128 .f32) (x2 : Vec F S128x128 .f32) : IVec S256x2048 32 :=
  iota .tc S256x2048 32 [1] iota_S256x2048_d1_w32 -- `v20`
def k3_pay60 (i : grid3.Coords) (x0 : Vec F S1x256x128 .f32) (x1 : Vec F S1x2048x128 .f32) (x2 : Vec F S128x128 .f32) : FVec F S256x2048 .f32 :=
  k3_pay6 (View.ld x0 r2_0) (View.ld x1 r2_1) -- `v19`
def k3_pay61 (i : grid3.Coords) (x0 : Vec F S1x256x128 .f32) (x1 : Vec F S1x2048x128 .f32) (x2 : Vec F S128x128 .f32) : FVec F S256x2048 .f32 :=
  k3_pay9 (View.ld x0 r2_0) (View.ld x1 r2_1) -- `v38`
def k3_pay62 (i : grid3.Coords) (x0 : Vec F S1x256x128 .f32) (x1 : Vec F S1x2048x128 .f32) (x2 : Vec F S128x128 .f32) : FVec F S256x1 .f32 :=
  k3_pay10 (View.ld x0 r2_0) (View.ld x1 r2_1) -- `v40`
def k3_pay63 (i : grid3.Coords) (x0 : Vec F S1x256x128 .f32) (x1 : Vec F S1x2048x128 .f32) (x2 : Vec F S128x128 .f32) : FVec F S256x2048 .f32 :=
  k3_pay11 (View.ld x0 r2_0) (View.ld x1 r2_1) -- `v41`
def k3_pay64 (i : grid3.Coords) (x0 : Vec F S1x256x128 .f32) (x1 : Vec F S1x2048x128 .f32) (x2 : Vec F S128x128 .f32) : IVec S256x2048 1 :=
  k3_pay19 (k3_pay60 i x0 x1 x2) (k3_pay59 i x0 x1 x2) (k3_pay61 i x0 x1 x2) (k3_pay62 i x0 x1 x2) (k3_pay63 i x0 x1 x2) -- `v90`
def k3_pay65 (i : grid3.Coords) (x0 : Vec F S1x256x128 .f32) (x1 : Vec F S1x2048x128 .f32) (x2 : Vec F S128x128 .f32) : IVec S256x1 32 :=
  k3_pay28 (k3_pay60 i x0 x1 x2) (k3_pay59 i x0 x1 x2) (k3_pay64 i x0 x1 x2) (Scalar.ofBits .f32 0x7F800000#32) -- `v136`
def k3_pay66 (i : grid3.Coords) (x0 : Vec F S1x256x128 .f32) (x1 : Vec F S1x2048x128 .f32) (x2 : Vec F S128x128 .f32) : IVec S256x2048 1 :=
  k3_pay29 (k3_pay60 i x0 x1 x2) (k3_pay59 i x0 x1 x2) (k3_pay64 i x0 x1 x2) (Scalar.ofBits .f32 0x7F800000#32) -- `v138`
def k3_pay67 (i : grid3.Coords) (x0 : Vec F S1x256x128 .f32) (x1 : Vec F S1x2048x128 .f32) (x2 : Vec F S128x128 .f32) : FVec F S256x2048 .f32 :=
  k3_pay30 (k3_pay60 i x0 x1 x2) (k3_pay59 i x0 x1 x2) (k3_pay64 i x0 x1 x2) (Scalar.ofBits .f32 0x7F800000#32) -- `v139`
def k3_pay68 (i : grid3.Coords) (x0 : Vec F S1x256x128 .f32) (x1 : Vec F S1x2048x128 .f32) (x2 : Vec F S128x128 .f32) : FVec F S256x1 .f32 :=
  k3_pay38 (k3_pay60 i x0 x1 x2) (k3_pay59 i x0 x1 x2) (k3_pay65 i x0 x1 x2) (k3_pay66 i x0 x1 x2) (k3_pay67 i x0 x1 x2) -- `v184`
def k3_pay69 (i : grid3.Coords) (x0 : Vec F S1x256x128 .f32) (x1 : Vec F S1x2048x128 .f32) (x2 : Vec F S128x128 .f32) : IVec S256x2048 32 :=
  k3_pay39 (k3_pay60 i x0 x1 x2) (k3_pay59 i x0 x1 x2) (k3_pay65 i x0 x1 x2) (k3_pay66 i x0 x1 x2) (k3_pay67 i x0 x1 x2) -- `v188`
def k3_pay70 (i : grid3.Coords) (x0 : Vec F S1x256x128 .f32) (x1 : Vec F S1x2048x128 .f32) (x2 : Vec F S128x128 .f32) : FVec F S256x2048 .f32 :=
  k3_pay47 (k3_pay60 i x0 x1 x2) (k3_pay59 i x0 x1 x2) (k3_pay68 i x0 x1 x2) (k3_pay69 i x0 x1 x2) -- `v236`
def k3_pay71 (i : grid3.Coords) (x0 : Vec F S1x256x128 .f32) (x1 : Vec F S1x2048x128 .f32) (x2 : Vec F S128x128 .f32) : FVec F S256 .f32 :=
  k3_pay48 (k3_pay60 i x0 x1 x2) (k3_pay59 i x0 x1 x2) (k3_pay68 i x0 x1 x2) (k3_pay69 i x0 x1 x2) -- `v237`

/-- What the body leaves in window 3, of the input blocks. -/
def out_3 (i : grid3.Coords) (x0 : Vec F S1x256x128 .f32) (x1 : Vec F S1x2048x128 .f32) (x2 : Vec F S128x128 .f32) : Vec F S1x256x16 .i32 :=
  View.canon [⟨r2_2, k3_pay3 (BitVec.ofNat 32 (i 0).val) (k3_pay2 (k3_pay8 (View.ld x0 r2_0) (View.ld x1 r2_1)) (k3_pay12 (k3_pay59 i x0 x1 x2) (k3_pay61 i x0 x1 x2) (k3_pay63 i x0 x1 x2)) (k3_pay15 (k3_pay60 i x0 x1 x2) (k3_pay59 i x0 x1 x2) (k3_pay61 i x0 x1 x2) (k3_pay62 i x0 x1 x2) (k3_pay63 i x0 x1 x2)) (k3_pay18 (k3_pay60 i x0 x1 x2) (k3_pay59 i x0 x1 x2) (k3_pay61 i x0 x1 x2) (k3_pay62 i x0 x1 x2) (k3_pay63 i x0 x1 x2)) (k3_pay22 (k3_pay60 i x0 x1 x2) (k3_pay59 i x0 x1 x2) (k3_pay64 i x0 x1 x2) (Scalar.ofBits .f32 0x7F800000#32)) (k3_pay25 (k3_pay60 i x0 x1 x2) (k3_pay59 i x0 x1 x2) (k3_pay64 i x0 x1 x2) (Scalar.ofBits .f32 0x7F800000#32)) (k3_pay65 i x0 x1 x2) (k3_pay33 (k3_pay60 i x0 x1 x2) (k3_pay59 i x0 x1 x2) (k3_pay65 i x0 x1 x2) (k3_pay66 i x0 x1 x2) (k3_pay67 i x0 x1 x2)) (k3_pay36 (k3_pay60 i x0 x1 x2) (k3_pay59 i x0 x1 x2) (k3_pay65 i x0 x1 x2) (k3_pay66 i x0 x1 x2) (k3_pay67 i x0 x1 x2)) (k3_pay40 (k3_pay69 i x0 x1 x2)) (k3_pay43 (k3_pay60 i x0 x1 x2) (k3_pay59 i x0 x1 x2) (k3_pay68 i x0 x1 x2) (k3_pay69 i x0 x1 x2)) (k3_pay46 (k3_pay60 i x0 x1 x2) (k3_pay59 i x0 x1 x2) (k3_pay68 i x0 x1 x2) (k3_pay69 i x0 x1 x2)) (k3_pay50 (k3_pay59 i x0 x1 x2) (k3_pay70 i x0 x1 x2) (k3_pay71 i x0 x1 x2)) (k3_pay53 (k3_pay60 i x0 x1 x2) (k3_pay59 i x0 x1 x2) (k3_pay70 i x0 x1 x2) (k3_pay71 i x0 x1 x2)) (k3_pay56 (k3_pay60 i x0 x1 x2) (k3_pay59 i x0 x1 x2) (k3_pay70 i x0 x1 x2) (k3_pay71 i x0 x1 x2)) (k3_pay1 (k3_pay60 i x0 x1 x2) (k3_pay59 i x0 x1 x2) (k3_pay57 (k3_pay60 i x0 x1 x2) (k3_pay59 i x0 x1 x2) (k3_pay70 i x0 x1 x2) (k3_pay71 i x0 x1 x2)) (k3_pay58 (k3_pay60 i x0 x1 x2) (k3_pay59 i x0 x1 x2) (k3_pay70 i x0 x1 x2) (k3_pay71 i x0 x1 x2))))⟩]

theorem cover_3 (p0 : Vec F S1x256x16 .i32) (y : S1x256x16.Idx) :
    ∃ pc ∈ ([⟨r2_2, p0⟩] : List (View.Piece (Elt F) S1x256x16 .i32)), y ∈ pc.1.set :=
  View.cover_of_tiled [⟨r2_2, p0⟩] S1x256x16.size (by rfl) y

/-- What the body leaves in window 4, of the input blocks. -/
def out_4 (i : grid3.Coords) (x0 : Vec F S1x256x128 .f32) (x1 : Vec F S1x2048x128 .f32) (x2 : Vec F S128x128 .f32) : Vec F S1x256x128 .f32 :=
  View.canon [⟨r2_0, k3_pay4 (k3_pay5 (View.ld x0 r2_0)) (View.ld x2 r2_3)⟩]

theorem cover_4 (p0 : Vec F S1x256x128 .f32) (y : S1x256x128.Idx) :
    ∃ pc ∈ ([⟨r2_0, p0⟩] : List (View.Piece (Elt F) S1x256x128 .f32)), y ∈ pc.1.set :=
  View.cover_of_tiled [⟨r2_0, p0⟩] S1x256x128.size (by rfl) y

set_option maxHeartbeats 1912550 in
/-- The body run on whole staging buffers: the inputs come back as they were, each output holds what the body computes of them. -/
theorem sound_kernel (c : Dev nD) (E : Set ℕ) (i : grid3.Coords) (arg2 : Memref sig .tc .vmem S1x256x128 .f32) (harg2 : arg2.IsWhole) (arg3 : Memref sig .tc .vmem S1x2048x128 .f32) (harg3 : arg3.IsWhole) (arg4 : Memref sig .tc .vmem S128x128 .f32) (harg4 : arg4.IsWhole) (arg5 : Memref sig .tc .vmem S1x256x16 .i32) (harg5 : arg5.IsWhole) (arg6 : Memref sig .tc .vmem S1x256x128 .f32) (harg6 : arg6.IsWhole)
    (x0 : Vec F S1x256x128 .f32) (x1 : Vec F S1x2048x128 .f32) (x2 : Vec F S128x128 .f32) (K : PUnit → sProp 𝕄) :
    iprop(ownsTc c arg2 fullShare x0 ∗ ownsTc c arg3 fullShare x1 ∗ ownsTc c arg4 fullShare x2 ∗ (∃ d, ownsTc c arg5 fullShare d) ∗ (∃ d, ownsTc c arg6 fullShare d)
        ∗ (iprop(ownsTc c arg2 fullShare x0 ∗ ownsTc c arg3 fullShare x1 ∗ ownsTc c arg4 fullShare x2 ∗ ownsTc c arg5 fullShare (out_3 i x0 x1 x2) ∗ ownsTc c arg6 fullShare (out_4 i x0 x1 x2)) -∗ K ⟨⟩))
      ⊢ wp frame (wpE (defs₀ (F := F)) 𝒱₀ c none) E (cc3__knn2_kernel i arg2 harg2 arg3 harg3 arg4 harg4 arg5 harg5 arg6 harg6) K := by
  simp only [cc3__knn2_kernel_eq_skeleton]; unfold cc3__knn2_kernel_skel
  simp only [k3_part1_eq_skeleton, k3_part2_eq_skeleton, k3_part3_eq_skeleton, k3_part4_eq_skeleton, k3_part5_eq_skeleton, k3_part6_eq_skeleton]
  unfold ownsTc owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover_3 _)).trans ?_
    rfl
  iexists _; isplitr
  swap; · iexact H4
  ipureintro
  refine (View.read_writes_eq_canon _ _ _ (cover_4 _)).trans ?_
  rfl

/-- The pipeline's proof data: inputs keep their blocks, outputs hold what the body leaves; the TensorCore's debts to later calls pass through. -/
def dat (c : Dev nD) : Pipeline.Dat τ (Elt F) (HIx 2) ℕ UU ℕ cfg3 c where
  A w := V c (Pipeline.arrRef spec3 w)
  after w t := match w with
    | ⟨0, _⟩ => iblk V c 0 t
    | ⟨1, _⟩ => iblk V c 1 t
    | ⟨2, _⟩ => iblk V c 2 t
    | ⟨3, _⟩ => out_3 (grid3.coords t) (iblk V c 0 t) (iblk V c 1 t) (iblk V c 2 t)
    | ⟨4, _⟩ => out_4 (grid3.coords t) (iblk V c 0 t) (iblk V c 1 t) (iblk V c 2 t)
  Φ _ := phi spec3 c
  q w := Pipeline.shareOf spec3 w
  owed _ := (K (F := F)).Otc c 1
  recorded _ := recs (F := F) c 1

/-- The arrays' contents at entry. -/
theorem A_eq (c : Dev nD) (w : Fin cfg3.W) : (dat V c).A w = V c (Pipeline.arrRef spec3 w) := by
  dsimp only [dat]

theorem after_3 (c : Dev nD) (t : Fin cfg3.N) : (dat V c).after 3 t = out_3 (grid3.coords t) (iblk V c 0 t) (iblk V c 1 t) (iblk V c 2 t) := by dsimp only [dat]
theorem after_4 (c : Dev nD) (t : Fin cfg3.N) : (dat V c).after 4 t = out_4 (grid3.coords t) (iblk V c 0 t) (iblk V c 1 t) (iblk V c 2 t) := by dsimp only [dat]

theorem before_0 (c : Dev nD) (t : Fin cfg3.N) (d) : (dat V c).before 0 t d = iblk V c 0 t :=
  (dat V c).before_in_eq_fetched 0 rfl (fun _ => rfl) (fun _ _ _ => rfl) (fun _ => rfl) t d
theorem before_1 (c : Dev nD) (t : Fin cfg3.N) (d) : (dat V c).before 1 t d = iblk V c 1 t :=
  (dat V c).before_in_eq_fetched 1 rfl (fun _ => rfl) (fun _ _ _ => rfl) (fun _ => rfl) t d
theorem before_2 (c : Dev nD) (t : Fin cfg3.N) (d) : (dat V c).before 2 t d = iblk V c 2 t :=
  (dat V c).before_in_eq_fetched 2 rfl (fun _ => rfl) (fun _ _ _ => rfl) (fun _ => rfl) t d

/-- The body table's row is the body. -/
theorem defs₀_row (t : Fin cfg3.N) :
    defs₀ (F := F) .tc cfg3.body (cfg3.bodyArgs t (cfg3.slots t)) = bodyAt3 t := rfl

/-- The body obligation, at every point. -/
theorem body_obligation (c : Dev nD) : Pipeline.BodyObligation (dat V c) (defs₀ (F := F)) 𝒱₀ none Set.univ := fun t => by
  rw [bigSep_W3, bigSep_W3, defs₀_row]
  unfold bodyAt3
  simp only [before_0, before_1, before_2]
  rw [show (dat V c).Φ t.succ = (dat V c).Φ t.castSucc from rfl,
    show (dat V c).owesAt none t.succ = (dat V c).owesAt none t.castSucc from rfl]
  dsimp only [dat]
  iintro ⟨HΦ, Ho, ⟨%d0, H0⟩, ⟨%d1, H1⟩, ⟨%d2, H2⟩, ⟨%d3, H3⟩, ⟨%d4, H4⟩⟩
  iapply (sound_kernel c Set.univ (grid3.coords t) _ _ _ _ _ _ _ _ _ _ _ _ _ _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  iframe

end Cert.Proof.WholeIdeal.R2

end
-- ==== Proof.WholeChain.lean ====
/-
  What @main's buffers hold from step to step: the host operations between the calls, and the contents after each call as a
  function of the contents before it.
-/
module

public import proofs.«01_k».proof.Proof.WholeCalls
public import proofs.«01_k».proof.Proof.WholeRegion
public import proofs.«01_k».proof.Proof.WholeSearch
public import proofs.«01_k».proof.Proof.WholeAttn1
public import proofs.«01_k».proof.Proof.WholeAttn2
public import proofs.«01_k».proof.Proof.WholeQueries

@[expose] public section

noncomputable section

namespace Cert.Proof.WholeIdeal

open Cert.WholeIdeal Cert.WholeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

/-! ## The host operations -/

/-- Before the first search: the small operands' shapes, and the points widened by zeros to a row of 128 words. -/
def opsP : List (HloOp τ sig (Elt F)) := [
  StableHlo.reshape main_arg11 main_v0 (rfl : (.f32 : EltTy) = .f32) shapeCasts_S128_S1x128,
  StableHlo.reshape main_arg13 main_v1 (rfl : (.f32 : EltTy) = .f32) shapeCasts_S128_S1x128,
  StableHlo.reshape main_arg9 main_v2 (rfl : (.f32 : EltTy) = .f32) shapeCasts_S128_S1x128,
  StableHlo.reshape main_arg14 main_v3 (rfl : (.f32 : EltTy) = .f32) shapeCasts_S128_S1x128,
  StableHlo.reshape main_arg15 main_v4 (rfl : (.f32 : EltTy) = .f32) shapeCasts_S128_S1x128,
  StableHlo.reshape main_arg16 main_v5 (rfl : (.f32 : EltTy) = .f32) shapeCasts_S128_S1x128,
  StableHlo.reshape main_arg17 main_v6 (rfl : (.f32 : EltTy) = .f32) shapeCasts_S128_S1x128,
  StableHlo.nullary main_cst (constant S_ .f32 0x00000000#32),
  StableHlo.unary main_cst main_v7 (broadcastInDim S8x2048x125 ![] bcast_S_S8x2048x125 : (⟨S_, .f32⟩ : BufTy).Contents (Elt F) → (⟨S8x2048x125, .f32⟩ : BufTy).Contents (Elt F)),
  StableHlo.binary main_arg0 main_v7 main_v8 ((fun a b => concatenate S8x2048x128 2 [⟨S8x2048x3, a⟩, ⟨S8x2048x125, b⟩] concatenates_S8x2048x3_S8x2048x125_S8x2048x128_d2) : (⟨S8x2048x3, .f32⟩ : BufTy).Contents (Elt F) → (⟨S8x2048x125, .f32⟩ : BufTy).Contents (Elt F) → (⟨S8x2048x128, .f32⟩ : BufTy).Contents (Elt F))]

/-- Before the first gather: the tables and the list laid out by rows. -/
def opsA : List (HloOp τ sig (Elt F)) := [
  StableHlo.reshape main_arg1 main_v10 (rfl : (.f32 : EltTy) = .f32) shapeCasts_S8x2048x128_S16384x128,
  StableHlo.reshape main_v8 main_v11 (rfl : (.f32 : EltTy) = .f32) shapeCasts_S8x2048x128_S16384x128,
  StableHlo.reshape main_v9 main_v12 (rfl : (.i32 : EltTy) = .i32) shapeCasts_S8x2048x16_S262144]

/-- Between the first gather and the first attention: the gathered rows, sixteen to a point. -/
def opsB : List (HloOp τ sig (Elt F)) := [
  StableHlo.reshape main_v13_0 main_v14 (rfl : (.f32 : EltTy) = .f32) shapeCasts_S262144x128_S16384x16x128,
  StableHlo.reshape main_v13_1 main_v15 (rfl : (.f32 : EltTy) = .f32) shapeCasts_S262144x128_S16384x16x128]

/-- Before the second gather: the first layer's result by rows, and the list of the second search. -/
def opsC : List (HloOp τ sig (Elt F)) := [
  StableHlo.reshape main_v16 main_v18 (rfl : (.f32 : EltTy) = .f32) shapeCasts_S8x2048x128_S16384x128,
  StableHlo.reshape main_v17_0 main_v19 (rfl : (.i32 : EltTy) = .i32) shapeCasts_S8x2048x16_S262144]

/-- Between the second gather and the second attention. -/
def opsD : List (HloOp τ sig (Elt F)) := [
  StableHlo.reshape main_v20 main_v21 (rfl : (.f32 : EltTy) = .f32) shapeCasts_S262144x128_S16384x16x128]

/-- At the end: the result with its first two axes exchanged. -/
def opsE : List (HloOp τ sig (Elt F)) := [
  StableHlo.unary main_v22 main_v23 ((transpose S2048x8x128 [1, 0, 2] · transposes_S8x2048x128_S2048x8x128_1_0_2) : (⟨S8x2048x128, .f32⟩ : BufTy).Contents (Elt F) → (⟨S2048x8x128, .f32⟩ : BufTy).Contents (Elt F))]

theorem main_eq (d : Dev nD) : main (F := F) d = (StableHlo.seq opsP >>= fun _ =>
    Prog.lift (.customCall (SparseCore.inner (Pipeline.entry 0)) ()) >>= fun _ =>
    StableHlo.seq opsA >>= fun _ => sc.run d 0 >>= fun _ => StableHlo.seq opsB >>= fun _ =>
    Prog.lift (.customCall (SparseCore.inner (Pipeline.entry 1)) ()) >>= fun _ =>
    Prog.lift (.customCall (SparseCore.inner (Pipeline.entry 2)) ()) >>= fun _ =>
    StableHlo.seq opsC >>= fun _ => sc.run d 1 >>= fun _ => StableHlo.seq opsD >>= fun _ =>
    Prog.lift (.customCall (SparseCore.inner (Pipeline.entry 3)) ()) >>= fun _ =>
    StableHlo.seq opsE >>= fun _ => pure ⟨⟩) := by
  simp only [main, opsP, opsA, opsB, opsC, opsD, opsE, StableHlo.seq, bind_assoc, pure_bind]

theorem opsP_sub : ∀ op ∈ opsP (F := F), op.bufs ⊆ Pipeline.ucRefs τ sig := by
  intro op h; fin_cases h <;> exact Pipeline.sub_ucRefs _ (by simp)
theorem opsP_fresh : ∀ op ∈ opsP (F := F), op.fresh = ∅ := by
  intro op h; fin_cases h <;> rfl
theorem opsA_sub : ∀ op ∈ opsA (F := F), op.bufs ⊆ Pipeline.ucRefs τ sig := by
  intro op h; fin_cases h <;> exact Pipeline.sub_ucRefs _ (by simp)
theorem opsA_fresh : ∀ op ∈ opsA (F := F), op.fresh = ∅ := by
  intro op h; fin_cases h <;> rfl
theorem opsB_sub : ∀ op ∈ opsB (F := F), op.bufs ⊆ Pipeline.ucRefs τ sig := by
  intro op h; fin_cases h <;> exact Pipeline.sub_ucRefs _ (by simp)
theorem opsB_fresh : ∀ op ∈ opsB (F := F), op.fresh = ∅ := by
  intro op h; fin_cases h <;> rfl
theorem opsC_sub : ∀ op ∈ opsC (F := F), op.bufs ⊆ Pipeline.ucRefs τ sig := by
  intro op h; fin_cases h <;> exact Pipeline.sub_ucRefs _ (by simp)
theorem opsC_fresh : ∀ op ∈ opsC (F := F), op.fresh = ∅ := by
  intro op h; fin_cases h <;> rfl
theorem opsD_sub : ∀ op ∈ opsD (F := F), op.bufs ⊆ Pipeline.ucRefs τ sig := by
  intro op h; fin_cases h <;> exact Pipeline.sub_ucRefs _ (by simp)
theorem opsD_fresh : ∀ op ∈ opsD (F := F), op.fresh = ∅ := by
  intro op h; fin_cases h <;> rfl
theorem opsE_sub : ∀ op ∈ opsE (F := F), op.bufs ⊆ Pipeline.ucRefs τ sig := by
  intro op h; fin_cases h <;> exact Pipeline.sub_ucRefs _ (by simp)
theorem opsE_fresh : ∀ op ∈ opsE (F := F), op.fresh = ∅ := by
  intro op h; fin_cases h <;> rfl

/-! ## The contents -/

variable (m : (ℓ : Loc nD τ sig) → Buf (Elt F) ℓ)

/-- At the launch, -/
def W₀ (d : Dev nD) : Valuation τ sig (Elt F) := fun b => m (d, b)
/-- before the first search, -/
def Wp (d : Dev nD) : Valuation τ sig (Elt F) := StableHlo.after opsP (W₀ m d)
/-- after it, -/
def Ws (d : Dev nD) : Valuation τ sig (Elt F) :=
  Pipeline.withArrays spec0 d (Wp m d) fun w => (R0.dat (fun c b => Wp m c (Proc.devRef .tc b)) d).arrAt w cfg0.N
/-- before the first gather, -/
def W₁ (d : Dev nD) : Valuation τ sig (Elt F) := StableHlo.after opsA (Ws m d)
/-- its tables and its list, -/
def tA (d : Dev nD) : S16384x128.Idx → Elt F .f32 := W₁ m d (Proc.devRef .tc main_v10)
def tB (d : Dev nD) : S16384x128.Idx → Elt F .f32 := W₁ m d (Proc.devRef .tc main_v11)
def ix (d : Dev nD) : S262144.Idx → Elt F .i32 := W₁ m d (Proc.devRef .tc main_v12)
/-- after it, -/
def W₂ (d : Dev nD) : Valuation τ sig (Elt F) :=
  Function.update (Function.update (W₁ m d) (Proc.devRef .tc main_v13_0) (rowsOf (tA m d) (ix m d))) (Proc.devRef .tc main_v13_1) (rowsOf (tB m d) (ix m d))
/-- before the first attention, -/
def W₃ (d : Dev nD) : Valuation τ sig (Elt F) := StableHlo.after opsB (W₂ m d)
/-- after it, -/
def W₄ (d : Dev nD) : Valuation τ sig (Elt F) :=
  Pipeline.withArrays spec2 d (W₃ m d) fun w => (R1.dat (fun c b => W₃ m c (Proc.devRef .tc b)) d).arrAt w cfg2.N
/-- after the second layer's queries, -/
def W₅ (d : Dev nD) : Valuation τ sig (Elt F) :=
  Pipeline.withArrays spec3 d (W₄ m d) fun w => (R2.dat (fun c b => W₄ m c (Proc.devRef .tc b)) d).arrAt w cfg3.N
/-- before the second gather, -/
def W₆ (d : Dev nD) : Valuation τ sig (Elt F) := StableHlo.after opsC (W₅ m d)
/-- its table and its list, -/
def tC (d : Dev nD) : S16384x128.Idx → Elt F .f32 := W₆ m d (Proc.devRef .tc main_v18)
def iy (d : Dev nD) : S262144.Idx → Elt F .i32 := W₆ m d (Proc.devRef .tc main_v19)
/-- after it, -/
def W₇ (d : Dev nD) : Valuation τ sig (Elt F) := Function.update (W₆ m d) (Proc.devRef .tc main_v20) (rowsOf (tC m d) (iy m d))
/-- before the second attention, -/
def W₈ (d : Dev nD) : Valuation τ sig (Elt F) := StableHlo.after opsD (W₇ m d)
/-- after it, -/
def W₉ (d : Dev nD) : Valuation τ sig (Elt F) :=
  Pipeline.withArrays spec5 d (W₈ m d) fun w => (R4.dat (fun c b => W₈ m c (Proc.devRef .tc b)) d).arrAt w cfg5.N
/-- and at the end. -/
def W₁₀ (d : Dev nD) : Valuation τ sig (Elt F) := StableHlo.after opsE (W₉ m d)

/-- The four pipelines' data. -/
def pdats : (p : Fin 4) → (c : Dev nD) → Pipeline.Dat τ (Elt F) (HIx 2) ℕ UU ℕ (Pipeline.pin (pcfgs (F := F)) adm p) c
  | 0 => R0.dat fun c b => Wp m c (Proc.devRef .tc b)
  | 1 => R1.dat fun c b => W₃ m c (Proc.devRef .tc b)
  | 2 => R2.dat fun c b => W₄ m c (Proc.devRef .tc b)
  | 3 => R4.dat fun c b => W₈ m c (Proc.devRef .tc b)

theorem next_zero (d : Dev nD) : next (pdats m) 0 (Wp m) d = Ws m d := rfl
theorem next_one (d : Dev nD) : next (pdats m) 1 (W₃ m) d = W₄ m d := rfl
theorem next_two (d : Dev nD) : next (pdats m) 2 (W₄ m) d = W₅ m d := rfl
theorem next_three (d : Dev nD) : next (pdats m) 3 (W₈ m) d = W₉ m d := rfl

/-! ## What stays -/

/-- A region changes its results' arrays only. -/
theorem region_keeps {cfg : Pipeline.Cfg sig Λ₀} {c : Dev nD} (dat : Pipeline.Dat τ (Elt F) (HIx 2) ℕ UU ℕ cfg c) (hsh : Pipeline.SharedIn cfg.spec)
    (V : Valuation τ sig (Elt F)) (hA : ∀ w, dat.A w = V (Proc.devRef .tc (Pipeline.arrRef cfg.spec w))) (b : Ref sig .tc)
    (hb : ∀ w, (cfg.spec w).isOut = true → Pipeline.arrRef cfg.spec w ≠ b) :
    Pipeline.withArrays cfg.spec c V (fun w => dat.arrAt w cfg.N) (Proc.devRef .tc b) = V (Proc.devRef .tc b) := by
  by_cases h : ∃ w, Pipeline.arrRef cfg.spec w = b
  · obtain ⟨w, rfl⟩ := h
    rw [dat.withArrays_arrAt hsh V hA w]
    cases ho : (cfg.spec w).isOut with
    | true => exact absurd rfl (hb w ho)
    | false => rw [dat.arrAt_in w ho]; exact hA w
  · exact Pipeline.withArrays_of_ne cfg.spec c V _ b fun w e => h ⟨w, e⟩

theorem sharedIn2 : Pipeline.SharedIn spec2 := Pipeline.SharedIn.of_injective winFacts2.arr_inj
theorem sharedIn5 : Pipeline.SharedIn spec5 := Pipeline.SharedIn.of_injective winFacts5.arr_inj

theorem Ws_keeps (d : Dev nD) (b : Ref sig .tc) (hb : main_v9 ≠ b) : Ws m d (Proc.devRef .tc b) = Wp m d (Proc.devRef .tc b) :=
  region_keeps (R0.dat (fun c b => Wp m c (Proc.devRef .tc b)) d) sharedIn0 (Wp m d) (fun w => R0.A_eq _ d w) b (by
    intro w hw; revert hw; fin_cases w <;> first | (intro hw; exact absurd hw (by decide)) | (intro _; exact hb))
theorem W₄_keeps (d : Dev nD) (b : Ref sig .tc) (hb : main_v16 ≠ b) : W₄ m d (Proc.devRef .tc b) = W₃ m d (Proc.devRef .tc b) :=
  region_keeps (R1.dat (fun c b => W₃ m c (Proc.devRef .tc b)) d) sharedIn2 (W₃ m d) (fun w => R1.A_eq _ d w) b (by
    intro w hw; revert hw; fin_cases w <;> first | (intro hw; exact absurd hw (by decide)) | (intro _; exact hb))
theorem W₅_keeps (d : Dev nD) (b : Ref sig .tc) (hb : main_v17_0 ≠ b) (hb' : main_v17_1 ≠ b) : W₅ m d (Proc.devRef .tc b) = W₄ m d (Proc.devRef .tc b) :=
  region_keeps (R2.dat (fun c b => W₄ m c (Proc.devRef .tc b)) d) sharedIn3 (W₄ m d) (fun w => R2.A_eq _ d w) b (by
    intro w hw; revert hw; fin_cases w <;> first | (intro hw; exact absurd hw (by decide)) | (intro _; exact hb) | (intro _; exact hb'))
theorem W₉_keeps (d : Dev nD) (b : Ref sig .tc) (hb : main_v22 ≠ b) : W₉ m d (Proc.devRef .tc b) = W₈ m d (Proc.devRef .tc b) :=
  region_keeps (R4.dat (fun c b => W₈ m c (Proc.devRef .tc b)) d) sharedIn5 (W₈ m d) (fun w => R4.A_eq _ d w) b (by
    intro w hw; revert hw; fin_cases w <;> first | (intro hw; exact absurd hw (by decide)) | (intro _; exact hb))

theorem W₂_keeps (d : Dev nD) (b : Ref sig .tc) (hb : b ≠ main_v13_0) (hb' : b ≠ main_v13_1) : W₂ m d (Proc.devRef .tc b) = W₁ m d (Proc.devRef .tc b) := by
  unfold W₂
  rw [Function.update_of_ne (StableHlo.devRef_ne_of_ne hb'), Function.update_of_ne (StableHlo.devRef_ne_of_ne hb)]
theorem W₇_keeps (d : Dev nD) (b : Ref sig .tc) (hb : b ≠ main_v20) : W₇ m d (Proc.devRef .tc b) = W₆ m d (Proc.devRef .tc b) := by
  unfold W₇
  rw [Function.update_of_ne (StableHlo.devRef_ne_of_ne hb)]

/-- The references that the host operations write. -/
theorem Wp_keeps (d : Dev nD) (b : Ref sig .tc) (hb : b ∉ [main_v0, main_v1, main_v2, main_v3, main_v4, main_v5, main_v6, main_cst, main_v7, main_v8]) :
    Wp m d (Proc.devRef .tc b) = m (d, Proc.devRef .tc b) :=
  StableHlo.after_of_writes_sub opsP (W₀ m d) (StableHlo.forall_writes_sub_of_map rfl) hb
theorem W₁_keeps (d : Dev nD) (b : Ref sig .tc) (hb : b ∉ [main_v10, main_v11, main_v12]) : W₁ m d (Proc.devRef .tc b) = Ws m d (Proc.devRef .tc b) :=
  StableHlo.after_of_writes_sub opsA (Ws m d) (StableHlo.forall_writes_sub_of_map rfl) hb
theorem W₃_keeps (d : Dev nD) (b : Ref sig .tc) (hb : b ∉ [main_v14, main_v15]) : W₃ m d (Proc.devRef .tc b) = W₂ m d (Proc.devRef .tc b) :=
  StableHlo.after_of_writes_sub opsB (W₂ m d) (StableHlo.forall_writes_sub_of_map rfl) hb
theorem W₆_keeps (d : Dev nD) (b : Ref sig .tc) (hb : b ∉ [main_v18, main_v19]) : W₆ m d (Proc.devRef .tc b) = W₅ m d (Proc.devRef .tc b) :=
  StableHlo.after_of_writes_sub opsC (W₅ m d) (StableHlo.forall_writes_sub_of_map rfl) hb
theorem W₈_keeps (d : Dev nD) (b : Ref sig .tc) (hb : b ∉ [main_v21]) : W₈ m d (Proc.devRef .tc b) = W₇ m d (Proc.devRef .tc b) :=
  StableHlo.after_of_writes_sub opsD (W₇ m d) (StableHlo.forall_writes_sub_of_map rfl) hb
theorem W₁₀_keeps (d : Dev nD) (b : Ref sig .tc) (hb : b ∉ [main_v23]) : W₁₀ m d (Proc.devRef .tc b) = W₉ m d (Proc.devRef .tc b) :=
  StableHlo.after_of_writes_sub opsE (W₉ m d) (StableHlo.forall_writes_sub_of_map rfl) hb

/-- @main's arguments. -/
abbrev argRefs : List (Ref sig .tc) := [main_arg0, main_arg1, main_arg2, main_arg3, main_arg4, main_arg5, main_arg6, main_arg7, main_arg8, main_arg9,
  main_arg10, main_arg11, main_arg12, main_arg13, main_arg14, main_arg15, main_arg16, main_arg17]

section Args
variable (d : Dev nD) (b : Ref sig .tc) (hb : b ∈ argRefs)
include hb

/-- An argument is none of the references that are not arguments. -/
theorem arg_ne (c : Ref sig .tc) (hc : c ∉ argRefs := by decide) : b ≠ c := fun e => hc (e ▸ hb)
theorem arg_nin (l : List (Ref sig .tc)) (hl : ∀ c ∈ l, c ∉ argRefs := by decide) : b ∉ l := fun h => hl b h hb

/-- The arguments keep their launch contents throughout. -/
theorem Wp_arg : Wp m d (Proc.devRef .tc b) = m (d, Proc.devRef .tc b) :=
  Wp_keeps m d b (arg_nin b hb _)
theorem Ws_arg : Ws m d (Proc.devRef .tc b) = m (d, Proc.devRef .tc b) :=
  (Ws_keeps m d b (Ne.symm (arg_ne b hb _))).trans (Wp_arg m d b hb)
theorem W₁_arg : W₁ m d (Proc.devRef .tc b) = m (d, Proc.devRef .tc b) :=
  (W₁_keeps m d b (arg_nin b hb _)).trans (Ws_arg m d b hb)
theorem W₂_arg : W₂ m d (Proc.devRef .tc b) = m (d, Proc.devRef .tc b) :=
  (W₂_keeps m d b (arg_ne b hb _) (arg_ne b hb _)).trans (W₁_arg m d b hb)
theorem W₃_arg : W₃ m d (Proc.devRef .tc b) = m (d, Proc.devRef .tc b) :=
  (W₃_keeps m d b (arg_nin b hb _)).trans (W₂_arg m d b hb)
theorem W₄_arg : W₄ m d (Proc.devRef .tc b) = m (d, Proc.devRef .tc b) :=
  (W₄_keeps m d b (Ne.symm (arg_ne b hb _))).trans (W₃_arg m d b hb)
theorem W₅_arg : W₅ m d (Proc.devRef .tc b) = m (d, Proc.devRef .tc b) :=
  (W₅_keeps m d b (Ne.symm (arg_ne b hb _)) (Ne.symm (arg_ne b hb _))).trans (W₄_arg m d b hb)
theorem W₆_arg : W₆ m d (Proc.devRef .tc b) = m (d, Proc.devRef .tc b) :=
  (W₆_keeps m d b (arg_nin b hb _)).trans (W₅_arg m d b hb)
theorem W₇_arg : W₇ m d (Proc.devRef .tc b) = m (d, Proc.devRef .tc b) :=
  (W₇_keeps m d b (arg_ne b hb _)).trans (W₆_arg m d b hb)
theorem W₈_arg : W₈ m d (Proc.devRef .tc b) = m (d, Proc.devRef .tc b) :=
  (W₈_keeps m d b (arg_nin b hb _)).trans (W₇_arg m d b hb)
theorem W₁₀_arg : W₁₀ m d (Proc.devRef .tc b) = m (d, Proc.devRef .tc b) :=
  (W₁₀_keeps m d b (arg_nin b hb _)).trans
    ((W₉_keeps m d b (Ne.symm (arg_ne b hb _))).trans (W₈_arg m d b hb))
end Args

end Cert.Proof.WholeIdeal

end
-- ==== Proof.WholeLaunch.lean ====
/-
  The run of the whole program: from any memory whose two lists name rows of the tables, every schedule ends with the arguments as
  they were, the result at what the chain of contents says, and every counter at zero.
-/
module

public import proofs.«01_k».proof.Proof.WholeChain

@[expose] public section

noncomputable section

namespace Cert.Proof.WholeIdeal

open Cert.WholeIdeal Cert.WholeIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

variable [FloatOps F]

local notation "𝕄" => MT nD τ sig (HIx 2) (Elt F) ℕ UU ℕ

variable (m : (ℓ : Loc nD τ sig) → Buf (Elt F) ℓ) (ρ : Dev nD → PrngReg)

abbrev PP : (K (F := F)).Pay (nD := nD) (Val := Elt F) (Name := ℕ) (U := UU) := P (tA m) (tB m) (ix m) (tC m) (iy m)

/-! ## The calls, over all of @main's buffers -/

/-- Five buffers, one by one. -/
theorem held_five {d : Dev nD} {a b c e f : DevRef τ sig} (V : Valuation τ sig (Elt F)) (h1 : a ∉ ({b, c, e, f} : Finset (DevRef τ sig)))
    (h2 : b ∉ ({c, e, f} : Finset (DevRef τ sig))) (h3 : c ∉ ({e, f} : Finset (DevRef τ sig))) (h4 : e ∉ ({f} : Finset (DevRef τ sig))) :
    (StableHlo.held (T d) {a, b, c, e, f} V : sProp 𝕄)
      = iprop(((d, a) ↦{fullShare} V a) ∗ ((d, b) ↦{fullShare} V b) ∗ ((d, c) ↦{fullShare} V c) ∗ ((d, e) ↦{fullShare} V e) ∗ ((d, f) ↦{fullShare} V f)) := by
  unfold StableHlo.held
  rw [SparseCore.bigSep_insert' h1, SparseCore.bigSep_insert' h2, SparseCore.bigSep_insert' h3, SparseCore.bigSep_insert' h4, bigSep_singleton]
/-- Three buffers, one by one. -/
theorem held_three {d : Dev nD} {a b c : DevRef τ sig} (V : Valuation τ sig (Elt F)) (h1 : a ∉ ({b, c} : Finset (DevRef τ sig)))
    (h2 : b ∉ ({c} : Finset (DevRef τ sig))) :
    (StableHlo.held (T d) {a, b, c} V : sProp 𝕄) = iprop(((d, a) ↦{fullShare} V a) ∗ ((d, b) ↦{fullShare} V b) ∗ ((d, c) ↦{fullShare} V c)) := by
  unfold StableHlo.held
  rw [SparseCore.bigSep_insert' h1, SparseCore.bigSep_insert' h2, bigSep_singleton]

/-- The buffers of the first gather, -/
abbrev bufs1 : Finset (DevRef τ sig) := {Proc.devRef .tc main_v10, Proc.devRef .tc main_v11, Proc.devRef .tc main_v12, Proc.devRef .tc main_v13_0, Proc.devRef .tc main_v13_1}
/-- and of the second. -/
abbrev bufs2 : Finset (DevRef τ sig) := {Proc.devRef .tc main_v18, Proc.devRef .tc main_v19, Proc.devRef .tc main_v20}

theorem bufs1_sub : bufs1 ⊆ Pipeline.ucRefs τ sig := by
  intro b hb
  simp only [bufs1, Finset.mem_insert, Finset.mem_singleton] at hb
  rcases hb with rfl | rfl | rfl | rfl | rfl <;> exact Pipeline.devRef_mem_ucRefs rfl
theorem bufs2_sub : bufs2 ⊆ Pipeline.ucRefs τ sig := by
  intro b hb
  simp only [bufs2, Finset.mem_insert, Finset.mem_singleton] at hb
  rcases hb with rfl | rfl | rfl <;> exact Pipeline.devRef_mem_ucRefs rfl

theorem held_bufs1 (d : Dev nD) (V : Valuation τ sig (Elt F)) : (StableHlo.held (T d) bufs1 V : sProp 𝕄)
    = iprop((G1.aLoc d ↦{fullShare} V (Proc.devRef .tc main_v10)) ∗ (G1.bLoc d ↦{fullShare} V (Proc.devRef .tc main_v11)) ∗ (G1.iLoc d ↦{fullShare} V (Proc.devRef .tc main_v12))
        ∗ (G1.oLoc d ↦{fullShare} V (Proc.devRef .tc main_v13_0)) ∗ (G1.pLoc d ↦{fullShare} V (Proc.devRef .tc main_v13_1))) :=
  held_five V (by decide) (by decide) (by decide) (by decide)
theorem held_bufs2 (d : Dev nD) (V : Valuation τ sig (Elt F)) : (StableHlo.held (T d) bufs2 V : sProp 𝕄)
    = iprop((G2.aLoc d ↦{fullShare} V (Proc.devRef .tc main_v18)) ∗ (G2.iLoc d ↦{fullShare} V (Proc.devRef .tc main_v19))
        ∗ (G2.oLoc d ↦{fullShare} V (Proc.devRef .tc main_v20))) :=
  held_three V (by decide) (by decide)

theorem W₂_v12_0 (d : Dev nD) : W₂ m d (Proc.devRef .tc main_v13_0) = rowsOf (tA m d) (ix m d) := by
  unfold W₂
  rw [Function.update_of_ne (StableHlo.devRef_ne_of_ne (by decide)), Function.update_self]
theorem W₂_v12_1 (d : Dev nD) : W₂ m d (Proc.devRef .tc main_v13_1) = rowsOf (tB m d) (ix m d) := by
  unfold W₂
  rw [Function.update_self]
theorem W₇_v19 (d : Dev nD) : W₇ m d (Proc.devRef .tc main_v20) = rowsOf (tC m d) (iy m d) := by
  unfold W₇
  rw [Function.update_self]

theorem rest1 (d : Dev nD) : (StableHlo.held (T d) (Pipeline.ucRefs τ sig \ bufs1) (W₁ m d) : sProp 𝕄) = StableHlo.held (T d) (Pipeline.ucRefs τ sig \ bufs1) (W₂ m d) := by
  refine StableHlo.held_congr _ fun b hb => ?_
  have hn := (Finset.mem_sdiff.mp hb).2
  simp only [bufs1, Finset.mem_insert, Finset.mem_singleton, not_or] at hn
  unfold W₂
  rw [Function.update_of_ne hn.2.2.2.2, Function.update_of_ne hn.2.2.2.1]
theorem rest2 (d : Dev nD) : (StableHlo.held (T d) (Pipeline.ucRefs τ sig \ bufs2) (W₆ m d) : sProp 𝕄) = StableHlo.held (T d) (Pipeline.ucRefs τ sig \ bufs2) (W₇ m d) := by
  refine StableHlo.held_congr _ fun b hb => ?_
  have hn := (Finset.mem_sdiff.mp hb).2
  simp only [bufs2, Finset.mem_insert, Finset.mem_singleton, not_or] at hn
  unfold W₇
  rw [Function.update_of_ne hn.2.2]

/-- The first gather, where @main starts it: the buffers go from before it to after it. -/
theorem first_call (κ : GSem nD τ sig → ℕ) (d : Dev nD) (Φ : PUnit → sProp 𝕄) :
    iprop((K (F := F)).ctx EH (PP m) κ ∗ (K (F := F)).tcSt EH d 0 ∗ StableHlo.held (T d) (Pipeline.ucRefs τ sig) (W₁ m d)
        ∗ (iprop((K (F := F)).tcSt EH d 1 ∗ StableHlo.held (T d) (Pipeline.ucRefs τ sig) (W₂ m d)) -∗ Φ ⟨⟩))
      ⊢ wp frame (wpE ((K (F := F)).defs (D (F := F))) 𝒱 (SparseCore.T d) none) Set.univ ((K (F := F)).run d 0) Φ := by
  rw [StableHlo.held_sub_split (T d) bufs1_sub (W₁ m d), StableHlo.held_sub_split (T d) bufs1_sub (W₂ m d), held_bufs1, held_bufs1, rest1,
    W₂_v12_0, W₂_v12_1, W₂_keeps m d main_v10 (by decide) (by decide), W₂_keeps m d main_v11 (by decide) (by decide), W₂_keeps m d main_v12 (by decide) (by decide)]
  iintro ⟨Hctx, Hst, ⟨Hin, Hrest⟩, Hk⟩
  iapply ((K (F := F)).wp_run (D (F := F)) 𝒱 (EH := EH) (P := PP m) κ d 0)
  isplitl [Hctx]; · iexact Hctx
  isplitl [Hst]; · iexact Hst
  isplitl [Hin]
  · iapply (first_in (tA m) (tB m) (ix m) (tC m) (iy m) d _ _)
    iexact Hin
  iintro ⟨Hst, Hdn⟩
  ihave Hdn := (Entails.of_eq (first_out (tA m) (tB m) (ix m) (tC m) (iy m) d)) $$ Hdn
  iapply Hk
  isplitl [Hst]; · iexact Hst
  isplitl [Hdn]; · iexact Hdn
  iexact Hrest

/-- The second gather. -/
theorem second_call (κ : GSem nD τ sig → ℕ) (d : Dev nD) (Φ : PUnit → sProp 𝕄) :
    iprop((K (F := F)).ctx EH (PP m) κ ∗ (K (F := F)).tcSt EH d 1 ∗ StableHlo.held (T d) (Pipeline.ucRefs τ sig) (W₆ m d)
        ∗ (iprop((K (F := F)).tcSt EH d 2 ∗ StableHlo.held (T d) (Pipeline.ucRefs τ sig) (W₇ m d)) -∗ Φ ⟨⟩))
      ⊢ wp frame (wpE ((K (F := F)).defs (D (F := F))) 𝒱 (SparseCore.T d) none) Set.univ ((K (F := F)).run d 1) Φ := by
  rw [StableHlo.held_sub_split (T d) bufs2_sub (W₆ m d), StableHlo.held_sub_split (T d) bufs2_sub (W₇ m d), held_bufs2, held_bufs2, rest2,
    W₇_v19, W₇_keeps m d main_v18 (by decide), W₇_keeps m d main_v19 (by decide)]
  iintro ⟨Hctx, Hst, ⟨Hin, Hrest⟩, Hk⟩
  iapply ((K (F := F)).wp_run (D (F := F)) 𝒱 (EH := EH) (P := PP m) κ d 1)
  isplitl [Hctx]; · iexact Hctx
  isplitl [Hst]; · iexact Hst
  isplitl [Hin]
  · iapply (second_in (tA m) (tB m) (ix m) (tC m) (iy m) d _)
    iexact Hin
  iintro ⟨Hst, Hdn⟩
  ihave Hdn := (Entails.of_eq (second_out (tA m) (tB m) (ix m) (tC m) (iy m) d)) $$ Hdn
  iapply Hk
  isplitl [Hst]; · iexact Hst
  isplitl [Hdn]; · iexact Hdn
  iexact Hrest

/-- What the TensorCore owes, out of its state between calls and back. -/
theorem tcSt_owing (d : Dev nD) (n : ℕ) : (K (F := F)).tcSt EH d n ⊢ (iprop(owing d n ∗ (owing d n -∗ (K (F := F)).tcSt EH d n)) : sProp 𝕄) := by
  unfold SparseCore.Cfg.tcSt owing
  iintro ⟨HO, Hr⟩
  isplitl [HO]; · iexact HO
  iintro HO
  isplitl [HO]; · iexact HO
  iexact Hr

/-- A pipeline's ghost state, as the launch deals it. -/
abbrev ghost (p : Fin 4) (d : Dev nD) : sProp 𝕄 :=
  iprop(Pipeline.cellsGhost (Pipeline.pin (pcfgs (F := F)) adm) EP p d ∗ Pipeline.toksInit (Pipeline.pin (pcfgs (F := F)) adm) EP p d)

/-- What is said of a TensorCore call where @main runs it: the buffers go from `W` to `W'`, all else stays. -/
abbrev TcCall (κ : GSem nD τ sig → ℕ) (p : Fin 4) (n : ℕ) (W W' : Dev nD → Valuation τ sig (Elt F)) (d : Dev nD) (Φ : PUnit → sProp 𝕄) : Prop :=
    iprop((K (F := F)).ctx EH (PP m) κ ∗ (K (F := F)).tcSt EH d n ∗ boundary (T d) ∗ StableHlo.held (T d) (Pipeline.ucRefs τ sig) (W d) ∗ (∃ r, prngReg d r) ∗ ghost p d
        ∗ (iprop((K (F := F)).tcSt EH d n ∗ boundary (T d) ∗ StableHlo.held (T d) (Pipeline.ucRefs τ sig) (W' d) ∗ (∃ r, prngReg d r)) -∗ Φ ⟨⟩))
      ⊢ wp frame (wpE ((K (F := F)).defs D) 𝒱 (T d) none) Set.univ
          (Prog.lift (.customCall (SparseCore.inner (Pipeline.entry p)) ()) : Prog (TpuEff nD τ sig (Elt F) _ .tc) PUnit) Φ

/-- It holds where the region's own run goes from `W` to `W'`. -/
theorem tc_call (κ : GSem nD τ sig → ℕ) (p : Fin 4) (n : ℕ) (W W' : Dev nD → Valuation τ sig (Elt F)) (d : Dev nD) (Φ : PUnit → sProp 𝕄)
    (h : ∀ Ψ : PUnit → sProp 𝕄, iprop((iprop(boundary (T d) ∗ StableHlo.held (T d) (Pipeline.ucRefs τ sig) (W' d) ∗ (∃ r, prngReg d r) ∗ owing d n) -∗ Ψ ⟨⟩)
        ∗ boundary (T d) ∗ StableHlo.held (T d) (Pipeline.ucRefs τ sig) (W d) ∗ (∃ r, prngReg d r) ∗ owing d n
        ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs D) 𝒱 (T d) none) Set.univ
          (Prog.lift (.customCall (SparseCore.inner (Pipeline.entry p)) ()) : Prog (TpuEff nD τ sig (Elt F) _ .tc) PUnit) Ψ) :
    TcCall m κ p n W W' d Φ := by
  refine BIBase.Entails.trans ?_ (h Φ)
  iintro ⟨Hctx, Hst, Hb, Hh, Hp, ⟨Hc, Ht⟩, Hk⟩
  ihave Hl := (SparseCore.Cfg.ctx_levAts κ) $$ Hctx
  ihave Hst := (tcSt_owing d n) $$ Hst
  icases Hst with ⟨HO, Hst⟩
  isplitl [Hst Hk]
  · iintro ⟨Hb, Hh, Hp, HO⟩
    iapply Hk
    isplitl [Hst HO]; · iapply Hst; iexact HO
    isplitl [Hb]; · iexact Hb
    isplitl [Hh]; · iexact Hh
    iexact Hp
  isplitl [Hb]; · iexact Hb
  isplitl [Hh]; · iexact Hh
  isplitl [Hp]; · iexact Hp
  isplitl [HO]; · iexact HO
  isplitl [Hl]; · iexact Hl
  isplitl [Hc]; · iexact Hc
  iexact Ht

/-- The first search, -/
theorem search_call (κ : GSem nD τ sig → ℕ) (d : Dev nD) (Φ : PUnit → sProp 𝕄) : TcCall m κ 0 0 (Wp m) (Ws m) d Φ :=
  tc_call m κ 0 0 (Wp m) (Ws m) d Φ fun Ψ =>
    region_wp (pdats m) 0 0 (Wp m) winFacts₀0 sharedIn0 block_pos0 arr_whole0 stage_whole0
      (fun c => (R0.body_obligation (fun c b => Wp m c (Proc.devRef .tc b)) c).loose) (fun _ _ => rfl) (fun _ _ => rfl) (fun _ _ => rfl) (fun _ _ _ => rfl) (fun c w => R0.A_eq (fun c b => Wp m c (Proc.devRef .tc b)) c w) d Ψ
/-- the first attention, -/
theorem attn_call (κ : GSem nD τ sig → ℕ) (d : Dev nD) (Φ : PUnit → sProp 𝕄) : TcCall m κ 1 1 (W₃ m) (W₄ m) d Φ :=
  tc_call m κ 1 1 (W₃ m) (W₄ m) d Φ fun Ψ =>
    region_wp (pdats m) 1 1 (W₃ m) winFacts2.to₀ sharedIn2 block_pos2 arr_whole2 stage_whole2
      (fun c => (R1.body_obligation (fun c b => W₃ m c (Proc.devRef .tc b)) c).loose) (fun _ _ => rfl) (fun _ _ => rfl) (fun _ _ => rfl) (fun _ _ _ => rfl) (fun c w => R1.A_eq (fun c b => W₃ m c (Proc.devRef .tc b)) c w) d Ψ
/-- the second search, -/
theorem query_call (κ : GSem nD τ sig → ℕ) (d : Dev nD) (Φ : PUnit → sProp 𝕄) : TcCall m κ 2 1 (W₄ m) (W₅ m) d Φ :=
  tc_call m κ 2 1 (W₄ m) (W₅ m) d Φ fun Ψ =>
    region_wp (pdats m) 2 1 (W₄ m) winFacts₀3 sharedIn3 block_pos3 arr_whole3 stage_whole3
      (fun c => (R2.body_obligation (fun c b => W₄ m c (Proc.devRef .tc b)) c).loose) (fun _ _ => rfl) (fun _ _ => rfl) (fun _ _ => rfl) (fun _ _ _ => rfl) (fun c w => R2.A_eq (fun c b => W₄ m c (Proc.devRef .tc b)) c w) d Ψ
/-- the second attention. -/
theorem last_call (κ : GSem nD τ sig → ℕ) (d : Dev nD) (Φ : PUnit → sProp 𝕄) : TcCall m κ 3 2 (W₈ m) (W₉ m) d Φ :=
  tc_call m κ 3 2 (W₈ m) (W₉ m) d Φ fun Ψ =>
    region_wp (pdats m) 3 2 (W₈ m) winFacts5.to₀ sharedIn5 block_pos5 arr_whole5 stage_whole5
      (fun c => (R4.body_obligation (fun c b => W₈ m c (Proc.devRef .tc b)) c).loose) (fun _ _ => rfl) (fun _ _ => rfl) (fun _ _ => rfl) (fun _ _ _ => rfl) (fun c w => R4.A_eq (fun c b => W₈ m c (Proc.devRef .tc b)) c w) d Ψ

/-! ## @main -/

/-- The ghost state at the launch: the handshakes' and the pipelines'. -/
def u₀ : UU := (initOf (K (F := F)).hsCells (K (F := F)).hsToks,
  (initOf (Pipeline.cells (Pipeline.pin (pcfgs (F := F)) adm) cellOf_inj) (Pipeline.launchToks (Pipeline.pin (pcfgs (F := F)) adm) cellOf_inj), 1))

/-- What each device's @main is dealt of it: its pipelines'. -/
abbrev G (d : Dev nD) : sProp 𝕄 := iprop((bigSep Finset.univ fun p => Pipeline.cellsGhost (Pipeline.pin (pcfgs (F := F)) adm) EP p d)
  ∗ bigSep Finset.univ fun p => Pipeline.toksInit (Pipeline.pin (pcfgs (F := F)) adm) EP p d)

theorem G_eq (d : Dev nD) : (G d : sProp 𝕄) = iprop(ghost 0 d ∗ ghost 1 d ∗ ghost 2 d ∗ ghost 3 d) := by
  unfold G ghost
  rw [← bigSep_sep', show (Finset.univ : Finset (Fin 4)) = {0, 1, 2, 3} by decide, SparseCore.bigSep_insert' (by decide), SparseCore.bigSep_insert' (by decide), SparseCore.bigSep_insert' (by decide), bigSep_singleton]

theorem hu₀ : (ownU (u₀ (F := F)) : sProp 𝕄)
    ⊢ |={Set.univ}=> iprop(BI.own (EH (initOf (K (F := F)).hsCells (K (F := F)).hsToks)) ∗ bigSep Finset.univ G
        ∗ bigSep Finset.univ fun thr : Thread nD τ => bigSep Finset.univ fun q : Fin 2 => (PP m).x q thr) := by
  unfold u₀
  iintro Hu
  ihave H := (ownU_pair (initOf (K (F := F)).hsCells (K (F := F)).hsToks)
    ((initOf (Pipeline.cells (Pipeline.pin (pcfgs (F := F)) adm) cellOf_inj) (Pipeline.launchToks (Pipeline.pin (pcfgs (F := F)) adm) cellOf_inj), 1) : UP × Counters)) $$ Hu
  icases H with ⟨HH, HR⟩
  ihave HR := (own_pair_emb embR (initOf (Pipeline.cells (Pipeline.pin (pcfgs (F := F)) adm) cellOf_inj) (Pipeline.launchToks (Pipeline.pin (pcfgs (F := F)) adm) cellOf_inj)) (1 : Counters)) $$ HR
  icases HR with ⟨HP, -⟩
  imod (Pipeline.fund_ghost (Pipeline.pin (pcfgs (F := F)) adm) EP cellOf_inj) $$ HP with ⟨Hc, Ht⟩
  imodintro
  isplitl [HH]; · iexact HH
  isplitl [Hc Ht]
  · rw [show (bigSep Finset.univ G : sProp 𝕄) = _ from bigSep_sep' _ _ _]
    isplitl [Hc]; · iexact Hc
    iexact Ht
  rw [show (bigSep Finset.univ fun thr : Thread nD τ => bigSep Finset.univ fun q : Fin 2 => (PP m).x q thr) = bigSep Finset.univ fun _ => iprop(emp) from
    bigSep_congr fun _ _ => emps _, emps]
  iempintro

/-- What @main ends with: its buffers at the chain's end. -/
abbrev FIN (d : Dev nD) : sProp 𝕄 := StableHlo.held (T d) (Pipeline.ucRefs τ sig) (W₁₀ m d)

/-- The launch's buffers, as one valuation. -/
theorem launch_held (d : Dev nD) : (unscopedBufs d (fun b => m ((SparseCore.T d).loc b)) : sProp 𝕄) = StableHlo.held (T d) (Pipeline.ucRefs τ sig) (W₀ m d) :=
  Pipeline.unscopedBufs_held (Ix := HIx 2) (Name := ℕ) (U := UU) (Lvl := ℕ) d (W₀ m d)

theorem hmain (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [launch_held, main_eq, G_eq]
  iintro ⟨#Hctx, Hst, ⟨Hb, Hh, Hts, Hp⟩, ⟨HGs, HG0, HG1, HG2⟩⟩
  ihave Hp := (show prngReg d (ρ d) ⊢ (iprop(∃ r, prngReg d r) : sProp 𝕄) by iintro H; iexists _; iexact H) $$ Hp
  iapply (StableHlo.wp_seq (defs := (K (F := F)).defs (D (F := F))) 𝒱 none Set.univ d (Pipeline.ucRefs τ sig) _ opsP opsP_sub opsP_fresh (W₀ m d)) $$ [Hb Hh]
  · isplitl [Hb]; · iexact Hb
    iexact Hh
  iintro ⟨Hb, Hh⟩
  rw [wp_bind]
  iapply (search_call m κ d _)
  isplitr; · iexact Hctx
  isplitl [Hst]; · iexact Hst
  isplitl [Hb]; · iexact Hb
  isplitl [Hh]; · iexact Hh
  isplitl [Hp]; · iexact Hp
  isplitl [HGs]; · iexact HGs
  iintro ⟨Hst, Hb, Hh, Hp⟩
  iapply (StableHlo.wp_seq (defs := (K (F := F)).defs (D (F := F))) 𝒱 none Set.univ d (Pipeline.ucRefs τ sig) _ opsA opsA_sub opsA_fresh (Ws m d)) $$ [Hb Hh]
  · isplitl [Hb]; · iexact Hb
    iexact Hh
  iintro ⟨Hb, Hh⟩
  rw [wp_bind]
  iapply (first_call m κ d _)
  isplitr; · iexact Hctx
  isplitl [Hst]; · iexact Hst
  isplitl [Hh]; · iexact Hh
  iintro ⟨Hst, Hh⟩
  iapply (StableHlo.wp_seq (defs := (K (F := F)).defs (D (F := F))) 𝒱 none Set.univ d (Pipeline.ucRefs τ sig) _ opsB opsB_sub opsB_fresh (W₂ m d)) $$ [Hb Hh]
  · isplitl [Hb]; · iexact Hb
    iexact Hh
  iintro ⟨Hb, Hh⟩
  rw [wp_bind]
  iapply (attn_call m κ d _)
  isplitr; · iexact Hctx
  isplitl [Hst]; · iexact Hst
  isplitl [Hb]; · iexact Hb
  isplitl [Hh]; · iexact Hh
  isplitl [Hp]; · iexact Hp
  isplitl [HG0]; · iexact HG0
  iintro ⟨Hst, Hb, Hh, Hp⟩
  rw [wp_bind]
  iapply (query_call m κ d _)
  isplitr; · iexact Hctx
  isplitl [Hst]; · iexact Hst
  isplitl [Hb]; · iexact Hb
  isplitl [Hh]; · iexact Hh
  isplitl [Hp]; · iexact Hp
  isplitl [HG1]; · iexact HG1
  iintro ⟨Hst, Hb, Hh, Hp⟩
  iapply (StableHlo.wp_seq (defs := (K (F := F)).defs (D (F := F))) 𝒱 none Set.univ d (Pipeline.ucRefs τ sig) _ opsC opsC_sub opsC_fresh (W₅ m d)) $$ [Hb Hh]
  · isplitl [Hb]; · iexact Hb
    iexact Hh
  iintro ⟨Hb, Hh⟩
  rw [wp_bind]
  iapply (second_call m κ d _)
  isplitr; · iexact Hctx
  isplitl [Hst]; · iexact Hst
  isplitl [Hh]; · iexact Hh
  iintro ⟨Hst, Hh⟩
  iapply (StableHlo.wp_seq (defs := (K (F := F)).defs (D (F := F))) 𝒱 none Set.univ d (Pipeline.ucRefs τ sig) _ opsD opsD_sub opsD_fresh (W₇ m d)) $$ [Hb Hh]
  · isplitl [Hb]; · iexact Hb
    iexact Hh
  iintro ⟨Hb, Hh⟩
  rw [wp_bind]
  iapply (last_call m κ d _)
  isplitr; · iexact Hctx
  isplitl [Hst]; · iexact Hst
  isplitl [Hb]; · iexact Hb
  isplitl [Hh]; · iexact Hh
  isplitl [Hp]; · iexact Hp
  isplitl [HG2]; · iexact HG2
  iintro ⟨Hst, Hb, Hh, Hp⟩
  iapply (StableHlo.wp_seq (defs := (K (F := F)).defs (D (F := F))) 𝒱 none Set.univ d (Pipeline.ucRefs τ sig) _ opsE opsE_sub opsE_fresh (W₉ m d)) $$ [Hb Hh]
  · isplitl [Hb]; · iexact Hb
    iexact Hh
  iintro ⟨Hb, Hh⟩
  rw [wp_pure]
  imodintro
  isplitl [Hst]; · iexact Hst
  isplitl [Hh]; · iexact Hh
  isplitl [Hb] <;> iassumption

/-- Device `d`'s buffers in a final state. -/
def fq (d : Dev nD) (s' : Phys nD τ sig (Elt F)) : Prop := ∀ b ∈ Pipeline.ucRefs τ sig, s'.mem.mem (d, b) = W₁₀ m d b

theorem hfin (d : Dev nD) (s' : Phys nD τ sig (Elt F)) : iprop(FIN m d ∗ SI s') ⊢ (⌜fq m d s'⌝ : sProp 𝕄) := by
  have read : ∀ b ∈ Pipeline.ucRefs τ sig, iprop(FIN m d ∗ SI s') ⊢ (⌜s'.mem.mem (d, b) = W₁₀ m d b⌝ : sProp 𝕄) := by
    intro b hb
    iintro ⟨Hall, HSI⟩
    ihave H := (show (FIN m d : sProp 𝕄) ⊢ ((d, b) ↦{fullShare} W₁₀ m d b) from bigSep_elim hb) $$ Hall
    ihave H := (SI_pointsTo_agree (st := s') (ℓ := (d, b)) (I := Finset.univ) (q := fullShare) (f := W₁₀ m d b)) $$ [HSI H]
    · isplitl [HSI] <;> iassumption
    icases H with %h
    ipureintro; exact funext fun i => h i (Finset.mem_univ i)
  exact (forall_intro fun b => (forall_intro fun hb => read b hb).trans pure_forall.2).trans pure_forall.2

/-- Every run ends with the arguments unchanged, the result at the chain's end, and the counters at zero. -/
theorem run_main [∀ e, Nonempty (Elt F e)] (hix : ∀ d, InRows (ix m d)) (hiy : ∀ d, InRows (iy m d)) :
    θ_run (defs (F := F)) (threads (F := F)) ⟨m, fun _ => 0, ρ⟩
      (fun r => (∀ d : Dev nD, (∀ b ∈ argRefs, r.2.mem (d, Proc.devRef .tc b) = m (d, Proc.devRef .tc b))
        ∧ r.2.mem (d, Proc.devRef .tc main_v23) = W₁₀ m d (Proc.devRef .tc main_v23)) ∧ r.2.sem = fun _ => 0) :=
  SparseCore.Cfg.θ_run_sc_quiescent (K := K (F := F)) (D := D (F := F)) (𝒱 := 𝒱) (EH := EH) (P := PP m) (A := ∅) facts v₀
    (fun q hq => match q with | 0 => nomatch hq | 1 => nomatch hq)
    (fun q _ => match q with
      | 0 => tileObl_first (tA m) (tB m) (ix m) (tC m) (iy m) hix
      | 1 => tileObl_second (tA m) (tB m) (ix m) (tC m) (iy m) hiy)
    (fun q _ => SparseCore.Cfg.VecSplit.of_plain (vecSplit (tA m) (tB m) (ix m) (tC m) (iy m) q))
    m ρ main G (FIN m) (u₀ (F := F)) (sep_elim_left.trans (hu₀ m)) (hmain m ρ) (fq m) (hfin m) _
    (fun s' h hz => ⟨fun d => ⟨fun b hb => (h d _ (Pipeline.devRef_mem_ucRefs ((by decide : ∀ b ∈ argRefs, b.isScoped = false) b hb))).trans (W₁₀_arg m d b hb),
      h d _ (Pipeline.devRef_mem_ucRefs rfl)⟩, hz⟩)

end Cert.Proof.WholeIdeal

end
-- ==== Proof.WholeBlocks.lean ====
/-
  What the bodies of the whole program's TensorCore calls leave in their result blocks. The bodies are those of the calls
  taken one by one, so that what is proved of those holds of these.
-/
module

public import proofs.«01_k».proof.Proof.BlockAttn2
public import proofs.«01_k».proof.Proof.BlockQueries
public import proofs.«01_k».proof.Proof.ArraySearchA
public import proofs.«01_k».proof.Proof.ArraySearchB
public import proofs.«01_k».proof.Proof.WholeSearch
public import proofs.«01_k».proof.Proof.WholeAttn1
public import proofs.«01_k».proof.Proof.WholeQueries
public import proofs.«01_k».proof.Proof.WholeAttn2

@[expose] public section

noncomputable section

namespace Cert.Proof.WholeIdeal

open Cert.WholeIdeal Cert.WholeIdeal.Gen
open Idealize.ShloMosaic hiding ix2 ix3 eq_ix3
open Idealize.ShloMosaic.ValueIdx Cert.Proof.Layout Cert.Proof.Spec Cert.Proof.Rank Cert.Proof.Pick

/-- An entry of the first search's lists. -/
theorem out_2_apply (g : grid0.Coords) (x : Vec Ideal S1x256x3 .f32) (y : Vec Ideal S1x2048x3 .f32) (u : Fin 1) (i : Fin 256) (t : Fin 16) :
    R0.out_2 g x y (ix3 u i t)
      = BitVec.ofNat 32 (place (fun k => gap (fun c : Fin 3 => x (ix3 0 i c)) (fun c : Fin 3 => y (ix3 0 k c))) t.val).val
        + BitVec.ofNat 32 (g 0).val * 2048#32 := by
  have e : R0.out_2 (F := Ideal) g x y = Cert.SearchAIdeal.Gen.out0_2 (F := Ideal) g x y := rfl
  exact (congrFun e _).trans (SearchA.out0_2_apply g x y u i t)

/-- A row of the first attention's block. -/
theorem out_9_apply (gt gs : Vec Ideal S256x16x128 .f32) (sr : Vec Ideal S1x256x3 .f32) (tg : Vec Ideal S1x256x128 .f32)
    (wq wk wv : Vec Ideal S128x128 .f32) (wp : Vec Ideal S128x3 .f32) (bp : Vec Ideal S1x128 .f32) (u : Fin 1) (i : Fin 256) (c : Fin 128) :
    R1.out_9 gt gs sr tg wq wk wv wp bp (ix3 u i c)
      = attend (lin (mat wq) fun k => tg (ix3 0 i k))
          (fun j => token (mat wp) (fun k => bp (ix2 0 k)) (fun k : Fin 3 => sr (ix3 0 i k)) (fun k : Fin 3 => gs (ix3 i j (k.castLE (by decide)))) (fun k => gt (ix3 i j k)))
          (mat wk) (mat wv) c := by
  have e : R1.out_9 (F := Ideal) gt gs sr tg wq wk wv wp bp = Kernel.R1.out_9 (F := Ideal) gt gs sr tg wq wk wv wp bp := rfl
  exact (congrFun e _).trans (Kernel.out_9_apply gt gs sr tg wq wk wv wp bp u i c)

/-- An entry of the second search's lists. -/
theorem out_3_apply (g : grid3.Coords) (x : Vec Ideal S1x256x128 .f32) (y : Vec Ideal S1x2048x128 .f32) (w : Vec Ideal S128x128 .f32) (u : Fin 1) (i : Fin 256) (t : Fin 16) :
    R2.out_3 g x y w (ix3 u i t)
      = BitVec.ofNat 32 (place (fun k => gap (fun c : Fin 128 => x (ix3 0 i c)) (fun c : Fin 128 => y (ix3 0 k c))) t.val).val
        + BitVec.ofNat 32 (g 0).val * 2048#32 := by
  have e : R2.out_3 (F := Ideal) g x y w = Cert.SearchBIdeal.Gen.out0_3 (F := Ideal) g x y w := rfl
  exact (congrFun e _).trans (SearchB.out0_3_apply g x y w u i t)

/-- The second layer's queries of a block. -/
theorem out_4_apply (g : grid3.Coords) (x : Vec Ideal S1x256x128 .f32) (y : Vec Ideal S1x2048x128 .f32) (w : Vec Ideal S128x128 .f32)
    (u : Fin 1) (i : Fin 256) (c : Fin 128) :
    R2.out_4 g x y w (ix3 u i c) = lin (mat w) (fun k => x (ix3 0 i k)) c := by
  have e : R2.out_4 (F := Ideal) g x y w = Cert.SearchBIdeal.Gen.out0_4 (F := Ideal) g x y w := rfl
  exact (congrFun e _).trans (SearchB.out0_4_apply g x y w u i c)

/-- A row of the second attention's block. -/
theorem out_14_apply (gt : Vec Ideal S256x16x128 .f32) (ob q : Vec Ideal S1x256x128 .f32) (wp : Vec Ideal S128x128 .f32) (bp : Vec Ideal S1x128 .f32)
    (wk wv : Vec Ideal S128x128 .f32) (tg : Vec Ideal S1x256x128 .f32) (wl : Vec Ideal S128x128 .f32) (bl g0 b0 g1 b1 : Vec Ideal S1x128 .f32)
    (u : Fin 1) (i : Fin 256) (c : Fin 128) :
    R4.out_14 gt ob q wp bp wk wv tg wl bl g0 b0 g1 b1 (ix3 u i c)
      = close (fun k => tg (ix3 0 i k))
          (attend (fun k => q (ix3 0 i k))
            (fun j => token (mat wp) (fun k => bp (ix2 0 k)) (fun k => ob (ix3 0 i k)) (fun k => gt (ix3 i j k)) (fun k => gt (ix3 i j k)))
            (mat wk) (mat wv))
          (fun k => g0 (ix2 0 k)) (fun k => b0 (ix2 0 k)) (mat wl) (fun k => bl (ix2 0 k)) (fun k => g1 (ix2 0 k)) (fun k => b1 (ix2 0 k)) c := by
  have e : R4.out_14 (F := Ideal) gt ob q wp bp wk wv tg wl bl g0 b0 g1 b1 = Kernel.R4.out_14 (F := Ideal) gt ob q wp bp wk wv tg wl bl g0 b0 g1 b1 := rfl
  exact (congrFun e _).trans (Kernel.out_14_apply gt ob q wp bp wk wv tg wl bl g0 b0 g1 b1 u i c)

end Cert.Proof.WholeIdeal

end
-- ==== Proof.WholeArrayAttn1.lean ====
/-
  The first attention call's result array, as a function of the arrays it reads.
-/
module

public import proofs.«01_k».proof.Proof.WholeBlocks
public import proofs.«01_k».proof.Proof.ArrayAttn1
public import Idealize.ShloMosaic.Lib.Pipeline.ValueKit

@[expose] public section

noncomputable section

namespace Cert.Proof.WholeIdeal

open Cert.WholeIdeal Cert.WholeIdeal.Gen
open Idealize.ShloMosaic hiding ix2 ix3 eq_ix3
open Idealize.ShloMosaic.ValueIdx Cert.Proof.Layout Cert.Proof.Spec
open Cert.Proof.Kernel (num pos)
open TcCoe

variable (V : (c : Dev nD) → (b : Ref sig .tc) → Buf (Elt Ideal) ((c : Thread nD τ).loc b))

section Reads
variable (c : Dev nD) (t : Fin cfg2.N)

theorem read1_0 (i : Fin 256) (j : Fin 16) (k : Fin 128) : R1.iblk V c 0 t (ix3 i j k) = V c main_v14 (ix3 (num (grid2.coords t 0) (pos (grid2.coords t 1) i)) j k) :=
  congrArg (V c main_v14) (Kernel.place1_0 t i j k)
theorem read1_1 (i : Fin 256) (j : Fin 16) (k : Fin 128) : R1.iblk V c 1 t (ix3 i j k) = V c main_v15 (ix3 (num (grid2.coords t 0) (pos (grid2.coords t 1) i)) j k) :=
  congrArg (V c main_v15) (Kernel.place1_1 t i j k)
theorem read1_2 (u : Fin 1) (i : Fin 256) (k : Fin 3) : R1.iblk V c 2 t (ix3 u i k) = V c main_arg0 (ix3 (grid2.coords t 0) (pos (grid2.coords t 1) i) k) :=
  congrArg (V c main_arg0) (Kernel.place1_2 t u i k)
theorem read1_3 (u : Fin 1) (i : Fin 256) (k : Fin 128) : R1.iblk V c 3 t (ix3 u i k) = V c main_arg1 (ix3 (grid2.coords t 0) (pos (grid2.coords t 1) i) k) :=
  congrArg (V c main_arg1) (Kernel.place1_3 t u i k)
theorem read1_4 (i : Fin 128) (k : Fin 128) : R1.iblk V c 4 t (ix2 i k) = V c main_arg2 (ix2 i k) :=
  congrArg (V c main_arg2) (Kernel.place1_4 t i k)
theorem read1_5 (i : Fin 128) (k : Fin 128) : R1.iblk V c 5 t (ix2 i k) = V c main_arg3 (ix2 i k) :=
  congrArg (V c main_arg3) (Kernel.place1_5 t i k)
theorem read1_6 (i : Fin 128) (k : Fin 128) : R1.iblk V c 6 t (ix2 i k) = V c main_arg4 (ix2 i k) :=
  congrArg (V c main_arg4) (Kernel.place1_6 t i k)
theorem read1_7 (i : Fin 128) (k : Fin 3) : R1.iblk V c 7 t (ix2 i k) = V c main_arg10 (ix2 i k) :=
  congrArg (V c main_arg10) (Kernel.place1_7 t i k)
theorem read1_8 (i : Fin 1) (k : Fin 128) : R1.iblk V c 8 t (ix2 i k) = V c main_v0 (ix2 i k) :=
  congrArg (V c main_v0) (Kernel.place1_8 t i k)

end Reads

/-- What the call's result array holds: at each point the attention of its query over the sixteen rows gathered for it. -/
def attn1 (c : Dev nD) (b : Fin 8) (p : Fin 2048) (o : Fin 128) : EReal :=
  attend (lin (mat (m := 128) (n := 128) (V c main_arg2)) fun k => V c main_arg1 (ix3 b p k))
    (fun j => token (mat (m := 128) (n := 3) (V c main_arg10)) (fun k => V c main_v0 (ix2 0 k)) (fun k : Fin 3 => V c main_arg0 (ix3 b p k))
      (fun k : Fin 3 => V c main_v15 (ix3 (num b p) j (k.castLE (by decide)))) (fun k => V c main_v14 (ix3 (num b p) j k)))
    (mat (m := 128) (n := 128) (V c main_arg3)) (mat (m := 128) (n := 128) (V c main_arg4)) o

theorem final1 (c : Dev nD) : (R1.dat V c).arrAt 9 cfg2.N = arr (attn1 V c) := by
  refine (R1.dat V c).arrAt_eq_of_covers 9 _ (by decide +kernel) fun t hf y => ?_
  obtain ⟨u, i, k, rfl⟩ : ∃ (u : Fin 1) (i : Fin 256) (k : Fin 128), y = ix3 u i k := ⟨y 0, y 1, y 2, eq_ix3 y⟩
  refine Eq.trans (b := R1.out_9 (R1.iblk V c 0 t) (R1.iblk V c 1 t) (R1.iblk V c 2 t) (R1.iblk V c 3 t) (R1.iblk V c 4 t) (R1.iblk V c 5 t) (R1.iblk V c 6 t)
    (R1.iblk V c 7 t) (R1.iblk V c 8 t) (ix3 u i k)) ?_ (Eq.trans (b := arr (attn1 V c) (ix3 (grid2.coords t 0) (pos (grid2.coords t 1) i) k)) ?_ ?_)
  · rw [← R1.after_9]; rfl
  · rw [out_9_apply]
    simp only [read1_0, read1_1, read1_2, read1_3, read1_8]
    have e4 : mat (m := 128) (n := 128) (R1.iblk V c 4 t) = mat (m := 128) (n := 128) (V c main_arg2) := funext fun o => funext fun k => read1_4 V c t o k
    have e5 : mat (m := 128) (n := 128) (R1.iblk V c 5 t) = mat (m := 128) (n := 128) (V c main_arg3) := funext fun o => funext fun k => read1_5 V c t o k
    have e6 : mat (m := 128) (n := 128) (R1.iblk V c 6 t) = mat (m := 128) (n := 128) (V c main_arg4) := funext fun o => funext fun k => read1_6 V c t o k
    have e7 : mat (m := 128) (n := 3) (R1.iblk V c 7 t) = mat (m := 128) (n := 3) (V c main_arg10) := funext fun o => funext fun k => read1_7 V c t o k
    rw [e4, e5, e6, e7]
    rfl
  · exact congrArg (arr (attn1 V c)) (Kernel.place1_9 t u i k).symm

end Cert.Proof.WholeIdeal

end
-- ==== Proof.WholeArrayQueries.lean ====
/-
  The array of the second layer's queries, as a function of the arrays it is computed from.
-/
module

public import proofs.«01_k».proof.Proof.WholeBlocks
public import proofs.«01_k».proof.Proof.ArrayQueries
public import proofs.«01_k».proof.Proof.WholeArrayAttn1

@[expose] public section

noncomputable section

namespace Cert.Proof.WholeIdeal

open Cert.WholeIdeal Cert.WholeIdeal.Gen
open Idealize.ShloMosaic hiding ix2 ix3 eq_ix3
open Idealize.ShloMosaic.ValueIdx Cert.Proof.Layout Cert.Proof.Spec
open Cert.Proof.Kernel (num pos)
open TcCoe

variable (V : (c : Dev nD) → (b : Ref sig .tc) → Buf (Elt Ideal) ((c : Thread nD τ).loc b))

section Reads
variable (c : Dev nD) (t : Fin cfg3.N)

theorem read2_0 (u : Fin 1) (i : Fin 256) (k : Fin 128) : R2.iblk V c 0 t (ix3 u i k) = V c main_v16 (ix3 (grid3.coords t 0) (pos (grid3.coords t 1) i) k) :=
  congrArg (V c main_v16) (Kernel.place2_0 t u i k)
theorem read2_2 (i : Fin 128) (k : Fin 128) : R2.iblk V c 2 t (ix2 i k) = V c main_arg5 (ix2 i k) :=
  congrArg (V c main_arg5) (Kernel.place2_2 t i k)

end Reads

/-- What the call's second result array holds: the queries of the second layer. -/
def queries (c : Dev nD) (b : Fin 8) (p : Fin 2048) (o : Fin 128) : EReal :=
  lin (mat (m := 128) (n := 128) (V c main_arg5)) (fun k => V c main_v16 (ix3 b p k)) o

theorem final2 (c : Dev nD) : (R2.dat V c).arrAt 4 cfg3.N = arr (queries V c) := by
  refine (R2.dat V c).arrAt_eq_of_covers 4 _ (by decide +kernel) fun t hf y => ?_
  obtain ⟨u, i, k, rfl⟩ : ∃ (u : Fin 1) (i : Fin 256) (k : Fin 128), y = ix3 u i k := ⟨y 0, y 1, y 2, eq_ix3 y⟩
  refine Eq.trans (b := R2.out_4 (grid3.coords t) (R2.iblk V c 0 t) (R2.iblk V c 1 t) (R2.iblk V c 2 t) (ix3 u i k)) ?_
    (Eq.trans (b := arr (queries V c) (ix3 (grid3.coords t 0) (pos (grid3.coords t 1) i) k)) ?_ ?_)
  · rw [← R2.after_4]; rfl
  · rw [out_4_apply]
    simp only [read2_0]
    have e2 : mat (m := 128) (n := 128) (R2.iblk V c 2 t) = mat (m := 128) (n := 128) (V c main_arg5) := funext fun o => funext fun k => read2_2 V c t o k
    rw [e2]
    rfl
  · exact congrArg (arr (queries V c)) (Kernel.place2_4 t u i k).symm

end Cert.Proof.WholeIdeal

end
-- ==== Proof.WholeArraySearch.lean ====
/-
  What the two searches of the whole program leave in the arrays of their lists: the lists of the nearest points of the
  points they are given.
-/
module

public import proofs.«01_k».proof.Proof.WholeBlocks
public import proofs.«01_k».proof.Proof.WholeArrayQueries

@[expose] public section

noncomputable section

namespace Cert.Proof.WholeIdeal

open Cert.WholeIdeal Cert.WholeIdeal.Gen
open Idealize.ShloMosaic hiding ix2 ix3 eq_ix3
open Idealize.ShloMosaic.ValueIdx Cert.Proof.Layout Cert.Proof.Spec
open Cert.Proof.Kernel (num pos)
open TcCoe

variable (V : (c : Dev nD) → (b : Ref sig .tc) → Buf (Elt Ideal) ((c : Thread nD τ).loc b))

section Reads
variable (c : Dev nD) (t : Fin cfg0.N) (s : Fin cfg3.N)

theorem read0_0 (u : Fin 1) (i : Fin 256) (k : Fin 3) : R0.iblk V c 0 t (ix3 u i k) = V c main_arg0 (ix3 (grid0.coords t 0) (pos (grid0.coords t 1) i) k) :=
  congrArg (V c main_arg0) (SearchA.place0 t u i k)

theorem read0_1 (u : Fin 1) (i : Fin 2048) (k : Fin 3) : R0.iblk V c 1 t (ix3 u i k) = V c main_arg0 (ix3 (grid0.coords t 0) i k) :=
  congrArg (V c main_arg0) (SearchA.place1 t u i k)

theorem read2_1 (u : Fin 1) (i : Fin 2048) (k : Fin 128) : R2.iblk V c 1 s (ix3 u i k) = V c main_v16 (ix3 (grid3.coords s 0) i k) :=
  congrArg (V c main_v16) (SearchB.place1 s u i k)

end Reads

/-- The first search's lists. -/
theorem final0 (c : Dev nD) : (R0.dat V c).arrAt 2 cfg0.N = SearchA.nearest (V c main_arg0) := by
  refine (R0.dat V c).arrAt_eq_of_covers 2 _ (by decide +kernel) fun t hf y => ?_
  obtain ⟨u, i, k, rfl⟩ : ∃ (u : Fin 1) (i : Fin 256) (k : Fin 16), y = ix3 u i k := ⟨y 0, y 1, y 2, eq_ix3 y⟩
  refine Eq.trans (b := R0.out_2 (grid0.coords t) (R0.iblk V c 0 t) (R0.iblk V c 1 t) (ix3 u i k)) ?_
    (Eq.trans (b := SearchA.nearest (V c main_arg0) (ix3 (grid0.coords t 0) (pos (grid0.coords t 1) i) k)) ?_ ?_)
  · rw [← R0.after_2]; rfl
  · rw [out_2_apply]
    simp only [read0_0, read0_1]
    rfl
  · exact congrArg (SearchA.nearest (V c main_arg0)) (SearchA.placeOut t u i k).symm

/-- The second search's lists. -/
theorem final2_3 (c : Dev nD) : (R2.dat V c).arrAt 3 cfg3.N = SearchB.nearest (V c main_v16) := by
  refine (R2.dat V c).arrAt_eq_of_covers 3 _ (by decide +kernel) fun t hf y => ?_
  obtain ⟨u, i, k, rfl⟩ : ∃ (u : Fin 1) (i : Fin 256) (k : Fin 16), y = ix3 u i k := ⟨y 0, y 1, y 2, eq_ix3 y⟩
  refine Eq.trans (b := R2.out_3 (grid3.coords t) (R2.iblk V c 0 t) (R2.iblk V c 1 t) (R2.iblk V c 2 t) (ix3 u i k)) ?_
    (Eq.trans (b := SearchB.nearest (V c main_v16) (ix3 (grid3.coords t 0) (pos (grid3.coords t 1) i) k)) ?_ ?_)
  · rw [← R2.after_3]; rfl
  · rw [out_3_apply]
    simp only [read2_0, read2_1]
    rfl
  · exact congrArg (SearchB.nearest (V c main_v16)) (SearchB.placeOut t u i k).symm

/-- The lists name rows. -/
theorem entry_lt (p : Fin 2048) (b : Fin 8) : (BitVec.ofNat 32 p.val + BitVec.ofNat 32 b.val * 2048#32).toNat = b.val * 2048 + p.val := by
  have := p.isLt
  have := b.isLt
  rw [BitVec.toNat_add, BitVec.toNat_mul, BitVec.toNat_ofNat, BitVec.toNat_ofNat, BitVec.toNat_ofNat]
  omega
theorem nearestA_lt (x : FVec Ideal S8x2048x3 .f32) (y : S8x2048x16.Idx) : (SearchA.nearest x y).toNat < 16384 := by
  have h : (y 0 : Fin 8).val < 8 := (y 0 : Fin 8).isLt
  refine (entry_lt _ (y 0 : Fin 8)).trans_lt ?_
  omega
theorem nearestB_lt (x : FVec Ideal S8x2048x128 .f32) (y : S8x2048x16.Idx) : (SearchB.nearest x y).toNat < 16384 := by
  have h : (y 0 : Fin 8).val < 8 := (y 0 : Fin 8).isLt
  refine (entry_lt _ (y 0 : Fin 8)).trans_lt ?_
  omega

end Cert.Proof.WholeIdeal

end
-- ==== Proof.WholeArrayAttn2.lean ====
/-
  The second attention call's result array, as a function of the arrays it reads.
-/
module

public import proofs.«01_k».proof.Proof.WholeBlocks
public import proofs.«01_k».proof.Proof.ArrayAttn2
public import proofs.«01_k».proof.Proof.WholeArrayAttn1

@[expose] public section

noncomputable section

namespace Cert.Proof.WholeIdeal

open Cert.WholeIdeal Cert.WholeIdeal.Gen
open Idealize.ShloMosaic hiding ix2 ix3 eq_ix3
open Idealize.ShloMosaic.ValueIdx Cert.Proof.Layout Cert.Proof.Spec
open Cert.Proof.Kernel (num pos)
open TcCoe

variable (V : (c : Dev nD) → (b : Ref sig .tc) → Buf (Elt Ideal) ((c : Thread nD τ).loc b))

section Reads
variable (c : Dev nD) (t : Fin cfg5.N)

theorem read4_0 (i : Fin 256) (j : Fin 16) (k : Fin 128) : R4.iblk V c 0 t (ix3 i j k) = V c main_v21 (ix3 (num (grid5.coords t 0) (pos (grid5.coords t 1) i)) j k) :=
  congrArg (V c main_v21) (Kernel.place4_0 t i j k)
theorem read4_1 (u : Fin 1) (i : Fin 256) (k : Fin 128) : R4.iblk V c 1 t (ix3 u i k) = V c main_v16 (ix3 (grid5.coords t 0) (pos (grid5.coords t 1) i) k) :=
  congrArg (V c main_v16) (Kernel.place4_1 t u i k)
theorem read4_2 (u : Fin 1) (i : Fin 256) (k : Fin 128) : R4.iblk V c 2 t (ix3 u i k) = V c main_v17_1 (ix3 (grid5.coords t 0) (pos (grid5.coords t 1) i) k) :=
  congrArg (V c main_v17_1) (Kernel.place4_2 t u i k)
theorem read4_3 (i : Fin 128) (k : Fin 128) : R4.iblk V c 3 t (ix2 i k) = V c main_arg12 (ix2 i k) :=
  congrArg (V c main_arg12) (Kernel.place4_3 t i k)
theorem read4_4 (i : Fin 1) (k : Fin 128) : R4.iblk V c 4 t (ix2 i k) = V c main_v1 (ix2 i k) :=
  congrArg (V c main_v1) (Kernel.place4_4 t i k)
theorem read4_5 (i : Fin 128) (k : Fin 128) : R4.iblk V c 5 t (ix2 i k) = V c main_arg6 (ix2 i k) :=
  congrArg (V c main_arg6) (Kernel.place4_5 t i k)
theorem read4_6 (i : Fin 128) (k : Fin 128) : R4.iblk V c 6 t (ix2 i k) = V c main_arg7 (ix2 i k) :=
  congrArg (V c main_arg7) (Kernel.place4_6 t i k)
theorem read4_7 (u : Fin 1) (i : Fin 256) (k : Fin 128) : R4.iblk V c 7 t (ix3 u i k) = V c main_arg1 (ix3 (grid5.coords t 0) (pos (grid5.coords t 1) i) k) :=
  congrArg (V c main_arg1) (Kernel.place4_7 t u i k)
theorem read4_8 (i : Fin 128) (k : Fin 128) : R4.iblk V c 8 t (ix2 i k) = V c main_arg8 (ix2 i k) :=
  congrArg (V c main_arg8) (Kernel.place4_8 t i k)
theorem read4_9 (i : Fin 1) (k : Fin 128) : R4.iblk V c 9 t (ix2 i k) = V c main_v2 (ix2 i k) :=
  congrArg (V c main_v2) (Kernel.place4_9 t i k)
theorem read4_10 (i : Fin 1) (k : Fin 128) : R4.iblk V c 10 t (ix2 i k) = V c main_v3 (ix2 i k) :=
  congrArg (V c main_v3) (Kernel.place4_10 t i k)
theorem read4_11 (i : Fin 1) (k : Fin 128) : R4.iblk V c 11 t (ix2 i k) = V c main_v4 (ix2 i k) :=
  congrArg (V c main_v4) (Kernel.place4_11 t i k)
theorem read4_12 (i : Fin 1) (k : Fin 128) : R4.iblk V c 12 t (ix2 i k) = V c main_v5 (ix2 i k) :=
  congrArg (V c main_v5) (Kernel.place4_12 t i k)
theorem read4_13 (i : Fin 1) (k : Fin 128) : R4.iblk V c 13 t (ix2 i k) = V c main_v6 (ix2 i k) :=
  congrArg (V c main_v6) (Kernel.place4_13 t i k)

end Reads

/-- What the call's result array holds: the closing block of each point's features and of the attention of its query over
    the sixteen rows gathered for it. -/
def attn2 (c : Dev nD) (b : Fin 8) (p : Fin 2048) (o : Fin 128) : EReal :=
  close (fun k => V c main_arg1 (ix3 b p k))
    (attend (fun k => V c main_v17_1 (ix3 b p k))
      (fun j => token (mat (m := 128) (n := 128) (V c main_arg12)) (fun k => V c main_v1 (ix2 0 k)) (fun k => V c main_v16 (ix3 b p k))
        (fun k => V c main_v21 (ix3 (num b p) j k)) (fun k => V c main_v21 (ix3 (num b p) j k)))
      (mat (m := 128) (n := 128) (V c main_arg6)) (mat (m := 128) (n := 128) (V c main_arg7)))
    (fun k => V c main_v3 (ix2 0 k)) (fun k => V c main_v4 (ix2 0 k)) (mat (m := 128) (n := 128) (V c main_arg8)) (fun k => V c main_v2 (ix2 0 k))
    (fun k => V c main_v5 (ix2 0 k)) (fun k => V c main_v6 (ix2 0 k)) o

theorem final4 (c : Dev nD) : (R4.dat V c).arrAt 14 cfg5.N = arr (attn2 V c) := by
  refine (R4.dat V c).arrAt_eq_of_covers 14 _ (by decide +kernel) fun t hf y => ?_
  obtain ⟨u, i, k, rfl⟩ : ∃ (u : Fin 1) (i : Fin 256) (k : Fin 128), y = ix3 u i k := ⟨y 0, y 1, y 2, eq_ix3 y⟩
  refine Eq.trans (b := R4.out_14 (R4.iblk V c 0 t) (R4.iblk V c 1 t) (R4.iblk V c 2 t) (R4.iblk V c 3 t) (R4.iblk V c 4 t) (R4.iblk V c 5 t) (R4.iblk V c 6 t)
    (R4.iblk V c 7 t) (R4.iblk V c 8 t) (R4.iblk V c 9 t) (R4.iblk V c 10 t) (R4.iblk V c 11 t) (R4.iblk V c 12 t) (R4.iblk V c 13 t) (ix3 u i k)) ?_
    (Eq.trans (b := arr (attn2 V c) (ix3 (grid5.coords t 0) (pos (grid5.coords t 1) i) k)) ?_ ?_)
  · rw [← R4.after_14]; rfl
  · rw [out_14_apply]
    simp only [read4_0, read4_1, read4_2, read4_4, read4_7, read4_9, read4_10, read4_11, read4_12, read4_13]
    have e3 : mat (m := 128) (n := 128) (R4.iblk V c 3 t) = mat (m := 128) (n := 128) (V c main_arg12) := funext fun o => funext fun k => read4_3 V c t o k
    have e5 : mat (m := 128) (n := 128) (R4.iblk V c 5 t) = mat (m := 128) (n := 128) (V c main_arg6) := funext fun o => funext fun k => read4_5 V c t o k
    have e6 : mat (m := 128) (n := 128) (R4.iblk V c 6 t) = mat (m := 128) (n := 128) (V c main_arg7) := funext fun o => funext fun k => read4_6 V c t o k
    have e8 : mat (m := 128) (n := 128) (R4.iblk V c 8 t) = mat (m := 128) (n := 128) (V c main_arg8) := funext fun o => funext fun k => read4_8 V c t o k
    rw [e3, e5, e6, e8]
    rfl
  · exact congrArg (arr (attn2 V c)) (Kernel.place4_14 t u i k).symm

end Cert.Proof.WholeIdeal

end
-- ==== Proof.WholeContents.lean ====
/-
  What the buffers hold, from the arguments: the gathered rows, the two attention layers, and the result.
-/
module

public import proofs.«01_k».proof.Proof.WholeLaunch
public import proofs.«01_k».proof.Proof.WholeArraySearch
public import proofs.«01_k».proof.Proof.Rows
public import proofs.«01_k».proof.Proof.WholeArrayQueries
public import proofs.«01_k».proof.Proof.WholeArrayAttn2

@[expose] public section

noncomputable section

namespace Cert.Proof.WholeIdeal

open Cert.WholeIdeal Cert.WholeIdeal.Gen
open Idealize.ShloMosaic hiding ix1 ix2 ix3 eq_ix3
open Idealize.ShloMosaic.ValueIdx Cert.Proof.Layout Cert.Proof.Spec
open Cert.Proof.Kernel (num pos wide_apply)
open TcCoe

variable (m : (ℓ : Loc nD τ sig) → Buf (Elt Ideal) ℓ) (d : Dev nD)

/-- The arguments, by their names in the statement. -/
abbrev src : Arr 3 := m (d, Proc.devRef .tc main_arg0)
abbrev tgt : Arr 128 := m (d, Proc.devRef .tc main_arg1)
abbrev wq0 : S128x128.Idx → EReal := m (d, Proc.devRef .tc main_arg2)
abbrev wk0 : S128x128.Idx → EReal := m (d, Proc.devRef .tc main_arg3)
abbrev wv0 : S128x128.Idx → EReal := m (d, Proc.devRef .tc main_arg4)
abbrev wq1 : S128x128.Idx → EReal := m (d, Proc.devRef .tc main_arg5)
abbrev wk1 : S128x128.Idx → EReal := m (d, Proc.devRef .tc main_arg6)
abbrev wv1 : S128x128.Idx → EReal := m (d, Proc.devRef .tc main_arg7)
abbrev wl : S128x128.Idx → EReal := m (d, Proc.devRef .tc main_arg8)
abbrev bl : S128.Idx → EReal := m (d, Proc.devRef .tc main_arg9)
abbrev wp0 : S128x3.Idx → EReal := m (d, Proc.devRef .tc main_arg10)
abbrev bp0 : S128.Idx → EReal := m (d, Proc.devRef .tc main_arg11)
abbrev wp1 : S128x128.Idx → EReal := m (d, Proc.devRef .tc main_arg12)
abbrev bp1 : S128.Idx → EReal := m (d, Proc.devRef .tc main_arg13)
abbrev g0 : S128.Idx → EReal := m (d, Proc.devRef .tc main_arg14)
abbrev b0 : S128.Idx → EReal := m (d, Proc.devRef .tc main_arg15)
abbrev g1 : S128.Idx → EReal := m (d, Proc.devRef .tc main_arg16)
abbrev b1 : S128.Idx → EReal := m (d, Proc.devRef .tc main_arg17)
/-- The first list: the nearest points of the points. -/
abbrev idx1 : S8x2048x16.Idx → BitVec 32 := SearchA.nearest (src m d)
/-- The first layer's result, from the arguments. -/
abbrev out1 : Fin 8 → Fin 2048 → Fin 128 → EReal := layer (src m d) (tgt m d) (wq0 m d) (wk0 m d) (wv0 m d) (wp0 m d) (bp0 m d) (idx1 m d)
/-- The second list: the nearest points of the first layer's result. -/
abbrev idx2 : S8x2048x16.Idx → BitVec 32 := SearchB.nearest (arr (out1 m d))

/-- The rows gathered for a point, of the whole program's gathers. -/
theorem rows_apply (x : Arr 128) (l : S8x2048x16.Idx → BitVec 32) (h : S8x2048x128.ShapeCasts S16384x128) (h' : S8x2048x16.ShapeCasts S262144)
    (h'' : S262144x128.ShapeCasts S16384x16x128) (b : Fin 8) (p : Fin 2048) (j : Fin 16) (k : Fin 128) :
    shapeCast S16384x16x128 (rowsOf (F := Ideal) (shapeCast S16384x128 x h) (shapeCast S262144 l h')) h'' (ix3 (num b p) j k)
      = flat x (nbr l b p j) k := Kernel.rows_apply x l h h' h'' b p j k

/-! ## The lists -/

theorem v9_eq : (Ws m d (Proc.devRef .tc main_v9) : S8x2048x16.Idx → BitVec 32) = idx1 m d := by
  refine ((R0.dat (fun c b => Wp m c (Proc.devRef .tc b)) d).withArrays_arrAt sharedIn0 (Wp m d) (fun w => R0.A_eq _ d w) 2).trans ?_
  refine (final0 (fun c b => Wp m c (Proc.devRef .tc b)) d).trans (congrArg SearchA.nearest ?_)
  exact Wp_arg m d main_arg0 (by decide)

theorem ix_eq : ix m d = shapeCast S262144 (idx1 m d) shapeCasts_S8x2048x16_S262144 := by
  rw [← v9_eq]
  unfold ix W₁ opsA
  after_results
  rfl

theorem v17_eq : (W₅ m d (Proc.devRef .tc main_v17_0) : S8x2048x16.Idx → BitVec 32) = SearchB.nearest (W₄ m d (Proc.devRef .tc main_v16)) :=
  ((R2.dat (fun c b => W₄ m c (Proc.devRef .tc b)) d).withArrays_arrAt sharedIn3 (W₄ m d) (fun w => R2.A_eq _ d w) 3).trans
    (final2_3 (fun c b => W₄ m c (Proc.devRef .tc b)) d)

theorem iy_of : iy m d = shapeCast S262144 (SearchB.nearest (W₄ m d (Proc.devRef .tc main_v16))) shapeCasts_S8x2048x16_S262144 := by
  rw [← v17_eq]
  unfold iy W₆ opsC
  after_results
  rfl

/-- Both lists name rows. -/
theorem ix_ok : InRows (ix (F := Ideal) m d) := by
  intro j
  rw [ix_eq]
  exact nearestA_lt _ _

theorem iy_ok : InRows (iy (F := Ideal) m d) := by
  intro j
  rw [iy_of]
  exact nearestB_lt _ _

/-! ## The small operands -/

theorem v0_apply (k : Fin 128) : (Wp m d (Proc.devRef .tc main_v0) : S1x128.Idx → EReal) (ix2 0 k) = bp0 m d (ix1 k) := by
  have e : Wp m d (Proc.devRef .tc main_v0) = shapeCast S1x128 (bp0 m d) shapeCasts_S128_S1x128 := by unfold Wp opsP; after_results; rfl
  rw [e]; exact shapeCast_a_1a_apply _ _ 0 k
theorem v1_apply (k : Fin 128) : (Wp m d (Proc.devRef .tc main_v1) : S1x128.Idx → EReal) (ix2 0 k) = bp1 m d (ix1 k) := by
  have e : Wp m d (Proc.devRef .tc main_v1) = shapeCast S1x128 (bp1 m d) shapeCasts_S128_S1x128 := by unfold Wp opsP; after_results; rfl
  rw [e]; exact shapeCast_a_1a_apply _ _ 0 k
theorem v2_apply (k : Fin 128) : (Wp m d (Proc.devRef .tc main_v2) : S1x128.Idx → EReal) (ix2 0 k) = bl m d (ix1 k) := by
  have e : Wp m d (Proc.devRef .tc main_v2) = shapeCast S1x128 (bl m d) shapeCasts_S128_S1x128 := by unfold Wp opsP; after_results; rfl
  rw [e]; exact shapeCast_a_1a_apply _ _ 0 k
theorem v3_apply (k : Fin 128) : (Wp m d (Proc.devRef .tc main_v3) : S1x128.Idx → EReal) (ix2 0 k) = g0 m d (ix1 k) := by
  have e : Wp m d (Proc.devRef .tc main_v3) = shapeCast S1x128 (g0 m d) shapeCasts_S128_S1x128 := by unfold Wp opsP; after_results; rfl
  rw [e]; exact shapeCast_a_1a_apply _ _ 0 k
theorem v4_apply (k : Fin 128) : (Wp m d (Proc.devRef .tc main_v4) : S1x128.Idx → EReal) (ix2 0 k) = b0 m d (ix1 k) := by
  have e : Wp m d (Proc.devRef .tc main_v4) = shapeCast S1x128 (b0 m d) shapeCasts_S128_S1x128 := by unfold Wp opsP; after_results; rfl
  rw [e]; exact shapeCast_a_1a_apply _ _ 0 k
theorem v5_apply (k : Fin 128) : (Wp m d (Proc.devRef .tc main_v5) : S1x128.Idx → EReal) (ix2 0 k) = g1 m d (ix1 k) := by
  have e : Wp m d (Proc.devRef .tc main_v5) = shapeCast S1x128 (g1 m d) shapeCasts_S128_S1x128 := by unfold Wp opsP; after_results; rfl
  rw [e]; exact shapeCast_a_1a_apply _ _ 0 k
theorem v6_apply (k : Fin 128) : (Wp m d (Proc.devRef .tc main_v6) : S1x128.Idx → EReal) (ix2 0 k) = b1 m d (ix1 k) := by
  have e : Wp m d (Proc.devRef .tc main_v6) = shapeCast S1x128 (b1 m d) shapeCasts_S128_S1x128 := by unfold Wp opsP; after_results; rfl
  rw [e]; exact shapeCast_a_1a_apply _ _ 0 k

/-! ## The first layer -/

theorem tA_eq : tA m d = shapeCast S16384x128 (tgt m d) shapeCasts_S8x2048x128_S16384x128 := by
  have e := Ws_arg m d main_arg1 (by decide)
  unfold tgt; rw [← e]
  unfold tA W₁ opsA; after_results; rfl

/-- The points widened by zeros. -/
abbrev wide : Arr 128 :=
  concatenate S8x2048x128 2 [⟨S8x2048x3, src m d⟩, ⟨S8x2048x125, broadcastInDim S8x2048x125 ![] bcast_S_S8x2048x125 (constant (F := Ideal) S_ .f32 0x00000000#32)⟩]
    concatenates_S8x2048x3_S8x2048x125_S8x2048x128_d2

theorem tB_eq : tB m d = shapeCast S16384x128 (wide m d) shapeCasts_S8x2048x128_S16384x128 := by
  have e : Ws m d (Proc.devRef .tc main_v8) = wide m d := by
    rw [Ws_keeps m d main_v8 (by decide)]
    unfold Wp opsP; after_results; rfl
  rw [← e]
  unfold tB W₁ opsA; after_results; rfl

theorem v13_apply (b : Fin 8) (p : Fin 2048) (j : Fin 16) (k : Fin 128) :
    (W₃ m d (Proc.devRef .tc main_v14) : S16384x16x128.Idx → EReal) (ix3 (num b p) j k) = flat (tgt m d) (nbr (idx1 m d) b p j) k := by
  have e : W₃ m d (Proc.devRef .tc main_v14) = shapeCast S16384x16x128 (W₂ m d (Proc.devRef .tc main_v13_0) : S262144x128.Idx → EReal) shapeCasts_S262144x128_S16384x16x128 := by
    unfold W₃ opsB; after_results; rfl
  rw [e, W₂_v12_0, tA_eq, ix_eq]
  exact rows_apply (tgt m d) (idx1 m d) _ _ _ b p j k

theorem v14_apply (b : Fin 8) (p : Fin 2048) (j : Fin 16) (k : Fin 3) :
    (W₃ m d (Proc.devRef .tc main_v15) : S16384x16x128.Idx → EReal) (ix3 (num b p) j (k.castLE (by decide))) = flat (src m d) (nbr (idx1 m d) b p j) k := by
  have e : W₃ m d (Proc.devRef .tc main_v15) = shapeCast S16384x16x128 (W₂ m d (Proc.devRef .tc main_v13_1) : S262144x128.Idx → EReal) shapeCasts_S262144x128_S16384x16x128 := by
    unfold W₃ opsB; after_results; rfl
  rw [e, W₂_v12_1, tB_eq, ix_eq]
  exact (rows_apply (wide m d) (idx1 m d) _ _ _ b p j _).trans (wide_apply (src m d) _ _ _ k)

theorem v15_eq : (W₄ m d (Proc.devRef .tc main_v16) : Arr 128) = arr (out1 m d) := by
  refine ((R1.dat (fun c b => W₃ m c (Proc.devRef .tc b)) d).withArrays_arrAt sharedIn2 (W₃ m d) (fun w => R1.A_eq _ d w) 9).trans ?_
  refine (final1 (fun c b => W₃ m c (Proc.devRef .tc b)) d).trans (congrArg arr ?_)
  funext b p o
  have h0 : ∀ k : Fin 128, (W₃ m d (Proc.devRef .tc main_v0) : S1x128.Idx → EReal) (ix2 0 k) = bp0 m d (ix1 k) := fun k => by
    rw [W₃_keeps m d main_v0 (by decide), W₂_keeps m d main_v0 (by decide) (by decide), W₁_keeps m d main_v0 (by decide), Ws_keeps m d main_v0 (by decide)]; exact v0_apply m d k
  unfold attn1 out1 layer
  have h13 : ∀ (j : Fin 16) (k : Fin 128), (W₃ m d (Proc.devRef .tc main_v14) : S16384x16x128.Idx → EReal) (ix3 (num b p) j k)
      = flat (tgt m d) (nbr (idx1 m d) b p j) k := fun j k => v13_apply m d b p j k
  have h14 : ∀ (j : Fin 16) (k : Fin 3), (W₃ m d (Proc.devRef .tc main_v15) : S16384x16x128.Idx → EReal) (ix3 (num b p) j (k.castLE (by decide)))
      = flat (src m d) (nbr (idx1 m d) b p j) k := fun j k => v14_apply m d b p j k
  simp only [h0, h13, h14]
  rw [W₃_arg m d main_arg0 (by decide), W₃_arg m d main_arg1 (by decide), W₃_arg m d main_arg2 (by decide), W₃_arg m d main_arg3 (by decide),
    W₃_arg m d main_arg4 (by decide), W₃_arg m d main_arg10 (by decide)]

/-! ## The second layer -/

theorem v16_eq : (W₅ m d (Proc.devRef .tc main_v17_1) : Arr 128) = arr fun b p => lin (mat (wq1 m d)) (pt (arr (out1 m d)) b p) := by
  refine ((R2.dat (fun c b => W₄ m c (Proc.devRef .tc b)) d).withArrays_arrAt sharedIn3 (W₄ m d) (fun w => R2.A_eq _ d w) 4).trans ?_
  refine (final2 (fun c b => W₄ m c (Proc.devRef .tc b)) d).trans (congrArg arr ?_)
  funext b p o
  unfold queries
  dsimp only
  rw [v15_eq, W₄_arg m d main_arg5 (by decide)]

theorem v15_later : (W₅ m d (Proc.devRef .tc main_v16) : Arr 128) = arr (out1 m d) :=
  (W₅_keeps m d main_v16 (by decide) (by decide)).trans (v15_eq m d)

theorem tC_eq : tC m d = shapeCast S16384x128 (arr (out1 m d)) shapeCasts_S8x2048x128_S16384x128 := by
  rw [← v15_later]
  unfold tC W₆ opsC; after_results; rfl

theorem v20_apply (b : Fin 8) (p : Fin 2048) (j : Fin 16) (k : Fin 128) :
    (W₈ m d (Proc.devRef .tc main_v21) : S16384x16x128.Idx → EReal) (ix3 (num b p) j k) = flat (arr (out1 m d)) (nbr (idx2 m d) b p j) k := by
  have e : W₈ m d (Proc.devRef .tc main_v21) = shapeCast S16384x16x128 (W₇ m d (Proc.devRef .tc main_v20) : S262144x128.Idx → EReal) shapeCasts_S262144x128_S16384x16x128 := by
    unfold W₈ opsD; after_results; rfl
  have hy : iy m d = shapeCast S262144 (idx2 m d) shapeCasts_S8x2048x16_S262144 := by rw [iy_of, v15_eq]
  rw [e, W₇_v19, tC_eq, hy]
  exact rows_apply (arr (out1 m d)) (idx2 m d) _ _ _ b p j k

/-- From after the queries on, nothing but the second gather and its rows is written. -/
theorem W₈_later (b : Ref sig .tc) (h : b ∉ [main_v21]) (h' : b ≠ main_v20) (h'' : b ∉ [main_v18, main_v19]) :
    W₈ m d (Proc.devRef .tc b) = W₅ m d (Proc.devRef .tc b) :=
  (W₈_keeps m d b h).trans ((W₇_keeps m d b h').trans (W₆_keeps m d b h''))

/-- The small operands stay as they are laid out at the start. -/
theorem W₈_early (b : Ref sig .tc) (h : b ∉ [main_v21]) (h' : b ≠ main_v20) (h'' : b ∉ [main_v18, main_v19]) (h₁ : main_v17_0 ≠ b) (h₂ : main_v17_1 ≠ b)
    (h₃ : main_v16 ≠ b) (h₄ : b ∉ [main_v14, main_v15]) (h₅ : b ≠ main_v13_0) (h₆ : b ≠ main_v13_1)
    (h₇ : b ∉ [main_v10, main_v11, main_v12]) (h₈ : main_v9 ≠ b) :
    W₈ m d (Proc.devRef .tc b) = Wp m d (Proc.devRef .tc b) :=
  (W₈_later m d b h h' h'').trans ((W₅_keeps m d b h₁ h₂).trans ((W₄_keeps m d b h₃).trans ((W₃_keeps m d b h₄).trans ((W₂_keeps m d b h₅ h₆).trans ((W₁_keeps m d b h₇).trans (Ws_keeps m d b h₈))))))

/-- The result, before its axes are exchanged. -/
abbrev result : Fin 2048 → Fin 8 → Fin 128 → EReal :=
  whole (src m d) (tgt m d) (wq0 m d) (wk0 m d) (wv0 m d) (wq1 m d) (wk1 m d) (wv1 m d) (wl m d) (bl m d) (wp0 m d) (bp0 m d) (wp1 m d) (bp1 m d)
    (g0 m d) (b0 m d) (g1 m d) (b1 m d) (idx1 m d) (idx2 m d)

theorem v21_eq : (W₉ m d (Proc.devRef .tc main_v22) : Arr 128) = arr fun b p => result m d p b := by
  refine ((R4.dat (fun c b => W₈ m c (Proc.devRef .tc b)) d).withArrays_arrAt sharedIn5 (W₈ m d) (fun w => R4.A_eq _ d w) 14).trans ?_
  refine (final4 (fun c b => W₈ m c (Proc.devRef .tc b)) d).trans (congrArg arr ?_)
  funext b p o
  have h1 : W₈ m d (Proc.devRef .tc main_v1) = Wp m d (Proc.devRef .tc main_v1) := by apply W₈_early <;> decide
  have h2 : W₈ m d (Proc.devRef .tc main_v2) = Wp m d (Proc.devRef .tc main_v2) := by apply W₈_early <;> decide
  have h3 : W₈ m d (Proc.devRef .tc main_v3) = Wp m d (Proc.devRef .tc main_v3) := by apply W₈_early <;> decide
  have h4 : W₈ m d (Proc.devRef .tc main_v4) = Wp m d (Proc.devRef .tc main_v4) := by apply W₈_early <;> decide
  have h5 : W₈ m d (Proc.devRef .tc main_v5) = Wp m d (Proc.devRef .tc main_v5) := by apply W₈_early <;> decide
  have h6 : W₈ m d (Proc.devRef .tc main_v6) = Wp m d (Proc.devRef .tc main_v6) := by apply W₈_early <;> decide
  have h15 : (W₈ m d (Proc.devRef .tc main_v16) : Arr 128) = arr (out1 m d) := (W₈_later m d main_v16 (by decide) (by decide) (by decide)).trans (v15_later m d)
  have h16 : (W₈ m d (Proc.devRef .tc main_v17_1) : Arr 128) = arr fun b p => lin (mat (wq1 m d)) (pt (arr (out1 m d)) b p) :=
    (W₈_later m d main_v17_1 (by decide) (by decide) (by decide)).trans (v16_eq m d)
  unfold attn2 result whole layer
  dsimp only
  rw [h1, h2, h3, h4, h5, h6, h15, h16]
  have e1 : ∀ k : Fin 128, (Wp m d (Proc.devRef .tc main_v1) : S1x128.Idx → EReal) (ix2 0 k) = bp1 m d (ix1 k) := fun k => v1_apply m d k
  have e2 : ∀ k : Fin 128, (Wp m d (Proc.devRef .tc main_v2) : S1x128.Idx → EReal) (ix2 0 k) = bl m d (ix1 k) := fun k => v2_apply m d k
  have e3 : ∀ k : Fin 128, (Wp m d (Proc.devRef .tc main_v3) : S1x128.Idx → EReal) (ix2 0 k) = g0 m d (ix1 k) := fun k => v3_apply m d k
  have e4 : ∀ k : Fin 128, (Wp m d (Proc.devRef .tc main_v4) : S1x128.Idx → EReal) (ix2 0 k) = b0 m d (ix1 k) := fun k => v4_apply m d k
  have e5 : ∀ k : Fin 128, (Wp m d (Proc.devRef .tc main_v5) : S1x128.Idx → EReal) (ix2 0 k) = g1 m d (ix1 k) := fun k => v5_apply m d k
  have e6 : ∀ k : Fin 128, (Wp m d (Proc.devRef .tc main_v6) : S1x128.Idx → EReal) (ix2 0 k) = b1 m d (ix1 k) := fun k => v6_apply m d k
  have e20 : ∀ (j : Fin 16) (k : Fin 128), (W₈ m d (Proc.devRef .tc main_v21) : S16384x16x128.Idx → EReal) (ix3 (num b p) j k)
      = flat (arr (out1 m d)) (nbr (idx2 m d) b p j) k := fun j k => v20_apply m d b p j k
  simp only [e1, e2, e3, e4, e5, e6, e20]
  rw [W₈_arg m d main_arg1 (by decide), W₈_arg m d main_arg12 (by decide), W₈_arg m d main_arg6 (by decide), W₈_arg m d main_arg7 (by decide),
    W₈_arg m d main_arg8 (by decide)]
  rfl

/-- The kernel's result, from the arguments. -/
theorem v22_eq : (W₁₀ m d (Proc.devRef .tc main_v23) : S2048x8x128.Idx → EReal) = fun y => result m d (y 0) (y 1) (y 2) := by
  have e : W₁₀ m d (Proc.devRef .tc main_v23) = transpose S2048x8x128 [1, 0, 2] (W₉ m d (Proc.devRef .tc main_v22) : Arr 128) transposes_S8x2048x128_S2048x8x128_1_0_2 := by
    unfold W₁₀ opsE; after_results
  rw [e, v21_eq]
  funext y
  obtain ⟨p, b, c, rfl⟩ : ∃ (p : Fin 2048) (b : Fin 8) (c : Fin 128), y = ix3 p b c := ⟨y 0, y 1, y 2, ValueIdx.eq_ix3 y⟩
  exact transpose_apply [1, 0, 2] _ _ (ix3 p b c) (ix3 b p c) fun a => by
    match a with
    | ⟨0, _⟩ => rfl
    | ⟨1, _⟩ => rfl
    | ⟨2, _⟩ => rfl

end Cert.Proof.WholeIdeal

end
-- ==== Proof.ForwardGather.lean ====
/-
  The forward reference's row gather, of every cloud's rows at its own positions, read at one element; and the lists of
  positions, which are those of the searches' numbers.
-/
module

public import proofs.«01_k».proof.Proof.Near
public import proofs.«01_k».proof.Proof.RefGather
public import proofs.«01_k».proof.Proof.Gen.ForwardIdeal.Run

@[expose] public section

noncomputable section

namespace Cert.Proof.Forward

open Idealize.ShloMosaic Idealize.ShloMosaic.ValueIdx Cert.Proof.Spec Cert.Proof.Near Cert.Proof.Rank Cert.Proof.Pick Cert.ForwardIdeal Cert.ForwardIdeal.Gen

section Gather
variable {α : Type} {A N B J C w : ℕ}

/-- The gather's dimension numbers: the clouds are batched. -/
abbrev cloudDims (A N B J C : ℕ) (wf : GatherDims.WF ⟨3, ![A, N, C]⟩ ⟨4, ![A, B, J, 1]⟩ ⟨4, ![A, B, J, C]⟩ [3] [1] [0] [1] [0] 3 ![1, 1, C]) :
    GatherDims ⟨3, ![A, N, C]⟩ ⟨4, ![A, B, J, 1]⟩ ⟨4, ![A, B, J, C]⟩ where
  offsetDims := [3]
  collapsedSliceDims := [1]
  operandBatchingDims := [0]
  startIndicesBatchingDims := [0]
  startIndexMap := [1]
  indexVectorDim := 3
  sliceSizes := ![1, 1, C]
  wf := wf

/-- Element `(a, b, j, c)`: of cloud `a` the row that the number at `(a, b, j)` names once it is clamped, at column `c`. -/
theorem cloudGather_apply (hN : 0 < N) (wf : GatherDims.WF ⟨3, ![A, N, C]⟩ ⟨4, ![A, B, J, 1]⟩ ⟨4, ![A, B, J, C]⟩ [3] [1] [0] [1] [0] 3 ![1, 1, C])
    (x : (⟨3, ![A, N, C]⟩ : Shape).Idx → α) (idx : IVec ⟨4, ![A, B, J, 1]⟩ w) (a : Fin A) (b : Fin B) (j : Fin J) (c : Fin C) :
    Host.gather (cloudDims A N B J C wf) x idx (ix4 a b j c) = x (ix3 a ⟨min (idx (ix4 a b j 0)).toInt.toNat (N - 1), by omega⟩ c) := by
  unfold Host.gather
  congr 1
  funext e
  refine Fin.ext ?_
  show (cloudDims A N B J C wf).start (ix4 a b j c) idx e + (cloudDims A N B J C wf).batchCoord (ix4 a b j c) e + (cloudDims A N B J C wf).offCoord (ix4 a b j c) e = _
  match e with
  | ⟨0, _⟩ =>
    show (cloudDims A N B J C wf).start (ix4 a b j c) idx 0 + (cloudDims A N B J C wf).batchCoord (ix4 a b j c) 0 + (cloudDims A N B J C wf).offCoord (ix4 a b j c) 0 = _
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    unfold GatherDims.batchCoord
    rw [dif_pos (List.mem_singleton.mpr rfl)]
    rfl
  | ⟨1, _⟩ =>
    have hb : (cloudDims A N B J C wf).batchCoord (ix4 a b j c) 1 = 0 :=
      GatherDims.batchCoord_eq_zero _ _ _ fun h => absurd (congrArg Fin.val (List.mem_singleton.mp h)) Nat.one_ne_zero
    have ho : (cloudDims A N B J C wf).offCoord (ix4 a b j c) 1 = 0 :=
      GatherDims.offCoord_eq_zero _ _ _ fun h => ((GatherDims.mem_sKept _ _).mp h).1 (List.mem_singleton.mpr rfl)
    show (cloudDims A N B J C wf).start (ix4 a b j c) idx 1 + (cloudDims A N B J C wf).batchCoord (ix4 a b j c) 1 + (cloudDims A N B J C wf).offCoord (ix4 a b j c) 1 = _
    rw [hb, ho]; simp only [Nat.add_zero]
    unfold GatherDims.start
    rw [dif_pos (show (1 : Fin 3) ∈ (cloudDims A N B J C wf).startIndexMap from List.mem_singleton.mpr rfl)]
    have hsi : (cloudDims A N B J C wf).siIdx (ix4 a b j c) ⟨List.idxOf (1 : Fin 3) (cloudDims A N B J C wf).startIndexMap,
        List.idxOf_lt_length_iff.2 (List.mem_singleton.mpr rfl)⟩ = ix4 a b j 0 := by
      funext d; refine Fin.ext ?_
      match d with
      | ⟨0, _⟩ => rfl
      | ⟨1, _⟩ => rfl
      | ⟨2, _⟩ => rfl
      | ⟨3, _⟩ => rfl
    rw [hsi]
    rfl
  | ⟨2, _⟩ =>
    have hb : (cloudDims A N B J C wf).batchCoord (ix4 a b j c) 2 = 0 :=
      GatherDims.batchCoord_eq_zero _ _ _ fun h => absurd (congrArg Fin.val (List.mem_singleton.mp h)) (Nat.succ_ne_zero 1)
    have hs : (cloudDims A N B J C wf).start (ix4 a b j c) idx 2 = 0 := by
      unfold GatherDims.start
      rw [dif_neg (show (2 : Fin 3) ∉ (cloudDims A N B J C wf).startIndexMap from fun h => absurd (congrArg Fin.val (List.mem_singleton.mp h)) (show ¬ (2 : ℕ) = 1 by decide))]
    show (cloudDims A N B J C wf).start (ix4 a b j c) idx 2 + (cloudDims A N B J C wf).batchCoord (ix4 a b j c) 2 + (cloudDims A N B J C wf).offCoord (ix4 a b j c) 2 = _
    rw [hb, hs]; simp only [Nat.zero_add]
    rfl

end Gather

/-- The positions that the gather is given: a negative one turned round, a unit axis last. -/
abbrev turned (l : S8x2048x16.Idx → BitVec 32) : S8x2048x16x1.Idx → BitVec 32 :=
  broadcastInDim S8x2048x16x1 ![0, 1, 2] Facts₀.bcast_S8x2048x16_S8x2048x16x1_0_1_2
    (select (cmpi .slt l (broadcastInDim S8x2048x16 ![] Facts₀.bcast_S_S8x2048x16 (constantI S_ 32 0#32)))
      (addi l (broadcastInDim S8x2048x16 ![] Facts₀.bcast_S_S8x2048x16 (constantI S_ 32 2048#32))) l)

/-- A position that is not negative stays as it is. -/
theorem turned_apply (l : S8x2048x16.Idx → BitVec 32) (b : Fin 8) (p : Fin 2048) (j : Fin 16) (h : ¬ (l (ix3 b p j)).toInt < 0) :
    turned l (ix4 b p j 0) = l (ix3 b p j) := by
  have e : IntOp.cmpi .slt (l (ix3 b p j)) 0#32 = 0#1 := by
    simp only [IntOp.cmpi, BitVec.slt_eq_decide]
    rw [show decide ((l (ix3 b p j)).toInt < (0#32 : BitVec 32).toInt) = false from decide_eq_false h]; rfl
  have pick : ∀ v : BitVec 32, IntOp.cmpi .slt v 0#32 = 0#1 → (if IntOp.cmpi .slt v 0#32 = 1#1 then v + 2048#32 else v) = v := fun v hv =>
    if_neg fun he => absurd (hv.symm.trans he) (by decide)
  refine (broadcastInDim_apply _ _ _ (ix4 b p j 0) (ix3 b p j) fun k => ?_).trans (pick _ e)
  match k with
  | ⟨0, _⟩ => rfl
  | ⟨1, _⟩ => rfl
  | ⟨2, _⟩ => rfl

/-- Row `r` of cloud `b`, counted from the first cloud's first row. -/
theorem flat_of {C : ℕ} (x : Arr C) (b : Fin 8) (r : Fin 2048) (v : BitVec 32) (hv : v.toNat = b.val * 2048 + r.val) (c : Fin C) :
    x (ix3 b r c) = flat x (Fin.ofNat 16384 v.toNat) c := by
  have hb := b.isLt
  have hr := r.isLt
  unfold flat
  refine congrArg x (funext fun d => Fin.ext ?_)
  match d with
  | ⟨0, _⟩ => show b.val = v.toNat % 16384 / 2048; omega
  | ⟨1, _⟩ => show r.val = v.toNat % 16384 % 2048; omega
  | ⟨2, _⟩ => rfl

/-- The gathered rows, of positions in a cloud. -/
theorem gathered_apply {C : ℕ} (wf) (x : Arr C) (l n : S8x2048x16.Idx → BitVec 32)
    (r : Fin 8 → Fin 2048 → Fin 16 → Fin 2048) (hl : ∀ b p j, l (ix3 b p j) = BitVec.ofNat 32 (r b p j).val)
    (hn : ∀ b p j, (n (ix3 b p j)).toNat = b.val * 2048 + (r b p j).val) (b : Fin 8) (p : Fin 2048) (j : Fin 16) (c : Fin C) :
    Host.gather (cloudDims 8 2048 2048 16 C wf) x (turned l) (ix4 b p j c) = flat x (nbr n b p j) c := by
  have hr := (r b p j).isLt
  have ht : (l (ix3 b p j)).toNat = (r b p j).val := by rw [hl, BitVec.toNat_ofNat]; omega
  have hi : (l (ix3 b p j)).toInt = (r b p j).val := by rw [BitVec.toInt_eq_toNat_cond, if_pos (by omega), ht]
  refine (cloudGather_apply (by decide) wf _ _ b p j c).trans (Eq.trans ?_ (flat_of x b (r b p j) (n (ix3 b p j)) (hn b p j) c))
  refine congrArg (fun i => x (ix3 b i c)) (Fin.ext ?_)
  show min (turned l (ix4 b p j 0)).toInt.toNat (2048 - 1) = (r b p j).val
  rw [turned_apply l b p j (by omega), hi]
  omega

/-- The lists of positions, of finite points. -/
theorem positions_apply {K : ℕ} (x : FVec Ideal ⟨3, ![8, 2048, K]⟩ .f32) (hx : ∀ y, ∃ r : ℝ, x y = r) (w) (hr)
    (hr' : (⟨3, ![8, 2048, K]⟩ : Shape).Reduces [2] ⟨2, ![8, 2048]⟩) (hu h₁ h₂ h₃ h₄ h₅ hs) (b : Fin 8) (i : Fin 2048) (t : Fin 16) :
    (Host.topK SL 2 (FloatOps.cmpfTotal (F := Ideal) (φ := .f32) .gt) (Host.negf (Host.sqrt (gaps x w hr hu h₁ h₂ h₃ h₄ h₅))) hs).2 (ix3 b i t)
      = BitVec.ofNat 32 (place (fun k : Fin 2048 => gap (fun c => x (ix3 b i c)) (fun c => x (ix3 b k c))) t.val).val := by
  have hg : ∀ k, gaps x w hr hu h₁ h₂ h₃ h₄ h₅ (ix3 b i k) = _ := fun k => gaps_apply x w hr hr' hu h₁ h₂ h₃ h₄ h₅ b i k
  generalize gaps x w hr hu h₁ h₂ h₃ h₄ h₅ = d at hg
  have h0 : ∀ k, 0 ≤ d (ix3 b i k) := fun k => by rw [hg k]; exact gap_nonneg _ _
  have h1 : ∀ k, d (ix3 b i k) < ⊤ := fun k => by rw [hg k]; exact gap_lt_top (fun c => hx _) (fun c => hx _)
  refine (lists_apply d hs b i h0 h1 t).trans ?_
  rw [show (fun k => d (ix3 b i k)) = _ from funext hg]

end Cert.Proof.Forward

end
-- ==== Proof.Real.lean ====
/-
  The attention layer of real numbers is real: the sums and products are, the softmax's divisor is a positive real, and the
  scale is a real other than zero.
-/
module

public import proofs.«01_k».proof.Proof.Spec

@[expose] public section

noncomputable section

namespace Cert.Proof.Real

open Idealize.ShloMosaic Idealize.ShloMosaic.ValueIdx Cert.Proof.Spec

/-- A number that is neither infinity. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.div {x y : EReal} (hx : IsReal x) {b : ℝ} (hb : b ≠ 0) (hy : y = b) : IsReal (Ideal.div x y) := by
  rw [hy, Ideal.div_coe hb]; exact hx.mul ⟨_, rfl⟩
theorem IsReal.sum {n : ℕ} {f : Fin n → EReal} (hf : ∀ k, IsReal (f k)) : IsReal (∑ k, f k) := by
  induction (Finset.univ : Finset (Fin n)) using Finset.induction_on with
  | empty => exact ⟨0, by simp⟩
  | insert c s hc ih => rw [Finset.sum_insert hc]; exact (hf c).add ih

theorem IsReal.lin {m n : ℕ} {W : Fin m → Fin n → EReal} {x : Fin n → EReal} (hW : ∀ o k, IsReal (W o k)) (hx : ∀ k, IsReal (x k)) (o : Fin m) :
    IsReal (lin W x o) := .sum fun k => (hx k).mul (hW o k)

/-- The scale of the products. -/
theorem scale_eq : Ideal.ofBits .f32 0x413504F3#32 = ((11863283 * (2 : ℝ) ^ (-20 : ℤ) : ℝ) : EReal) := by
  simp [Ideal.ofBits, Ideal.ieee]

theorem bot_eq : Ideal.ofBits .f32 0xFF800000#32 = (⊥ : EReal) := by
  simp [Ideal.ofBits, Ideal.ieee]

section Attend
variable {q : Fin 128 → EReal} {t : Fin 16 → Fin 128 → EReal} {Wk Wv : Fin 128 → Fin 128 → EReal}
  (hq : ∀ k, IsReal (q k)) (ht : ∀ j k, IsReal (t j k)) (hk : ∀ o k, IsReal (Wk o k)) (hv : ∀ o k, IsReal (Wv o k))

include hq ht hk in
theorem logit_real (j : Fin 16) : IsReal (logit q t Wk j) :=
  IsReal.div (.sum fun d => (IsReal.lin hk (ht j) d).mul (hq d)) (by positivity) scale_eq

theorem top_real {l : Fin 16 → EReal} (hl : ∀ j, IsReal (l j)) : IsReal (top l) := by
  have h1 : top l < ⊤ := (Finset.fold_max_lt _).2 ⟨by rw [bot_eq]; exact bot_lt_top, fun j _ => by obtain ⟨r, hr⟩ := hl j; rw [hr]; exact EReal.coe_lt_top r⟩
  have h2 : ⊥ < top l := (Finset.lt_fold_max _).2 (Or.inr ⟨0, Finset.mem_univ _, by obtain ⟨r, hr⟩ := hl 0; rw [hr]; exact EReal.bot_lt_coe r⟩)
  exact ⟨(top l).toReal, (EReal.coe_toReal h1.ne h2.ne').symm⟩

theorem weight_real {l : Fin 16 → EReal} (hl : ∀ j, IsReal (l j)) (j : Fin 16) : IsReal (weight l j) := by
  obtain ⟨m, hm⟩ := top_real hl
  choose f hf using hl
  have he : ∀ i, Ideal.exp (l i - top l) = ((Real.exp (f i - m) : ℝ) : EReal) := fun i => by
    rw [hm, hf i, ← EReal.coe_sub]; rfl
  have hs : (∑ i, Ideal.exp (l i - top l)) = ((∑ i, Real.exp (f i - m) : ℝ) : EReal) := by
    simp only [he]
    induction (Finset.univ : Finset (Fin 16)) using Finset.induction_on with
    | empty => simp
    | insert c s hc ih => rw [Finset.sum_insert hc, Finset.sum_insert hc, ih, EReal.coe_add]
  exact IsReal.div ⟨_, he j⟩ (Finset.sum_pos (fun i _ => Real.exp_pos _) ⟨0, Finset.mem_univ _⟩).ne' hs

include hq ht hk hv in
theorem attend_real (c : Fin 128) : IsReal (attend q t Wk Wv c) :=
  .sum fun j => (IsReal.lin hv (ht j) c).mul (weight_real (logit_real hq ht hk) j)

end Attend

theorem token_real {n : ℕ} {W : Fin 128 → Fin n → EReal} {b : Fin 128 → EReal} {own nb : Fin n → EReal} {f : Fin 128 → EReal}
    (hW : ∀ o k, IsReal (W o k)) (hb : ∀ k, IsReal (b k)) (ho : ∀ k, IsReal (own k)) (hn : ∀ k, IsReal (nb k)) (hf : ∀ k, IsReal (f k)) (c : Fin 128) :
    IsReal (token W b own nb f c) :=
  ((IsReal.lin hW (fun k => (ho k).sub (hn k)) c).add (hb c)).add (hf c)

/-- An attention layer of real arrays is real. -/
theorem layer_real {n : ℕ} {own : Arr n} {x : Arr 128} {Wq Wk Wv : (⟨2, ![128, 128]⟩ : Shape).Idx → EReal} {Wp : (⟨2, ![128, n]⟩ : Shape).Idx → EReal}
    {bp : (⟨1, ![128]⟩ : Shape).Idx → EReal} (idx : (⟨3, ![8, 2048, 16]⟩ : Shape).Idx → BitVec 32)
    (ho : ∀ y, IsReal (own y)) (hx : ∀ y, IsReal (x y)) (hq : ∀ y, IsReal (Wq y)) (hk : ∀ y, IsReal (Wk y)) (hv : ∀ y, IsReal (Wv y))
    (hp : ∀ y, IsReal (Wp y)) (hb : ∀ y, IsReal (bp y)) (b : Fin 8) (p : Fin 2048) (c : Fin 128) :
    IsReal (layer own x Wq Wk Wv Wp bp idx b p c) :=
  attend_real (IsReal.lin (fun _ _ => hq _) fun _ => hx _)
    (fun _ => token_real (fun _ _ => hp _) (fun _ => hb _) (fun _ => ho _) (fun _ => ho _) fun _ => hx _) (fun _ _ => hk _) (fun _ _ => hv _) c

end Cert.Proof.Real

end
-- ==== Proof.ForwardValue.lean ====
/-
  What the forward reference computes from finite points: its lists are the numbers of the two searches, and its layers and its
  closing block are the specification's of these lists.
-/
module

public import proofs.«01_k».proof.Proof.ForwardGather
public import proofs.«01_k».proof.Proof.RefBlocks
public import proofs.«01_k».proof.Proof.Real
public import proofs.«01_k».proof.Proof.ArraySearchA
public import proofs.«01_k».proof.Proof.ArraySearchB
public import proofs.«01_k».proof.Proof.WholeArraySearch

@[expose] public section

noncomputable section

namespace Cert.Proof.Forward

open Idealize.ShloMosaic hiding ix1 ix2 ix3 ix4 ix5 eq_ix1 eq_ix2 eq_ix3 eq_ix4 addf_apply subf_apply mulf_apply maximumf_apply
open Idealize.ShloMosaic.TcCoe Idealize.ShloMosaic.ValueIdx Cert.Proof.Spec Cert.Proof.Reference Cert.Proof.Near Cert.Proof.Rank Cert.Proof.Pick
open Cert.Proof.Real Cert.ForwardIdeal Cert.ForwardIdeal.Gen Cert.ForwardIdeal.Value

variable (V : Valuation τ sig (Elt Ideal))

/-! ## The arguments -/

abbrev src : Arr 3 := V (Proc.devRef .tc main_arg0)
abbrev tgt : Arr 128 := V (Proc.devRef .tc main_arg1)
abbrev wq0 : S128x128.Idx → EReal := V (Proc.devRef .tc main_arg2)
abbrev wk0 : S128x128.Idx → EReal := V (Proc.devRef .tc main_arg3)
abbrev wv0 : S128x128.Idx → EReal := V (Proc.devRef .tc main_arg4)
abbrev wq1 : S128x128.Idx → EReal := V (Proc.devRef .tc main_arg5)
abbrev wk1 : S128x128.Idx → EReal := V (Proc.devRef .tc main_arg6)
abbrev wv1 : S128x128.Idx → EReal := V (Proc.devRef .tc main_arg7)
abbrev wl : S128x128.Idx → EReal := V (Proc.devRef .tc main_arg8)
abbrev bl : S128.Idx → EReal := V (Proc.devRef .tc main_arg9)
abbrev wp0 : S128x3.Idx → EReal := V (Proc.devRef .tc main_arg10)
abbrev bp0 : S128.Idx → EReal := V (Proc.devRef .tc main_arg11)
abbrev wp1 : S128x128.Idx → EReal := V (Proc.devRef .tc main_arg12)
abbrev bp1 : S128.Idx → EReal := V (Proc.devRef .tc main_arg13)
abbrev g0 : S128.Idx → EReal := V (Proc.devRef .tc main_arg14)
abbrev b0 : S128.Idx → EReal := V (Proc.devRef .tc main_arg15)
abbrev g1 : S128.Idx → EReal := V (Proc.devRef .tc main_arg16)
abbrev b1 : S128.Idx → EReal := V (Proc.devRef .tc main_arg17)

/-- The first layer's lists. -/
abbrev idx1 : S8x2048x16.Idx → BitVec 32 := SearchA.nearest (src V)
/-- The first layer's result. -/
abbrev first : Arr 128 := arr (layer (src V) (tgt V) (wq0 V) (wk0 V) (wv0 V) (wp0 V) (bp0 V) (idx1 V))
/-- The second layer's lists. -/
abbrev idx2 : S8x2048x16.Idx → BitVec 32 := SearchB.nearest (first V)

variable {V}

/-- The arguments that the lists depend on are finite. -/
structure Finite (V : Valuation τ sig (Elt Ideal)) : Prop where
  src : ∀ y, IsReal (Forward.src V y)
  tgt : ∀ y, IsReal (Forward.tgt V y)
  wq0 : ∀ y, IsReal (Forward.wq0 V y)
  wk0 : ∀ y, IsReal (Forward.wk0 V y)
  wv0 : ∀ y, IsReal (Forward.wv0 V y)
  wp0 : ∀ y, IsReal (Forward.wp0 V y)
  bp0 : ∀ y, IsReal (Forward.bp0 V y)

variable (hV : Finite V)

include hV in
theorem first_real (y : S8x2048x128.Idx) : IsReal (first V y) :=
  layer_real _ hV.src hV.tgt hV.wq0 hV.wk0 hV.wv0 hV.wp0 hV.bp0 _ _ _

/-! ## The lists -/

/-- A place in a list of the first layer. -/
abbrev at1 (V : Valuation τ sig (Elt Ideal)) (b : Fin 8) (p : Fin 2048) (j : Fin 16) : Fin 2048 :=
  place (fun k : Fin 2048 => gap (fun c : Fin 3 => src V (ix3 b p c)) (fun c : Fin 3 => src V (ix3 b k c))) j.val
/-- A place in a list of the second layer. -/
abbrev at2 (V : Valuation τ sig (Elt Ideal)) (b : Fin 8) (p : Fin 2048) (j : Fin 16) : Fin 2048 :=
  place (fun k : Fin 2048 => gap (fun c : Fin 128 => first V (ix3 b p c)) (fun c : Fin 128 => first V (ix3 b k c))) j.val

theorem idx1_toNat (b : Fin 8) (p : Fin 2048) (j : Fin 16) : (idx1 V (ix3 b p j)).toNat = b.val * 2048 + (at1 V b p j).val :=
  WholeIdeal.entry_lt (at1 V b p j) b
theorem idx2_toNat (b : Fin 8) (p : Fin 2048) (j : Fin 16) : (idx2 V (ix3 b p j)).toNat = b.val * 2048 + (at2 V b p j).val :=
  WholeIdeal.entry_lt (at2 V b p j) b

include hV in
theorem indices_apply (b : Fin 8) (p : Fin 2048) (j : Fin 16) :
    (res_main_indices V : S8x2048x16.Idx → BitVec 32) (ix3 b p j) = BitVec.ofNat 32 (at1 V b p j).val :=
  positions_apply (src V) hV.src _ _ (by decide) _ _ _ _ _ _ _ b p j

include hV in
theorem gather3_apply (b : Fin 8) (p : Fin 2048) (j : Fin 16) (c : Fin 3) :
    Host.gather gather_S8x2048x3_S8x2048x16x1_S8x2048x16x3_3_1_0_0_1_3_113 (src V) (turned (res_main_indices V)) (ix4 b p j c)
      = flat (src V) (nbr (idx1 V) b p j) c := gathered_apply _ _ _ _ (at1 V) (indices_apply hV) idx1_toNat b p j c

include hV in
theorem gather128_apply (x : Arr 128) (b : Fin 8) (p : Fin 2048) (j : Fin 16) (c : Fin 128) :
    Host.gather gather_S8x2048x128_S8x2048x16x1_S8x2048x16x128_3_1_0_0_1_3_11128 x (turned (res_main_indices V)) (ix4 b p j c)
      = flat x (nbr (idx1 V) b p j) c := gathered_apply _ _ _ _ (at1 V) (indices_apply hV) idx1_toNat b p j c

/-! ## The first layer -/

include hV in
/-- The first layer's tokens. -/
theorem v37_apply (b : Fin 8) (p : Fin 2048) (j : Fin 16) (c : Fin 128) :
    (res_main_v37 V : S8x2048x16x128.Idx → EReal) (ix4 b p j c)
      = token (mat (wp0 V)) (vec (bp0 V)) (pt (src V) b p) (flat (src V) (nbr (idx1 V) b p j)) (flat (tgt V) (nbr (idx1 V) b p j)) c := by
  unfold token
  refine (addf_apply _ _ _).trans (congrArg₂ (· + ·) ((addf_apply _ _ _).trans (congrArg₂ (· + ·) ((lin4_apply _ _ _ _ b p j c).trans ?_) (bias4_apply _ _ _ b p j c)))
    (gather128_apply hV (tgt V) b p j c))
  congr 1; funext k
  exact (subf_apply _ _ _).trans (congrArg₂ (· - ·) (own_apply (src V) _ _ b p j k) (gather3_apply hV b p j k))

include hV in
/-- The first layer's result. -/
theorem v59_eq : (res_main_v59 V : S8x2048x128.Idx → EReal) = first V := by
  funext y
  rw [eq_ix3 y]
  refine (attendR_apply (res_main_v37 V) (tgt V) (wk0 V) (wq0 V) (wv0 V) (y 0) (y 1) (y 2)).trans ?_
  show _ = layer (src V) (tgt V) (wq0 V) (wk0 V) (wv0 V) (wp0 V) (bp0 V) (idx1 V) (y 0) (y 1) (y 2)
  unfold layer
  congr 1
  funext j k
  exact v37_apply hV (y 0) (y 1) j k

/-! ## The second layer -/

include hV in
theorem indices13_apply (b : Fin 8) (p : Fin 2048) (j : Fin 16) :
    (res_main_indices_13 V : S8x2048x16.Idx → BitVec 32) (ix3 b p j) = BitVec.ofNat 32 (at2 V b p j).val := by
  have e := v59_eq hV
  refine (positions_apply (res_main_v59 V) (fun y => by rw [e]; exact first_real hV y) _ _ (by decide) _ _ _ _ _ _ _ b p j).trans ?_
  rw [e]

include hV in
theorem v81_apply (b : Fin 8) (p : Fin 2048) (j : Fin 16) (c : Fin 128) :
    (res_main_v81 V : S8x2048x16x128.Idx → EReal) (ix4 b p j c) = flat (first V) (nbr (idx2 V) b p j) c :=
  (gathered_apply (C := 128) _ (res_main_v59 V) (res_main_indices_13 V) (idx2 V) (at2 V) (indices13_apply hV) idx2_toNat b p j c).trans
    (congrArg (flat · _ c) (v59_eq hV))

include hV in
/-- The second layer's tokens. -/
theorem v90_apply (b : Fin 8) (p : Fin 2048) (j : Fin 16) (c : Fin 128) :
    (res_main_v90 V : S8x2048x16x128.Idx → EReal) (ix4 b p j c)
      = token (mat (wp1 V)) (vec (bp1 V)) (pt (first V) b p) (flat (first V) (nbr (idx2 V) b p j)) (flat (first V) (nbr (idx2 V) b p j)) c := by
  unfold token
  refine (addf_apply _ _ _).trans (congrArg₂ (· + ·) ((addf_apply _ _ _).trans (congrArg₂ (· + ·) ((lin4_apply _ _ _ _ b p j c).trans ?_) (bias4_apply _ _ _ b p j c)))
    (v81_apply hV b p j c))
  congr 1; funext k
  exact (subf_apply _ _ _).trans (congrArg₂ (· - ·) ((own_apply (res_main_v59 V) _ _ b p j k).trans (congrFun (v59_eq hV) _)) (v81_apply hV b p j k))

include hV in
/-- The features and the second layer's result, added. -/
theorem v113_apply (b : Fin 8) (p : Fin 2048) (c : Fin 128) :
    (res_main_v113 V : S8x2048x128.Idx → EReal) (ix3 b p c)
      = pt (tgt V) b p c + layer (first V) (first V) (wq1 V) (wk1 V) (wv1 V) (wp1 V) (bp1 V) (idx2 V) b p c := by
  refine (addf_apply _ _ _).trans (congrArg (pt (tgt V) b p c + ·) ?_)
  refine (attendR_apply (res_main_v90 V) (res_main_v59 V) (wk1 V) (wq1 V) (wv1 V) b p c).trans ?_
  unfold layer
  congr 1
  · rw [v59_eq hV]
  · funext j k
    exact v90_apply hV b p j k

/-! ## The closing block -/

include hV in
/-- The linear layer and its residual. -/
theorem v137_apply (b : Fin 8) (p : Fin 2048) (c : Fin 128) :
    (res_main_v137 V : S8x2048x128.Idx → EReal) (ix3 b p c)
      = pt (tgt V) b p c + (lin (mat (wl V)) (Spec.norm (vec (g0 V)) (vec (b0 V)) fun k => pt (tgt V) b p k
          + layer (first V) (first V) (wq1 V) (wk1 V) (wv1 V) (wp1 V) (bp1 V) (idx2 V) b p k) c + vec (bl V) c) := by
  refine (linearR_apply (tgt V) (normR (res_main_v113 V) (g0 V) (b0 V)) (wl V) (bl V) b p c).trans ?_
  congr 3
  funext k
  refine (normR_apply (res_main_v113 V) (g0 V) (b0 V) b p k).trans ?_
  congr 1
  funext i
  exact v113_apply hV b p i

include hV in
/-- The reference's result. -/
theorem result_eq : transpose S2048x8x128 [1, 0, 2] (normR (res_main_v137 V) (g1 V) (b1 V)) transposes_S8x2048x128_S2048x8x128_1_0_2
    = fun y => whole (src V) (tgt V) (wq0 V) (wk0 V) (wv0 V) (wq1 V) (wk1 V) (wv1 V) (wl V) (bl V) (wp0 V) (bp0 V) (wp1 V) (bp1 V)
        (g0 V) (b0 V) (g1 V) (b1 V) (idx1 V) (idx2 V) (y 0) (y 1) (y 2) := by
  funext y
  refine (transpose_apply _ _ _ y (ix3 (y 1) (y 0) (y 2)) fun d => ?_).trans ((normR_apply (res_main_v137 V) (g1 V) (b1 V) (y 1) (y 0) (y 2)).trans ?_)
  · match d with
    | ⟨0, _⟩ => rfl
    | ⟨1, _⟩ => rfl
    | ⟨2, _⟩ => rfl
  · unfold whole close
    congr 1
    funext k
    exact v137_apply hV (y 1) (y 0) k

end Cert.Proof.Forward

end
-- ==== Proof.WholeClaims.lean ====
/-
  The whole kernel and the forward reference, over the extended reals: both end with the two attention layers and the closing
  block, of the lists that they find themselves.
-/
module

public import proofs.«01_k».proof.Defs
public import proofs.«01_k».proof.Proof.Gen.Pre_finite
public import proofs.«01_k».proof.Proof.Searches
public import proofs.«01_k».proof.Proof.WholeContents
public import proofs.«01_k».proof.Proof.ForwardValue
public import Idealize.ShloMosaic.Lib.ReduceAll
public import Idealize.ShloMosaic.Adequacy
public import Idealize.ShloMosaic.Init

@[expose] public section

noncomputable section

namespace Cert.Proof

open Idealize.ShloMosaic Idealize.SL.Sem Cert.Proof.Real

theorem both {x y : BitVec 1} (h : IntOp.andi x y = 1#1) : x = 1#1 ∧ y = 1#1 := by
  revert x y; decide

instance : Subsingleton Cert.Pre_finite.S_.Idx := ⟨fun _ _ => funext fun k => k.elim0⟩

/-- The precondition says that every number of the seven arrays that the lists depend on is a real. -/
theorem finite_of (x0 : FVec Ideal Cert.Pre_finite.S8x2048x3 .f32) (x1 : FVec Ideal Cert.Pre_finite.S8x2048x128 .f32) (x2 : FVec Ideal Cert.Pre_finite.S128x128 .f32) (x3 : FVec Ideal Cert.Pre_finite.S128x128 .f32) (x4 : FVec Ideal Cert.Pre_finite.S128x128 .f32) (x5 : FVec Ideal Cert.Pre_finite.S128x128 .f32) (x6 : FVec Ideal Cert.Pre_finite.S128x128 .f32) (x7 : FVec Ideal Cert.Pre_finite.S128x128 .f32) (x8 : FVec Ideal Cert.Pre_finite.S128x128 .f32) (x9 : FVec Ideal Cert.Pre_finite.S128 .f32) (x10 : FVec Ideal Cert.Pre_finite.S128x3 .f32) (x11 : FVec Ideal Cert.Pre_finite.S128 .f32) (x12 : FVec Ideal Cert.Pre_finite.S128x128 .f32) (x13 : FVec Ideal Cert.Pre_finite.S128 .f32) (x14 : FVec Ideal Cert.Pre_finite.S128 .f32) (x15 : FVec Ideal Cert.Pre_finite.S128 .f32) (x16 : FVec Ideal Cert.Pre_finite.S128 .f32) (x17 : FVec Ideal Cert.Pre_finite.S128 .f32)
    (h : Cert.Pre_finite.fn (F := Ideal) x0 x1 x2 x3 x4 x5 x6 x7 x8 x9 x10 x11 x12 x13 x14 x15 x16 x17 = fun _ => 1#1) :
    (∀ y, IsReal (x0 y))
      ∧ (∀ y, IsReal (x1 y))
      ∧ (∀ y, IsReal (x2 y))
      ∧ (∀ y, IsReal (x3 y))
      ∧ (∀ y, IsReal (x4 y))
      ∧ (∀ y, IsReal (x10 y))
      ∧ (∀ y, IsReal (x11 y)) := by
  replace h := congrFun h ValueIdx.ix0
  obtain ⟨h, k11⟩ := both h
  obtain ⟨h, k10⟩ := both h
  obtain ⟨h, k4⟩ := both h
  obtain ⟨h, k3⟩ := both h
  obtain ⟨h, k2⟩ := both h
  obtain ⟨h, k1⟩ := both h
  exact ⟨fun y => real_of_bit (Host.reduce_andi_all _ _ _ _ _ h y), fun y => real_of_bit (Host.reduce_andi_all _ _ _ _ _ k1 y), fun y => real_of_bit (Host.reduce_andi_all _ _ _ _ _ k2 y), fun y => real_of_bit (Host.reduce_andi_all _ _ _ _ _ k3 y), fun y => real_of_bit (Host.reduce_andi_all _ _ _ _ _ k4 y), fun y => real_of_bit (Host.reduce_andi_all _ _ _ _ _ k10 y), fun y => real_of_bit (Host.reduce_andi_all _ _ _ _ _ k11 y)⟩

/-- The whole kernel over the extended reals ends, nothing faulting, with its arguments unchanged and every counter at zero. -/
theorem frameWholeIdeal : Cert.quiescent_WholeIdeal := fun m ρ _ =>
  (θ_run Cert.WholeIdeal.defs _ _).mono (fun _ h => ⟨fun c => ⟨(h.1 c).1 Cert.WholeIdeal.main_arg0 (by decide),
      (h.1 c).1 Cert.WholeIdeal.main_arg1 (by decide),
      (h.1 c).1 Cert.WholeIdeal.main_arg2 (by decide),
      (h.1 c).1 Cert.WholeIdeal.main_arg3 (by decide),
      (h.1 c).1 Cert.WholeIdeal.main_arg4 (by decide),
      (h.1 c).1 Cert.WholeIdeal.main_arg5 (by decide),
      (h.1 c).1 Cert.WholeIdeal.main_arg6 (by decide),
      (h.1 c).1 Cert.WholeIdeal.main_arg7 (by decide),
      (h.1 c).1 Cert.WholeIdeal.main_arg8 (by decide),
      (h.1 c).1 Cert.WholeIdeal.main_arg9 (by decide),
      (h.1 c).1 Cert.WholeIdeal.main_arg10 (by decide),
      (h.1 c).1 Cert.WholeIdeal.main_arg11 (by decide),
      (h.1 c).1 Cert.WholeIdeal.main_arg12 (by decide),
      (h.1 c).1 Cert.WholeIdeal.main_arg13 (by decide),
      (h.1 c).1 Cert.WholeIdeal.main_arg14 (by decide),
      (h.1 c).1 Cert.WholeIdeal.main_arg15 (by decide),
      (h.1 c).1 Cert.WholeIdeal.main_arg16 (by decide),
      (h.1 c).1 Cert.WholeIdeal.main_arg17 (by decide)⟩, h.2⟩)
    (WholeIdeal.run_main (F := Ideal) m ρ (WholeIdeal.ix_ok m) (WholeIdeal.iy_ok m))
theorem frameWholeIdealFinite : Cert.quiescent_WholeIdeal_pre_finite := fun m ρ _ => frameWholeIdeal m ρ trivial

/-- The same of the forward reference. -/
theorem frameForwardIdeal : Cert.quiescent_ForwardIdeal := fun m ρ _ =>
  (θ_run Cert.ForwardIdeal.defs _ _).mono (fun r h => ⟨fun c => (h c).2, sem_eq_zero_of_no_sems (by decide) r.2⟩)
    (Cert.ForwardIdeal.Value.run (F := Ideal) m ρ)
theorem frameForwardIdealFinite : Cert.quiescent_ForwardIdeal_pre_finite := fun m ρ _ => frameForwardIdeal m ρ trivial

/-- Of finite arguments both programs end with the two attention layers and the closing block, of the nearest points' lists. -/
theorem algebraicWhole : Cert.algebraic_WholeIdeal_ForwardIdeal_pre_finite := by
  intro m ρ m' ρ' hpre hargs
  refine ⟨fun d => fun y => WholeIdeal.result m d (y 0) (y 1) (y 2),
    (θ_run Cert.WholeIdeal.defs _ _).mono (fun _ h => fun c => ⟨(h.1 c).2.trans (WholeIdeal.v22_eq m c),
      (h.1 c).1 Cert.WholeIdeal.main_arg0 (by decide),
      (h.1 c).1 Cert.WholeIdeal.main_arg1 (by decide),
      (h.1 c).1 Cert.WholeIdeal.main_arg2 (by decide),
      (h.1 c).1 Cert.WholeIdeal.main_arg3 (by decide),
      (h.1 c).1 Cert.WholeIdeal.main_arg4 (by decide),
      (h.1 c).1 Cert.WholeIdeal.main_arg5 (by decide),
      (h.1 c).1 Cert.WholeIdeal.main_arg6 (by decide),
      (h.1 c).1 Cert.WholeIdeal.main_arg7 (by decide),
      (h.1 c).1 Cert.WholeIdeal.main_arg8 (by decide),
      (h.1 c).1 Cert.WholeIdeal.main_arg9 (by decide),
      (h.1 c).1 Cert.WholeIdeal.main_arg10 (by decide),
      (h.1 c).1 Cert.WholeIdeal.main_arg11 (by decide),
      (h.1 c).1 Cert.WholeIdeal.main_arg12 (by decide),
      (h.1 c).1 Cert.WholeIdeal.main_arg13 (by decide),
      (h.1 c).1 Cert.WholeIdeal.main_arg14 (by decide),
      (h.1 c).1 Cert.WholeIdeal.main_arg15 (by decide),
      (h.1 c).1 Cert.WholeIdeal.main_arg16 (by decide),
      (h.1 c).1 Cert.WholeIdeal.main_arg17 (by decide)⟩)
      (WholeIdeal.run_main (F := Ideal) m ρ (WholeIdeal.ix_ok m) (WholeIdeal.iy_ok m)),
    (θ_run Cert.ForwardIdeal.defs _ _).mono (fun _ h c => ⟨(h c).1.trans ?_, (h c).2⟩)
      (Cert.ForwardIdeal.Value.run (F := Ideal) m' ρ')⟩
  obtain ⟨h0, h1, h2, h3, h4, h5, h6, h7, h8, h9, h10, h11, h12, h13, h14, h15, h16, h17⟩ := hargs c
  obtain ⟨f0, f1, f2, f3, f4, f10, f11⟩ := finite_of _ _ _ _ _ _ _ _ _ _ _ _ _ _ _ _ _ _ (hpre c)
  have hV : Forward.Finite (StableHlo.launchContents m' c) :=
    ⟨fun y => (congrArg IsReal (congrFun h0 y)).mpr (f0 y), fun y => (congrArg IsReal (congrFun h1 y)).mpr (f1 y),
      fun y => (congrArg IsReal (congrFun h2 y)).mpr (f2 y), fun y => (congrArg IsReal (congrFun h3 y)).mpr (f3 y),
      fun y => (congrArg IsReal (congrFun h4 y)).mpr (f4 y), fun y => (congrArg IsReal (congrFun h10 y)).mpr (f10 y),
      fun y => (congrArg IsReal (congrFun h11 y)).mpr (f11 y)⟩
  replace h0 : Forward.src (StableHlo.launchContents m' c) = WholeIdeal.src m c := h0
  replace h1 : Forward.tgt (StableHlo.launchContents m' c) = WholeIdeal.tgt m c := h1
  replace h2 : Forward.wq0 (StableHlo.launchContents m' c) = WholeIdeal.wq0 m c := h2
  replace h3 : Forward.wk0 (StableHlo.launchContents m' c) = WholeIdeal.wk0 m c := h3
  replace h4 : Forward.wv0 (StableHlo.launchContents m' c) = WholeIdeal.wv0 m c := h4
  replace h5 : Forward.wq1 (StableHlo.launchContents m' c) = WholeIdeal.wq1 m c := h5
  replace h6 : Forward.wk1 (StableHlo.launchContents m' c) = WholeIdeal.wk1 m c := h6
  replace h7 : Forward.wv1 (StableHlo.launchContents m' c) = WholeIdeal.wv1 m c := h7
  replace h8 : Forward.wl (StableHlo.launchContents m' c) = WholeIdeal.wl m c := h8
  replace h9 : Forward.bl (StableHlo.launchContents m' c) = WholeIdeal.bl m c := h9
  replace h10 : Forward.wp0 (StableHlo.launchContents m' c) = WholeIdeal.wp0 m c := h10
  replace h11 : Forward.bp0 (StableHlo.launchContents m' c) = WholeIdeal.bp0 m c := h11
  replace h12 : Forward.wp1 (StableHlo.launchContents m' c) = WholeIdeal.wp1 m c := h12
  replace h13 : Forward.bp1 (StableHlo.launchContents m' c) = WholeIdeal.bp1 m c := h13
  replace h14 : Forward.g0 (StableHlo.launchContents m' c) = WholeIdeal.g0 m c := h14
  replace h15 : Forward.b0 (StableHlo.launchContents m' c) = WholeIdeal.b0 m c := h15
  replace h16 : Forward.g1 (StableHlo.launchContents m' c) = WholeIdeal.g1 m c := h16
  replace h17 : Forward.b1 (StableHlo.launchContents m' c) = WholeIdeal.b1 m c := h17
  refine (Forward.result_eq hV).trans ?_
  funext y
  unfold WholeIdeal.result Forward.idx2 Forward.first Forward.idx1
  rw [h0, h1, h2, h3, h4, h5, h6, h7, h8, h9, h10, h11, h12, h13, h14, h15, h16, h17]

end Cert.Proof

end
-- ==== Proof.lean ====
/-
  The claims, proved: of the kernel over given neighbour lists and of its two searches the three frames, `preserves` and
  `algebraic`; of the whole kernel over the extended reals the frames and `algebraic`.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_rows
public import proofs.«01_k».proof.Proof.Gen.Pre_finite1
public import proofs.«01_k».proof.Proof.Gen.Pre_finite2
public import proofs.«01_k».proof.Proof.Gen.Pre_finite
public import proofs.«01_k».proof.Proof.Gen.WholeIdeal
public import proofs.«01_k».proof.Proof.Gen.WholeIdeal.Launch
public import proofs.«01_k».proof.Proof.Gen.WholeIdeal.Skeleton
public import proofs.«01_k».proof.Proof.Gen.WholeIdeal.Points
public import proofs.«01_k».proof.Proof.Gen.ForwardIdeal
public import proofs.«01_k».proof.Proof.Gen.ForwardIdeal.Run
public import proofs.«01_k».proof.Proof.Gen.SearchA
public import proofs.«01_k».proof.Proof.Gen.SearchA.Frame
public import proofs.«01_k».proof.Proof.Gen.SearchAIdeal
public import proofs.«01_k».proof.Proof.Gen.SearchAIdeal.Frame
public import proofs.«01_k».proof.Proof.Gen.NearestAIdeal
public import proofs.«01_k».proof.Proof.Gen.NearestAIdeal.Run
public import proofs.«01_k».proof.Proof.Gen.SearchB
public import proofs.«01_k».proof.Proof.Gen.SearchB.Frame
public import proofs.«01_k».proof.Proof.Gen.SearchBIdeal
public import proofs.«01_k».proof.Proof.Gen.SearchBIdeal.Frame
public import proofs.«01_k».proof.Proof.Gen.NearestBIdeal
public import proofs.«01_k».proof.Proof.Gen.NearestBIdeal.Run
public import proofs.«01_k».proof.Proof.Lists
public import proofs.«01_k».proof.Proof.Same
public import proofs.«01_k».proof.Proof.Contents
public import proofs.«01_k».proof.Proof.RefValue
public import proofs.«01_k».proof.Proof.Searches
public import proofs.«01_k».proof.Proof.WholeClaims
public import Idealize.ShloMosaic.Adequacy
public import Idealize.ShloMosaic.Init

@[expose] public section

noncomputable section

namespace Cert.Proof

open Idealize.ShloMosaic Idealize.SL.Sem Cert.Kernel

/-- At every type of floats, if the lists hold row numbers, the kernel ends, nothing faulting, with the result of the
    chain of its calls, its arguments unchanged and every counter at zero. -/
theorem ends {F : FTy → Type} [FloatOps F] [∀ e, Nonempty (Elt F e)] (m : (ℓ : Loc nD τ sig) → Buf (Elt F) ℓ) (ρ : Dev nD → PrngReg)
    (hl : Kernel.ListsOk m) :
    θ_run (defs (F := F)) (threads (F := F)) ⟨m, fun _ => 0, ρ⟩ (fun r => (∀ c : Dev nD,
      r.2.mem ((c.tc : Thread nD τ).loc main_v22) = Kernel.W₁₀ m c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19))
      ∧ r.2.sem = fun _ => 0) :=
  (θ_run defs _ _).mono (fun _ h => ⟨fun c => ⟨(h.1 c).2, (h.1 c).1 main_arg0 (by decide),
      (h.1 c).1 main_arg1 (by decide),
      (h.1 c).1 main_arg2 (by decide),
      (h.1 c).1 main_arg3 (by decide),
      (h.1 c).1 main_arg4 (by decide),
      (h.1 c).1 main_arg5 (by decide),
      (h.1 c).1 main_arg6 (by decide),
      (h.1 c).1 main_arg7 (by decide),
      (h.1 c).1 main_arg8 (by decide),
      (h.1 c).1 main_arg9 (by decide),
      (h.1 c).1 main_arg10 (by decide),
      (h.1 c).1 main_arg11 (by decide),
      (h.1 c).1 main_arg12 (by decide),
      (h.1 c).1 main_arg13 (by decide),
      (h.1 c).1 main_arg14 (by decide),
      (h.1 c).1 main_arg15 (by decide),
      (h.1 c).1 main_arg16 (by decide),
      (h.1 c).1 main_arg17 (by decide),
      (h.1 c).1 main_arg18 (by decide),
      (h.1 c).1 main_arg19 (by decide)⟩, h.2⟩)
    (Kernel.run_main m ρ (Kernel.ix_ok m hl) (Kernel.iy_ok m hl))

/-- The kernel ends, nothing faulting, with its arguments unchanged and every counter at zero. -/
theorem frameKernel : Cert.quiescent_Kernel := fun m ρ hpre =>
  (θ_run Cert.Kernel.defs _ _).mono (fun _ h => ⟨fun c => (h.1 c).2, h.2⟩) (ends m ρ (Kernel.args_ok m hpre))

set_option maxHeartbeats 2000000 in
/-- The same of the kernel over the extended reals. -/
theorem frameKernelIdeal : Cert.quiescent_KernelIdeal := fun m ρ hpre =>
  Same.run_of ((θ_run Cert.Kernel.defs _ _).mono (fun _ h => ⟨fun c => (h.1 c).2, h.2⟩) (ends (F := Ideal) m ρ (Kernel.args_ok_ideal m hpre)))

/-- The same of the reference. -/
theorem frameReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

set_option maxHeartbeats 2000000 in
/-- Both programs end with the two attention layers and the closing block of the arguments. -/
theorem algebraic : Cert.algebraic_KernelIdeal_ReferenceIdeal := by
  intro m ρ m' ρ' hpre hargs
  refine ⟨fun d => fun y => Kernel.result m d (y 0) (y 1) (y 2),
    Same.run_of ((θ_run Cert.Kernel.defs _ _).mono (fun _ h => fun c => ⟨(h.1 c).1.trans (Kernel.v22_eq m c), (h.1 c).2⟩)
      (ends (F := Ideal) m ρ (Kernel.args_ok_ideal m hpre))),
    (θ_run Cert.ReferenceIdeal.defs _ _).mono (fun _ h c => ⟨(h c).1.trans ?_, (h c).2⟩)
      (Cert.ReferenceIdeal.Value.run (F := Ideal) m' ρ')⟩
  obtain ⟨h0, h1, h2, h3, h4, h5, h6, h7, h8, h9, h10, h11, h12, h13, h14, h15, h16, h17, h18, h19⟩ := hargs c
  have k18 : ∀ y, (Reference.idx1 (StableHlo.launchContents m' c) y).toNat < 16384 := fun y => by
    rw [show Reference.idx1 (StableHlo.launchContents m' c) = _ from h18]; exact (Kernel.args_ok_ideal m hpre c y).1
  have k19 : ∀ y, (Reference.idx2 (StableHlo.launchContents m' c) y).toNat < 16384 := fun y => by
    rw [show Reference.idx2 (StableHlo.launchContents m' c) = _ from h19]; exact (Kernel.args_ok_ideal m hpre c y).2
  refine (Reference.result_eq k18 k19).trans ?_
  funext y
  unfold Kernel.result
  congr 1

/-- All the claims. -/
theorem claim : Cert.Claim := ⟨Cert.Kernel.Gen.facts, Cert.KernelIdeal.Gen.facts, Cert.ReferenceIdeal.Gen.facts, Cert.WholeIdeal.Gen.facts, Cert.ForwardIdeal.Gen.facts,
  Cert.SearchA.Gen.facts, Cert.SearchAIdeal.Gen.facts, Cert.NearestAIdeal.Gen.facts, Cert.SearchB.Gen.facts, Cert.SearchBIdeal.Gen.facts,
  Cert.NearestBIdeal.Gen.facts, Cert.Pre_in_rows.Gen.facts, Cert.Pre_finite.Gen.facts, Cert.Pre_finite1.Gen.facts, Cert.Pre_finite2.Gen.facts,
  frameKernel, frameKernelIdeal, frameReferenceIdeal, frameWholeIdeal, frameWholeIdealFinite, frameForwardIdeal, frameForwardIdealFinite,
  frameSearchA, frameSearchAIdeal, frameSearchAIdealFinite, frameNearestAIdeal, frameNearestAIdealFinite,
  frameSearchB, frameSearchBIdeal, frameSearchBIdealFinite, frameNearestBIdeal, frameNearestBIdealFinite,
  trivial, algebraic, algebraicWhole, trivial, algebraicSearchA, trivial, algebraicSearchB⟩

end Cert.Proof

end
